-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_DxCIn (m : (ℓ : Loc Cert.DxCIn.nD Cert.DxCIn.τ Cert.DxCIn.sig) → Buf (Elt Bits) ℓ) : Prop :=
  True

def Pre_DxCInIdeal (m : (ℓ : Loc Cert.DxCInIdeal.nD Cert.DxCInIdeal.τ Cert.DxCInIdeal.sig) → Buf (Elt Ideal) ℓ) : Prop :=
  True

def Pre_DxCInRefIdeal (m : (ℓ : Loc Cert.DxCInRefIdeal.nD Cert.DxCInRefIdeal.τ Cert.DxCInRefIdeal.sig) → Buf (Elt Ideal) ℓ) : Prop :=
  True

def Pre_DCIn (m : (ℓ : Loc Cert.DCIn.nD Cert.DCIn.τ Cert.DCIn.sig) → Buf (Elt Bits) ℓ) : Prop :=
  True

def Pre_DCInIdeal (m : (ℓ : Loc Cert.DCInIdeal.nD Cert.DCInIdeal.τ Cert.DCInIdeal.sig) → Buf (Elt Ideal) ℓ) : Prop :=
  True

def Pre_DCInRefIdeal (m : (ℓ : Loc Cert.DCInRefIdeal.nD Cert.DCInRefIdeal.τ Cert.DCInRefIdeal.sig) → Buf (Elt Ideal) ℓ) : Prop :=
  True

def Pre_DCOut (m : (ℓ : Loc Cert.DCOut.nD Cert.DCOut.τ Cert.DCOut.sig) → Buf (Elt Bits) ℓ) : Prop :=
  True

def Pre_DCOutIdeal (m : (ℓ : Loc Cert.DCOutIdeal.nD Cert.DCOutIdeal.τ Cert.DCOutIdeal.sig) → Buf (Elt Ideal) ℓ) : Prop :=
  True

def Pre_DCOutRefIdeal (m : (ℓ : Loc Cert.DCOutRefIdeal.nD Cert.DCOutRefIdeal.τ Cert.DCOutRefIdeal.sig) → Buf (Elt Ideal) ℓ) : Prop :=
  True

def Pre_DxCOut (m : (ℓ : Loc Cert.DxCOut.nD Cert.DxCOut.τ Cert.DxCOut.sig) → Buf (Elt Bits) ℓ) : Prop :=
  True

def Pre_DxCOutIdeal (m : (ℓ : Loc Cert.DxCOutIdeal.nD Cert.DxCOutIdeal.τ Cert.DxCOutIdeal.sig) → Buf (Elt Ideal) ℓ) : Prop :=
  True

def Pre_DxCOutRefIdeal (m : (ℓ : Loc Cert.DxCOutRefIdeal.nD Cert.DxCOutRefIdeal.τ Cert.DxCOutRefIdeal.sig) → Buf (Elt Ideal) ℓ) : Prop :=
  True

def Pre_DxPleGate (m : (ℓ : Loc Cert.DxPleGate.nD Cert.DxPleGate.τ Cert.DxPleGate.sig) → Buf (Elt Bits) ℓ) : Prop :=
  True

def Pre_DxPleGateIdeal (m : (ℓ : Loc Cert.DxPleGateIdeal.nD Cert.DxPleGateIdeal.τ Cert.DxPleGateIdeal.sig) → Buf (Elt Ideal) ℓ) : Prop :=
  True

def Pre_DxPleGateRefIdeal (m : (ℓ : Loc Cert.DxPleGateRefIdeal.nD Cert.DxPleGateRefIdeal.τ Cert.DxPleGateRefIdeal.sig) → Buf (Elt Ideal) ℓ) : Prop :=
  True

def Pre_DAbIn (m : (ℓ : Loc Cert.DAbIn.nD Cert.DAbIn.τ Cert.DAbIn.sig) → Buf (Elt Bits) ℓ) : Prop :=
  True

def Pre_DAbInIdeal (m : (ℓ : Loc Cert.DAbInIdeal.nD Cert.DAbInIdeal.τ Cert.DAbInIdeal.sig) → Buf (Elt Ideal) ℓ) : Prop :=
  True

def Pre_DAbInRefIdeal (m : (ℓ : Loc Cert.DAbInRefIdeal.nD Cert.DAbInRefIdeal.τ Cert.DAbInRefIdeal.sig) → Buf (Elt Ideal) ℓ) : Prop :=
  True

def Pre_DPleProj (m : (ℓ : Loc Cert.DPleProj.nD Cert.DPleProj.τ Cert.DPleProj.sig) → Buf (Elt Bits) ℓ) : Prop :=
  True

def Pre_DPleProjIdeal (m : (ℓ : Loc Cert.DPleProjIdeal.nD Cert.DPleProjIdeal.τ Cert.DPleProjIdeal.sig) → Buf (Elt Ideal) ℓ) : Prop :=
  True

def Pre_DPleProjRefIdeal (m : (ℓ : Loc Cert.DPleProjRefIdeal.nD Cert.DPleProjRefIdeal.τ Cert.DPleProjRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_CIn (m : (ℓ : Loc Cert.CIn.nD Cert.CIn.τ Cert.CIn.sig) → Buf (Elt Bits) ℓ) : Prop :=
  True

def Pre_CInIdeal (m : (ℓ : Loc Cert.CInIdeal.nD Cert.CInIdeal.τ Cert.CInIdeal.sig) → Buf (Elt Ideal) ℓ) : Prop :=
  True

def Pre_CInRefIdeal (m : (ℓ : Loc Cert.CInRefIdeal.nD Cert.CInRefIdeal.τ Cert.CInRefIdeal.sig) → Buf (Elt Ideal) ℓ) : Prop :=
  True

def Pre_COut (m : (ℓ : Loc Cert.COut.nD Cert.COut.τ Cert.COut.sig) → Buf (Elt Bits) ℓ) : Prop :=
  True

def Pre_COutIdeal (m : (ℓ : Loc Cert.COutIdeal.nD Cert.COutIdeal.τ Cert.COutIdeal.sig) → Buf (Elt Ideal) ℓ) : Prop :=
  True

def Pre_COutRefIdeal (m : (ℓ : Loc Cert.COutRefIdeal.nD Cert.COutRefIdeal.τ Cert.COutRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_RmsPost (m : (ℓ : Loc Cert.RmsPost.nD Cert.RmsPost.τ Cert.RmsPost.sig) → Buf (Elt Bits) ℓ) : Prop :=
  True

def Pre_RmsPostIdeal (m : (ℓ : Loc Cert.RmsPostIdeal.nD Cert.RmsPostIdeal.τ Cert.RmsPostIdeal.sig) → Buf (Elt Ideal) ℓ) : Prop :=
  True

def Pre_RmsPostRefIdeal (m : (ℓ : Loc Cert.RmsPostRefIdeal.nD Cert.RmsPostRefIdeal.τ Cert.RmsPostRefIdeal.sig) → Buf (Elt Ideal) ℓ) : Prop :=
  True

def Pre_RmsPre (m : (ℓ : Loc Cert.RmsPre.nD Cert.RmsPre.τ Cert.RmsPre.sig) → Buf (Elt Bits) ℓ) : Prop :=
  True

def Pre_RmsPreIdeal (m : (ℓ : Loc Cert.RmsPreIdeal.nD Cert.RmsPreIdeal.τ Cert.RmsPreIdeal.sig) → Buf (Elt Ideal) ℓ) : Prop :=
  True

def Pre_RmsPreRefIdeal (m : (ℓ : Loc Cert.RmsPreRefIdeal.nD Cert.RmsPreRefIdeal.τ Cert.RmsPreRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_RmsResFwd (m : (ℓ : Loc Cert.RmsResFwd.nD Cert.RmsResFwd.τ Cert.RmsResFwd.sig) → Buf (Elt Bits) ℓ) : Prop :=
  True

def Pre_RmsResFwdIdeal (m : (ℓ : Loc Cert.RmsResFwdIdeal.nD Cert.RmsResFwdIdeal.τ Cert.RmsResFwdIdeal.sig) → Buf (Elt Ideal) ℓ) : Prop :=
  True

def Pre_RmsResFwdRefIdeal (m : (ℓ : Loc Cert.RmsResFwdRefIdeal.nD Cert.RmsResFwdRefIdeal.τ Cert.RmsResFwdRefIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdRefIdeal (m : (ℓ : Loc Cert.PleFwdRefIdeal.nD Cert.PleFwdRefIdeal.τ Cert.PleFwdRefIdeal.sig) → Buf (Elt Ideal) ℓ) : Prop :=
  True

def Pre_RwkvPost (m : (ℓ : Loc Cert.RwkvPost.nD Cert.RwkvPost.τ Cert.RwkvPost.sig) → Buf (Elt Bits) ℓ) : Prop :=
  True

def Pre_RwkvPostIdeal (m : (ℓ : Loc Cert.RwkvPostIdeal.nD Cert.RwkvPostIdeal.τ Cert.RwkvPostIdeal.sig) → Buf (Elt Ideal) ℓ) : Prop :=
  True

def Pre_RwkvPostIdeal_finite_mix [hPre_finite_mix : Cert.Pre_finite_mix.Facts] (m : (ℓ : Loc Cert.RwkvPostIdeal.nD Cert.RwkvPostIdeal.τ Cert.RwkvPostIdeal.sig) → Buf (Elt Ideal) ℓ) : Prop :=
  ∀ c : Dev Cert.RwkvPostIdeal.nD,
    (Cert.Pre_finite_mix.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5)) (m ((c.tc : Thread Cert.RwkvPostIdeal.nD Cert.RwkvPostIdeal.τ).loc Cert.RwkvPostIdeal.main_arg6)) (m ((c.tc : Thread Cert.RwkvPostIdeal.nD Cert.RwkvPostIdeal.τ).loc Cert.RwkvPostIdeal.main_arg7)) (m ((c.tc : Thread Cert.RwkvPostIdeal.nD Cert.RwkvPostIdeal.τ).loc Cert.RwkvPostIdeal.main_arg8))).1 = (fun _ => 1#1)
    ∧ (Cert.Pre_finite_mix.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5)) (m ((c.tc : Thread Cert.RwkvPostIdeal.nD Cert.RwkvPostIdeal.τ).loc Cert.RwkvPostIdeal.main_arg6)) (m ((c.tc : Thread Cert.RwkvPostIdeal.nD Cert.RwkvPostIdeal.τ).loc Cert.RwkvPostIdeal.main_arg7)) (m ((c.tc : Thread Cert.RwkvPostIdeal.nD Cert.RwkvPostIdeal.τ).loc Cert.RwkvPostIdeal.main_arg8))).2.1 = (fun _ => 1#1)
    ∧ (Cert.Pre_finite_mix.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5)) (m ((c.tc : Thread Cert.RwkvPostIdeal.nD Cert.RwkvPostIdeal.τ).loc Cert.RwkvPostIdeal.main_arg6)) (m ((c.tc : Thread Cert.RwkvPostIdeal.nD Cert.RwkvPostIdeal.τ).loc Cert.RwkvPostIdeal.main_arg7)) (m ((c.tc : Thread Cert.RwkvPostIdeal.nD Cert.RwkvPostIdeal.τ).loc Cert.RwkvPostIdeal.main_arg8))).2.2.1 = (fun _ => 1#1)
    ∧ (Cert.Pre_finite_mix.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5)) (m ((c.tc : Thread Cert.RwkvPostIdeal.nD Cert.RwkvPostIdeal.τ).loc Cert.RwkvPostIdeal.main_arg6)) (m ((c.tc : Thread Cert.RwkvPostIdeal.nD Cert.RwkvPostIdeal.τ).loc Cert.RwkvPostIdeal.main_arg7)) (m ((c.tc : Thread Cert.RwkvPostIdeal.nD Cert.RwkvPostIdeal.τ).loc Cert.RwkvPostIdeal.main_arg8))).2.2.2.1 = (fun _ => 1#1)
    ∧ (Cert.Pre_finite_mix.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5)) (m ((c.tc : Thread Cert.RwkvPostIdeal.nD Cert.RwkvPostIdeal.τ).loc Cert.RwkvPostIdeal.main_arg6)) (m ((c.tc : Thread Cert.RwkvPostIdeal.nD Cert.RwkvPostIdeal.τ).loc Cert.RwkvPostIdeal.main_arg7)) (m ((c.tc : Thread Cert.RwkvPostIdeal.nD Cert.RwkvPostIdeal.τ).loc Cert.RwkvPostIdeal.main_arg8))).2.2.2.2.1 = (fun _ => 1#1)
    ∧ (Cert.Pre_finite_mix.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5)) (m ((c.tc : Thread Cert.RwkvPostIdeal.nD Cert.RwkvPostIdeal.τ).loc Cert.RwkvPostIdeal.main_arg6)) (m ((c.tc : Thread Cert.RwkvPostIdeal.nD Cert.RwkvPostIdeal.τ).loc Cert.RwkvPostIdeal.main_arg7)) (m ((c.tc : Thread Cert.RwkvPostIdeal.nD Cert.RwkvPostIdeal.τ).loc Cert.RwkvPostIdeal.main_arg8))).2.2.2.2.2.1 = (fun _ => 1#1)
    ∧ (Cert.Pre_finite_mix.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5)) (m ((c.tc : Thread Cert.RwkvPostIdeal.nD Cert.RwkvPostIdeal.τ).loc Cert.RwkvPostIdeal.main_arg6)) (m ((c.tc : Thread Cert.RwkvPostIdeal.nD Cert.RwkvPostIdeal.τ).loc Cert.RwkvPostIdeal.main_arg7)) (m ((c.tc : Thread Cert.RwkvPostIdeal.nD Cert.RwkvPostIdeal.τ).loc Cert.RwkvPostIdeal.main_arg8))).2.2.2.2.2.2.1 = (fun _ => 1#1)
    ∧ (Cert.Pre_finite_mix.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5)) (m ((c.tc : Thread Cert.RwkvPostIdeal.nD Cert.RwkvPostIdeal.τ).loc Cert.RwkvPostIdeal.main_arg6)) (m ((c.tc : Thread Cert.RwkvPostIdeal.nD Cert.RwkvPostIdeal.τ).loc Cert.RwkvPostIdeal.main_arg7)) (m ((c.tc : Thread Cert.RwkvPostIdeal.nD Cert.RwkvPostIdeal.τ).loc Cert.RwkvPostIdeal.main_arg8))).2.2.2.2.2.2.2.1 = (fun _ => 1#1)
    ∧ (Cert.Pre_finite_mix.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5)) (m ((c.tc : Thread Cert.RwkvPostIdeal.nD Cert.RwkvPostIdeal.τ).loc Cert.RwkvPostIdeal.main_arg6)) (m ((c.tc : Thread Cert.RwkvPostIdeal.nD Cert.RwkvPostIdeal.τ).loc Cert.RwkvPostIdeal.main_arg7)) (m ((c.tc : Thread Cert.RwkvPostIdeal.nD Cert.RwkvPostIdeal.τ).loc Cert.RwkvPostIdeal.main_arg8))).2.2.2.2.2.2.2.2 = (fun _ => 1#1)

def Pre_RwkvPostRefIdeal (m : (ℓ : Loc Cert.RwkvPostRefIdeal.nD Cert.RwkvPostRefIdeal.τ Cert.RwkvPostRefIdeal.sig) → Buf (Elt Ideal) ℓ) : Prop :=
  True

def Pre_RwkvPostRefIdeal_finite_mix [hPre_finite_mix : Cert.Pre_finite_mix.Facts] (m : (ℓ : Loc Cert.RwkvPostRefIdeal.nD Cert.RwkvPostRefIdeal.τ Cert.RwkvPostRefIdeal.sig) → Buf (Elt Ideal) ℓ) : Prop :=
  ∀ c : Dev Cert.RwkvPostRefIdeal.nD,
    (Cert.Pre_finite_mix.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4)) (m ((c.tc : Thread Cert.RwkvPostRefIdeal.nD Cert.RwkvPostRefIdeal.τ).loc Cert.RwkvPostRefIdeal.main_arg5)) (m ((c.tc : Thread Cert.RwkvPostRefIdeal.nD Cert.RwkvPostRefIdeal.τ).loc Cert.RwkvPostRefIdeal.main_arg6)) (m ((c.tc : Thread Cert.RwkvPostRefIdeal.nD Cert.RwkvPostRefIdeal.τ).loc Cert.RwkvPostRefIdeal.main_arg7)) (m ((c.tc : Thread Cert.RwkvPostRefIdeal.nD Cert.RwkvPostRefIdeal.τ).loc Cert.RwkvPostRefIdeal.main_arg8))).1 = (fun _ => 1#1)
    ∧ (Cert.Pre_finite_mix.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4)) (m ((c.tc : Thread Cert.RwkvPostRefIdeal.nD Cert.RwkvPostRefIdeal.τ).loc Cert.RwkvPostRefIdeal.main_arg5)) (m ((c.tc : Thread Cert.RwkvPostRefIdeal.nD Cert.RwkvPostRefIdeal.τ).loc Cert.RwkvPostRefIdeal.main_arg6)) (m ((c.tc : Thread Cert.RwkvPostRefIdeal.nD Cert.RwkvPostRefIdeal.τ).loc Cert.RwkvPostRefIdeal.main_arg7)) (m ((c.tc : Thread Cert.RwkvPostRefIdeal.nD Cert.RwkvPostRefIdeal.τ).loc Cert.RwkvPostRefIdeal.main_arg8))).2.1 = (fun _ => 1#1)
    ∧ (Cert.Pre_finite_mix.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4)) (m ((c.tc : Thread Cert.RwkvPostRefIdeal.nD Cert.RwkvPostRefIdeal.τ).loc Cert.RwkvPostRefIdeal.main_arg5)) (m ((c.tc : Thread Cert.RwkvPostRefIdeal.nD Cert.RwkvPostRefIdeal.τ).loc Cert.RwkvPostRefIdeal.main_arg6)) (m ((c.tc : Thread Cert.RwkvPostRefIdeal.nD Cert.RwkvPostRefIdeal.τ).loc Cert.RwkvPostRefIdeal.main_arg7)) (m ((c.tc : Thread Cert.RwkvPostRefIdeal.nD Cert.RwkvPostRefIdeal.τ).loc Cert.RwkvPostRefIdeal.main_arg8))).2.2.1 = (fun _ => 1#1)
    ∧ (Cert.Pre_finite_mix.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4)) (m ((c.tc : Thread Cert.RwkvPostRefIdeal.nD Cert.RwkvPostRefIdeal.τ).loc Cert.RwkvPostRefIdeal.main_arg5)) (m ((c.tc : Thread Cert.RwkvPostRefIdeal.nD Cert.RwkvPostRefIdeal.τ).loc Cert.RwkvPostRefIdeal.main_arg6)) (m ((c.tc : Thread Cert.RwkvPostRefIdeal.nD Cert.RwkvPostRefIdeal.τ).loc Cert.RwkvPostRefIdeal.main_arg7)) (m ((c.tc : Thread Cert.RwkvPostRefIdeal.nD Cert.RwkvPostRefIdeal.τ).loc Cert.RwkvPostRefIdeal.main_arg8))).2.2.2.1 = (fun _ => 1#1)
    ∧ (Cert.Pre_finite_mix.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4)) (m ((c.tc : Thread Cert.RwkvPostRefIdeal.nD Cert.RwkvPostRefIdeal.τ).loc Cert.RwkvPostRefIdeal.main_arg5)) (m ((c.tc : Thread Cert.RwkvPostRefIdeal.nD Cert.RwkvPostRefIdeal.τ).loc Cert.RwkvPostRefIdeal.main_arg6)) (m ((c.tc : Thread Cert.RwkvPostRefIdeal.nD Cert.RwkvPostRefIdeal.τ).loc Cert.RwkvPostRefIdeal.main_arg7)) (m ((c.tc : Thread Cert.RwkvPostRefIdeal.nD Cert.RwkvPostRefIdeal.τ).loc Cert.RwkvPostRefIdeal.main_arg8))).2.2.2.2.1 = (fun _ => 1#1)
    ∧ (Cert.Pre_finite_mix.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4)) (m ((c.tc : Thread Cert.RwkvPostRefIdeal.nD Cert.RwkvPostRefIdeal.τ).loc Cert.RwkvPostRefIdeal.main_arg5)) (m ((c.tc : Thread Cert.RwkvPostRefIdeal.nD Cert.RwkvPostRefIdeal.τ).loc Cert.RwkvPostRefIdeal.main_arg6)) (m ((c.tc : Thread Cert.RwkvPostRefIdeal.nD Cert.RwkvPostRefIdeal.τ).loc Cert.RwkvPostRefIdeal.main_arg7)) (m ((c.tc : Thread Cert.RwkvPostRefIdeal.nD Cert.RwkvPostRefIdeal.τ).loc Cert.RwkvPostRefIdeal.main_arg8))).2.2.2.2.2.1 = (fun _ => 1#1)
    ∧ (Cert.Pre_finite_mix.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4)) (m ((c.tc : Thread Cert.RwkvPostRefIdeal.nD Cert.RwkvPostRefIdeal.τ).loc Cert.RwkvPostRefIdeal.main_arg5)) (m ((c.tc : Thread Cert.RwkvPostRefIdeal.nD Cert.RwkvPostRefIdeal.τ).loc Cert.RwkvPostRefIdeal.main_arg6)) (m ((c.tc : Thread Cert.RwkvPostRefIdeal.nD Cert.RwkvPostRefIdeal.τ).loc Cert.RwkvPostRefIdeal.main_arg7)) (m ((c.tc : Thread Cert.RwkvPostRefIdeal.nD Cert.RwkvPostRefIdeal.τ).loc Cert.RwkvPostRefIdeal.main_arg8))).2.2.2.2.2.2.1 = (fun _ => 1#1)
    ∧ (Cert.Pre_finite_mix.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4)) (m ((c.tc : Thread Cert.RwkvPostRefIdeal.nD Cert.RwkvPostRefIdeal.τ).loc Cert.RwkvPostRefIdeal.main_arg5)) (m ((c.tc : Thread Cert.RwkvPostRefIdeal.nD Cert.RwkvPostRefIdeal.τ).loc Cert.RwkvPostRefIdeal.main_arg6)) (m ((c.tc : Thread Cert.RwkvPostRefIdeal.nD Cert.RwkvPostRefIdeal.τ).loc Cert.RwkvPostRefIdeal.main_arg7)) (m ((c.tc : Thread Cert.RwkvPostRefIdeal.nD Cert.RwkvPostRefIdeal.τ).loc Cert.RwkvPostRefIdeal.main_arg8))).2.2.2.2.2.2.2.1 = (fun _ => 1#1)
    ∧ (Cert.Pre_finite_mix.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4)) (m ((c.tc : Thread Cert.RwkvPostRefIdeal.nD Cert.RwkvPostRefIdeal.τ).loc Cert.RwkvPostRefIdeal.main_arg5)) (m ((c.tc : Thread Cert.RwkvPostRefIdeal.nD Cert.RwkvPostRefIdeal.τ).loc Cert.RwkvPostRefIdeal.main_arg6)) (m ((c.tc : Thread Cert.RwkvPostRefIdeal.nD Cert.RwkvPostRefIdeal.τ).loc Cert.RwkvPostRefIdeal.main_arg7)) (m ((c.tc : Thread Cert.RwkvPostRefIdeal.nD Cert.RwkvPostRefIdeal.τ).loc Cert.RwkvPostRefIdeal.main_arg8))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DxCIn [hDxCIn : Cert.DxCIn.Facts] : Prop :=
  ∀ (m : (ℓ : Loc Cert.DxCIn.nD Cert.DxCIn.τ Cert.DxCIn.sig) → Buf (Elt Bits) ℓ) (g : Dev Cert.DxCIn.nD → PrngReg), Pre_DxCIn m →
    θ_run (Cert.DxCIn.defs (F := Bits)) (onTc (τ := Cert.DxCIn.τ) (Cert.DxCIn.main (F := Bits))) ⟨m, fun _ => 0, g⟩ (fun r => (∀ c : Dev Cert.DxCIn.nD,
      r.2.mem ((c.tc : Thread Cert.DxCIn.nD Cert.DxCIn.τ).loc Cert.DxCIn.main_arg0) = m ((c.tc : Thread Cert.DxCIn.nD Cert.DxCIn.τ).loc Cert.DxCIn.main_arg0)
      ∧ r.2.mem ((c.tc : Thread Cert.DxCIn.nD Cert.DxCIn.τ).loc Cert.DxCIn.main_arg1) = m ((c.tc : Thread Cert.DxCIn.nD Cert.DxCIn.τ).loc Cert.DxCIn.main_arg1))
      ∧ r.2.sem = fun _ => 0)

def quiescent_DxCInIdeal [hDxCInIdeal : Cert.DxCInIdeal.Facts] : Prop :=
  ∀ (m : (ℓ : Loc Cert.DxCInIdeal.nD Cert.DxCInIdeal.τ Cert.DxCInIdeal.sig) → Buf (Elt Ideal) ℓ) (g : Dev Cert.DxCInIdeal.nD → PrngReg), Pre_DxCInIdeal m →
    θ_run (Cert.DxCInIdeal.defs (F := Ideal)) (onTc (τ := Cert.DxCInIdeal.τ) (Cert.DxCInIdeal.main (F := Ideal))) ⟨m, fun _ => 0, g⟩ (fun r => (∀ c : Dev Cert.DxCInIdeal.nD,
      r.2.mem ((c.tc : Thread Cert.DxCInIdeal.nD Cert.DxCInIdeal.τ).loc Cert.DxCInIdeal.main_arg0) = m ((c.tc : Thread Cert.DxCInIdeal.nD Cert.DxCInIdeal.τ).loc Cert.DxCInIdeal.main_arg0)
      ∧ r.2.mem ((c.tc : Thread Cert.DxCInIdeal.nD Cert.DxCInIdeal.τ).loc Cert.DxCInIdeal.main_arg1) = m ((c.tc : Thread Cert.DxCInIdeal.nD Cert.DxCInIdeal.τ).loc Cert.DxCInIdeal.main_arg1))
      ∧ r.2.sem = fun _ => 0)

def quiescent_DxCInRefIdeal [hDxCInRefIdeal : Cert.DxCInRefIdeal.Facts] : Prop :=
  ∀ (m : (ℓ : Loc Cert.DxCInRefIdeal.nD Cert.DxCInRefIdeal.τ Cert.DxCInRefIdeal.sig) → Buf (Elt Ideal) ℓ) (g : Dev Cert.DxCInRefIdeal.nD → PrngReg), Pre_DxCInRefIdeal m →
    θ_run (Cert.DxCInRefIdeal.defs (F := Ideal)) (onTc (τ := Cert.DxCInRefIdeal.τ) (Cert.DxCInRefIdeal.main (F := Ideal))) ⟨m, fun _ => 0, g⟩ (fun r => (∀ c : Dev Cert.DxCInRefIdeal.nD,
      r.2.mem ((c.tc : Thread Cert.DxCInRefIdeal.nD Cert.DxCInRefIdeal.τ).loc Cert.DxCInRefIdeal.main_arg0) = m ((c.tc : Thread Cert.DxCInRefIdeal.nD Cert.DxCInRefIdeal.τ).loc Cert.DxCInRefIdeal.main_arg0)
      ∧ r.2.mem ((c.tc : Thread Cert.DxCInRefIdeal.nD Cert.DxCInRefIdeal.τ).loc Cert.DxCInRefIdeal.main_arg1) = m ((c.tc : Thread Cert.DxCInRefIdeal.nD Cert.DxCInRefIdeal.τ).loc Cert.DxCInRefIdeal.main_arg1))
      ∧ r.2.sem = fun _ => 0)

def quiescent_DCIn [hDCIn : Cert.DCIn.Facts] : Prop :=
  ∀ (m : (ℓ : Loc Cert.DCIn.nD Cert.DCIn.τ Cert.DCIn.sig) → Buf (Elt Bits) ℓ) (g : Dev Cert.DCIn.nD → PrngReg), Pre_DCIn m →
    θ_run (Cert.DCIn.defs (F := Bits)) (onTc (τ := Cert.DCIn.τ) (Cert.DCIn.main (F := Bits))) ⟨m, fun _ => 0, g⟩ (fun r => (∀ c : Dev Cert.DCIn.nD,
      r.2.mem ((c.tc : Thread Cert.DCIn.nD Cert.DCIn.τ).loc Cert.DCIn.main_arg0) = m ((c.tc : Thread Cert.DCIn.nD Cert.DCIn.τ).loc Cert.DCIn.main_arg0)
      ∧ r.2.mem ((c.tc : Thread Cert.DCIn.nD Cert.DCIn.τ).loc Cert.DCIn.main_arg1) = m ((c.tc : Thread Cert.DCIn.nD Cert.DCIn.τ).loc Cert.DCIn.main_arg1))
      ∧ r.2.sem = fun _ => 0)

def quiescent_DCInIdeal [hDCInIdeal : Cert.DCInIdeal.Facts] : Prop :=
  ∀ (m : (ℓ : Loc Cert.DCInIdeal.nD Cert.DCInIdeal.τ Cert.DCInIdeal.sig) → Buf (Elt Ideal) ℓ) (g : Dev Cert.DCInIdeal.nD → PrngReg), Pre_DCInIdeal m →
    θ_run (Cert.DCInIdeal.defs (F := Ideal)) (onTc (τ := Cert.DCInIdeal.τ) (Cert.DCInIdeal.main (F := Ideal))) ⟨m, fun _ => 0, g⟩ (fun r => (∀ c : Dev Cert.DCInIdeal.nD,
      r.2.mem ((c.tc : Thread Cert.DCInIdeal.nD Cert.DCInIdeal.τ).loc Cert.DCInIdeal.main_arg0) = m ((c.tc : Thread Cert.DCInIdeal.nD Cert.DCInIdeal.τ).loc Cert.DCInIdeal.main_arg0)
      ∧ r.2.mem ((c.tc : Thread Cert.DCInIdeal.nD Cert.DCInIdeal.τ).loc Cert.DCInIdeal.main_arg1) = m ((c.tc : Thread Cert.DCInIdeal.nD Cert.DCInIdeal.τ).loc Cert.DCInIdeal.main_arg1))
      ∧ r.2.sem = fun _ => 0)

def quiescent_DCInRefIdeal [hDCInRefIdeal : Cert.DCInRefIdeal.Facts] : Prop :=
  ∀ (m : (ℓ : Loc Cert.DCInRefIdeal.nD Cert.DCInRefIdeal.τ Cert.DCInRefIdeal.sig) → Buf (Elt Ideal) ℓ) (g : Dev Cert.DCInRefIdeal.nD → PrngReg), Pre_DCInRefIdeal m →
    θ_run (Cert.DCInRefIdeal.defs (F := Ideal)) (onTc (τ := Cert.DCInRefIdeal.τ) (Cert.DCInRefIdeal.main (F := Ideal))) ⟨m, fun _ => 0, g⟩ (fun r => (∀ c : Dev Cert.DCInRefIdeal.nD,
      r.2.mem ((c.tc : Thread Cert.DCInRefIdeal.nD Cert.DCInRefIdeal.τ).loc Cert.DCInRefIdeal.main_arg0) = m ((c.tc : Thread Cert.DCInRefIdeal.nD Cert.DCInRefIdeal.τ).loc Cert.DCInRefIdeal.main_arg0)
      ∧ r.2.mem ((c.tc : Thread Cert.DCInRefIdeal.nD Cert.DCInRefIdeal.τ).loc Cert.DCInRefIdeal.main_arg1) = m ((c.tc : Thread Cert.DCInRefIdeal.nD Cert.DCInRefIdeal.τ).loc Cert.DCInRefIdeal.main_arg1))
      ∧ r.2.sem = fun _ => 0)

def quiescent_DCOut [hDCOut : Cert.DCOut.Facts] : Prop :=
  ∀ (m : (ℓ : Loc Cert.DCOut.nD Cert.DCOut.τ Cert.DCOut.sig) → Buf (Elt Bits) ℓ) (g : Dev Cert.DCOut.nD → PrngReg), Pre_DCOut m →
    θ_run (Cert.DCOut.defs (F := Bits)) (onTc (τ := Cert.DCOut.τ) (Cert.DCOut.main (F := Bits))) ⟨m, fun _ => 0, g⟩ (fun r => (∀ c : Dev Cert.DCOut.nD,
      r.2.mem ((c.tc : Thread Cert.DCOut.nD Cert.DCOut.τ).loc Cert.DCOut.main_arg0) = m ((c.tc : Thread Cert.DCOut.nD Cert.DCOut.τ).loc Cert.DCOut.main_arg0)
      ∧ r.2.mem ((c.tc : Thread Cert.DCOut.nD Cert.DCOut.τ).loc Cert.DCOut.main_arg1) = m ((c.tc : Thread Cert.DCOut.nD Cert.DCOut.τ).loc Cert.DCOut.main_arg1))
      ∧ r.2.sem = fun _ => 0)

def quiescent_DCOutIdeal [hDCOutIdeal : Cert.DCOutIdeal.Facts] : Prop :=
  ∀ (m : (ℓ : Loc Cert.DCOutIdeal.nD Cert.DCOutIdeal.τ Cert.DCOutIdeal.sig) → Buf (Elt Ideal) ℓ) (g : Dev Cert.DCOutIdeal.nD → PrngReg), Pre_DCOutIdeal m →
    θ_run (Cert.DCOutIdeal.defs (F := Ideal)) (onTc (τ := Cert.DCOutIdeal.τ) (Cert.DCOutIdeal.main (F := Ideal))) ⟨m, fun _ => 0, g⟩ (fun r => (∀ c : Dev Cert.DCOutIdeal.nD,
      r.2.mem ((c.tc : Thread Cert.DCOutIdeal.nD Cert.DCOutIdeal.τ).loc Cert.DCOutIdeal.main_arg0) = m ((c.tc : Thread Cert.DCOutIdeal.nD Cert.DCOutIdeal.τ).loc Cert.DCOutIdeal.main_arg0)
      ∧ r.2.mem ((c.tc : Thread Cert.DCOutIdeal.nD Cert.DCOutIdeal.τ).loc Cert.DCOutIdeal.main_arg1) = m ((c.tc : Thread Cert.DCOutIdeal.nD Cert.DCOutIdeal.τ).loc Cert.DCOutIdeal.main_arg1))
      ∧ r.2.sem = fun _ => 0)

def quiescent_DCOutRefIdeal [hDCOutRefIdeal : Cert.DCOutRefIdeal.Facts] : Prop :=
  ∀ (m : (ℓ : Loc Cert.DCOutRefIdeal.nD Cert.DCOutRefIdeal.τ Cert.DCOutRefIdeal.sig) → Buf (Elt Ideal) ℓ) (g : Dev Cert.DCOutRefIdeal.nD → PrngReg), Pre_DCOutRefIdeal m →
    θ_run (Cert.DCOutRefIdeal.defs (F := Ideal)) (onTc (τ := Cert.DCOutRefIdeal.τ) (Cert.DCOutRefIdeal.main (F := Ideal))) ⟨m, fun _ => 0, g⟩ (fun r => (∀ c : Dev Cert.DCOutRefIdeal.nD,
      r.2.mem ((c.tc : Thread Cert.DCOutRefIdeal.nD Cert.DCOutRefIdeal.τ).loc Cert.DCOutRefIdeal.main_arg0) = m ((c.tc : Thread Cert.DCOutRefIdeal.nD Cert.DCOutRefIdeal.τ).loc Cert.DCOutRefIdeal.main_arg0)
      ∧ r.2.mem ((c.tc : Thread Cert.DCOutRefIdeal.nD Cert.DCOutRefIdeal.τ).loc Cert.DCOutRefIdeal.main_arg1) = m ((c.tc : Thread Cert.DCOutRefIdeal.nD Cert.DCOutRefIdeal.τ).loc Cert.DCOutRefIdeal.main_arg1))
      ∧ r.2.sem = fun _ => 0)

def quiescent_DxCOut [hDxCOut : Cert.DxCOut.Facts] : Prop :=
  ∀ (m : (ℓ : Loc Cert.DxCOut.nD Cert.DxCOut.τ Cert.DxCOut.sig) → Buf (Elt Bits) ℓ) (g : Dev Cert.DxCOut.nD → PrngReg), Pre_DxCOut m →
    θ_run (Cert.DxCOut.defs (F := Bits)) (onTc (τ := Cert.DxCOut.τ) (Cert.DxCOut.main (F := Bits))) ⟨m, fun _ => 0, g⟩ (fun r => (∀ c : Dev Cert.DxCOut.nD,
      r.2.mem ((c.tc : Thread Cert.DxCOut.nD Cert.DxCOut.τ).loc Cert.DxCOut.main_arg0) = m ((c.tc : Thread Cert.DxCOut.nD Cert.DxCOut.τ).loc Cert.DxCOut.main_arg0)
      ∧ r.2.mem ((c.tc : Thread Cert.DxCOut.nD Cert.DxCOut.τ).loc Cert.DxCOut.main_arg1) = m ((c.tc : Thread Cert.DxCOut.nD Cert.DxCOut.τ).loc Cert.DxCOut.main_arg1))
      ∧ r.2.sem = fun _ => 0)

def quiescent_DxCOutIdeal [hDxCOutIdeal : Cert.DxCOutIdeal.Facts] : Prop :=
  ∀ (m : (ℓ : Loc Cert.DxCOutIdeal.nD Cert.DxCOutIdeal.τ Cert.DxCOutIdeal.sig) → Buf (Elt Ideal) ℓ) (g : Dev Cert.DxCOutIdeal.nD → PrngReg), Pre_DxCOutIdeal m →
    θ_run (Cert.DxCOutIdeal.defs (F := Ideal)) (onTc (τ := Cert.DxCOutIdeal.τ) (Cert.DxCOutIdeal.main (F := Ideal))) ⟨m, fun _ => 0, g⟩ (fun r => (∀ c : Dev Cert.DxCOutIdeal.nD,
      r.2.mem ((c.tc : Thread Cert.DxCOutIdeal.nD Cert.DxCOutIdeal.τ).loc Cert.DxCOutIdeal.main_arg0) = m ((c.tc : Thread Cert.DxCOutIdeal.nD Cert.DxCOutIdeal.τ).loc Cert.DxCOutIdeal.main_arg0)
      ∧ r.2.mem ((c.tc : Thread Cert.DxCOutIdeal.nD Cert.DxCOutIdeal.τ).loc Cert.DxCOutIdeal.main_arg1) = m ((c.tc : Thread Cert.DxCOutIdeal.nD Cert.DxCOutIdeal.τ).loc Cert.DxCOutIdeal.main_arg1))
      ∧ r.2.sem = fun _ => 0)

def quiescent_DxCOutRefIdeal [hDxCOutRefIdeal : Cert.DxCOutRefIdeal.Facts] : Prop :=
  ∀ (m : (ℓ : Loc Cert.DxCOutRefIdeal.nD Cert.DxCOutRefIdeal.τ Cert.DxCOutRefIdeal.sig) → Buf (Elt Ideal) ℓ) (g : Dev Cert.DxCOutRefIdeal.nD → PrngReg), Pre_DxCOutRefIdeal m →
    θ_run (Cert.DxCOutRefIdeal.defs (F := Ideal)) (onTc (τ := Cert.DxCOutRefIdeal.τ) (Cert.DxCOutRefIdeal.main (F := Ideal))) ⟨m, fun _ => 0, g⟩ (fun r => (∀ c : Dev Cert.DxCOutRefIdeal.nD,
      r.2.mem ((c.tc : Thread Cert.DxCOutRefIdeal.nD Cert.DxCOutRefIdeal.τ).loc Cert.DxCOutRefIdeal.main_arg0) = m ((c.tc : Thread Cert.DxCOutRefIdeal.nD Cert.DxCOutRefIdeal.τ).loc Cert.DxCOutRefIdeal.main_arg0)
      ∧ r.2.mem ((c.tc : Thread Cert.DxCOutRefIdeal.nD Cert.DxCOutRefIdeal.τ).loc Cert.DxCOutRefIdeal.main_arg1) = m ((c.tc : Thread Cert.DxCOutRefIdeal.nD Cert.DxCOutRefIdeal.τ).loc Cert.DxCOutRefIdeal.main_arg1))
      ∧ r.2.sem = fun _ => 0)

def quiescent_DxPleGate [hDxPleGate : Cert.DxPleGate.Facts] : Prop :=
  ∀ (m : (ℓ : Loc Cert.DxPleGate.nD Cert.DxPleGate.τ Cert.DxPleGate.sig) → Buf (Elt Bits) ℓ) (g : Dev Cert.DxPleGate.nD → PrngReg), Pre_DxPleGate m →
    θ_run (Cert.DxPleGate.defs (F := Bits)) (onTc (τ := Cert.DxPleGate.τ) (Cert.DxPleGate.main (F := Bits))) ⟨m, fun _ => 0, g⟩ (fun r => (∀ c : Dev Cert.DxPleGate.nD,
      r.2.mem ((c.tc : Thread Cert.DxPleGate.nD Cert.DxPleGate.τ).loc Cert.DxPleGate.main_arg0) = m ((c.tc : Thread Cert.DxPleGate.nD Cert.DxPleGate.τ).loc Cert.DxPleGate.main_arg0)
      ∧ r.2.mem ((c.tc : Thread Cert.DxPleGate.nD Cert.DxPleGate.τ).loc Cert.DxPleGate.main_arg1) = m ((c.tc : Thread Cert.DxPleGate.nD Cert.DxPleGate.τ).loc Cert.DxPleGate.main_arg1)
      ∧ r.2.mem ((c.tc : Thread Cert.DxPleGate.nD Cert.DxPleGate.τ).loc Cert.DxPleGate.main_arg2) = m ((c.tc : Thread Cert.DxPleGate.nD Cert.DxPleGate.τ).loc Cert.DxPleGate.main_arg2))
      ∧ r.2.sem = fun _ => 0)

def quiescent_DxPleGateIdeal [hDxPleGateIdeal : Cert.DxPleGateIdeal.Facts] : Prop :=
  ∀ (m : (ℓ : Loc Cert.DxPleGateIdeal.nD Cert.DxPleGateIdeal.τ Cert.DxPleGateIdeal.sig) → Buf (Elt Ideal) ℓ) (g : Dev Cert.DxPleGateIdeal.nD → PrngReg), Pre_DxPleGateIdeal m →
    θ_run (Cert.DxPleGateIdeal.defs (F := Ideal)) (onTc (τ := Cert.DxPleGateIdeal.τ) (Cert.DxPleGateIdeal.main (F := Ideal))) ⟨m, fun _ => 0, g⟩ (fun r => (∀ c : Dev Cert.DxPleGateIdeal.nD,
      r.2.mem ((c.tc : Thread Cert.DxPleGateIdeal.nD Cert.DxPleGateIdeal.τ).loc Cert.DxPleGateIdeal.main_arg0) = m ((c.tc : Thread Cert.DxPleGateIdeal.nD Cert.DxPleGateIdeal.τ).loc Cert.DxPleGateIdeal.main_arg0)
      ∧ r.2.mem ((c.tc : Thread Cert.DxPleGateIdeal.nD Cert.DxPleGateIdeal.τ).loc Cert.DxPleGateIdeal.main_arg1) = m ((c.tc : Thread Cert.DxPleGateIdeal.nD Cert.DxPleGateIdeal.τ).loc Cert.DxPleGateIdeal.main_arg1)
      ∧ r.2.mem ((c.tc : Thread Cert.DxPleGateIdeal.nD Cert.DxPleGateIdeal.τ).loc Cert.DxPleGateIdeal.main_arg2) = m ((c.tc : Thread Cert.DxPleGateIdeal.nD Cert.DxPleGateIdeal.τ).loc Cert.DxPleGateIdeal.main_arg2))
      ∧ r.2.sem = fun _ => 0)

def quiescent_DxPleGateRefIdeal [hDxPleGateRefIdeal : Cert.DxPleGateRefIdeal.Facts] : Prop :=
  ∀ (m : (ℓ : Loc Cert.DxPleGateRefIdeal.nD Cert.DxPleGateRefIdeal.τ Cert.DxPleGateRefIdeal.sig) → Buf (Elt Ideal) ℓ) (g : Dev Cert.DxPleGateRefIdeal.nD → PrngReg), Pre_DxPleGateRefIdeal m →
    θ_run (Cert.DxPleGateRefIdeal.defs (F := Ideal)) (onTc (τ := Cert.DxPleGateRefIdeal.τ) (Cert.DxPleGateRefIdeal.main (F := Ideal))) ⟨m, fun _ => 0, g⟩ (fun r => (∀ c : Dev Cert.DxPleGateRefIdeal.nD,
      r.2.mem ((c.tc : Thread Cert.DxPleGateRefIdeal.nD Cert.DxPleGateRefIdeal.τ).loc Cert.DxPleGateRefIdeal.main_arg0) = m ((c.tc : Thread Cert.DxPleGateRefIdeal.nD Cert.DxPleGateRefIdeal.τ).loc Cert.DxPleGateRefIdeal.main_arg0)
      ∧ r.2.mem ((c.tc : Thread Cert.DxPleGateRefIdeal.nD Cert.DxPleGateRefIdeal.τ).loc Cert.DxPleGateRefIdeal.main_arg1) = m ((c.tc : Thread Cert.DxPleGateRefIdeal.nD Cert.DxPleGateRefIdeal.τ).loc Cert.DxPleGateRefIdeal.main_arg1)
      ∧ r.2.mem ((c.tc : Thread Cert.DxPleGateRefIdeal.nD Cert.DxPleGateRefIdeal.τ).loc Cert.DxPleGateRefIdeal.main_arg2) = m ((c.tc : Thread Cert.DxPleGateRefIdeal.nD Cert.DxPleGateRefIdeal.τ).loc Cert.DxPleGateRefIdeal.main_arg2))
      ∧ r.2.sem = fun _ => 0)

def quiescent_DAbIn [hDAbIn : Cert.DAbIn.Facts] : Prop :=
  ∀ (m : (ℓ : Loc Cert.DAbIn.nD Cert.DAbIn.τ Cert.DAbIn.sig) → Buf (Elt Bits) ℓ) (g : Dev Cert.DAbIn.nD → PrngReg), Pre_DAbIn m →
    θ_run (Cert.DAbIn.defs (F := Bits)) (onTc (τ := Cert.DAbIn.τ) (Cert.DAbIn.main (F := Bits))) ⟨m, fun _ => 0, g⟩ (fun r => (∀ c : Dev Cert.DAbIn.nD,
      r.2.mem ((c.tc : Thread Cert.DAbIn.nD Cert.DAbIn.τ).loc Cert.DAbIn.main_arg0) = m ((c.tc : Thread Cert.DAbIn.nD Cert.DAbIn.τ).loc Cert.DAbIn.main_arg0)
      ∧ r.2.mem ((c.tc : Thread Cert.DAbIn.nD Cert.DAbIn.τ).loc Cert.DAbIn.main_arg1) = m ((c.tc : Thread Cert.DAbIn.nD Cert.DAbIn.τ).loc Cert.DAbIn.main_arg1))
      ∧ r.2.sem = fun _ => 0)

def quiescent_DAbInIdeal [hDAbInIdeal : Cert.DAbInIdeal.Facts] : Prop :=
  ∀ (m : (ℓ : Loc Cert.DAbInIdeal.nD Cert.DAbInIdeal.τ Cert.DAbInIdeal.sig) → Buf (Elt Ideal) ℓ) (g : Dev Cert.DAbInIdeal.nD → PrngReg), Pre_DAbInIdeal m →
    θ_run (Cert.DAbInIdeal.defs (F := Ideal)) (onTc (τ := Cert.DAbInIdeal.τ) (Cert.DAbInIdeal.main (F := Ideal))) ⟨m, fun _ => 0, g⟩ (fun r => (∀ c : Dev Cert.DAbInIdeal.nD,
      r.2.mem ((c.tc : Thread Cert.DAbInIdeal.nD Cert.DAbInIdeal.τ).loc Cert.DAbInIdeal.main_arg0) = m ((c.tc : Thread Cert.DAbInIdeal.nD Cert.DAbInIdeal.τ).loc Cert.DAbInIdeal.main_arg0)
      ∧ r.2.mem ((c.tc : Thread Cert.DAbInIdeal.nD Cert.DAbInIdeal.τ).loc Cert.DAbInIdeal.main_arg1) = m ((c.tc : Thread Cert.DAbInIdeal.nD Cert.DAbInIdeal.τ).loc Cert.DAbInIdeal.main_arg1))
      ∧ r.2.sem = fun _ => 0)

def quiescent_DAbInRefIdeal [hDAbInRefIdeal : Cert.DAbInRefIdeal.Facts] : Prop :=
  ∀ (m : (ℓ : Loc Cert.DAbInRefIdeal.nD Cert.DAbInRefIdeal.τ Cert.DAbInRefIdeal.sig) → Buf (Elt Ideal) ℓ) (g : Dev Cert.DAbInRefIdeal.nD → PrngReg), Pre_DAbInRefIdeal m →
    θ_run (Cert.DAbInRefIdeal.defs (F := Ideal)) (onTc (τ := Cert.DAbInRefIdeal.τ) (Cert.DAbInRefIdeal.main (F := Ideal))) ⟨m, fun _ => 0, g⟩ (fun r => (∀ c : Dev Cert.DAbInRefIdeal.nD,
      r.2.mem ((c.tc : Thread Cert.DAbInRefIdeal.nD Cert.DAbInRefIdeal.τ).loc Cert.DAbInRefIdeal.main_arg0) = m ((c.tc : Thread Cert.DAbInRefIdeal.nD Cert.DAbInRefIdeal.τ).loc Cert.DAbInRefIdeal.main_arg0)
      ∧ r.2.mem ((c.tc : Thread Cert.DAbInRefIdeal.nD Cert.DAbInRefIdeal.τ).loc Cert.DAbInRefIdeal.main_arg1) = m ((c.tc : Thread Cert.DAbInRefIdeal.nD Cert.DAbInRefIdeal.τ).loc Cert.DAbInRefIdeal.main_arg1))
      ∧ r.2.sem = fun _ => 0)

def quiescent_DPleProj [hDPleProj : Cert.DPleProj.Facts] : Prop :=
  ∀ (m : (ℓ : Loc Cert.DPleProj.nD Cert.DPleProj.τ Cert.DPleProj.sig) → Buf (Elt Bits) ℓ) (g : Dev Cert.DPleProj.nD → PrngReg), Pre_DPleProj m →
    θ_run (Cert.DPleProj.defs (F := Bits)) (onTc (τ := Cert.DPleProj.τ) (Cert.DPleProj.main (F := Bits))) ⟨m, fun _ => 0, g⟩ (fun r => (∀ c : Dev Cert.DPleProj.nD,
      r.2.mem ((c.tc : Thread Cert.DPleProj.nD Cert.DPleProj.τ).loc Cert.DPleProj.main_arg0) = m ((c.tc : Thread Cert.DPleProj.nD Cert.DPleProj.τ).loc Cert.DPleProj.main_arg0)
      ∧ r.2.mem ((c.tc : Thread Cert.DPleProj.nD Cert.DPleProj.τ).loc Cert.DPleProj.main_arg1) = m ((c.tc : Thread Cert.DPleProj.nD Cert.DPleProj.τ).loc Cert.DPleProj.main_arg1))
      ∧ r.2.sem = fun _ => 0)

def quiescent_DPleProjIdeal [hDPleProjIdeal : Cert.DPleProjIdeal.Facts] : Prop :=
  ∀ (m : (ℓ : Loc Cert.DPleProjIdeal.nD Cert.DPleProjIdeal.τ Cert.DPleProjIdeal.sig) → Buf (Elt Ideal) ℓ) (g : Dev Cert.DPleProjIdeal.nD → PrngReg), Pre_DPleProjIdeal m →
    θ_run (Cert.DPleProjIdeal.defs (F := Ideal)) (onTc (τ := Cert.DPleProjIdeal.τ) (Cert.DPleProjIdeal.main (F := Ideal))) ⟨m, fun _ => 0, g⟩ (fun r => (∀ c : Dev Cert.DPleProjIdeal.nD,
      r.2.mem ((c.tc : Thread Cert.DPleProjIdeal.nD Cert.DPleProjIdeal.τ).loc Cert.DPleProjIdeal.main_arg0) = m ((c.tc : Thread Cert.DPleProjIdeal.nD Cert.DPleProjIdeal.τ).loc Cert.DPleProjIdeal.main_arg0)
      ∧ r.2.mem ((c.tc : Thread Cert.DPleProjIdeal.nD Cert.DPleProjIdeal.τ).loc Cert.DPleProjIdeal.main_arg1) = m ((c.tc : Thread Cert.DPleProjIdeal.nD Cert.DPleProjIdeal.τ).loc Cert.DPleProjIdeal.main_arg1))
      ∧ r.2.sem = fun _ => 0)

def quiescent_DPleProjRefIdeal [hDPleProjRefIdeal : Cert.DPleProjRefIdeal.Facts] : Prop :=
  ∀ (m : (ℓ : Loc Cert.DPleProjRefIdeal.nD Cert.DPleProjRefIdeal.τ Cert.DPleProjRefIdeal.sig) → Buf (Elt Ideal) ℓ) (g : Dev Cert.DPleProjRefIdeal.nD → PrngReg), Pre_DPleProjRefIdeal m →
    θ_run (Cert.DPleProjRefIdeal.defs (F := Ideal)) (onTc (τ := Cert.DPleProjRefIdeal.τ) (Cert.DPleProjRefIdeal.main (F := Ideal))) ⟨m, fun _ => 0, g⟩ (fun r => (∀ c : Dev Cert.DPleProjRefIdeal.nD,
      r.2.mem ((c.tc : Thread Cert.DPleProjRefIdeal.nD Cert.DPleProjRefIdeal.τ).loc Cert.DPleProjRefIdeal.main_arg0) = m ((c.tc : Thread Cert.DPleProjRefIdeal.nD Cert.DPleProjRefIdeal.τ).loc Cert.DPleProjRefIdeal.main_arg0)
      ∧ r.2.mem ((c.tc : Thread Cert.DPleProjRefIdeal.nD Cert.DPleProjRefIdeal.τ).loc Cert.DPleProjRefIdeal.main_arg1) = m ((c.tc : Thread Cert.DPleProjRefIdeal.nD Cert.DPleProjRefIdeal.τ).loc Cert.DPleProjRefIdeal.main_arg1))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1))
      ∧ r.2.sem = fun _ => 0)

def quiescent_CIn [hCIn : Cert.CIn.Facts] : Prop :=
  ∀ (m : (ℓ : Loc Cert.CIn.nD Cert.CIn.τ Cert.CIn.sig) → Buf (Elt Bits) ℓ) (g : Dev Cert.CIn.nD → PrngReg), Pre_CIn m →
    θ_run (Cert.CIn.defs (F := Bits)) (onTc (τ := Cert.CIn.τ) (Cert.CIn.main (F := Bits))) ⟨m, fun _ => 0, g⟩ (fun r => (∀ c : Dev Cert.CIn.nD,
      r.2.mem ((c.tc : Thread Cert.CIn.nD Cert.CIn.τ).loc Cert.CIn.main_arg0) = m ((c.tc : Thread Cert.CIn.nD Cert.CIn.τ).loc Cert.CIn.main_arg0)
      ∧ r.2.mem ((c.tc : Thread Cert.CIn.nD Cert.CIn.τ).loc Cert.CIn.main_arg1) = m ((c.tc : Thread Cert.CIn.nD Cert.CIn.τ).loc Cert.CIn.main_arg1))
      ∧ r.2.sem = fun _ => 0)

def quiescent_CInIdeal [hCInIdeal : Cert.CInIdeal.Facts] : Prop :=
  ∀ (m : (ℓ : Loc Cert.CInIdeal.nD Cert.CInIdeal.τ Cert.CInIdeal.sig) → Buf (Elt Ideal) ℓ) (g : Dev Cert.CInIdeal.nD → PrngReg), Pre_CInIdeal m →
    θ_run (Cert.CInIdeal.defs (F := Ideal)) (onTc (τ := Cert.CInIdeal.τ) (Cert.CInIdeal.main (F := Ideal))) ⟨m, fun _ => 0, g⟩ (fun r => (∀ c : Dev Cert.CInIdeal.nD,
      r.2.mem ((c.tc : Thread Cert.CInIdeal.nD Cert.CInIdeal.τ).loc Cert.CInIdeal.main_arg0) = m ((c.tc : Thread Cert.CInIdeal.nD Cert.CInIdeal.τ).loc Cert.CInIdeal.main_arg0)
      ∧ r.2.mem ((c.tc : Thread Cert.CInIdeal.nD Cert.CInIdeal.τ).loc Cert.CInIdeal.main_arg1) = m ((c.tc : Thread Cert.CInIdeal.nD Cert.CInIdeal.τ).loc Cert.CInIdeal.main_arg1))
      ∧ r.2.sem = fun _ => 0)

def quiescent_CInRefIdeal [hCInRefIdeal : Cert.CInRefIdeal.Facts] : Prop :=
  ∀ (m : (ℓ : Loc Cert.CInRefIdeal.nD Cert.CInRefIdeal.τ Cert.CInRefIdeal.sig) → Buf (Elt Ideal) ℓ) (g : Dev Cert.CInRefIdeal.nD → PrngReg), Pre_CInRefIdeal m →
    θ_run (Cert.CInRefIdeal.defs (F := Ideal)) (onTc (τ := Cert.CInRefIdeal.τ) (Cert.CInRefIdeal.main (F := Ideal))) ⟨m, fun _ => 0, g⟩ (fun r => (∀ c : Dev Cert.CInRefIdeal.nD,
      r.2.mem ((c.tc : Thread Cert.CInRefIdeal.nD Cert.CInRefIdeal.τ).loc Cert.CInRefIdeal.main_arg0) = m ((c.tc : Thread Cert.CInRefIdeal.nD Cert.CInRefIdeal.τ).loc Cert.CInRefIdeal.main_arg0)
      ∧ r.2.mem ((c.tc : Thread Cert.CInRefIdeal.nD Cert.CInRefIdeal.τ).loc Cert.CInRefIdeal.main_arg1) = m ((c.tc : Thread Cert.CInRefIdeal.nD Cert.CInRefIdeal.τ).loc Cert.CInRefIdeal.main_arg1))
      ∧ r.2.sem = fun _ => 0)

def quiescent_COut [hCOut : Cert.COut.Facts] : Prop :=
  ∀ (m : (ℓ : Loc Cert.COut.nD Cert.COut.τ Cert.COut.sig) → Buf (Elt Bits) ℓ) (g : Dev Cert.COut.nD → PrngReg), Pre_COut m →
    θ_run (Cert.COut.defs (F := Bits)) (onTc (τ := Cert.COut.τ) (Cert.COut.main (F := Bits))) ⟨m, fun _ => 0, g⟩ (fun r => (∀ c : Dev Cert.COut.nD,
      r.2.mem ((c.tc : Thread Cert.COut.nD Cert.COut.τ).loc Cert.COut.main_arg0) = m ((c.tc : Thread Cert.COut.nD Cert.COut.τ).loc Cert.COut.main_arg0)
      ∧ r.2.mem ((c.tc : Thread Cert.COut.nD Cert.COut.τ).loc Cert.COut.main_arg1) = m ((c.tc : Thread Cert.COut.nD Cert.COut.τ).loc Cert.COut.main_arg1))
      ∧ r.2.sem = fun _ => 0)

def quiescent_COutIdeal [hCOutIdeal : Cert.COutIdeal.Facts] : Prop :=
  ∀ (m : (ℓ : Loc Cert.COutIdeal.nD Cert.COutIdeal.τ Cert.COutIdeal.sig) → Buf (Elt Ideal) ℓ) (g : Dev Cert.COutIdeal.nD → PrngReg), Pre_COutIdeal m →
    θ_run (Cert.COutIdeal.defs (F := Ideal)) (onTc (τ := Cert.COutIdeal.τ) (Cert.COutIdeal.main (F := Ideal))) ⟨m, fun _ => 0, g⟩ (fun r => (∀ c : Dev Cert.COutIdeal.nD,
      r.2.mem ((c.tc : Thread Cert.COutIdeal.nD Cert.COutIdeal.τ).loc Cert.COutIdeal.main_arg0) = m ((c.tc : Thread Cert.COutIdeal.nD Cert.COutIdeal.τ).loc Cert.COutIdeal.main_arg0)
      ∧ r.2.mem ((c.tc : Thread Cert.COutIdeal.nD Cert.COutIdeal.τ).loc Cert.COutIdeal.main_arg1) = m ((c.tc : Thread Cert.COutIdeal.nD Cert.COutIdeal.τ).loc Cert.COutIdeal.main_arg1))
      ∧ r.2.sem = fun _ => 0)

def quiescent_COutRefIdeal [hCOutRefIdeal : Cert.COutRefIdeal.Facts] : Prop :=
  ∀ (m : (ℓ : Loc Cert.COutRefIdeal.nD Cert.COutRefIdeal.τ Cert.COutRefIdeal.sig) → Buf (Elt Ideal) ℓ) (g : Dev Cert.COutRefIdeal.nD → PrngReg), Pre_COutRefIdeal m →
    θ_run (Cert.COutRefIdeal.defs (F := Ideal)) (onTc (τ := Cert.COutRefIdeal.τ) (Cert.COutRefIdeal.main (F := Ideal))) ⟨m, fun _ => 0, g⟩ (fun r => (∀ c : Dev Cert.COutRefIdeal.nD,
      r.2.mem ((c.tc : Thread Cert.COutRefIdeal.nD Cert.COutRefIdeal.τ).loc Cert.COutRefIdeal.main_arg0) = m ((c.tc : Thread Cert.COutRefIdeal.nD Cert.COutRefIdeal.τ).loc Cert.COutRefIdeal.main_arg0)
      ∧ r.2.mem ((c.tc : Thread Cert.COutRefIdeal.nD Cert.COutRefIdeal.τ).loc Cert.COutRefIdeal.main_arg1) = m ((c.tc : Thread Cert.COutRefIdeal.nD Cert.COutRefIdeal.τ).loc Cert.COutRefIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2))
      ∧ r.2.sem = fun _ => 0)

def quiescent_RmsPost [hRmsPost : Cert.RmsPost.Facts] : Prop :=
  ∀ (m : (ℓ : Loc Cert.RmsPost.nD Cert.RmsPost.τ Cert.RmsPost.sig) → Buf (Elt Bits) ℓ) (g : Dev Cert.RmsPost.nD → PrngReg), Pre_RmsPost m →
    θ_run (Cert.RmsPost.defs (F := Bits)) (onTc (τ := Cert.RmsPost.τ) (Cert.RmsPost.main (F := Bits))) ⟨m, fun _ => 0, g⟩ (fun r => (∀ c : Dev Cert.RmsPost.nD,
      r.2.mem ((c.tc : Thread Cert.RmsPost.nD Cert.RmsPost.τ).loc Cert.RmsPost.main_arg0) = m ((c.tc : Thread Cert.RmsPost.nD Cert.RmsPost.τ).loc Cert.RmsPost.main_arg0)
      ∧ r.2.mem ((c.tc : Thread Cert.RmsPost.nD Cert.RmsPost.τ).loc Cert.RmsPost.main_arg1) = m ((c.tc : Thread Cert.RmsPost.nD Cert.RmsPost.τ).loc Cert.RmsPost.main_arg1)
      ∧ r.2.mem ((c.tc : Thread Cert.RmsPost.nD Cert.RmsPost.τ).loc Cert.RmsPost.main_arg2) = m ((c.tc : Thread Cert.RmsPost.nD Cert.RmsPost.τ).loc Cert.RmsPost.main_arg2))
      ∧ r.2.sem = fun _ => 0)

def quiescent_RmsPostIdeal [hRmsPostIdeal : Cert.RmsPostIdeal.Facts] : Prop :=
  ∀ (m : (ℓ : Loc Cert.RmsPostIdeal.nD Cert.RmsPostIdeal.τ Cert.RmsPostIdeal.sig) → Buf (Elt Ideal) ℓ) (g : Dev Cert.RmsPostIdeal.nD → PrngReg), Pre_RmsPostIdeal m →
    θ_run (Cert.RmsPostIdeal.defs (F := Ideal)) (onTc (τ := Cert.RmsPostIdeal.τ) (Cert.RmsPostIdeal.main (F := Ideal))) ⟨m, fun _ => 0, g⟩ (fun r => (∀ c : Dev Cert.RmsPostIdeal.nD,
      r.2.mem ((c.tc : Thread Cert.RmsPostIdeal.nD Cert.RmsPostIdeal.τ).loc Cert.RmsPostIdeal.main_arg0) = m ((c.tc : Thread Cert.RmsPostIdeal.nD Cert.RmsPostIdeal.τ).loc Cert.RmsPostIdeal.main_arg0)
      ∧ r.2.mem ((c.tc : Thread Cert.RmsPostIdeal.nD Cert.RmsPostIdeal.τ).loc Cert.RmsPostIdeal.main_arg1) = m ((c.tc : Thread Cert.RmsPostIdeal.nD Cert.RmsPostIdeal.τ).loc Cert.RmsPostIdeal.main_arg1)
      ∧ r.2.mem ((c.tc : Thread Cert.RmsPostIdeal.nD Cert.RmsPostIdeal.τ).loc Cert.RmsPostIdeal.main_arg2) = m ((c.tc : Thread Cert.RmsPostIdeal.nD Cert.RmsPostIdeal.τ).loc Cert.RmsPostIdeal.main_arg2))
      ∧ r.2.sem = fun _ => 0)

def quiescent_RmsPostRefIdeal [hRmsPostRefIdeal : Cert.RmsPostRefIdeal.Facts] : Prop :=
  ∀ (m : (ℓ : Loc Cert.RmsPostRefIdeal.nD Cert.RmsPostRefIdeal.τ Cert.RmsPostRefIdeal.sig) → Buf (Elt Ideal) ℓ) (g : Dev Cert.RmsPostRefIdeal.nD → PrngReg), Pre_RmsPostRefIdeal m →
    θ_run (Cert.RmsPostRefIdeal.defs (F := Ideal)) (onTc (τ := Cert.RmsPostRefIdeal.τ) (Cert.RmsPostRefIdeal.main (F := Ideal))) ⟨m, fun _ => 0, g⟩ (fun r => (∀ c : Dev Cert.RmsPostRefIdeal.nD,
      r.2.mem ((c.tc : Thread Cert.RmsPostRefIdeal.nD Cert.RmsPostRefIdeal.τ).loc Cert.RmsPostRefIdeal.main_arg0) = m ((c.tc : Thread Cert.RmsPostRefIdeal.nD Cert.RmsPostRefIdeal.τ).loc Cert.RmsPostRefIdeal.main_arg0)
      ∧ r.2.mem ((c.tc : Thread Cert.RmsPostRefIdeal.nD Cert.RmsPostRefIdeal.τ).loc Cert.RmsPostRefIdeal.main_arg1) = m ((c.tc : Thread Cert.RmsPostRefIdeal.nD Cert.RmsPostRefIdeal.τ).loc Cert.RmsPostRefIdeal.main_arg1)
      ∧ r.2.mem ((c.tc : Thread Cert.RmsPostRefIdeal.nD Cert.RmsPostRefIdeal.τ).loc Cert.RmsPostRefIdeal.main_arg2) = m ((c.tc : Thread Cert.RmsPostRefIdeal.nD Cert.RmsPostRefIdeal.τ).loc Cert.RmsPostRefIdeal.main_arg2))
      ∧ r.2.sem = fun _ => 0)

def quiescent_RmsPre [hRmsPre : Cert.RmsPre.Facts] : Prop :=
  ∀ (m : (ℓ : Loc Cert.RmsPre.nD Cert.RmsPre.τ Cert.RmsPre.sig) → Buf (Elt Bits) ℓ) (g : Dev Cert.RmsPre.nD → PrngReg), Pre_RmsPre m →
    θ_run (Cert.RmsPre.defs (F := Bits)) (onTc (τ := Cert.RmsPre.τ) (Cert.RmsPre.main (F := Bits))) ⟨m, fun _ => 0, g⟩ (fun r => (∀ c : Dev Cert.RmsPre.nD,
      r.2.mem ((c.tc : Thread Cert.RmsPre.nD Cert.RmsPre.τ).loc Cert.RmsPre.main_arg0) = m ((c.tc : Thread Cert.RmsPre.nD Cert.RmsPre.τ).loc Cert.RmsPre.main_arg0)
      ∧ r.2.mem ((c.tc : Thread Cert.RmsPre.nD Cert.RmsPre.τ).loc Cert.RmsPre.main_arg1) = m ((c.tc : Thread Cert.RmsPre.nD Cert.RmsPre.τ).loc Cert.RmsPre.main_arg1)
      ∧ r.2.mem ((c.tc : Thread Cert.RmsPre.nD Cert.RmsPre.τ).loc Cert.RmsPre.main_arg2) = m ((c.tc : Thread Cert.RmsPre.nD Cert.RmsPre.τ).loc Cert.RmsPre.main_arg2)
      ∧ r.2.mem ((c.tc : Thread Cert.RmsPre.nD Cert.RmsPre.τ).loc Cert.RmsPre.main_arg3) = m ((c.tc : Thread Cert.RmsPre.nD Cert.RmsPre.τ).loc Cert.RmsPre.main_arg3))
      ∧ r.2.sem = fun _ => 0)

def quiescent_RmsPreIdeal [hRmsPreIdeal : Cert.RmsPreIdeal.Facts] : Prop :=
  ∀ (m : (ℓ : Loc Cert.RmsPreIdeal.nD Cert.RmsPreIdeal.τ Cert.RmsPreIdeal.sig) → Buf (Elt Ideal) ℓ) (g : Dev Cert.RmsPreIdeal.nD → PrngReg), Pre_RmsPreIdeal m →
    θ_run (Cert.RmsPreIdeal.defs (F := Ideal)) (onTc (τ := Cert.RmsPreIdeal.τ) (Cert.RmsPreIdeal.main (F := Ideal))) ⟨m, fun _ => 0, g⟩ (fun r => (∀ c : Dev Cert.RmsPreIdeal.nD,
      r.2.mem ((c.tc : Thread Cert.RmsPreIdeal.nD Cert.RmsPreIdeal.τ).loc Cert.RmsPreIdeal.main_arg0) = m ((c.tc : Thread Cert.RmsPreIdeal.nD Cert.RmsPreIdeal.τ).loc Cert.RmsPreIdeal.main_arg0)
      ∧ r.2.mem ((c.tc : Thread Cert.RmsPreIdeal.nD Cert.RmsPreIdeal.τ).loc Cert.RmsPreIdeal.main_arg1) = m ((c.tc : Thread Cert.RmsPreIdeal.nD Cert.RmsPreIdeal.τ).loc Cert.RmsPreIdeal.main_arg1)
      ∧ r.2.mem ((c.tc : Thread Cert.RmsPreIdeal.nD Cert.RmsPreIdeal.τ).loc Cert.RmsPreIdeal.main_arg2) = m ((c.tc : Thread Cert.RmsPreIdeal.nD Cert.RmsPreIdeal.τ).loc Cert.RmsPreIdeal.main_arg2)
      ∧ r.2.mem ((c.tc : Thread Cert.RmsPreIdeal.nD Cert.RmsPreIdeal.τ).loc Cert.RmsPreIdeal.main_arg3) = m ((c.tc : Thread Cert.RmsPreIdeal.nD Cert.RmsPreIdeal.τ).loc Cert.RmsPreIdeal.main_arg3))
      ∧ r.2.sem = fun _ => 0)

def quiescent_RmsPreRefIdeal [hRmsPreRefIdeal : Cert.RmsPreRefIdeal.Facts] : Prop :=
  ∀ (m : (ℓ : Loc Cert.RmsPreRefIdeal.nD Cert.RmsPreRefIdeal.τ Cert.RmsPreRefIdeal.sig) → Buf (Elt Ideal) ℓ) (g : Dev Cert.RmsPreRefIdeal.nD → PrngReg), Pre_RmsPreRefIdeal m →
    θ_run (Cert.RmsPreRefIdeal.defs (F := Ideal)) (onTc (τ := Cert.RmsPreRefIdeal.τ) (Cert.RmsPreRefIdeal.main (F := Ideal))) ⟨m, fun _ => 0, g⟩ (fun r => (∀ c : Dev Cert.RmsPreRefIdeal.nD,
      r.2.mem ((c.tc : Thread Cert.RmsPreRefIdeal.nD Cert.RmsPreRefIdeal.τ).loc Cert.RmsPreRefIdeal.main_arg0) = m ((c.tc : Thread Cert.RmsPreRefIdeal.nD Cert.RmsPreRefIdeal.τ).loc Cert.RmsPreRefIdeal.main_arg0)
      ∧ r.2.mem ((c.tc : Thread Cert.RmsPreRefIdeal.nD Cert.RmsPreRefIdeal.τ).loc Cert.RmsPreRefIdeal.main_arg1) = m ((c.tc : Thread Cert.RmsPreRefIdeal.nD Cert.RmsPreRefIdeal.τ).loc Cert.RmsPreRefIdeal.main_arg1)
      ∧ r.2.mem ((c.tc : Thread Cert.RmsPreRefIdeal.nD Cert.RmsPreRefIdeal.τ).loc Cert.RmsPreRefIdeal.main_arg2) = m ((c.tc : Thread Cert.RmsPreRefIdeal.nD Cert.RmsPreRefIdeal.τ).loc Cert.RmsPreRefIdeal.main_arg2)
      ∧ r.2.mem ((c.tc : Thread Cert.RmsPreRefIdeal.nD Cert.RmsPreRefIdeal.τ).loc Cert.RmsPreRefIdeal.main_arg3) = m ((c.tc : Thread Cert.RmsPreRefIdeal.nD Cert.RmsPreRefIdeal.τ).loc Cert.RmsPreRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_RmsResFwd [hRmsResFwd : Cert.RmsResFwd.Facts] : Prop :=
  ∀ (m : (ℓ : Loc Cert.RmsResFwd.nD Cert.RmsResFwd.τ Cert.RmsResFwd.sig) → Buf (Elt Bits) ℓ) (g : Dev Cert.RmsResFwd.nD → PrngReg), Pre_RmsResFwd m →
    θ_run (Cert.RmsResFwd.defs (F := Bits)) (onTc (τ := Cert.RmsResFwd.τ) (Cert.RmsResFwd.main (F := Bits))) ⟨m, fun _ => 0, g⟩ (fun r => (∀ c : Dev Cert.RmsResFwd.nD,
      r.2.mem ((c.tc : Thread Cert.RmsResFwd.nD Cert.RmsResFwd.τ).loc Cert.RmsResFwd.main_arg0) = m ((c.tc : Thread Cert.RmsResFwd.nD Cert.RmsResFwd.τ).loc Cert.RmsResFwd.main_arg0)
      ∧ r.2.mem ((c.tc : Thread Cert.RmsResFwd.nD Cert.RmsResFwd.τ).loc Cert.RmsResFwd.main_arg1) = m ((c.tc : Thread Cert.RmsResFwd.nD Cert.RmsResFwd.τ).loc Cert.RmsResFwd.main_arg1)
      ∧ r.2.mem ((c.tc : Thread Cert.RmsResFwd.nD Cert.RmsResFwd.τ).loc Cert.RmsResFwd.main_arg2) = m ((c.tc : Thread Cert.RmsResFwd.nD Cert.RmsResFwd.τ).loc Cert.RmsResFwd.main_arg2))
      ∧ r.2.sem = fun _ => 0)

def quiescent_RmsResFwdIdeal [hRmsResFwdIdeal : Cert.RmsResFwdIdeal.Facts] : Prop :=
  ∀ (m : (ℓ : Loc Cert.RmsResFwdIdeal.nD Cert.RmsResFwdIdeal.τ Cert.RmsResFwdIdeal.sig) → Buf (Elt Ideal) ℓ) (g : Dev Cert.RmsResFwdIdeal.nD → PrngReg), Pre_RmsResFwdIdeal m →
    θ_run (Cert.RmsResFwdIdeal.defs (F := Ideal)) (onTc (τ := Cert.RmsResFwdIdeal.τ) (Cert.RmsResFwdIdeal.main (F := Ideal))) ⟨m, fun _ => 0, g⟩ (fun r => (∀ c : Dev Cert.RmsResFwdIdeal.nD,
      r.2.mem ((c.tc : Thread Cert.RmsResFwdIdeal.nD Cert.RmsResFwdIdeal.τ).loc Cert.RmsResFwdIdeal.main_arg0) = m ((c.tc : Thread Cert.RmsResFwdIdeal.nD Cert.RmsResFwdIdeal.τ).loc Cert.RmsResFwdIdeal.main_arg0)
      ∧ r.2.mem ((c.tc : Thread Cert.RmsResFwdIdeal.nD Cert.RmsResFwdIdeal.τ).loc Cert.RmsResFwdIdeal.main_arg1) = m ((c.tc : Thread Cert.RmsResFwdIdeal.nD Cert.RmsResFwdIdeal.τ).loc Cert.RmsResFwdIdeal.main_arg1)
      ∧ r.2.mem ((c.tc : Thread Cert.RmsResFwdIdeal.nD Cert.RmsResFwdIdeal.τ).loc Cert.RmsResFwdIdeal.main_arg2) = m ((c.tc : Thread Cert.RmsResFwdIdeal.nD Cert.RmsResFwdIdeal.τ).loc Cert.RmsResFwdIdeal.main_arg2))
      ∧ r.2.sem = fun _ => 0)

def quiescent_RmsResFwdRefIdeal [hRmsResFwdRefIdeal : Cert.RmsResFwdRefIdeal.Facts] : Prop :=
  ∀ (m : (ℓ : Loc Cert.RmsResFwdRefIdeal.nD Cert.RmsResFwdRefIdeal.τ Cert.RmsResFwdRefIdeal.sig) → Buf (Elt Ideal) ℓ) (g : Dev Cert.RmsResFwdRefIdeal.nD → PrngReg), Pre_RmsResFwdRefIdeal m →
    θ_run (Cert.RmsResFwdRefIdeal.defs (F := Ideal)) (onTc (τ := Cert.RmsResFwdRefIdeal.τ) (Cert.RmsResFwdRefIdeal.main (F := Ideal))) ⟨m, fun _ => 0, g⟩ (fun r => (∀ c : Dev Cert.RmsResFwdRefIdeal.nD,
      r.2.mem ((c.tc : Thread Cert.RmsResFwdRefIdeal.nD Cert.RmsResFwdRefIdeal.τ).loc Cert.RmsResFwdRefIdeal.main_arg0) = m ((c.tc : Thread Cert.RmsResFwdRefIdeal.nD Cert.RmsResFwdRefIdeal.τ).loc Cert.RmsResFwdRefIdeal.main_arg0)
      ∧ r.2.mem ((c.tc : Thread Cert.RmsResFwdRefIdeal.nD Cert.RmsResFwdRefIdeal.τ).loc Cert.RmsResFwdRefIdeal.main_arg1) = m ((c.tc : Thread Cert.RmsResFwdRefIdeal.nD Cert.RmsResFwdRefIdeal.τ).loc Cert.RmsResFwdRefIdeal.main_arg1)
      ∧ r.2.mem ((c.tc : Thread Cert.RmsResFwdRefIdeal.nD Cert.RmsResFwdRefIdeal.τ).loc Cert.RmsResFwdRefIdeal.main_arg2) = m ((c.tc : Thread Cert.RmsResFwdRefIdeal.nD Cert.RmsResFwdRefIdeal.τ).loc Cert.RmsResFwdRefIdeal.main_arg2))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2))
      ∧ r.2.sem = fun _ => 0)

def quiescent_RwkvPost [hRwkvPost : Cert.RwkvPost.Facts] : Prop :=
  ∀ (m : (ℓ : Loc Cert.RwkvPost.nD Cert.RwkvPost.τ Cert.RwkvPost.sig) → Buf (Elt Bits) ℓ) (g : Dev Cert.RwkvPost.nD → PrngReg), Pre_RwkvPost m →
    θ_run (Cert.RwkvPost.defs (F := Bits)) (onTc (τ := Cert.RwkvPost.τ) (Cert.RwkvPost.main (F := Bits))) ⟨m, fun _ => 0, g⟩ (fun r => (∀ c : Dev Cert.RwkvPost.nD,
      r.2.mem ((c.tc : Thread Cert.RwkvPost.nD Cert.RwkvPost.τ).loc Cert.RwkvPost.main_arg0) = m ((c.tc : Thread Cert.RwkvPost.nD Cert.RwkvPost.τ).loc Cert.RwkvPost.main_arg0)
      ∧ r.2.mem ((c.tc : Thread Cert.RwkvPost.nD Cert.RwkvPost.τ).loc Cert.RwkvPost.main_arg1) = m ((c.tc : Thread Cert.RwkvPost.nD Cert.RwkvPost.τ).loc Cert.RwkvPost.main_arg1)
      ∧ r.2.mem ((c.tc : Thread Cert.RwkvPost.nD Cert.RwkvPost.τ).loc Cert.RwkvPost.main_arg2) = m ((c.tc : Thread Cert.RwkvPost.nD Cert.RwkvPost.τ).loc Cert.RwkvPost.main_arg2)
      ∧ r.2.mem ((c.tc : Thread Cert.RwkvPost.nD Cert.RwkvPost.τ).loc Cert.RwkvPost.main_arg3) = m ((c.tc : Thread Cert.RwkvPost.nD Cert.RwkvPost.τ).loc Cert.RwkvPost.main_arg3)
      ∧ r.2.mem ((c.tc : Thread Cert.RwkvPost.nD Cert.RwkvPost.τ).loc Cert.RwkvPost.main_arg4) = m ((c.tc : Thread Cert.RwkvPost.nD Cert.RwkvPost.τ).loc Cert.RwkvPost.main_arg4)
      ∧ r.2.mem ((c.tc : Thread Cert.RwkvPost.nD Cert.RwkvPost.τ).loc Cert.RwkvPost.main_arg5) = m ((c.tc : Thread Cert.RwkvPost.nD Cert.RwkvPost.τ).loc Cert.RwkvPost.main_arg5)
      ∧ r.2.mem ((c.tc : Thread Cert.RwkvPost.nD Cert.RwkvPost.τ).loc Cert.RwkvPost.main_arg6) = m ((c.tc : Thread Cert.RwkvPost.nD Cert.RwkvPost.τ).loc Cert.RwkvPost.main_arg6)
      ∧ r.2.mem ((c.tc : Thread Cert.RwkvPost.nD Cert.RwkvPost.τ).loc Cert.RwkvPost.main_arg7) = m ((c.tc : Thread Cert.RwkvPost.nD Cert.RwkvPost.τ).loc Cert.RwkvPost.main_arg7)
      ∧ r.2.mem ((c.tc : Thread Cert.RwkvPost.nD Cert.RwkvPost.τ).loc Cert.RwkvPost.main_arg8) = m ((c.tc : Thread Cert.RwkvPost.nD Cert.RwkvPost.τ).loc Cert.RwkvPost.main_arg8))
      ∧ r.2.sem = fun _ => 0)

def quiescent_RwkvPostIdeal [hRwkvPostIdeal : Cert.RwkvPostIdeal.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg), Pre_RwkvPostIdeal m →
    θ_run (Cert.RwkvPostIdeal.defs (F := Ideal)) (onTc (τ := Cert.RwkvPostIdeal.τ) (Cert.RwkvPostIdeal.main (F := Ideal))) ⟨m, fun _ => 0, g⟩ (fun r => (∀ c : Dev Cert.RwkvPostIdeal.nD,
      r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
      ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
      ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
      ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
      ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4)
      ∧ r.2.mem ((c.tc : Thread Cert.RwkvPostIdeal.nD Cert.RwkvPostIdeal.τ).loc Cert.RwkvPostIdeal.main_arg5) = m ((c.tc : Thread Cert.RwkvPostIdeal.nD Cert.RwkvPostIdeal.τ).loc Cert.RwkvPostIdeal.main_arg5)
      ∧ r.2.mem ((c.tc : Thread Cert.RwkvPostIdeal.nD Cert.RwkvPostIdeal.τ).loc Cert.RwkvPostIdeal.main_arg6) = m ((c.tc : Thread Cert.RwkvPostIdeal.nD Cert.RwkvPostIdeal.τ).loc Cert.RwkvPostIdeal.main_arg6)
      ∧ r.2.mem ((c.tc : Thread Cert.RwkvPostIdeal.nD Cert.RwkvPostIdeal.τ).loc Cert.RwkvPostIdeal.main_arg7) = m ((c.tc : Thread Cert.RwkvPostIdeal.nD Cert.RwkvPostIdeal.τ).loc Cert.RwkvPostIdeal.main_arg7)
      ∧ r.2.mem ((c.tc : Thread Cert.RwkvPostIdeal.nD Cert.RwkvPostIdeal.τ).loc Cert.RwkvPostIdeal.main_arg8) = m ((c.tc : Thread Cert.RwkvPostIdeal.nD Cert.RwkvPostIdeal.τ).loc Cert.RwkvPostIdeal.main_arg8))
      ∧ r.2.sem = fun _ => 0)

def quiescent_RwkvPostIdeal_pre_finite_mix [hRwkvPostIdeal : Cert.RwkvPostIdeal.Facts] [hPre_finite_mix : Cert.Pre_finite_mix.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg), Pre_RwkvPostIdeal_finite_mix m →
    θ_run (Cert.RwkvPostIdeal.defs (F := Ideal)) (onTc (τ := Cert.RwkvPostIdeal.τ) (Cert.RwkvPostIdeal.main (F := Ideal))) ⟨m, fun _ => 0, g⟩ (fun r => (∀ c : Dev Cert.RwkvPostIdeal.nD,
      r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
      ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
      ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
      ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
      ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4)
      ∧ r.2.mem ((c.tc : Thread Cert.RwkvPostIdeal.nD Cert.RwkvPostIdeal.τ).loc Cert.RwkvPostIdeal.main_arg5) = m ((c.tc : Thread Cert.RwkvPostIdeal.nD Cert.RwkvPostIdeal.τ).loc Cert.RwkvPostIdeal.main_arg5)
      ∧ r.2.mem ((c.tc : Thread Cert.RwkvPostIdeal.nD Cert.RwkvPostIdeal.τ).loc Cert.RwkvPostIdeal.main_arg6) = m ((c.tc : Thread Cert.RwkvPostIdeal.nD Cert.RwkvPostIdeal.τ).loc Cert.RwkvPostIdeal.main_arg6)
      ∧ r.2.mem ((c.tc : Thread Cert.RwkvPostIdeal.nD Cert.RwkvPostIdeal.τ).loc Cert.RwkvPostIdeal.main_arg7) = m ((c.tc : Thread Cert.RwkvPostIdeal.nD Cert.RwkvPostIdeal.τ).loc Cert.RwkvPostIdeal.main_arg7)
      ∧ r.2.mem ((c.tc : Thread Cert.RwkvPostIdeal.nD Cert.RwkvPostIdeal.τ).loc Cert.RwkvPostIdeal.main_arg8) = m ((c.tc : Thread Cert.RwkvPostIdeal.nD Cert.RwkvPostIdeal.τ).loc Cert.RwkvPostIdeal.main_arg8))
      ∧ r.2.sem = fun _ => 0)

def quiescent_RwkvPostRefIdeal [hRwkvPostRefIdeal : Cert.RwkvPostRefIdeal.Facts] : Prop :=
  ∀ (m : (ℓ : Loc Cert.RwkvPostRefIdeal.nD Cert.RwkvPostRefIdeal.τ Cert.RwkvPostRefIdeal.sig) → Buf (Elt Ideal) ℓ) (g : Dev Cert.RwkvPostRefIdeal.nD → PrngReg), Pre_RwkvPostRefIdeal m →
    θ_run (Cert.RwkvPostRefIdeal.defs (F := Ideal)) (onTc (τ := Cert.RwkvPostRefIdeal.τ) (Cert.RwkvPostRefIdeal.main (F := Ideal))) ⟨m, fun _ => 0, g⟩ (fun r => (∀ c : Dev Cert.RwkvPostRefIdeal.nD,
      r.2.mem ((c.tc : Thread Cert.RwkvPostRefIdeal.nD Cert.RwkvPostRefIdeal.τ).loc Cert.RwkvPostRefIdeal.main_arg0) = m ((c.tc : Thread Cert.RwkvPostRefIdeal.nD Cert.RwkvPostRefIdeal.τ).loc Cert.RwkvPostRefIdeal.main_arg0)
      ∧ r.2.mem ((c.tc : Thread Cert.RwkvPostRefIdeal.nD Cert.RwkvPostRefIdeal.τ).loc Cert.RwkvPostRefIdeal.main_arg1) = m ((c.tc : Thread Cert.RwkvPostRefIdeal.nD Cert.RwkvPostRefIdeal.τ).loc Cert.RwkvPostRefIdeal.main_arg1)
      ∧ r.2.mem ((c.tc : Thread Cert.RwkvPostRefIdeal.nD Cert.RwkvPostRefIdeal.τ).loc Cert.RwkvPostRefIdeal.main_arg2) = m ((c.tc : Thread Cert.RwkvPostRefIdeal.nD Cert.RwkvPostRefIdeal.τ).loc Cert.RwkvPostRefIdeal.main_arg2)
      ∧ r.2.mem ((c.tc : Thread Cert.RwkvPostRefIdeal.nD Cert.RwkvPostRefIdeal.τ).loc Cert.RwkvPostRefIdeal.main_arg3) = m ((c.tc : Thread Cert.RwkvPostRefIdeal.nD Cert.RwkvPostRefIdeal.τ).loc Cert.RwkvPostRefIdeal.main_arg3)
      ∧ r.2.mem ((c.tc : Thread Cert.RwkvPostRefIdeal.nD Cert.RwkvPostRefIdeal.τ).loc Cert.RwkvPostRefIdeal.main_arg4) = m ((c.tc : Thread Cert.RwkvPostRefIdeal.nD Cert.RwkvPostRefIdeal.τ).loc Cert.RwkvPostRefIdeal.main_arg4)
      ∧ r.2.mem ((c.tc : Thread Cert.RwkvPostRefIdeal.nD Cert.RwkvPostRefIdeal.τ).loc Cert.RwkvPostRefIdeal.main_arg5) = m ((c.tc : Thread Cert.RwkvPostRefIdeal.nD Cert.RwkvPostRefIdeal.τ).loc Cert.RwkvPostRefIdeal.main_arg5)
      ∧ r.2.mem ((c.tc : Thread Cert.RwkvPostRefIdeal.nD Cert.RwkvPostRefIdeal.τ).loc Cert.RwkvPostRefIdeal.main_arg6) = m ((c.tc : Thread Cert.RwkvPostRefIdeal.nD Cert.RwkvPostRefIdeal.τ).loc Cert.RwkvPostRefIdeal.main_arg6)
      ∧ r.2.mem ((c.tc : Thread Cert.RwkvPostRefIdeal.nD Cert.RwkvPostRefIdeal.τ).loc Cert.RwkvPostRefIdeal.main_arg7) = m ((c.tc : Thread Cert.RwkvPostRefIdeal.nD Cert.RwkvPostRefIdeal.τ).loc Cert.RwkvPostRefIdeal.main_arg7)
      ∧ r.2.mem ((c.tc : Thread Cert.RwkvPostRefIdeal.nD Cert.RwkvPostRefIdeal.τ).loc Cert.RwkvPostRefIdeal.main_arg8) = m ((c.tc : Thread Cert.RwkvPostRefIdeal.nD Cert.RwkvPostRefIdeal.τ).loc Cert.RwkvPostRefIdeal.main_arg8))
      ∧ r.2.sem = fun _ => 0)

def quiescent_RwkvPostRefIdeal_pre_finite_mix [hRwkvPostRefIdeal : Cert.RwkvPostRefIdeal.Facts] [hPre_finite_mix : Cert.Pre_finite_mix.Facts] : Prop :=
  ∀ (m : (ℓ : Loc Cert.RwkvPostRefIdeal.nD Cert.RwkvPostRefIdeal.τ Cert.RwkvPostRefIdeal.sig) → Buf (Elt Ideal) ℓ) (g : Dev Cert.RwkvPostRefIdeal.nD → PrngReg), Pre_RwkvPostRefIdeal_finite_mix m →
    θ_run (Cert.RwkvPostRefIdeal.defs (F := Ideal)) (onTc (τ := Cert.RwkvPostRefIdeal.τ) (Cert.RwkvPostRefIdeal.main (F := Ideal))) ⟨m, fun _ => 0, g⟩ (fun r => (∀ c : Dev Cert.RwkvPostRefIdeal.nD,
      r.2.mem ((c.tc : Thread Cert.RwkvPostRefIdeal.nD Cert.RwkvPostRefIdeal.τ).loc Cert.RwkvPostRefIdeal.main_arg0) = m ((c.tc : Thread Cert.RwkvPostRefIdeal.nD Cert.RwkvPostRefIdeal.τ).loc Cert.RwkvPostRefIdeal.main_arg0)
      ∧ r.2.mem ((c.tc : Thread Cert.RwkvPostRefIdeal.nD Cert.RwkvPostRefIdeal.τ).loc Cert.RwkvPostRefIdeal.main_arg1) = m ((c.tc : Thread Cert.RwkvPostRefIdeal.nD Cert.RwkvPostRefIdeal.τ).loc Cert.RwkvPostRefIdeal.main_arg1)
      ∧ r.2.mem ((c.tc : Thread Cert.RwkvPostRefIdeal.nD Cert.RwkvPostRefIdeal.τ).loc Cert.RwkvPostRefIdeal.main_arg2) = m ((c.tc : Thread Cert.RwkvPostRefIdeal.nD Cert.RwkvPostRefIdeal.τ).loc Cert.RwkvPostRefIdeal.main_arg2)
      ∧ r.2.mem ((c.tc : Thread Cert.RwkvPostRefIdeal.nD Cert.RwkvPostRefIdeal.τ).loc Cert.RwkvPostRefIdeal.main_arg3) = m ((c.tc : Thread Cert.RwkvPostRefIdeal.nD Cert.RwkvPostRefIdeal.τ).loc Cert.RwkvPostRefIdeal.main_arg3)
      ∧ r.2.mem ((c.tc : Thread Cert.RwkvPostRefIdeal.nD Cert.RwkvPostRefIdeal.τ).loc Cert.RwkvPostRefIdeal.main_arg4) = m ((c.tc : Thread Cert.RwkvPostRefIdeal.nD Cert.RwkvPostRefIdeal.τ).loc Cert.RwkvPostRefIdeal.main_arg4)
      ∧ r.2.mem ((c.tc : Thread Cert.RwkvPostRefIdeal.nD Cert.RwkvPostRefIdeal.τ).loc Cert.RwkvPostRefIdeal.main_arg5) = m ((c.tc : Thread Cert.RwkvPostRefIdeal.nD Cert.RwkvPostRefIdeal.τ).loc Cert.RwkvPostRefIdeal.main_arg5)
      ∧ r.2.mem ((c.tc : Thread Cert.RwkvPostRefIdeal.nD Cert.RwkvPostRefIdeal.τ).loc Cert.RwkvPostRefIdeal.main_arg6) = m ((c.tc : Thread Cert.RwkvPostRefIdeal.nD Cert.RwkvPostRefIdeal.τ).loc Cert.RwkvPostRefIdeal.main_arg6)
      ∧ r.2.mem ((c.tc : Thread Cert.RwkvPostRefIdeal.nD Cert.RwkvPostRefIdeal.τ).loc Cert.RwkvPostRefIdeal.main_arg7) = m ((c.tc : Thread Cert.RwkvPostRefIdeal.nD Cert.RwkvPostRefIdeal.τ).loc Cert.RwkvPostRefIdeal.main_arg7)
      ∧ r.2.mem ((c.tc : Thread Cert.RwkvPostRefIdeal.nD Cert.RwkvPostRefIdeal.τ).loc Cert.RwkvPostRefIdeal.main_arg8) = m ((c.tc : Thread Cert.RwkvPostRefIdeal.nD Cert.RwkvPostRefIdeal.τ).loc Cert.RwkvPostRefIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)) (v3 : (c : Dev Cert.KernelIdeal.nD) → Buf (Elt Ideal) ((c.tc : Thread Cert.KernelIdeal.nD Cert.KernelIdeal.τ).loc Cert.KernelIdeal.main_v47_3)) (v4 : (c : Dev Cert.KernelIdeal.nD) → Buf (Elt Ideal) ((c.tc : Thread Cert.KernelIdeal.nD Cert.KernelIdeal.τ).loc Cert.KernelIdeal.main_v47_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_v47_3) = v3 c
          ∧ r.2.mem ((c.tc : Thread Cert.KernelIdeal.nD Cert.KernelIdeal.τ).loc Cert.KernelIdeal.main_v47_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_v108) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DxCIn_DxCInIdeal : Prop :=
  True

def algebraic_DxCInIdeal_DxCInRefIdeal [hDxCInIdeal : Cert.DxCInIdeal.Facts] [hDxCInRefIdeal : Cert.DxCInRefIdeal.Facts] : Prop :=
  ∀ (m : (ℓ : Loc Cert.DxCInIdeal.nD Cert.DxCInIdeal.τ Cert.DxCInIdeal.sig) → Buf (Elt Ideal) ℓ) (g : Dev Cert.DxCInIdeal.nD → PrngReg)
    (m' : (ℓ : Loc Cert.DxCInRefIdeal.nD Cert.DxCInRefIdeal.τ Cert.DxCInRefIdeal.sig) → Buf (Elt Ideal) ℓ) (g' : Dev Cert.DxCInRefIdeal.nD → PrngReg), Pre_DxCInIdeal m →
    (∀ c : Dev Cert.DxCInIdeal.nD,
      m' ((c.tc : Thread Cert.DxCInRefIdeal.nD Cert.DxCInRefIdeal.τ).loc Cert.DxCInRefIdeal.main_arg0) = m ((c.tc : Thread Cert.DxCInIdeal.nD Cert.DxCInIdeal.τ).loc Cert.DxCInIdeal.main_arg0)
      ∧ m' ((c.tc : Thread Cert.DxCInRefIdeal.nD Cert.DxCInRefIdeal.τ).loc Cert.DxCInRefIdeal.main_arg1) = m ((c.tc : Thread Cert.DxCInIdeal.nD Cert.DxCInIdeal.τ).loc Cert.DxCInIdeal.main_arg1)) →
    ∃ (v0 : (c : Dev Cert.DxCInIdeal.nD) → Buf (Elt Ideal) ((c.tc : Thread Cert.DxCInIdeal.nD Cert.DxCInIdeal.τ).loc Cert.DxCInIdeal.main_v0)),
      θ_run (Cert.DxCInIdeal.defs (F := Ideal)) (onTc (τ := Cert.DxCInIdeal.τ) (Cert.DxCInIdeal.main (F := Ideal))) ⟨m, fun _ => 0, g⟩ (fun r => ∀ c : Dev Cert.DxCInIdeal.nD,
          r.2.mem ((c.tc : Thread Cert.DxCInIdeal.nD Cert.DxCInIdeal.τ).loc Cert.DxCInIdeal.main_v0) = v0 c
          ∧ r.2.mem ((c.tc : Thread Cert.DxCInIdeal.nD Cert.DxCInIdeal.τ).loc Cert.DxCInIdeal.main_arg0) = m ((c.tc : Thread Cert.DxCInIdeal.nD Cert.DxCInIdeal.τ).loc Cert.DxCInIdeal.main_arg0)
          ∧ r.2.mem ((c.tc : Thread Cert.DxCInIdeal.nD Cert.DxCInIdeal.τ).loc Cert.DxCInIdeal.main_arg1) = m ((c.tc : Thread Cert.DxCInIdeal.nD Cert.DxCInIdeal.τ).loc Cert.DxCInIdeal.main_arg1))
      ∧ θ_run (Cert.DxCInRefIdeal.defs (F := Ideal)) (onTc (τ := Cert.DxCInRefIdeal.τ) (Cert.DxCInRefIdeal.main (F := Ideal))) ⟨m', fun _ => 0, g'⟩ (fun r => ∀ c : Dev Cert.DxCInRefIdeal.nD,
          r.2.mem ((c.tc : Thread Cert.DxCInRefIdeal.nD Cert.DxCInRefIdeal.τ).loc Cert.DxCInRefIdeal.main_v5) = v0 c
          ∧ r.2.mem ((c.tc : Thread Cert.DxCInRefIdeal.nD Cert.DxCInRefIdeal.τ).loc Cert.DxCInRefIdeal.main_arg0) = m' ((c.tc : Thread Cert.DxCInRefIdeal.nD Cert.DxCInRefIdeal.τ).loc Cert.DxCInRefIdeal.main_arg0)
          ∧ r.2.mem ((c.tc : Thread Cert.DxCInRefIdeal.nD Cert.DxCInRefIdeal.τ).loc Cert.DxCInRefIdeal.main_arg1) = m' ((c.tc : Thread Cert.DxCInRefIdeal.nD Cert.DxCInRefIdeal.τ).loc Cert.DxCInRefIdeal.main_arg1))

def preserves_DCIn_DCInIdeal : Prop :=
  True

def algebraic_DCInIdeal_DCInRefIdeal [hDCInIdeal : Cert.DCInIdeal.Facts] [hDCInRefIdeal : Cert.DCInRefIdeal.Facts] : Prop :=
  ∀ (m : (ℓ : Loc Cert.DCInIdeal.nD Cert.DCInIdeal.τ Cert.DCInIdeal.sig) → Buf (Elt Ideal) ℓ) (g : Dev Cert.DCInIdeal.nD → PrngReg)
    (m' : (ℓ : Loc Cert.DCInRefIdeal.nD Cert.DCInRefIdeal.τ Cert.DCInRefIdeal.sig) → Buf (Elt Ideal) ℓ) (g' : Dev Cert.DCInRefIdeal.nD → PrngReg), Pre_DCInIdeal m →
    (∀ c : Dev Cert.DCInIdeal.nD,
      m' ((c.tc : Thread Cert.DCInRefIdeal.nD Cert.DCInRefIdeal.τ).loc Cert.DCInRefIdeal.main_arg0) = m ((c.tc : Thread Cert.DCInIdeal.nD Cert.DCInIdeal.τ).loc Cert.DCInIdeal.main_arg0)
      ∧ m' ((c.tc : Thread Cert.DCInRefIdeal.nD Cert.DCInRefIdeal.τ).loc Cert.DCInRefIdeal.main_arg1) = m ((c.tc : Thread Cert.DCInIdeal.nD Cert.DCInIdeal.τ).loc Cert.DCInIdeal.main_arg1)) →
    ∃ (v0 : (c : Dev Cert.DCInIdeal.nD) → Buf (Elt Ideal) ((c.tc : Thread Cert.DCInIdeal.nD Cert.DCInIdeal.τ).loc Cert.DCInIdeal.main_v0)),
      θ_run (Cert.DCInIdeal.defs (F := Ideal)) (onTc (τ := Cert.DCInIdeal.τ) (Cert.DCInIdeal.main (F := Ideal))) ⟨m, fun _ => 0, g⟩ (fun r => ∀ c : Dev Cert.DCInIdeal.nD,
          r.2.mem ((c.tc : Thread Cert.DCInIdeal.nD Cert.DCInIdeal.τ).loc Cert.DCInIdeal.main_v0) = v0 c
          ∧ r.2.mem ((c.tc : Thread Cert.DCInIdeal.nD Cert.DCInIdeal.τ).loc Cert.DCInIdeal.main_arg0) = m ((c.tc : Thread Cert.DCInIdeal.nD Cert.DCInIdeal.τ).loc Cert.DCInIdeal.main_arg0)
          ∧ r.2.mem ((c.tc : Thread Cert.DCInIdeal.nD Cert.DCInIdeal.τ).loc Cert.DCInIdeal.main_arg1) = m ((c.tc : Thread Cert.DCInIdeal.nD Cert.DCInIdeal.τ).loc Cert.DCInIdeal.main_arg1))
      ∧ θ_run (Cert.DCInRefIdeal.defs (F := Ideal)) (onTc (τ := Cert.DCInRefIdeal.τ) (Cert.DCInRefIdeal.main (F := Ideal))) ⟨m', fun _ => 0, g'⟩ (fun r => ∀ c : Dev Cert.DCInRefIdeal.nD,
          r.2.mem ((c.tc : Thread Cert.DCInRefIdeal.nD Cert.DCInRefIdeal.τ).loc Cert.DCInRefIdeal.main_v8) = v0 c
          ∧ r.2.mem ((c.tc : Thread Cert.DCInRefIdeal.nD Cert.DCInRefIdeal.τ).loc Cert.DCInRefIdeal.main_arg0) = m' ((c.tc : Thread Cert.DCInRefIdeal.nD Cert.DCInRefIdeal.τ).loc Cert.DCInRefIdeal.main_arg0)
          ∧ r.2.mem ((c.tc : Thread Cert.DCInRefIdeal.nD Cert.DCInRefIdeal.τ).loc Cert.DCInRefIdeal.main_arg1) = m' ((c.tc : Thread Cert.DCInRefIdeal.nD Cert.DCInRefIdeal.τ).loc Cert.DCInRefIdeal.main_arg1))

def preserves_DCOut_DCOutIdeal : Prop :=
  True

def algebraic_DCOutIdeal_DCOutRefIdeal [hDCOutIdeal : Cert.DCOutIdeal.Facts] [hDCOutRefIdeal : Cert.DCOutRefIdeal.Facts] : Prop :=
  ∀ (m : (ℓ : Loc Cert.DCOutIdeal.nD Cert.DCOutIdeal.τ Cert.DCOutIdeal.sig) → Buf (Elt Ideal) ℓ) (g : Dev Cert.DCOutIdeal.nD → PrngReg)
    (m' : (ℓ : Loc Cert.DCOutRefIdeal.nD Cert.DCOutRefIdeal.τ Cert.DCOutRefIdeal.sig) → Buf (Elt Ideal) ℓ) (g' : Dev Cert.DCOutRefIdeal.nD → PrngReg), Pre_DCOutIdeal m →
    (∀ c : Dev Cert.DCOutIdeal.nD,
      m' ((c.tc : Thread Cert.DCOutRefIdeal.nD Cert.DCOutRefIdeal.τ).loc Cert.DCOutRefIdeal.main_arg0) = m ((c.tc : Thread Cert.DCOutIdeal.nD Cert.DCOutIdeal.τ).loc Cert.DCOutIdeal.main_arg0)
      ∧ m' ((c.tc : Thread Cert.DCOutRefIdeal.nD Cert.DCOutRefIdeal.τ).loc Cert.DCOutRefIdeal.main_arg1) = m ((c.tc : Thread Cert.DCOutIdeal.nD Cert.DCOutIdeal.τ).loc Cert.DCOutIdeal.main_arg1)) →
    ∃ (v0 : (c : Dev Cert.DCOutIdeal.nD) → Buf (Elt Ideal) ((c.tc : Thread Cert.DCOutIdeal.nD Cert.DCOutIdeal.τ).loc Cert.DCOutIdeal.main_v0)),
      θ_run (Cert.DCOutIdeal.defs (F := Ideal)) (onTc (τ := Cert.DCOutIdeal.τ) (Cert.DCOutIdeal.main (F := Ideal))) ⟨m, fun _ => 0, g⟩ (fun r => ∀ c : Dev Cert.DCOutIdeal.nD,
          r.2.mem ((c.tc : Thread Cert.DCOutIdeal.nD Cert.DCOutIdeal.τ).loc Cert.DCOutIdeal.main_v0) = v0 c
          ∧ r.2.mem ((c.tc : Thread Cert.DCOutIdeal.nD Cert.DCOutIdeal.τ).loc Cert.DCOutIdeal.main_arg0) = m ((c.tc : Thread Cert.DCOutIdeal.nD Cert.DCOutIdeal.τ).loc Cert.DCOutIdeal.main_arg0)
          ∧ r.2.mem ((c.tc : Thread Cert.DCOutIdeal.nD Cert.DCOutIdeal.τ).loc Cert.DCOutIdeal.main_arg1) = m ((c.tc : Thread Cert.DCOutIdeal.nD Cert.DCOutIdeal.τ).loc Cert.DCOutIdeal.main_arg1))
      ∧ θ_run (Cert.DCOutRefIdeal.defs (F := Ideal)) (onTc (τ := Cert.DCOutRefIdeal.τ) (Cert.DCOutRefIdeal.main (F := Ideal))) ⟨m', fun _ => 0, g'⟩ (fun r => ∀ c : Dev Cert.DCOutRefIdeal.nD,
          r.2.mem ((c.tc : Thread Cert.DCOutRefIdeal.nD Cert.DCOutRefIdeal.τ).loc Cert.DCOutRefIdeal.main_v6) = v0 c
          ∧ r.2.mem ((c.tc : Thread Cert.DCOutRefIdeal.nD Cert.DCOutRefIdeal.τ).loc Cert.DCOutRefIdeal.main_arg0) = m' ((c.tc : Thread Cert.DCOutRefIdeal.nD Cert.DCOutRefIdeal.τ).loc Cert.DCOutRefIdeal.main_arg0)
          ∧ r.2.mem ((c.tc : Thread Cert.DCOutRefIdeal.nD Cert.DCOutRefIdeal.τ).loc Cert.DCOutRefIdeal.main_arg1) = m' ((c.tc : Thread Cert.DCOutRefIdeal.nD Cert.DCOutRefIdeal.τ).loc Cert.DCOutRefIdeal.main_arg1))

def preserves_DxCOut_DxCOutIdeal : Prop :=
  True

def algebraic_DxCOutIdeal_DxCOutRefIdeal [hDxCOutIdeal : Cert.DxCOutIdeal.Facts] [hDxCOutRefIdeal : Cert.DxCOutRefIdeal.Facts] : Prop :=
  ∀ (m : (ℓ : Loc Cert.DxCOutIdeal.nD Cert.DxCOutIdeal.τ Cert.DxCOutIdeal.sig) → Buf (Elt Ideal) ℓ) (g : Dev Cert.DxCOutIdeal.nD → PrngReg)
    (m' : (ℓ : Loc Cert.DxCOutRefIdeal.nD Cert.DxCOutRefIdeal.τ Cert.DxCOutRefIdeal.sig) → Buf (Elt Ideal) ℓ) (g' : Dev Cert.DxCOutRefIdeal.nD → PrngReg), Pre_DxCOutIdeal m →
    (∀ c : Dev Cert.DxCOutIdeal.nD,
      m' ((c.tc : Thread Cert.DxCOutRefIdeal.nD Cert.DxCOutRefIdeal.τ).loc Cert.DxCOutRefIdeal.main_arg0) = m ((c.tc : Thread Cert.DxCOutIdeal.nD Cert.DxCOutIdeal.τ).loc Cert.DxCOutIdeal.main_arg0)
      ∧ m' ((c.tc : Thread Cert.DxCOutRefIdeal.nD Cert.DxCOutRefIdeal.τ).loc Cert.DxCOutRefIdeal.main_arg1) = m ((c.tc : Thread Cert.DxCOutIdeal.nD Cert.DxCOutIdeal.τ).loc Cert.DxCOutIdeal.main_arg1)) →
    ∃ (v0 : (c : Dev Cert.DxCOutIdeal.nD) → Buf (Elt Ideal) ((c.tc : Thread Cert.DxCOutIdeal.nD Cert.DxCOutIdeal.τ).loc Cert.DxCOutIdeal.main_v0)),
      θ_run (Cert.DxCOutIdeal.defs (F := Ideal)) (onTc (τ := Cert.DxCOutIdeal.τ) (Cert.DxCOutIdeal.main (F := Ideal))) ⟨m, fun _ => 0, g⟩ (fun r => ∀ c : Dev Cert.DxCOutIdeal.nD,
          r.2.mem ((c.tc : Thread Cert.DxCOutIdeal.nD Cert.DxCOutIdeal.τ).loc Cert.DxCOutIdeal.main_v0) = v0 c
          ∧ r.2.mem ((c.tc : Thread Cert.DxCOutIdeal.nD Cert.DxCOutIdeal.τ).loc Cert.DxCOutIdeal.main_arg0) = m ((c.tc : Thread Cert.DxCOutIdeal.nD Cert.DxCOutIdeal.τ).loc Cert.DxCOutIdeal.main_arg0)
          ∧ r.2.mem ((c.tc : Thread Cert.DxCOutIdeal.nD Cert.DxCOutIdeal.τ).loc Cert.DxCOutIdeal.main_arg1) = m ((c.tc : Thread Cert.DxCOutIdeal.nD Cert.DxCOutIdeal.τ).loc Cert.DxCOutIdeal.main_arg1))
      ∧ θ_run (Cert.DxCOutRefIdeal.defs (F := Ideal)) (onTc (τ := Cert.DxCOutRefIdeal.τ) (Cert.DxCOutRefIdeal.main (F := Ideal))) ⟨m', fun _ => 0, g'⟩ (fun r => ∀ c : Dev Cert.DxCOutRefIdeal.nD,
          r.2.mem ((c.tc : Thread Cert.DxCOutRefIdeal.nD Cert.DxCOutRefIdeal.τ).loc Cert.DxCOutRefIdeal.main_v5) = v0 c
          ∧ r.2.mem ((c.tc : Thread Cert.DxCOutRefIdeal.nD Cert.DxCOutRefIdeal.τ).loc Cert.DxCOutRefIdeal.main_arg0) = m' ((c.tc : Thread Cert.DxCOutRefIdeal.nD Cert.DxCOutRefIdeal.τ).loc Cert.DxCOutRefIdeal.main_arg0)
          ∧ r.2.mem ((c.tc : Thread Cert.DxCOutRefIdeal.nD Cert.DxCOutRefIdeal.τ).loc Cert.DxCOutRefIdeal.main_arg1) = m' ((c.tc : Thread Cert.DxCOutRefIdeal.nD Cert.DxCOutRefIdeal.τ).loc Cert.DxCOutRefIdeal.main_arg1))

def preserves_DxPleGate_DxPleGateIdeal : Prop :=
  True

def algebraic_DxPleGateIdeal_DxPleGateRefIdeal [hDxPleGateIdeal : Cert.DxPleGateIdeal.Facts] [hDxPleGateRefIdeal : Cert.DxPleGateRefIdeal.Facts] : Prop :=
  ∀ (m : (ℓ : Loc Cert.DxPleGateIdeal.nD Cert.DxPleGateIdeal.τ Cert.DxPleGateIdeal.sig) → Buf (Elt Ideal) ℓ) (g : Dev Cert.DxPleGateIdeal.nD → PrngReg)
    (m' : (ℓ : Loc Cert.DxPleGateRefIdeal.nD Cert.DxPleGateRefIdeal.τ Cert.DxPleGateRefIdeal.sig) → Buf (Elt Ideal) ℓ) (g' : Dev Cert.DxPleGateRefIdeal.nD → PrngReg), Pre_DxPleGateIdeal m →
    (∀ c : Dev Cert.DxPleGateIdeal.nD,
      m' ((c.tc : Thread Cert.DxPleGateRefIdeal.nD Cert.DxPleGateRefIdeal.τ).loc Cert.DxPleGateRefIdeal.main_arg0) = m ((c.tc : Thread Cert.DxPleGateIdeal.nD Cert.DxPleGateIdeal.τ).loc Cert.DxPleGateIdeal.main_arg0)
      ∧ m' ((c.tc : Thread Cert.DxPleGateRefIdeal.nD Cert.DxPleGateRefIdeal.τ).loc Cert.DxPleGateRefIdeal.main_arg1) = m ((c.tc : Thread Cert.DxPleGateIdeal.nD Cert.DxPleGateIdeal.τ).loc Cert.DxPleGateIdeal.main_arg1)
      ∧ m' ((c.tc : Thread Cert.DxPleGateRefIdeal.nD Cert.DxPleGateRefIdeal.τ).loc Cert.DxPleGateRefIdeal.main_arg2) = m ((c.tc : Thread Cert.DxPleGateIdeal.nD Cert.DxPleGateIdeal.τ).loc Cert.DxPleGateIdeal.main_arg2)) →
    ∃ (v0 : (c : Dev Cert.DxPleGateIdeal.nD) → Buf (Elt Ideal) ((c.tc : Thread Cert.DxPleGateIdeal.nD Cert.DxPleGateIdeal.τ).loc Cert.DxPleGateIdeal.main_v0)),
      θ_run (Cert.DxPleGateIdeal.defs (F := Ideal)) (onTc (τ := Cert.DxPleGateIdeal.τ) (Cert.DxPleGateIdeal.main (F := Ideal))) ⟨m, fun _ => 0, g⟩ (fun r => ∀ c : Dev Cert.DxPleGateIdeal.nD,
          r.2.mem ((c.tc : Thread Cert.DxPleGateIdeal.nD Cert.DxPleGateIdeal.τ).loc Cert.DxPleGateIdeal.main_v0) = v0 c
          ∧ r.2.mem ((c.tc : Thread Cert.DxPleGateIdeal.nD Cert.DxPleGateIdeal.τ).loc Cert.DxPleGateIdeal.main_arg0) = m ((c.tc : Thread Cert.DxPleGateIdeal.nD Cert.DxPleGateIdeal.τ).loc Cert.DxPleGateIdeal.main_arg0)
          ∧ r.2.mem ((c.tc : Thread Cert.DxPleGateIdeal.nD Cert.DxPleGateIdeal.τ).loc Cert.DxPleGateIdeal.main_arg1) = m ((c.tc : Thread Cert.DxPleGateIdeal.nD Cert.DxPleGateIdeal.τ).loc Cert.DxPleGateIdeal.main_arg1)
          ∧ r.2.mem ((c.tc : Thread Cert.DxPleGateIdeal.nD Cert.DxPleGateIdeal.τ).loc Cert.DxPleGateIdeal.main_arg2) = m ((c.tc : Thread Cert.DxPleGateIdeal.nD Cert.DxPleGateIdeal.τ).loc Cert.DxPleGateIdeal.main_arg2))
      ∧ θ_run (Cert.DxPleGateRefIdeal.defs (F := Ideal)) (onTc (τ := Cert.DxPleGateRefIdeal.τ) (Cert.DxPleGateRefIdeal.main (F := Ideal))) ⟨m', fun _ => 0, g'⟩ (fun r => ∀ c : Dev Cert.DxPleGateRefIdeal.nD,
          r.2.mem ((c.tc : Thread Cert.DxPleGateRefIdeal.nD Cert.DxPleGateRefIdeal.τ).loc Cert.DxPleGateRefIdeal.main_v5) = v0 c
          ∧ r.2.mem ((c.tc : Thread Cert.DxPleGateRefIdeal.nD Cert.DxPleGateRefIdeal.τ).loc Cert.DxPleGateRefIdeal.main_arg0) = m' ((c.tc : Thread Cert.DxPleGateRefIdeal.nD Cert.DxPleGateRefIdeal.τ).loc Cert.DxPleGateRefIdeal.main_arg0)
          ∧ r.2.mem ((c.tc : Thread Cert.DxPleGateRefIdeal.nD Cert.DxPleGateRefIdeal.τ).loc Cert.DxPleGateRefIdeal.main_arg1) = m' ((c.tc : Thread Cert.DxPleGateRefIdeal.nD Cert.DxPleGateRefIdeal.τ).loc Cert.DxPleGateRefIdeal.main_arg1)
          ∧ r.2.mem ((c.tc : Thread Cert.DxPleGateRefIdeal.nD Cert.DxPleGateRefIdeal.τ).loc Cert.DxPleGateRefIdeal.main_arg2) = m' ((c.tc : Thread Cert.DxPleGateRefIdeal.nD Cert.DxPleGateRefIdeal.τ).loc Cert.DxPleGateRefIdeal.main_arg2))

def preserves_DAbIn_DAbInIdeal : Prop :=
  True

def algebraic_DAbInIdeal_DAbInRefIdeal [hDAbInIdeal : Cert.DAbInIdeal.Facts] [hDAbInRefIdeal : Cert.DAbInRefIdeal.Facts] : Prop :=
  ∀ (m : (ℓ : Loc Cert.DAbInIdeal.nD Cert.DAbInIdeal.τ Cert.DAbInIdeal.sig) → Buf (Elt Ideal) ℓ) (g : Dev Cert.DAbInIdeal.nD → PrngReg)
    (m' : (ℓ : Loc Cert.DAbInRefIdeal.nD Cert.DAbInRefIdeal.τ Cert.DAbInRefIdeal.sig) → Buf (Elt Ideal) ℓ) (g' : Dev Cert.DAbInRefIdeal.nD → PrngReg), Pre_DAbInIdeal m →
    (∀ c : Dev Cert.DAbInIdeal.nD,
      m' ((c.tc : Thread Cert.DAbInRefIdeal.nD Cert.DAbInRefIdeal.τ).loc Cert.DAbInRefIdeal.main_arg0) = m ((c.tc : Thread Cert.DAbInIdeal.nD Cert.DAbInIdeal.τ).loc Cert.DAbInIdeal.main_arg0)
      ∧ m' ((c.tc : Thread Cert.DAbInRefIdeal.nD Cert.DAbInRefIdeal.τ).loc Cert.DAbInRefIdeal.main_arg1) = m ((c.tc : Thread Cert.DAbInIdeal.nD Cert.DAbInIdeal.τ).loc Cert.DAbInIdeal.main_arg1)) →
    ∃ (v0 : (c : Dev Cert.DAbInIdeal.nD) → Buf (Elt Ideal) ((c.tc : Thread Cert.DAbInIdeal.nD Cert.DAbInIdeal.τ).loc Cert.DAbInIdeal.main_v1)),
      θ_run (Cert.DAbInIdeal.defs (F := Ideal)) (onTc (τ := Cert.DAbInIdeal.τ) (Cert.DAbInIdeal.main (F := Ideal))) ⟨m, fun _ => 0, g⟩ (fun r => ∀ c : Dev Cert.DAbInIdeal.nD,
          r.2.mem ((c.tc : Thread Cert.DAbInIdeal.nD Cert.DAbInIdeal.τ).loc Cert.DAbInIdeal.main_v1) = v0 c
          ∧ r.2.mem ((c.tc : Thread Cert.DAbInIdeal.nD Cert.DAbInIdeal.τ).loc Cert.DAbInIdeal.main_arg0) = m ((c.tc : Thread Cert.DAbInIdeal.nD Cert.DAbInIdeal.τ).loc Cert.DAbInIdeal.main_arg0)
          ∧ r.2.mem ((c.tc : Thread Cert.DAbInIdeal.nD Cert.DAbInIdeal.τ).loc Cert.DAbInIdeal.main_arg1) = m ((c.tc : Thread Cert.DAbInIdeal.nD Cert.DAbInIdeal.τ).loc Cert.DAbInIdeal.main_arg1))
      ∧ θ_run (Cert.DAbInRefIdeal.defs (F := Ideal)) (onTc (τ := Cert.DAbInRefIdeal.τ) (Cert.DAbInRefIdeal.main (F := Ideal))) ⟨m', fun _ => 0, g'⟩ (fun r => ∀ c : Dev Cert.DAbInRefIdeal.nD,
          r.2.mem ((c.tc : Thread Cert.DAbInRefIdeal.nD Cert.DAbInRefIdeal.τ).loc Cert.DAbInRefIdeal.main_v7) = v0 c
          ∧ r.2.mem ((c.tc : Thread Cert.DAbInRefIdeal.nD Cert.DAbInRefIdeal.τ).loc Cert.DAbInRefIdeal.main_arg0) = m' ((c.tc : Thread Cert.DAbInRefIdeal.nD Cert.DAbInRefIdeal.τ).loc Cert.DAbInRefIdeal.main_arg0)
          ∧ r.2.mem ((c.tc : Thread Cert.DAbInRefIdeal.nD Cert.DAbInRefIdeal.τ).loc Cert.DAbInRefIdeal.main_arg1) = m' ((c.tc : Thread Cert.DAbInRefIdeal.nD Cert.DAbInRefIdeal.τ).loc Cert.DAbInRefIdeal.main_arg1))

def preserves_DPleProj_DPleProjIdeal : Prop :=
  True

def algebraic_DPleProjIdeal_DPleProjRefIdeal [hDPleProjIdeal : Cert.DPleProjIdeal.Facts] [hDPleProjRefIdeal : Cert.DPleProjRefIdeal.Facts] : Prop :=
  ∀ (m : (ℓ : Loc Cert.DPleProjIdeal.nD Cert.DPleProjIdeal.τ Cert.DPleProjIdeal.sig) → Buf (Elt Ideal) ℓ) (g : Dev Cert.DPleProjIdeal.nD → PrngReg)
    (m' : (ℓ : Loc Cert.DPleProjRefIdeal.nD Cert.DPleProjRefIdeal.τ Cert.DPleProjRefIdeal.sig) → Buf (Elt Ideal) ℓ) (g' : Dev Cert.DPleProjRefIdeal.nD → PrngReg), Pre_DPleProjIdeal m →
    (∀ c : Dev Cert.DPleProjIdeal.nD,
      m' ((c.tc : Thread Cert.DPleProjRefIdeal.nD Cert.DPleProjRefIdeal.τ).loc Cert.DPleProjRefIdeal.main_arg0) = m ((c.tc : Thread Cert.DPleProjIdeal.nD Cert.DPleProjIdeal.τ).loc Cert.DPleProjIdeal.main_arg0)
      ∧ m' ((c.tc : Thread Cert.DPleProjRefIdeal.nD Cert.DPleProjRefIdeal.τ).loc Cert.DPleProjRefIdeal.main_arg1) = m ((c.tc : Thread Cert.DPleProjIdeal.nD Cert.DPleProjIdeal.τ).loc Cert.DPleProjIdeal.main_arg1)) →
    ∃ (v0 : (c : Dev Cert.DPleProjIdeal.nD) → Buf (Elt Ideal) ((c.tc : Thread Cert.DPleProjIdeal.nD Cert.DPleProjIdeal.τ).loc Cert.DPleProjIdeal.main_v0)),
      θ_run (Cert.DPleProjIdeal.defs (F := Ideal)) (onTc (τ := Cert.DPleProjIdeal.τ) (Cert.DPleProjIdeal.main (F := Ideal))) ⟨m, fun _ => 0, g⟩ (fun r => ∀ c : Dev Cert.DPleProjIdeal.nD,
          r.2.mem ((c.tc : Thread Cert.DPleProjIdeal.nD Cert.DPleProjIdeal.τ).loc Cert.DPleProjIdeal.main_v0) = v0 c
          ∧ r.2.mem ((c.tc : Thread Cert.DPleProjIdeal.nD Cert.DPleProjIdeal.τ).loc Cert.DPleProjIdeal.main_arg0) = m ((c.tc : Thread Cert.DPleProjIdeal.nD Cert.DPleProjIdeal.τ).loc Cert.DPleProjIdeal.main_arg0)
          ∧ r.2.mem ((c.tc : Thread Cert.DPleProjIdeal.nD Cert.DPleProjIdeal.τ).loc Cert.DPleProjIdeal.main_arg1) = m ((c.tc : Thread Cert.DPleProjIdeal.nD Cert.DPleProjIdeal.τ).loc Cert.DPleProjIdeal.main_arg1))
      ∧ θ_run (Cert.DPleProjRefIdeal.defs (F := Ideal)) (onTc (τ := Cert.DPleProjRefIdeal.τ) (Cert.DPleProjRefIdeal.main (F := Ideal))) ⟨m', fun _ => 0, g'⟩ (fun r => ∀ c : Dev Cert.DPleProjRefIdeal.nD,
          r.2.mem ((c.tc : Thread Cert.DPleProjRefIdeal.nD Cert.DPleProjRefIdeal.τ).loc Cert.DPleProjRefIdeal.main_v7) = v0 c
          ∧ r.2.mem ((c.tc : Thread Cert.DPleProjRefIdeal.nD Cert.DPleProjRefIdeal.τ).loc Cert.DPleProjRefIdeal.main_arg0) = m' ((c.tc : Thread Cert.DPleProjRefIdeal.nD Cert.DPleProjRefIdeal.τ).loc Cert.DPleProjRefIdeal.main_arg0)
          ∧ r.2.mem ((c.tc : Thread Cert.DPleProjRefIdeal.nD Cert.DPleProjRefIdeal.τ).loc Cert.DPleProjRefIdeal.main_arg1) = m' ((c.tc : Thread Cert.DPleProjRefIdeal.nD Cert.DPleProjRefIdeal.τ).loc Cert.DPleProjRefIdeal.main_arg1))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)) →
    ∃ (v0 : (c : Dev Cert.AbInIdeal.nD) → Buf (Elt Ideal) ((c.tc : Thread Cert.AbInIdeal.nD Cert.AbInIdeal.τ).loc Cert.AbInIdeal.main_v0)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v0) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v2) = v0 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1))

def preserves_CIn_CInIdeal : Prop :=
  True

def algebraic_CInIdeal_CInRefIdeal [hCInIdeal : Cert.CInIdeal.Facts] [hCInRefIdeal : Cert.CInRefIdeal.Facts] : Prop :=
  ∀ (m : (ℓ : Loc Cert.CInIdeal.nD Cert.CInIdeal.τ Cert.CInIdeal.sig) → Buf (Elt Ideal) ℓ) (g : Dev Cert.CInIdeal.nD → PrngReg)
    (m' : (ℓ : Loc Cert.CInRefIdeal.nD Cert.CInRefIdeal.τ Cert.CInRefIdeal.sig) → Buf (Elt Ideal) ℓ) (g' : Dev Cert.CInRefIdeal.nD → PrngReg), Pre_CInIdeal m →
    (∀ c : Dev Cert.CInIdeal.nD,
      m' ((c.tc : Thread Cert.CInRefIdeal.nD Cert.CInRefIdeal.τ).loc Cert.CInRefIdeal.main_arg0) = m ((c.tc : Thread Cert.CInIdeal.nD Cert.CInIdeal.τ).loc Cert.CInIdeal.main_arg0)
      ∧ m' ((c.tc : Thread Cert.CInRefIdeal.nD Cert.CInRefIdeal.τ).loc Cert.CInRefIdeal.main_arg1) = m ((c.tc : Thread Cert.CInIdeal.nD Cert.CInIdeal.τ).loc Cert.CInIdeal.main_arg1)) →
    ∃ (v0 : (c : Dev Cert.CInIdeal.nD) → Buf (Elt Ideal) ((c.tc : Thread Cert.CInIdeal.nD Cert.CInIdeal.τ).loc Cert.CInIdeal.main_v0)),
      θ_run (Cert.CInIdeal.defs (F := Ideal)) (onTc (τ := Cert.CInIdeal.τ) (Cert.CInIdeal.main (F := Ideal))) ⟨m, fun _ => 0, g⟩ (fun r => ∀ c : Dev Cert.CInIdeal.nD,
          r.2.mem ((c.tc : Thread Cert.CInIdeal.nD Cert.CInIdeal.τ).loc Cert.CInIdeal.main_v0) = v0 c
          ∧ r.2.mem ((c.tc : Thread Cert.CInIdeal.nD Cert.CInIdeal.τ).loc Cert.CInIdeal.main_arg0) = m ((c.tc : Thread Cert.CInIdeal.nD Cert.CInIdeal.τ).loc Cert.CInIdeal.main_arg0)
          ∧ r.2.mem ((c.tc : Thread Cert.CInIdeal.nD Cert.CInIdeal.τ).loc Cert.CInIdeal.main_arg1) = m ((c.tc : Thread Cert.CInIdeal.nD Cert.CInIdeal.τ).loc Cert.CInIdeal.main_arg1))
      ∧ θ_run (Cert.CInRefIdeal.defs (F := Ideal)) (onTc (τ := Cert.CInRefIdeal.τ) (Cert.CInRefIdeal.main (F := Ideal))) ⟨m', fun _ => 0, g'⟩ (fun r => ∀ c : Dev Cert.CInRefIdeal.nD,
          r.2.mem ((c.tc : Thread Cert.CInRefIdeal.nD Cert.CInRefIdeal.τ).loc Cert.CInRefIdeal.main_v2) = v0 c
          ∧ r.2.mem ((c.tc : Thread Cert.CInRefIdeal.nD Cert.CInRefIdeal.τ).loc Cert.CInRefIdeal.main_arg0) = m' ((c.tc : Thread Cert.CInRefIdeal.nD Cert.CInRefIdeal.τ).loc Cert.CInRefIdeal.main_arg0)
          ∧ r.2.mem ((c.tc : Thread Cert.CInRefIdeal.nD Cert.CInRefIdeal.τ).loc Cert.CInRefIdeal.main_arg1) = m' ((c.tc : Thread Cert.CInRefIdeal.nD Cert.CInRefIdeal.τ).loc Cert.CInRefIdeal.main_arg1))

def preserves_COut_COutIdeal : Prop :=
  True

def algebraic_COutIdeal_COutRefIdeal [hCOutIdeal : Cert.COutIdeal.Facts] [hCOutRefIdeal : Cert.COutRefIdeal.Facts] : Prop :=
  ∀ (m : (ℓ : Loc Cert.COutIdeal.nD Cert.COutIdeal.τ Cert.COutIdeal.sig) → Buf (Elt Ideal) ℓ) (g : Dev Cert.COutIdeal.nD → PrngReg)
    (m' : (ℓ : Loc Cert.COutRefIdeal.nD Cert.COutRefIdeal.τ Cert.COutRefIdeal.sig) → Buf (Elt Ideal) ℓ) (g' : Dev Cert.COutRefIdeal.nD → PrngReg), Pre_COutIdeal m →
    (∀ c : Dev Cert.COutIdeal.nD,
      m' ((c.tc : Thread Cert.COutRefIdeal.nD Cert.COutRefIdeal.τ).loc Cert.COutRefIdeal.main_arg0) = m ((c.tc : Thread Cert.COutIdeal.nD Cert.COutIdeal.τ).loc Cert.COutIdeal.main_arg0)
      ∧ m' ((c.tc : Thread Cert.COutRefIdeal.nD Cert.COutRefIdeal.τ).loc Cert.COutRefIdeal.main_arg1) = m ((c.tc : Thread Cert.COutIdeal.nD Cert.COutIdeal.τ).loc Cert.COutIdeal.main_arg1)) →
    ∃ (v0 : (c : Dev Cert.COutIdeal.nD) → Buf (Elt Ideal) ((c.tc : Thread Cert.COutIdeal.nD Cert.COutIdeal.τ).loc Cert.COutIdeal.main_v0)),
      θ_run (Cert.COutIdeal.defs (F := Ideal)) (onTc (τ := Cert.COutIdeal.τ) (Cert.COutIdeal.main (F := Ideal))) ⟨m, fun _ => 0, g⟩ (fun r => ∀ c : Dev Cert.COutIdeal.nD,
          r.2.mem ((c.tc : Thread Cert.COutIdeal.nD Cert.COutIdeal.τ).loc Cert.COutIdeal.main_v0) = v0 c
          ∧ r.2.mem ((c.tc : Thread Cert.COutIdeal.nD Cert.COutIdeal.τ).loc Cert.COutIdeal.main_arg0) = m ((c.tc : Thread Cert.COutIdeal.nD Cert.COutIdeal.τ).loc Cert.COutIdeal.main_arg0)
          ∧ r.2.mem ((c.tc : Thread Cert.COutIdeal.nD Cert.COutIdeal.τ).loc Cert.COutIdeal.main_arg1) = m ((c.tc : Thread Cert.COutIdeal.nD Cert.COutIdeal.τ).loc Cert.COutIdeal.main_arg1))
      ∧ θ_run (Cert.COutRefIdeal.defs (F := Ideal)) (onTc (τ := Cert.COutRefIdeal.τ) (Cert.COutRefIdeal.main (F := Ideal))) ⟨m', fun _ => 0, g'⟩ (fun r => ∀ c : Dev Cert.COutRefIdeal.nD,
          r.2.mem ((c.tc : Thread Cert.COutRefIdeal.nD Cert.COutRefIdeal.τ).loc Cert.COutRefIdeal.main_v2) = v0 c
          ∧ r.2.mem ((c.tc : Thread Cert.COutRefIdeal.nD Cert.COutRefIdeal.τ).loc Cert.COutRefIdeal.main_arg0) = m' ((c.tc : Thread Cert.COutRefIdeal.nD Cert.COutRefIdeal.τ).loc Cert.COutRefIdeal.main_arg0)
          ∧ r.2.mem ((c.tc : Thread Cert.COutRefIdeal.nD Cert.COutRefIdeal.τ).loc Cert.COutRefIdeal.main_arg1) = m' ((c.tc : Thread Cert.COutRefIdeal.nD Cert.COutRefIdeal.τ).loc Cert.COutRefIdeal.main_arg1))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v0)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v0) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v1) = v0 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)) →
    ∃ (v0 : (c : Dev Cert.PleIdeal.nD) → Buf (Elt Ideal) ((c.tc : Thread Cert.PleIdeal.nD Cert.PleIdeal.τ).loc Cert.PleIdeal.main_v0_0)) (v1 : (c : Dev Cert.PleIdeal.nD) → Buf (Elt Ideal) ((c.tc : Thread Cert.PleIdeal.nD Cert.PleIdeal.τ).loc Cert.PleIdeal.main_v0_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0_0) = v0 c
          ∧ r.2.mem ((c.tc : Thread Cert.PleIdeal.nD Cert.PleIdeal.τ).loc Cert.PleIdeal.main_v0_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v13) = v0 c
          ∧ r.2.mem ((c.tc : Thread Cert.PleRefIdeal.nD Cert.PleRefIdeal.τ).loc Cert.PleRefIdeal.main_v14) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2))

def preserves_RmsPost_RmsPostIdeal : Prop :=
  True

def algebraic_RmsPostIdeal_RmsPostRefIdeal [hRmsPostIdeal : Cert.RmsPostIdeal.Facts] [hRmsPostRefIdeal : Cert.RmsPostRefIdeal.Facts] : Prop :=
  ∀ (m : (ℓ : Loc Cert.RmsPostIdeal.nD Cert.RmsPostIdeal.τ Cert.RmsPostIdeal.sig) → Buf (Elt Ideal) ℓ) (g : Dev Cert.RmsPostIdeal.nD → PrngReg)
    (m' : (ℓ : Loc Cert.RmsPostRefIdeal.nD Cert.RmsPostRefIdeal.τ Cert.RmsPostRefIdeal.sig) → Buf (Elt Ideal) ℓ) (g' : Dev Cert.RmsPostRefIdeal.nD → PrngReg), Pre_RmsPostIdeal m →
    (∀ c : Dev Cert.RmsPostIdeal.nD,
      m' ((c.tc : Thread Cert.RmsPostRefIdeal.nD Cert.RmsPostRefIdeal.τ).loc Cert.RmsPostRefIdeal.main_arg0) = m ((c.tc : Thread Cert.RmsPostIdeal.nD Cert.RmsPostIdeal.τ).loc Cert.RmsPostIdeal.main_arg0)
      ∧ m' ((c.tc : Thread Cert.RmsPostRefIdeal.nD Cert.RmsPostRefIdeal.τ).loc Cert.RmsPostRefIdeal.main_arg1) = m ((c.tc : Thread Cert.RmsPostIdeal.nD Cert.RmsPostIdeal.τ).loc Cert.RmsPostIdeal.main_arg1)
      ∧ m' ((c.tc : Thread Cert.RmsPostRefIdeal.nD Cert.RmsPostRefIdeal.τ).loc Cert.RmsPostRefIdeal.main_arg2) = m ((c.tc : Thread Cert.RmsPostIdeal.nD Cert.RmsPostIdeal.τ).loc Cert.RmsPostIdeal.main_arg2)) →
    ∃ (v0 : (c : Dev Cert.RmsPostIdeal.nD) → Buf (Elt Ideal) ((c.tc : Thread Cert.RmsPostIdeal.nD Cert.RmsPostIdeal.τ).loc Cert.RmsPostIdeal.main_v0_0)) (v1 : (c : Dev Cert.RmsPostIdeal.nD) → Buf (Elt Ideal) ((c.tc : Thread Cert.RmsPostIdeal.nD Cert.RmsPostIdeal.τ).loc Cert.RmsPostIdeal.main_v0_1)),
      θ_run (Cert.RmsPostIdeal.defs (F := Ideal)) (onTc (τ := Cert.RmsPostIdeal.τ) (Cert.RmsPostIdeal.main (F := Ideal))) ⟨m, fun _ => 0, g⟩ (fun r => ∀ c : Dev Cert.RmsPostIdeal.nD,
          r.2.mem ((c.tc : Thread Cert.RmsPostIdeal.nD Cert.RmsPostIdeal.τ).loc Cert.RmsPostIdeal.main_v0_0) = v0 c
          ∧ r.2.mem ((c.tc : Thread Cert.RmsPostIdeal.nD Cert.RmsPostIdeal.τ).loc Cert.RmsPostIdeal.main_v0_1) = v1 c
          ∧ r.2.mem ((c.tc : Thread Cert.RmsPostIdeal.nD Cert.RmsPostIdeal.τ).loc Cert.RmsPostIdeal.main_arg0) = m ((c.tc : Thread Cert.RmsPostIdeal.nD Cert.RmsPostIdeal.τ).loc Cert.RmsPostIdeal.main_arg0)
          ∧ r.2.mem ((c.tc : Thread Cert.RmsPostIdeal.nD Cert.RmsPostIdeal.τ).loc Cert.RmsPostIdeal.main_arg1) = m ((c.tc : Thread Cert.RmsPostIdeal.nD Cert.RmsPostIdeal.τ).loc Cert.RmsPostIdeal.main_arg1)
          ∧ r.2.mem ((c.tc : Thread Cert.RmsPostIdeal.nD Cert.RmsPostIdeal.τ).loc Cert.RmsPostIdeal.main_arg2) = m ((c.tc : Thread Cert.RmsPostIdeal.nD Cert.RmsPostIdeal.τ).loc Cert.RmsPostIdeal.main_arg2))
      ∧ θ_run (Cert.RmsPostRefIdeal.defs (F := Ideal)) (onTc (τ := Cert.RmsPostRefIdeal.τ) (Cert.RmsPostRefIdeal.main (F := Ideal))) ⟨m', fun _ => 0, g'⟩ (fun r => ∀ c : Dev Cert.RmsPostRefIdeal.nD,
          r.2.mem ((c.tc : Thread Cert.RmsPostRefIdeal.nD Cert.RmsPostRefIdeal.τ).loc Cert.RmsPostRefIdeal.main_v34) = v0 c
          ∧ r.2.mem ((c.tc : Thread Cert.RmsPostRefIdeal.nD Cert.RmsPostRefIdeal.τ).loc Cert.RmsPostRefIdeal.main_v17) = v1 c
          ∧ r.2.mem ((c.tc : Thread Cert.RmsPostRefIdeal.nD Cert.RmsPostRefIdeal.τ).loc Cert.RmsPostRefIdeal.main_arg0) = m' ((c.tc : Thread Cert.RmsPostRefIdeal.nD Cert.RmsPostRefIdeal.τ).loc Cert.RmsPostRefIdeal.main_arg0)
          ∧ r.2.mem ((c.tc : Thread Cert.RmsPostRefIdeal.nD Cert.RmsPostRefIdeal.τ).loc Cert.RmsPostRefIdeal.main_arg1) = m' ((c.tc : Thread Cert.RmsPostRefIdeal.nD Cert.RmsPostRefIdeal.τ).loc Cert.RmsPostRefIdeal.main_arg1)
          ∧ r.2.mem ((c.tc : Thread Cert.RmsPostRefIdeal.nD Cert.RmsPostRefIdeal.τ).loc Cert.RmsPostRefIdeal.main_arg2) = m' ((c.tc : Thread Cert.RmsPostRefIdeal.nD Cert.RmsPostRefIdeal.τ).loc Cert.RmsPostRefIdeal.main_arg2))

def preserves_RmsPre_RmsPreIdeal : Prop :=
  True

def algebraic_RmsPreIdeal_RmsPreRefIdeal [hRmsPreIdeal : Cert.RmsPreIdeal.Facts] [hRmsPreRefIdeal : Cert.RmsPreRefIdeal.Facts] : Prop :=
  ∀ (m : (ℓ : Loc Cert.RmsPreIdeal.nD Cert.RmsPreIdeal.τ Cert.RmsPreIdeal.sig) → Buf (Elt Ideal) ℓ) (g : Dev Cert.RmsPreIdeal.nD → PrngReg)
    (m' : (ℓ : Loc Cert.RmsPreRefIdeal.nD Cert.RmsPreRefIdeal.τ Cert.RmsPreRefIdeal.sig) → Buf (Elt Ideal) ℓ) (g' : Dev Cert.RmsPreRefIdeal.nD → PrngReg), Pre_RmsPreIdeal m →
    (∀ c : Dev Cert.RmsPreIdeal.nD,
      m' ((c.tc : Thread Cert.RmsPreRefIdeal.nD Cert.RmsPreRefIdeal.τ).loc Cert.RmsPreRefIdeal.main_arg0) = m ((c.tc : Thread Cert.RmsPreIdeal.nD Cert.RmsPreIdeal.τ).loc Cert.RmsPreIdeal.main_arg0)
      ∧ m' ((c.tc : Thread Cert.RmsPreRefIdeal.nD Cert.RmsPreRefIdeal.τ).loc Cert.RmsPreRefIdeal.main_arg1) = m ((c.tc : Thread Cert.RmsPreIdeal.nD Cert.RmsPreIdeal.τ).loc Cert.RmsPreIdeal.main_arg1)
      ∧ m' ((c.tc : Thread Cert.RmsPreRefIdeal.nD Cert.RmsPreRefIdeal.τ).loc Cert.RmsPreRefIdeal.main_arg2) = m ((c.tc : Thread Cert.RmsPreIdeal.nD Cert.RmsPreIdeal.τ).loc Cert.RmsPreIdeal.main_arg2)
      ∧ m' ((c.tc : Thread Cert.RmsPreRefIdeal.nD Cert.RmsPreRefIdeal.τ).loc Cert.RmsPreRefIdeal.main_arg3) = m ((c.tc : Thread Cert.RmsPreIdeal.nD Cert.RmsPreIdeal.τ).loc Cert.RmsPreIdeal.main_arg3)) →
    ∃ (v0 : (c : Dev Cert.RmsPreIdeal.nD) → Buf (Elt Ideal) ((c.tc : Thread Cert.RmsPreIdeal.nD Cert.RmsPreIdeal.τ).loc Cert.RmsPreIdeal.main_v0_0)) (v1 : (c : Dev Cert.RmsPreIdeal.nD) → Buf (Elt Ideal) ((c.tc : Thread Cert.RmsPreIdeal.nD Cert.RmsPreIdeal.τ).loc Cert.RmsPreIdeal.main_v0_1)),
      θ_run (Cert.RmsPreIdeal.defs (F := Ideal)) (onTc (τ := Cert.RmsPreIdeal.τ) (Cert.RmsPreIdeal.main (F := Ideal))) ⟨m, fun _ => 0, g⟩ (fun r => ∀ c : Dev Cert.RmsPreIdeal.nD,
          r.2.mem ((c.tc : Thread Cert.RmsPreIdeal.nD Cert.RmsPreIdeal.τ).loc Cert.RmsPreIdeal.main_v0_0) = v0 c
          ∧ r.2.mem ((c.tc : Thread Cert.RmsPreIdeal.nD Cert.RmsPreIdeal.τ).loc Cert.RmsPreIdeal.main_v0_1) = v1 c
          ∧ r.2.mem ((c.tc : Thread Cert.RmsPreIdeal.nD Cert.RmsPreIdeal.τ).loc Cert.RmsPreIdeal.main_arg0) = m ((c.tc : Thread Cert.RmsPreIdeal.nD Cert.RmsPreIdeal.τ).loc Cert.RmsPreIdeal.main_arg0)
          ∧ r.2.mem ((c.tc : Thread Cert.RmsPreIdeal.nD Cert.RmsPreIdeal.τ).loc Cert.RmsPreIdeal.main_arg1) = m ((c.tc : Thread Cert.RmsPreIdeal.nD Cert.RmsPreIdeal.τ).loc Cert.RmsPreIdeal.main_arg1)
          ∧ r.2.mem ((c.tc : Thread Cert.RmsPreIdeal.nD Cert.RmsPreIdeal.τ).loc Cert.RmsPreIdeal.main_arg2) = m ((c.tc : Thread Cert.RmsPreIdeal.nD Cert.RmsPreIdeal.τ).loc Cert.RmsPreIdeal.main_arg2)
          ∧ r.2.mem ((c.tc : Thread Cert.RmsPreIdeal.nD Cert.RmsPreIdeal.τ).loc Cert.RmsPreIdeal.main_arg3) = m ((c.tc : Thread Cert.RmsPreIdeal.nD Cert.RmsPreIdeal.τ).loc Cert.RmsPreIdeal.main_arg3))
      ∧ θ_run (Cert.RmsPreRefIdeal.defs (F := Ideal)) (onTc (τ := Cert.RmsPreRefIdeal.τ) (Cert.RmsPreRefIdeal.main (F := Ideal))) ⟨m', fun _ => 0, g'⟩ (fun r => ∀ c : Dev Cert.RmsPreRefIdeal.nD,
          r.2.mem ((c.tc : Thread Cert.RmsPreRefIdeal.nD Cert.RmsPreRefIdeal.τ).loc Cert.RmsPreRefIdeal.main_v35) = v0 c
          ∧ r.2.mem ((c.tc : Thread Cert.RmsPreRefIdeal.nD Cert.RmsPreRefIdeal.τ).loc Cert.RmsPreRefIdeal.main_v18) = v1 c
          ∧ r.2.mem ((c.tc : Thread Cert.RmsPreRefIdeal.nD Cert.RmsPreRefIdeal.τ).loc Cert.RmsPreRefIdeal.main_arg0) = m' ((c.tc : Thread Cert.RmsPreRefIdeal.nD Cert.RmsPreRefIdeal.τ).loc Cert.RmsPreRefIdeal.main_arg0)
          ∧ r.2.mem ((c.tc : Thread Cert.RmsPreRefIdeal.nD Cert.RmsPreRefIdeal.τ).loc Cert.RmsPreRefIdeal.main_arg1) = m' ((c.tc : Thread Cert.RmsPreRefIdeal.nD Cert.RmsPreRefIdeal.τ).loc Cert.RmsPreRefIdeal.main_arg1)
          ∧ r.2.mem ((c.tc : Thread Cert.RmsPreRefIdeal.nD Cert.RmsPreRefIdeal.τ).loc Cert.RmsPreRefIdeal.main_arg2) = m' ((c.tc : Thread Cert.RmsPreRefIdeal.nD Cert.RmsPreRefIdeal.τ).loc Cert.RmsPreRefIdeal.main_arg2)
          ∧ r.2.mem ((c.tc : Thread Cert.RmsPreRefIdeal.nD Cert.RmsPreRefIdeal.τ).loc Cert.RmsPreRefIdeal.main_arg3) = m' ((c.tc : Thread Cert.RmsPreRefIdeal.nD Cert.RmsPreRefIdeal.τ).loc Cert.RmsPreRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v12) = v0 c
          ∧ r.2.mem ((c.tc : Thread Cert.GateRefIdeal.nD Cert.GateRefIdeal.τ).loc Cert.GateRefIdeal.main_v11) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_RmsResFwd_RmsResFwdIdeal : Prop :=
  True

def algebraic_RmsResFwdIdeal_RmsResFwdRefIdeal [hRmsResFwdIdeal : Cert.RmsResFwdIdeal.Facts] [hRmsResFwdRefIdeal : Cert.RmsResFwdRefIdeal.Facts] : Prop :=
  ∀ (m : (ℓ : Loc Cert.RmsResFwdIdeal.nD Cert.RmsResFwdIdeal.τ Cert.RmsResFwdIdeal.sig) → Buf (Elt Ideal) ℓ) (g : Dev Cert.RmsResFwdIdeal.nD → PrngReg)
    (m' : (ℓ : Loc Cert.RmsResFwdRefIdeal.nD Cert.RmsResFwdRefIdeal.τ Cert.RmsResFwdRefIdeal.sig) → Buf (Elt Ideal) ℓ) (g' : Dev Cert.RmsResFwdRefIdeal.nD → PrngReg), Pre_RmsResFwdIdeal m →
    (∀ c : Dev Cert.RmsResFwdIdeal.nD,
      m' ((c.tc : Thread Cert.RmsResFwdRefIdeal.nD Cert.RmsResFwdRefIdeal.τ).loc Cert.RmsResFwdRefIdeal.main_arg0) = m ((c.tc : Thread Cert.RmsResFwdIdeal.nD Cert.RmsResFwdIdeal.τ).loc Cert.RmsResFwdIdeal.main_arg0)
      ∧ m' ((c.tc : Thread Cert.RmsResFwdRefIdeal.nD Cert.RmsResFwdRefIdeal.τ).loc Cert.RmsResFwdRefIdeal.main_arg1) = m ((c.tc : Thread Cert.RmsResFwdIdeal.nD Cert.RmsResFwdIdeal.τ).loc Cert.RmsResFwdIdeal.main_arg1)
      ∧ m' ((c.tc : Thread Cert.RmsResFwdRefIdeal.nD Cert.RmsResFwdRefIdeal.τ).loc Cert.RmsResFwdRefIdeal.main_arg2) = m ((c.tc : Thread Cert.RmsResFwdIdeal.nD Cert.RmsResFwdIdeal.τ).loc Cert.RmsResFwdIdeal.main_arg2)) →
    ∃ (v0 : (c : Dev Cert.RmsResFwdIdeal.nD) → Buf (Elt Ideal) ((c.tc : Thread Cert.RmsResFwdIdeal.nD Cert.RmsResFwdIdeal.τ).loc Cert.RmsResFwdIdeal.main_v0_0)) (v1 : (c : Dev Cert.RmsResFwdIdeal.nD) → Buf (Elt Ideal) ((c.tc : Thread Cert.RmsResFwdIdeal.nD Cert.RmsResFwdIdeal.τ).loc Cert.RmsResFwdIdeal.main_v0_1)),
      θ_run (Cert.RmsResFwdIdeal.defs (F := Ideal)) (onTc (τ := Cert.RmsResFwdIdeal.τ) (Cert.RmsResFwdIdeal.main (F := Ideal))) ⟨m, fun _ => 0, g⟩ (fun r => ∀ c : Dev Cert.RmsResFwdIdeal.nD,
          r.2.mem ((c.tc : Thread Cert.RmsResFwdIdeal.nD Cert.RmsResFwdIdeal.τ).loc Cert.RmsResFwdIdeal.main_v0_0) = v0 c
          ∧ r.2.mem ((c.tc : Thread Cert.RmsResFwdIdeal.nD Cert.RmsResFwdIdeal.τ).loc Cert.RmsResFwdIdeal.main_v0_1) = v1 c
          ∧ r.2.mem ((c.tc : Thread Cert.RmsResFwdIdeal.nD Cert.RmsResFwdIdeal.τ).loc Cert.RmsResFwdIdeal.main_arg0) = m ((c.tc : Thread Cert.RmsResFwdIdeal.nD Cert.RmsResFwdIdeal.τ).loc Cert.RmsResFwdIdeal.main_arg0)
          ∧ r.2.mem ((c.tc : Thread Cert.RmsResFwdIdeal.nD Cert.RmsResFwdIdeal.τ).loc Cert.RmsResFwdIdeal.main_arg1) = m ((c.tc : Thread Cert.RmsResFwdIdeal.nD Cert.RmsResFwdIdeal.τ).loc Cert.RmsResFwdIdeal.main_arg1)
          ∧ r.2.mem ((c.tc : Thread Cert.RmsResFwdIdeal.nD Cert.RmsResFwdIdeal.τ).loc Cert.RmsResFwdIdeal.main_arg2) = m ((c.tc : Thread Cert.RmsResFwdIdeal.nD Cert.RmsResFwdIdeal.τ).loc Cert.RmsResFwdIdeal.main_arg2))
      ∧ θ_run (Cert.RmsResFwdRefIdeal.defs (F := Ideal)) (onTc (τ := Cert.RmsResFwdRefIdeal.τ) (Cert.RmsResFwdRefIdeal.main (F := Ideal))) ⟨m', fun _ => 0, g'⟩ (fun r => ∀ c : Dev Cert.RmsResFwdRefIdeal.nD,
          r.2.mem ((c.tc : Thread Cert.RmsResFwdRefIdeal.nD Cert.RmsResFwdRefIdeal.τ).loc Cert.RmsResFwdRefIdeal.main_v12) = v0 c
          ∧ r.2.mem ((c.tc : Thread Cert.RmsResFwdRefIdeal.nD Cert.RmsResFwdRefIdeal.τ).loc Cert.RmsResFwdRefIdeal.main_v13) = v1 c
          ∧ r.2.mem ((c.tc : Thread Cert.RmsResFwdRefIdeal.nD Cert.RmsResFwdRefIdeal.τ).loc Cert.RmsResFwdRefIdeal.main_arg0) = m' ((c.tc : Thread Cert.RmsResFwdRefIdeal.nD Cert.RmsResFwdRefIdeal.τ).loc Cert.RmsResFwdRefIdeal.main_arg0)
          ∧ r.2.mem ((c.tc : Thread Cert.RmsResFwdRefIdeal.nD Cert.RmsResFwdRefIdeal.τ).loc Cert.RmsResFwdRefIdeal.main_arg1) = m' ((c.tc : Thread Cert.RmsResFwdRefIdeal.nD Cert.RmsResFwdRefIdeal.τ).loc Cert.RmsResFwdRefIdeal.main_arg1)
          ∧ r.2.mem ((c.tc : Thread Cert.RmsResFwdRefIdeal.nD Cert.RmsResFwdRefIdeal.τ).loc Cert.RmsResFwdRefIdeal.main_arg2) = m' ((c.tc : Thread Cert.RmsResFwdRefIdeal.nD Cert.RmsResFwdRefIdeal.τ).loc Cert.RmsResFwdRefIdeal.main_arg2))

def preserves_PleFwd_PleFwdIdeal : Prop :=
  True

def algebraic_PleFwdIdeal_PleFwdRefIdeal [hPleFwdIdeal : Cert.PleFwdIdeal.Facts] [hPleFwdRefIdeal : Cert.PleFwdRefIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)) →
    ∃ (v0 : (c : Dev Cert.PleFwdIdeal.nD) → Buf (Elt Ideal) ((c.tc : Thread Cert.PleFwdIdeal.nD Cert.PleFwdIdeal.τ).loc Cert.PleFwdIdeal.main_v0)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v0) = v0 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v7) = v0 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2))

def preserves_RwkvPost_RwkvPostIdeal : Prop :=
  True

def algebraic_RwkvPostIdeal_RwkvPostRefIdeal_pre_finite_mix [hRwkvPostIdeal : Cert.RwkvPostIdeal.Facts] [hRwkvPostRefIdeal : Cert.RwkvPostRefIdeal.Facts] [hPre_finite_mix : Cert.Pre_finite_mix.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg)
    (m' : (ℓ : Loc Cert.RwkvPostRefIdeal.nD Cert.RwkvPostRefIdeal.τ Cert.RwkvPostRefIdeal.sig) → Buf (Elt Ideal) ℓ) (g' : Dev Cert.RwkvPostRefIdeal.nD → PrngReg), Pre_RwkvPostIdeal_finite_mix m →
    (∀ c : Dev Cert.RwkvPostIdeal.nD,
      m' ((c.tc : Thread Cert.RwkvPostRefIdeal.nD Cert.RwkvPostRefIdeal.τ).loc Cert.RwkvPostRefIdeal.main_arg0) = m ((c.tc : Thread Cert.RwkvPostIdeal.nD Cert.RwkvPostIdeal.τ).loc Cert.RwkvPostIdeal.main_arg0)
      ∧ m' ((c.tc : Thread Cert.RwkvPostRefIdeal.nD Cert.RwkvPostRefIdeal.τ).loc Cert.RwkvPostRefIdeal.main_arg1) = m ((c.tc : Thread Cert.RwkvPostIdeal.nD Cert.RwkvPostIdeal.τ).loc Cert.RwkvPostIdeal.main_arg1)
      ∧ m' ((c.tc : Thread Cert.RwkvPostRefIdeal.nD Cert.RwkvPostRefIdeal.τ).loc Cert.RwkvPostRefIdeal.main_arg2) = m ((c.tc : Thread Cert.RwkvPostIdeal.nD Cert.RwkvPostIdeal.τ).loc Cert.RwkvPostIdeal.main_arg2)
      ∧ m' ((c.tc : Thread Cert.RwkvPostRefIdeal.nD Cert.RwkvPostRefIdeal.τ).loc Cert.RwkvPostRefIdeal.main_arg3) = m ((c.tc : Thread Cert.RwkvPostIdeal.nD Cert.RwkvPostIdeal.τ).loc Cert.RwkvPostIdeal.main_arg3)
      ∧ m' ((c.tc : Thread Cert.RwkvPostRefIdeal.nD Cert.RwkvPostRefIdeal.τ).loc Cert.RwkvPostRefIdeal.main_arg4) = m ((c.tc : Thread Cert.RwkvPostIdeal.nD Cert.RwkvPostIdeal.τ).loc Cert.RwkvPostIdeal.main_arg4)
      ∧ m' ((c.tc : Thread Cert.RwkvPostRefIdeal.nD Cert.RwkvPostRefIdeal.τ).loc Cert.RwkvPostRefIdeal.main_arg5) = m ((c.tc : Thread Cert.RwkvPostIdeal.nD Cert.RwkvPostIdeal.τ).loc Cert.RwkvPostIdeal.main_arg5)
      ∧ m' ((c.tc : Thread Cert.RwkvPostRefIdeal.nD Cert.RwkvPostRefIdeal.τ).loc Cert.RwkvPostRefIdeal.main_arg6) = m ((c.tc : Thread Cert.RwkvPostIdeal.nD Cert.RwkvPostIdeal.τ).loc Cert.RwkvPostIdeal.main_arg6)
      ∧ m' ((c.tc : Thread Cert.RwkvPostRefIdeal.nD Cert.RwkvPostRefIdeal.τ).loc Cert.RwkvPostRefIdeal.main_arg7) = m ((c.tc : Thread Cert.RwkvPostIdeal.nD Cert.RwkvPostIdeal.τ).loc Cert.RwkvPostIdeal.main_arg7)
      ∧ m' ((c.tc : Thread Cert.RwkvPostRefIdeal.nD Cert.RwkvPostRefIdeal.τ).loc Cert.RwkvPostRefIdeal.main_arg8) = m ((c.tc : Thread Cert.RwkvPostIdeal.nD Cert.RwkvPostIdeal.τ).loc Cert.RwkvPostIdeal.main_arg8)) →
    ∃ (v0 : (c : Dev Cert.RwkvPostIdeal.nD) → Buf (Elt Ideal) ((c.tc : Thread Cert.RwkvPostIdeal.nD Cert.RwkvPostIdeal.τ).loc Cert.RwkvPostIdeal.main_v0_0)) (v1 : (c : Dev Cert.RwkvPostIdeal.nD) → Buf (Elt Ideal) ((c.tc : Thread Cert.RwkvPostIdeal.nD Cert.RwkvPostIdeal.τ).loc Cert.RwkvPostIdeal.main_v0_1)) (v2 : (c : Dev Cert.RwkvPostIdeal.nD) → Buf (Elt Ideal) ((c.tc : Thread Cert.RwkvPostIdeal.nD Cert.RwkvPostIdeal.τ).loc Cert.RwkvPostIdeal.main_v0_2)) (v3 : (c : Dev Cert.RwkvPostIdeal.nD) → Buf (Elt Ideal) ((c.tc : Thread Cert.RwkvPostIdeal.nD Cert.RwkvPostIdeal.τ).loc Cert.RwkvPostIdeal.main_v0_3)) (v4 : (c : Dev Cert.RwkvPostIdeal.nD) → Buf (Elt Ideal) ((c.tc : Thread Cert.RwkvPostIdeal.nD Cert.RwkvPostIdeal.τ).loc Cert.RwkvPostIdeal.main_v0_4)) (v5 : (c : Dev Cert.RwkvPostIdeal.nD) → Buf (Elt Ideal) ((c.tc : Thread Cert.RwkvPostIdeal.nD Cert.RwkvPostIdeal.τ).loc Cert.RwkvPostIdeal.main_v0_5)) (v6 : (c : Dev Cert.RwkvPostIdeal.nD) → Buf (Elt Ideal) ((c.tc : Thread Cert.RwkvPostIdeal.nD Cert.RwkvPostIdeal.τ).loc Cert.RwkvPostIdeal.main_v0_6)) (v7 : (c : Dev Cert.RwkvPostIdeal.nD) → Buf (Elt Ideal) ((c.tc : Thread Cert.RwkvPostIdeal.nD Cert.RwkvPostIdeal.τ).loc Cert.RwkvPostIdeal.main_v0_7)),
      θ_run (Cert.RwkvPostIdeal.defs (F := Ideal)) (onTc (τ := Cert.RwkvPostIdeal.τ) (Cert.RwkvPostIdeal.main (F := Ideal))) ⟨m, fun _ => 0, g⟩ (fun r => ∀ c : Dev Cert.RwkvPostIdeal.nD,
          r.2.mem ((c.tc : Thread Cert.RwkvPostIdeal.nD Cert.RwkvPostIdeal.τ).loc Cert.RwkvPostIdeal.main_v0_0) = v0 c
          ∧ r.2.mem ((c.tc : Thread Cert.RwkvPostIdeal.nD Cert.RwkvPostIdeal.τ).loc Cert.RwkvPostIdeal.main_v0_1) = v1 c
          ∧ r.2.mem ((c.tc : Thread Cert.RwkvPostIdeal.nD Cert.RwkvPostIdeal.τ).loc Cert.RwkvPostIdeal.main_v0_2) = v2 c
          ∧ r.2.mem ((c.tc : Thread Cert.RwkvPostIdeal.nD Cert.RwkvPostIdeal.τ).loc Cert.RwkvPostIdeal.main_v0_3) = v3 c
          ∧ r.2.mem ((c.tc : Thread Cert.RwkvPostIdeal.nD Cert.RwkvPostIdeal.τ).loc Cert.RwkvPostIdeal.main_v0_4) = v4 c
          ∧ r.2.mem ((c.tc : Thread Cert.RwkvPostIdeal.nD Cert.RwkvPostIdeal.τ).loc Cert.RwkvPostIdeal.main_v0_5) = v5 c
          ∧ r.2.mem ((c.tc : Thread Cert.RwkvPostIdeal.nD Cert.RwkvPostIdeal.τ).loc Cert.RwkvPostIdeal.main_v0_6) = v6 c
          ∧ r.2.mem ((c.tc : Thread Cert.RwkvPostIdeal.nD Cert.RwkvPostIdeal.τ).loc Cert.RwkvPostIdeal.main_v0_7) = v7 c
          ∧ r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
          ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
          ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
          ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
          ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4)
          ∧ r.2.mem ((c.tc : Thread Cert.RwkvPostIdeal.nD Cert.RwkvPostIdeal.τ).loc Cert.RwkvPostIdeal.main_arg5) = m ((c.tc : Thread Cert.RwkvPostIdeal.nD Cert.RwkvPostIdeal.τ).loc Cert.RwkvPostIdeal.main_arg5)
          ∧ r.2.mem ((c.tc : Thread Cert.RwkvPostIdeal.nD Cert.RwkvPostIdeal.τ).loc Cert.RwkvPostIdeal.main_arg6) = m ((c.tc : Thread Cert.RwkvPostIdeal.nD Cert.RwkvPostIdeal.τ).loc Cert.RwkvPostIdeal.main_arg6)
          ∧ r.2.mem ((c.tc : Thread Cert.RwkvPostIdeal.nD Cert.RwkvPostIdeal.τ).loc Cert.RwkvPostIdeal.main_arg7) = m ((c.tc : Thread Cert.RwkvPostIdeal.nD Cert.RwkvPostIdeal.τ).loc Cert.RwkvPostIdeal.main_arg7)
          ∧ r.2.mem ((c.tc : Thread Cert.RwkvPostIdeal.nD Cert.RwkvPostIdeal.τ).loc Cert.RwkvPostIdeal.main_arg8) = m ((c.tc : Thread Cert.RwkvPostIdeal.nD Cert.RwkvPostIdeal.τ).loc Cert.RwkvPostIdeal.main_arg8))
      ∧ θ_run (Cert.RwkvPostRefIdeal.defs (F := Ideal)) (onTc (τ := Cert.RwkvPostRefIdeal.τ) (Cert.RwkvPostRefIdeal.main (F := Ideal))) ⟨m', fun _ => 0, g'⟩ (fun r => ∀ c : Dev Cert.RwkvPostRefIdeal.nD,
          r.2.mem ((c.tc : Thread Cert.RwkvPostRefIdeal.nD Cert.RwkvPostRefIdeal.τ).loc Cert.RwkvPostRefIdeal.main_v101) = v0 c
          ∧ r.2.mem ((c.tc : Thread Cert.RwkvPostRefIdeal.nD Cert.RwkvPostRefIdeal.τ).loc Cert.RwkvPostRefIdeal.main_v68) = v1 c
          ∧ r.2.mem ((c.tc : Thread Cert.RwkvPostRefIdeal.nD Cert.RwkvPostRefIdeal.τ).loc Cert.RwkvPostRefIdeal.main_v67) = v2 c
          ∧ r.2.mem ((c.tc : Thread Cert.RwkvPostRefIdeal.nD Cert.RwkvPostRefIdeal.τ).loc Cert.RwkvPostRefIdeal.main_v56) = v3 c
          ∧ r.2.mem ((c.tc : Thread Cert.RwkvPostRefIdeal.nD Cert.RwkvPostRefIdeal.τ).loc Cert.RwkvPostRefIdeal.main_v102) = v4 c
          ∧ r.2.mem ((c.tc : Thread Cert.RwkvPostRefIdeal.nD Cert.RwkvPostRefIdeal.τ).loc Cert.RwkvPostRefIdeal.main_v73) = v5 c
          ∧ r.2.mem ((c.tc : Thread Cert.RwkvPostRefIdeal.nD Cert.RwkvPostRefIdeal.τ).loc Cert.RwkvPostRefIdeal.main_v70) = v6 c
          ∧ r.2.mem ((c.tc : Thread Cert.RwkvPostRefIdeal.nD Cert.RwkvPostRefIdeal.τ).loc Cert.RwkvPostRefIdeal.main_v64) = v7 c
          ∧ r.2.mem ((c.tc : Thread Cert.RwkvPostRefIdeal.nD Cert.RwkvPostRefIdeal.τ).loc Cert.RwkvPostRefIdeal.main_arg0) = m' ((c.tc : Thread Cert.RwkvPostRefIdeal.nD Cert.RwkvPostRefIdeal.τ).loc Cert.RwkvPostRefIdeal.main_arg0)
          ∧ r.2.mem ((c.tc : Thread Cert.RwkvPostRefIdeal.nD Cert.RwkvPostRefIdeal.τ).loc Cert.RwkvPostRefIdeal.main_arg1) = m' ((c.tc : Thread Cert.RwkvPostRefIdeal.nD Cert.RwkvPostRefIdeal.τ).loc Cert.RwkvPostRefIdeal.main_arg1)
          ∧ r.2.mem ((c.tc : Thread Cert.RwkvPostRefIdeal.nD Cert.RwkvPostRefIdeal.τ).loc Cert.RwkvPostRefIdeal.main_arg2) = m' ((c.tc : Thread Cert.RwkvPostRefIdeal.nD Cert.RwkvPostRefIdeal.τ).loc Cert.RwkvPostRefIdeal.main_arg2)
          ∧ r.2.mem ((c.tc : Thread Cert.RwkvPostRefIdeal.nD Cert.RwkvPostRefIdeal.τ).loc Cert.RwkvPostRefIdeal.main_arg3) = m' ((c.tc : Thread Cert.RwkvPostRefIdeal.nD Cert.RwkvPostRefIdeal.τ).loc Cert.RwkvPostRefIdeal.main_arg3)
          ∧ r.2.mem ((c.tc : Thread Cert.RwkvPostRefIdeal.nD Cert.RwkvPostRefIdeal.τ).loc Cert.RwkvPostRefIdeal.main_arg4) = m' ((c.tc : Thread Cert.RwkvPostRefIdeal.nD Cert.RwkvPostRefIdeal.τ).loc Cert.RwkvPostRefIdeal.main_arg4)
          ∧ r.2.mem ((c.tc : Thread Cert.RwkvPostRefIdeal.nD Cert.RwkvPostRefIdeal.τ).loc Cert.RwkvPostRefIdeal.main_arg5) = m' ((c.tc : Thread Cert.RwkvPostRefIdeal.nD Cert.RwkvPostRefIdeal.τ).loc Cert.RwkvPostRefIdeal.main_arg5)
          ∧ r.2.mem ((c.tc : Thread Cert.RwkvPostRefIdeal.nD Cert.RwkvPostRefIdeal.τ).loc Cert.RwkvPostRefIdeal.main_arg6) = m' ((c.tc : Thread Cert.RwkvPostRefIdeal.nD Cert.RwkvPostRefIdeal.τ).loc Cert.RwkvPostRefIdeal.main_arg6)
          ∧ r.2.mem ((c.tc : Thread Cert.RwkvPostRefIdeal.nD Cert.RwkvPostRefIdeal.τ).loc Cert.RwkvPostRefIdeal.main_arg7) = m' ((c.tc : Thread Cert.RwkvPostRefIdeal.nD Cert.RwkvPostRefIdeal.τ).loc Cert.RwkvPostRefIdeal.main_arg7)
          ∧ r.2.mem ((c.tc : Thread Cert.RwkvPostRefIdeal.nD Cert.RwkvPostRefIdeal.τ).loc Cert.RwkvPostRefIdeal.main_arg8) = m' ((c.tc : Thread Cert.RwkvPostRefIdeal.nD Cert.RwkvPostRefIdeal.τ).loc Cert.RwkvPostRefIdeal.main_arg8))

def Claim : Prop :=
  ∃ (hKernel : Cert.Kernel.Facts) (hKernelIdeal : Cert.KernelIdeal.Facts) (hReferenceIdeal : Cert.ReferenceIdeal.Facts) (hDxCIn : Cert.DxCIn.Facts) (hDxCInIdeal : Cert.DxCInIdeal.Facts) (hDxCInRefIdeal : Cert.DxCInRefIdeal.Facts) (hDCIn : Cert.DCIn.Facts) (hDCInIdeal : Cert.DCInIdeal.Facts) (hDCInRefIdeal : Cert.DCInRefIdeal.Facts) (hDCOut : Cert.DCOut.Facts) (hDCOutIdeal : Cert.DCOutIdeal.Facts) (hDCOutRefIdeal : Cert.DCOutRefIdeal.Facts) (hDxCOut : Cert.DxCOut.Facts) (hDxCOutIdeal : Cert.DxCOutIdeal.Facts) (hDxCOutRefIdeal : Cert.DxCOutRefIdeal.Facts) (hDxPleGate : Cert.DxPleGate.Facts) (hDxPleGateIdeal : Cert.DxPleGateIdeal.Facts) (hDxPleGateRefIdeal : Cert.DxPleGateRefIdeal.Facts) (hDAbIn : Cert.DAbIn.Facts) (hDAbInIdeal : Cert.DAbInIdeal.Facts) (hDAbInRefIdeal : Cert.DAbInRefIdeal.Facts) (hDPleProj : Cert.DPleProj.Facts) (hDPleProjIdeal : Cert.DPleProjIdeal.Facts) (hDPleProjRefIdeal : Cert.DPleProjRefIdeal.Facts) (hAbIn : Cert.AbIn.Facts) (hAbInIdeal : Cert.AbInIdeal.Facts) (hAbInRefIdeal : Cert.AbInRefIdeal.Facts) (hCIn : Cert.CIn.Facts) (hCInIdeal : Cert.CInIdeal.Facts) (hCInRefIdeal : Cert.CInRefIdeal.Facts) (hCOut : Cert.COut.Facts) (hCOutIdeal : Cert.COutIdeal.Facts) (hCOutRefIdeal : Cert.COutRefIdeal.Facts) (hPleProj : Cert.PleProj.Facts) (hPleProjIdeal : Cert.PleProjIdeal.Facts) (hPleProjRefIdeal : Cert.PleProjRefIdeal.Facts) (hPle : Cert.Ple.Facts) (hPleIdeal : Cert.PleIdeal.Facts) (hPleRefIdeal : Cert.PleRefIdeal.Facts) (hRmsPost : Cert.RmsPost.Facts) (hRmsPostIdeal : Cert.RmsPostIdeal.Facts) (hRmsPostRefIdeal : Cert.RmsPostRefIdeal.Facts) (hRmsPre : Cert.RmsPre.Facts) (hRmsPreIdeal : Cert.RmsPreIdeal.Facts) (hRmsPreRefIdeal : Cert.RmsPreRefIdeal.Facts) (hGate : Cert.Gate.Facts) (hGateIdeal : Cert.GateIdeal.Facts) (hGateRefIdeal : Cert.GateRefIdeal.Facts) (hRmsFwd : Cert.RmsFwd.Facts) (hRmsFwdIdeal : Cert.RmsFwdIdeal.Facts) (hRmsFwdRefIdeal : Cert.RmsFwdRefIdeal.Facts) (hRmsResFwd : Cert.RmsResFwd.Facts) (hRmsResFwdIdeal : Cert.RmsResFwdIdeal.Facts) (hRmsResFwdRefIdeal : Cert.RmsResFwdRefIdeal.Facts) (hPleFwd : Cert.PleFwd.Facts) (hPleFwdIdeal : Cert.PleFwdIdeal.Facts) (hPleFwdRefIdeal : Cert.PleFwdRefIdeal.Facts) (hRwkvPost : Cert.RwkvPost.Facts) (hRwkvPostIdeal : Cert.RwkvPostIdeal.Facts) (hRwkvPostRefIdeal : Cert.RwkvPostRefIdeal.Facts) (hPre_finite : Cert.Pre_finite.Facts) (hPre_finite_mix : Cert.Pre_finite_mix.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DxCIn (hDxCIn := hDxCIn)
    ∧ quiescent_DxCInIdeal (hDxCInIdeal := hDxCInIdeal)
    ∧ quiescent_DxCInRefIdeal (hDxCInRefIdeal := hDxCInRefIdeal)
    ∧ quiescent_DCIn (hDCIn := hDCIn)
    ∧ quiescent_DCInIdeal (hDCInIdeal := hDCInIdeal)
    ∧ quiescent_DCInRefIdeal (hDCInRefIdeal := hDCInRefIdeal)
    ∧ quiescent_DCOut (hDCOut := hDCOut)
    ∧ quiescent_DCOutIdeal (hDCOutIdeal := hDCOutIdeal)
    ∧ quiescent_DCOutRefIdeal (hDCOutRefIdeal := hDCOutRefIdeal)
    ∧ quiescent_DxCOut (hDxCOut := hDxCOut)
    ∧ quiescent_DxCOutIdeal (hDxCOutIdeal := hDxCOutIdeal)
    ∧ quiescent_DxCOutRefIdeal (hDxCOutRefIdeal := hDxCOutRefIdeal)
    ∧ quiescent_DxPleGate (hDxPleGate := hDxPleGate)
    ∧ quiescent_DxPleGateIdeal (hDxPleGateIdeal := hDxPleGateIdeal)
    ∧ quiescent_DxPleGateRefIdeal (hDxPleGateRefIdeal := hDxPleGateRefIdeal)
    ∧ quiescent_DAbIn (hDAbIn := hDAbIn)
    ∧ quiescent_DAbInIdeal (hDAbInIdeal := hDAbInIdeal)
    ∧ quiescent_DAbInRefIdeal (hDAbInRefIdeal := hDAbInRefIdeal)
    ∧ quiescent_DPleProj (hDPleProj := hDPleProj)
    ∧ quiescent_DPleProjIdeal (hDPleProjIdeal := hDPleProjIdeal)
    ∧ quiescent_DPleProjRefIdeal (hDPleProjRefIdeal := hDPleProjRefIdeal)
    ∧ quiescent_AbIn (hAbIn := hAbIn)
    ∧ quiescent_AbInIdeal (hAbInIdeal := hAbInIdeal)
    ∧ quiescent_AbInRefIdeal (hAbInRefIdeal := hAbInRefIdeal)
    ∧ quiescent_CIn (hCIn := hCIn)
    ∧ quiescent_CInIdeal (hCInIdeal := hCInIdeal)
    ∧ quiescent_CInRefIdeal (hCInRefIdeal := hCInRefIdeal)
    ∧ quiescent_COut (hCOut := hCOut)
    ∧ quiescent_COutIdeal (hCOutIdeal := hCOutIdeal)
    ∧ quiescent_COutRefIdeal (hCOutRefIdeal := hCOutRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ quiescent_Ple (hPle := hPle)
    ∧ quiescent_PleIdeal (hPleIdeal := hPleIdeal)
    ∧ quiescent_PleRefIdeal (hPleRefIdeal := hPleRefIdeal)
    ∧ quiescent_RmsPost (hRmsPost := hRmsPost)
    ∧ quiescent_RmsPostIdeal (hRmsPostIdeal := hRmsPostIdeal)
    ∧ quiescent_RmsPostRefIdeal (hRmsPostRefIdeal := hRmsPostRefIdeal)
    ∧ quiescent_RmsPre (hRmsPre := hRmsPre)
    ∧ quiescent_RmsPreIdeal (hRmsPreIdeal := hRmsPreIdeal)
    ∧ quiescent_RmsPreRefIdeal (hRmsPreRefIdeal := hRmsPreRefIdeal)
    ∧ quiescent_Gate (hGate := hGate)
    ∧ quiescent_GateIdeal (hGateIdeal := hGateIdeal)
    ∧ quiescent_GateRefIdeal (hGateRefIdeal := hGateRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_RmsResFwd (hRmsResFwd := hRmsResFwd)
    ∧ quiescent_RmsResFwdIdeal (hRmsResFwdIdeal := hRmsResFwdIdeal)
    ∧ quiescent_RmsResFwdRefIdeal (hRmsResFwdRefIdeal := hRmsResFwdRefIdeal)
    ∧ quiescent_PleFwd (hPleFwd := hPleFwd)
    ∧ quiescent_PleFwdIdeal (hPleFwdIdeal := hPleFwdIdeal)
    ∧ quiescent_PleFwdRefIdeal (hPleFwdRefIdeal := hPleFwdRefIdeal)
    ∧ quiescent_RwkvPost (hRwkvPost := hRwkvPost)
    ∧ quiescent_RwkvPostIdeal (hRwkvPostIdeal := hRwkvPostIdeal)
    ∧ quiescent_RwkvPostIdeal_pre_finite_mix (hRwkvPostIdeal := hRwkvPostIdeal) (hPre_finite_mix := hPre_finite_mix)
    ∧ quiescent_RwkvPostRefIdeal (hRwkvPostRefIdeal := hRwkvPostRefIdeal)
    ∧ quiescent_RwkvPostRefIdeal_pre_finite_mix (hRwkvPostRefIdeal := hRwkvPostRefIdeal) (hPre_finite_mix := hPre_finite_mix)
    ∧ preserves_Kernel_KernelIdeal
    ∧ algebraic_KernelIdeal_ReferenceIdeal_pre_finite (hKernelIdeal := hKernelIdeal) (hReferenceIdeal := hReferenceIdeal) (hPre_finite := hPre_finite)
    ∧ preserves_DxCIn_DxCInIdeal
    ∧ algebraic_DxCInIdeal_DxCInRefIdeal (hDxCInIdeal := hDxCInIdeal) (hDxCInRefIdeal := hDxCInRefIdeal)
    ∧ preserves_DCIn_DCInIdeal
    ∧ algebraic_DCInIdeal_DCInRefIdeal (hDCInIdeal := hDCInIdeal) (hDCInRefIdeal := hDCInRefIdeal)
    ∧ preserves_DCOut_DCOutIdeal
    ∧ algebraic_DCOutIdeal_DCOutRefIdeal (hDCOutIdeal := hDCOutIdeal) (hDCOutRefIdeal := hDCOutRefIdeal)
    ∧ preserves_DxCOut_DxCOutIdeal
    ∧ algebraic_DxCOutIdeal_DxCOutRefIdeal (hDxCOutIdeal := hDxCOutIdeal) (hDxCOutRefIdeal := hDxCOutRefIdeal)
    ∧ preserves_DxPleGate_DxPleGateIdeal
    ∧ algebraic_DxPleGateIdeal_DxPleGateRefIdeal (hDxPleGateIdeal := hDxPleGateIdeal) (hDxPleGateRefIdeal := hDxPleGateRefIdeal)
    ∧ preserves_DAbIn_DAbInIdeal
    ∧ algebraic_DAbInIdeal_DAbInRefIdeal (hDAbInIdeal := hDAbInIdeal) (hDAbInRefIdeal := hDAbInRefIdeal)
    ∧ preserves_DPleProj_DPleProjIdeal
    ∧ algebraic_DPleProjIdeal_DPleProjRefIdeal (hDPleProjIdeal := hDPleProjIdeal) (hDPleProjRefIdeal := hDPleProjRefIdeal)
    ∧ preserves_AbIn_AbInIdeal
    ∧ algebraic_AbInIdeal_AbInRefIdeal (hAbInIdeal := hAbInIdeal) (hAbInRefIdeal := hAbInRefIdeal)
    ∧ preserves_CIn_CInIdeal
    ∧ algebraic_CInIdeal_CInRefIdeal (hCInIdeal := hCInIdeal) (hCInRefIdeal := hCInRefIdeal)
    ∧ preserves_COut_COutIdeal
    ∧ algebraic_COutIdeal_COutRefIdeal (hCOutIdeal := hCOutIdeal) (hCOutRefIdeal := hCOutRefIdeal)
    ∧ preserves_PleProj_PleProjIdeal
    ∧ algebraic_PleProjIdeal_PleProjRefIdeal (hPleProjIdeal := hPleProjIdeal) (hPleProjRefIdeal := hPleProjRefIdeal)
    ∧ preserves_Ple_PleIdeal
    ∧ algebraic_PleIdeal_PleRefIdeal (hPleIdeal := hPleIdeal) (hPleRefIdeal := hPleRefIdeal)
    ∧ preserves_RmsPost_RmsPostIdeal
    ∧ algebraic_RmsPostIdeal_RmsPostRefIdeal (hRmsPostIdeal := hRmsPostIdeal) (hRmsPostRefIdeal := hRmsPostRefIdeal)
    ∧ preserves_RmsPre_RmsPreIdeal
    ∧ algebraic_RmsPreIdeal_RmsPreRefIdeal (hRmsPreIdeal := hRmsPreIdeal) (hRmsPreRefIdeal := hRmsPreRefIdeal)
    ∧ preserves_Gate_GateIdeal
    ∧ algebraic_GateIdeal_GateRefIdeal (hGateIdeal := hGateIdeal) (hGateRefIdeal := hGateRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_RmsResFwd_RmsResFwdIdeal
    ∧ algebraic_RmsResFwdIdeal_RmsResFwdRefIdeal (hRmsResFwdIdeal := hRmsResFwdIdeal) (hRmsResFwdRefIdeal := hRmsResFwdRefIdeal)
    ∧ preserves_PleFwd_PleFwdIdeal
    ∧ algebraic_PleFwdIdeal_PleFwdRefIdeal (hPleFwdIdeal := hPleFwdIdeal) (hPleFwdRefIdeal := hPleFwdRefIdeal)
    ∧ preserves_RwkvPost_RwkvPostIdeal
    ∧ algebraic_RwkvPostIdeal_RwkvPostRefIdeal_pre_finite_mix (hRwkvPostIdeal := hRwkvPostIdeal) (hRwkvPostRefIdeal := hRwkvPostRefIdeal) (hPre_finite_mix := hPre_finite_mix)
-- ==== Pre_finite.lean ====
abbrev S4096x8448 : Shape := ⟨2, ![4096, 8448]⟩
abbrev S4096x128 : Shape := ⟨2, ![4096, 128]⟩
abbrev S4096x2048 : Shape := ⟨2, ![4096, 2048]⟩
abbrev S_ : Shape := ⟨0, ![]⟩

class Facts : Prop where
  bcast_S_S4096x8448 : S_.BroadcastsInDim S4096x8448 (![] : Fin 0 → Fin S4096x8448.rank)
  reducesTo_S4096x8448_S_d0_1 : S4096x8448.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x8448 .f32) (main_arg1 : FVec F S4096x128 .f32) (main_arg2 : FVec F S4096x2048 .bf16) : IVec S_ 1 × IVec S_ 1 × IVec S_ 1 :=
  let main_v0 : FVec F S4096x8448 .f32 := Host.absf main_arg0
  let main_cst : FVec F S_ .f32 := constant S_ .f32 0x7F800000#32
  let main_v1 : FVec F S4096x8448 .f32 := broadcastInDim S4096x8448 ![] bcast_S_S4096x8448 main_cst
  let main_v2 : IVec S4096x8448 1 := cmpf .olt main_v0 main_v1
  let main_c : IVec S_ 1 := constantI S_ 1 1#1
  let main_v3 : IVec S_ 1 := (fun x v => Host.reduce IntOp.andi x v reducesTo_S4096x8448_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : FVec F S4096x2048 .bf16 := Host.absf main_arg2
  let main_cst_2 : FVec F S_ .bf16 := constant S_ .bf16 0x7F80#16
  let main_v9 : FVec F S4096x2048 .bf16 := broadcastInDim S4096x2048 ![] bcast_S_S4096x2048 main_cst_2
  let main_v10 : IVec S4096x2048 1 := cmpf .olt main_v8 main_v9
  let main_c_3 : IVec S_ 1 := constantI S_ 1 1#1
  let main_v11 : IVec S_ 1 := (fun x v => Host.reduce IntOp.andi x v reducesTo_S4096x2048_S_d0_1 h_S_) main_v10 main_c_3
  (main_v3, main_v7, main_v11)
-- ==== Pre_finite_mix.lean ====
abbrev S4096x1024 : Shape := ⟨2, ![4096, 1024]⟩
abbrev S4096x8448 : Shape := ⟨2, ![4096, 8448]⟩
abbrev S1x1024 : Shape := ⟨2, ![1, 1024]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x8448 : S_.BroadcastsInDim S4096x8448 (![] : Fin 0 → Fin S4096x8448.rank)
  reducesTo_S4096x8448_S_d0_1 : S4096x8448.ReducesTo [0, 1] S_
  bcast_S_S1x1024 : S_.BroadcastsInDim S1x1024 (![] : Fin 0 → Fin S1x1024.rank)
  reducesTo_S1x1024_S_d0_1 : S1x1024.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part2 {F : FTy → Type} [FloatOps F] (main_arg8 : FVec F S4096x2048 .bf16) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 × IVec S_ 1 × IVec S_ 1 × IVec S_ 1 × IVec S_ 1 × IVec S_ 1 × IVec S_ 1 × IVec S_ 1 × IVec S_ 1 :=
  let main_v32 : FVec F S4096x2048 .bf16 := Host.absf main_arg8
  let main_cst_14 : FVec F S_ .bf16 := constant S_ .bf16 0x7F80#16
  let main_v33 : FVec F S4096x2048 .bf16 := broadcastInDim S4096x2048 ![] bcast_S_S4096x2048 main_cst_14
  let main_v34 : IVec S4096x2048 1 := cmpf .olt main_v32 main_v33
  let main_c_15 : IVec S_ 1 := constantI S_ 1 1#1
  let main_v35 : IVec S_ 1 := (fun x v => Host.reduce IntOp.andi x v reducesTo_S4096x2048_S_d0_1 h_S_) main_v34 main_c_15
  (main_v3, main_v7, main_v11, main_v15, main_v19, main_v23, main_v27, main_v31, main_v35)

def fn_part1 {F : FTy → Type} [FloatOps F] (main_arg4 : FVec F S4096x8448 .f32) (main_arg5 : FVec F S1x1024 .f32) (main_arg6 : FVec F S1x1024 .f32) (main_arg7 : FVec F S1x1024 .f32) (main_arg8 : FVec F S4096x2048 .bf16) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 × IVec S_ 1 :=
  let main_v16 : FVec F S4096x8448 .f32 := Host.absf main_arg4
  let main_cst_6 : FVec F S_ .f32 := constant S_ .f32 0x7F800000#32
  let main_v17 : FVec F S4096x8448 .f32 := broadcastInDim S4096x8448 ![] bcast_S_S4096x8448 main_cst_6
  let main_v18 : IVec S4096x8448 1 := cmpf .olt main_v16 main_v17
  let main_c_7 : IVec S_ 1 := constantI S_ 1 1#1
  let main_v19 : IVec S_ 1 := (fun x v => Host.reduce IntOp.andi x v reducesTo_S4096x8448_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1x1024 .f32 := Host.absf main_arg7
  let main_cst_12 : FVec F S_ .f32 := constant S_ .f32 0x7F800000#32
  let main_v29 : FVec F S1x1024 .f32 := broadcastInDim S1x1024 ![] bcast_S_S1x1024 main_cst_12
  let main_v30 : IVec S1x1024 1 := cmpf .olt main_v28 main_v29
  let main_c_13 : IVec S_ 1 := constantI S_ 1 1#1
  let main_v31 : IVec S_ 1 := (fun x v => Host.reduce IntOp.andi x v reducesTo_S1x1024_S_d0_1 h_S_) main_v30 main_c_13
  fn_part2 (F := F) main_arg8 main_v3 main_v7 main_v11 main_v15 main_v19 main_v23 main_v27 main_v31

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x8448 .f32) (main_arg5 : FVec F S1x1024 .f32) (main_arg6 : FVec F S1x1024 .f32) (main_arg7 : FVec F S1x1024 .f32) (main_arg8 : FVec F S4096x2048 .bf16) : IVec S_ 1 × IVec S_ 1 × IVec S_ 1 × IVec S_ 1 × IVec S_ 1 × IVec S_ 1 × IVec S_ 1 × IVec S_ 1 × IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : FVec F S4096x1024 .f32 := Host.absf main_arg3
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_arg4 main_arg5 main_arg6 main_arg7 main_arg8 main_v3 main_v7 main_v11 main_v15
-- ==== Kernel.lean ====
abbrev S4096x8448 : Shape := ⟨2, ![4096, 8448]⟩
abbrev S4096x128 : Shape := ⟨2, ![4096, 128]⟩
abbrev S4096x2048 : Shape := ⟨2, ![4096, 2048]⟩
abbrev S4096x1024 : Shape := ⟨2, ![4096, 1024]⟩
abbrev S2x2048x16x64 : Shape := ⟨4, ![2, 2048, 16, 64]⟩
abbrev S2x2048x128 : Shape := ⟨3, ![2, 2048, 128]⟩
abbrev S2x2048x16 : Shape := ⟨3, ![2, 2048, 16]⟩
abbrev S2x16x2048 : Shape := ⟨3, ![2, 16, 2048]⟩
abbrev S2x16x2048x2048 : Shape := ⟨4, ![2, 16, 2048, 2048]⟩
abbrev S_ : Shape := ⟨0, ![]⟩
abbrev S2x16x2048x1 : Shape := ⟨4, ![2, 16, 2048, 1]⟩
abbrev S2x16x1x2048 : Shape := ⟨4, ![2, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x16x64x2048 : Shape := ⟨4, ![2, 16, 64, 2048]⟩
abbrev S2x8x2x2048 : Shape := ⟨4, ![2, 8, 2, 2048]⟩
abbrev S2x8x8x2048 : Shape := ⟨4, ![2, 8, 8, 2048]⟩
abbrev S2048x128 : Shape := ⟨2, ![2048, 128]⟩
abbrev S1x1x8x2048 : Shape := ⟨4, ![1, 1, 8, 2048]⟩
abbrev S2048x64 : Shape := ⟨2, ![2048, 64]⟩
abbrev S1x1x1x2048 : Shape := ⟨4, ![1, 1, 1, 2048]⟩
abbrev S256x64 : Shape := ⟨2, ![256, 64]⟩
abbrev S256x256 : Shape := ⟨2, ![256, 256]⟩
abbrev S256x1 : Shape := ⟨2, ![256, 1]⟩
abbrev S1x256 : Shape := ⟨2, ![1, 256]⟩
abbrev S256 : Shape := ⟨1, ![256]⟩
abbrev S8x512 : Shape := ⟨2, ![8, 512]⟩
abbrev S256x512 : Shape := ⟨2, ![256, 512]⟩
abbrev S8x256 : Shape := ⟨2, ![8, 256]⟩
abbrev S512x64 : Shape := ⟨2, ![512, 64]⟩
abbrev S1x512 : Shape := ⟨2, ![1, 512]⟩
abbrev S512 : Shape := ⟨1, ![512]⟩
abbrev S8x1024 : Shape := ⟨2, ![8, 1024]⟩
abbrev S256x1024 : Shape := ⟨2, ![256, 1024]⟩
abbrev S768x64 : Shape := ⟨2, ![768, 64]⟩
abbrev S256x768 : Shape := ⟨2, ![256, 768]⟩
abbrev S1x768 : Shape := ⟨2, ![1, 768]⟩
abbrev S768 : Shape := ⟨1, ![768]⟩
abbrev S8x1536 : Shape := ⟨2, ![8, 1536]⟩
abbrev S256x1536 : Shape := ⟨2, ![256, 1536]⟩
abbrev S1024x64 : Shape := ⟨2, ![1024, 64]⟩
abbrev S1x1024 : Shape := ⟨2, ![1, 1024]⟩
abbrev S1024 : Shape := ⟨1, ![1024]⟩
abbrev S8x2048 : Shape := ⟨2, ![8, 2048]⟩
abbrev S256x2048 : Shape := ⟨2, ![256, 2048]⟩
abbrev S1280x64 : Shape := ⟨2, ![1280, 64]⟩
abbrev S256x1280 : Shape := ⟨2, ![256, 1280]⟩
abbrev S1x1280 : Shape := ⟨2, ![1, 1280]⟩
abbrev S1280 : Shape := ⟨1, ![1280]⟩
abbrev S8x2560 : Shape := ⟨2, ![8, 2560]⟩
abbrev S256x2560 : Shape := ⟨2, ![256, 2560]⟩
abbrev S1536x64 : Shape := ⟨2, ![1536, 64]⟩
abbrev S1x1536 : Shape := ⟨2, ![1, 1536]⟩
abbrev S1536 : Shape := ⟨1, ![1536]⟩
abbrev S8x3072 : Shape := ⟨2, ![8, 3072]⟩
abbrev S256x3072 : Shape := ⟨2, ![256, 3072]⟩
abbrev S1792x64 : Shape := ⟨2, ![1792, 64]⟩
abbrev S256x1792 : Shape := ⟨2, ![256, 1792]⟩
abbrev S1x1792 : Shape := ⟨2, ![1, 1792]⟩
abbrev S1792 : Shape := ⟨1, ![1792]⟩
abbrev S8x3584 : Shape := ⟨2, ![8, 3584]⟩
abbrev S256x3584 : Shape := ⟨2, ![256, 3584]⟩
abbrev S8x4096 : Shape := ⟨2, ![8, 4096]⟩
abbrev S256x4096 : Shape := ⟨2, ![256, 4096]⟩

abbrev nBuf : Space → Nat
  | .hbm => 65
  | .vmem => 29
  | .smem => 0
  | _ => 0

abbrev bufTy : (tb : Table) → Fin (tcTables nBuf tb) → BufTy
  | .hbm, ⟨0, _⟩ => ⟨S4096x8448, .f32⟩
  | .hbm, ⟨1, _⟩ => ⟨S4096x128, .f32⟩
  | .hbm, ⟨2, _⟩ => ⟨S4096x2048, .bf16⟩
  | .hbm, ⟨3, _⟩ => ⟨S4096x1024, .f32⟩
  | .hbm, ⟨4, _⟩ => ⟨S2x2048x16x64, .f32⟩
  | .hbm, ⟨5, _⟩ => ⟨S4096x1024, .f32⟩
  | .hbm, ⟨6, _⟩ => ⟨S2x2048x16x64, .f32⟩
  | .hbm, ⟨7, _⟩ => ⟨S4096x1024, .f32⟩
  | .hbm, ⟨8, _⟩ => ⟨S2x2048x16x64, .f32⟩
  | .hbm, ⟨9, _⟩ => ⟨S4096x1024, .f32⟩
  | .hbm, ⟨10, _⟩ => ⟨S2x2048x16x64, .f32⟩
  | .hbm, ⟨11, _⟩ => ⟨S2x2048x128, .f32⟩
  | .hbm, ⟨12, _⟩ => ⟨S2x2048x16, .f32⟩
  | .hbm, ⟨13, _⟩ => ⟨S2x16x2048, .f32⟩
  | .hbm, ⟨14, _⟩ => ⟨S2x16x2048x2048, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S2x16x2048x1, .f32⟩
  | .hbm, ⟨19, _⟩ => ⟨S2x16x1x2048, .f32⟩
  | .hbm, ⟨20, _⟩ => ⟨S2x16x2048x2048, .f32⟩
  | .hbm, ⟨21, _⟩ => ⟨S2x16x2048x2048, .f32⟩
  | .hbm, ⟨22, _⟩ => ⟨S2x16x2048x2048, .f32⟩
  | .hbm, ⟨23, _⟩ => ⟨S2048, .i32⟩
  | .hbm, ⟨24, _⟩ => ⟨S2048x1, .i32⟩
  | .hbm, ⟨25, _⟩ => ⟨S2048, .i32⟩
  | .hbm, ⟨26, _⟩ => ⟨S1x2048, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S2x16x2048x2048, .f32⟩
  | .hbm, ⟨31, _⟩ => ⟨S_, .f32⟩
  | .hbm, ⟨32, _⟩ => ⟨S_, .f32⟩
  | .hbm, ⟨33, _⟩ => ⟨S2x16x2048x2048, .i1⟩
  | .hbm, ⟨34, _⟩ => ⟨S2x16x2048x2048, .f32⟩
  | .hbm, ⟨35, _⟩ => ⟨S2x16x2048x2048, .f32⟩
  | .hbm, ⟨36, _⟩ => ⟨S_, .f32⟩
  | .hbm, ⟨37, _⟩ => ⟨S2x16x2048, .f32⟩
  | .hbm, ⟨38, _⟩ => ⟨S_, .f32⟩
  | .hbm, ⟨39, _⟩ => ⟨S2x16x2048, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x2048x2048, .f32⟩
  | .hbm, ⟨45, _⟩ => ⟨S_, .f32⟩
  | .hbm, ⟨46, _⟩ => ⟨S2x16x2048, .f32⟩
  | .hbm, ⟨47, _⟩ => ⟨S2x16x2048x1, .f32⟩
  | .hbm, ⟨48, _⟩ => ⟨S2x16x2048x2048, .f32⟩
  | .hbm, ⟨49, _⟩ => ⟨S2x16x2048x2048, .f32⟩
  | .hbm, ⟨50, _⟩ => ⟨S2x16x64x2048, .f32⟩
  | .hbm, ⟨51, _⟩ => ⟨S2x2048x16x64, .f32⟩
  | .hbm, ⟨52, _⟩ => ⟨S4096x1024, .f32⟩
  | .hbm, ⟨53, _⟩ => ⟨S2x2048x128, .f32⟩
  | .hbm, ⟨54, _⟩ => ⟨S2x2048x16, .f32⟩
  | .hbm, ⟨55, _⟩ => ⟨S2x16x2048, .f32⟩
  | .hbm, ⟨56, _⟩ => ⟨S2x8x2x2048, .f32⟩
  | .hbm, ⟨57, _⟩ => ⟨S_, .i32⟩
  | .hbm, ⟨58, _⟩ => ⟨S_, .f32⟩
  | .hbm, ⟨59, _⟩ => ⟨S2x8x8x2048, .f32⟩
  | .hbm, ⟨60, _⟩ => ⟨S4096x1024, .bf16⟩
  | .hbm, ⟨61, _⟩ => ⟨S4096x1024, .bf16⟩
  | .hbm, ⟨62, _⟩ => ⟨S4096x1024, .bf16⟩
  | .hbm, ⟨63, _⟩ => ⟨S4096x1024, .bf16⟩
  | .hbm, ⟨64, _⟩ => ⟨S2x8x8x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x1x8x2048, .f32⟩
  | .local _ .vmem, ⟨11, _⟩ => ⟨S1x1x8x2048, .f32⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S1x1x8x2048, .f32⟩
  | .local _ .vmem, ⟨25, _⟩ => ⟨S1x1x8x2048, .f32⟩
  | .local _ .vmem, ⟨26, _⟩ => ⟨S2048x64, .f32⟩
  | .local _ .vmem, ⟨27, _⟩ => ⟨S2048x64, .f32⟩
  | .local _ .vmem, ⟨28, _⟩ => ⟨S1x2048, .f32⟩
  | _, _ => ⟨S4096x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c : Ref sig .tc := ⟨.hbm, 57, rfl⟩
abbrev main_call1_v0 : Ref sig .tc := ⟨.hbm, 58, rfl⟩
abbrev main_v46 : Ref sig .tc := ⟨.hbm, 59, rfl⟩
abbrev main_v47_0 : Ref sig .tc := ⟨.hbm, 60, rfl⟩
abbrev main_v47_1 : Ref sig .tc := ⟨.hbm, 61, rfl⟩
abbrev main_v47_2 : Ref sig .tc := ⟨.hbm, 62, rfl⟩
abbrev main_v47_3 : Ref sig .tc := ⟨.hbm, 63, rfl⟩
abbrev main_v47_4 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x8x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S4096x8448 : Shape := ⟨2, ![4096, 8448]⟩
abbrev S4096x128 : Shape := ⟨2, ![4096, 128]⟩
abbrev S4096x2048 : Shape := ⟨2, ![4096, 2048]⟩
abbrev S4096x1024 : Shape := ⟨2, ![4096, 1024]⟩
abbrev S2x2048x16x64 : Shape := ⟨4, ![2, 2048, 16, 64]⟩
abbrev S2x2048x128 : Shape := ⟨3, ![2, 2048, 128]⟩
abbrev S2x2048x16 : Shape := ⟨3, ![2, 2048, 16]⟩
abbrev S2x16x2048 : Shape := ⟨3, ![2, 16, 2048]⟩
abbrev S2x16x2048x2048 : Shape := ⟨4, ![2, 16, 2048, 2048]⟩
abbrev S_ : Shape := ⟨0, ![]⟩
abbrev S2x16x2048x1 : Shape := ⟨4, ![2, 16, 2048, 1]⟩
abbrev S2x16x1x2048 : Shape := ⟨4, ![2, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x16x64x2048 : Shape := ⟨4, ![2, 16, 64, 2048]⟩
abbrev S2x16x2048x64 : Shape := ⟨4, ![2, 16, 2048, 64]⟩
abbrev S2x8x2x2048 : Shape := ⟨4, ![2, 8, 2, 2048]⟩
abbrev S2x8x8x2048 : Shape := ⟨4, ![2, 8, 8, 2048]⟩

abbrev nBuf : Space → Nat
  | .hbm => 155
  | .vmem => 0
  | .smem => 0
  | _ => 0

abbrev hbmTy0_0 (i : Nat) : BufTy := match i % 128 with
  | 0 => ⟨S4096x8448, .f32⟩
  | 1 => ⟨S4096x128, .f32⟩
  | 2 => ⟨S4096x2048, .bf16⟩
  | 3 => ⟨S4096x2048, .f32⟩
  | 4 => ⟨S4096x1024, .f32⟩
  | 5 => ⟨S2x2048x16x64, .f32⟩
  | 6 => ⟨S4096x1024, .f32⟩
  | 7 => ⟨S2x2048x16x64, .f32⟩
  | 8 => ⟨S4096x1024, .f32⟩
  | 9 => ⟨S2x2048x16x64, .f32⟩
  | 10 => ⟨S4096x1024, .f32⟩
  | 11 => ⟨S2x2048x16x64, .f32⟩
  | 12 => ⟨S4096x1024, .f32⟩
  | 13 => ⟨S2x2048x16x64, .f32⟩
  | 14 => ⟨S2x2048x128, .f32⟩
  | 15 => ⟨S2x2048x16, .f32⟩
  | 16 => ⟨S2x16x2048, .f32⟩
  | 17 => ⟨S2x16x2048x2048, .f32⟩
  | 18 => ⟨S_, .f32⟩
  | 19 => ⟨S2x16x2048x2048, .f32⟩
  | 20 => ⟨S2x16x2048x2048, .f32⟩
  | 21 => ⟨S2x16x2048x1, .f32⟩
  | 22 => ⟨S2x16x1x2048, .f32⟩
  | 23 => ⟨S2x16x2048x2048, .f32⟩
  | 24 => ⟨S2x16x2048x2048, .f32⟩
  | 25 => ⟨S2x16x2048x2048, .f32⟩
  | 26 => ⟨S2048, .i32⟩
  | 27 => ⟨S2048x1, .i32⟩
  | 28 => ⟨S2048, .i32⟩
  | 29 => ⟨S1x2048, .i32⟩
  | 30 => ⟨S2048x2048, .i32⟩
  | 31 => ⟨S2048x2048, .i32⟩
  | 32 => ⟨S2048x2048, .i1⟩
  | 33 => ⟨S2x16x2048x2048, .f32⟩
  | 34 => ⟨S_, .f32⟩
  | 35 => ⟨S_, .f32⟩
  | 36 => ⟨S2x16x2048x2048, .i1⟩
  | 37 => ⟨S2x16x2048x2048, .f32⟩
  | 38 => ⟨S2x16x2048x2048, .f32⟩
  | 39 => ⟨S_, .f32⟩
  | 40 => ⟨S2x16x2048x2048, .f32⟩
  | 41 => ⟨S_, .f32⟩
  | 42 => ⟨S2x16x2048, .f32⟩
  | 43 => ⟨S2x16x2048x1, .f32⟩
  | 44 => ⟨S2x16x2048x2048, .f32⟩
  | 45 => ⟨S2x16x2048x2048, .i1⟩
  | 46 => ⟨S2x16x2048x2048, .f32⟩
  | 47 => ⟨S_, .f32⟩
  | 48 => ⟨S2x16x2048, .f32⟩
  | 49 => ⟨S_, .f32⟩
  | 50 => ⟨S2x16x2048, .f32⟩
  | 51 => ⟨S2x16x2048, .f32⟩
  | 52 => ⟨S_, .f32⟩
  | 53 => ⟨S2x16x2048, .f32⟩
  | 54 => ⟨S2x16x2048, .i1⟩
  | 55 => ⟨S_, .f32⟩
  | 56 => ⟨S2x16x2048, .f32⟩
  | 57 => ⟨S2x16x2048, .i1⟩
  | 58 => ⟨S_, .f32⟩
  | 59 => ⟨S2x16x2048, .f32⟩
  | 60 => ⟨S_, .f32⟩
  | 61 => ⟨S2x16x2048, .f32⟩
  | 62 => ⟨S_, .f32⟩
  | 63 => ⟨S2x16x2048, .f32⟩
  | 64 => ⟨S2x16x2048, .f32⟩
  | 65 => ⟨S2x16x2048, .f32⟩
  | 66 => ⟨S2x16x2048x1, .f32⟩
  | 67 => ⟨S2x16x2048x2048, .f32⟩
  | 68 => ⟨S2x16x2048x2048, .f32⟩
  | 69 => ⟨S2x16x2048x2048, .f32⟩
  | 70 => ⟨S_, .f32⟩
  | 71 => ⟨S2x16x2048, .f32⟩
  | 72 => ⟨S2x16x2048x1, .f32⟩
  | 73 => ⟨S2x16x2048x2048, .f32⟩
  | 74 => ⟨S2x16x2048x2048, .f32⟩
  | 75 => ⟨S2x16x2048x1, .f32⟩
  | 76 => ⟨S_, .f32⟩
  | 77 => ⟨S2x16x2048x1, .f32⟩
  | 78 => ⟨S2x16x2048x1, .f32⟩
  | 79 => ⟨S2x16x64x2048, .f32⟩
  | 80 => ⟨S2x2048x16x64, .f32⟩
  | 81 => ⟨S2x2048x16x64, .f32⟩
  | 82 => ⟨S2x2048x16x64, .f32⟩
  | 83 => ⟨S_, .f32⟩
  | 84 => ⟨S2x2048x16x64, .f32⟩
  | 85 => ⟨S2x2048x16x64, .f32⟩
  | 86 => ⟨S_, .f32⟩
  | 87 => ⟨S2x2048x16x64, .f32⟩
  | 88 => ⟨S2x2048x16x64, .f32⟩
  | 89 => ⟨S_, .f32⟩
  | 90 => ⟨S2x2048x16x64, .f32⟩
  | 91 => ⟨S2x2048x16x64, .f32⟩
  | 92 => ⟨S2x2048x16x64, .f32⟩
  | 93 => ⟨S2x2048x16x64, .f32⟩
  | 94 => ⟨S2x2048x16x64, .f32⟩
  | 95 => ⟨S2x2048x16x64, .f32⟩
  | 96 => ⟨S2x2048x16x64, .f32⟩
  | 97 => ⟨S2x2048x16x64, .f32⟩
  | 98 => ⟨S2x2048x16x64, .f32⟩
  | 99 => ⟨S2x2048x16x64, .f32⟩
  | 100 => ⟨S2x2048x16x64, .f32⟩
  | 101 => ⟨S2x16x64x2048, .f32⟩
  | 102 => ⟨S2x16x2048x2048, .f32⟩
  | 103 => ⟨S2x16x64x2048, .f32⟩
  | 104 => ⟨S2x2048x16x64, .f32⟩
  | 105 => ⟨S2x16x2048x2048, .f32⟩
  | 106 => ⟨S2x16x2048x2048, .f32⟩
  | 107 => ⟨S2x16x2048x2048, .f32⟩
  | 108 => ⟨S_, .f32⟩
  | 109 => ⟨S2x16x2048, .f32⟩
  | 110 => ⟨S2x16x2048x1, .f32⟩
  | 111 => ⟨S2x16x2048x1, .f32⟩
  | 112 => ⟨S2x16x2048x2048, .f32⟩
  | 113 => ⟨S2x16x2048x2048, .f32⟩
  | 114 => ⟨S_, .f32⟩
  | 115 => ⟨S2x16x2048, .f32⟩
  | 116 => ⟨S2x16x2048x2048, .f32⟩
  | 117 => ⟨S2x16x2048x2048, .f32⟩
  | 118 => ⟨S2x16x2048x2048, .f32⟩
  | 119 => ⟨S_, .f32⟩
  | 120 => ⟨S2x16x2048x2048, .f32⟩
  | 121 => ⟨S2x16x2048x2048, .f32⟩
  | 122 => ⟨S_, .f32⟩
  | 123 => ⟨S2x16x2048, .f32⟩
  | 124 => ⟨S2x16x2048x1, .f32⟩
  | 125 => ⟨S2x16x2048x2048, .f32⟩
  | 126 => ⟨S_, .f32⟩
  | 127 => ⟨S2x16x2048, .f32⟩
  | _ => ⟨S4096x8448, .f32⟩

abbrev hbmTy0_1 (i : Nat) : BufTy := match i % 128 with
  | 0 => ⟨S2x16x1x2048, .f32⟩
  | 1 => ⟨S_, .f32⟩
  | 2 => ⟨S2x16x2048, .f32⟩
  | 3 => ⟨S_, .f32⟩
  | 4 => ⟨S2x16x2048, .f32⟩
  | 5 => ⟨S2x16x2048, .f32⟩
  | 6 => ⟨S_, .f32⟩
  | 7 => ⟨S2x16x2048x2048, .f32⟩
  | 8 => ⟨S2x16x2048x2048, .f32⟩
  | 9 => ⟨S2x16x2048x64, .f32⟩
  | 10 => ⟨S2x2048x16x64, .f32⟩
  | 11 => ⟨S2x16x2048x64, .f32⟩
  | 12 => ⟨S2x2048x16x64, .f32⟩
  | 13 => ⟨S2x2048x16, .f32⟩
  | 14 => ⟨S2x16x2048, .f32⟩
  | 15 => ⟨S2x8x2x2048, .f32⟩
  | 16 => ⟨S_, .i32⟩
  | 17 => ⟨S_, .f32⟩
  | 18 => ⟨S2x8x8x2048, .f32⟩
  | 19 => ⟨S4096x1024, .f32⟩
  | 20 => ⟨S4096x1024, .bf16⟩
  | 21 => ⟨S4096x1024, .f32⟩
  | 22 => ⟨S4096x1024, .bf16⟩
  | 23 => ⟨S4096x1024, .f32⟩
  | 24 => ⟨S4096x1024, .bf16⟩
  | 25 => ⟨S4096x1024, .f32⟩
  | 26 => ⟨S4096x1024, .bf16⟩
  | _ => ⟨S4096x8448, .f32⟩

abbrev hbmTy (i : Nat) : BufTy := match i / 128 with
  | 0 => hbmTy0_0 i
  | 1 => hbmTy0_1 i
  | _ => ⟨S4096x8448, .f32⟩

abbrev bufTy : (tb : Table) → Fin (tcTables nBuf tb) → BufTy
  | .hbm, ⟨i, _⟩ => hbmTy i
  | _, _ => ⟨S4096x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_call0_v0 : Ref sig .tc := ⟨.hbm, 35, rfl⟩
abbrev main_v30_1 : Ref sig .tc := ⟨.hbm, 36, rfl⟩
abbrev main_call0_v2 : Ref sig .tc := ⟨.hbm, 37, rfl⟩
abbrev main_v30_0 : Ref sig .tc := ⟨.hbm, 38, rfl⟩
abbrev main_call0_cst : Ref sig .tc := ⟨.hbm, 39, rfl⟩
abbrev main_v30_2 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_v61_2 : Ref sig .tc := ⟨.hbm, 88, rfl⟩
abbrev main_call1_cst_1 : Ref sig .tc := ⟨.hbm, 89, rfl⟩
abbrev main_call1_v6 : Ref sig .tc := ⟨.hbm, 90, rfl⟩
abbrev main_call1_v7 : Ref sig .tc := ⟨.hbm, 91, rfl⟩
abbrev main_v61_1 : Ref sig .tc := ⟨.hbm, 92, rfl⟩
abbrev main_v61_0 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_12 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_call3_cst : Ref sig .tc := ⟨.hbm, 119, rfl⟩
abbrev main_call3_v0 : Ref sig .tc := ⟨.hbm, 120, rfl⟩
abbrev main_v82 : Ref sig .tc := ⟨.hbm, 121, rfl⟩
abbrev main_cst_13 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_14 : Ref sig .tc := ⟨.hbm, 126, rfl⟩
abbrev main_v86 : Ref sig .tc := ⟨.hbm, 127, rfl⟩
abbrev main_v87 : Ref sig .tc := ⟨.hbm, 128, rfl⟩
abbrev main_cst_15 : Ref sig .tc := ⟨.hbm, 129, rfl⟩
abbrev main_v88 : Ref sig .tc := ⟨.hbm, 130, rfl⟩
abbrev main_cst_16 : Ref sig .tc := ⟨.hbm, 131, rfl⟩
abbrev main_v89 : Ref sig .tc := ⟨.hbm, 132, rfl⟩
abbrev main_v90 : Ref sig .tc := ⟨.hbm, 133, rfl⟩
abbrev main_cst_17 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_c : Ref sig .tc := ⟨.hbm, 144, rfl⟩
abbrev main_call4_v0 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩

abbrev nD : Nat := 1
abbrev τ : Topo := Topo.v7x

variable {F : FTy → Type} [FloatOps F]
-- ==== DxCIn.lean ====
abbrev S4096x6144 : Shape := ⟨2, ![4096, 6144]⟩
abbrev S2048x6144 : Shape := ⟨2, ![2048, 6144]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxCInIdeal.lean ====
abbrev S4096x6144 : Shape := ⟨2, ![4096, 6144]⟩
abbrev S2048x6144 : Shape := ⟨2, ![2048, 6144]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxCInRefIdeal.lean ====
abbrev S4096x6144 : Shape := ⟨2, ![4096, 6144]⟩
abbrev S2048x6144 : Shape := ⟨2, ![2048, 6144]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S_, .f32⟩
  | .hbm, ⟨3, _⟩ => ⟨S4096x2048, .f32⟩
  | .hbm, ⟨4, _⟩ => ⟨S2048x6144, .f32⟩
  | .hbm, ⟨5, _⟩ => ⟨S4096x6144, .f32⟩
  | .hbm, ⟨6, _⟩ => ⟨S4096x6144, .f32⟩
  | .hbm, ⟨7, _⟩ => ⟨S4096x2048, .f32⟩
  | .hbm, ⟨8, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DCIn.lean ====
abbrev S4096x2048 : Shape := ⟨2, ![4096, 2048]⟩
abbrev S4096x6144 : Shape := ⟨2, ![4096, 6144]⟩
abbrev S8x2048x768 : Shape := ⟨3, ![8, 2048, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S8x2048x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DCInIdeal.lean ====
abbrev S4096x2048 : Shape := ⟨2, ![4096, 2048]⟩
abbrev S4096x6144 : Shape := ⟨2, ![4096, 6144]⟩
abbrev S8x2048x768 : Shape := ⟨3, ![8, 2048, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S8x2048x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DCInRefIdeal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | .hbm, ⟨10, _⟩ => ⟨S2048x8x768, .bf16⟩
  | .hbm, ⟨11, _⟩ => ⟨S8x2048x768, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DCOut.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DCOutIdeal.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DCOutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DxCOut.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxCOutIdeal.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxCOutRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxPleGate.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxPleGateIdeal.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxPleGateRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DAbIn.lean ====
abbrev S4096x2048 : Shape := ⟨2, ![4096, 2048]⟩
abbrev S4096x8448 : Shape := ⟨2, ![4096, 8448]⟩
abbrev S4096x768 : Shape := ⟨2, ![4096, 768]⟩
abbrev S768x8448 : Shape := ⟨2, ![768, 8448]⟩
abbrev S2048x768 : Shape := ⟨2, ![2048, 768]⟩
abbrev S768x768 : Shape := ⟨2, ![768, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8448, .bf16⟩
  | .hbm, ⟨2, _⟩ => ⟨S4096x768, .bf16⟩
  | .hbm, ⟨3, _⟩ => ⟨S768x8448, .bf16⟩
  | .local _ .vmem, ⟨0, _⟩ => ⟨S2048x768, .bf16⟩
  | .local _ .vmem, ⟨1, _⟩ => ⟨S2048x768, .bf16⟩
  | .local _ .vmem, ⟨2, _⟩ => ⟨S2048x768, .bf16⟩
  | .local _ .vmem, ⟨3, _⟩ => ⟨S2048x768, .bf16⟩
  | .local _ .vmem, ⟨4, _⟩ => ⟨S768x768, .bf16⟩
  | .local _ .vmem, ⟨5, _⟩ => ⟨S768x768, .bf16⟩
  | .local _ .vmem, ⟨6, _⟩ => ⟨S768x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DAbInIdeal.lean ====
abbrev S4096x2048 : Shape := ⟨2, ![4096, 2048]⟩
abbrev S4096x8448 : Shape := ⟨2, ![4096, 8448]⟩
abbrev S4096x768 : Shape := ⟨2, ![4096, 768]⟩
abbrev S768x8448 : Shape := ⟨2, ![768, 8448]⟩
abbrev S2048x768 : Shape := ⟨2, ![2048, 768]⟩
abbrev S768x768 : Shape := ⟨2, ![768, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8448, .bf16⟩
  | .hbm, ⟨2, _⟩ => ⟨S4096x768, .bf16⟩
  | .hbm, ⟨3, _⟩ => ⟨S768x8448, .bf16⟩
  | .local _ .vmem, ⟨0, _⟩ => ⟨S2048x768, .bf16⟩
  | .local _ .vmem, ⟨1, _⟩ => ⟨S2048x768, .bf16⟩
  | .local _ .vmem, ⟨2, _⟩ => ⟨S2048x768, .bf16⟩
  | .local _ .vmem, ⟨3, _⟩ => ⟨S2048x768, .bf16⟩
  | .local _ .vmem, ⟨4, _⟩ => ⟨S768x768, .bf16⟩
  | .local _ .vmem, ⟨5, _⟩ => ⟨S768x768, .bf16⟩
  | .local _ .vmem, ⟨6, _⟩ => ⟨S768x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DAbInRefIdeal.lean ====
abbrev S4096x2048 : Shape := ⟨2, ![4096, 2048]⟩
abbrev S4096x8448 : Shape := ⟨2, ![4096, 8448]⟩
abbrev S_ : Shape := ⟨0, ![]⟩
abbrev S2048x8448 : Shape := ⟨2, ![2048, 8448]⟩
abbrev S8448x2048 : Shape := ⟨2, ![8448, 2048]⟩
abbrev S768x8448 : Shape := ⟨2, ![768, 8448]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8448, .bf16⟩
  | .hbm, ⟨2, _⟩ => ⟨S_, .f32⟩
  | .hbm, ⟨3, _⟩ => ⟨S2048x8448, .f32⟩
  | .hbm, ⟨4, _⟩ => ⟨S4096x2048, .f32⟩
  | .hbm, ⟨5, _⟩ => ⟨S4096x8448, .f32⟩
  | .hbm, ⟨6, _⟩ => ⟨S4096x8448, .f32⟩
  | .hbm, ⟨7, _⟩ => ⟨S8448x2048, .f32⟩
  | .hbm, ⟨8, _⟩ => ⟨S2048x8448, .f32⟩
  | .hbm, ⟨9, _⟩ => ⟨S2048x8448, .bf16⟩
  | .hbm, ⟨10, _⟩ => ⟨S768x8448, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DPleProj.lean ====
abbrev S4096x256 : Shape := ⟨2, ![4096, 256]⟩
abbrev S4096x2048 : Shape := ⟨2, ![4096, 2048]⟩
abbrev S8x256x256 : Shape := ⟨3, ![8, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S8x256x256, .bf16⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DPleProjIdeal.lean ====
abbrev S4096x256 : Shape := ⟨2, ![4096, 256]⟩
abbrev S4096x2048 : Shape := ⟨2, ![4096, 2048]⟩
abbrev S8x256x256 : Shape := ⟨3, ![8, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S8x256x256, .bf16⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DPleProjRefIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩
abbrev S256x8x256 : Shape := ⟨3, ![256, 8, 256]⟩
abbrev S8x256x256 : Shape := ⟨3, ![8, 256, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S2048x256, .f32⟩
  | .hbm, ⟨7, _⟩ => ⟨S256x2048, .f32⟩
  | .hbm, ⟨8, _⟩ => ⟨S256x2048, .bf16⟩
  | .hbm, ⟨9, _⟩ => ⟨S256x8x256, .bf16⟩
  | .hbm, ⟨10, _⟩ => ⟨S8x256x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AbIn.lean ====
abbrev S4096x2048 : Shape := ⟨2, ![4096, 2048]⟩
abbrev S2048x8448 : Shape := ⟨2, ![2048, 8448]⟩
abbrev S4096x8448 : Shape := ⟨2, ![4096, 8448]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x8448, .bf16⟩
  | .hbm, ⟨2, _⟩ => ⟨S4096x8448, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInIdeal.lean ====
abbrev S4096x2048 : Shape := ⟨2, ![4096, 2048]⟩
abbrev S2048x8448 : Shape := ⟨2, ![2048, 8448]⟩
abbrev S4096x8448 : Shape := ⟨2, ![4096, 8448]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x8448, .bf16⟩
  | .hbm, ⟨2, _⟩ => ⟨S4096x8448, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInRefIdeal.lean ====
abbrev S4096x2048 : Shape := ⟨2, ![4096, 2048]⟩
abbrev S2048x8448 : Shape := ⟨2, ![2048, 8448]⟩
abbrev S4096x8448 : Shape := ⟨2, ![4096, 8448]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8448, .bf16⟩
  | .hbm, ⟨2, _⟩ => ⟨S4096x2048, .f32⟩
  | .hbm, ⟨3, _⟩ => ⟨S2048x8448, .f32⟩
  | .hbm, ⟨4, _⟩ => ⟨S4096x8448, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CIn.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CInIdeal.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CInRefIdeal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== COut.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== COutIdeal.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== COutRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PleProj.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjRefIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S256x2048, .f32⟩
  | .hbm, ⟨3, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Ple.lean ====
abbrev S4096x2048 : Shape := ⟨2, ![4096, 2048]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleRefIdeal.lean ====
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== RmsPost.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsPostRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== RmsPre.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsPreRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Gate.lean ====
abbrev S4096x8448 : Shape := ⟨2, ![4096, 8448]⟩
abbrev S1x128 : Shape := ⟨2, ![1, 128]⟩
abbrev S4096x128 : Shape := ⟨2, ![4096, 128]⟩
abbrev S2048x128 : Shape := ⟨2, ![2048, 128]⟩
abbrev S256x256 : Shape := ⟨2, ![256, 256]⟩
abbrev S256x128 : Shape := ⟨2, ![256, 128]⟩
abbrev S128 : Shape := ⟨1, ![128]⟩

abbrev nBuf : Space → Nat
  | .hbm => 5
  | .vmem => 8
  | .smem => 0
  | _ => 0

abbrev bufTy : (tb : Table) → Fin (tcTables nBuf tb) → BufTy
  | .hbm, ⟨0, _⟩ => ⟨S4096x8448, .f32⟩
  | .hbm, ⟨1, _⟩ => ⟨S1x128, .f32⟩
  | .hbm, ⟨2, _⟩ => ⟨S4096x128, .f32⟩
  | .hbm, ⟨3, _⟩ => ⟨S4096x128, .bf16⟩
  | .hbm, ⟨4, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | .local _ .vmem, ⟨5, _⟩ => ⟨S2048x128, .bf16⟩
  | .local _ .vmem, ⟨6, _⟩ => ⟨S2048x128, .bf16⟩
  | .local _ .vmem, ⟨7, _⟩ => ⟨S1x128, .f32⟩
  | _, _ => ⟨S4096x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c65_i32 : BitVec 32 := 65#32
  let c0_i32 : BitVec 32 := 0#32
  ![arg0.toNat, c65_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateRefIdeal.lean ====
abbrev S4096x8448 : Shape := ⟨2, ![4096, 8448]⟩
abbrev S1x128 : Shape := ⟨2, ![1, 128]⟩
abbrev S4096x128 : Shape := ⟨2, ![4096, 128]⟩
abbrev S_ : Shape := ⟨0, ![]⟩
abbrev S2x2048x128 : Shape := ⟨3, ![2, 2048, 128]⟩
abbrev S128 : Shape := ⟨1, ![128]⟩

abbrev nBuf : Space → Nat
  | .hbm => 70
  | .vmem => 0
  | .smem => 0
  | _ => 0

abbrev bufTy : (tb : Table) → Fin (tcTables nBuf tb) → BufTy
  | .hbm, ⟨0, _⟩ => ⟨S4096x8448, .f32⟩
  | .hbm, ⟨1, _⟩ => ⟨S1x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x128, .i1⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S_, .f32⟩
  | .hbm, ⟨22, _⟩ => ⟨S4096x128, .f32⟩
  | .hbm, ⟨23, _⟩ => ⟨S4096x128, .i1⟩
  | .hbm, ⟨24, _⟩ => ⟨S_, .f32⟩
  | .hbm, ⟨25, _⟩ => ⟨S4096x128, .f32⟩
  | .hbm, ⟨26, _⟩ => ⟨S4096x128, .f32⟩
  | .hbm, ⟨27, _⟩ => ⟨S_, .f32⟩
  | .hbm, ⟨28, _⟩ => ⟨S4096x128, .f32⟩
  | .hbm, ⟨29, _⟩ => ⟨S4096x128, .i1⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x128, .f32⟩
  | .hbm, ⟨43, _⟩ => ⟨S4096x128, .i1⟩
  | .hbm, ⟨44, _⟩ => ⟨S_, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S_, .f32⟩
  | .hbm, ⟨51, _⟩ => ⟨S4096x128, .f32⟩
  | .hbm, ⟨52, _⟩ => ⟨S4096x128, .f32⟩
  | .hbm, ⟨53, _⟩ => ⟨S4096x128, .f32⟩
  | .hbm, ⟨54, _⟩ => ⟨S2x2048x128, .f32⟩
  | .hbm, ⟨55, _⟩ => ⟨S_, .f32⟩
  | .hbm, ⟨56, _⟩ => ⟨S_, .f32⟩
  | .hbm, ⟨57, _⟩ => ⟨S2x2048x128, .f32⟩
  | .hbm, ⟨58, _⟩ => ⟨S2x2048x128, .f32⟩
  | .hbm, ⟨59, _⟩ => ⟨S_, .f32⟩
  | .hbm, ⟨60, _⟩ => ⟨S_, .f32⟩
  | .hbm, ⟨61, _⟩ => ⟨S2x2048x128, .f32⟩
  | .hbm, ⟨62, _⟩ => ⟨S4096x128, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S_, .f32⟩
  | .hbm, ⟨67, _⟩ => ⟨S128, .f32⟩
  | .hbm, ⟨68, _⟩ => ⟨S1x128, .f32⟩
  | .hbm, ⟨69, _⟩ => ⟨S4096x128, .bf16⟩
  | _, _ => ⟨S4096x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_v4 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_v6 : Ref sig .tc := ⟨.hbm, 58, rfl⟩
abbrev main_call2_call0_cst : Ref sig .tc := ⟨.hbm, 59, rfl⟩
abbrev main_call2_call0_v0 : Ref sig .tc := ⟨.hbm, 60, rfl⟩
abbrev main_v7 : Ref sig .tc := ⟨.hbm, 61, rfl⟩
abbrev main_v8 : Ref sig .tc := ⟨.hbm, 62, rfl⟩
abbrev main_call3_v0 : Ref sig .tc := ⟨.hbm, 63, rfl⟩
abbrev main_call3_v1 : Ref sig .tc := ⟨.hbm, 64, rfl⟩
abbrev main_v9 : Ref sig .tc := ⟨.hbm, 65, rfl⟩
abbrev main_cst : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩

abbrev nD : Nat := 1
abbrev τ : Topo := Topo.v7x

variable {F : FTy → Type} [FloatOps F]
-- ==== RmsFwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsResFwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RmsResFwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== PleFwd.lean ====
abbrev S4096x2048 : Shape := ⟨2, ![4096, 2048]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PleFwdRefIdeal.lean ====
abbrev S4096x2048 : Shape := ⟨2, ![4096, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== RwkvPost.lean ====
abbrev S4096x1024 : Shape := ⟨2, ![4096, 1024]⟩
abbrev S4096x8448 : Shape := ⟨2, ![4096, 8448]⟩
abbrev S1x1024 : Shape := ⟨2, ![1, 1024]⟩
abbrev S4096x2048 : Shape := ⟨2, ![4096, 2048]⟩
abbrev S512x128 : Shape := ⟨2, ![512, 128]⟩
abbrev S1x128 : Shape := ⟨2, ![1, 128]⟩
abbrev S128x128 : Shape := ⟨2, ![128, 128]⟩
abbrev S512x256 : Shape := ⟨2, ![512, 256]⟩
abbrev S256x128 : Shape := ⟨2, ![256, 128]⟩
abbrev S128 : Shape := ⟨1, ![128]⟩

abbrev nBuf : Space → Nat
  | .hbm => 17
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x8448, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x2048, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .bf16⟩
  | .local _ .vmem, ⟨27, _⟩ => ⟨S512x128, .bf16⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 2 → Nat :=
  let c0_43 : Index := 0#32
  let arg1 : BitVec 32 := BitVec.ofNat 32 (i 1).val
  let c128_i32 : BitVec 32 := 128#32
  let v0 : BitVec 32 := Scalar.muli arg1 c128_i32
  let v1 : BitVec 32 := v0
  let v132 : Index := Scalar.indexCast v1
  ![0, v132.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== RwkvPostRefIdeal.lean ====
abbrev S4096x1024 : Shape := ⟨2, ![4096, 1024]⟩
abbrev S4096x8448 : Shape := ⟨2, ![4096, 8448]⟩
abbrev S1x1024 : Shape := ⟨2, ![1, 1024]⟩
abbrev S4096x2048 : Shape := ⟨2, ![4096, 2048]⟩
abbrev S4096x16x64 : Shape := ⟨3, ![4096, 16, 64]⟩
abbrev S_ : Shape := ⟨0, ![]⟩
abbrev S4096x16 : Shape := ⟨2, ![4096, 16]⟩
abbrev S4096x16x1 : Shape := ⟨3, ![4096, 16, 1]⟩
abbrev S1x16x64 : Shape := ⟨3, ![1, 16, 64]⟩
abbrev S16x64 : Shape := ⟨2, ![16, 64]⟩
abbrev S1024 : Shape := ⟨1, ![1024]⟩

abbrev nBuf : Space → Nat
  | .hbm => 147
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x8448, .f32⟩
  | 5 => ⟨S1x1024, .f32⟩
  | 6 => ⟨S1x1024, .f32⟩
  | 7 => ⟨S1x1024, .f32⟩
  | 8 => ⟨S4096x2048, .bf16⟩
  | 9 => ⟨S4096x1024, .f32⟩
  | 10 => ⟨S4096x16x64, .f32⟩
  | 11 => ⟨S_, .f32⟩
  | 12 => ⟨S4096x16, .f32⟩
  | 13 => ⟨S4096x16x1, .f32⟩
  | 14 => ⟨S_, .f32⟩
  | 15 => ⟨S4096x16x1, .f32⟩
  | 16 => ⟨S4096x16x1, .f32⟩
  | 17 => ⟨S4096x16x64, .f32⟩
  | 18 => ⟨S4096x16x64, .f32⟩
  | 19 => ⟨S4096x16x64, .f32⟩
  | 20 => ⟨S_, .f32⟩
  | 21 => ⟨S4096x16x64, .f32⟩
  | 22 => ⟨S4096x16x64, .f32⟩
  | 23 => ⟨S_, .f32⟩
  | 24 => ⟨S4096x16, .f32⟩
  | 25 => ⟨S4096x16x1, .f32⟩
  | 26 => ⟨S_, .f32⟩
  | 27 => ⟨S4096x16x1, .f32⟩
  | 28 => ⟨S4096x16x1, .f32⟩
  | 29 => ⟨S4096x16x64, .f32⟩
  | 30 => ⟨S4096x16x64, .f32⟩
  | 31 => ⟨S_, .f32⟩
  | 32 => ⟨S4096x16x1, .f32⟩
  | 33 => ⟨S4096x16x1, .f32⟩
  | 34 => ⟨S4096x16x1, .f32⟩
  | 35 => ⟨S4096x16x1, .f32⟩
  | 36 => ⟨S_, .f32⟩
  | 37 => ⟨S4096x16x1, .f32⟩
  | 38 => ⟨S4096x16x1, .f32⟩
  | 39 => ⟨S4096x16x64, .f32⟩
  | 40 => ⟨S4096x16x64, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x16x64, .f32⟩
  | 47 => ⟨S4096x16x64, .f32⟩
  | 48 => ⟨S4096x16x64, .f32⟩
  | 49 => ⟨S1x16x64, .f32⟩
  | 50 => ⟨S4096x16x64, .f32⟩
  | 51 => ⟨S4096x16x64, .f32⟩
  | 52 => ⟨S_, .f32⟩
  | 53 => ⟨S4096x16, .f32⟩
  | 54 => ⟨S4096x16x1, .f32⟩
  | 55 => ⟨S4096x16x64, .f32⟩
  | 56 => ⟨S4096x16x64, .f32⟩
  | 57 => ⟨S4096x16x64, .f32⟩
  | 58 => ⟨S4096x1024, .f32⟩
  | 59 => ⟨S4096x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .bf16⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x16x64, .f32⟩
  | 83 => ⟨S4096x16x64, .f32⟩
  | 84 => ⟨S4096x16x64, .f32⟩
  | 85 => ⟨S4096x16x64, .f32⟩
  | 86 => ⟨S_, .f32⟩
  | 87 => ⟨S4096x16, .f32⟩
  | 88 => ⟨S4096x16x1, .f32⟩
  | 89 => ⟨S4096x1024, .f32⟩
  | 90 => ⟨S_, .f32⟩
  | 91 => ⟨S4096x16, .f32⟩
  | 92 => ⟨S4096x16x64, .f32⟩
  | 93 => ⟨S4096x16x64, .f32⟩
  | 94 => ⟨S_, .f32⟩
  | 95 => ⟨S16x64, .f32⟩
  | 96 => ⟨S1x16x64, .f32⟩
  | 97 => ⟨S4096x16x64, .f32⟩
  | 98 => ⟨S4096x16x64, .f32⟩
  | 99 => ⟨S1x1024, .f32⟩
  | 100 => ⟨S4096x16x64, .f32⟩
  | 101 => ⟨S4096x16x64, .f32⟩
  | 102 => ⟨S4096x1024, .f32⟩
  | 103 => ⟨S4096x1024, .f32⟩
  | 104 => ⟨S_, .f32⟩
  | 105 => ⟨S1024, .f32⟩
  | 106 => ⟨S1x1024, .f32⟩
  | 107 => ⟨S4096x1024, .f32⟩
  | 108 => ⟨S_, .f32⟩
  | 109 => ⟨S1024, .f32⟩
  | 110 => ⟨S1x1024, .f32⟩
  | 111 => ⟨S4096x1024, .f32⟩
  | 112 => ⟨S4096x1024, .f32⟩
  | 113 => ⟨S4096x16x64, .f32⟩
  | 114 => ⟨S4096x16x64, .f32⟩
  | 115 => ⟨S_, .f32⟩
  | 116 => ⟨S4096x16, .f32⟩
  | 117 => ⟨S4096x16x1, .f32⟩
  | 118 => ⟨S4096x16x64, .f32⟩
  | 119 => ⟨S4096x16x64, .f32⟩
  | 120 => ⟨S4096x16x1, .f32⟩
  | 121 => ⟨S4096x16x64, .f32⟩
  | 122 => ⟨S_, .f32⟩
  | 123 => ⟨S4096x16, .f32⟩
  | 124 => ⟨S4096x16x1, .f32⟩
  | 125 => ⟨S_, .f32⟩
  | 126 => ⟨S4096x16x1, .f32⟩
  | 127 => ⟨S4096x16x1, .f32⟩
  | _ => ⟨S4096x1024, .f32⟩

abbrev hbmTy0_1 (i : Nat) : BufTy := match i % 128 with
  | 0 => ⟨S_, .f32⟩
  | 1 => ⟨S4096x16, .f32⟩
  | 2 => ⟨S4096x16x64, .f32⟩
  | 3 => ⟨S4096x16x64, .f32⟩
  | 4 => ⟨S4096x16x64, .f32⟩
  | 5 => ⟨S_, .f32⟩
  | 6 => ⟨S4096x16, .f32⟩
  | 7 => ⟨S4096x16x1, .f32⟩
  | 8 => ⟨S4096x16x64, .f32⟩
  | 9 => ⟨S4096x16x1, .f32⟩
  | 10 => ⟨S_, .f32⟩
  | 11 => ⟨S4096x16x1, .f32⟩
  | 12 => ⟨S4096x16x1, .f32⟩
  | 13 => ⟨S_, .f32⟩
  | 14 => ⟨S4096x16, .f32⟩
  | 15 => ⟨S4096x16x64, .f32⟩
  | 16 => ⟨S4096x16x64, .f32⟩
  | 17 => ⟨S4096x1024, .f32⟩
  | 18 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_v43_2 : Ref sig .tc := ⟨.hbm, 67, rfl⟩
abbrev main_call0_cst_1 : Ref sig .tc := ⟨.hbm, 68, rfl⟩
abbrev main_call0_v6 : Ref sig .tc := ⟨.hbm, 69, rfl⟩
abbrev main_call0_v7 : Ref sig .tc := ⟨.hbm, 70, rfl⟩
abbrev main_v43_1 : Ref sig .tc := ⟨.hbm, 71, rfl⟩
abbrev main_v43_0 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_7 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_8 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_9 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_10 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_11 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_12 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_13 : Ref sig .tc := ⟨.hbm, 122, rfl⟩
abbrev main_v84 : Ref sig .tc := ⟨.hbm, 123, rfl⟩
abbrev main_v85 : Ref sig .tc := ⟨.hbm, 124, rfl⟩
abbrev main_cst_14 : Ref sig .tc := ⟨.hbm, 125, rfl⟩
abbrev main_v86 : Ref sig .tc := ⟨.hbm, 126, rfl⟩
abbrev main_v87 : Ref sig .tc := ⟨.hbm, 127, rfl⟩
abbrev main_cst_15 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_16 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_17 : Ref sig .tc := ⟨.hbm, 138, rfl⟩
abbrev main_v96 : Ref sig .tc := ⟨.hbm, 139, rfl⟩
abbrev main_v97 : Ref sig .tc := ⟨.hbm, 140, rfl⟩
abbrev main_cst_18 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩

abbrev nD : Nat := 1
abbrev τ : Topo := Topo.v7x

variable {F : FTy → Type} [FloatOps F]
-- ==== Proof.Model.lean ====
/-
  The mathematics of one head of the forgetting attention's gradient, over the reals, as functions of the token
  numbers: the scores, the softmax weights, the gradient of the scores; and how sums, products and a softmax row of
  extended reals that are all finite read as these.
-/
module
public import Idealize.ShloMosaic.Lib.Pipeline.ValueKit
public import Idealize.ShloMosaic.Lib.WordCmp

@[expose] public section
set_option maxRecDepth 16384
noncomputable section

namespace Cert.Fox

open Idealize.ShloMosaic

/-- One head: the scaled queries, keys, values, the cotangent of the attention's output, the summed log gates and the
    row sums of cotangent times output. -/
structure Head where
  qs : ℕ → ℕ → ℝ
  k : ℕ → ℕ → ℝ
  v : ℕ → ℕ → ℝ
  od : ℕ → ℕ → ℝ
  c : ℕ → ℝ
  dvec : ℕ → ℝ

variable (H : Head)

/-- The score of query `i` and key `j`. -/
def Head.s (i j : ℕ) : ℝ := (∑ d ∈ Finset.range 64, H.qs i d * H.k j d) + H.c i - H.c j
/-- The softmax's denominator of row `i`. -/
def Head.Z (i : ℕ) : ℝ := ∑ j ∈ Finset.range (i + 1), Real.exp (H.s i j)
/-- The softmax weight, zero above the diagonal. -/
def Head.p (i j : ℕ) : ℝ := if j ≤ i then Real.exp (H.s i j) / H.Z i else 0
/-- The cotangent of the weight. -/
def Head.dp (i j : ℕ) : ℝ := ∑ d ∈ Finset.range 64, H.od i d * H.v j d
/-- The cotangent of the score. -/
def Head.ds (i j : ℕ) : ℝ := H.p i j * (H.dp i j - H.dvec i)

theorem Head.Z_pos (i : ℕ) : 0 < H.Z i :=
  Finset.sum_pos (fun _ _ => Real.exp_pos _) ⟨0, by simp⟩

theorem Head.p_above {i j : ℕ} (h : i < j) : H.p i j = 0 := if_neg (by omega)
theorem Head.ds_above {i j : ℕ} (h : i < j) : H.ds i j = 0 := by rw [Head.ds, H.p_above h, zero_mul]

/-! ## Finite extended reals -/

theorem coe_sum {ι : Type*} (S : Finset ι) (f : ι → ℝ) : ∑ x ∈ S, ((f x : ℝ) : EReal) = ((∑ x ∈ S, f x : ℝ) : EReal) := by
  classical
  induction S using Finset.induction with
  | empty => simp
  | insert a S ha ih => rw [Finset.sum_insert ha, Finset.sum_insert ha, ih, EReal.coe_add]

/-- A sum over the lanes of real values is the real sum over the lane numbers. -/
theorem sum_coe {n : ℕ} (a : Fin n → EReal) (A : ℕ → ℝ) (ha : ∀ x : Fin n, a x = ((A x : ℝ) : EReal)) :
    ∑ x, a x = ((∑ x ∈ Finset.range n, A x : ℝ) : EReal) := by
  rw [Finset.sum_congr rfl fun x _ => ha x, coe_sum, Finset.sum_range]

/-- A contraction of real values is the real contraction. -/
theorem dot_coe {n : ℕ} (a b : Fin n → EReal) (A B : ℕ → ℝ) (ha : ∀ x : Fin n, a x = ((A x : ℝ) : EReal))
    (hb : ∀ x : Fin n, b x = ((B x : ℝ) : EReal)) :
    ∑ x, a x * b x = ((∑ x ∈ Finset.range n, A x * B x : ℝ) : EReal) :=
  sum_coe _ (fun x => A x * B x) fun x => by rw [ha, hb, EReal.coe_mul]

theorem ninf_f32 : Ideal.ofBits .f32 0xFF800000#32 = ⊥ := by simp [Ideal.ofBits, Ideal.ieee]

theorem eighth_f32 : Ideal.ofBits .f32 0x3E000000#32 = (((1 / 8 : ℝ)) : EReal) := by
  simp [Ideal.ofBits, Ideal.ieee, -EReal.coe_mul]; norm_num

theorem exp_bot : Ideal.exp ⊥ = 0 := rfl
theorem exp_coe (x : ℝ) : Ideal.exp (x : EReal) = ((Real.exp x : ℝ) : EReal) := rfl

theorem div_coe {x y : ℝ} (hy : y ≠ 0) : Ideal.div (x : EReal) (y : EReal) = ((x / y : ℝ) : EReal) := by
  unfold Ideal.div
  rw [if_neg (by exact_mod_cast hy), div_eq_mul_inv, EReal.coe_mul, EReal.coe_inv]

/-- The running maximum of a row whose entries are real or minus infinity, one of them real, is real. -/
theorem fold_max_real {n : ℕ} (S : Fin n → EReal) (hS : ∀ x, S x ≠ ⊤) (x₀ : Fin n) (h₀ : S x₀ ≠ ⊥) :
    ∃ M : ℝ, Finset.univ.fold max ⊥ S = (M : EReal) := by
  have hfold : Finset.univ.fold max ⊥ S = Finset.univ.sup S := rfl
  have h1 : Finset.univ.sup S ≠ ⊤ := by
    intro h
    have : Finset.univ.sup S < ⊤ := (Finset.sup_lt_iff (by simp)).2 fun x _ => lt_top_iff_ne_top.2 (hS x)
    exact absurd h this.ne
  have h2 : Finset.univ.sup S ≠ ⊥ := by
    intro h
    exact h₀ (le_bot_iff.1 (h ▸ Finset.le_sup (f := S) (Finset.mem_univ x₀)))
  exact ⟨_, (hfold.trans (EReal.coe_toReal h1 h2).symm)⟩

theorem sum_ite_range {n i : ℕ} (hi : i < n) (f : ℕ → ℝ) :
    ∑ x ∈ Finset.range n, (if x ≤ i then f x else 0) = ∑ x ∈ Finset.range (i + 1), f x := by
  rw [← Finset.sum_filter]
  refine Finset.sum_congr ?_ fun _ _ => rfl
  ext x; simp only [Finset.mem_filter, Finset.mem_range]; omega

/-- The exponentials of a masked row, the row's maximum taken off. -/
theorem exp_row {n i : ℕ} (S : Fin n → EReal) (s : ℕ → ℝ)
    (hS : ∀ x : Fin n, S x = if (x : ℕ) ≤ i then ((s x : ℝ) : EReal) else ⊥) (M : ℝ) (x : Fin n) :
    Ideal.exp (S x - (M : EReal)) = ((if (x : ℕ) ≤ i then Real.exp (s x) * Real.exp (-M) else 0 : ℝ) : EReal) := by
  rw [hS]
  split_ifs with h
  · rw [← EReal.coe_sub, exp_coe, ← Real.exp_add, sub_eq_add_neg]
  · rw [EReal.bot_sub, exp_bot]; rfl

theorem row_max {n i : ℕ} (hi : i < n) (S : Fin n → EReal) (s : ℕ → ℝ)
    (hS : ∀ x : Fin n, S x = if (x : ℕ) ≤ i then ((s x : ℝ) : EReal) else ⊥) :
    ∃ M : ℝ, Finset.univ.fold max ⊥ S = (M : EReal) := by
  refine fold_max_real S (fun x => ?_) ⟨i, hi⟩ ?_
  · rw [hS]; split_ifs
    · exact EReal.coe_ne_top _
    · exact bot_ne_top
  · rw [hS, if_pos (le_refl _)]; exact EReal.coe_ne_bot _

/-- A masked row's softmax: exponentials less the row's maximum, divided by their sum. -/
theorem softmax_row {n i : ℕ} (hi : i < n) (S : Fin n → EReal) (s : ℕ → ℝ)
    (hS : ∀ x : Fin n, S x = if (x : ℕ) ≤ i then ((s x : ℝ) : EReal) else ⊥) (x : Fin n) :
    Ideal.div (Ideal.exp (S x - Finset.univ.fold max (Ideal.ofBits .f32 0xFF800000#32) S))
      (∑ y, Ideal.exp (S y - Finset.univ.fold max (Ideal.ofBits .f32 0xFF800000#32) S))
      = ((if (x : ℕ) ≤ i then Real.exp (s x) / ∑ y ∈ Finset.range (i + 1), Real.exp (s y) else 0 : ℝ) : EReal) := by
  obtain ⟨M, hM⟩ := row_max hi S s hS
  rw [ninf_f32, hM, exp_row S s hS, sum_coe _ (fun y => if y ≤ i then Real.exp (s y) * Real.exp (-M) else 0) (exp_row S s hS M),
    sum_ite_range hi (fun y => Real.exp (s y) * Real.exp (-M)), ← Finset.sum_mul]
  have hZ : 0 < ∑ y ∈ Finset.range (i + 1), Real.exp (s y) := Finset.sum_pos (fun _ _ => Real.exp_pos _) ⟨0, by simp⟩
  rw [div_coe (mul_pos hZ (Real.exp_pos _)).ne']
  congr 1
  split_ifs
  · exact mul_div_mul_right _ _ (Real.exp_pos _).ne'
  · exact zero_div _

/-- One entry of a masked row, as the kernel computes it. -/
theorem score_entry (b : BitVec 1) (P : Prop) [Decidable P] (hb : b = 1#1 ↔ P) (a cq ck : EReal) (A C K : ℝ)
    (ha : a = ((A : ℝ) : EReal)) (hq : cq = ((C : ℝ) : EReal)) (hk : ck = ((K : ℝ) : EReal)) :
    Scalar.select b (a + cq - ck) (Ideal.ofBits .f32 0xFF800000#32) = if P then ((A + C - K : ℝ) : EReal) else ⊥ := by
  rw [ninf_f32, ha, hq, hk, ← EReal.coe_add, ← EReal.coe_sub]
  unfold Scalar.select
  exact if_congr hb rfl rfl

/-! ## The gradients as sums over the rows done so far -/

/-- The gradient of the query, the scale taken in. -/
def Head.dq (i d : ℕ) : ℝ := (∑ j ∈ Finset.range 2048, H.ds i j * H.k j d) * (1 / 8)
/-- The key's gradient from the first `n` queries. -/
def Head.dk (n j d : ℕ) : ℝ := ∑ i ∈ Finset.range n, H.ds i j * H.qs i d
/-- The value's gradient from the first `n` queries. -/
def Head.dv (n j d : ℕ) : ℝ := ∑ i ∈ Finset.range n, H.p i j * H.od i d
/-- The summed gates' gradient from the first `n` queries: row sums less column sums. -/
def Head.dc (n j : ℕ) : ℝ := (if j < n then ∑ k ∈ Finset.range 2048, H.ds j k else 0) - ∑ i ∈ Finset.range n, H.ds i j
/-- The same with the next 256 queries' column sums taken off and their row sums not yet added. -/
def Head.dcm (n j : ℕ) : ℝ := H.dc n j - ∑ r ∈ Finset.range 256, H.ds (n + r) j

theorem sum_below {n N i : ℕ} (hi : i < n) (hn : n ≤ N) (f : ℕ → ℝ) (hf : ∀ j, i < j → f j = 0) :
    ∑ j ∈ Finset.range n, f j = ∑ j ∈ Finset.range N, f j := by
  refine Finset.sum_subset (fun x hx => Finset.mem_range.2 (by have := Finset.mem_range.1 hx; omega)) fun x _ hx => ?_
  have h : ¬ x < n := fun h => hx (Finset.mem_range.2 h)
  exact hf x (by omega)

theorem Head.dq_of {n i : ℕ} (hi : i < n) (hn : n ≤ 2048) (d : ℕ) :
    (∑ j ∈ Finset.range n, H.ds i j * H.k j d) * (1 / 8) = H.dq i d := by
  rw [Head.dq, sum_below hi hn (fun j => H.ds i j * H.k j d) fun j hj => by rw [H.ds_above hj, zero_mul]]

theorem Head.dk_add (n j d : ℕ) : H.dk n j d + ∑ r ∈ Finset.range 256, H.ds (n + r) j * H.qs (n + r) d = H.dk (n + 256) j d :=
  (Finset.sum_range_add _ n 256).symm
theorem Head.dv_add (n j d : ℕ) : H.dv n j d + ∑ r ∈ Finset.range 256, H.p (n + r) j * H.od (n + r) d = H.dv (n + 256) j d :=
  (Finset.sum_range_add _ n 256).symm
theorem Head.dk_rest {n j : ℕ} (h : n + 256 ≤ j) (d : ℕ) : H.dk (n + 256) j d = H.dk n j d := by
  rw [← Head.dk_add, Finset.sum_eq_zero, add_zero]
  intro r hr; rw [H.ds_above (by have := Finset.mem_range.1 hr; omega), zero_mul]
theorem Head.dv_rest {n j : ℕ} (h : n + 256 ≤ j) (d : ℕ) : H.dv (n + 256) j d = H.dv n j d := by
  rw [← Head.dv_add, Finset.sum_eq_zero, add_zero]
  intro r hr; rw [H.p_above (by have := Finset.mem_range.1 hr; omega), zero_mul]
theorem Head.dk_zero (j d : ℕ) : H.dk 0 j d = 0 := by simp [Head.dk]
theorem Head.dv_zero (j d : ℕ) : H.dv 0 j d = 0 := by simp [Head.dv]
theorem Head.dc_zero (j : ℕ) : H.dc 0 j = 0 := by simp [Head.dc]
theorem Head.dcm_rest {n j : ℕ} (h : n + 256 ≤ j) : H.dcm n j = H.dc n j := by
  rw [Head.dcm, Finset.sum_eq_zero, sub_zero]
  intro r hr; exact H.ds_above (by have := Finset.mem_range.1 hr; omega)
theorem Head.dc_rest {n j : ℕ} (h : j < n ∨ n + 256 ≤ j) : H.dc (n + 256) j = H.dcm n j := by
  rw [Head.dcm, Head.dc, Head.dc, Finset.sum_range_add, sub_sub]
  congr 1
  rcases h with h | h
  · rw [if_pos h, if_pos (by omega)]
  · rw [if_neg (by omega), if_neg (by omega)]
theorem Head.dc_add {n r : ℕ} (hr : r < 256) (hn : n + 256 ≤ 2048) :
    H.dcm n (n + r) + ∑ k ∈ Finset.range (n + 256), H.ds (n + r) k = H.dc (n + 256) (n + r) := by
  rw [sum_below (i := n + r) (n := n + 256) (N := 2048) (by omega) hn _ fun j hj => H.ds_above hj,
    Head.dcm, Head.dc, Head.dc, Finset.sum_range_add _ n 256, if_neg (by omega), if_pos (by omega)]
  ring

end Cert.Fox
end
-- ==== Proof.Boxes.lean ====
/-
  A matrix written box by box, read at one entry and read back through a box.
-/
module
public import proofs.«01_k».proof.Proof.Model
public import proofs.«01_k».proof.Proof.Gen.KernelIdeal.Skeleton
public import Idealize.ShloMosaic.Lib.Pipeline.ValueKit

@[expose] public section
noncomputable section
namespace Cert.Fox
open Cert.KernelIdeal Cert.KernelIdeal.Gen Idealize.ShloMosaic Idealize.ShloMosaic.TcCoe Idealize.SL.Sem

variable {e : EltTy} {R C o0 o1 h w : ℕ} {inb : ∀ a, (![o0, o1] : Fin 2 → ℕ) a + (![h, w] : Fin 2 → ℕ) a ≤ (⟨2, ![R, C]⟩ : Shape).size a}

/-- One more box written, at one entry. -/
theorem box_step_at {p : (Rect.unit (s := ⟨2, ![R, C]⟩) ![o0, o1] ![h, w] inb).shape.Idx → Elt Ideal e}
    {L : List (View.Piece (Elt Ideal) ⟨2, ![R, C]⟩ e)} {T : ℕ → ℕ → Elt Ideal e} {a : Fin R} {b : Fin C}
    (hp : ∀ (a : Fin h) (b : Fin w), p (ix2 a b) = T (o0 + a) (o1 + b))
    (hL : ¬((o0 ≤ a ∧ (a : ℕ) < o0 + h) ∧ o1 ≤ b ∧ (b : ℕ) < o1 + w) → View.canon L (ix2 a b) = T a b) :
    View.canon (⟨Rect.unit (s := ⟨2, ![R, C]⟩) ![o0, o1] ![h, w] inb, p⟩ :: L) (ix2 a b) = T a b := by
  by_cases hm : (o0 ≤ a ∧ (a : ℕ) < o0 + h) ∧ o1 ≤ b ∧ (b : ℕ) < o1 + w
  · have ha : (a : ℕ) - o0 < h := by omega
    have hb : (b : ℕ) - o1 < w := by omega
    have hi : (ix2 a b : (⟨2, ![R, C]⟩ : Shape).Idx)
        = (Rect.unit (s := ⟨2, ![R, C]⟩) ![o0, o1] ![h, w] inb).emb (ix2 ⟨(a : ℕ) - o0, ha⟩ ⟨(b : ℕ) - o1, hb⟩) := by
      funext x
      apply Fin.ext
      rw [ValueKit.rect_emb_unit_val]
      match x with
      | ⟨0, _⟩ => show (a : ℕ) = o0 + ((a : ℕ) - o0); omega
      | ⟨1, _⟩ => show (b : ℕ) = o1 + ((b : ℕ) - o1); omega
    rw [hi, View.canon_cons_emb]
    refine (hp _ _).trans ?_
    show T (o0 + ((a : ℕ) - o0)) (o1 + ((b : ℕ) - o1)) = T a b
    rw [Nat.add_sub_cancel' hm.1.1, Nat.add_sub_cancel' hm.2.1]
  · rw [View.canon_cons_of_not_mem]
    · exact hL hm
    · intro hmem
      refine hm ?_
      have h2 := (Rect.mem_set_unit (s := ⟨2, ![R, C]⟩) (off := ![o0, o1]) (size := ![h, w]) (inb := inb)).mp hmem
      exact ⟨h2 (0 : Fin 2), h2 (1 : Fin 2)⟩

/-- An entry outside the last box written. -/
theorem box_skip {p : (Rect.unit (s := ⟨2, ![R, C]⟩) ![o0, o1] ![h, w] inb).shape.Idx → Elt Ideal e}
    {L : List (View.Piece (Elt Ideal) ⟨2, ![R, C]⟩ e)} {x : Elt Ideal e} {a : Fin R} {b : Fin C}
    (hn : ¬((o0 ≤ a ∧ (a : ℕ) < o0 + h) ∧ o1 ≤ b ∧ (b : ℕ) < o1 + w)) (hL : View.canon L (ix2 a b) = x) :
    View.canon (⟨Rect.unit (s := ⟨2, ![R, C]⟩) ![o0, o1] ![h, w] inb, p⟩ :: L) (ix2 a b) = x := by
  rw [View.canon_cons_of_not_mem]
  · exact hL
  · intro hmem
    refine hn ?_
    have h2 := (Rect.mem_set_unit (s := ⟨2, ![R, C]⟩) (off := ![o0, o1]) (size := ![h, w]) (inb := inb)).mp hmem
    exact ⟨h2 (0 : Fin 2), h2 (1 : Fin 2)⟩

/-- One more box written: its entries inside, the earlier writes outside. -/
theorem box_step {p : (Rect.unit (s := ⟨2, ![R, C]⟩) ![o0, o1] ![h, w] inb).shape.Idx → Elt Ideal e}
    {L : List (View.Piece (Elt Ideal) ⟨2, ![R, C]⟩ e)} {T : ℕ → ℕ → Elt Ideal e}
    (hp : ∀ (a : Fin h) (b : Fin w), p (ix2 a b) = T (o0 + a) (o1 + b))
    (hL : ∀ (a : Fin R) (b : Fin C), ¬((o0 ≤ a ∧ (a : ℕ) < o0 + h) ∧ o1 ≤ b ∧ (b : ℕ) < o1 + w) → View.canon L (ix2 a b) = T a b)
    (a : Fin R) (b : Fin C) : View.canon (⟨Rect.unit (s := ⟨2, ![R, C]⟩) ![o0, o1] ![h, w] inb, p⟩ :: L) (ix2 a b) = T a b :=
  box_step_at (inb := inb) hp (hL a b)

/-- A box read back. -/
theorem box_read {sig : RefSig} {κ : Kind} {sp : Space} (v : View sig κ sp ⟨2, ![R, C]⟩ e)
    {L : List (View.Piece (Elt Ideal) ⟨2, ![R, C]⟩ e)} {T : ℕ → ℕ → Elt Ideal e}
    (hL : ∀ (a : Fin R) (b : Fin C), View.canon L (ix2 a b) = T a b)
    (a : Fin h) (b : Fin w) :
    v.readCov L (Rect.unit (s := ⟨2, ![R, C]⟩) ![o0, o1] ![h, w] inb).toLoadRect (ix2 a b) = T (o0 + a) (o1 + b) := by
  have h0 : o0 + h ≤ R := inb (0 : Fin 2)
  have h1 : o1 + w ≤ C := inb (1 : Fin 2)
  rw [View.readCov_eq_canon']
  refine Eq.trans (congrArg (View.canon L) ?_) (hL ⟨o0 + a, by omega⟩ ⟨o1 + b, by omega⟩)
  funext x
  apply Fin.ext
  refine (ValueKit.rect_emb_unit_val _ _ inb (ix2 a b) x).trans ?_
  match x with
  | ⟨0, _⟩ => rfl
  | ⟨1, _⟩ => rfl

section Rows
variable {N D n : ℕ} {inb : ∀ a, (![0, 0] : Fin 2 → ℕ) a + (![n, D] : Fin 2 → ℕ) a ≤ (⟨2, ![N, D]⟩ : Shape).size a}

/-- The first rows written anew. -/
theorem rows_step {p : (Rect.unit (s := ⟨2, ![N, D]⟩) ![0, 0] ![n, D] inb).shape.Idx → Elt Ideal e}
    {L : List (View.Piece (Elt Ideal) ⟨2, ![N, D]⟩ e)} {T : ℕ → ℕ → Elt Ideal e}
    (hp : ∀ (a : Fin n) (b : Fin D), p (ix2 a b) = T a b)
    (hL : ∀ (a : Fin N) (b : Fin D), n ≤ (a : ℕ) → View.canon L (ix2 a b) = T a b)
    (a : Fin N) (b : Fin D) : View.canon (⟨Rect.unit (s := ⟨2, ![N, D]⟩) ![0, 0] ![n, D] inb, p⟩ :: L) (ix2 a b) = T a b :=
  box_step (inb := inb) (fun a b => by rw [Nat.zero_add, Nat.zero_add]; exact hp a b)
    (fun a b hn => hL a b (by have := b.isLt; omega)) a b

theorem rows_read {sig : RefSig} {κ : Kind} {sp : Space} (v : View sig κ sp ⟨2, ![N, D]⟩ e)
    {L : List (View.Piece (Elt Ideal) ⟨2, ![N, D]⟩ e)} {T : ℕ → ℕ → Elt Ideal e}
    (hL : ∀ (a : Fin N) (b : Fin D), View.canon L (ix2 a b) = T a b)
    (a : Fin n) (b : Fin D) :
    v.readCov L (Rect.unit (s := ⟨2, ![N, D]⟩) ![0, 0] ![n, D] inb).toLoadRect (ix2 a b) = T a b :=
  (box_read (inb := inb) v hL a b).trans (by rw [Nat.zero_add, Nat.zero_add])
end Rows

section Line
variable {N n o : ℕ} {inb : ∀ a, (![0, o] : Fin 2 → ℕ) a + (![1, n] : Fin 2 → ℕ) a ≤ (⟨2, ![1, N]⟩ : Shape).size a}

/-- A stretch of one line written anew. -/
theorem line_step {p : (Rect.unit (s := ⟨2, ![1, N]⟩) ![0, o] ![1, n] inb).shape.Idx → Elt Ideal e}
    {L : List (View.Piece (Elt Ideal) ⟨2, ![1, N]⟩ e)} {T : ℕ → Elt Ideal e}
    (hp : ∀ a : Fin n, p (ix2 (0 : Fin 1) a) = T (o + a))
    (hL : ∀ a : Fin N, ¬(o ≤ (a : ℕ) ∧ (a : ℕ) < o + n) → View.canon L (ix2 (0 : Fin 1) a) = T a)
    (a : Fin N) : View.canon (⟨Rect.unit (s := ⟨2, ![1, N]⟩) ![0, o] ![1, n] inb, p⟩ :: L) (ix2 (0 : Fin 1) a) = T a :=
  box_step (inb := inb) (T := fun _ x => T x) (fun x a => by rw [Subsingleton.elim x 0]; exact hp a)
    (fun x a hn => by
      rw [Subsingleton.elim x 0]
      exact hL a (fun hc => hn ⟨⟨Nat.zero_le _, by omega⟩, hc⟩)) 0 a

theorem line_read {sig : RefSig} {κ : Kind} {sp : Space} (v : View sig κ sp ⟨2, ![1, N]⟩ e)
    {L : List (View.Piece (Elt Ideal) ⟨2, ![1, N]⟩ e)} {T : ℕ → Elt Ideal e}
    (hL : ∀ a : Fin N, View.canon L (ix2 (0 : Fin 1) a) = T a) (a : Fin n) :
    v.readCov L (Rect.unit (s := ⟨2, ![1, N]⟩) ![0, o] ![1, n] inb).toLoadRect (ix2 (0 : Fin 1) a) = T (o + a) :=
  box_read (inb := inb) v (T := fun _ x => T x) (fun x a => by rw [Subsingleton.elim x 0]; exact hL a) 0 a

theorem line_step_zero {inb : ∀ a, (![0, 0] : Fin 2 → ℕ) a + (![1, n] : Fin 2 → ℕ) a ≤ (⟨2, ![1, N]⟩ : Shape).size a}
    {p : (Rect.unit (s := ⟨2, ![1, N]⟩) ![0, 0] ![1, n] inb).shape.Idx → Elt Ideal e}
    {L : List (View.Piece (Elt Ideal) ⟨2, ![1, N]⟩ e)} {T : ℕ → Elt Ideal e}
    (hp : ∀ a : Fin n, p (ix2 (0 : Fin 1) a) = T a)
    (hL : ∀ a : Fin N, n ≤ (a : ℕ) → View.canon L (ix2 (0 : Fin 1) a) = T a)
    (a : Fin N) : View.canon (⟨Rect.unit (s := ⟨2, ![1, N]⟩) ![0, 0] ![1, n] inb, p⟩ :: L) (ix2 (0 : Fin 1) a) = T a :=
  line_step (inb := inb) (fun a => by rw [Nat.zero_add]; exact hp a) (fun a hn => hL a (by omega)) a

theorem line_read_zero {inb : ∀ a, (![0, 0] : Fin 2 → ℕ) a + (![1, n] : Fin 2 → ℕ) a ≤ (⟨2, ![1, N]⟩ : Shape).size a}
    {sig : RefSig} {κ : Kind} {sp : Space} (v : View sig κ sp ⟨2, ![1, N]⟩ e)
    {L : List (View.Piece (Elt Ideal) ⟨2, ![1, N]⟩ e)} {T : ℕ → Elt Ideal e}
    (hL : ∀ a : Fin N, View.canon L (ix2 (0 : Fin 1) a) = T a) (a : Fin n) :
    v.readCov L (Rect.unit (s := ⟨2, ![1, N]⟩) ![0, 0] ![1, n] inb).toLoadRect (ix2 (0 : Fin 1) a) = T a :=
  (line_read (inb := inb) v hL a).trans (by rw [Nat.zero_add])
end Line

end Cert.Fox
end
-- ==== Proof.Reads.lean ====
/-
  The vectors one head works from, and how the sums of a block of rows read.
-/
module
public import proofs.«01_k».proof.Proof.Model
public import proofs.«01_k».proof.Proof.Gen.KernelIdeal.Skeleton
public import Idealize.ShloMosaic.Lib.Pipeline.ValueKit

@[expose] public section
set_option maxRecDepth 16384
noncomputable section
namespace Cert.Fox
open Cert.KernelIdeal Cert.KernelIdeal.Gen Idealize.ShloMosaic Idealize.ShloMosaic.TcCoe Idealize.SL.Sem

variable {H : Head} {v11 : FVec Ideal S2048x1 .f32} {v13 : FVec Ideal S1x2048 .f32} {v17 v19 v21 v49 : FVec Ideal S2048x64 .bf16}
  {v48 : FVec Ideal S2048x1 .f32}

/-- The vectors the rows' blocks are computed from, as the head's numbers. -/
structure Reads (H : Head) (v11 : FVec Ideal S2048x1 .f32) (v13 : FVec Ideal S1x2048 .f32) (v17 v19 v21 : FVec Ideal S2048x64 .bf16)
    (v48 : FVec Ideal S2048x1 .f32) (v49 : FVec Ideal S2048x64 .bf16) : Prop where
  c1 : ∀ i : Fin 2048, v11 (ix2 i (0 : Fin 1)) = ((H.c i : ℝ) : EReal)
  c2 : ∀ j : Fin 2048, v13 (ix2 (0 : Fin 1) j) = ((H.c j : ℝ) : EReal)
  q : ∀ (i : Fin 2048) (d : Fin 64), v17 (ix2 i d) = ((H.qs i d : ℝ) : EReal)
  k : ∀ (i : Fin 2048) (d : Fin 64), v19 (ix2 i d) = ((H.k i d : ℝ) : EReal)
  v : ∀ (i : Fin 2048) (d : Fin 64), v21 (ix2 i d) = ((H.v i d : ℝ) : EReal)
  dvec : ∀ i : Fin 2048, v48 (ix2 i (0 : Fin 1)) = ((H.dvec i : ℝ) : EReal)
  od : ∀ (i : Fin 2048) (d : Fin 64), v49 (ix2 i d) = ((H.od i d : ℝ) : EReal)

/-- The causal mask's test: the key's number against the block's first row and the row in it. -/
theorem causal {o x r : ℕ} (ho : o ≤ 2048) (hx : x < 2048) (hr : r < 256) :
    IntOp.cmpi .sle (BitVec.ofNat 32 x) (IntOp.addi (BitVec.ofNat 32 o) (BitVec.ofNat 32 r)) = 1#1 ↔ x ≤ o + r := by
  rw [WordCmp.addi_ofNat, WordCmp.cmpi_sle_ofNat_eq_one_iff (by norm_num; omega) (by norm_num; omega)]

theorem ds_entry {P dp dv : EReal} (p a b : ℝ) (hP : P = (p : EReal)) (hdp : dp = (a : EReal)) (hdv : dv = (b : EReal)) :
    P * (dp - dv) = ((p * (a - b) : ℝ) : EReal) := by
  rw [hP, hdp, hdv, EReal.coe_mul, EReal.coe_sub]

theorem add_entry {x y : EReal} {a b : ℝ} (hx : x = (a : EReal)) (hy : y = (b : EReal)) : x + y = ((a + b : ℝ) : EReal) := by
  rw [hx, hy, EReal.coe_add]

/-- A block's column sum, negated and added. -/
theorem colsum_entry {H : Head} {n a : ℕ} {x : EReal} {f : Fin 256 → EReal} (hx : x = ((H.dc n a : ℝ) : EReal))
    (hf : ∀ r : Fin 256, f r = ((H.ds (n + r) a : ℝ) : EReal)) : x + (0 - ∑ r, f r) = ((H.dcm n a : ℝ) : EReal) := by
  rw [hx, sum_coe f (fun r => H.ds (n + r) a) hf, zero_sub, ← EReal.coe_neg, ← EReal.coe_add, Head.dcm, sub_eq_add_neg]

/-- A block's row sum by a product with ones, the rounded part and the (vanishing) rest side by side. -/
theorem rowsum_entry {n : ℕ} {x : EReal} {c : ℝ} {f g : Fin n → EReal} {s : ℕ → ℝ} (hx : x = (c : EReal))
    (hf : ∀ j : Fin n, f j = ((s j : ℝ) : EReal)) (hg : ∀ j : Fin n, g j = ((s j : ℝ) : EReal)) :
    x + (∑ j, f j + ∑ j, (g j - f j)) = ((c + ∑ j ∈ Finset.range n, s j : ℝ) : EReal) := by
  have h0 : ∀ j : Fin n, g j - f j = (((0 : ℕ → ℝ) j : ℝ) : EReal) := fun j => by
    rw [hf, hg, ← EReal.coe_sub, sub_self]; rfl
  rw [hx, sum_coe f s hf, sum_coe _ _ h0, ← EReal.coe_add, ← EReal.coe_add]
  simp

end Cert.Fox
end
-- ==== Proof.RowsA.lean ====
/-
  What the body computes of the query rows 0 to 511 of one head, entry by entry.
-/
module
public import proofs.«01_k».proof.Proof.Model
public import proofs.«01_k».proof.Proof.Gen.KernelIdeal.Skeleton
public import Idealize.ShloMosaic.Lib.Pipeline.ValueKit
public import proofs.«01_k».proof.Proof.Reads

@[expose] public section
set_option maxRecDepth 16384
noncomputable section
namespace Cert.Fox
open Cert.KernelIdeal Cert.KernelIdeal.Gen Idealize.ShloMosaic Idealize.ShloMosaic.TcCoe Idealize.SL.Sem

variable {H : Head} {v11 : FVec Ideal S2048x1 .f32} {v13 : FVec Ideal S1x2048 .f32} {v17 v19 v21 v49 : FVec Ideal S2048x64 .bf16}
  {v48 : FVec Ideal S2048x1 .f32}
/-! ## Rows 0 to 255 -/

/-- The softmax weights of the block. -/
theorem p_0 (h : Reads H v11 v13 v17 v19 v21 v48 v49) (r : Fin 256) (j : Fin 256) :
    (k0_pay21 v13 (k0_pay19 v17 v19) (k0_pay20 v11) : FVec Ideal S256x256 .f32) (ix2 r j) = ((H.p ((r : ℕ)) j : ℝ) : EReal) := by
  pointwise [k0_pay21, k0_pay19, k0_pay20]
  refine (softmax_row (i := (r : ℕ)) (by omega) _ (fun x => H.s ((r : ℕ)) x) (fun x => ?_) j).trans rfl
  exact score_entry _ _ ((causal (o := 0) (by omega) (by omega) r.isLt).trans (by rw [Nat.zero_add])) _ _ _ _ _ _
    (dot_coe _ _ (fun d => H.qs ((r : ℕ)) d) (fun d => H.k x d) (fun d => h.q _ d) fun d => h.k _ d) (h.c1 _) (h.c2 _)

/-- The scores' cotangents. -/
theorem ds_0 (h : Reads H v11 v13 v17 v19 v21 v48 v49) (r : Fin 256) (j : Fin 256) :
    (k0_pay22 v13 v21 v48 v49 (k0_pay19 v17 v19) (k0_pay20 v11) : FVec Ideal S256x256 .f32) (ix2 r j) = ((H.ds ((r : ℕ)) j : ℝ) : EReal) := by
  pointwise [k0_pay22]
  exact ds_entry _ _ _ (p_0 h r j) (dot_coe _ _ (fun d => H.od ((r : ℕ)) d) (fun d => H.v j d) (fun d => h.od _ d) fun d => h.v _ d)
    (h.dvec _)

theorem db_0 (h : Reads H v11 v13 v17 v19 v21 v48 v49) (r : Fin 256) (j : Fin 256) :
    (k0_pay23 v13 v21 v48 v49 (k0_pay19 v17 v19) (k0_pay20 v11) : FVec Ideal S256x256 .bf16) (ix2 r j) = ((H.ds ((r : ℕ)) j : ℝ) : EReal) := by
  pointwise [k0_pay23]
  exact ds_0 h r j

/-- The query's gradient. -/
theorem dq_0 (h : Reads H v11 v13 v17 v19 v21 v48 v49) (r : Fin 256) (d : Fin 64) :
    (k0_pay24 v13 v19 v21 v48 v49 (k0_pay19 v17 v19) (k0_pay20 v11) : FVec Ideal S256x64 .bf16) (ix2 r d) = ((H.dq ((r : ℕ)) d : ℝ) : EReal) := by
  pointwise [k0_pay24]
  rw [dot_coe _ _ (fun j => H.ds ((r : ℕ)) j) (fun j => H.k j d) (fun j => db_0 h r j) fun j => h.k _ d, eighth_f32, ← EReal.coe_mul,
    H.dq_of (i := (r : ℕ)) (by omega) (by omega)]

/-- The keys' gradient with this block's rows added. -/
theorem dk_0 (h : Reads H v11 v13 v17 v19 v21 v48 v49) (y : Vec Ideal S256x64 .f32)
    (hy : ∀ (a : Fin 256) (d : Fin 64), y (ix2 a d) = ((H.dk 0 a d : ℝ) : EReal)) (a : Fin 256) (d : Fin 64) :
    (k0_pay25 v13 v17 v21 v48 v49 (k0_pay19 v17 v19) (k0_pay20 v11) y : FVec Ideal S256x64 .f32) (ix2 a d) = ((H.dk 256 a d : ℝ) : EReal) := by
  pointwise [k0_pay25]
  refine (add_entry (hy a d) (dot_coe _ _ (fun r => H.ds (0 + r) a) (fun r => H.qs (0 + r) d) (fun r => (db_0 h r a).trans (by rw [Nat.zero_add])) fun r => (h.q _ d).trans (by rw [Nat.zero_add]))).trans ?_
  rw [H.dk_add 0]

/-- The values' gradient with this block's rows added. -/
theorem dv_0 (h : Reads H v11 v13 v17 v19 v21 v48 v49) (y : Vec Ideal S256x64 .f32)
    (hy : ∀ (a : Fin 256) (d : Fin 64), y (ix2 a d) = ((H.dv 0 a d : ℝ) : EReal)) (a : Fin 256) (d : Fin 64) :
    (k0_pay26 v49 (k0_pay21 v13 (k0_pay19 v17 v19) (k0_pay20 v11)) y : FVec Ideal S256x64 .f32) (ix2 a d) = ((H.dv 256 a d : ℝ) : EReal) := by
  pointwise [k0_pay26]
  refine (add_entry (hy a d) (dot_coe _ _ (fun r => H.p (0 + r) a) (fun r => H.od (0 + r) d) (fun r => (p_0 h r a).trans (by rw [Nat.zero_add])) fun r => (h.od _ d).trans (by rw [Nat.zero_add]))).trans ?_
  rw [H.dv_add 0]

/-- The gates' gradient less this block's column sums. -/
theorem cs_0 (h : Reads H v11 v13 v17 v19 v21 v48 v49) (y : Vec Ideal S1x256 .f32)
    (hy : ∀ a : Fin 256, y (ix2 0 a) = ((H.dc 0 a : ℝ) : EReal)) (a : Fin 256) :
    (k0_pay27 (k0_pay22 v13 v21 v48 v49 (k0_pay19 v17 v19) (k0_pay20 v11)) y : FVec Ideal S1x256 .f32) (ix2 0 a) = ((H.dcm 0 a : ℝ) : EReal) := by
  pointwise [k0_pay27]
  exact colsum_entry (hy a) (fun r => (ds_0 h r a).trans (by rw [Nat.zero_add]))

/-- The gates' gradient with this block's row sums added. -/
theorem rs_0 (h : Reads H v11 v13 v17 v19 v21 v48 v49) (y : Vec Ideal S1x256 .f32)
    (hy : ∀ r : Fin 256, y (ix2 0 r) = ((H.dcm 0 ((r : ℕ)) : ℝ) : EReal)) (r : Fin 256) :
    (k0_pay28 (k0_pay22 v13 v21 v48 v49 (k0_pay19 v17 v19) (k0_pay20 v11)) (k0_pay23 v13 v21 v48 v49 (k0_pay19 v17 v19) (k0_pay20 v11)) y : FVec Ideal S1x256 .f32) (ix2 0 r) = ((H.dc 256 ((r : ℕ)) : ℝ) : EReal) := by
  pointwise [k0_pay28]
  refine (rowsum_entry (hy r) (fun j => db_0 h r j) (fun j => ds_0 h r j)).trans ?_
  rw [← Nat.zero_add (r : ℕ)]; exact congrArg _ (H.dc_add (n := 0) r.isLt (by omega))

/-! ## Rows 256 to 511 -/

/-- The softmax weights of the block. -/
theorem p_1 (h : Reads H v11 v13 v17 v19 v21 v48 v49) (r : Fin 256) (j : Fin 512) :
    (k0_pay31 (k0_pay29 v11 v13 v17 v19) (iota .tc S256x512 32 [1] iota_S256x512_d1_w32) (iota .tc S256x512 32 [0] iota_S256x512_d0_w32) k0_pay30 : FVec Ideal S256x512 .f32) (ix2 r j) = ((H.p (256 + (r : ℕ)) j : ℝ) : EReal) := by
  pointwise [k0_pay31, k0_pay29, k0_pay30]
  refine (softmax_row (i := 256 + (r : ℕ)) (by omega) _ (fun x => H.s (256 + (r : ℕ)) x) (fun x => ?_) j).trans rfl
  exact score_entry _ _ (causal (o := 256) (by omega) (by omega) r.isLt) _ _ _ _ _ _
    (dot_coe _ _ (fun d => H.qs (256 + (r : ℕ)) d) (fun d => H.k x d) (fun d => h.q _ d) fun d => h.k _ d) (h.c1 _) (h.c2 _)

/-- The scores' cotangents. -/
theorem ds_1 (h : Reads H v11 v13 v17 v19 v21 v48 v49) (r : Fin 256) (j : Fin 512) :
    (k0_pay32 v21 v48 v49 (k0_pay29 v11 v13 v17 v19) (iota .tc S256x512 32 [1] iota_S256x512_d1_w32) (iota .tc S256x512 32 [0] iota_S256x512_d0_w32) k0_pay30 : FVec Ideal S256x512 .f32) (ix2 r j) = ((H.ds (256 + (r : ℕ)) j : ℝ) : EReal) := by
  pointwise [k0_pay32]
  exact ds_entry _ _ _ (p_1 h r j) (dot_coe _ _ (fun d => H.od (256 + (r : ℕ)) d) (fun d => H.v j d) (fun d => h.od _ d) fun d => h.v _ d)
    (h.dvec _)

theorem db_1 (h : Reads H v11 v13 v17 v19 v21 v48 v49) (r : Fin 256) (j : Fin 512) :
    (k0_pay33 v21 v48 v49 (k0_pay29 v11 v13 v17 v19) (iota .tc S256x512 32 [1] iota_S256x512_d1_w32) (iota .tc S256x512 32 [0] iota_S256x512_d0_w32) k0_pay30 : FVec Ideal S256x512 .bf16) (ix2 r j) = ((H.ds (256 + (r : ℕ)) j : ℝ) : EReal) := by
  pointwise [k0_pay33]
  exact ds_1 h r j

/-- The query's gradient. -/
theorem dq_1 (h : Reads H v11 v13 v17 v19 v21 v48 v49) (r : Fin 256) (d : Fin 64) :
    (k0_pay34 v19 v21 v48 v49 (k0_pay29 v11 v13 v17 v19) (iota .tc S256x512 32 [1] iota_S256x512_d1_w32) (iota .tc S256x512 32 [0] iota_S256x512_d0_w32) k0_pay30 : FVec Ideal S256x64 .bf16) (ix2 r d) = ((H.dq (256 + (r : ℕ)) d : ℝ) : EReal) := by
  pointwise [k0_pay34]
  rw [dot_coe _ _ (fun j => H.ds (256 + (r : ℕ)) j) (fun j => H.k j d) (fun j => db_1 h r j) fun j => h.k _ d, eighth_f32, ← EReal.coe_mul,
    H.dq_of (i := 256 + (r : ℕ)) (by omega) (by omega)]

/-- The keys' gradient with this block's rows added. -/
theorem dk_1 (h : Reads H v11 v13 v17 v19 v21 v48 v49) (y : Vec Ideal S512x64 .f32)
    (hy : ∀ (a : Fin 512) (d : Fin 64), y (ix2 a d) = ((H.dk 256 a d : ℝ) : EReal)) (a : Fin 512) (d : Fin 64) :
    (k0_pay35 v17 v21 v48 v49 (k0_pay29 v11 v13 v17 v19) (iota .tc S256x512 32 [1] iota_S256x512_d1_w32) (iota .tc S256x512 32 [0] iota_S256x512_d0_w32) k0_pay30 y : FVec Ideal S512x64 .f32) (ix2 a d) = ((H.dk 512 a d : ℝ) : EReal) := by
  pointwise [k0_pay35]
  refine (add_entry (hy a d) (dot_coe _ _ (fun r => H.ds (256 + r) a) (fun r => H.qs (256 + r) d) (fun r => db_1 h r a) fun r => h.q _ d)).trans ?_
  rw [H.dk_add 256]

/-- The values' gradient with this block's rows added. -/
theorem dv_1 (h : Reads H v11 v13 v17 v19 v21 v48 v49) (y : Vec Ideal S512x64 .f32)
    (hy : ∀ (a : Fin 512) (d : Fin 64), y (ix2 a d) = ((H.dv 256 a d : ℝ) : EReal)) (a : Fin 512) (d : Fin 64) :
    (k0_pay37 (k0_pay36 v49 (k0_pay29 v11 v13 v17 v19) (iota .tc S256x512 32 [1] iota_S256x512_d1_w32) (iota .tc S256x512 32 [0] iota_S256x512_d0_w32) k0_pay30 y) : FVec Ideal S512x64 .f32) (ix2 a d) = ((H.dv 512 a d : ℝ) : EReal) := by
  pointwise [k0_pay37, k0_pay36]
  refine (add_entry (hy a d) (dot_coe _ _ (fun r => H.p (256 + r) a) (fun r => H.od (256 + r) d) (fun r => p_1 h r a) fun r => h.od _ d)).trans ?_
  rw [H.dv_add 256]

/-- The gates' gradient less this block's column sums. -/
theorem cs_1 (h : Reads H v11 v13 v17 v19 v21 v48 v49) (y : Vec Ideal S1x512 .f32)
    (hy : ∀ a : Fin 512, y (ix2 0 a) = ((H.dc 256 a : ℝ) : EReal)) (a : Fin 512) :
    (k0_pay38 (k0_pay32 v21 v48 v49 (k0_pay29 v11 v13 v17 v19) (iota .tc S256x512 32 [1] iota_S256x512_d1_w32) (iota .tc S256x512 32 [0] iota_S256x512_d0_w32) k0_pay30) y : FVec Ideal S1x512 .f32) (ix2 0 a) = ((H.dcm 256 a : ℝ) : EReal) := by
  pointwise [k0_pay38]
  exact colsum_entry (hy a) (fun r => ds_1 h r a)

/-- The gates' gradient with this block's row sums added. -/
theorem rs_1 (h : Reads H v11 v13 v17 v19 v21 v48 v49) (y : Vec Ideal S1x256 .f32)
    (hy : ∀ r : Fin 256, y (ix2 0 r) = ((H.dcm 256 (256 + (r : ℕ)) : ℝ) : EReal)) (r : Fin 256) :
    (k0_pay39 (k0_pay32 v21 v48 v49 (k0_pay29 v11 v13 v17 v19) (iota .tc S256x512 32 [1] iota_S256x512_d1_w32) (iota .tc S256x512 32 [0] iota_S256x512_d0_w32) k0_pay30) (k0_pay33 v21 v48 v49 (k0_pay29 v11 v13 v17 v19) (iota .tc S256x512 32 [1] iota_S256x512_d1_w32) (iota .tc S256x512 32 [0] iota_S256x512_d0_w32) k0_pay30) y : FVec Ideal S1x256 .f32) (ix2 0 r) = ((H.dc 512 (256 + (r : ℕ)) : ℝ) : EReal) := by
  pointwise [k0_pay39]
  refine (rowsum_entry (hy r) (fun j => db_1 h r j) (fun j => ds_1 h r j)).trans ?_
  rw [H.dc_add (n := 256) r.isLt (by omega)]

end Cert.Fox
end
-- ==== Proof.RowsB.lean ====
/-
  What the body computes of the query rows 512 to 1023 of one head, entry by entry.
-/
module
public import proofs.«01_k».proof.Proof.Model
public import proofs.«01_k».proof.Proof.Gen.KernelIdeal.Skeleton
public import Idealize.ShloMosaic.Lib.Pipeline.ValueKit
public import proofs.«01_k».proof.Proof.Reads

@[expose] public section
set_option maxRecDepth 16384
noncomputable section
namespace Cert.Fox
open Cert.KernelIdeal Cert.KernelIdeal.Gen Idealize.ShloMosaic Idealize.ShloMosaic.TcCoe Idealize.SL.Sem

variable {H : Head} {v11 : FVec Ideal S2048x1 .f32} {v13 : FVec Ideal S1x2048 .f32} {v17 v19 v21 v49 : FVec Ideal S2048x64 .bf16}
  {v48 : FVec Ideal S2048x1 .f32}
/-! ## Rows 512 to 767 -/

/-- The softmax weights of the block. -/
theorem p_2 (h : Reads H v11 v13 v17 v19 v21 v48 v49) (r : Fin 256) (j : Fin 768) :
    (k0_pay42 (k0_pay40 v11 v13 v17 v19) (k0_pay41 v11 v13 v17 v19) : FVec Ideal S256x768 .f32) (ix2 r j) = ((H.p (512 + (r : ℕ)) j : ℝ) : EReal) := by
  pointwise [k0_pay42, k0_pay41, k0_pay40]
  refine (softmax_row (i := 512 + (r : ℕ)) (by omega) _ (fun x => H.s (512 + (r : ℕ)) x) (fun x => ?_) j).trans rfl
  exact score_entry _ _ (causal (o := 512) (by omega) (by omega) r.isLt) _ _ _ _ _ _
    (dot_coe _ _ (fun d => H.qs (512 + (r : ℕ)) d) (fun d => H.k x d) (fun d => h.q _ d) fun d => h.k _ d) (h.c1 _) (h.c2 _)

/-- The scores' cotangents. -/
theorem ds_2 (h : Reads H v11 v13 v17 v19 v21 v48 v49) (r : Fin 256) (j : Fin 768) :
    (k0_pay43 v21 v48 v49 (k0_pay40 v11 v13 v17 v19) (k0_pay41 v11 v13 v17 v19) : FVec Ideal S256x768 .f32) (ix2 r j) = ((H.ds (512 + (r : ℕ)) j : ℝ) : EReal) := by
  pointwise [k0_pay43]
  exact ds_entry _ _ _ (p_2 h r j) (dot_coe _ _ (fun d => H.od (512 + (r : ℕ)) d) (fun d => H.v j d) (fun d => h.od _ d) fun d => h.v _ d)
    (h.dvec _)

theorem db_2 (h : Reads H v11 v13 v17 v19 v21 v48 v49) (r : Fin 256) (j : Fin 768) :
    (k0_pay44 v21 v48 v49 (k0_pay40 v11 v13 v17 v19) (k0_pay41 v11 v13 v17 v19) : FVec Ideal S256x768 .bf16) (ix2 r j) = ((H.ds (512 + (r : ℕ)) j : ℝ) : EReal) := by
  pointwise [k0_pay44]
  exact ds_2 h r j

/-- The query's gradient. -/
theorem dq_2 (h : Reads H v11 v13 v17 v19 v21 v48 v49) (r : Fin 256) (d : Fin 64) :
    (k0_pay45 v19 v21 v48 v49 (k0_pay40 v11 v13 v17 v19) (k0_pay41 v11 v13 v17 v19) : FVec Ideal S256x64 .bf16) (ix2 r d) = ((H.dq (512 + (r : ℕ)) d : ℝ) : EReal) := by
  pointwise [k0_pay45]
  rw [dot_coe _ _ (fun j => H.ds (512 + (r : ℕ)) j) (fun j => H.k j d) (fun j => db_2 h r j) fun j => h.k _ d, eighth_f32, ← EReal.coe_mul,
    H.dq_of (i := 512 + (r : ℕ)) (by omega) (by omega)]

/-- The keys' gradient with this block's rows added. -/
theorem dk_2 (h : Reads H v11 v13 v17 v19 v21 v48 v49) (y : Vec Ideal S768x64 .f32)
    (hy : ∀ (a : Fin 768) (d : Fin 64), y (ix2 a d) = ((H.dk 512 a d : ℝ) : EReal)) (a : Fin 768) (d : Fin 64) :
    (k0_pay46 v17 v21 v48 v49 (k0_pay40 v11 v13 v17 v19) (k0_pay41 v11 v13 v17 v19) y : FVec Ideal S768x64 .f32) (ix2 a d) = ((H.dk 768 a d : ℝ) : EReal) := by
  pointwise [k0_pay46]
  refine (add_entry (hy a d) (dot_coe _ _ (fun r => H.ds (512 + r) a) (fun r => H.qs (512 + r) d) (fun r => db_2 h r a) fun r => h.q _ d)).trans ?_
  rw [H.dk_add 512]

/-- The values' gradient with this block's rows added. -/
theorem dv_2 (h : Reads H v11 v13 v17 v19 v21 v48 v49) (y : Vec Ideal S768x64 .f32)
    (hy : ∀ (a : Fin 768) (d : Fin 64), y (ix2 a d) = ((H.dv 512 a d : ℝ) : EReal)) (a : Fin 768) (d : Fin 64) :
    (k0_pay47 v49 (k0_pay40 v11 v13 v17 v19) (k0_pay41 v11 v13 v17 v19) y : FVec Ideal S768x64 .f32) (ix2 a d) = ((H.dv 768 a d : ℝ) : EReal) := by
  pointwise [k0_pay47]
  refine (add_entry (hy a d) (dot_coe _ _ (fun r => H.p (512 + r) a) (fun r => H.od (512 + r) d) (fun r => p_2 h r a) fun r => h.od _ d)).trans ?_
  rw [H.dv_add 512]

/-- The gates' gradient less this block's column sums. -/
theorem cs_2 (h : Reads H v11 v13 v17 v19 v21 v48 v49) (y : Vec Ideal S1x768 .f32)
    (hy : ∀ a : Fin 768, y (ix2 0 a) = ((H.dc 512 a : ℝ) : EReal)) (a : Fin 768) :
    (k0_pay49 y (k0_pay48 v21 v48 v49 (k0_pay40 v11 v13 v17 v19) (k0_pay41 v11 v13 v17 v19)) : FVec Ideal S1x768 .f32) (ix2 0 a) = ((H.dcm 512 a : ℝ) : EReal) := by
  pointwise [k0_pay49, k0_pay48]
  exact colsum_entry (hy a) (fun r => ds_2 h r a)

/-- The gates' gradient with this block's row sums added. -/
theorem rs_2 (h : Reads H v11 v13 v17 v19 v21 v48 v49) (y : Vec Ideal S1x256 .f32)
    (hy : ∀ r : Fin 256, y (ix2 0 r) = ((H.dcm 512 (512 + (r : ℕ)) : ℝ) : EReal)) (r : Fin 256) :
    (k0_pay50 (k0_pay43 v21 v48 v49 (k0_pay40 v11 v13 v17 v19) (k0_pay41 v11 v13 v17 v19)) (k0_pay44 v21 v48 v49 (k0_pay40 v11 v13 v17 v19) (k0_pay41 v11 v13 v17 v19)) y : FVec Ideal S1x256 .f32) (ix2 0 r) = ((H.dc 768 (512 + (r : ℕ)) : ℝ) : EReal) := by
  pointwise [k0_pay50]
  refine (rowsum_entry (hy r) (fun j => db_2 h r j) (fun j => ds_2 h r j)).trans ?_
  rw [H.dc_add (n := 512) r.isLt (by omega)]

/-! ## Rows 768 to 1023 -/

/-- The softmax weights of the block. -/
theorem p_3 (h : Reads H v11 v13 v17 v19 v21 v48 v49) (r : Fin 256) (j : Fin 1024) :
    (k0_pay51 v11 v13 v17 v19 : FVec Ideal S256x1024 .f32) (ix2 r j) = ((H.p (768 + (r : ℕ)) j : ℝ) : EReal) := by
  pointwise [k0_pay51]
  refine (softmax_row (i := 768 + (r : ℕ)) (by omega) _ (fun x => H.s (768 + (r : ℕ)) x) (fun x => ?_) j).trans rfl
  exact score_entry _ _ (causal (o := 768) (by omega) (by omega) r.isLt) _ _ _ _ _ _
    (dot_coe _ _ (fun d => H.qs (768 + (r : ℕ)) d) (fun d => H.k x d) (fun d => h.q _ d) fun d => h.k _ d) (h.c1 _) (h.c2 _)

/-- The scores' cotangents. -/
theorem ds_3 (h : Reads H v11 v13 v17 v19 v21 v48 v49) (r : Fin 256) (j : Fin 1024) :
    (k0_pay52 v21 v48 v49 (k0_pay51 v11 v13 v17 v19) : FVec Ideal S256x1024 .f32) (ix2 r j) = ((H.ds (768 + (r : ℕ)) j : ℝ) : EReal) := by
  pointwise [k0_pay52]
  exact ds_entry _ _ _ (p_3 h r j) (dot_coe _ _ (fun d => H.od (768 + (r : ℕ)) d) (fun d => H.v j d) (fun d => h.od _ d) fun d => h.v _ d)
    (h.dvec _)

theorem db_3 (h : Reads H v11 v13 v17 v19 v21 v48 v49) (r : Fin 256) (j : Fin 1024) :
    (k0_pay53 v21 v48 v49 (k0_pay51 v11 v13 v17 v19) : FVec Ideal S256x1024 .bf16) (ix2 r j) = ((H.ds (768 + (r : ℕ)) j : ℝ) : EReal) := by
  pointwise [k0_pay53]
  exact ds_3 h r j

/-- The query's gradient. -/
theorem dq_3 (h : Reads H v11 v13 v17 v19 v21 v48 v49) (r : Fin 256) (d : Fin 64) :
    (k0_pay54 v19 v21 v48 v49 (k0_pay51 v11 v13 v17 v19) : FVec Ideal S256x64 .bf16) (ix2 r d) = ((H.dq (768 + (r : ℕ)) d : ℝ) : EReal) := by
  pointwise [k0_pay54]
  rw [dot_coe _ _ (fun j => H.ds (768 + (r : ℕ)) j) (fun j => H.k j d) (fun j => db_3 h r j) fun j => h.k _ d, eighth_f32, ← EReal.coe_mul,
    H.dq_of (i := 768 + (r : ℕ)) (by omega) (by omega)]

/-- The keys' gradient with this block's rows added. -/
theorem dk_3 (h : Reads H v11 v13 v17 v19 v21 v48 v49) (y : Vec Ideal S1024x64 .f32)
    (hy : ∀ (a : Fin 1024) (d : Fin 64), y (ix2 a d) = ((H.dk 768 a d : ℝ) : EReal)) (a : Fin 1024) (d : Fin 64) :
    (k0_pay55 v17 v21 v48 v49 (k0_pay51 v11 v13 v17 v19) y : FVec Ideal S1024x64 .f32) (ix2 a d) = ((H.dk 1024 a d : ℝ) : EReal) := by
  pointwise [k0_pay55]
  refine (add_entry (hy a d) (dot_coe _ _ (fun r => H.ds (768 + r) a) (fun r => H.qs (768 + r) d) (fun r => db_3 h r a) fun r => h.q _ d)).trans ?_
  rw [H.dk_add 768]

/-- The values' gradient with this block's rows added. -/
theorem dv_3 (h : Reads H v11 v13 v17 v19 v21 v48 v49) (y : Vec Ideal S1024x64 .f32)
    (hy : ∀ (a : Fin 1024) (d : Fin 64), y (ix2 a d) = ((H.dv 768 a d : ℝ) : EReal)) (a : Fin 1024) (d : Fin 64) :
    (k0_pay56 v49 (k0_pay51 v11 v13 v17 v19) y : FVec Ideal S1024x64 .f32) (ix2 a d) = ((H.dv 1024 a d : ℝ) : EReal) := by
  pointwise [k0_pay56]
  refine (add_entry (hy a d) (dot_coe _ _ (fun r => H.p (768 + r) a) (fun r => H.od (768 + r) d) (fun r => p_3 h r a) fun r => h.od _ d)).trans ?_
  rw [H.dv_add 768]

/-- The gates' gradient less this block's column sums. -/
theorem cs_3 (h : Reads H v11 v13 v17 v19 v21 v48 v49) (y : Vec Ideal S1x1024 .f32)
    (hy : ∀ a : Fin 1024, y (ix2 0 a) = ((H.dc 768 a : ℝ) : EReal)) (a : Fin 1024) :
    (k0_pay58 (k0_pay57 v21 v48 v49 (k0_pay51 v11 v13 v17 v19) y) : FVec Ideal S1x1024 .f32) (ix2 0 a) = ((H.dcm 768 a : ℝ) : EReal) := by
  pointwise [k0_pay58, k0_pay57]
  exact colsum_entry (hy a) (fun r => ds_3 h r a)

/-- The gates' gradient with this block's row sums added. -/
theorem rs_3 (h : Reads H v11 v13 v17 v19 v21 v48 v49) (y : Vec Ideal S1x256 .f32)
    (hy : ∀ r : Fin 256, y (ix2 0 r) = ((H.dcm 768 (768 + (r : ℕ)) : ℝ) : EReal)) (r : Fin 256) :
    (k0_pay59 (k0_pay52 v21 v48 v49 (k0_pay51 v11 v13 v17 v19)) (k0_pay53 v21 v48 v49 (k0_pay51 v11 v13 v17 v19)) y : FVec Ideal S1x256 .f32) (ix2 0 r) = ((H.dc 1024 (768 + (r : ℕ)) : ℝ) : EReal) := by
  pointwise [k0_pay59]
  refine (rowsum_entry (hy r) (fun j => db_3 h r j) (fun j => ds_3 h r j)).trans ?_
  rw [H.dc_add (n := 768) r.isLt (by omega)]

end Cert.Fox
end
-- ==== Proof.RowsC.lean ====
/-
  What the body computes of the query rows 1024 to 1535 of one head, entry by entry.
-/
module
public import proofs.«01_k».proof.Proof.Model
public import proofs.«01_k».proof.Proof.Gen.KernelIdeal.Skeleton
public import Idealize.ShloMosaic.Lib.Pipeline.ValueKit
public import proofs.«01_k».proof.Proof.Reads

@[expose] public section
set_option maxRecDepth 16384
noncomputable section
namespace Cert.Fox
open Cert.KernelIdeal Cert.KernelIdeal.Gen Idealize.ShloMosaic Idealize.ShloMosaic.TcCoe Idealize.SL.Sem

variable {H : Head} {v11 : FVec Ideal S2048x1 .f32} {v13 : FVec Ideal S1x2048 .f32} {v17 v19 v21 v49 : FVec Ideal S2048x64 .bf16}
  {v48 : FVec Ideal S2048x1 .f32}
/-! ## Rows 1024 to 1279 -/

/-- The softmax weights of the block. -/
theorem p_4 (h : Reads H v11 v13 v17 v19 v21 v48 v49) (r : Fin 256) (j : Fin 1280) :
    (k0_pay60 v11 v13 v17 v19 : FVec Ideal S256x1280 .f32) (ix2 r j) = ((H.p (1024 + (r : ℕ)) j : ℝ) : EReal) := by
  pointwise [k0_pay60]
  refine (softmax_row (i := 1024 + (r : ℕ)) (by omega) _ (fun x => H.s (1024 + (r : ℕ)) x) (fun x => ?_) j).trans rfl
  exact score_entry _ _ (causal (o := 1024) (by omega) (by omega) r.isLt) _ _ _ _ _ _
    (dot_coe _ _ (fun d => H.qs (1024 + (r : ℕ)) d) (fun d => H.k x d) (fun d => h.q _ d) fun d => h.k _ d) (h.c1 _) (h.c2 _)

/-- The scores' cotangents. -/
theorem ds_4 (h : Reads H v11 v13 v17 v19 v21 v48 v49) (r : Fin 256) (j : Fin 1280) :
    (k0_pay61 v11 v13 v17 v19 v21 v48 v49 : FVec Ideal S256x1280 .f32) (ix2 r j) = ((H.ds (1024 + (r : ℕ)) j : ℝ) : EReal) := by
  pointwise [k0_pay61]
  exact ds_entry _ _ _ (p_4 h r j) (dot_coe _ _ (fun d => H.od (1024 + (r : ℕ)) d) (fun d => H.v j d) (fun d => h.od _ d) fun d => h.v _ d)
    (h.dvec _)

theorem db_4 (h : Reads H v11 v13 v17 v19 v21 v48 v49) (r : Fin 256) (j : Fin 1280) :
    (k0_pay62 (k0_pay61 v11 v13 v17 v19 v21 v48 v49) : FVec Ideal S256x1280 .bf16) (ix2 r j) = ((H.ds (1024 + (r : ℕ)) j : ℝ) : EReal) := by
  pointwise [k0_pay62]
  exact ds_4 h r j

/-- The query's gradient. -/
theorem dq_4 (h : Reads H v11 v13 v17 v19 v21 v48 v49) (r : Fin 256) (d : Fin 64) :
    (k0_pay63 v19 (k0_pay61 v11 v13 v17 v19 v21 v48 v49) : FVec Ideal S256x64 .bf16) (ix2 r d) = ((H.dq (1024 + (r : ℕ)) d : ℝ) : EReal) := by
  pointwise [k0_pay63]
  rw [dot_coe _ _ (fun j => H.ds (1024 + (r : ℕ)) j) (fun j => H.k j d) (fun j => db_4 h r j) fun j => h.k _ d, eighth_f32, ← EReal.coe_mul,
    H.dq_of (i := 1024 + (r : ℕ)) (by omega) (by omega)]

/-- The keys' gradient with this block's rows added. -/
theorem dk_4 (h : Reads H v11 v13 v17 v19 v21 v48 v49) (y : Vec Ideal S1280x64 .f32)
    (hy : ∀ (a : Fin 1280) (d : Fin 64), y (ix2 a d) = ((H.dk 1024 a d : ℝ) : EReal)) (a : Fin 1280) (d : Fin 64) :
    (k0_pay64 v17 (k0_pay61 v11 v13 v17 v19 v21 v48 v49) y : FVec Ideal S1280x64 .f32) (ix2 a d) = ((H.dk 1280 a d : ℝ) : EReal) := by
  pointwise [k0_pay64]
  refine (add_entry (hy a d) (dot_coe _ _ (fun r => H.ds (1024 + r) a) (fun r => H.qs (1024 + r) d) (fun r => db_4 h r a) fun r => h.q _ d)).trans ?_
  rw [H.dk_add 1024]

/-- The values' gradient with this block's rows added. -/
theorem dv_4 (h : Reads H v11 v13 v17 v19 v21 v48 v49) (y : Vec Ideal S1280x64 .f32)
    (hy : ∀ (a : Fin 1280) (d : Fin 64), y (ix2 a d) = ((H.dv 1024 a d : ℝ) : EReal)) (a : Fin 1280) (d : Fin 64) :
    (k0_pay65 v49 (k0_pay60 v11 v13 v17 v19) y : FVec Ideal S1280x64 .f32) (ix2 a d) = ((H.dv 1280 a d : ℝ) : EReal) := by
  pointwise [k0_pay65]
  refine (add_entry (hy a d) (dot_coe _ _ (fun r => H.p (1024 + r) a) (fun r => H.od (1024 + r) d) (fun r => p_4 h r a) fun r => h.od _ d)).trans ?_
  rw [H.dv_add 1024]

/-- The gates' gradient less this block's column sums. -/
theorem cs_4 (h : Reads H v11 v13 v17 v19 v21 v48 v49) (y : Vec Ideal S1x1280 .f32)
    (hy : ∀ a : Fin 1280, y (ix2 0 a) = ((H.dc 1024 a : ℝ) : EReal)) (a : Fin 1280) :
    (k0_pay66 (k0_pay61 v11 v13 v17 v19 v21 v48 v49) y : FVec Ideal S1x1280 .f32) (ix2 0 a) = ((H.dcm 1024 a : ℝ) : EReal) := by
  pointwise [k0_pay66]
  exact colsum_entry (hy a) (fun r => ds_4 h r a)

/-- The gates' gradient with this block's row sums added. -/
theorem rs_4 (h : Reads H v11 v13 v17 v19 v21 v48 v49) (y : Vec Ideal S1x256 .f32)
    (hy : ∀ r : Fin 256, y (ix2 0 r) = ((H.dcm 1024 (1024 + (r : ℕ)) : ℝ) : EReal)) (r : Fin 256) :
    (k0_pay69 (k0_pay62 (k0_pay61 v11 v13 v17 v19 v21 v48 v49)) (k0_pay67 (k0_pay61 v11 v13 v17 v19 v21 v48 v49)) k0_pay68 y : FVec Ideal S1x256 .f32) (ix2 0 r) = ((H.dc 1280 (1024 + (r : ℕ)) : ℝ) : EReal) := by
  pointwise [k0_pay69, k0_pay68, k0_pay67]
  refine (rowsum_entry (hy r) (fun j => db_4 h r j) (fun j => ds_4 h r j)).trans ?_
  rw [H.dc_add (n := 1024) r.isLt (by omega)]

/-! ## Rows 1280 to 1535 -/

/-- The softmax weights of the block. -/
theorem p_5 (h : Reads H v11 v13 v17 v19 v21 v48 v49) (r : Fin 256) (j : Fin 1536) :
    (k0_pay70 v11 v13 v17 v19 : FVec Ideal S256x1536 .f32) (ix2 r j) = ((H.p (1280 + (r : ℕ)) j : ℝ) : EReal) := by
  pointwise [k0_pay70]
  refine (softmax_row (i := 1280 + (r : ℕ)) (by omega) _ (fun x => H.s (1280 + (r : ℕ)) x) (fun x => ?_) j).trans rfl
  exact score_entry _ _ (causal (o := 1280) (by omega) (by omega) r.isLt) _ _ _ _ _ _
    (dot_coe _ _ (fun d => H.qs (1280 + (r : ℕ)) d) (fun d => H.k x d) (fun d => h.q _ d) fun d => h.k _ d) (h.c1 _) (h.c2 _)

/-- The scores' cotangents. -/
theorem ds_5 (h : Reads H v11 v13 v17 v19 v21 v48 v49) (r : Fin 256) (j : Fin 1536) :
    (k0_pay71 v11 v13 v17 v19 v21 v48 v49 : FVec Ideal S256x1536 .f32) (ix2 r j) = ((H.ds (1280 + (r : ℕ)) j : ℝ) : EReal) := by
  pointwise [k0_pay71]
  exact ds_entry _ _ _ (p_5 h r j) (dot_coe _ _ (fun d => H.od (1280 + (r : ℕ)) d) (fun d => H.v j d) (fun d => h.od _ d) fun d => h.v _ d)
    (h.dvec _)

theorem db_5 (h : Reads H v11 v13 v17 v19 v21 v48 v49) (r : Fin 256) (j : Fin 1536) :
    (k0_pay72 v11 v13 v17 v19 v21 v48 v49 : FVec Ideal S256x1536 .bf16) (ix2 r j) = ((H.ds (1280 + (r : ℕ)) j : ℝ) : EReal) := by
  pointwise [k0_pay72]
  exact ds_5 h r j

/-- The query's gradient. -/
theorem dq_5 (h : Reads H v11 v13 v17 v19 v21 v48 v49) (r : Fin 256) (d : Fin 64) :
    (k0_pay73 v11 v13 v17 v19 v21 v48 v49 : FVec Ideal S256x64 .bf16) (ix2 r d) = ((H.dq (1280 + (r : ℕ)) d : ℝ) : EReal) := by
  pointwise [k0_pay73]
  rw [dot_coe _ _ (fun j => H.ds (1280 + (r : ℕ)) j) (fun j => H.k j d) (fun j => db_5 h r j) fun j => h.k _ d, eighth_f32, ← EReal.coe_mul,
    H.dq_of (i := 1280 + (r : ℕ)) (by omega) (by omega)]

/-- The keys' gradient with this block's rows added. -/
theorem dk_5 (h : Reads H v11 v13 v17 v19 v21 v48 v49) (y : Vec Ideal S1536x64 .f32)
    (hy : ∀ (a : Fin 1536) (d : Fin 64), y (ix2 a d) = ((H.dk 1280 a d : ℝ) : EReal)) (a : Fin 1536) (d : Fin 64) :
    (k0_pay74 v17 (k0_pay72 v11 v13 v17 v19 v21 v48 v49) y : FVec Ideal S1536x64 .f32) (ix2 a d) = ((H.dk 1536 a d : ℝ) : EReal) := by
  pointwise [k0_pay74]
  refine (add_entry (hy a d) (dot_coe _ _ (fun r => H.ds (1280 + r) a) (fun r => H.qs (1280 + r) d) (fun r => db_5 h r a) fun r => h.q _ d)).trans ?_
  rw [H.dk_add 1280]

/-- The values' gradient with this block's rows added. -/
theorem dv_5 (h : Reads H v11 v13 v17 v19 v21 v48 v49) (y : Vec Ideal S1536x64 .f32)
    (hy : ∀ (a : Fin 1536) (d : Fin 64), y (ix2 a d) = ((H.dv 1280 a d : ℝ) : EReal)) (a : Fin 1536) (d : Fin 64) :
    (k0_pay75 v49 (k0_pay70 v11 v13 v17 v19) y : FVec Ideal S1536x64 .f32) (ix2 a d) = ((H.dv 1536 a d : ℝ) : EReal) := by
  pointwise [k0_pay75]
  refine (add_entry (hy a d) (dot_coe _ _ (fun r => H.p (1280 + r) a) (fun r => H.od (1280 + r) d) (fun r => p_5 h r a) fun r => h.od _ d)).trans ?_
  rw [H.dv_add 1280]

/-- The gates' gradient less this block's column sums. -/
theorem cs_5 (h : Reads H v11 v13 v17 v19 v21 v48 v49) (y : Vec Ideal S1x1536 .f32)
    (hy : ∀ a : Fin 1536, y (ix2 0 a) = ((H.dc 1280 a : ℝ) : EReal)) (a : Fin 1536) :
    (k0_pay76 (k0_pay71 v11 v13 v17 v19 v21 v48 v49) y : FVec Ideal S1x1536 .f32) (ix2 0 a) = ((H.dcm 1280 a : ℝ) : EReal) := by
  pointwise [k0_pay76]
  exact colsum_entry (hy a) (fun r => ds_5 h r a)

/-- The gates' gradient with this block's row sums added. -/
theorem rs_5 (h : Reads H v11 v13 v17 v19 v21 v48 v49) (y : Vec Ideal S1x256 .f32)
    (hy : ∀ r : Fin 256, y (ix2 0 r) = ((H.dcm 1280 (1280 + (r : ℕ)) : ℝ) : EReal)) (r : Fin 256) :
    (k0_pay78 (k0_pay77 (k0_pay71 v11 v13 v17 v19 v21 v48 v49) (k0_pay72 v11 v13 v17 v19 v21 v48 v49) y) : FVec Ideal S1x256 .f32) (ix2 0 r) = ((H.dc 1536 (1280 + (r : ℕ)) : ℝ) : EReal) := by
  pointwise [k0_pay78, k0_pay77]
  refine (rowsum_entry (hy r) (fun j => db_5 h r j) (fun j => ds_5 h r j)).trans ?_
  rw [H.dc_add (n := 1280) r.isLt (by omega)]

end Cert.Fox
end
-- ==== Proof.RowsD.lean ====
/-
  What the body computes of the query rows 1536 to 2047 of one head, entry by entry.
-/
module
public import proofs.«01_k».proof.Proof.Model
public import proofs.«01_k».proof.Proof.Gen.KernelIdeal.Skeleton
public import Idealize.ShloMosaic.Lib.Pipeline.ValueKit
public import proofs.«01_k».proof.Proof.Reads

@[expose] public section
set_option maxRecDepth 16384
noncomputable section
namespace Cert.Fox
open Cert.KernelIdeal Cert.KernelIdeal.Gen Idealize.ShloMosaic Idealize.ShloMosaic.TcCoe Idealize.SL.Sem

variable {H : Head} {v11 : FVec Ideal S2048x1 .f32} {v13 : FVec Ideal S1x2048 .f32} {v17 v19 v21 v49 : FVec Ideal S2048x64 .bf16}
  {v48 : FVec Ideal S2048x1 .f32}
/-! ## Rows 1536 to 1791 -/

/-- The softmax weights of the block. -/
theorem p_6 (h : Reads H v11 v13 v17 v19 v21 v48 v49) (r : Fin 256) (j : Fin 1792) :
    (k0_pay79 v11 v13 v17 v19 : FVec Ideal S256x1792 .f32) (ix2 r j) = ((H.p (1536 + (r : ℕ)) j : ℝ) : EReal) := by
  pointwise [k0_pay79]
  refine (softmax_row (i := 1536 + (r : ℕ)) (by omega) _ (fun x => H.s (1536 + (r : ℕ)) x) (fun x => ?_) j).trans rfl
  exact score_entry _ _ (causal (o := 1536) (by omega) (by omega) r.isLt) _ _ _ _ _ _
    (dot_coe _ _ (fun d => H.qs (1536 + (r : ℕ)) d) (fun d => H.k x d) (fun d => h.q _ d) fun d => h.k _ d) (h.c1 _) (h.c2 _)

/-- The scores' cotangents. -/
theorem ds_6 (h : Reads H v11 v13 v17 v19 v21 v48 v49) (r : Fin 256) (j : Fin 1792) :
    (k0_pay80 v11 v13 v17 v19 v21 v48 v49 : FVec Ideal S256x1792 .f32) (ix2 r j) = ((H.ds (1536 + (r : ℕ)) j : ℝ) : EReal) := by
  pointwise [k0_pay80]
  exact ds_entry _ _ _ (p_6 h r j) (dot_coe _ _ (fun d => H.od (1536 + (r : ℕ)) d) (fun d => H.v j d) (fun d => h.od _ d) fun d => h.v _ d)
    (h.dvec _)

theorem db_6 (h : Reads H v11 v13 v17 v19 v21 v48 v49) (r : Fin 256) (j : Fin 1792) :
    (k0_pay81 v11 v13 v17 v19 v21 v48 v49 : FVec Ideal S256x1792 .bf16) (ix2 r j) = ((H.ds (1536 + (r : ℕ)) j : ℝ) : EReal) := by
  pointwise [k0_pay81]
  exact ds_6 h r j

/-- The query's gradient. -/
theorem dq_6 (h : Reads H v11 v13 v17 v19 v21 v48 v49) (r : Fin 256) (d : Fin 64) :
    (k0_pay82 v11 v13 v17 v19 v21 v48 v49 : FVec Ideal S256x64 .bf16) (ix2 r d) = ((H.dq (1536 + (r : ℕ)) d : ℝ) : EReal) := by
  pointwise [k0_pay82]
  rw [dot_coe _ _ (fun j => H.ds (1536 + (r : ℕ)) j) (fun j => H.k j d) (fun j => db_6 h r j) fun j => h.k _ d, eighth_f32, ← EReal.coe_mul,
    H.dq_of (i := 1536 + (r : ℕ)) (by omega) (by omega)]

/-- The keys' gradient with this block's rows added. -/
theorem dk_6 (h : Reads H v11 v13 v17 v19 v21 v48 v49) (y : Vec Ideal S1792x64 .f32)
    (hy : ∀ (a : Fin 1792) (d : Fin 64), y (ix2 a d) = ((H.dk 1536 a d : ℝ) : EReal)) (a : Fin 1792) (d : Fin 64) :
    (k0_pay84 (k0_pay81 v11 v13 v17 v19 v21 v48 v49) y (k0_pay83 v17) : FVec Ideal S1792x64 .f32) (ix2 a d) = ((H.dk 1792 a d : ℝ) : EReal) := by
  pointwise [k0_pay84, k0_pay83]
  refine (add_entry (hy a d) (dot_coe _ _ (fun r => H.ds (1536 + r) a) (fun r => H.qs (1536 + r) d) (fun r => db_6 h r a) fun r => h.q _ d)).trans ?_
  rw [H.dk_add 1536]

/-- The values' gradient with this block's rows added. -/
theorem dv_6 (h : Reads H v11 v13 v17 v19 v21 v48 v49) (y : Vec Ideal S1792x64 .f32)
    (hy : ∀ (a : Fin 1792) (d : Fin 64), y (ix2 a d) = ((H.dv 1536 a d : ℝ) : EReal)) (a : Fin 1792) (d : Fin 64) :
    (k0_pay85 v49 (k0_pay79 v11 v13 v17 v19) y : FVec Ideal S1792x64 .f32) (ix2 a d) = ((H.dv 1792 a d : ℝ) : EReal) := by
  pointwise [k0_pay85]
  refine (add_entry (hy a d) (dot_coe _ _ (fun r => H.p (1536 + r) a) (fun r => H.od (1536 + r) d) (fun r => p_6 h r a) fun r => h.od _ d)).trans ?_
  rw [H.dv_add 1536]

/-- The gates' gradient less this block's column sums. -/
theorem cs_6 (h : Reads H v11 v13 v17 v19 v21 v48 v49) (y : Vec Ideal S1x1792 .f32)
    (hy : ∀ a : Fin 1792, y (ix2 0 a) = ((H.dc 1536 a : ℝ) : EReal)) (a : Fin 1792) :
    (k0_pay86 (k0_pay80 v11 v13 v17 v19 v21 v48 v49) y : FVec Ideal S1x1792 .f32) (ix2 0 a) = ((H.dcm 1536 a : ℝ) : EReal) := by
  pointwise [k0_pay86]
  exact colsum_entry (hy a) (fun r => ds_6 h r a)

/-- The gates' gradient with this block's row sums added. -/
theorem rs_6 (h : Reads H v11 v13 v17 v19 v21 v48 v49) (y : Vec Ideal S1x256 .f32)
    (hy : ∀ r : Fin 256, y (ix2 0 r) = ((H.dcm 1536 (1536 + (r : ℕ)) : ℝ) : EReal)) (r : Fin 256) :
    (k0_pay87 (k0_pay80 v11 v13 v17 v19 v21 v48 v49) (k0_pay81 v11 v13 v17 v19 v21 v48 v49) y : FVec Ideal S1x256 .f32) (ix2 0 r) = ((H.dc 1792 (1536 + (r : ℕ)) : ℝ) : EReal) := by
  pointwise [k0_pay87]
  refine (rowsum_entry (hy r) (fun j => db_6 h r j) (fun j => ds_6 h r j)).trans ?_
  rw [H.dc_add (n := 1536) r.isLt (by omega)]

/-! ## Rows 1792 to 2047 -/

/-- The softmax weights of the block. -/
theorem p_7 (h : Reads H v11 v13 v17 v19 v21 v48 v49) (r : Fin 256) (j : Fin 2048) :
    (k0_pay89 v11 v13 v19 (k0_pay88 v17) (constant S256x2048 .f32 0x00000000#32) : FVec Ideal S256x2048 .f32) (ix2 r j) = ((H.p (1792 + (r : ℕ)) j : ℝ) : EReal) := by
  pointwise [k0_pay89, k0_pay88]
  refine (softmax_row (i := 1792 + (r : ℕ)) (by omega) _ (fun x => H.s (1792 + (r : ℕ)) x) (fun x => ?_) j).trans rfl
  exact score_entry _ _ (causal (o := 1792) (by omega) (by omega) r.isLt) _ _ _ _ _ _
    (dot_coe _ _ (fun d => H.qs (1792 + (r : ℕ)) d) (fun d => H.k x d) (fun d => h.q _ d) fun d => h.k _ d) (h.c1 _) (h.c2 _)

/-- The scores' cotangents. -/
theorem ds_7 (h : Reads H v11 v13 v17 v19 v21 v48 v49) (r : Fin 256) (j : Fin 2048) :
    (k0_pay90 v11 v13 v19 v21 v48 v49 (k0_pay88 v17) (constant S256x2048 .f32 0x00000000#32) : FVec Ideal S256x2048 .f32) (ix2 r j) = ((H.ds (1792 + (r : ℕ)) j : ℝ) : EReal) := by
  pointwise [k0_pay90]
  exact ds_entry _ _ _ (p_7 h r j) (dot_coe _ _ (fun d => H.od (1792 + (r : ℕ)) d) (fun d => H.v j d) (fun d => h.od _ d) fun d => h.v _ d)
    (h.dvec _)

theorem db_7 (h : Reads H v11 v13 v17 v19 v21 v48 v49) (r : Fin 256) (j : Fin 2048) :
    (k0_pay91 v11 v13 v19 v21 v48 v49 (k0_pay88 v17) (constant S256x2048 .f32 0x00000000#32) : FVec Ideal S256x2048 .bf16) (ix2 r j) = ((H.ds (1792 + (r : ℕ)) j : ℝ) : EReal) := by
  pointwise [k0_pay91]
  exact ds_7 h r j

/-- The query's gradient. -/
theorem dq_7 (h : Reads H v11 v13 v17 v19 v21 v48 v49) (r : Fin 256) (d : Fin 64) :
    (k0_pay92 v11 v13 v19 v21 v48 v49 (k0_pay88 v17) (constant S256x2048 .f32 0x00000000#32) : FVec Ideal S256x64 .bf16) (ix2 r d) = ((H.dq (1792 + (r : ℕ)) d : ℝ) : EReal) := by
  pointwise [k0_pay92]
  rw [dot_coe _ _ (fun j => H.ds (1792 + (r : ℕ)) j) (fun j => H.k j d) (fun j => db_7 h r j) fun j => h.k _ d, eighth_f32, ← EReal.coe_mul,
    H.dq_of (i := 1792 + (r : ℕ)) (by omega) (by omega)]

/-- The keys' gradient with this block's rows added. -/
theorem dk_7 (h : Reads H v11 v13 v17 v19 v21 v48 v49) (y : Vec Ideal S2048x64 .f32)
    (hy : ∀ (a : Fin 2048) (d : Fin 64), y (ix2 a d) = ((H.dk 1792 a d : ℝ) : EReal)) (a : Fin 2048) (d : Fin 64) :
    (k0_pay93 v11 v13 v17 v19 v21 v48 v49 (k0_pay88 v17) (constant S256x2048 .f32 0x00000000#32) y : FVec Ideal S2048x64 .f32) (ix2 a d) = ((H.dk 2048 a d : ℝ) : EReal) := by
  pointwise [k0_pay93]
  refine (add_entry (hy a d) (dot_coe _ _ (fun r => H.ds (1792 + r) a) (fun r => H.qs (1792 + r) d) (fun r => db_7 h r a) fun r => h.q _ d)).trans ?_
  rw [H.dk_add 1792]

/-- The values' gradient with this block's rows added. -/
theorem dv_7 (h : Reads H v11 v13 v17 v19 v21 v48 v49) (y : Vec Ideal S2048x64 .f32)
    (hy : ∀ (a : Fin 2048) (d : Fin 64), y (ix2 a d) = ((H.dv 1792 a d : ℝ) : EReal)) (a : Fin 2048) (d : Fin 64) :
    (k0_pay94 v49 (k0_pay89 v11 v13 v19 (k0_pay88 v17) (constant S256x2048 .f32 0x00000000#32)) y : FVec Ideal S2048x64 .f32) (ix2 a d) = ((H.dv 2048 a d : ℝ) : EReal) := by
  pointwise [k0_pay94]
  refine (add_entry (hy a d) (dot_coe _ _ (fun r => H.p (1792 + r) a) (fun r => H.od (1792 + r) d) (fun r => p_7 h r a) fun r => h.od _ d)).trans ?_
  rw [H.dv_add 1792]

/-- The gates' gradient less this block's column sums. -/
theorem cs_7 (h : Reads H v11 v13 v17 v19 v21 v48 v49) (y : Vec Ideal S1x2048 .f32)
    (hy : ∀ a : Fin 2048, y (ix2 0 a) = ((H.dc 1792 a : ℝ) : EReal)) (a : Fin 2048) :
    (k0_pay95 (k0_pay90 v11 v13 v19 v21 v48 v49 (k0_pay88 v17) (constant S256x2048 .f32 0x00000000#32)) y : FVec Ideal S1x2048 .f32) (ix2 0 a) = ((H.dcm 1792 a : ℝ) : EReal) := by
  pointwise [k0_pay95]
  exact colsum_entry (hy a) (fun r => ds_7 h r a)

/-- The gates' gradient with this block's row sums added. -/
theorem rs_7 (h : Reads H v11 v13 v17 v19 v21 v48 v49) (y : Vec Ideal S1x256 .f32)
    (hy : ∀ r : Fin 256, y (ix2 0 r) = ((H.dcm 1792 (1792 + (r : ℕ)) : ℝ) : EReal)) (r : Fin 256) :
    (k0_pay96 (k0_pay90 v11 v13 v19 v21 v48 v49 (k0_pay88 v17) (constant S256x2048 .f32 0x00000000#32)) (k0_pay91 v11 v13 v19 v21 v48 v49 (k0_pay88 v17) (constant S256x2048 .f32 0x00000000#32)) y : FVec Ideal S1x256 .f32) (ix2 0 r) = ((H.dc 2048 (1792 + (r : ℕ)) : ℝ) : EReal) := by
  pointwise [k0_pay96]
  refine (rowsum_entry (hy r) (fun j => db_7 h r j) (fun j => ds_7 h r j)).trans ?_
  rw [H.dc_add (n := 1792) r.isLt (by omega)]

end Cert.Fox
end
-- ==== Proof.SumsA.lean ====
/-
  The running sums of the first head of a pair, block after block.
-/
module
public import proofs.«01_k».proof.Proof.Boxes
public import proofs.«01_k».proof.Proof.RowsA
public import proofs.«01_k».proof.Proof.RowsB
public import proofs.«01_k».proof.Proof.RowsC
public import proofs.«01_k».proof.Proof.RowsD
public import proofs.«01_k».proof.Proof.Gen.KernelIdeal.Value

@[expose] public section
set_option maxRecDepth 16384
noncomputable section
namespace Cert.Fox
open Cert.KernelIdeal Cert.KernelIdeal.Gen Idealize.ShloMosaic Idealize.ShloMosaic.TcCoe Idealize.SL.Sem

variable {c : Dev nD} {i : grid0.Coords} {arg2 : Memref sig .tc .vmem S2048x128 .f32} {harg2 : arg2.IsWhole} {arg3 : Memref sig .tc .vmem S2048x128 .f32} {harg3 : arg3.IsWhole} {arg4 : Memref sig .tc .vmem S2048x128 .f32} {harg4 : arg4.IsWhole} {arg5 : Memref sig .tc .vmem S2048x128 .f32} {harg5 : arg5.IsWhole} {arg6 : Memref sig .tc .vmem S2048x128 .f32} {harg6 : arg6.IsWhole} {arg7 : Memref sig .tc .vmem S1x1x8x2048 .f32} {harg7 : arg7.IsWhole} {arg8 : Memref sig .tc .vmem S2048x128 .f32} {harg8 : arg8.IsWhole} {arg9 : Memref sig .tc .vmem S2048x128 .bf16} {harg9 : arg9.IsWhole} {arg15 arg16 : Memref sig .tc .vmem S2048x64 .f32} {arg17 : Memref sig .tc .vmem S1x2048 .f32}
  {x0 x1 x2 x3 x4 x6 : Vec Ideal S2048x128 .f32} {x5 : Vec Ideal S1x1x8x2048 .f32} {x7 : Vec Ideal S2048x128 .bf16} {H : Head}

variable (h : Reads H (kernelRun0_A.sl.r_1 (F := Ideal) c i arg6 harg6 x4) (kernelRun0_A.sl.r_2 (F := Ideal) c arg7 harg7 x5) (kernelRun0_A.sl.r_3 (F := Ideal) c arg2 harg2 x0) (kernelRun0_A.sl.r_4 (F := Ideal) c arg3 harg3 x1) (kernelRun0_A.sl.r_5 (F := Ideal) c arg4 harg4 x2)
  (kernelRun0_A.sl.r_9 (F := Ideal) c arg5 harg5 arg8 harg8 arg9 harg9 x3 x6 x7) (kernelRun0_A.sl.r_10 (F := Ideal) c arg5 harg5 arg9 harg9 x3 x7))
include h

theorem dk_sum0_0 (a : Fin 2048) (d : Fin 64) :
    View.canon (kernelRun0_A.sl.HS0_1 (F := Ideal)) (ix2 a d) = ((H.dk 0 a d : ℝ) : EReal) :=
  rows_step (e := .f32) (T := fun a d => ((H.dk 0 a d : ℝ) : EReal))
    (fun a d => by pointwise [k0_pay16]; rw [H.dk_zero]; rfl) (fun a d hn => absurd a.isLt (by omega)) a d

theorem dk_sum0_1 (a : Fin 2048) (d : Fin 64) :
    View.canon (kernelRun0_A.sl.HS0_2 (F := Ideal) c i arg2 harg2 arg3 harg3 arg4 harg4 arg5 harg5 arg6 harg6 arg7 harg7 arg8 harg8 arg9 harg9 arg15 x0 x1 x2 x3 x4 x5 x6 x7) (ix2 a d) = ((H.dk 256 a d : ℝ) : EReal) :=
  rows_step (e := .f32) (T := fun a d => ((H.dk 256 a d : ℝ) : EReal))
    (fun a d => dk_0 h _ (fun a d => rows_read (e := .f32) (T := fun a d => ((H.dk 0 a d : ℝ) : EReal)) _ (dk_sum0_0 h) a d) a d)
    (fun a d hn => (dk_sum0_0 h a d).trans (congrArg _ (H.dk_rest (n := 0) hn d).symm)) a d

theorem dk_sum0_2 (a : Fin 2048) (d : Fin 64) :
    View.canon (kernelRun0_A.sl.HS0_3 (F := Ideal) c i arg2 harg2 arg3 harg3 arg4 harg4 arg5 harg5 arg6 harg6 arg7 harg7 arg8 harg8 arg9 harg9 arg15 x0 x1 x2 x3 x4 x5 x6 x7) (ix2 a d) = ((H.dk 512 a d : ℝ) : EReal) :=
  rows_step (e := .f32) (T := fun a d => ((H.dk 512 a d : ℝ) : EReal))
    (fun a d => dk_1 h _ (fun a d => rows_read (e := .f32) (T := fun a d => ((H.dk 256 a d : ℝ) : EReal)) _ (dk_sum0_1 h) a d) a d)
    (fun a d hn => (dk_sum0_1 h a d).trans (congrArg _ (H.dk_rest (n := 256) hn d).symm)) a d

theorem dk_sum0_3 (a : Fin 2048) (d : Fin 64) :
    View.canon (kernelRun0_A.sl.HS0_4 (F := Ideal) c i arg2 harg2 arg3 harg3 arg4 harg4 arg5 harg5 arg6 harg6 arg7 harg7 arg8 harg8 arg9 harg9 arg15 x0 x1 x2 x3 x4 x5 x6 x7) (ix2 a d) = ((H.dk 768 a d : ℝ) : EReal) :=
  rows_step (e := .f32) (T := fun a d => ((H.dk 768 a d : ℝ) : EReal))
    (fun a d => dk_2 h _ (fun a d => rows_read (e := .f32) (T := fun a d => ((H.dk 512 a d : ℝ) : EReal)) _ (dk_sum0_2 h) a d) a d)
    (fun a d hn => (dk_sum0_2 h a d).trans (congrArg _ (H.dk_rest (n := 512) hn d).symm)) a d

theorem dk_sum0_4 (a : Fin 2048) (d : Fin 64) :
    View.canon (kernelRun0_A.sl.HS0_5 (F := Ideal) c i arg2 harg2 arg3 harg3 arg4 harg4 arg5 harg5 arg6 harg6 arg7 harg7 arg8 harg8 arg9 harg9 arg15 x0 x1 x2 x3 x4 x5 x6 x7) (ix2 a d) = ((H.dk 1024 a d : ℝ) : EReal) :=
  rows_step (e := .f32) (T := fun a d => ((H.dk 1024 a d : ℝ) : EReal))
    (fun a d => dk_3 h _ (fun a d => rows_read (e := .f32) (T := fun a d => ((H.dk 768 a d : ℝ) : EReal)) _ (dk_sum0_3 h) a d) a d)
    (fun a d hn => (dk_sum0_3 h a d).trans (congrArg _ (H.dk_rest (n := 768) hn d).symm)) a d

theorem dk_sum0_5 (a : Fin 2048) (d : Fin 64) :
    View.canon (kernelRun0_A.sl.HS0_6 (F := Ideal) c i arg2 harg2 arg3 harg3 arg4 harg4 arg5 harg5 arg6 harg6 arg7 harg7 arg8 harg8 arg9 harg9 arg15 x0 x1 x2 x3 x4 x5 x6 x7) (ix2 a d) = ((H.dk 1280 a d : ℝ) : EReal) :=
  rows_step (e := .f32) (T := fun a d => ((H.dk 1280 a d : ℝ) : EReal))
    (fun a d => dk_4 h _ (fun a d => rows_read (e := .f32) (T := fun a d => ((H.dk 1024 a d : ℝ) : EReal)) _ (dk_sum0_4 h) a d) a d)
    (fun a d hn => (dk_sum0_4 h a d).trans (congrArg _ (H.dk_rest (n := 1024) hn d).symm)) a d

theorem dk_sum0_6 (a : Fin 2048) (d : Fin 64) :
    View.canon (kernelRun0_A.sl.HS0_7 (F := Ideal) c i arg2 harg2 arg3 harg3 arg4 harg4 arg5 harg5 arg6 harg6 arg7 harg7 arg8 harg8 arg9 harg9 arg15 x0 x1 x2 x3 x4 x5 x6 x7) (ix2 a d) = ((H.dk 1536 a d : ℝ) : EReal) :=
  rows_step (e := .f32) (T := fun a d => ((H.dk 1536 a d : ℝ) : EReal))
    (fun a d => dk_5 h _ (fun a d => rows_read (e := .f32) (T := fun a d => ((H.dk 1280 a d : ℝ) : EReal)) _ (dk_sum0_5 h) a d) a d)
    (fun a d hn => (dk_sum0_5 h a d).trans (congrArg _ (H.dk_rest (n := 1280) hn d).symm)) a d

theorem dk_sum0_7 (a : Fin 2048) (d : Fin 64) :
    View.canon (kernelRun0_A.sl.HS0_8 (F := Ideal) c i arg2 harg2 arg3 harg3 arg4 harg4 arg5 harg5 arg6 harg6 arg7 harg7 arg8 harg8 arg9 harg9 arg15 x0 x1 x2 x3 x4 x5 x6 x7) (ix2 a d) = ((H.dk 1792 a d : ℝ) : EReal) :=
  rows_step (e := .f32) (T := fun a d => ((H.dk 1792 a d : ℝ) : EReal))
    (fun a d => dk_6 h _ (fun a d => rows_read (e := .f32) (T := fun a d => ((H.dk 1536 a d : ℝ) : EReal)) _ (dk_sum0_6 h) a d) a d)
    (fun a d hn => (dk_sum0_6 h a d).trans (congrArg _ (H.dk_rest (n := 1536) hn d).symm)) a d

theorem dk_sum0_8 (a : Fin 2048) (d : Fin 64) :
    View.canon (kernelRun0_A.sl.HS0_9 (F := Ideal) c i arg2 harg2 arg3 harg3 arg4 harg4 arg5 harg5 arg6 harg6 arg7 harg7 arg8 harg8 arg9 harg9 arg15 x0 x1 x2 x3 x4 x5 x6 x7) (ix2 a d) = ((H.dk 2048 a d : ℝ) : EReal) :=
  rows_step (e := .f32) (T := fun a d => ((H.dk 2048 a d : ℝ) : EReal))
    (fun a d => dk_7 h _ (fun a d => rows_read (e := .f32) (T := fun a d => ((H.dk 1792 a d : ℝ) : EReal)) _ (dk_sum0_7 h) a d) a d)
    (fun a d hn => (dk_sum0_7 h a d).trans (congrArg _ (H.dk_rest (n := 1792) hn d).symm)) a d

theorem dv_sum0_0 (a : Fin 2048) (d : Fin 64) :
    View.canon (kernelRun0_A.sl.HS1_1 (F := Ideal)) (ix2 a d) = ((H.dv 0 a d : ℝ) : EReal) :=
  rows_step (e := .f32) (T := fun a d => ((H.dv 0 a d : ℝ) : EReal))
    (fun a d => by pointwise [k0_pay17]; rw [H.dv_zero]; rfl) (fun a d hn => absurd a.isLt (by omega)) a d

theorem dv_sum0_1 (a : Fin 2048) (d : Fin 64) :
    View.canon (kernelRun0_A.sl.HS1_2 (F := Ideal) c i arg2 harg2 arg3 harg3 arg5 harg5 arg6 harg6 arg7 harg7 arg9 harg9 arg16 x0 x1 x3 x4 x5 x7) (ix2 a d) = ((H.dv 256 a d : ℝ) : EReal) :=
  rows_step (e := .f32) (T := fun a d => ((H.dv 256 a d : ℝ) : EReal))
    (fun a d => dv_0 h _ (fun a d => rows_read (e := .f32) (T := fun a d => ((H.dv 0 a d : ℝ) : EReal)) _ (dv_sum0_0 h) a d) a d)
    (fun a d hn => (dv_sum0_0 h a d).trans (congrArg _ (H.dv_rest (n := 0) hn d).symm)) a d

theorem dv_sum0_2 (a : Fin 2048) (d : Fin 64) :
    View.canon (kernelRun0_A.sl.HS1_3 (F := Ideal) c i arg2 harg2 arg3 harg3 arg5 harg5 arg6 harg6 arg7 harg7 arg9 harg9 arg16 x0 x1 x3 x4 x5 x7) (ix2 a d) = ((H.dv 512 a d : ℝ) : EReal) :=
  rows_step (e := .f32) (T := fun a d => ((H.dv 512 a d : ℝ) : EReal))
    (fun a d => dv_1 h _ (fun a d => rows_read (e := .f32) (T := fun a d => ((H.dv 256 a d : ℝ) : EReal)) _ (dv_sum0_1 h) a d) a d)
    (fun a d hn => (dv_sum0_1 h a d).trans (congrArg _ (H.dv_rest (n := 256) hn d).symm)) a d

theorem dv_sum0_3 (a : Fin 2048) (d : Fin 64) :
    View.canon (kernelRun0_A.sl.HS1_4 (F := Ideal) c i arg2 harg2 arg3 harg3 arg5 harg5 arg6 harg6 arg7 harg7 arg9 harg9 arg16 x0 x1 x3 x4 x5 x7) (ix2 a d) = ((H.dv 768 a d : ℝ) : EReal) :=
  rows_step (e := .f32) (T := fun a d => ((H.dv 768 a d : ℝ) : EReal))
    (fun a d => dv_2 h _ (fun a d => rows_read (e := .f32) (T := fun a d => ((H.dv 512 a d : ℝ) : EReal)) _ (dv_sum0_2 h) a d) a d)
    (fun a d hn => (dv_sum0_2 h a d).trans (congrArg _ (H.dv_rest (n := 512) hn d).symm)) a d

theorem dv_sum0_4 (a : Fin 2048) (d : Fin 64) :
    View.canon (kernelRun0_A.sl.HS1_5 (F := Ideal) c i arg2 harg2 arg3 harg3 arg5 harg5 arg6 harg6 arg7 harg7 arg9 harg9 arg16 x0 x1 x3 x4 x5 x7) (ix2 a d) = ((H.dv 1024 a d : ℝ) : EReal) :=
  rows_step (e := .f32) (T := fun a d => ((H.dv 1024 a d : ℝ) : EReal))
    (fun a d => dv_3 h _ (fun a d => rows_read (e := .f32) (T := fun a d => ((H.dv 768 a d : ℝ) : EReal)) _ (dv_sum0_3 h) a d) a d)
    (fun a d hn => (dv_sum0_3 h a d).trans (congrArg _ (H.dv_rest (n := 768) hn d).symm)) a d

theorem dv_sum0_5 (a : Fin 2048) (d : Fin 64) :
    View.canon (kernelRun0_A.sl.HS1_6 (F := Ideal) c i arg2 harg2 arg3 harg3 arg5 harg5 arg6 harg6 arg7 harg7 arg9 harg9 arg16 x0 x1 x3 x4 x5 x7) (ix2 a d) = ((H.dv 1280 a d : ℝ) : EReal) :=
  rows_step (e := .f32) (T := fun a d => ((H.dv 1280 a d : ℝ) : EReal))
    (fun a d => dv_4 h _ (fun a d => rows_read (e := .f32) (T := fun a d => ((H.dv 1024 a d : ℝ) : EReal)) _ (dv_sum0_4 h) a d) a d)
    (fun a d hn => (dv_sum0_4 h a d).trans (congrArg _ (H.dv_rest (n := 1024) hn d).symm)) a d

theorem dv_sum0_6 (a : Fin 2048) (d : Fin 64) :
    View.canon (kernelRun0_A.sl.HS1_7 (F := Ideal) c i arg2 harg2 arg3 harg3 arg5 harg5 arg6 harg6 arg7 harg7 arg9 harg9 arg16 x0 x1 x3 x4 x5 x7) (ix2 a d) = ((H.dv 1536 a d : ℝ) : EReal) :=
  rows_step (e := .f32) (T := fun a d => ((H.dv 1536 a d : ℝ) : EReal))
    (fun a d => dv_5 h _ (fun a d => rows_read (e := .f32) (T := fun a d => ((H.dv 1280 a d : ℝ) : EReal)) _ (dv_sum0_5 h) a d) a d)
    (fun a d hn => (dv_sum0_5 h a d).trans (congrArg _ (H.dv_rest (n := 1280) hn d).symm)) a d

theorem dv_sum0_7 (a : Fin 2048) (d : Fin 64) :
    View.canon (kernelRun0_A.sl.HS1_8 (F := Ideal) c i arg2 harg2 arg3 harg3 arg5 harg5 arg6 harg6 arg7 harg7 arg9 harg9 arg16 x0 x1 x3 x4 x5 x7) (ix2 a d) = ((H.dv 1792 a d : ℝ) : EReal) :=
  rows_step (e := .f32) (T := fun a d => ((H.dv 1792 a d : ℝ) : EReal))
    (fun a d => dv_6 h _ (fun a d => rows_read (e := .f32) (T := fun a d => ((H.dv 1536 a d : ℝ) : EReal)) _ (dv_sum0_6 h) a d) a d)
    (fun a d hn => (dv_sum0_6 h a d).trans (congrArg _ (H.dv_rest (n := 1536) hn d).symm)) a d

theorem dv_sum0_8 (a : Fin 2048) (d : Fin 64) :
    View.canon (kernelRun0_A.sl.HS1_9 (F := Ideal) c i arg2 harg2 arg3 harg3 arg5 harg5 arg6 harg6 arg7 harg7 arg9 harg9 arg16 x0 x1 x3 x4 x5 x7) (ix2 a d) = ((H.dv 2048 a d : ℝ) : EReal) :=
  rows_step (e := .f32) (T := fun a d => ((H.dv 2048 a d : ℝ) : EReal))
    (fun a d => dv_7 h _ (fun a d => rows_read (e := .f32) (T := fun a d => ((H.dv 1792 a d : ℝ) : EReal)) _ (dv_sum0_7 h) a d) a d)
    (fun a d hn => (dv_sum0_7 h a d).trans (congrArg _ (H.dv_rest (n := 1792) hn d).symm)) a d

theorem dc_sum0_0 (a : Fin 2048) :
    View.canon (kernelRun0_A.sl.HS2_1 (F := Ideal)) (ix2 (0 : Fin 1) a) = ((H.dc 0 a : ℝ) : EReal) :=
  line_step_zero (e := .f32) (T := fun a => ((H.dc 0 a : ℝ) : EReal))
    (fun a => by pointwise [k0_pay18]; rw [H.dc_zero]; rfl) (fun a hn => absurd a.isLt (by omega)) a

theorem dcm_sum0_0 (a : Fin 2048) :
    View.canon (kernelRun0_A.sl.HS2_2 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 0 a : ℝ) : EReal) :=
  line_step_zero (e := .f32) (T := fun a => ((H.dcm 0 a : ℝ) : EReal))
    (fun a => cs_0 h _ (fun a => line_read_zero (e := .f32) (T := fun a => ((H.dc 0 a : ℝ) : EReal)) _ (dc_sum0_0 h) a) a)
    (fun a hn => (dc_sum0_0 h a).trans (congrArg _ (H.dcm_rest (n := 0) hn).symm)) a

theorem dc_sum0_1 (a : Fin 2048) :
    View.canon (kernelRun0_A.sl.HS2_3 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 256 a : ℝ) : EReal) :=

  line_step_zero (e := .f32) (T := fun a => ((H.dc 256 a : ℝ) : EReal))
    (fun a => rs_0 h _ (fun a => line_read_zero (e := .f32) (T := fun a => ((H.dcm 0 a : ℝ) : EReal)) _ (dcm_sum0_0 h) a) a)
    (fun a hn => (dcm_sum0_0 h a).trans (congrArg _ (H.dc_rest (n := 0) (Or.inr hn)).symm)) a

theorem dcm_sum0_1 (a : Fin 2048) :
    View.canon (kernelRun0_A.sl.HS2_4 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 256 a : ℝ) : EReal) :=
  line_step_zero (e := .f32) (T := fun a => ((H.dcm 256 a : ℝ) : EReal))
    (fun a => cs_1 h _ (fun a => line_read_zero (e := .f32) (T := fun a => ((H.dc 256 a : ℝ) : EReal)) _ (dc_sum0_1 h) a) a)
    (fun a hn => (dc_sum0_1 h a).trans (congrArg _ (H.dcm_rest (n := 256) hn).symm)) a

theorem dc_sum0_2 (a : Fin 2048) :
    View.canon (kernelRun0_A.sl.HS2_5 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 512 a : ℝ) : EReal) :=

  line_step (e := .f32) (T := fun a => ((H.dc 512 a : ℝ) : EReal))
    (fun a => rs_1 h _ (fun a => line_read (e := .f32) (T := fun a => ((H.dcm 256 a : ℝ) : EReal)) _ (dcm_sum0_1 h) a) a)
    (fun a hn => (dcm_sum0_1 h a).trans (congrArg _ (H.dc_rest (n := 256) (by omega)).symm)) a

theorem dcm_sum0_2 (a : Fin 2048) :
    View.canon (kernelRun0_A.sl.HS2_6 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 512 a : ℝ) : EReal) :=
  line_step_zero (e := .f32) (T := fun a => ((H.dcm 512 a : ℝ) : EReal))
    (fun a => cs_2 h _ (fun a => line_read_zero (e := .f32) (T := fun a => ((H.dc 512 a : ℝ) : EReal)) _ (dc_sum0_2 h) a) a)
    (fun a hn => (dc_sum0_2 h a).trans (congrArg _ (H.dcm_rest (n := 512) hn).symm)) a

theorem dc_sum0_3 (a : Fin 2048) :
    View.canon (kernelRun0_A.sl.HS2_7 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 768 a : ℝ) : EReal) :=

  line_step (e := .f32) (T := fun a => ((H.dc 768 a : ℝ) : EReal))
    (fun a => rs_2 h _ (fun a => line_read (e := .f32) (T := fun a => ((H.dcm 512 a : ℝ) : EReal)) _ (dcm_sum0_2 h) a) a)
    (fun a hn => (dcm_sum0_2 h a).trans (congrArg _ (H.dc_rest (n := 512) (by omega)).symm)) a

theorem dcm_sum0_3 (a : Fin 2048) :
    View.canon (kernelRun0_A.sl.HS2_8 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 768 a : ℝ) : EReal) :=
  line_step_zero (e := .f32) (T := fun a => ((H.dcm 768 a : ℝ) : EReal))
    (fun a => cs_3 h _ (fun a => line_read_zero (e := .f32) (T := fun a => ((H.dc 768 a : ℝ) : EReal)) _ (dc_sum0_3 h) a) a)
    (fun a hn => (dc_sum0_3 h a).trans (congrArg _ (H.dcm_rest (n := 768) hn).symm)) a

theorem dc_sum0_4 (a : Fin 2048) :
    View.canon (kernelRun0_A.sl.HS2_9 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 1024 a : ℝ) : EReal) :=

  line_step (e := .f32) (T := fun a => ((H.dc 1024 a : ℝ) : EReal))
    (fun a => rs_3 h _ (fun a => line_read (e := .f32) (T := fun a => ((H.dcm 768 a : ℝ) : EReal)) _ (dcm_sum0_3 h) a) a)
    (fun a hn => (dcm_sum0_3 h a).trans (congrArg _ (H.dc_rest (n := 768) (by omega)).symm)) a

theorem dcm_sum0_4 (a : Fin 2048) :
    View.canon (kernelRun0_A.sl.HS2_10 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 1024 a : ℝ) : EReal) :=
  line_step_zero (e := .f32) (T := fun a => ((H.dcm 1024 a : ℝ) : EReal))
    (fun a => cs_4 h _ (fun a => line_read_zero (e := .f32) (T := fun a => ((H.dc 1024 a : ℝ) : EReal)) _ (dc_sum0_4 h) a) a)
    (fun a hn => (dc_sum0_4 h a).trans (congrArg _ (H.dcm_rest (n := 1024) hn).symm)) a

theorem dc_sum0_5 (a : Fin 2048) :
    View.canon (kernelRun0_A.sl.HS2_11 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 1280 a : ℝ) : EReal) :=

  line_step (e := .f32) (T := fun a => ((H.dc 1280 a : ℝ) : EReal))
    (fun a => rs_4 h _ (fun a => line_read (e := .f32) (T := fun a => ((H.dcm 1024 a : ℝ) : EReal)) _ (dcm_sum0_4 h) a) a)
    (fun a hn => (dcm_sum0_4 h a).trans (congrArg _ (H.dc_rest (n := 1024) (by omega)).symm)) a

theorem dcm_sum0_5 (a : Fin 2048) :
    View.canon (kernelRun0_A.sl.HS2_12 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 1280 a : ℝ) : EReal) :=
  line_step_zero (e := .f32) (T := fun a => ((H.dcm 1280 a : ℝ) : EReal))
    (fun a => cs_5 h _ (fun a => line_read_zero (e := .f32) (T := fun a => ((H.dc 1280 a : ℝ) : EReal)) _ (dc_sum0_5 h) a) a)
    (fun a hn => (dc_sum0_5 h a).trans (congrArg _ (H.dcm_rest (n := 1280) hn).symm)) a

theorem dc_sum0_6 (a : Fin 2048) :
    View.canon (kernelRun0_A.sl.HS2_13 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 1536 a : ℝ) : EReal) :=

  line_step (e := .f32) (T := fun a => ((H.dc 1536 a : ℝ) : EReal))
    (fun a => rs_5 h _ (fun a => line_read (e := .f32) (T := fun a => ((H.dcm 1280 a : ℝ) : EReal)) _ (dcm_sum0_5 h) a) a)
    (fun a hn => (dcm_sum0_5 h a).trans (congrArg _ (H.dc_rest (n := 1280) (by omega)).symm)) a

theorem dcm_sum0_6 (a : Fin 2048) :
    View.canon (kernelRun0_A.sl.HS2_14 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 1536 a : ℝ) : EReal) :=
  line_step_zero (e := .f32) (T := fun a => ((H.dcm 1536 a : ℝ) : EReal))
    (fun a => cs_6 h _ (fun a => line_read_zero (e := .f32) (T := fun a => ((H.dc 1536 a : ℝ) : EReal)) _ (dc_sum0_6 h) a) a)
    (fun a hn => (dc_sum0_6 h a).trans (congrArg _ (H.dcm_rest (n := 1536) hn).symm)) a

theorem dc_sum0_7 (a : Fin 2048) :
    View.canon (kernelRun0_A.sl.HS2_15 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 1792 a : ℝ) : EReal) :=

  line_step (e := .f32) (T := fun a => ((H.dc 1792 a : ℝ) : EReal))
    (fun a => rs_6 h _ (fun a => line_read (e := .f32) (T := fun a => ((H.dcm 1536 a : ℝ) : EReal)) _ (dcm_sum0_6 h) a) a)
    (fun a hn => (dcm_sum0_6 h a).trans (congrArg _ (H.dc_rest (n := 1536) (by omega)).symm)) a

theorem dcm_sum0_7 (a : Fin 2048) :
    View.canon (kernelRun0_A.sl.HS2_16 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 1792 a : ℝ) : EReal) :=
  line_step_zero (e := .f32) (T := fun a => ((H.dcm 1792 a : ℝ) : EReal))
    (fun a => cs_7 h _ (fun a => line_read_zero (e := .f32) (T := fun a => ((H.dc 1792 a : ℝ) : EReal)) _ (dc_sum0_7 h) a) a)
    (fun a hn => (dc_sum0_7 h a).trans (congrArg _ (H.dcm_rest (n := 1792) hn).symm)) a

theorem dc_sum0_8 (a : Fin 2048) :
    View.canon (kernelRun0_A.sl.HS2_17 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 2048 a : ℝ) : EReal) :=

  line_step (e := .f32) (T := fun a => ((H.dc 2048 a : ℝ) : EReal))
    (fun a => rs_7 h _ (fun a => line_read (e := .f32) (T := fun a => ((H.dcm 1792 a : ℝ) : EReal)) _ (dcm_sum0_7 h) a) a)
    (fun a hn => (dcm_sum0_7 h a).trans (congrArg _ (H.dc_rest (n := 1792) (by omega)).symm)) a

end Cert.Fox
end
-- ==== Proof.SumsB.lean ====
/-
  The running sums of the second head of a pair, block after block.
-/
module
public import proofs.«01_k».proof.Proof.Boxes
public import proofs.«01_k».proof.Proof.RowsA
public import proofs.«01_k».proof.Proof.RowsB
public import proofs.«01_k».proof.Proof.RowsC
public import proofs.«01_k».proof.Proof.RowsD
public import proofs.«01_k».proof.Proof.Gen.KernelIdeal.Value

@[expose] public section
set_option maxRecDepth 16384
noncomputable section
namespace Cert.Fox
open Cert.KernelIdeal Cert.KernelIdeal.Gen Idealize.ShloMosaic Idealize.ShloMosaic.TcCoe Idealize.SL.Sem

variable {c : Dev nD} {i : grid0.Coords} {arg2 : Memref sig .tc .vmem S2048x128 .f32} {harg2 : arg2.IsWhole} {arg3 : Memref sig .tc .vmem S2048x128 .f32} {harg3 : arg3.IsWhole} {arg4 : Memref sig .tc .vmem S2048x128 .f32} {harg4 : arg4.IsWhole} {arg5 : Memref sig .tc .vmem S2048x128 .f32} {harg5 : arg5.IsWhole} {arg6 : Memref sig .tc .vmem S2048x128 .f32} {harg6 : arg6.IsWhole} {arg7 : Memref sig .tc .vmem S1x1x8x2048 .f32} {harg7 : arg7.IsWhole} {arg8 : Memref sig .tc .vmem S2048x128 .f32} {harg8 : arg8.IsWhole} {arg9 : Memref sig .tc .vmem S2048x128 .bf16} {harg9 : arg9.IsWhole} {arg15 arg16 : Memref sig .tc .vmem S2048x64 .f32} {arg17 : Memref sig .tc .vmem S1x2048 .f32}
  {x0 x1 x2 x3 x4 x6 : Vec Ideal S2048x128 .f32} {x5 : Vec Ideal S1x1x8x2048 .f32} {x7 : Vec Ideal S2048x128 .bf16} {H : Head}

variable (h : Reads H (kernelRun0_A.sl.r_47 (F := Ideal) c i arg6 harg6 x4) (kernelRun0_A.sl.r_48 (F := Ideal) c arg7 harg7 x5) (kernelRun0_A.sl.r_49 (F := Ideal) c arg2 harg2 x0) (kernelRun0_A.sl.r_50 (F := Ideal) c arg3 harg3 x1) (kernelRun0_A.sl.r_51 (F := Ideal) c arg4 harg4 x2)
  (kernelRun0_A.sl.r_55 (F := Ideal) c arg5 harg5 arg8 harg8 arg9 harg9 x3 x6 x7) (kernelRun0_A.sl.r_56 (F := Ideal) c arg5 harg5 arg9 harg9 x3 x7))
include h

theorem dk_sum1_0 (a : Fin 2048) (d : Fin 64) :
    View.canon (kernelRun0_A.sl.HS0_10 (F := Ideal) c i arg2 harg2 arg3 harg3 arg4 harg4 arg5 harg5 arg6 harg6 arg7 harg7 arg8 harg8 arg9 harg9 arg15 x0 x1 x2 x3 x4 x5 x6 x7) (ix2 a d) = ((H.dk 0 a d : ℝ) : EReal) :=
  rows_step (e := .f32) (T := fun a d => ((H.dk 0 a d : ℝ) : EReal))
    (fun a d => by pointwise [k0_pay113]; rw [H.dk_zero]; rfl) (fun a d hn => absurd a.isLt (by omega)) a d

theorem dk_sum1_1 (a : Fin 2048) (d : Fin 64) :
    View.canon (kernelRun0_A.sl.HS0_11 (F := Ideal) c i arg2 harg2 arg3 harg3 arg4 harg4 arg5 harg5 arg6 harg6 arg7 harg7 arg8 harg8 arg9 harg9 arg15 x0 x1 x2 x3 x4 x5 x6 x7) (ix2 a d) = ((H.dk 256 a d : ℝ) : EReal) :=
  rows_step (e := .f32) (T := fun a d => ((H.dk 256 a d : ℝ) : EReal))
    (fun a d => dk_0 h _ (fun a d => rows_read (e := .f32) (T := fun a d => ((H.dk 0 a d : ℝ) : EReal)) _ (dk_sum1_0 h) a d) a d)
    (fun a d hn => (dk_sum1_0 h a d).trans (congrArg _ (H.dk_rest (n := 0) hn d).symm)) a d

theorem dk_sum1_2 (a : Fin 2048) (d : Fin 64) :
    View.canon (kernelRun0_A.sl.HS0_12 (F := Ideal) c i arg2 harg2 arg3 harg3 arg4 harg4 arg5 harg5 arg6 harg6 arg7 harg7 arg8 harg8 arg9 harg9 arg15 x0 x1 x2 x3 x4 x5 x6 x7) (ix2 a d) = ((H.dk 512 a d : ℝ) : EReal) :=
  rows_step (e := .f32) (T := fun a d => ((H.dk 512 a d : ℝ) : EReal))
    (fun a d => dk_1 h _ (fun a d => rows_read (e := .f32) (T := fun a d => ((H.dk 256 a d : ℝ) : EReal)) _ (dk_sum1_1 h) a d) a d)
    (fun a d hn => (dk_sum1_1 h a d).trans (congrArg _ (H.dk_rest (n := 256) hn d).symm)) a d

theorem dk_sum1_3 (a : Fin 2048) (d : Fin 64) :
    View.canon (kernelRun0_A.sl.HS0_13 (F := Ideal) c i arg2 harg2 arg3 harg3 arg4 harg4 arg5 harg5 arg6 harg6 arg7 harg7 arg8 harg8 arg9 harg9 arg15 x0 x1 x2 x3 x4 x5 x6 x7) (ix2 a d) = ((H.dk 768 a d : ℝ) : EReal) :=
  rows_step (e := .f32) (T := fun a d => ((H.dk 768 a d : ℝ) : EReal))
    (fun a d => dk_2 h _ (fun a d => rows_read (e := .f32) (T := fun a d => ((H.dk 512 a d : ℝ) : EReal)) _ (dk_sum1_2 h) a d) a d)
    (fun a d hn => (dk_sum1_2 h a d).trans (congrArg _ (H.dk_rest (n := 512) hn d).symm)) a d

theorem dk_sum1_4 (a : Fin 2048) (d : Fin 64) :
    View.canon (kernelRun0_A.sl.HS0_14 (F := Ideal) c i arg2 harg2 arg3 harg3 arg4 harg4 arg5 harg5 arg6 harg6 arg7 harg7 arg8 harg8 arg9 harg9 arg15 x0 x1 x2 x3 x4 x5 x6 x7) (ix2 a d) = ((H.dk 1024 a d : ℝ) : EReal) :=
  rows_step (e := .f32) (T := fun a d => ((H.dk 1024 a d : ℝ) : EReal))
    (fun a d => dk_3 h _ (fun a d => rows_read (e := .f32) (T := fun a d => ((H.dk 768 a d : ℝ) : EReal)) _ (dk_sum1_3 h) a d) a d)
    (fun a d hn => (dk_sum1_3 h a d).trans (congrArg _ (H.dk_rest (n := 768) hn d).symm)) a d

theorem dk_sum1_5 (a : Fin 2048) (d : Fin 64) :
    View.canon (kernelRun0_A.sl.HS0_15 (F := Ideal) c i arg2 harg2 arg3 harg3 arg4 harg4 arg5 harg5 arg6 harg6 arg7 harg7 arg8 harg8 arg9 harg9 arg15 x0 x1 x2 x3 x4 x5 x6 x7) (ix2 a d) = ((H.dk 1280 a d : ℝ) : EReal) :=
  rows_step (e := .f32) (T := fun a d => ((H.dk 1280 a d : ℝ) : EReal))
    (fun a d => dk_4 h _ (fun a d => rows_read (e := .f32) (T := fun a d => ((H.dk 1024 a d : ℝ) : EReal)) _ (dk_sum1_4 h) a d) a d)
    (fun a d hn => (dk_sum1_4 h a d).trans (congrArg _ (H.dk_rest (n := 1024) hn d).symm)) a d

theorem dk_sum1_6 (a : Fin 2048) (d : Fin 64) :
    View.canon (kernelRun0_A.sl.HS0_16 (F := Ideal) c i arg2 harg2 arg3 harg3 arg4 harg4 arg5 harg5 arg6 harg6 arg7 harg7 arg8 harg8 arg9 harg9 arg15 x0 x1 x2 x3 x4 x5 x6 x7) (ix2 a d) = ((H.dk 1536 a d : ℝ) : EReal) :=
  rows_step (e := .f32) (T := fun a d => ((H.dk 1536 a d : ℝ) : EReal))
    (fun a d => dk_5 h _ (fun a d => rows_read (e := .f32) (T := fun a d => ((H.dk 1280 a d : ℝ) : EReal)) _ (dk_sum1_5 h) a d) a d)
    (fun a d hn => (dk_sum1_5 h a d).trans (congrArg _ (H.dk_rest (n := 1280) hn d).symm)) a d

theorem dk_sum1_7 (a : Fin 2048) (d : Fin 64) :
    View.canon (kernelRun0_A.sl.HS0_17 (F := Ideal) c i arg2 harg2 arg3 harg3 arg4 harg4 arg5 harg5 arg6 harg6 arg7 harg7 arg8 harg8 arg9 harg9 arg15 x0 x1 x2 x3 x4 x5 x6 x7) (ix2 a d) = ((H.dk 1792 a d : ℝ) : EReal) :=
  rows_step (e := .f32) (T := fun a d => ((H.dk 1792 a d : ℝ) : EReal))
    (fun a d => dk_6 h _ (fun a d => rows_read (e := .f32) (T := fun a d => ((H.dk 1536 a d : ℝ) : EReal)) _ (dk_sum1_6 h) a d) a d)
    (fun a d hn => (dk_sum1_6 h a d).trans (congrArg _ (H.dk_rest (n := 1536) hn d).symm)) a d

theorem dk_sum1_8 (a : Fin 2048) (d : Fin 64) :
    View.canon (kernelRun0_A.sl.HS0_18 (F := Ideal) c i arg2 harg2 arg3 harg3 arg4 harg4 arg5 harg5 arg6 harg6 arg7 harg7 arg8 harg8 arg9 harg9 arg15 x0 x1 x2 x3 x4 x5 x6 x7) (ix2 a d) = ((H.dk 2048 a d : ℝ) : EReal) :=
  rows_step (e := .f32) (T := fun a d => ((H.dk 2048 a d : ℝ) : EReal))
    (fun a d => dk_7 h _ (fun a d => rows_read (e := .f32) (T := fun a d => ((H.dk 1792 a d : ℝ) : EReal)) _ (dk_sum1_7 h) a d) a d)
    (fun a d hn => (dk_sum1_7 h a d).trans (congrArg _ (H.dk_rest (n := 1792) hn d).symm)) a d

theorem dv_sum1_0 (a : Fin 2048) (d : Fin 64) :
    View.canon (kernelRun0_A.sl.HS1_10 (F := Ideal) c i arg2 harg2 arg3 harg3 arg5 harg5 arg6 harg6 arg7 harg7 arg9 harg9 arg16 x0 x1 x3 x4 x5 x7) (ix2 a d) = ((H.dv 0 a d : ℝ) : EReal) :=
  rows_step (e := .f32) (T := fun a d => ((H.dv 0 a d : ℝ) : EReal))
    (fun a d => by pointwise [k0_pay114]; rw [H.dv_zero]; rfl) (fun a d hn => absurd a.isLt (by omega)) a d

theorem dv_sum1_1 (a : Fin 2048) (d : Fin 64) :
    View.canon (kernelRun0_A.sl.HS1_11 (F := Ideal) c i arg2 harg2 arg3 harg3 arg5 harg5 arg6 harg6 arg7 harg7 arg9 harg9 arg16 x0 x1 x3 x4 x5 x7) (ix2 a d) = ((H.dv 256 a d : ℝ) : EReal) :=
  rows_step (e := .f32) (T := fun a d => ((H.dv 256 a d : ℝ) : EReal))
    (fun a d => dv_0 h _ (fun a d => rows_read (e := .f32) (T := fun a d => ((H.dv 0 a d : ℝ) : EReal)) _ (dv_sum1_0 h) a d) a d)
    (fun a d hn => (dv_sum1_0 h a d).trans (congrArg _ (H.dv_rest (n := 0) hn d).symm)) a d

theorem dv_sum1_2 (a : Fin 2048) (d : Fin 64) :
    View.canon (kernelRun0_A.sl.HS1_12 (F := Ideal) c i arg2 harg2 arg3 harg3 arg5 harg5 arg6 harg6 arg7 harg7 arg9 harg9 arg16 x0 x1 x3 x4 x5 x7) (ix2 a d) = ((H.dv 512 a d : ℝ) : EReal) :=
  rows_step (e := .f32) (T := fun a d => ((H.dv 512 a d : ℝ) : EReal))
    (fun a d => dv_1 h _ (fun a d => rows_read (e := .f32) (T := fun a d => ((H.dv 256 a d : ℝ) : EReal)) _ (dv_sum1_1 h) a d) a d)
    (fun a d hn => (dv_sum1_1 h a d).trans (congrArg _ (H.dv_rest (n := 256) hn d).symm)) a d

theorem dv_sum1_3 (a : Fin 2048) (d : Fin 64) :
    View.canon (kernelRun0_A.sl.HS1_13 (F := Ideal) c i arg2 harg2 arg3 harg3 arg5 harg5 arg6 harg6 arg7 harg7 arg9 harg9 arg16 x0 x1 x3 x4 x5 x7) (ix2 a d) = ((H.dv 768 a d : ℝ) : EReal) :=
  rows_step (e := .f32) (T := fun a d => ((H.dv 768 a d : ℝ) : EReal))
    (fun a d => dv_2 h _ (fun a d => rows_read (e := .f32) (T := fun a d => ((H.dv 512 a d : ℝ) : EReal)) _ (dv_sum1_2 h) a d) a d)
    (fun a d hn => (dv_sum1_2 h a d).trans (congrArg _ (H.dv_rest (n := 512) hn d).symm)) a d

theorem dv_sum1_4 (a : Fin 2048) (d : Fin 64) :
    View.canon (kernelRun0_A.sl.HS1_14 (F := Ideal) c i arg2 harg2 arg3 harg3 arg5 harg5 arg6 harg6 arg7 harg7 arg9 harg9 arg16 x0 x1 x3 x4 x5 x7) (ix2 a d) = ((H.dv 1024 a d : ℝ) : EReal) :=
  rows_step (e := .f32) (T := fun a d => ((H.dv 1024 a d : ℝ) : EReal))
    (fun a d => dv_3 h _ (fun a d => rows_read (e := .f32) (T := fun a d => ((H.dv 768 a d : ℝ) : EReal)) _ (dv_sum1_3 h) a d) a d)
    (fun a d hn => (dv_sum1_3 h a d).trans (congrArg _ (H.dv_rest (n := 768) hn d).symm)) a d

theorem dv_sum1_5 (a : Fin 2048) (d : Fin 64) :
    View.canon (kernelRun0_A.sl.HS1_15 (F := Ideal) c i arg2 harg2 arg3 harg3 arg5 harg5 arg6 harg6 arg7 harg7 arg9 harg9 arg16 x0 x1 x3 x4 x5 x7) (ix2 a d) = ((H.dv 1280 a d : ℝ) : EReal) :=
  rows_step (e := .f32) (T := fun a d => ((H.dv 1280 a d : ℝ) : EReal))
    (fun a d => dv_4 h _ (fun a d => rows_read (e := .f32) (T := fun a d => ((H.dv 1024 a d : ℝ) : EReal)) _ (dv_sum1_4 h) a d) a d)
    (fun a d hn => (dv_sum1_4 h a d).trans (congrArg _ (H.dv_rest (n := 1024) hn d).symm)) a d

theorem dv_sum1_6 (a : Fin 2048) (d : Fin 64) :
    View.canon (kernelRun0_A.sl.HS1_16 (F := Ideal) c i arg2 harg2 arg3 harg3 arg5 harg5 arg6 harg6 arg7 harg7 arg9 harg9 arg16 x0 x1 x3 x4 x5 x7) (ix2 a d) = ((H.dv 1536 a d : ℝ) : EReal) :=
  rows_step (e := .f32) (T := fun a d => ((H.dv 1536 a d : ℝ) : EReal))
    (fun a d => dv_5 h _ (fun a d => rows_read (e := .f32) (T := fun a d => ((H.dv 1280 a d : ℝ) : EReal)) _ (dv_sum1_5 h) a d) a d)
    (fun a d hn => (dv_sum1_5 h a d).trans (congrArg _ (H.dv_rest (n := 1280) hn d).symm)) a d

theorem dv_sum1_7 (a : Fin 2048) (d : Fin 64) :
    View.canon (kernelRun0_A.sl.HS1_17 (F := Ideal) c i arg2 harg2 arg3 harg3 arg5 harg5 arg6 harg6 arg7 harg7 arg9 harg9 arg16 x0 x1 x3 x4 x5 x7) (ix2 a d) = ((H.dv 1792 a d : ℝ) : EReal) :=
  rows_step (e := .f32) (T := fun a d => ((H.dv 1792 a d : ℝ) : EReal))
    (fun a d => dv_6 h _ (fun a d => rows_read (e := .f32) (T := fun a d => ((H.dv 1536 a d : ℝ) : EReal)) _ (dv_sum1_6 h) a d) a d)
    (fun a d hn => (dv_sum1_6 h a d).trans (congrArg _ (H.dv_rest (n := 1536) hn d).symm)) a d

theorem dv_sum1_8 (a : Fin 2048) (d : Fin 64) :
    View.canon (kernelRun0_A.sl.HS1_18 (F := Ideal) c i arg2 harg2 arg3 harg3 arg5 harg5 arg6 harg6 arg7 harg7 arg9 harg9 arg16 x0 x1 x3 x4 x5 x7) (ix2 a d) = ((H.dv 2048 a d : ℝ) : EReal) :=
  rows_step (e := .f32) (T := fun a d => ((H.dv 2048 a d : ℝ) : EReal))
    (fun a d => dv_7 h _ (fun a d => rows_read (e := .f32) (T := fun a d => ((H.dv 1792 a d : ℝ) : EReal)) _ (dv_sum1_7 h) a d) a d)
    (fun a d hn => (dv_sum1_7 h a d).trans (congrArg _ (H.dv_rest (n := 1792) hn d).symm)) a d

theorem dc_sum1_0 (a : Fin 2048) :
    View.canon (kernelRun0_A.sl.HS2_18 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 0 a : ℝ) : EReal) :=
  line_step_zero (e := .f32) (T := fun a => ((H.dc 0 a : ℝ) : EReal))
    (fun a => by pointwise [k0_pay115]; rw [H.dc_zero]; rfl) (fun a hn => absurd a.isLt (by omega)) a

theorem dcm_sum1_0 (a : Fin 2048) :
    View.canon (kernelRun0_A.sl.HS2_19 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 0 a : ℝ) : EReal) :=
  line_step_zero (e := .f32) (T := fun a => ((H.dcm 0 a : ℝ) : EReal))
    (fun a => cs_0 h _ (fun a => line_read_zero (e := .f32) (T := fun a => ((H.dc 0 a : ℝ) : EReal)) _ (dc_sum1_0 h) a) a)
    (fun a hn => (dc_sum1_0 h a).trans (congrArg _ (H.dcm_rest (n := 0) hn).symm)) a

theorem dc_sum1_1 (a : Fin 2048) :
    View.canon (kernelRun0_A.sl.HS2_20 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 256 a : ℝ) : EReal) :=

  line_step_zero (e := .f32) (T := fun a => ((H.dc 256 a : ℝ) : EReal))
    (fun a => rs_0 h _ (fun a => line_read_zero (e := .f32) (T := fun a => ((H.dcm 0 a : ℝ) : EReal)) _ (dcm_sum1_0 h) a) a)
    (fun a hn => (dcm_sum1_0 h a).trans (congrArg _ (H.dc_rest (n := 0) (Or.inr hn)).symm)) a

theorem dcm_sum1_1 (a : Fin 2048) :
    View.canon (kernelRun0_A.sl.HS2_21 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 256 a : ℝ) : EReal) :=
  line_step_zero (e := .f32) (T := fun a => ((H.dcm 256 a : ℝ) : EReal))
    (fun a => cs_1 h _ (fun a => line_read_zero (e := .f32) (T := fun a => ((H.dc 256 a : ℝ) : EReal)) _ (dc_sum1_1 h) a) a)
    (fun a hn => (dc_sum1_1 h a).trans (congrArg _ (H.dcm_rest (n := 256) hn).symm)) a

theorem dc_sum1_2 (a : Fin 2048) :
    View.canon (kernelRun0_A.sl.HS2_22 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 512 a : ℝ) : EReal) :=

  line_step (e := .f32) (T := fun a => ((H.dc 512 a : ℝ) : EReal))
    (fun a => rs_1 h _ (fun a => line_read (e := .f32) (T := fun a => ((H.dcm 256 a : ℝ) : EReal)) _ (dcm_sum1_1 h) a) a)
    (fun a hn => (dcm_sum1_1 h a).trans (congrArg _ (H.dc_rest (n := 256) (by omega)).symm)) a

theorem dcm_sum1_2 (a : Fin 2048) :
    View.canon (kernelRun0_A.sl.HS2_23 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 512 a : ℝ) : EReal) :=
  line_step_zero (e := .f32) (T := fun a => ((H.dcm 512 a : ℝ) : EReal))
    (fun a => cs_2 h _ (fun a => line_read_zero (e := .f32) (T := fun a => ((H.dc 512 a : ℝ) : EReal)) _ (dc_sum1_2 h) a) a)
    (fun a hn => (dc_sum1_2 h a).trans (congrArg _ (H.dcm_rest (n := 512) hn).symm)) a

theorem dc_sum1_3 (a : Fin 2048) :
    View.canon (kernelRun0_A.sl.HS2_24 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 768 a : ℝ) : EReal) :=

  line_step (e := .f32) (T := fun a => ((H.dc 768 a : ℝ) : EReal))
    (fun a => rs_2 h _ (fun a => line_read (e := .f32) (T := fun a => ((H.dcm 512 a : ℝ) : EReal)) _ (dcm_sum1_2 h) a) a)
    (fun a hn => (dcm_sum1_2 h a).trans (congrArg _ (H.dc_rest (n := 512) (by omega)).symm)) a

theorem dcm_sum1_3 (a : Fin 2048) :
    View.canon (kernelRun0_A.sl.HS2_25 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 768 a : ℝ) : EReal) :=
  line_step_zero (e := .f32) (T := fun a => ((H.dcm 768 a : ℝ) : EReal))
    (fun a => cs_3 h _ (fun a => line_read_zero (e := .f32) (T := fun a => ((H.dc 768 a : ℝ) : EReal)) _ (dc_sum1_3 h) a) a)
    (fun a hn => (dc_sum1_3 h a).trans (congrArg _ (H.dcm_rest (n := 768) hn).symm)) a

theorem dc_sum1_4 (a : Fin 2048) :
    View.canon (kernelRun0_A.sl.HS2_26 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 1024 a : ℝ) : EReal) :=

  line_step (e := .f32) (T := fun a => ((H.dc 1024 a : ℝ) : EReal))
    (fun a => rs_3 h _ (fun a => line_read (e := .f32) (T := fun a => ((H.dcm 768 a : ℝ) : EReal)) _ (dcm_sum1_3 h) a) a)
    (fun a hn => (dcm_sum1_3 h a).trans (congrArg _ (H.dc_rest (n := 768) (by omega)).symm)) a

theorem dcm_sum1_4 (a : Fin 2048) :
    View.canon (kernelRun0_A.sl.HS2_27 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 1024 a : ℝ) : EReal) :=
  line_step_zero (e := .f32) (T := fun a => ((H.dcm 1024 a : ℝ) : EReal))
    (fun a => cs_4 h _ (fun a => line_read_zero (e := .f32) (T := fun a => ((H.dc 1024 a : ℝ) : EReal)) _ (dc_sum1_4 h) a) a)
    (fun a hn => (dc_sum1_4 h a).trans (congrArg _ (H.dcm_rest (n := 1024) hn).symm)) a

theorem dc_sum1_5 (a : Fin 2048) :
    View.canon (kernelRun0_A.sl.HS2_28 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 1280 a : ℝ) : EReal) :=

  line_step (e := .f32) (T := fun a => ((H.dc 1280 a : ℝ) : EReal))
    (fun a => rs_4 h _ (fun a => line_read (e := .f32) (T := fun a => ((H.dcm 1024 a : ℝ) : EReal)) _ (dcm_sum1_4 h) a) a)
    (fun a hn => (dcm_sum1_4 h a).trans (congrArg _ (H.dc_rest (n := 1024) (by omega)).symm)) a

theorem dcm_sum1_5 (a : Fin 2048) :
    View.canon (kernelRun0_A.sl.HS2_29 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 1280 a : ℝ) : EReal) :=
  line_step_zero (e := .f32) (T := fun a => ((H.dcm 1280 a : ℝ) : EReal))
    (fun a => cs_5 h _ (fun a => line_read_zero (e := .f32) (T := fun a => ((H.dc 1280 a : ℝ) : EReal)) _ (dc_sum1_5 h) a) a)
    (fun a hn => (dc_sum1_5 h a).trans (congrArg _ (H.dcm_rest (n := 1280) hn).symm)) a

theorem dc_sum1_6 (a : Fin 2048) :
    View.canon (kernelRun0_A.sl.HS2_30 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 1536 a : ℝ) : EReal) :=

  line_step (e := .f32) (T := fun a => ((H.dc 1536 a : ℝ) : EReal))
    (fun a => rs_5 h _ (fun a => line_read (e := .f32) (T := fun a => ((H.dcm 1280 a : ℝ) : EReal)) _ (dcm_sum1_5 h) a) a)
    (fun a hn => (dcm_sum1_5 h a).trans (congrArg _ (H.dc_rest (n := 1280) (by omega)).symm)) a

theorem dcm_sum1_6 (a : Fin 2048) :
    View.canon (kernelRun0_A.sl.HS2_31 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 1536 a : ℝ) : EReal) :=
  line_step_zero (e := .f32) (T := fun a => ((H.dcm 1536 a : ℝ) : EReal))
    (fun a => cs_6 h _ (fun a => line_read_zero (e := .f32) (T := fun a => ((H.dc 1536 a : ℝ) : EReal)) _ (dc_sum1_6 h) a) a)
    (fun a hn => (dc_sum1_6 h a).trans (congrArg _ (H.dcm_rest (n := 1536) hn).symm)) a

theorem dc_sum1_7 (a : Fin 2048) :
    View.canon (kernelRun0_A.sl.HS2_32 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 1792 a : ℝ) : EReal) :=

  line_step (e := .f32) (T := fun a => ((H.dc 1792 a : ℝ) : EReal))
    (fun a => rs_6 h _ (fun a => line_read (e := .f32) (T := fun a => ((H.dcm 1536 a : ℝ) : EReal)) _ (dcm_sum1_6 h) a) a)
    (fun a hn => (dcm_sum1_6 h a).trans (congrArg _ (H.dc_rest (n := 1536) (by omega)).symm)) a

theorem dcm_sum1_7 (a : Fin 2048) :
    View.canon (kernelRun0_A.sl.HS2_33 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dcm 1792 a : ℝ) : EReal) :=
  line_step_zero (e := .f32) (T := fun a => ((H.dcm 1792 a : ℝ) : EReal))
    (fun a => cs_7 h _ (fun a => line_read_zero (e := .f32) (T := fun a => ((H.dc 1792 a : ℝ) : EReal)) _ (dc_sum1_7 h) a) a)
    (fun a hn => (dc_sum1_7 h a).trans (congrArg _ (H.dcm_rest (n := 1792) hn).symm)) a

theorem dc_sum1_8 (a : Fin 2048) :
    View.canon (kernelRun0_A.sl.HS2_34 (F := Ideal) c i arg2 harg2 arg3 harg3 arg4 harg4 arg5 harg5 arg6 harg6 arg7 harg7 arg8 harg8 arg9 harg9 arg17 x0 x1 x2 x3 x4 x5 x6 x7) (ix2 (0 : Fin 1) a) = ((H.dc 2048 a : ℝ) : EReal) :=

  line_step (e := .f32) (T := fun a => ((H.dc 2048 a : ℝ) : EReal))
    (fun a => rs_7 h _ (fun a => line_read (e := .f32) (T := fun a => ((H.dcm 1792 a : ℝ) : EReal)) _ (dcm_sum1_7 h) a) a)
    (fun a hn => (dcm_sum1_7 h a).trans (congrArg _ (H.dc_rest (n := 1792) (by omega)).symm)) a

end Cert.Fox
end
-- ==== Proof.Outs.lean ====
/-
  What one grid point leaves in its blocks of the gradients of queries, keys and values.
-/
module
public import proofs.«01_k».proof.Proof.SumsA
public import proofs.«01_k».proof.Proof.SumsB
public import proofs.«01_k».proof.Proof.Gen.KernelIdeal.Value

@[expose] public section
set_option maxRecDepth 16384
noncomputable section
namespace Cert.Fox
open Cert.KernelIdeal Cert.KernelIdeal.Gen Idealize.ShloMosaic Idealize.ShloMosaic.TcCoe Idealize.SL.Sem

variable {c : Dev nD} {i : grid0.Coords} {arg2 : Memref sig .tc .vmem S2048x128 .f32} {harg2 : arg2.IsWhole} {arg3 : Memref sig .tc .vmem S2048x128 .f32} {harg3 : arg3.IsWhole} {arg4 : Memref sig .tc .vmem S2048x128 .f32} {harg4 : arg4.IsWhole} {arg5 : Memref sig .tc .vmem S2048x128 .f32} {harg5 : arg5.IsWhole} {arg6 : Memref sig .tc .vmem S2048x128 .f32} {harg6 : arg6.IsWhole} {arg7 : Memref sig .tc .vmem S1x1x8x2048 .f32} {harg7 : arg7.IsWhole} {arg8 : Memref sig .tc .vmem S2048x128 .f32} {harg8 : arg8.IsWhole} {arg9 : Memref sig .tc .vmem S2048x128 .bf16} {harg9 : arg9.IsWhole} {arg15 arg16 : Memref sig .tc .vmem S2048x64 .f32} {arg17 : Memref sig .tc .vmem S1x2048 .f32}
  {x0 x1 x2 x3 x4 x6 : Vec Ideal S2048x128 .f32} {x5 : Vec Ideal S1x1x8x2048 .f32} {x7 : Vec Ideal S2048x128 .bf16} {H0 H1 : Head}
variable {arg10 : Memref sig .tc .vmem S2048x128 .bf16} {harg10 : arg10.IsWhole} {arg11 : Memref sig .tc .vmem S2048x128 .bf16} {harg11 : arg11.IsWhole} {arg12 : Memref sig .tc .vmem S2048x128 .bf16} {harg12 : arg12.IsWhole} {arg13 : Memref sig .tc .vmem S2048x128 .bf16} {harg13 : arg13.IsWhole} {arg14 : Memref sig .tc .vmem S1x1x8x2048 .f32} {harg14 : arg14.IsWhole} {arg15 : Memref sig .tc .vmem S2048x64 .f32} {harg15 : arg15.IsWhole} {arg16 : Memref sig .tc .vmem S2048x64 .f32} {harg16 : arg16.IsWhole} {harg17 : arg17.IsWhole}

/-- A column of a pair of heads: the first head's below 64, the second's from 64 on. -/
def pair (f g : ℕ → ℕ → ℝ) (a b : ℕ) : EReal := if b < 64 then ((f a b : ℝ) : EReal) else ((g a (b - 64) : ℝ) : EReal)

theorem pair_left (f g : ℕ → ℕ → ℝ) (a : ℕ) (b : Fin 64) : pair f g a (0 + b) = ((f a b : ℝ) : EReal) := by
  rw [pair, Nat.zero_add, if_pos b.isLt]
theorem pair_right (f g : ℕ → ℕ → ℝ) (a : ℕ) (b : Fin 64) : pair f g a (64 + b) = ((g a b : ℝ) : EReal) := by
  rw [pair, if_neg (by omega), Nat.add_sub_cancel_left]

variable (h0 : Reads H0 (kernelRun0_A.sl.r_1 (F := Ideal) c i arg6 harg6 x4) (kernelRun0_A.sl.r_2 (F := Ideal) c arg7 harg7 x5) (kernelRun0_A.sl.r_3 (F := Ideal) c arg2 harg2 x0) (kernelRun0_A.sl.r_4 (F := Ideal) c arg3 harg3 x1) (kernelRun0_A.sl.r_5 (F := Ideal) c arg4 harg4 x2)
  (kernelRun0_A.sl.r_9 (F := Ideal) c arg5 harg5 arg8 harg8 arg9 harg9 x3 x6 x7) (kernelRun0_A.sl.r_10 (F := Ideal) c arg5 harg5 arg9 harg9 x3 x7))
variable (h1 : Reads H1 (kernelRun0_A.sl.r_47 (F := Ideal) c i arg6 harg6 x4) (kernelRun0_A.sl.r_48 (F := Ideal) c arg7 harg7 x5) (kernelRun0_A.sl.r_49 (F := Ideal) c arg2 harg2 x0) (kernelRun0_A.sl.r_50 (F := Ideal) c arg3 harg3 x1) (kernelRun0_A.sl.r_51 (F := Ideal) c arg4 harg4 x2)
  (kernelRun0_A.sl.r_55 (F := Ideal) c arg5 harg5 arg8 harg8 arg9 harg9 x3 x6 x7) (kernelRun0_A.sl.r_56 (F := Ideal) c arg5 harg5 arg9 harg9 x3 x7))
include h0 h1

theorem dq_block (a : Fin 2048) (b : Fin 128) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (ix2 a b) = pair H0.dq H1.dq a b := by
  unfold out0_A_8
  rw [View.read_writes_junk_eq_canon]
  by_cases hb : (b : ℕ) < 64
  · refine box_skip (e := .bf16) (by omega) ?_
    refine box_skip (e := .bf16) (by omega) ?_
    refine box_skip (e := .bf16) (by omega) ?_
    refine box_skip (e := .bf16) (by omega) ?_
    refine box_skip (e := .bf16) (by omega) ?_
    refine box_skip (e := .bf16) (by omega) ?_
    refine box_skip (e := .bf16) (by omega) ?_
    refine box_skip (e := .bf16) (by omega) ?_
    refine box_step_at (e := .bf16) (T := pair H0.dq H1.dq) (fun a b => (dq_7 h0 a b).trans (pair_left H0.dq H1.dq (1792 + a) b).symm) fun hn => ?_
    have g7 : (a : ℕ) < 1792 := by omega
    refine box_step_at (e := .bf16) (T := pair H0.dq H1.dq) (fun a b => (dq_6 h0 a b).trans (pair_left H0.dq H1.dq (1536 + a) b).symm) fun hn => ?_
    have g6 : (a : ℕ) < 1536 := by omega
    refine box_step_at (e := .bf16) (T := pair H0.dq H1.dq) (fun a b => (dq_5 h0 a b).trans (pair_left H0.dq H1.dq (1280 + a) b).symm) fun hn => ?_
    have g5 : (a : ℕ) < 1280 := by omega
    refine box_step_at (e := .bf16) (T := pair H0.dq H1.dq) (fun a b => (dq_4 h0 a b).trans (pair_left H0.dq H1.dq (1024 + a) b).symm) fun hn => ?_
    have g4 : (a : ℕ) < 1024 := by omega
    refine box_step_at (e := .bf16) (T := pair H0.dq H1.dq) (fun a b => (dq_3 h0 a b).trans (pair_left H0.dq H1.dq (768 + a) b).symm) fun hn => ?_
    have g3 : (a : ℕ) < 768 := by omega
    refine box_step_at (e := .bf16) (T := pair H0.dq H1.dq) (fun a b => (dq_2 h0 a b).trans (pair_left H0.dq H1.dq (512 + a) b).symm) fun hn => ?_
    have g2 : (a : ℕ) < 512 := by omega
    refine box_step_at (e := .bf16) (T := pair H0.dq H1.dq) (fun a b => (dq_1 h0 a b).trans (pair_left H0.dq H1.dq (256 + a) b).symm) fun hn => ?_
    have g1 : (a : ℕ) < 256 := by omega
    refine box_step_at (e := .bf16) (T := pair H0.dq H1.dq) (fun a b => (dq_0 h0 a b).trans (by rw [Nat.zero_add]; exact (pair_left H0.dq H1.dq a b).symm)) fun hn => ?_
    omega
  · refine box_step_at (e := .bf16) (T := pair H0.dq H1.dq) (fun a b => (dq_7 h1 a b).trans (pair_right H0.dq H1.dq (1792 + a) b).symm) fun hn => ?_
    have g7 : (a : ℕ) < 1792 := by omega
    refine box_step_at (e := .bf16) (T := pair H0.dq H1.dq) (fun a b => (dq_6 h1 a b).trans (pair_right H0.dq H1.dq (1536 + a) b).symm) fun hn => ?_
    have g6 : (a : ℕ) < 1536 := by omega
    refine box_step_at (e := .bf16) (T := pair H0.dq H1.dq) (fun a b => (dq_5 h1 a b).trans (pair_right H0.dq H1.dq (1280 + a) b).symm) fun hn => ?_
    have g5 : (a : ℕ) < 1280 := by omega
    refine box_step_at (e := .bf16) (T := pair H0.dq H1.dq) (fun a b => (dq_4 h1 a b).trans (pair_right H0.dq H1.dq (1024 + a) b).symm) fun hn => ?_
    have g4 : (a : ℕ) < 1024 := by omega
    refine box_step_at (e := .bf16) (T := pair H0.dq H1.dq) (fun a b => (dq_3 h1 a b).trans (pair_right H0.dq H1.dq (768 + a) b).symm) fun hn => ?_
    have g3 : (a : ℕ) < 768 := by omega
    refine box_step_at (e := .bf16) (T := pair H0.dq H1.dq) (fun a b => (dq_2 h1 a b).trans (pair_right H0.dq H1.dq (512 + a) b).symm) fun hn => ?_
    have g2 : (a : ℕ) < 512 := by omega
    refine box_step_at (e := .bf16) (T := pair H0.dq H1.dq) (fun a b => (dq_1 h1 a b).trans (pair_right H0.dq H1.dq (256 + a) b).symm) fun hn => ?_
    have g1 : (a : ℕ) < 256 := by omega
    refine box_step_at (e := .bf16) (T := pair H0.dq H1.dq) (fun a b => (dq_0 h1 a b).trans (by rw [Nat.zero_add]; exact (pair_right H0.dq H1.dq a b).symm)) fun hn => ?_
    omega

theorem dk_block (a : Fin 2048) (b : Fin 128) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (ix2 a b) = pair (H0.dk 2048) (H1.dk 2048) a b := by
  unfold out0_A_9
  rw [View.read_writes_junk_eq_canon]
  refine box_step_at (e := .bf16) (T := pair (H0.dk 2048) (H1.dk 2048)) (fun a b => by
    refine Eq.trans ?_ (pair_right (H0.dk 2048) (H1.dk 2048) _ b).symm
    rw [Nat.zero_add]
    pointwise [k0_pay194]
    exact rows_read (e := .f32) (T := fun a d => ((H1.dk 2048 a d : ℝ) : EReal)) _ (dk_sum1_8 h1) a b) fun hn => ?_
  refine box_step_at (e := .bf16) (T := pair (H0.dk 2048) (H1.dk 2048)) (fun a b => by
    refine Eq.trans ?_ (pair_left (H0.dk 2048) (H1.dk 2048) _ b).symm
    rw [Nat.zero_add]
    pointwise [k0_pay97]
    exact rows_read (e := .f32) (T := fun a d => ((H0.dk 2048 a d : ℝ) : EReal)) _ (dk_sum0_8 h0) a b) fun hm => ?_
  omega

theorem dv_block (a : Fin 2048) (b : Fin 128) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (ix2 a b) = pair (H0.dv 2048) (H1.dv 2048) a b := by
  unfold out0_A_10
  rw [View.read_writes_junk_eq_canon]
  refine box_step_at (e := .bf16) (T := pair (H0.dv 2048) (H1.dv 2048)) (fun a b => by
    refine Eq.trans ?_ (pair_right (H0.dv 2048) (H1.dv 2048) _ b).symm
    rw [Nat.zero_add]
    pointwise [kernelRun0_A.sl.r_92, k0_pay195]
    exact rows_read (e := .f32) (T := fun a d => ((H1.dv 2048 a d : ℝ) : EReal)) _ (dv_sum1_8 h1) a b) fun hn => ?_
  refine box_step_at (e := .bf16) (T := pair (H0.dv 2048) (H1.dv 2048)) (fun a b => by
    refine Eq.trans ?_ (pair_left (H0.dv 2048) (H1.dv 2048) _ b).symm
    rw [Nat.zero_add]
    pointwise [kernelRun0_A.sl.r_46, k0_pay98]
    exact rows_read (e := .f32) (T := fun a d => ((H0.dv 2048 a d : ℝ) : EReal)) _ (dv_sum0_8 h0) a b) fun hm => ?_
  omega

end Cert.Fox
end
-- ==== Proof.Inputs.lean ====
/-
  What a grid point reads: one head of its blocks of the projections, the gates, the attention's output and the
  cotangent, as real numbers.
-/
module
public import proofs.«01_k».proof.Proof.Outs

@[expose] public section
set_option maxRecDepth 16384
noncomputable section
namespace Cert.Fox
open Cert.KernelIdeal Cert.KernelIdeal.Gen Idealize.ShloMosaic Idealize.ShloMosaic.TcCoe Idealize.SL.Sem

/-- The logistic function. -/
def sg (x : ℝ) : ℝ := 1 / (1 + Real.exp (-x))

/-- The derivative of `x ↦ x σ(x)` times the cotangent and the attention's output. -/
def gateGrad (g y o : ℝ) : ℝ := y * o * (sg g * (1 + g * (1 - sg g)))

/-- A head from its columns of the projections, the summed log gates, the attention's output and the cotangent. -/
def headOf (q k v g y o : ℕ → ℕ → ℝ) (c : ℕ → ℝ) : Head where
  qs i d := q i d * (1 / 8)
  k := k
  v := v
  od i d := y i d * (g i d * sg (g i d))
  c := c
  dvec i := ∑ d ∈ Finset.range 64, y i d * (g i d * sg (g i d)) * o i d

/-- The columns of an array from column `o` on. -/
def from_ (o : ℕ) (f : ℕ → ℕ → ℝ) (a b : ℕ) : ℝ := f a (o + b)

/-- Division by one plus an exponential. -/
theorem sg_coe (x : ℝ) : Ideal.div 1 (1 + Ideal.exp (0 - ((x : ℝ) : EReal))) = ((sg x : ℝ) : EReal) := by
  rw [zero_sub, ← EReal.coe_neg, exp_coe, ← EReal.coe_one, ← EReal.coe_add, div_coe (by positivity)]
  rfl

/-! ## The payloads' entries -/

/-- A stretch of a whole block, read. -/
theorem part_read {κ : Kind} {sp : Space} {sig : RefSig} {e : EltTy} {R C o0 o1 h w : ℕ}
    {inb : ∀ a, (![o0, o1] : Fin 2 → ℕ) a + (![h, w] : Fin 2 → ℕ) a ≤ (⟨2, ![R, C]⟩ : Shape).size a}
    (M : Memref sig κ sp ⟨2, ![R, C]⟩ e) (hM : M.IsWhole) {x : Vec Ideal ⟨2, ![R, C]⟩ e} {T : ℕ → ℕ → Elt Ideal e}
    (hx : ∀ (a : Fin R) (b : Fin C), x (ix2 a b) = T a b) (a : Fin h) (b : Fin w) :
    View.readAt (Elt Ideal) M.view (Rect.unit (s := ⟨2, ![R, C]⟩) ![o0, o1] ![h, w] inb).toLoadRect (hM.unread x) (ix2 a b)
      = T (o0 + a) (o1 + b) := by
  have h0 : o0 + h ≤ R := inb (0 : Fin 2)
  have h1 : o1 + w ≤ C := inb (1 : Fin 2)
  rw [View.readAt_eq_ld, hM.read_unread]
  refine (View.ld_unit_apply_of x ![o0, o1] ![h, w] inb (ix2 a b) (ix2 ⟨o0 + a, by omega⟩ ⟨o1 + b, by omega⟩) ?_).trans (hx _ _)
  intro z
  match z with
  | ⟨0, _⟩ => rfl
  | ⟨1, _⟩ => rfl

variable {v22 v25 v26 : Vec Ideal S2048x64 .f32} {o y g : ℕ → ℕ → ℝ}

theorem scaled {v : Vec Ideal S2048x64 .f32} {q : ℕ → ℕ → ℝ}
    (hv : ∀ (a : Fin 2048) (d : Fin 64), v (ix2 a d) = ((q a d : ℝ) : EReal)) (a : Fin 2048) (d : Fin 64) :
    k0_pay5 v (ix2 a d) = ((q a d * (1 / 8) : ℝ) : EReal) := by
  pointwise [k0_pay5]
  rw [hv, eighth_f32, ← EReal.coe_mul]

/-- The lane chosen out of a row: head `e` of pair `n`. -/
theorem pick {n e : ℕ} (hn : n < 8) (he : e < 2) (f : Fin 128 → EReal) :
    ∑ x : Fin 128, Scalar.select (IntOp.cmpi .eq (BitVec.ofNat 32 (x : ℕ))
      (Scalar.addi (Scalar.muli 2#32 (BitVec.ofNat 32 n)) (BitVec.ofNat 32 e))) (f x) 0 = f ⟨2 * n + e, by omega⟩ := by
  have ht : ∀ x : Fin 128, IntOp.cmpi .eq (BitVec.ofNat 32 (x : ℕ))
      (Scalar.addi (Scalar.muli 2#32 (BitVec.ofNat 32 n)) (BitVec.ofNat 32 e)) = 1#1 ↔ (x : ℕ) = 2 * n + e := fun x => by
    have h2 : Scalar.addi (Scalar.muli 2#32 (BitVec.ofNat 32 n)) (BitVec.ofNat 32 e) = BitVec.ofNat 32 (2 * n + e) := by
      show IntOp.addi (IntOp.muli (BitVec.ofNat 32 2) (BitVec.ofNat 32 n)) (BitVec.ofNat 32 e) = _
      rw [WordCmp.muli_ofNat, WordCmp.addi_ofNat]
    have hx := x.isLt
    rw [h2, WordCmp.cmpi_eq_ofNat_eq_one_iff (by norm_num; omega) (by norm_num; omega)]
  rw [Finset.sum_eq_single (⟨2 * n + e, by omega⟩ : Fin 128)]
  · exact if_pos ((ht _).2 rfl)
  · intro x _ hx
    exact if_neg fun h => hx (Fin.ext ((ht x).1 h))
  · intro h; exact absurd (Finset.mem_univ _) h

theorem column (i : grid0.Coords) {v : Vec Ideal S2048x128 .f32} {C : ℕ → ℕ → ℝ}
    (hv : ∀ (a : Fin 2048) (b : Fin 128), v (ix2 a b) = ((C a b : ℝ) : EReal)) (a : Fin 2048) :
    k0_pay3 i v (ix2 a (0 : Fin 1)) = ((C a (2 * (i 1).val + 0) : ℝ) : EReal) := by
  have hi : (i 1).val < 8 := (i 1).isLt
  pointwise [k0_pay3]
  exact (pick (e := 0) hi (by norm_num) fun x => v (ix2 a x)).trans (hv a _)

theorem column' (i : grid0.Coords) {v : Vec Ideal S2048x128 .f32} {C : ℕ → ℕ → ℝ}
    (hv : ∀ (a : Fin 2048) (b : Fin 128), v (ix2 a b) = ((C a b : ℝ) : EReal)) (a : Fin 2048) :
    k0_pay100 (BitVec.ofNat 32 (i 1).val) v (ix2 a (0 : Fin 1)) = ((C a (2 * (i 1).val + 1) : ℝ) : EReal) := by
  have hi : (i 1).val < 8 := (i 1).isLt
  pointwise [k0_pay100]
  exact (pick (e := 1) hi (by norm_num) fun x => v (ix2 a x)).trans (hv a _)

section Gate
variable (hy : ∀ (a : Fin 2048) (d : Fin 64), v25 (ix2 a d) = ((y a d : ℝ) : EReal))
variable (hg : ∀ (a : Fin 2048) (d : Fin 64), v26 (ix2 a d) = ((g a d : ℝ) : EReal))
variable (ho : ∀ (a : Fin 2048) (d : Fin 64), v22 (ix2 a d) = ((o a d : ℝ) : EReal))
include hy hg

theorem gated (a : Fin 2048) (d : Fin 64) :
    k0_pay15 v25 v26 k0_pay10 (ix2 a d) = ((y a d * (g a d * sg (g a d)) : ℝ) : EReal) := by
  pointwise [k0_pay15, k0_pay13, k0_pay11, k0_pay10]
  rw [hy, hg, sg_coe, ← EReal.coe_mul, ← EReal.coe_mul]

include ho

theorem gated_sum (a : Fin 2048) :
    k0_pay14 v22 v25 v26 k0_pay10 (ix2 a (0 : Fin 1))
      = ((∑ d ∈ Finset.range 64, y a d * (g a d * sg (g a d)) * o a d : ℝ) : EReal) := by
  pointwise [k0_pay14, k0_pay13, k0_pay11, k0_pay10]
  refine sum_coe _ (fun d => y a d * (g a d * sg (g a d)) * o a d) fun d => ?_
  rw [hy, hg, ho, sg_coe, ← EReal.coe_mul, ← EReal.coe_mul, ← EReal.coe_mul]

theorem gate_grad (a : Fin 2048) (d : Fin 64) :
    k0_pay12 v22 v25 v26 k0_pay10 (ix2 a d) = ((gateGrad (g a d) (y a d) (o a d) : ℝ) : EReal) := by
  pointwise [k0_pay12, k0_pay11, k0_pay10]
  rw [hy, hg, ho, sg_coe]
  norm_cast
end Gate

/-! ## The two heads of a grid point -/

theorem lt8 (r : Fin 2) : (r : ℕ) < 8 := by omega

variable {c : Dev nD} {i : grid0.Coords} {arg2 : Memref sig .tc .vmem S2048x128 .f32} {harg2 : arg2.IsWhole} {arg3 : Memref sig .tc .vmem S2048x128 .f32} {harg3 : arg3.IsWhole} {arg4 : Memref sig .tc .vmem S2048x128 .f32} {harg4 : arg4.IsWhole} {arg5 : Memref sig .tc .vmem S2048x128 .f32} {harg5 : arg5.IsWhole} {arg6 : Memref sig .tc .vmem S2048x128 .f32} {harg6 : arg6.IsWhole} {arg7 : Memref sig .tc .vmem S1x1x8x2048 .f32} {harg7 : arg7.IsWhole} {arg8 : Memref sig .tc .vmem S2048x128 .f32} {harg8 : arg8.IsWhole} {arg9 : Memref sig .tc .vmem S2048x128 .bf16} {harg9 : arg9.IsWhole} {arg15 arg16 : Memref sig .tc .vmem S2048x64 .f32} {arg17 : Memref sig .tc .vmem S1x2048 .f32}
  {x0 x1 x2 x3 x4 x6 : Vec Ideal S2048x128 .f32} {x5 : Vec Ideal S1x1x8x2048 .f32} {x7 : Vec Ideal S2048x128 .bf16} {H0 H1 : Head}
variable {arg10 : Memref sig .tc .vmem S2048x128 .bf16} {harg10 : arg10.IsWhole} {arg11 : Memref sig .tc .vmem S2048x128 .bf16} {harg11 : arg11.IsWhole} {arg12 : Memref sig .tc .vmem S2048x128 .bf16} {harg12 : arg12.IsWhole} {arg13 : Memref sig .tc .vmem S2048x128 .bf16} {harg13 : arg13.IsWhole} {arg14 : Memref sig .tc .vmem S1x1x8x2048 .f32} {harg14 : arg14.IsWhole} {arg15 : Memref sig .tc .vmem S2048x64 .f32} {harg15 : arg15.IsWhole} {arg16 : Memref sig .tc .vmem S2048x64 .f32} {harg16 : arg16.IsWhole} {harg17 : arg17.IsWhole}
variable {Q K V G C O Y : ℕ → ℕ → ℝ} {C' : ℕ → ℕ → ℝ}
variable (hq : ∀ (a : Fin 2048) (b : Fin 128), x0 (ix2 a b) = ((Q a b : ℝ) : EReal))
variable (hk : ∀ (a : Fin 2048) (b : Fin 128), x1 (ix2 a b) = ((K a b : ℝ) : EReal))
variable (hv : ∀ (a : Fin 2048) (b : Fin 128), x2 (ix2 a b) = ((V a b : ℝ) : EReal))
variable (hg : ∀ (a : Fin 2048) (b : Fin 128), x3 (ix2 a b) = ((G a b : ℝ) : EReal))
variable (hc : ∀ (a : Fin 2048) (b : Fin 128), x4 (ix2 a b) = ((C a b : ℝ) : EReal))
variable (hr : ∀ (r : Fin 2) (j : Fin 2048), x5 (ix4 (0 : Fin 1) (0 : Fin 1) (⟨r, lt8 r⟩ : Fin 8) j) = ((C j (2 * (i 1).val + r) : ℝ) : EReal))
variable (ho : ∀ (a : Fin 2048) (b : Fin 128), x6 (ix2 a b) = ((O a b : ℝ) : EReal))
variable (hy : ∀ (a : Fin 2048) (b : Fin 128), x7 (ix2 a b) = ((Y a b : ℝ) : EReal))

section
include hq in
theorem rq0 (a : Fin 2048) (d : Fin 64) :
    View.readAt (Elt Ideal) arg2.view (Rect.unit (s := S2048x128) ![0, 0] S2048x64.size inb_S2048x128_S2048x64_0_0).toLoadRect (harg2.unread x0) (ix2 a d)
      = ((from_ 0 Q a d : ℝ) : EReal) :=
  (part_read (o0 := 0) (o1 := 0) (h := 2048) (w := 64) (e := .f32) (T := fun a b => ((Q a b : ℝ) : EReal)) _ _ hq a d).trans (by rw [Nat.zero_add]; rfl)
include hk in
theorem rk0 (a : Fin 2048) (d : Fin 64) :
    View.readAt (Elt Ideal) arg3.view (Rect.unit (s := S2048x128) ![0, 0] S2048x64.size inb_S2048x128_S2048x64_0_0).toLoadRect (harg3.unread x1) (ix2 a d)
      = ((from_ 0 K a d : ℝ) : EReal) :=
  (part_read (o0 := 0) (o1 := 0) (h := 2048) (w := 64) (e := .f32) (T := fun a b => ((K a b : ℝ) : EReal)) _ _ hk a d).trans (by rw [Nat.zero_add]; rfl)
include hv in
theorem rv0 (a : Fin 2048) (d : Fin 64) :
    View.readAt (Elt Ideal) arg4.view (Rect.unit (s := S2048x128) ![0, 0] S2048x64.size inb_S2048x128_S2048x64_0_0).toLoadRect (harg4.unread x2) (ix2 a d)
      = ((from_ 0 V a d : ℝ) : EReal) :=
  (part_read (o0 := 0) (o1 := 0) (h := 2048) (w := 64) (e := .f32) (T := fun a b => ((V a b : ℝ) : EReal)) _ _ hv a d).trans (by rw [Nat.zero_add]; rfl)
include hg in
theorem rg0 (a : Fin 2048) (d : Fin 64) :
    View.readAt (Elt Ideal) arg5.view (Rect.unit (s := S2048x128) ![0, 0] S2048x64.size inb_S2048x128_S2048x64_0_0).toLoadRect (harg5.unread x3) (ix2 a d)
      = ((from_ 0 G a d : ℝ) : EReal) :=
  (part_read (o0 := 0) (o1 := 0) (h := 2048) (w := 64) (e := .f32) (T := fun a b => ((G a b : ℝ) : EReal)) _ _ hg a d).trans (by rw [Nat.zero_add]; rfl)
include ho in
theorem ro0 (a : Fin 2048) (d : Fin 64) :
    View.readAt (Elt Ideal) arg8.view (Rect.unit (s := S2048x128) ![0, 0] S2048x64.size inb_S2048x128_S2048x64_0_0).toLoadRect (harg8.unread x6) (ix2 a d)
      = ((from_ 0 O a d : ℝ) : EReal) :=
  (part_read (o0 := 0) (o1 := 0) (h := 2048) (w := 64) (e := .f32) (T := fun a b => ((O a b : ℝ) : EReal)) _ _ ho a d).trans (by rw [Nat.zero_add]; rfl)
include hy in
theorem ry0 (a : Fin 2048) (d : Fin 64) :
    View.readAt (Elt Ideal) arg9.view (Rect.unit (s := S2048x128) ![0, 0] S2048x64.size inb_S2048x128_S2048x64_0_0).toLoadRect (harg9.unread x7) (ix2 a d)
      = ((from_ 0 Y a d : ℝ) : EReal) :=
  (part_read (o0 := 0) (o1 := 0) (h := 2048) (w := 64) (e := .bf16) (T := fun a b => ((Y a b : ℝ) : EReal)) _ _ hy a d).trans (by rw [Nat.zero_add]; rfl)
include hg in
theorem wg0 (a : Fin 2048) (d : Fin 64) : (kernelRun0_A.sl.r_8 (F := Ideal) c arg5 harg5 x3) (ix2 a d) = ((from_ 0 G a d : ℝ) : EReal) := rg0 hg a d
include ho in
theorem wo0 (a : Fin 2048) (d : Fin 64) : (kernelRun0_A.sl.r_6 (F := Ideal) c arg8 harg8 x6) (ix2 a d) = ((from_ 0 O a d : ℝ) : EReal) := by
  pointwise [kernelRun0_A.sl.r_6, k0_pay8]; exact ro0 ho a d
include hy in
theorem wy0 (a : Fin 2048) (d : Fin 64) : (kernelRun0_A.sl.r_7 (F := Ideal) c arg9 harg9 x7) (ix2 a d) = ((from_ 0 Y a d : ℝ) : EReal) := by
  pointwise [kernelRun0_A.sl.r_7, k0_pay9]; exact ry0 hy a d

include hq hk hv hg hc hr ho hy in
theorem reads0 : Reads (headOf (from_ 0 Q) (from_ 0 K) (from_ 0 V) (from_ 0 G) (from_ 0 Y) (from_ 0 O) (fun a => C a (2 * (i 1).val + 0)))
      (kernelRun0_A.sl.r_1 (F := Ideal) c i arg6 harg6 x4) (kernelRun0_A.sl.r_2 (F := Ideal) c arg7 harg7 x5) (kernelRun0_A.sl.r_3 (F := Ideal) c arg2 harg2 x0) (kernelRun0_A.sl.r_4 (F := Ideal) c arg3 harg3 x1) (kernelRun0_A.sl.r_5 (F := Ideal) c arg4 harg4 x2)
      (kernelRun0_A.sl.r_9 (F := Ideal) c arg5 harg5 arg8 harg8 arg9 harg9 x3 x6 x7) (kernelRun0_A.sl.r_10 (F := Ideal) c arg5 harg5 arg9 harg9 x3 x7) where
  c1 a := (column i (fun a b => (part_read (o0 := 0) (o1 := 0) (h := 2048) (w := 128) (e := .f32) (T := fun a b => ((C a b : ℝ) : EReal)) _ harg6 hc a b).trans (by rw [Nat.zero_add, Nat.zero_add])) a)
  c2 j := by
    pointwise [kernelRun0_A.sl.r_2, k0_pay4]
    rw [View.readAt_eq_ld, harg7.read_unread]
    refine (View.ld_unit_apply_of x5 ![0, 0, 0, 0] S1x1x1x2048.size inb_S1x1x8x2048_S1x1x1x2048_0_0_0_0 _
      (ix4 (0 : Fin 1) (0 : Fin 1) (⟨((⟨0, by omega⟩ : Fin 2) : ℕ), lt8 _⟩ : Fin 8) j) ?_).trans (hr ⟨0, by omega⟩ j)
    intro z
    match z with
    | ⟨0, _⟩ => rfl
    | ⟨1, _⟩ => rfl
    | ⟨2, _⟩ => rfl
    | ⟨3, _⟩ => exact (Nat.zero_add _).symm
  q a d := scaled (rq0 hq) a d
  k a d := by pointwise [kernelRun0_A.sl.r_4, k0_pay6]; exact rk0 hk a d
  v a d := by pointwise [kernelRun0_A.sl.r_5, k0_pay7]; exact rv0 hv a d
  dvec a := gated_sum (wy0 hy) (wg0 hg) (wo0 ho) a
  od a d := gated (wy0 hy) (wg0 hg) a d

include hg ho hy in
theorem gate0 (a : Fin 2048) (d : Fin 64) :
    k0_pay12 (kernelRun0_A.sl.r_6 (F := Ideal) c arg8 harg8 x6) (kernelRun0_A.sl.r_7 (F := Ideal) c arg9 harg9 x7) (kernelRun0_A.sl.r_8 (F := Ideal) c arg5 harg5 x3) k0_pay10 (ix2 a d)
      = ((gateGrad (from_ 0 G a d) (from_ 0 Y a d) (from_ 0 O a d) : ℝ) : EReal) :=
  gate_grad (wy0 hy) (wg0 hg) (wo0 ho) a d
end

section
include hq in
theorem rq1 (a : Fin 2048) (d : Fin 64) :
    View.readAt (Elt Ideal) arg2.view (Rect.unit (s := S2048x128) ![0, 64] S2048x64.size inb_S2048x128_S2048x64_0_64).toLoadRect (harg2.unread x0) (ix2 a d)
      = ((from_ 64 Q a d : ℝ) : EReal) :=
  (part_read (o0 := 0) (o1 := 64) (h := 2048) (w := 64) (e := .f32) (T := fun a b => ((Q a b : ℝ) : EReal)) _ _ hq a d).trans (by rw [Nat.zero_add]; rfl)
include hk in
theorem rk1 (a : Fin 2048) (d : Fin 64) :
    View.readAt (Elt Ideal) arg3.view (Rect.unit (s := S2048x128) ![0, 64] S2048x64.size inb_S2048x128_S2048x64_0_64).toLoadRect (harg3.unread x1) (ix2 a d)
      = ((from_ 64 K a d : ℝ) : EReal) :=
  (part_read (o0 := 0) (o1 := 64) (h := 2048) (w := 64) (e := .f32) (T := fun a b => ((K a b : ℝ) : EReal)) _ _ hk a d).trans (by rw [Nat.zero_add]; rfl)
include hv in
theorem rv1 (a : Fin 2048) (d : Fin 64) :
    View.readAt (Elt Ideal) arg4.view (Rect.unit (s := S2048x128) ![0, 64] S2048x64.size inb_S2048x128_S2048x64_0_64).toLoadRect (harg4.unread x2) (ix2 a d)
      = ((from_ 64 V a d : ℝ) : EReal) :=
  (part_read (o0 := 0) (o1 := 64) (h := 2048) (w := 64) (e := .f32) (T := fun a b => ((V a b : ℝ) : EReal)) _ _ hv a d).trans (by rw [Nat.zero_add]; rfl)
include hg in
theorem rg1 (a : Fin 2048) (d : Fin 64) :
    View.readAt (Elt Ideal) arg5.view (Rect.unit (s := S2048x128) ![0, 64] S2048x64.size inb_S2048x128_S2048x64_0_64).toLoadRect (harg5.unread x3) (ix2 a d)
      = ((from_ 64 G a d : ℝ) : EReal) :=
  (part_read (o0 := 0) (o1 := 64) (h := 2048) (w := 64) (e := .f32) (T := fun a b => ((G a b : ℝ) : EReal)) _ _ hg a d).trans (by rw [Nat.zero_add]; rfl)
include ho in
theorem ro1 (a : Fin 2048) (d : Fin 64) :
    View.readAt (Elt Ideal) arg8.view (Rect.unit (s := S2048x128) ![0, 64] S2048x64.size inb_S2048x128_S2048x64_0_64).toLoadRect (harg8.unread x6) (ix2 a d)
      = ((from_ 64 O a d : ℝ) : EReal) :=
  (part_read (o0 := 0) (o1 := 64) (h := 2048) (w := 64) (e := .f32) (T := fun a b => ((O a b : ℝ) : EReal)) _ _ ho a d).trans (by rw [Nat.zero_add]; rfl)
include hy in
theorem ry1 (a : Fin 2048) (d : Fin 64) :
    View.readAt (Elt Ideal) arg9.view (Rect.unit (s := S2048x128) ![0, 64] S2048x64.size inb_S2048x128_S2048x64_0_64).toLoadRect (harg9.unread x7) (ix2 a d)
      = ((from_ 64 Y a d : ℝ) : EReal) :=
  (part_read (o0 := 0) (o1 := 64) (h := 2048) (w := 64) (e := .bf16) (T := fun a b => ((Y a b : ℝ) : EReal)) _ _ hy a d).trans (by rw [Nat.zero_add]; rfl)
include hg in
theorem wg1 (a : Fin 2048) (d : Fin 64) : (kernelRun0_A.sl.r_54 (F := Ideal) c arg5 harg5 x3) (ix2 a d) = ((from_ 64 G a d : ℝ) : EReal) := rg1 hg a d
include ho in
theorem wo1 (a : Fin 2048) (d : Fin 64) : (kernelRun0_A.sl.r_52 (F := Ideal) c arg8 harg8 x6) (ix2 a d) = ((from_ 64 O a d : ℝ) : EReal) := by
  pointwise [kernelRun0_A.sl.r_52, k0_pay105]; exact ro1 ho a d
include hy in
theorem wy1 (a : Fin 2048) (d : Fin 64) : (kernelRun0_A.sl.r_53 (F := Ideal) c arg9 harg9 x7) (ix2 a d) = ((from_ 64 Y a d : ℝ) : EReal) := by
  pointwise [kernelRun0_A.sl.r_53, k0_pay106]; exact ry1 hy a d

include hq hk hv hg hc hr ho hy in
theorem reads1 : Reads (headOf (from_ 64 Q) (from_ 64 K) (from_ 64 V) (from_ 64 G) (from_ 64 Y) (from_ 64 O) (fun a => C a (2 * (i 1).val + 1)))
      (kernelRun0_A.sl.r_47 (F := Ideal) c i arg6 harg6 x4) (kernelRun0_A.sl.r_48 (F := Ideal) c arg7 harg7 x5) (kernelRun0_A.sl.r_49 (F := Ideal) c arg2 harg2 x0) (kernelRun0_A.sl.r_50 (F := Ideal) c arg3 harg3 x1) (kernelRun0_A.sl.r_51 (F := Ideal) c arg4 harg4 x2)
      (kernelRun0_A.sl.r_55 (F := Ideal) c arg5 harg5 arg8 harg8 arg9 harg9 x3 x6 x7) (kernelRun0_A.sl.r_56 (F := Ideal) c arg5 harg5 arg9 harg9 x3 x7) where
  c1 a := (column' i (fun a b => (part_read (o0 := 0) (o1 := 0) (h := 2048) (w := 128) (e := .f32) (T := fun a b => ((C a b : ℝ) : EReal)) _ harg6 hc a b).trans (by rw [Nat.zero_add, Nat.zero_add])) a)
  c2 j := by
    pointwise [kernelRun0_A.sl.r_48, k0_pay101]
    rw [View.readAt_eq_ld, harg7.read_unread]
    refine (View.ld_unit_apply_of x5 ![0, 0, 1, 0] S1x1x1x2048.size inb_S1x1x8x2048_S1x1x1x2048_0_0_1_0 _
      (ix4 (0 : Fin 1) (0 : Fin 1) (⟨((⟨1, by omega⟩ : Fin 2) : ℕ), lt8 _⟩ : Fin 8) j) ?_).trans (hr ⟨1, by omega⟩ j)
    intro z
    match z with
    | ⟨0, _⟩ => rfl
    | ⟨1, _⟩ => rfl
    | ⟨2, _⟩ => rfl
    | ⟨3, _⟩ => exact (Nat.zero_add _).symm
  q a d := scaled (rq1 hq) a d
  k a d := by pointwise [kernelRun0_A.sl.r_50, k0_pay103]; exact rk1 hk a d
  v a d := by pointwise [kernelRun0_A.sl.r_51, k0_pay104]; exact rv1 hv a d
  dvec a := gated_sum (wy1 hy) (wg1 hg) (wo1 ho) a
  od a d := gated (wy1 hy) (wg1 hg) a d

include hg ho hy in
theorem gate1 (a : Fin 2048) (d : Fin 64) :
    k0_pay109 (kernelRun0_A.sl.r_52 (F := Ideal) c arg8 harg8 x6) (kernelRun0_A.sl.r_53 (F := Ideal) c arg9 harg9 x7) (kernelRun0_A.sl.r_54 (F := Ideal) c arg5 harg5 x3) k0_pay107 (ix2 a d)
      = ((gateGrad (from_ 64 G a d) (from_ 64 Y a d) (from_ 64 O a d) : ℝ) : EReal) :=
  gate_grad (wy1 hy) (wg1 hg) (wo1 ho) a d
end

end Cert.Fox
end
-- ==== Proof.OutsB.lean ====
/-
  What one grid point leaves in its blocks of the gradients of the output gate and of the summed log gates.
-/
module
public import proofs.«01_k».proof.Proof.Inputs

@[expose] public section
set_option maxRecDepth 16384
noncomputable section
namespace Cert.Fox
open Cert.KernelIdeal Cert.KernelIdeal.Gen Idealize.ShloMosaic Idealize.ShloMosaic.TcCoe Idealize.SL.Sem

/-- A slab of whole rows written over a four-axis block: an entry of it. -/
theorem slab_hit {N n o : ℕ} {L : List (View.Piece (Elt Ideal) ⟨4, ![1, 1, 8, N]⟩ .f32)}
    {inb : ∀ a, (![0, 0, o, 0] : Fin 4 → ℕ) a + (![1, 1, n, N] : Fin 4 → ℕ) a ≤ (⟨4, ![1, 1, 8, N]⟩ : Shape).size a}
    {p : (Rect.unit (s := ⟨4, ![1, 1, 8, N]⟩) ![0, 0, o, 0] ![1, 1, n, N] inb).shape.Idx → EReal} {x : EReal}
    (r : Fin 8) (q : Fin n) (hr : (r : ℕ) = o + q) (j : Fin N) (hp : p (ix4 (0 : Fin 1) (0 : Fin 1) q j) = x) :
    View.canon (Val := Elt Ideal) (e := .f32) (⟨Rect.unit (s := ⟨4, ![1, 1, 8, N]⟩) ![0, 0, o, 0] ![1, 1, n, N] inb, p⟩ :: L) (ix4 (0 : Fin 1) (0 : Fin 1) r j) = x := by
  have hi : (ix4 (0 : Fin 1) (0 : Fin 1) r j : (⟨4, ![1, 1, 8, N]⟩ : Shape).Idx)
      = (Rect.unit (s := ⟨4, ![1, 1, 8, N]⟩) ![0, 0, o, 0] ![1, 1, n, N] inb).emb (ix4 (0 : Fin 1) (0 : Fin 1) q j) := by
    funext z
    apply Fin.ext
    rw [ValueKit.rect_emb_unit_val]
    match z with
    | ⟨0, _⟩ => rfl
    | ⟨1, _⟩ => rfl
    | ⟨2, _⟩ => exact hr
    | ⟨3, _⟩ => exact (Nat.zero_add _).symm
  rw [hi, View.canon_cons_emb]
  exact hp

/-- An entry outside the slab. -/
theorem slab_skip {N n o : ℕ} {L : List (View.Piece (Elt Ideal) ⟨4, ![1, 1, 8, N]⟩ .f32)}
    {inb : ∀ a, (![0, 0, o, 0] : Fin 4 → ℕ) a + (![1, 1, n, N] : Fin 4 → ℕ) a ≤ (⟨4, ![1, 1, 8, N]⟩ : Shape).size a}
    {p : (Rect.unit (s := ⟨4, ![1, 1, 8, N]⟩) ![0, 0, o, 0] ![1, 1, n, N] inb).shape.Idx → EReal} {x : EReal}
    {r : Fin 8} (hr : ¬(o ≤ (r : ℕ) ∧ (r : ℕ) < o + n)) {j : Fin N} (hL : View.canon L (ix4 (0 : Fin 1) (0 : Fin 1) r j) = x) :
    View.canon (Val := Elt Ideal) (e := .f32) (⟨Rect.unit (s := ⟨4, ![1, 1, 8, N]⟩) ![0, 0, o, 0] ![1, 1, n, N] inb, p⟩ :: L) (ix4 (0 : Fin 1) (0 : Fin 1) r j) = x := by
  rw [View.canon_cons_of_not_mem]
  · exact hL
  · intro hmem
    have h2 := (Rect.mem_set_unit (s := ⟨4, ![1, 1, 8, N]⟩) (off := ![0, 0, o, 0]) (size := ![1, 1, n, N]) (inb := inb)).mp hmem
    exact hr (h2 (2 : Fin 4))

/-- The summed gates' gradients of a pair of heads, in rows 0 and 1 of eight. -/
def dcRow (f g : ℕ → ℝ) (r j : ℕ) : ℝ := if r = 0 then f j else if r = 1 then g j else 0

variable {c : Dev nD} {i : grid0.Coords} {arg2 : Memref sig .tc .vmem S2048x128 .f32} {harg2 : arg2.IsWhole} {arg3 : Memref sig .tc .vmem S2048x128 .f32} {harg3 : arg3.IsWhole} {arg4 : Memref sig .tc .vmem S2048x128 .f32} {harg4 : arg4.IsWhole} {arg5 : Memref sig .tc .vmem S2048x128 .f32} {harg5 : arg5.IsWhole} {arg6 : Memref sig .tc .vmem S2048x128 .f32} {harg6 : arg6.IsWhole} {arg7 : Memref sig .tc .vmem S1x1x8x2048 .f32} {harg7 : arg7.IsWhole} {arg8 : Memref sig .tc .vmem S2048x128 .f32} {harg8 : arg8.IsWhole} {arg9 : Memref sig .tc .vmem S2048x128 .bf16} {harg9 : arg9.IsWhole} {arg15 arg16 : Memref sig .tc .vmem S2048x64 .f32} {arg17 : Memref sig .tc .vmem S1x2048 .f32}
  {x0 x1 x2 x3 x4 x6 : Vec Ideal S2048x128 .f32} {x5 : Vec Ideal S1x1x8x2048 .f32} {x7 : Vec Ideal S2048x128 .bf16} {H0 H1 : Head}
variable {arg10 : Memref sig .tc .vmem S2048x128 .bf16} {harg10 : arg10.IsWhole} {arg11 : Memref sig .tc .vmem S2048x128 .bf16} {harg11 : arg11.IsWhole} {arg12 : Memref sig .tc .vmem S2048x128 .bf16} {harg12 : arg12.IsWhole} {arg13 : Memref sig .tc .vmem S2048x128 .bf16} {harg13 : arg13.IsWhole} {arg14 : Memref sig .tc .vmem S1x1x8x2048 .f32} {harg14 : arg14.IsWhole} {arg15 : Memref sig .tc .vmem S2048x64 .f32} {harg15 : arg15.IsWhole} {arg16 : Memref sig .tc .vmem S2048x64 .f32} {harg16 : arg16.IsWhole} {harg17 : arg17.IsWhole}
variable {Q K V G C O Y : ℕ → ℕ → ℝ} {C' : ℕ → ℕ → ℝ}
variable (hq : ∀ (a : Fin 2048) (b : Fin 128), x0 (ix2 a b) = ((Q a b : ℝ) : EReal))
variable (hk : ∀ (a : Fin 2048) (b : Fin 128), x1 (ix2 a b) = ((K a b : ℝ) : EReal))
variable (hv : ∀ (a : Fin 2048) (b : Fin 128), x2 (ix2 a b) = ((V a b : ℝ) : EReal))
variable (hg : ∀ (a : Fin 2048) (b : Fin 128), x3 (ix2 a b) = ((G a b : ℝ) : EReal))
variable (hc : ∀ (a : Fin 2048) (b : Fin 128), x4 (ix2 a b) = ((C a b : ℝ) : EReal))
variable (hr : ∀ (r : Fin 2) (j : Fin 2048), x5 (ix4 (0 : Fin 1) (0 : Fin 1) (⟨r, lt8 r⟩ : Fin 8) j) = ((C j (2 * (i 1).val + r) : ℝ) : EReal))
variable (ho : ∀ (a : Fin 2048) (b : Fin 128), x6 (ix2 a b) = ((O a b : ℝ) : EReal))
variable (hy : ∀ (a : Fin 2048) (b : Fin 128), x7 (ix2 a b) = ((Y a b : ℝ) : EReal))

include hg ho hy in
theorem dg_block (a : Fin 2048) (b : Fin 128) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (ix2 a b) = ((gateGrad (G a b) (Y a b) (O a b) : ℝ) : EReal) := by
  unfold out0_A_11
  rw [View.read_writes_junk_eq_canon]
  refine box_step_at (e := .bf16) (T := fun a b => ((gateGrad (G a b) (Y a b) (O a b) : ℝ) : EReal)) (fun a b => by
    rw [Nat.zero_add]; exact gate1 hg ho hy a b) fun hn => ?_
  refine box_step_at (e := .bf16) (T := fun a b => ((gateGrad (G a b) (Y a b) (O a b) : ℝ) : EReal)) (fun a b => by
    rw [Nat.zero_add]; exact gate0 hg ho hy a b) fun hm => ?_
  omega

variable (h0 : Reads H0 (kernelRun0_A.sl.r_1 (F := Ideal) c i arg6 harg6 x4) (kernelRun0_A.sl.r_2 (F := Ideal) c arg7 harg7 x5) (kernelRun0_A.sl.r_3 (F := Ideal) c arg2 harg2 x0) (kernelRun0_A.sl.r_4 (F := Ideal) c arg3 harg3 x1) (kernelRun0_A.sl.r_5 (F := Ideal) c arg4 harg4 x2)
  (kernelRun0_A.sl.r_9 (F := Ideal) c arg5 harg5 arg8 harg8 arg9 harg9 x3 x6 x7) (kernelRun0_A.sl.r_10 (F := Ideal) c arg5 harg5 arg9 harg9 x3 x7))
variable (h1 : Reads H1 (kernelRun0_A.sl.r_47 (F := Ideal) c i arg6 harg6 x4) (kernelRun0_A.sl.r_48 (F := Ideal) c arg7 harg7 x5) (kernelRun0_A.sl.r_49 (F := Ideal) c arg2 harg2 x0) (kernelRun0_A.sl.r_50 (F := Ideal) c arg3 harg3 x1) (kernelRun0_A.sl.r_51 (F := Ideal) c arg4 harg4 x2)
  (kernelRun0_A.sl.r_55 (F := Ideal) c arg5 harg5 arg8 harg8 arg9 harg9 x3 x6 x7) (kernelRun0_A.sl.r_56 (F := Ideal) c arg5 harg5 arg9 harg9 x3 x7))
include h0 h1
theorem dc_block (r : Fin 8) (j : Fin 2048) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (ix4 (0 : Fin 1) (0 : Fin 1) r j) = ((dcRow (H0.dc 2048) (H1.dc 2048) r j : ℝ) : EReal) := by
  unfold out0_A_12
  rw [View.read_writes_junk_eq_canon]
  by_cases hr1 : (r : ℕ) = 1
  · refine slab_hit r 0 hr1 j ?_
    have e : dcRow (H0.dc 2048) (H1.dc 2048) r j = H1.dc 2048 j := by rw [dcRow, if_neg (by omega), if_pos hr1]
    rw [e]
    pointwise [k0_pay1]
    exact line_read_zero (e := .f32) (T := fun a => ((H1.dc 2048 a : ℝ) : EReal)) _ (dc_sum1_8 h1) j
  refine slab_skip (by omega) ?_
  by_cases hr0 : (r : ℕ) = 0
  · refine slab_hit r 0 hr0 j ?_
    have e : dcRow (H0.dc 2048) (H1.dc 2048) r j = H0.dc 2048 j := by rw [dcRow, if_pos hr0]
    rw [e]
    pointwise [k0_pay99]
    exact line_read_zero (e := .f32) (T := fun a => ((H0.dc 2048 a : ℝ) : EReal)) _ (dc_sum0_8 h0) j
  refine slab_skip (by omega) ?_
  refine slab_hit r r (Nat.zero_add _).symm j ?_
  have e : dcRow (H0.dc 2048) (H1.dc 2048) r j = 0 := by rw [dcRow, if_neg hr0, if_neg hr1]
  rw [e]
  pointwise [k0_pay2]
  rfl

end Cert.Fox
end
-- ==== Proof.RefReads.lean ====
/-
  The reference's arrays, each entry read from the entries it is computed from.
-/
module
public import proofs.«01_k».proof.Proof.Inputs
public import proofs.«01_k».proof.Proof.Gen.ReferenceIdeal.Read

@[expose] public section
set_option maxRecDepth 16384
noncomputable section
namespace Cert.Fox
open Idealize.ShloMosaic Idealize.ShloMosaic.TcCoe Idealize.SL.Sem
open Cert.ReferenceIdeal Cert.ReferenceIdeal.Read

variable (X0 : FVec Ideal S4096x8448 .f32) (X1 : FVec Ideal S4096x128 .f32) (X2 : FVec Ideal S4096x2048 .bf16)
  (b : Fin 2) (h : Fin 16) (i j : Fin 2048) (d : Fin 64)

/-- The scores. -/
theorem ref_score : (val_main_v29 (F := Ideal) X0 X1 (ix4 b h i j) : EReal)
    = (∑ x : Fin 64, X0 (ix2 (⟨b * 2048 + i, by omega⟩ : Fin 4096) (⟨h * 64 + x, by omega⟩ : Fin 8448)) * X0 (ix2 (⟨b * 2048 + j, by omega⟩ : Fin 4096) (⟨1024 + (h * 64 + x), by omega⟩ : Fin 8448))) * Ideal.ofBits .f32 0x3E000000#32 + (X1 (ix2 (⟨b * 2048 + i, by omega⟩ : Fin 4096) (⟨h, by omega⟩ : Fin 128)) - X1 (ix2 (⟨b * 2048 + j, by omega⟩ : Fin 4096) (⟨h, by omega⟩ : Fin 128))) := by
  pointwise [val_main_v29, val_main_v16, val_main_v15, val_main_v14, val_main_cst, val_main_v21, val_main_v20, val_main_v19, val_main_v18, val_main_v17, val_main_v13, val_main_v12, val_main_v11, val_main_v4, val_main_v6, val_main_v3, val_main_v5]

/-- The scores, those of later keys masked. -/
theorem ref_masked : (val_main_v30_0 (F := Ideal) X0 X1 (ix4 b h i j) : EReal)
    = Scalar.select (IntOp.cmpi CmpIPredicate.sge (BitVec.ofNat 32 i) (BitVec.ofNat 32 j)) (val_main_v29 (F := Ideal) X0 X1 (ix4 b h i j)) (Ideal.ofBits .f32 0xFF800000#32) := by
  have hc : (val_main_call0_v2 (F := Ideal) (ix4 b h i j) : EReal) = Ideal.ofBits .f32 0xFF800000#32 := by
    rw [val_main_call0_v2_apply, val_main_call0_v0_apply]
    rfl
  pointwise [val_main_v30_1, val_main_v28, val_main_v27, val_main_v26, val_main_v25, val_main_v24, val_main_v23, val_main_v22, val_main_v30_0]
  rw [hc]

/-- The exponentials, the row's maximum taken off. -/
theorem ref_exp : (val_main_v51 (F := Ideal) X0 X1 (ix4 b h i j) : EReal)
    = Ideal.exp (val_main_v30_0 (F := Ideal) X0 X1 (ix4 b h i j) - val_main_v38 (F := Ideal) X0 X1 (ix3 b h i)) := by
  pointwise [val_main_v51, val_main_v50, val_main_v49, val_main_v48]

/-- The largest score of a row. -/
theorem ref_fold : (val_main_v31 (F := Ideal) X0 X1 (ix3 b h i) : EReal)
    = Finset.univ.fold max (Ideal.ofBits .f32 0xFF800000#32) fun x : Fin 2048 => val_main_v30_0 (F := Ideal) X0 X1 (ix4 b h i x) := by
  pointwise [val_main_v31, val_main_cst_1]

/-- Their sum. -/
theorem ref_expsum : (val_main_v52 (F := Ideal) X0 X1 (ix3 b h i) : EReal)
    = ∑ x : Fin 2048, val_main_v51 (F := Ideal) X0 X1 (ix4 b h i x) := by
  pointwise [val_main_v52, val_main_cst_9]

/-- The softmax weights. -/
theorem ref_weight : (val_main_v55 (F := Ideal) X0 X1 (ix4 b h i j) : EReal)
    = Ideal.div (val_main_v51 (F := Ideal) X0 X1 (ix4 b h i j)) (val_main_v52 (F := Ideal) X0 X1 (ix3 b h i)) := by
  pointwise [val_main_v55, val_main_v54, val_main_v53]

/-- One over the square of the sum. -/
theorem ref_inv : (val_main_v58 (F := Ideal) X0 X1 (ix4 b h i (0 : Fin 1)) : EReal)
    = Ideal.div 1 (val_main_v52 (F := Ideal) X0 X1 (ix3 b h i) * val_main_v52 (F := Ideal) X0 X1 (ix3 b h i)) := by
  pointwise [val_main_v58, val_main_v57, val_main_v56, val_main_cst_10, val_main_v53]

/-- The attention's output. -/
theorem ref_out : (val_main_v60 (F := Ideal) X0 X1 (ix4 b i h d) : EReal)
    = ∑ x : Fin 2048, X0 (ix2 (⟨b * 2048 + x, by omega⟩ : Fin 4096) (⟨2048 + (h * 64 + d), by omega⟩ : Fin 8448)) * val_main_v55 (F := Ideal) X0 X1 (ix4 b h i x) := by
  pointwise [val_main_v60, val_main_v59, val_main_v8, val_main_v7]

/-- The logistic function of the gate. -/
theorem ref_sg : (val_main_v61_2 (F := Ideal) X0 (ix4 b i h d) : EReal)
    = Ideal.div 1 (1 + Ideal.exp (-X0 (ix2 (⟨b * 2048 + i, by omega⟩ : Fin 4096) (⟨3072 + (h * 64 + d), by omega⟩ : Fin 8448)))) := by
  pointwise [val_main_v61_2, val_main_call1_v0, val_main_call1_v1, val_main_call1_cst, val_main_call1_v2, val_main_call1_v3, val_main_call1_cst_0, val_main_call1_v4, val_main_v10, val_main_v9]

/-- Its derivative. -/
theorem ref_dsg : (val_main_v61_1 (F := Ideal) X0 (ix4 b i h d) : EReal)
    = val_main_v61_2 (F := Ideal) X0 (ix4 b i h d) * (1 - val_main_v61_2 (F := Ideal) X0 (ix4 b i h d)) := by
  pointwise [val_main_v61_1, val_main_call1_cst_1, val_main_call1_v6, val_main_call1_v7]

/-- The gate. -/
theorem ref_silu : (val_main_v61_0 (F := Ideal) X0 (ix4 b i h d) : EReal)
    = X0 (ix2 (⟨b * 2048 + i, by omega⟩ : Fin 4096) (⟨3072 + (h * 64 + d), by omega⟩ : Fin 8448)) * val_main_v61_2 (F := Ideal) X0 (ix4 b i h d) := by
  pointwise [val_main_v61_0, val_main_v10, val_main_v9]

/-- The cotangent of the attention's output. -/
theorem ref_od : (val_main_v64 (F := Ideal) X0 X2 (ix4 b i h d) : EReal)
    = X2 (ix2 (⟨b * 2048 + i, by omega⟩ : Fin 4096) (⟨h * 64 + d, by omega⟩ : Fin 2048)) * val_main_v61_0 (F := Ideal) X0 (ix4 b i h d) := by
  pointwise [val_main_v64, val_main_v2, val_main_v1, val_main_v0]

/-- The gate's gradient. -/
theorem ref_dg : (val_main_v65 (F := Ideal) X0 X1 X2 (ix4 b i h d) : EReal)
    = val_main_v60 (F := Ideal) X0 X1 (ix4 b i h d) * X2 (ix2 (⟨b * 2048 + i, by omega⟩ : Fin 4096) (⟨h * 64 + d, by omega⟩ : Fin 2048)) * val_main_v61_2 (F := Ideal) X0 (ix4 b i h d) + X0 (ix2 (⟨b * 2048 + i, by omega⟩ : Fin 4096) (⟨3072 + (h * 64 + d), by omega⟩ : Fin 8448)) * (val_main_v60 (F := Ideal) X0 X1 (ix4 b i h d) * X2 (ix2 (⟨b * 2048 + i, by omega⟩ : Fin 4096) (⟨h * 64 + d, by omega⟩ : Fin 2048))) * val_main_v61_1 (F := Ideal) X0 (ix4 b i h d) := by
  pointwise [val_main_v65, val_main_call2_v0, val_main_call2_v1, val_main_call2_v2, val_main_v63, val_main_v2, val_main_v1, val_main_v0, val_main_v10, val_main_v9]

/-- The cotangent of the weights. -/
theorem ref_dp : (val_main_v67 (F := Ideal) X0 X2 (ix4 b h i j) : EReal)
    = ∑ x : Fin 64, val_main_v64 (F := Ideal) X0 X2 (ix4 b i h x) * X0 (ix2 (⟨b * 2048 + j, by omega⟩ : Fin 4096) (⟨2048 + (h * 64 + x), by omega⟩ : Fin 8448)) := by
  pointwise [val_main_v67, val_main_v66, val_main_v8, val_main_v7]

/-- The values' gradient. -/
theorem ref_dv : (val_main_v69 (F := Ideal) X0 X1 X2 (ix4 b j h d) : EReal)
    = ∑ x : Fin 2048, val_main_v64 (F := Ideal) X0 X2 (ix4 b x h d) * val_main_v55 (F := Ideal) X0 X1 (ix4 b h x j) := by
  pointwise [val_main_v69, val_main_v68, val_main_v66]

/-- The share of one weight in the cotangent of the sum. -/
theorem ref_part : (val_main_v72 (F := Ideal) X0 X1 X2 (ix4 b h i j) : EReal)
    = val_main_v67 (F := Ideal) X0 X2 (ix4 b h i j) * val_main_v58 (F := Ideal) X0 X1 (ix4 b h i (0 : Fin 1)) * val_main_v51 (F := Ideal) X0 X1 (ix4 b h i j) := by
  pointwise [val_main_v72, val_main_v71, val_main_v70]

/-- The cotangent of the exponentials. -/
theorem ref_dexp : (val_main_v80 (F := Ideal) X0 X1 X2 (ix4 b h i j) : EReal)
    = Ideal.div (val_main_v67 (F := Ideal) X0 X2 (ix4 b h i j)) (val_main_v52 (F := Ideal) X0 X1 (ix3 b h i)) + ∑ _x : Fin 1, -∑ x : Fin 2048, val_main_v72 (F := Ideal) X0 X1 X2 (ix4 b h i x) := by
  pointwise [val_main_v80, val_main_v79, val_main_v78, val_main_v77, val_main_v76, val_main_v75, val_main_v74, val_main_v73, val_main_cst_11, val_main_cst_12, val_main_v53]

/-- The cotangent of the scores. -/
theorem ref_ds : (val_main_v82 (F := Ideal) X0 X1 X2 (ix4 b h i j) : EReal)
    = Scalar.select (IntOp.cmpi CmpIPredicate.sge (BitVec.ofNat 32 i) (BitVec.ofNat 32 j)) (val_main_v80 (F := Ideal) X0 X1 X2 (ix4 b h i j) * val_main_v51 (F := Ideal) X0 X1 (ix4 b h i j)) (0 : EReal) := by
  pointwise [val_main_v30_1, val_main_v28, val_main_v27, val_main_v26, val_main_v25, val_main_v24, val_main_v23, val_main_v22, val_main_v82, val_main_v81, val_main_call3_cst, val_main_call3_v0]

/-- The summed gates' gradient. -/
theorem ref_dc : (val_main_v90 (F := Ideal) X0 X1 X2 (ix3 b h j) : EReal)
    = (∑ _x : Fin 1, ∑ x : Fin 2048, -val_main_v82 (F := Ideal) X0 X1 X2 (ix4 b h x j)) + ∑ _x : Fin 1, ∑ x : Fin 2048, val_main_v82 (F := Ideal) X0 X1 X2 (ix4 b h j x) := by
  pointwise [val_main_v90, val_main_v89, val_main_v88, val_main_v87, val_main_v86, val_main_v85, val_main_v84, val_main_v83, val_main_cst_13, val_main_cst_14, val_main_cst_15, val_main_cst_16]

/-- The keys' gradient. -/
theorem ref_dk : (val_main_v94 (F := Ideal) X0 X1 X2 (ix4 b j h d) : EReal)
    = ∑ x : Fin 2048, val_main_v82 (F := Ideal) X0 X1 X2 (ix4 b h x j) * Ideal.ofBits .f32 0x3E000000#32 * X0 (ix2 (⟨b * 2048 + x, by omega⟩ : Fin 4096) (⟨h * 64 + d, by omega⟩ : Fin 8448)) := by
  pointwise [val_main_v94, val_main_v93, val_main_v92, val_main_v91, val_main_cst_17, val_main_v4, val_main_v3]

/-- The queries' gradient. -/
theorem ref_dq : (val_main_v96 (F := Ideal) X0 X1 X2 (ix4 b i h d) : EReal)
    = ∑ x : Fin 2048, val_main_v82 (F := Ideal) X0 X1 X2 (ix4 b h i x) * Ideal.ofBits .f32 0x3E000000#32 * X0 (ix2 (⟨b * 2048 + x, by omega⟩ : Fin 4096) (⟨1024 + (h * 64 + d), by omega⟩ : Fin 8448)) := by
  pointwise [val_main_v96, val_main_v95, val_main_v92, val_main_v91, val_main_cst_17, val_main_v6, val_main_v5]

/-- Its rows. -/
theorem ref_row_dq : (val_main_v102 (F := Ideal) X0 X1 X2 (ix2 (⟨b * 2048 + i, by omega⟩ : Fin 4096) (⟨h * 64 + d, by omega⟩ : Fin 1024)) : EReal)
    = val_main_v96 (F := Ideal) X0 X1 X2 (ix4 b i h d) := by
  pointwise [val_main_v102, val_main_v101]

/-- Its rows. -/
theorem ref_row_dk : (val_main_v104 (F := Ideal) X0 X1 X2 (ix2 (⟨b * 2048 + i, by omega⟩ : Fin 4096) (⟨h * 64 + d, by omega⟩ : Fin 1024)) : EReal)
    = val_main_v94 (F := Ideal) X0 X1 X2 (ix4 b i h d) := by
  pointwise [val_main_v104, val_main_v103]

/-- Its rows. -/
theorem ref_row_dv : (val_main_v106 (F := Ideal) X0 X1 X2 (ix2 (⟨b * 2048 + i, by omega⟩ : Fin 4096) (⟨h * 64 + d, by omega⟩ : Fin 1024)) : EReal)
    = val_main_v69 (F := Ideal) X0 X1 X2 (ix4 b i h d) := by
  pointwise [val_main_v106, val_main_v105]

/-- Its rows. -/
theorem ref_row_dg : (val_main_v108 (F := Ideal) X0 X1 X2 (ix2 (⟨b * 2048 + i, by omega⟩ : Fin 4096) (⟨h * 64 + d, by omega⟩ : Fin 1024)) : EReal)
    = val_main_v65 (F := Ideal) X0 X1 X2 (ix4 b i h d) := by
  pointwise [val_main_v108, val_main_v107]

/-- The same, the constant minus infinity taken in once more. -/
theorem ref_max : (val_main_v38 (F := Ideal) X0 X1 (ix3 b h i) : EReal)
    = max (Ideal.ofBits .f32 0xFF800000#32) (val_main_v31 (F := Ideal) X0 X1 (ix3 b h i)) := by
  have h : (val_main_v37 (F := Ideal) (ix3 b h i) : EReal) = Ideal.ofBits .f32 0xFF800000#32 := by
    pointwise [val_main_v37, val_main_cst_3]
  rw [val_main_v38_apply, h]
  rfl

/-- The gates' gradient, two heads in eight rows, the other six zero. -/
theorem ref_dc_rows (n r : Fin 8) : (val_main_v100 (F := Ideal) X0 X1 X2 (ix4 b n r j) : EReal)
    = if hr : (r : ℕ) < 2 then (val_main_v90 (F := Ideal) X0 X1 X2 (ix3 b (⟨n * 2 + r, by omega⟩ : Fin 16) j) : EReal) else (0 : EReal) := by
  have h0 : (FloatOps.sitofp (F := Ideal) FTy.f32 (0#32) : EReal) = 0 := by simp [FloatOps.sitofp]
  have h1 : ∀ r : Fin 2, (val_main_v99 (F := Ideal) X0 X1 X2 (ix4 b n r j) : EReal)
      = val_main_v90 (F := Ideal) X0 X1 X2 (ix3 b (⟨n * 2 + r, by omega⟩ : Fin 16) j) := fun r => by
    pointwise [val_main_v99, val_main_v98, val_main_v97]
  pointwise [val_main_v100, val_main_call4_v0, val_main_c]
  split_ifs with hr
  · exact h1 _
  · exact h0

end Cert.Fox
end
-- ==== Proof.RefA.lean ====
/-
  What the reference computes, as the real-number formulas of one head: from the scores to the gradients.
-/
module
public import proofs.«01_k».proof.Proof.Inputs
public import proofs.«01_k».proof.Proof.RefReads

@[expose] public section
set_option maxRecDepth 16384
noncomputable section
namespace Cert.Fox
open Idealize.ShloMosaic Idealize.ShloMosaic.TcCoe Idealize.SL.Sem
open Cert.ReferenceIdeal Cert.ReferenceIdeal.Read

/-- The attention's output. -/
def Head.out (H : Head) (i d : ℕ) : ℝ := ∑ j ∈ Finset.range 2048, H.v j d * H.p i j

/-- A head, its last field computed from the attention's own output. -/
def headOut (q k v g y : ℕ → ℕ → ℝ) (c : ℕ → ℝ) : Head :=
  headOf q k v g y (headOf q k v g y (fun _ _ => 0) c).out c

/-- Row sums of cotangent times output are sums of weight times cotangent of the weight. -/
theorem headOut_dvec (q k v g y : ℕ → ℕ → ℝ) (c : ℕ → ℝ) (i : ℕ) : (headOut q k v g y c).dvec i
    = ∑ j ∈ Finset.range 2048, (headOut q k v g y c).p i j * (headOut q k v g y c).dp i j := by
  show ∑ d ∈ Finset.range 64, y i d * (g i d * sg (g i d)) * (∑ j ∈ Finset.range 2048, v j d * (headOut q k v g y c).p i j)
    = ∑ j ∈ Finset.range 2048, (headOut q k v g y c).p i j * ∑ d ∈ Finset.range 64, y i d * (g i d * sg (g i d)) * v j d
  simp only [Finset.mul_sum]
  rw [Finset.sum_comm]
  exact Finset.sum_congr rfl fun _ _ => Finset.sum_congr rfl fun _ _ => by ring

/-- Head `h` of sequence `b`, from the projections, the summed log gates and the cotangent. -/
def headAt (P C Y : ℕ → ℕ → ℝ) (b h : ℕ) : Head :=
  headOut (fun i d => P (b * 2048 + i) (h * 64 + d)) (fun i d => P (b * 2048 + i) (1024 + (h * 64 + d)))
    (fun i d => P (b * 2048 + i) (2048 + (h * 64 + d))) (fun i d => P (b * 2048 + i) (3072 + (h * 64 + d)))
    (fun i d => Y (b * 2048 + i) (h * 64 + d)) (fun i => C (b * 2048 + i) h)

theorem sum_single (x : EReal) : ∑ _x : Fin 1, x = x := by simp

/-- The cotangent of a score from the unnormalised exponentials. -/
theorem ds_real {Z w p dp e S : ℝ} (hZ : 0 < Z) (hw : 0 < w) (hp : p = e / Z) :
    (dp / (Z * w) + -(S * (1 / (Z * w)))) * (e * w) = p * (dp - S) := by
  rw [hp]; field_simp; ring

variable {X0 : FVec Ideal S4096x8448 .f32} {X1 : FVec Ideal S4096x128 .f32} {X2 : FVec Ideal S4096x2048 .bf16} {P C Y : ℕ → ℕ → ℝ}
variable (hP : ∀ (a : Fin 4096) (n : Fin 8448), X0 (ix2 a n) = ((P a n : ℝ) : EReal))
variable (hC : ∀ (a : Fin 4096) (n : Fin 128), X1 (ix2 a n) = ((C a n : ℝ) : EReal))
variable (hY : ∀ (a : Fin 4096) (n : Fin 2048), X2 (ix2 a n) = ((Y a n : ℝ) : EReal))
variable (b : Fin 2) (h : Fin 16)

/-- The causal mask: query `i` sees key `j` when `j ≤ i`. -/
theorem mask_iff (i j : Fin 2048) :
    IntOp.cmpi .sge (BitVec.ofNat 32 i) (BitVec.ofNat 32 j) = 1#1 ↔ (j : ℕ) ≤ i :=
  WordCmp.cmpi_sge_ofNat_eq_one_iff (by omega) (by omega)

include hP hC in
theorem score_at (i j : Fin 2048) :
    (val_main_v29 (F := Ideal) X0 X1 (ix4 b h i j) : EReal) = (((headAt P C Y b h).s i j : ℝ) : EReal) := by
  rw [ref_score, dot_coe (n := 64) _ _ (fun d => P (b * 2048 + i) (h * 64 + d)) (fun d => P (b * 2048 + j) (1024 + (h * 64 + d)))
    (fun x => hP _ _) (fun x => hP _ _), hC, hC, eighth_f32, ← EReal.coe_mul, ← EReal.coe_sub, ← EReal.coe_add]
  congr 1
  show _ = (∑ d ∈ Finset.range 64, P (b * 2048 + i) (h * 64 + d) * (1 / 8) * P (b * 2048 + j) (1024 + (h * 64 + d)))
    + C (b * 2048 + i) h - C (b * 2048 + j) h
  rw [Finset.sum_mul, add_sub_assoc]
  congr 1
  exact Finset.sum_congr rfl fun _ _ => by ring

include hP hC in
theorem masked_at (i j : Fin 2048) : (val_main_v30_0 (F := Ideal) X0 X1 (ix4 b h i j) : EReal)
    = if (j : ℕ) ≤ i then (((headAt P C Y b h).s i j : ℝ) : EReal) else ⊥ := by
  rw [ref_masked, score_at (Y := Y) hP hC, ninf_f32]
  unfold Scalar.select
  exact if_congr (mask_iff i j) rfl rfl

include hP hC in
/-- A row's exponentials and their sum, up to the same positive factor. -/
theorem soft (i : Fin 2048) : ∃ w : ℝ, 0 < w
    ∧ (∀ j : Fin 2048, (val_main_v51 (F := Ideal) X0 X1 (ix4 b h i j) : EReal)
        = ((if (j : ℕ) ≤ i then Real.exp ((headAt P C Y b h).s i j) * w else 0 : ℝ) : EReal))
    ∧ (val_main_v52 (F := Ideal) X0 X1 (ix3 b h i) : EReal) = (((headAt P C Y b h).Z i * w : ℝ) : EReal) := by
  have hm := masked_at (Y := Y) hP hC b h i
  obtain ⟨M, hM⟩ := row_max i.isLt _ _ hm
  have h38 : (val_main_v38 (F := Ideal) X0 X1 (ix3 b h i) : EReal) = (M : EReal) := by
    rw [ref_max, ref_fold, ninf_f32, hM]
    exact max_eq_right bot_le
  have he : ∀ j : Fin 2048, (val_main_v51 (F := Ideal) X0 X1 (ix4 b h i j) : EReal)
        = ((if (j : ℕ) ≤ i then Real.exp ((headAt P C Y b h).s i j) * Real.exp (-M) else 0 : ℝ) : EReal) := fun j => by
    rw [ref_exp, h38]
    exact exp_row _ _ hm M j
  refine ⟨Real.exp (-M), Real.exp_pos _, he, ?_⟩
  rw [ref_expsum, sum_coe _ (fun j => if j ≤ (i : ℕ) then Real.exp ((headAt P C Y b h).s i j) * Real.exp (-M) else 0) he,
    sum_ite_range i.isLt (fun j => Real.exp ((headAt P C Y b h).s i j) * Real.exp (-M)), ← Finset.sum_mul]
  rfl

include hP hC in
theorem weight_at (i j : Fin 2048) :
    (val_main_v55 (F := Ideal) X0 X1 (ix4 b h i j) : EReal) = (((headAt P C Y b h).p i j : ℝ) : EReal) := by
  obtain ⟨w, hw, he, hz⟩ := soft (Y := Y) hP hC b h i
  have hZ := (headAt P C Y b h).Z_pos i
  rw [ref_weight, he, hz, div_coe (mul_pos hZ hw).ne', Head.p]
  congr 1
  split_ifs
  · exact mul_div_mul_right _ _ hw.ne'
  · exact zero_div _

include hP hC in
theorem out_at (i : Fin 2048) (d : Fin 64) :
    (val_main_v60 (F := Ideal) X0 X1 (ix4 b i h d) : EReal) = (((headAt P C Y b h).out i d : ℝ) : EReal) := by
  rw [ref_out, dot_coe (n := 2048) _ _ (fun j => (headAt P C Y b h).v j d) (fun j => (headAt P C Y b h).p i j)
    (fun x => hP _ _) (fun x => weight_at (Y := Y) hP hC b h i x)]
  rfl

include hP in
theorem sg_at (i : Fin 2048) (d : Fin 64) :
    (val_main_v61_2 (F := Ideal) X0 (ix4 b i h d) : EReal) = ((sg (P (b * 2048 + i) (3072 + (h * 64 + d))) : ℝ) : EReal) := by
  rw [ref_sg, hP, ← zero_sub]
  exact sg_coe _

include hP hY in
theorem od_at (i : Fin 2048) (d : Fin 64) :
    (val_main_v64 (F := Ideal) X0 X2 (ix4 b i h d) : EReal) = (((headAt P C Y b h).od i d : ℝ) : EReal) := by
  rw [ref_od, ref_silu, sg_at hP, hP, hY, ← EReal.coe_mul, ← EReal.coe_mul]
  rfl

include hP hY in
theorem dp_at (i j : Fin 2048) :
    (val_main_v67 (F := Ideal) X0 X2 (ix4 b h i j) : EReal) = (((headAt P C Y b h).dp i j : ℝ) : EReal) := by
  rw [ref_dp, dot_coe (n := 64) _ _ (fun d => (headAt P C Y b h).od i d) (fun d => (headAt P C Y b h).v j d)
    (fun x => od_at (C := C) hP hY b h i x) (fun x => hP _ _)]
  rfl

include hP hC hY

theorem dv_at (j : Fin 2048) (d : Fin 64) :
    (val_main_v69 (F := Ideal) X0 X1 X2 (ix4 b j h d) : EReal) = (((headAt P C Y b h).dv 2048 j d : ℝ) : EReal) := by
  rw [ref_dv, dot_coe (n := 2048) _ _ (fun i => (headAt P C Y b h).od i d) (fun i => (headAt P C Y b h).p i j)
    (fun x => od_at (C := C) hP hY b h x d) (fun x => weight_at (Y := Y) hP hC b h x j)]
  congr 1
  exact Finset.sum_congr rfl fun _ _ => mul_comm _ _

theorem ds_at (i j : Fin 2048) :
    (val_main_v82 (F := Ideal) X0 X1 X2 (ix4 b h i j) : EReal) = (((headAt P C Y b h).ds i j : ℝ) : EReal) := by
  obtain ⟨w, hw, he, hz⟩ := soft (Y := Y) hP hC b h i
  have hZ := (headAt P C Y b h).Z_pos i
  have hD : (headAt P C Y b h).Z i * w ≠ 0 := (mul_pos hZ hw).ne'
  have hpart : ∀ x : Fin 2048, (val_main_v72 (F := Ideal) X0 X1 X2 (ix4 b h i x) : EReal)
      = ((((headAt P C Y b h).p i x * (headAt P C Y b h).dp i x) * (1 / ((headAt P C Y b h).Z i * w)) : ℝ) : EReal) := fun x => by
    rw [ref_part, ref_inv, he, hz, dp_at (C := C) hP hY, ← EReal.coe_mul, ← EReal.coe_one, div_coe (mul_ne_zero hD hD), ← EReal.coe_mul, ← EReal.coe_mul]
    congr 1
    rw [Head.p]
    split_ifs
    · field_simp
    · ring
  rw [ref_ds, ref_dexp, sum_single, sum_coe _ (fun x => ((headAt P C Y b h).p i x * (headAt P C Y b h).dp i x) * (1 / ((headAt P C Y b h).Z i * w))) hpart, hz, he, dp_at (C := C) hP hY, div_coe hD, ← EReal.coe_neg, ← EReal.coe_add,
    ← EReal.coe_mul, ← Finset.sum_mul]
  unfold Scalar.select
  refine (if_congr (mask_iff i j) rfl rfl).trans ?_
  rw [Head.ds, show (headAt P C Y b h).dvec i = _ from headOut_dvec _ _ _ _ _ _ i]
  split_ifs with hij
  · congr 1
    exact ds_real hZ hw (if_pos hij)
  · rw [(headAt P C Y b h).p_above (by omega), zero_mul]; rfl

theorem dk_at (j : Fin 2048) (d : Fin 64) :
    (val_main_v94 (F := Ideal) X0 X1 X2 (ix4 b j h d) : EReal) = (((headAt P C Y b h).dk 2048 j d : ℝ) : EReal) := by
  rw [ref_dk, dot_coe (n := 2048) _ _ (fun i => (headAt P C Y b h).ds i j * (1 / 8)) (fun i => P (b * 2048 + i) (h * 64 + d))
    (fun x => by rw [ds_at hP hC hY, eighth_f32, EReal.coe_mul]) (fun x => hP _ _)]
  congr 1
  refine Finset.sum_congr rfl fun i _ => ?_
  show _ = (headAt P C Y b h).ds i j * (P (b * 2048 + i) (h * 64 + d) * (1 / 8))
  ring

theorem dq_at (i : Fin 2048) (d : Fin 64) :
    (val_main_v96 (F := Ideal) X0 X1 X2 (ix4 b i h d) : EReal) = (((headAt P C Y b h).dq i d : ℝ) : EReal) := by
  rw [ref_dq, dot_coe (n := 2048) _ _ (fun j => (headAt P C Y b h).ds i j * (1 / 8)) (fun j => (headAt P C Y b h).k j d)
    (fun x => by rw [ds_at hP hC hY, eighth_f32, EReal.coe_mul]) (fun x => hP _ _)]
  congr 1
  rw [Head.dq, Finset.sum_mul]
  exact Finset.sum_congr rfl fun i _ => by ring

theorem dc_at (j : Fin 2048) :
    (val_main_v90 (F := Ideal) X0 X1 X2 (ix3 b h j) : EReal) = (((headAt P C Y b h).dc 2048 j : ℝ) : EReal) := by
  rw [ref_dc, sum_single, sum_single, sum_coe (n := 2048) _ (fun i => -(headAt P C Y b h).ds i j)
    (fun x => by rw [ds_at hP hC hY, EReal.coe_neg]), sum_coe (n := 2048) _ (fun i => (headAt P C Y b h).ds j i)
    (fun x => ds_at hP hC hY b h j x), ← EReal.coe_add]
  congr 1
  rw [Head.dc, if_pos j.isLt, Finset.sum_neg_distrib, neg_add_eq_sub]

theorem dg_at (i : Fin 2048) (d : Fin 64) :
    (val_main_v65 (F := Ideal) X0 X1 X2 (ix4 b i h d) : EReal)
      = ((gateGrad (P (b * 2048 + i) (3072 + (h * 64 + d))) (Y (b * 2048 + i) (h * 64 + d)) ((headAt P C Y b h).out i d) : ℝ) : EReal) := by
  rw [ref_dg, ref_dsg, out_at (Y := Y) hP hC, sg_at hP, hP, hY, ← EReal.coe_one, ← EReal.coe_sub,
    ← EReal.coe_mul, ← EReal.coe_mul, ← EReal.coe_mul, ← EReal.coe_mul, ← EReal.coe_mul, ← EReal.coe_add]
  congr 1
  rw [gateGrad]
  ring

end Cert.Fox
end
-- ==== Proof.Host.lean ====
/-
  The arrays the host computes for the kernel: the attention's output and the summed gates in rows.
-/
module
public import proofs.«01_k».proof.Proof.Gen.KernelIdeal.Value
public import proofs.«01_k».proof.Proof.RefA
public import Idealize.ShloMosaic.Lib.Claim

@[expose] public section
set_option maxRecDepth 16384
noncomputable section
namespace Cert.Fox
open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 1600000 in
/-- The attention's output, computed by the host as the reference computes it. -/
theorem V_out (c : Dev nD) : V m c main_v41 = shapeCast S4096x1024 (Cert.ReferenceIdeal.Read.val_main_v60 (m ((c : Thread nD τ).loc main_arg0)) (m ((c : Thread nD τ).loc main_arg1))) shapeCasts_S2x2048x16x64_S4096x1024 := by
  show StableHlo.after [hostOps0, hostOps0_1, hostOps0_2, hostOps0_3].flatten (fun b => m (c, b)) (Proc.tc.devRef main_v41) = _
  simp only [List.flatten_cons, List.flatten_nil, List.append_nil, List.cons_append, List.nil_append, hostOps0, hostOps0_1, hostOps0_2, hostOps0_3, TRef.binary, TRef.nullary, TRef.ternary, TRef.unary, TRef.toBuf, TRef.ofBuf, cast_eq]
  after_results_simp
  rfl

/-- The summed gates, two heads to eight rows. -/
def crow (x : FVec Ideal S4096x128 .f32) : FVec Ideal S2x8x8x2048 .f32 :=
  pad S2x8x8x2048 ![0, 0, 0, 0] ![0, 0, 6, 0] ![0, 0, 0, 0]
    (shapeCast S2x8x2x2048 (transpose S2x16x2048 [0, 2, 1] (extractStridedSlice S2x2048x16 ![0, 0, 0]
      (shapeCast S2x2048x128 x shapeCasts_S4096x128_S2x2048x128) slices_S2x2048x128_S2x2048x16_0_0_0)
      transposes_S2x2048x16_S2x16x2048_0_2_1) shapeCasts_S2x16x2048_S2x8x2x2048)
    (sitofp FTy.f32 (constantI S_ 32 0#32)) pads_S2x8x2x2048_S2x8x8x2048_000_000_060_000 h_S_

set_option maxHeartbeats 1600000 in
theorem V_crow (c : Dev nD) : V m c main_v46 = crow (m ((c : Thread nD τ).loc main_arg1)) := by
  show StableHlo.after [hostOps0, hostOps0_1, hostOps0_2, hostOps0_3].flatten (fun b => m (c, b)) (Proc.tc.devRef main_v46) = _
  simp only [List.flatten_cons, List.flatten_nil, List.append_nil, List.cons_append, List.nil_append, hostOps0, hostOps0_1, hostOps0_2, hostOps0_3, TRef.binary, TRef.nullary, TRef.ternary, TRef.unary, TRef.toBuf, TRef.ofBuf, cast_eq]
  after_results_simp
  rfl

theorem crow_at (x : FVec Ideal S4096x128 .f32) (b : Fin 2) (n : Fin 8) (r : Fin 2) (j : Fin 2048) :
    (crow x (ix4 b n (⟨r, lt8 r⟩ : Fin 8) j) : EReal) = x (ix2 (⟨b * 2048 + j, by omega⟩ : Fin 4096) (⟨n * 2 + r, by omega⟩ : Fin 128)) := by
  pointwise [crow]

theorem rows_at (x : FVec Ideal S2x2048x16x64 .f32) (b : Fin 2) (i : Fin 2048) (h : Fin 16) (d : Fin 64) :
    (shapeCast S4096x1024 x shapeCasts_S2x2048x16x64_S4096x1024 (ix2 (⟨b * 2048 + i, by omega⟩ : Fin 4096) (⟨h * 64 + d, by omega⟩ : Fin 1024)) : EReal)
      = x (ix4 b i h d) := by
  pointwise []

end Cert.Fox
end
-- ==== Proof.Point.lean ====
/-
  One grid point of the kernel: what its input blocks hold, and which two heads they are.
-/
module
public import proofs.«01_k».proof.Proof.Gen.KernelIdeal.Value
public import proofs.«01_k».proof.Proof.OutsB
public import proofs.«01_k».proof.Proof.Host
public import Idealize.ShloMosaic.Lib.Claim

@[expose] public section
set_option maxRecDepth 16384
noncomputable section
namespace Cert.Fox
open Cert.KernelIdeal Cert.KernelIdeal.Gen Idealize.ShloMosaic Idealize.ShloMosaic.TcCoe Idealize.SL.Sem
open Cert.ReferenceIdeal.Read

/-- Where each window's block lies: point `t` is pair `t % 8` of the heads of sequence `t / 8`. -/
theorem idx : ∀ t : Fin cfg0.N, t.val < 16 ∧ (grid0.coords t 1).val = t.val % 8
    ∧ win0_0.index t = ![t.val / 8, t.val % 8] ∧ win0_1.index t = ![t.val / 8, 8 + t.val % 8]
    ∧ win0_2.index t = ![t.val / 8, 16 + t.val % 8] ∧ win0_3.index t = ![t.val / 8, 24 + t.val % 8]
    ∧ win0_4.index t = ![t.val / 8, 0] ∧ win0_5.index t = ![t.val / 8, t.val % 8, 0, 0]
    ∧ win0_6.index t = ![t.val / 8, t.val % 8] ∧ win0_7.index t = ![t.val / 8, t.val % 8]
    ∧ win0_8.index t = ![t.val / 8, t.val % 8] ∧ win0_9.index t = ![t.val / 8, t.val % 8]
    ∧ win0_10.index t = ![t.val / 8, t.val % 8] ∧ win0_11.index t = ![t.val / 8, t.val % 8]
    ∧ win0_12.index t = ![t.val / 8, t.val % 8, 0, 0] :=
  (by decide +kernel : ∀ t : Fin grid0.N, _)

theorem lt16 (t : Fin cfg0.N) : t.val < 16 := (idx t).1

/-- Two heads with the same fields on the lanes they have are the same. -/
theorem headOf_congr {q q' k k' v v' g g' y y' o o' : ℕ → ℕ → ℝ} {c c' : ℕ → ℝ} (hq : q = q') (hk : k = k') (hv : v = v')
    (hg : g = g') (hy : y = y') (ho : ∀ i d, d < 64 → o i d = o' i d) (hc : c = c') :
    headOf q k v g y o c = headOf q' k' v' g' y' o' c' := by
  subst hq hk hv hg hy hc
  rw [headOf, headOf, Head.mk.injEq]
  exact ⟨rfl, rfl, rfl, rfl, rfl, funext fun i => Finset.sum_congr rfl fun d hd => by rw [ho i d (Finset.mem_range.1 hd)]⟩

/-- The attention's output of sequence `b`, all heads side by side. -/
def outs (P C Y : ℕ → ℕ → ℝ) (b i n : ℕ) : ℝ := (headAt P C Y b (n / 64)).out i (n % 64)

theorem head0 (P C Y : ℕ → ℕ → ℝ) (b n e : ℕ) (he : e < 2) :
    headOf (from_ (64 * e) fun a l => P (b * 2048 + a) (n * 128 + l)) (from_ (64 * e) fun a l => P (b * 2048 + a) ((8 + n) * 128 + l))
      (from_ (64 * e) fun a l => P (b * 2048 + a) ((16 + n) * 128 + l)) (from_ (64 * e) fun a l => P (b * 2048 + a) ((24 + n) * 128 + l))
      (from_ (64 * e) fun a l => Y (b * 2048 + a) (n * 128 + l)) (from_ (64 * e) fun a l => outs P C Y b a (n * 128 + l))
      (fun a => C (b * 2048 + a) (2 * n + e)) = headAt P C Y b (2 * n + e) := by
  unfold headAt headOut
  refine headOf_congr ?_ ?_ ?_ ?_ ?_ ?_ rfl
  · exact funext fun a => funext fun l => congrArg (P _) (by omega)
  · exact funext fun a => funext fun l => congrArg (P _) (by omega)
  · exact funext fun a => funext fun l => congrArg (P _) (by omega)
  · exact funext fun a => funext fun l => congrArg (P _) (by omega)
  · exact funext fun a => funext fun l => congrArg (Y _) (by omega)
  · intro i d hd
    show (headAt P C Y b ((n * 128 + (64 * e + d)) / 64)).out i ((n * 128 + (64 * e + d)) % 64) = _
    rw [show (n * 128 + (64 * e + d)) / 64 = 2 * n + e by omega, show (n * 128 + (64 * e + d)) % 64 = d by omega]
    rfl

variable (m : (ℓ : Loc nD τ sig) → Buf (Elt Ideal) ℓ) (c : Dev nD)

/-- The arguments hold finite numbers. -/
structure Holds (P C Y : ℕ → ℕ → ℝ) : Prop where
  hp : ∀ (a : Fin 4096) (n : Fin 8448), ((m ((c : Thread nD τ).loc main_arg0) : FVec Ideal S4096x8448 .f32) (ix2 a n) : EReal) = ((P a n : ℝ) : EReal)
  hc : ∀ (a : Fin 4096) (n : Fin 128), ((m ((c : Thread nD τ).loc main_arg1) : FVec Ideal S4096x128 .f32) (ix2 a n) : EReal) = ((C a n : ℝ) : EReal)
  hy : ∀ (a : Fin 4096) (n : Fin 2048), ((m ((c : Thread nD τ).loc main_arg2) : FVec Ideal S4096x2048 .bf16) (ix2 a n) : EReal) = ((Y a n : ℝ) : EReal)

variable {m c} {P C Y : ℕ → ℕ → ℝ} (H : Holds m c P C Y) (t : Fin cfg0.N)

include H

theorem in0 (a : Fin 2048) (l : Fin 128) : ((iblk m c 0 t : FVec Ideal S2048x128 .f32) (ix2 a l) : EReal)
    = ((P (t.val / 8 * 2048 + a) (t.val % 8 * 128 + l) : ℝ) : EReal) := by
  have ht := lt16 t
  refine Eq.trans ?_ (H.hp ⟨t.val / 8 * 2048 + a, by omega⟩ ⟨t.val % 8 * 128 + l, by omega⟩)
  blk_ext [iblk, V, idx t]

theorem in1 (a : Fin 2048) (l : Fin 128) : ((iblk m c 1 t : FVec Ideal S2048x128 .f32) (ix2 a l) : EReal)
    = ((P (t.val / 8 * 2048 + a) ((8 + t.val % 8) * 128 + l) : ℝ) : EReal) := by
  have ht := lt16 t
  refine Eq.trans ?_ (H.hp ⟨t.val / 8 * 2048 + a, by omega⟩ ⟨(8 + t.val % 8) * 128 + l, by omega⟩)
  blk_ext [iblk, V, idx t]

theorem in2 (a : Fin 2048) (l : Fin 128) : ((iblk m c 2 t : FVec Ideal S2048x128 .f32) (ix2 a l) : EReal)
    = ((P (t.val / 8 * 2048 + a) ((16 + t.val % 8) * 128 + l) : ℝ) : EReal) := by
  have ht := lt16 t
  refine Eq.trans ?_ (H.hp ⟨t.val / 8 * 2048 + a, by omega⟩ ⟨(16 + t.val % 8) * 128 + l, by omega⟩)
  blk_ext [iblk, V, idx t]

theorem in3 (a : Fin 2048) (l : Fin 128) : ((iblk m c 3 t : FVec Ideal S2048x128 .f32) (ix2 a l) : EReal)
    = ((P (t.val / 8 * 2048 + a) ((24 + t.val % 8) * 128 + l) : ℝ) : EReal) := by
  have ht := lt16 t
  refine Eq.trans ?_ (H.hp ⟨t.val / 8 * 2048 + a, by omega⟩ ⟨(24 + t.val % 8) * 128 + l, by omega⟩)
  blk_ext [iblk, V, idx t]

theorem in7 (a : Fin 2048) (l : Fin 128) : ((iblk m c 7 t : FVec Ideal S2048x128 .bf16) (ix2 a l) : EReal)
    = ((Y (t.val / 8 * 2048 + a) (t.val % 8 * 128 + l) : ℝ) : EReal) := by
  have ht := lt16 t
  refine Eq.trans ?_ (H.hy ⟨t.val / 8 * 2048 + a, by omega⟩ ⟨t.val % 8 * 128 + l, by omega⟩)
  blk_ext [iblk, V, idx t]

theorem in4 (a : Fin 2048) (l : Fin 128) : ((iblk m c 4 t : FVec Ideal S2048x128 .f32) (ix2 a l) : EReal)
    = ((C (t.val / 8 * 2048 + a) l : ℝ) : EReal) := by
  have ht := lt16 t
  refine Eq.trans ?_ (H.hc ⟨t.val / 8 * 2048 + a, by omega⟩ l)
  blk_ext [iblk, V, idx t]

theorem in5 (r : Fin 2) (j : Fin 2048) : ((iblk m c 5 t : FVec Ideal S1x1x8x2048 .f32) (ix4 (0 : Fin 1) (0 : Fin 1) (⟨r, lt8 r⟩ : Fin 8) j) : EReal)
    = ((C (t.val / 8 * 2048 + j) (2 * (t.val % 8) + r) : ℝ) : EReal) := by
  have ht := lt16 t
  have h1 : ((iblk m c 5 t : FVec Ideal S1x1x8x2048 .f32) (ix4 (0 : Fin 1) (0 : Fin 1) (⟨r, lt8 r⟩ : Fin 8) j) : EReal)
      = (V m c main_v46 : FVec Ideal S2x8x8x2048 .f32) (ix4 (⟨t.val / 8, by omega⟩ : Fin 2) (⟨t.val % 8, by omega⟩ : Fin 8) (⟨r, lt8 r⟩ : Fin 8) j) := by
    blk_ext [iblk, idx t]
  rw [h1, V_crow]
  refine (crow_at _ ⟨t.val / 8, by omega⟩ ⟨t.val % 8, by omega⟩ r j).trans ((H.hc _ _).trans ?_)
  show ((C (t.val / 8 * 2048 + j) (t.val % 8 * 2 + r) : ℝ) : EReal) = _
  rw [mul_comm (t.val % 8) 2]

theorem in6 (a : Fin 2048) (l : Fin 128) : ((iblk m c 6 t : FVec Ideal S2048x128 .f32) (ix2 a l) : EReal)
    = ((outs P C Y (t.val / 8) a (t.val % 8 * 128 + l) : ℝ) : EReal) := by
  have ht := lt16 t
  have h1 : ((iblk m c 6 t : FVec Ideal S2048x128 .f32) (ix2 a l) : EReal)
      = (V m c main_v41 : FVec Ideal S4096x1024 .f32) (ix2 (⟨t.val / 8 * 2048 + a, by omega⟩ : Fin 4096)
        (⟨(t.val % 8 * 128 + l) / 64 * 64 + (t.val % 8 * 128 + l) % 64, by omega⟩ : Fin 1024)) := by
    blk_ext [iblk, idx t]
  rw [h1, V_out]
  exact (rows_at _ ⟨t.val / 8, by omega⟩ a ⟨(t.val % 8 * 128 + l) / 64, by omega⟩ ⟨(t.val % 8 * 128 + l) % 64, by omega⟩).trans
    (out_at (Y := Y) H.hp H.hc _ _ _ _)

end Cert.Fox
end
-- ==== Proof.Final.lean ====
/-
  The kernel's five arrays are the reference's.
-/
module
public import proofs.«01_k».proof.Proof.Gen.KernelIdeal.Value
public import proofs.«01_k».proof.Proof.Point
public import Idealize.ShloMosaic.Lib.Claim

@[expose] public section
set_option maxRecDepth 16384
noncomputable section
namespace Cert.Fox
open Cert.KernelIdeal Cert.KernelIdeal.Gen Idealize.ShloMosaic Idealize.ShloMosaic.TcCoe Idealize.SL.Sem
open Cert.ReferenceIdeal.Read

variable {m : (ℓ : Loc nD τ sig) → Buf (Elt Ideal) ℓ} {c : Dev nD} {P C Y : ℕ → ℕ → ℝ}

/-- Rows of heads laid side by side, two heads to a block. -/
theorem rows_pair (G : FVec Ideal S4096x1024 .bf16) (f : ℕ → ℕ → ℕ → ℝ) (b : Fin 2)
    (hG : ∀ (i : Fin 2048) (h : Fin 16) (d : Fin 64), (G (ix2 (⟨b * 2048 + i, by omega⟩ : Fin 4096) (⟨h * 64 + d, by omega⟩ : Fin 1024)) : EReal) = ((f h i d : ℝ) : EReal))
    (n : Fin 8) (a : Fin 2048) (l : Fin 128) :
    (G (ix2 (⟨b * 2048 + a, by omega⟩ : Fin 4096) (⟨n * 128 + l, by omega⟩ : Fin 1024)) : EReal) = pair (f (2 * n + 0)) (f (2 * n + 1)) a l := by
  unfold pair
  split_ifs with hl
  · refine Eq.trans ?_ (hG a ⟨2 * n + 0, by omega⟩ ⟨l, hl⟩)
    exact congrArg G (congrArg (ix2 _) (Fin.ext (by show (n : ℕ) * 128 + l = (2 * n + 0) * 64 + l; omega)))
  · refine Eq.trans ?_ (hG a ⟨2 * n + 1, by omega⟩ ⟨l - 64, by omega⟩)
    exact congrArg G (congrArg (ix2 _) (Fin.ext (by show (n : ℕ) * 128 + l = (2 * n + 1) * 64 + (l - 64); omega)))

theorem Reads.of_eq {H H' : Head} (e : H = H') {a b q k v od dv} (r : Reads H a b q k v od dv) : Reads H' a b q k v od dv := e ▸ r

section
variable (H : Holds m c P C Y) (t : Fin cfg0.N)
include H

/-- The row copies of the summed gates, with the point's own pair number. -/
theorem in5' (r : Fin 2) (j : Fin 2048) : ((iblk m c 5 t : FVec Ideal S1x1x8x2048 .f32) (ix4 (0 : Fin 1) (0 : Fin 1) (⟨r, lt8 r⟩ : Fin 8) j) : EReal)
    = ((C (t.val / 8 * 2048 + j) (2 * (grid0.coords t 1).val + r) : ℝ) : EReal) :=
  (in5 H t r j).trans (congrArg (fun n => ((C (t.val / 8 * 2048 + j) (2 * n + r) : ℝ) : EReal)) (idx t).2.1.symm)

theorem pt8 (a : Fin 2048) (l : Fin 128) : (((outsAt0 m c t).1 : FVec Ideal S2048x128 .bf16) (ix2 a l) : EReal)
    = pair ((headAt P C Y (t.val / 8) (2 * (t.val % 8) + 0)).dq) ((headAt P C Y (t.val / 8) (2 * (t.val % 8) + 1)).dq) a l := by
  simp only [outsAt0]
  exact dq_block
    (Reads.of_eq ((headOf_congr rfl rfl rfl rfl rfl (fun _ _ _ => rfl) (funext fun a => congrArg (fun n => C (t.val / 8 * 2048 + a) (2 * n + 0)) (idx t).2.1)).trans (head0 P C Y (t.val / 8) (t.val % 8) 0 (by omega)))
      (reads0 (C := fun a n => C (t.val / 8 * 2048 + a) n) (in0 H t) (in1 H t) (in2 H t) (in3 H t) (in4 H t) (in5' H t) (in6 H t) (in7 H t)))
    (Reads.of_eq ((headOf_congr rfl rfl rfl rfl rfl (fun _ _ _ => rfl) (funext fun a => congrArg (fun n => C (t.val / 8 * 2048 + a) (2 * n + 1)) (idx t).2.1)).trans (head0 P C Y (t.val / 8) (t.val % 8) 1 (by omega)))
      (reads1 (C := fun a n => C (t.val / 8 * 2048 + a) n) (in0 H t) (in1 H t) (in2 H t) (in3 H t) (in4 H t) (in5' H t) (in6 H t) (in7 H t)))
    a l

theorem pt9 (a : Fin 2048) (l : Fin 128) : (((outsAt0 m c t).2.1 : FVec Ideal S2048x128 .bf16) (ix2 a l) : EReal)
    = pair ((headAt P C Y (t.val / 8) (2 * (t.val % 8) + 0)).dk 2048) ((headAt P C Y (t.val / 8) (2 * (t.val % 8) + 1)).dk 2048) a l := by
  simp only [outsAt0]
  exact dk_block
    (Reads.of_eq ((headOf_congr rfl rfl rfl rfl rfl (fun _ _ _ => rfl) (funext fun a => congrArg (fun n => C (t.val / 8 * 2048 + a) (2 * n + 0)) (idx t).2.1)).trans (head0 P C Y (t.val / 8) (t.val % 8) 0 (by omega)))
      (reads0 (C := fun a n => C (t.val / 8 * 2048 + a) n) (in0 H t) (in1 H t) (in2 H t) (in3 H t) (in4 H t) (in5' H t) (in6 H t) (in7 H t)))
    (Reads.of_eq ((headOf_congr rfl rfl rfl rfl rfl (fun _ _ _ => rfl) (funext fun a => congrArg (fun n => C (t.val / 8 * 2048 + a) (2 * n + 1)) (idx t).2.1)).trans (head0 P C Y (t.val / 8) (t.val % 8) 1 (by omega)))
      (reads1 (C := fun a n => C (t.val / 8 * 2048 + a) n) (in0 H t) (in1 H t) (in2 H t) (in3 H t) (in4 H t) (in5' H t) (in6 H t) (in7 H t)))
    a l

theorem pt10 (a : Fin 2048) (l : Fin 128) : (((outsAt0 m c t).2.2.1 : FVec Ideal S2048x128 .bf16) (ix2 a l) : EReal)
    = pair ((headAt P C Y (t.val / 8) (2 * (t.val % 8) + 0)).dv 2048) ((headAt P C Y (t.val / 8) (2 * (t.val % 8) + 1)).dv 2048) a l := by
  simp only [outsAt0]
  exact dv_block
    (Reads.of_eq ((headOf_congr rfl rfl rfl rfl rfl (fun _ _ _ => rfl) (funext fun a => congrArg (fun n => C (t.val / 8 * 2048 + a) (2 * n + 0)) (idx t).2.1)).trans (head0 P C Y (t.val / 8) (t.val % 8) 0 (by omega)))
      (reads0 (C := fun a n => C (t.val / 8 * 2048 + a) n) (in0 H t) (in1 H t) (in2 H t) (in3 H t) (in4 H t) (in5' H t) (in6 H t) (in7 H t)))
    (Reads.of_eq ((headOf_congr rfl rfl rfl rfl rfl (fun _ _ _ => rfl) (funext fun a => congrArg (fun n => C (t.val / 8 * 2048 + a) (2 * n + 1)) (idx t).2.1)).trans (head0 P C Y (t.val / 8) (t.val % 8) 1 (by omega)))
      (reads1 (C := fun a n => C (t.val / 8 * 2048 + a) n) (in0 H t) (in1 H t) (in2 H t) (in3 H t) (in4 H t) (in5' H t) (in6 H t) (in7 H t)))
    a l

theorem pt11 (a : Fin 2048) (l : Fin 128) : (((outsAt0 m c t).2.2.2.1 : FVec Ideal S2048x128 .bf16) (ix2 a l) : EReal)
    = ((gateGrad (P (t.val / 8 * 2048 + a) ((24 + t.val % 8) * 128 + l)) (Y (t.val / 8 * 2048 + a) (t.val % 8 * 128 + l)) (outs P C Y (t.val / 8) a (t.val % 8 * 128 + l)) : ℝ) : EReal) := by
  simp only [outsAt0]
  exact dg_block (G := fun a l => P (t.val / 8 * 2048 + a) ((24 + t.val % 8) * 128 + l)) (Y := fun a l => Y (t.val / 8 * 2048 + a) (t.val % 8 * 128 + l))
    (O := fun a l => outs P C Y (t.val / 8) a (t.val % 8 * 128 + l)) (in3 H t) (in6 H t) (in7 H t) a l

theorem pt12 (r : Fin 8) (j : Fin 2048) : (((outsAt0 m c t).2.2.2.2 : FVec Ideal S1x1x8x2048 .f32) (ix4 (0 : Fin 1) (0 : Fin 1) r j) : EReal)
    = ((dcRow ((headAt P C Y (t.val / 8) (2 * (t.val % 8) + 0)).dc 2048) ((headAt P C Y (t.val / 8) (2 * (t.val % 8) + 1)).dc 2048) r j : ℝ) : EReal) := by
  simp only [outsAt0]
  exact dc_block
    (Reads.of_eq ((headOf_congr rfl rfl rfl rfl rfl (fun _ _ _ => rfl) (funext fun a => congrArg (fun n => C (t.val / 8 * 2048 + a) (2 * n + 0)) (idx t).2.1)).trans (head0 P C Y (t.val / 8) (t.val % 8) 0 (by omega)))
      (reads0 (C := fun a n => C (t.val / 8 * 2048 + a) n) (in0 H t) (in1 H t) (in2 H t) (in3 H t) (in4 H t) (in5' H t) (in6 H t) (in7 H t)))
    (Reads.of_eq ((headOf_congr rfl rfl rfl rfl rfl (fun _ _ _ => rfl) (funext fun a => congrArg (fun n => C (t.val / 8 * 2048 + a) (2 * n + 1)) (idx t).2.1)).trans (head0 P C Y (t.val / 8) (t.val % 8) 1 (by omega)))
      (reads1 (C := fun a n => C (t.val / 8 * 2048 + a) n) (in0 H t) (in1 H t) (in2 H t) (in3 H t) (in4 H t) (in5' H t) (in6 H t) (in7 H t)))
    r j
end

theorem at8 (t : Fin cfg0.N) (a : Fin 2048) (l : Fin 128) : (win0_8.blk t).view.emb (ix2 a l)
    = ix2 (⟨t.val / 8 * 2048 + a, by have := lt16 t; omega⟩ : Fin 4096) (⟨t.val % 8 * 128 + l, by omega⟩ : Fin 1024) := by
  have ht := lt16 t
  blk_ext [idx t]

theorem at9 (t : Fin cfg0.N) (a : Fin 2048) (l : Fin 128) : (win0_9.blk t).view.emb (ix2 a l)
    = ix2 (⟨t.val / 8 * 2048 + a, by have := lt16 t; omega⟩ : Fin 4096) (⟨t.val % 8 * 128 + l, by omega⟩ : Fin 1024) := by
  have ht := lt16 t
  blk_ext [idx t]

theorem at10 (t : Fin cfg0.N) (a : Fin 2048) (l : Fin 128) : (win0_10.blk t).view.emb (ix2 a l)
    = ix2 (⟨t.val / 8 * 2048 + a, by have := lt16 t; omega⟩ : Fin 4096) (⟨t.val % 8 * 128 + l, by omega⟩ : Fin 1024) := by
  have ht := lt16 t
  blk_ext [idx t]

theorem at11 (t : Fin cfg0.N) (a : Fin 2048) (l : Fin 128) : (win0_11.blk t).view.emb (ix2 a l)
    = ix2 (⟨t.val / 8 * 2048 + a, by have := lt16 t; omega⟩ : Fin 4096) (⟨t.val % 8 * 128 + l, by omega⟩ : Fin 1024) := by
  have ht := lt16 t
  blk_ext [idx t]

theorem at12 (t : Fin cfg0.N) (r : Fin 8) (j : Fin 2048) : (win0_12.blk t).view.emb (ix4 (0 : Fin 1) (0 : Fin 1) r j)
    = ix4 (⟨t.val / 8, by have := lt16 t; omega⟩ : Fin 2) (⟨t.val % 8, by omega⟩ : Fin 8) r j := by
  have ht := lt16 t
  blk_ext [idx t]

theorem final8 (H : Holds m c P C Y) : (dats m 0 c).arrAt 8 cfg0.N = val_main_v102 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  have ht := lt16 t
  blk_simp
  rw [after0_8]
  obtain ⟨a, l, rfl⟩ : ∃ (a : Fin 2048) (l : Fin 128), y = ix2 a l := ⟨_, _, eq_ix2 y⟩
  rw [at8]
  refine (pt8 H t a l).trans (Eq.symm ?_)
  exact rows_pair _ (fun h => (headAt P C Y (t.val / 8) h).dq) ⟨t.val / 8, by omega⟩
    (fun i h d => (ref_row_dq _ _ _ _ _ _ _).trans (dq_at H.hp H.hc H.hy _ _ _ _)) ⟨t.val % 8, by omega⟩ a l

theorem final9 (H : Holds m c P C Y) : (dats m 0 c).arrAt 9 cfg0.N = val_main_v104 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  have ht := lt16 t
  blk_simp
  rw [after0_9]
  obtain ⟨a, l, rfl⟩ : ∃ (a : Fin 2048) (l : Fin 128), y = ix2 a l := ⟨_, _, eq_ix2 y⟩
  rw [at9]
  refine (pt9 H t a l).trans (Eq.symm ?_)
  exact rows_pair _ (fun h => (headAt P C Y (t.val / 8) h).dk 2048) ⟨t.val / 8, by omega⟩
    (fun i h d => (ref_row_dk _ _ _ _ _ _ _).trans (dk_at H.hp H.hc H.hy _ _ _ _)) ⟨t.val % 8, by omega⟩ a l

theorem final10 (H : Holds m c P C Y) : (dats m 0 c).arrAt 10 cfg0.N = val_main_v106 (F := Ideal) (m ((c : Thread nD τ).loc main_arg0)) (m ((c : Thread nD τ).loc main_arg1)) (m ((c : Thread nD τ).loc main_arg2)) := by
  refine (dats m 0 c).arrAt_eq_of_covers 10 _ (by decide +kernel) fun t _ y => ?_
  have ht := lt16 t
  blk_simp
  rw [after0_10]
  obtain ⟨a, l, rfl⟩ : ∃ (a : Fin 2048) (l : Fin 128), y = ix2 a l := ⟨_, _, eq_ix2 y⟩
  rw [at10]
  refine (pt10 H t a l).trans (Eq.symm ?_)
  exact rows_pair _ (fun h => (headAt P C Y (t.val / 8) h).dv 2048) ⟨t.val / 8, by omega⟩
    (fun i h d => (ref_row_dv _ _ _ _ _ _ _).trans (dv_at H.hp H.hc H.hy _ _ _ _)) ⟨t.val % 8, by omega⟩ a l

theorem final11 (H : Holds m c P C Y) : (dats m 0 c).arrAt 11 cfg0.N = val_main_v108 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  have ht := lt16 t
  blk_simp
  rw [after0_11]
  obtain ⟨a, l, rfl⟩ : ∃ (a : Fin 2048) (l : Fin 128), y = ix2 a l := ⟨_, _, eq_ix2 y⟩
  rw [at11]
  refine (pt11 H t a l).trans (Eq.symm ?_)
  refine (rows_pair _ (fun h i d => gateGrad (P (t.val / 8 * 2048 + i) (3072 + (h * 64 + d))) (Y (t.val / 8 * 2048 + i) (h * 64 + d)) ((headAt P C Y (t.val / 8) h).out i d))
    ⟨t.val / 8, by omega⟩ (fun i h d => (ref_row_dg _ _ _ _ _ _ _).trans (dg_at H.hp H.hc H.hy _ _ _ _)) ⟨t.val % 8, by omega⟩ a l).trans ?_
  unfold pair outs
  split_ifs with hl
  · rw [show (24 + t.val % 8) * 128 + (l : ℕ) = 3072 + ((2 * (t.val % 8) + 0) * 64 + l) by omega,
      show t.val % 8 * 128 + (l : ℕ) = (2 * (t.val % 8) + 0) * 64 + l by omega,
      show ((2 * (t.val % 8) + 0) * 64 + (l : ℕ)) / 64 = 2 * (t.val % 8) + 0 by omega,
      show ((2 * (t.val % 8) + 0) * 64 + (l : ℕ)) % 64 = l by omega]
  · rw [show (24 + t.val % 8) * 128 + (l : ℕ) = 3072 + ((2 * (t.val % 8) + 1) * 64 + (l - 64)) by omega,
      show t.val % 8 * 128 + (l : ℕ) = (2 * (t.val % 8) + 1) * 64 + (l - 64) by omega,
      show ((2 * (t.val % 8) + 1) * 64 + ((l : ℕ) - 64)) / 64 = 2 * (t.val % 8) + 1 by omega,
      show ((2 * (t.val % 8) + 1) * 64 + ((l : ℕ) - 64)) % 64 = l - 64 by omega]

theorem final12 (H : Holds m c P C Y) : (dats m 0 c).arrAt 12 cfg0.N = val_main_v100 (F := Ideal) (m ((c : Thread nD τ).loc main_arg0)) (m ((c : Thread nD τ).loc main_arg1)) (m ((c : Thread nD τ).loc main_arg2)) := by
  refine (dats m 0 c).arrAt_eq_of_covers 12 _ (by decide +kernel) fun t _ y => ?_
  have ht := lt16 t
  blk_simp
  rw [after0_12]
  obtain ⟨u, v, r, j, rfl⟩ : ∃ (u v : Fin 1) (r : Fin 8) (j : Fin 2048), y = ix4 u v r j := ⟨_, _, _, _, eq_ix4 y⟩
  obtain rfl : u = 0 := Subsingleton.elim _ _
  obtain rfl : v = 0 := Subsingleton.elim _ _
  rw [at12]
  refine (pt12 H t r j).trans (Eq.symm ?_)
  refine (ref_dc_rows _ _ _ _ _ _ _).trans ?_
  have hdc : ∀ e : ℕ, e < 2 → ∀ hb : t.val % 8 * 2 + e < 16, (val_main_v90 (F := Ideal) (m ((c : Thread nD τ).loc main_arg0)) (m ((c : Thread nD τ).loc main_arg1)) (m ((c : Thread nD τ).loc main_arg2)) (ix3 (⟨t.val / 8, by omega⟩ : Fin 2) (⟨t.val % 8 * 2 + e, hb⟩ : Fin 16) j) : EReal)
      = (((headAt P C Y (t.val / 8) (2 * (t.val % 8) + e)).dc 2048 j : ℝ) : EReal) := fun e he hb => by
    refine (dc_at H.hp H.hc H.hy _ _ j).trans ?_
    show (((headAt P C Y (t.val / 8) (t.val % 8 * 2 + e)).dc 2048 j : ℝ) : EReal) = _
    rw [mul_comm (t.val % 8) 2]
  by_cases h : (r : ℕ) < 2
  · rw [dif_pos h]
    refine (hdc r h _).trans ?_
    have h' : (r : ℕ) = 0 ∨ (r : ℕ) = 1 := by omega
    rcases h' with h' | h' <;> rw [dcRow, h'] <;> rfl
  · rw [dif_neg h, dcRow, if_neg (by omega), if_neg (by omega)]
    rfl
end Cert.Fox
end
-- ==== Proof.Finite.lean ====
/-
  The precondition: arguments below infinity in absolute value are real numbers.
-/
module
public import proofs.«01_k».proof.Proof.Gen.KernelIdeal.Value
public import proofs.«01_k».proof.Proof.Point
public import proofs.«01_k».proof.Defs
public import proofs.«01_k».proof.Proof.Gen.Pre_finite
public import Idealize.ShloMosaic.Lib.ReduceAll
public import Idealize.ShloMosaic.Lib.Claim

@[expose] public section
set_option maxRecDepth 16384
noncomputable section
namespace Cert.Fox
open Cert.KernelIdeal Cert.KernelIdeal.Gen Idealize.ShloMosaic Idealize.ShloMosaic.TcCoe Idealize.SL.Sem
open Cert.ReferenceIdeal.Read

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

/-- A number whose absolute value is below infinity is real. -/
theorem real_of_lt {x y : EReal} (hy : y = ⊤) (h : Ideal.cmp .olt (max x (-x)) y = 1#1) : x = ((x.toReal : ℝ) : EReal) := by
  subst hy
  have hlt : max x (-x) < ⊤ := by
    by_contra hn
    simp [Ideal.cmp, hn] at h
  refine (EReal.coe_toReal (fun e => ?_) (fun e => ?_)).symm <;> subst e <;> simp at hlt

/-- The numbers of a matrix of real numbers. -/
theorem numbers {A B : ℕ} (X : (⟨2, ![A, B]⟩ : Shape).Idx → EReal) (h : ∀ i, X i = (((X i).toReal : ℝ) : EReal)) :
    ∃ P : ℕ → ℕ → ℝ, ∀ (a : Fin A) (n : Fin B), X (ix2 a n) = ((P a n : ℝ) : EReal) := by
  refine ⟨fun a n => if h : a < A ∧ n < B then (X (ix2 ⟨a, h.1⟩ ⟨n, h.2⟩)).toReal else 0, fun a n => ?_⟩
  dsimp only
  rw [dif_pos ⟨a.isLt, n.isLt⟩]
  exact h _

instance : Subsingleton Cert.Pre_finite.S_.Idx := ⟨fun a b => funext fun x => x.elim0⟩

/-- An array whose absolute values are all below infinity holds real numbers. -/
theorem all_real {s u : Shape} {φ : FTy} {axes : List (Fin s.rank)} (x : FVec Ideal s φ) (y : FVec Ideal s φ) (init : u.Idx → BitVec 1)
    (h : s.ReducesTo axes Cert.Pre_finite.S_) (hu : 0 < u.numel)
    (e : Host.reduce IntOp.andi (cmpf .olt (Host.absf x) y) init h hu = fun _ => 1#1) (hy : ∀ i, (y i : EReal) = ⊤) (i : s.Idx) :
    (x i : EReal) = ((((x i : EReal)).toReal : ℝ) : EReal) :=
  real_of_lt (hy i) (Host.reduce_andi_all (cmpf .olt (Host.absf x) y) init h hu ix0 (congrFun e ix0) i)

theorem fn_first (x : FVec Ideal Cert.Pre_finite.S4096x8448 .f32) (y : FVec Ideal Cert.Pre_finite.S4096x128 .f32)
    (z : FVec Ideal Cert.Pre_finite.S4096x2048 .bf16) (h : (Cert.Pre_finite.fn (F := Ideal) x y z).1 = fun _ => 1#1) (i) :
    (x i : EReal) = ((((x i : EReal)).toReal : ℝ) : EReal) := by
  dsimp only [Cert.Pre_finite.fn] at h
  exact all_real x _ _ _ _ h (fun _ => inf_f32) i

theorem fn_second (x : FVec Ideal Cert.Pre_finite.S4096x8448 .f32) (y : FVec Ideal Cert.Pre_finite.S4096x128 .f32)
    (z : FVec Ideal Cert.Pre_finite.S4096x2048 .bf16) (h : (Cert.Pre_finite.fn (F := Ideal) x y z).2.1 = fun _ => 1#1) (i) :
    (y i : EReal) = ((((y i : EReal)).toReal : ℝ) : EReal) := by
  dsimp only [Cert.Pre_finite.fn] at h
  exact all_real y _ _ _ _ h (fun _ => inf_f32) i

theorem fn_third (x : FVec Ideal Cert.Pre_finite.S4096x8448 .f32) (y : FVec Ideal Cert.Pre_finite.S4096x128 .f32)
    (z : FVec Ideal Cert.Pre_finite.S4096x2048 .bf16) (h : (Cert.Pre_finite.fn (F := Ideal) x y z).2.2 = fun _ => 1#1) (i) :
    (z i : EReal) = ((((z i : EReal)).toReal : ℝ) : EReal) := by
  dsimp only [Cert.Pre_finite.fn] at h
  exact all_real z _ _ _ _ h (fun _ => inf_bf16) i

theorem finite_holds {m : (ℓ : Loc nD τ sig) → Buf (Elt Ideal) ℓ} (h : Cert.Pre_KernelIdeal_finite m) (c : Dev nD) :
    ∃ P C Y : ℕ → ℕ → ℝ, Holds m c P C Y := by
  obtain ⟨h0, h1, h2⟩ := h c
  obtain ⟨P, hP⟩ := numbers (A := 4096) (B := 8448) _ (fn_first _ _ _ h0)
  obtain ⟨C, hC⟩ := numbers (A := 4096) (B := 128) _ (fn_second _ _ _ h1)
  obtain ⟨Y, hY⟩ := numbers (A := 4096) (B := 2048) _ (fn_third _ _ _ h2)
  exact ⟨P, C, Y, hP, hC, hY⟩

end Cert.Fox
end
-- ==== Proof.Ple.lean ====
/-
  The gradient of the gated embedding: the kernel's two results, point by point, are the reference's.
-/
module
public import proofs.«01_k».proof.Proof.Gen.Ple.Frame
public import proofs.«01_k».proof.Proof.Gen.PleIdeal.Frame
public import proofs.«01_k».proof.Proof.Gen.PleIdeal.Value
public import proofs.«01_k».proof.Proof.Gen.PleRefIdeal.Read
public import Idealize.ShloMosaic.Lib.Pipeline.ValueKit

@[expose] public section
set_option maxRecDepth 16384
noncomputable section
namespace Cert.PleIdeal.Value
open Cert.PleIdeal Cert.PleIdeal.Gen Idealize.ShloMosaic Idealize.ShloMosaic.TcCoe Idealize.SL.Sem

/-- The kernel takes its argument from zero where the reference changes its sign. -/
theorem gate (z : EReal) : Ideal.ofBits .f32 0x00000000#32 - z = -z := by
  rw [show Ideal.ofBits .f32 0x00000000#32 = 0 by simp [Ideal.ofBits, Ideal.ieee], zero_sub]

/-- The gradient with respect to the embedding is the cotangent times the gate, in both. -/
theorem result_a (x0 x2 : FVec Ideal S4096x2048 .f32) : Cert.PleRefIdeal.Read.val_main_v13 (F := Ideal) x0 x2 = G3 (F := Ideal) x2 x0 := by
  funext i
  show (x0 i : EReal) * Ideal.div _ (_ + Ideal.exp (-x2 i)) = x0 i * Ideal.div _ (_ + Ideal.exp (Ideal.ofBits .f32 0x00000000#32 - x2 i))
  rw [gate]; rfl

/-- The gradient with respect to the gate's argument has the same factors in another order. -/
theorem result_z (x0 x1 x2 : FVec Ideal S4096x2048 .f32) :
    Cert.PleRefIdeal.Read.val_main_v14 (F := Ideal) x0 x1 x2 = G4 (F := Ideal) x2 x0 x1 := by
  funext i
  show (x1 i : EReal) * x0 i * (Ideal.div _ (_ + Ideal.exp (-x2 i)) * (_ - Ideal.div _ (_ + Ideal.exp (-x2 i))))
    = x0 i * x1 i * Ideal.div _ (_ + Ideal.exp (Ideal.ofBits .f32 0x00000000#32 - x2 i))
      * (_ - Ideal.div _ (_ + Ideal.exp (Ideal.ofBits .f32 0x00000000#32 - x2 i)))
  rw [gate, mul_comm (x1 i : EReal), mul_assoc (_ * _ : EReal)]; rfl

end Cert.PleIdeal.Value
end
-- ==== Proof.Product.lean ====
/-
  A product of two matrices taken block by block: the running sum over the blocks of the contracted index is the sum over
  the index. In the extended reals, so nothing has to be finite.
-/
module
public import Idealize.ShloMosaic.Lib.Pipeline.ValueKit

@[expose] public section
noncomputable section
namespace Cert.Product
open Idealize.ShloMosaic

/-- The entry of a matrix at a pair of numbers, zero outside. -/
def entry {R C : ℕ} {φ : FTy} (x : FVec Ideal ⟨2, ![R, C]⟩ φ) (a n : ℕ) : EReal :=
  if h : a < R ∧ n < C then x (ix2 (⟨a, h.1⟩ : Fin R) (⟨n, h.2⟩ : Fin C)) else 0

theorem entry_eq {R C : ℕ} {φ : FTy} (x : FVec Ideal ⟨2, ![R, C]⟩ φ) (a : Fin R) (n : Fin C) :
    (x (ix2 a n) : EReal) = entry x a n := by
  unfold entry
  rw [dif_pos (And.intro a.isLt n.isLt)]

/-- A sum over the first blocks and one block more. -/
theorem range_block (f : ℕ → EReal) (j T : ℕ) :
    ∑ k ∈ Finset.range (j * T), f k + ∑ l : Fin T, f (j * T + l) = ∑ k ∈ Finset.range ((j + 1) * T), f k := by
  rw [add_mul, one_mul, Finset.sum_range_add, Fin.sum_univ_eq_sum_range fun l => f (j * T + l)]

/-- A sum over whole blocks, block by block. -/
theorem sum_blocks (f : ℕ → EReal) (T : ℕ) : ∀ j, ∑ k ∈ Finset.range j, ∑ l : Fin T, f (k * T + l) = ∑ k ∈ Finset.range (j * T), f k
  | 0 => by simp
  | j + 1 => by rw [Finset.sum_range_succ, sum_blocks f T j, range_block]

/-- A quantity that is set to its own part at every `p`-th point and adds its part to what the point before left at the
    others is, at the last point before it is set again, the sum of all its parts. -/
theorem running {N p T K : ℕ} (hK : p * T = K) (S : (n : ℕ) → n < N → EReal) (F : ℕ → ℕ → EReal)
    (h0 : ∀ t : Fin N, t.val % p = 0 → S t.val t.isLt = ∑ l : Fin T, F (t.val / p) (t.val % p * T + l))
    (h1 : ∀ t : Fin N, ¬t.val % p = 0 → S t.val t.isLt = S (t.val - 1) (Nat.lt_of_le_of_lt (Nat.sub_le _ _) t.isLt)
      + ∑ l : Fin T, F (t.val / p) (t.val % p * T + l))
    (t : Fin N) (ht : t.val % p + 1 = p) : S t.val t.isLt = ∑ k : Fin K, F (t.val / p) k := by
  rw [Pipeline.eq_sum_of_reset_step_divmod S p 0 (fun i k => ∑ l : Fin T, F i (k * T + l)) (fun t h => by rw [h0 t h, zero_add]) h1 t,
    ht, sum_blocks, hK, zero_add, Fin.sum_univ_eq_sum_range (F (t.val / p))]

/-- What a block that adds up products holds after its last one. `f t` and `g t` are the blocks of the two factors at the
    point `t`, the contracted index second; the factors themselves are `F` and `G`. -/
theorem block_sum {N p T K A B : ℕ} (hK : p * T = K) (S : (n : ℕ) → n < N → FVec Ideal ⟨2, ![A, B]⟩ .f32)
    (f : Fin N → Fin A → Fin T → EReal) (g : Fin N → Fin B → Fin T → EReal) (F : ℕ → Fin A → ℕ → EReal) (G : ℕ → Fin B → ℕ → EReal)
    (hf : ∀ t a l, f t a l = F (t.val / p) a (t.val % p * T + l)) (hg : ∀ t b l, g t b l = G (t.val / p) b (t.val % p * T + l))
    (h0 : ∀ t : Fin N, t.val % p = 0 → ∀ a b, (S t.val t.isLt (ix2 a b) : EReal) = ∑ l : Fin T, f t a l * g t b l)
    (h1 : ∀ t : Fin N, ¬t.val % p = 0 → ∀ a b, (S t.val t.isLt (ix2 a b) : EReal)
      = S (t.val - 1) (Nat.lt_of_le_of_lt (Nat.sub_le _ _) t.isLt) (ix2 a b) + ∑ l : Fin T, f t a l * g t b l)
    (t : Fin N) (ht : t.val % p + 1 = p) (a : Fin A) (b : Fin B) :
    (S t.val t.isLt (ix2 a b) : EReal) = ∑ k : Fin K, F (t.val / p) a k * G (t.val / p) b k :=
  running hK (fun n h => (S n h (ix2 a b) : EReal)) (fun i k => F i a k * G i b k)
    (fun t h => (h0 t h a b).trans (Finset.sum_congr rfl fun l _ => by rw [hf, hg]))
    (fun t h => (h1 t h a b).trans (congrArg (_ + ·) (Finset.sum_congr rfl fun l _ => by rw [hf, hg]))) t ht

end Cert.Product
end
-- ==== Proof.Norm.lean ====
/-
  The gradient of a norm, in the extended reals: a row divided by the root of its mean square. The kernel's closed form and the chain
  rule's agree whatever the row holds, since a row with an infinite entry has the scale zero.
-/
module
public import Idealize.ShloMosaic.Lib.Pipeline.ValueKit

@[expose] public section
noncomputable section
namespace Cert.Norm
open Idealize.ShloMosaic

theorem zero_f32 : Ideal.ofBits .f32 0x00000000#32 = 0 := by
  simp [Ideal.ofBits, Ideal.ieee]

theorem width_f32 : Ideal.ofBits .f32 0x45000000#32 = ((2048 : ℝ) : EReal) := by
  simp [Ideal.ofBits, Ideal.ieee, -EReal.coe_mul]; norm_num

theorem half_f32 : Ideal.ofBits .f32 0xBF000000#32 = ((-(1 / 2) : ℝ) : EReal) := by
  simp [Ideal.ofBits, Ideal.ieee, -EReal.coe_mul]; norm_num

theorem eps_f32 : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

theorem div_real {x : EReal} {y : ℝ} (hy : y ≠ 0) : Ideal.div x (y : EReal) = x * ((y⁻¹ : ℝ) : EReal) := by
  unfold Ideal.div
  rw [if_neg (by exact_mod_cast hy), EReal.coe_inv]

theorem square_nonneg (x : EReal) : 0 ≤ x * x := by
  induction x with
  | bot => simp
  | top => simp
  | coe r => exact_mod_cast mul_self_nonneg r

/-- A sum times a real number that is not negative, term by term. -/
theorem sum_mul_real {n : ℕ} (f : Fin n → EReal) {r : ℝ} (hr : 0 ≤ r) : ∑ j, f j * (r : EReal) = (∑ j, f j) * (r : EReal) := by
  classical
  induction (Finset.univ : Finset (Fin n)) using Finset.induction with
  | empty => simp
  | insert a S ha ih =>
    rw [Finset.sum_insert ha, Finset.sum_insert ha, ih,
      EReal.right_distrib_of_nonneg_of_ne_top (by exact_mod_cast hr) (EReal.coe_ne_top r)]

theorem twice (x : EReal) (a : ℝ) : x * (a : EReal) + x * (a : EReal) = x * ((a + a : ℝ) : EReal) := by
  have h : ((a + a : ℝ) : EReal) = (a : EReal) * (1 + 1) := by
    rw [show (1 + 1 : EReal) = ((1 + 1 : ℝ) : EReal) from rfl, ← EReal.coe_mul]; congr 1; ring
  rw [h, ← mul_assoc, EReal.left_distrib_of_nonneg zero_le_one zero_le_one, mul_one]

/-- The scale of a row: one over the root of the mean square and a small number. -/
def scale {n : ℕ} (x : Fin n → EReal) : EReal :=
  Ideal.rsqrt (Ideal.div (∑ j, x j * x j) (Ideal.ofBits .f32 0x45000000#32) + Ideal.ofBits .f32 0x358637BD#32)

/-- What the chain rule carries through the mean square to each entry of the row, `D` the cotangent of the scaled row. -/
def through {n : ℕ} (x D : Fin n → EReal) : EReal :=
  Ideal.div ((∑ j, x j * D j) * (Ideal.ofBits .f32 0xBF000000#32 * Ideal.div (scale x)
    (Ideal.div (∑ j, x j * x j) (Ideal.ofBits .f32 0x45000000#32) + Ideal.ofBits .f32 0x358637BD#32))) (Ideal.ofBits .f32 0x45000000#32)

/-- The chain rule's gradient: through the scaled entry, and through the mean square twice, its two factors being the same. -/
def chain {n : ℕ} (x D : Fin n → EReal) (i : Fin n) : EReal := D i * scale x + (x i * through x D + through x D * x i)

theorem grad {n : ℕ} (x D : Fin n → EReal) (i : Fin n) :
    scale x * (D i - x i * scale x * Ideal.div (∑ j, D j * (x j * scale x)) (Ideal.ofBits .f32 0x45000000#32))
      = chain x D i := by
  obtain ⟨e, he, hE⟩ := eps_f32
  unfold chain through
  have hs : scale x = Ideal.rsqrt (Ideal.div (∑ j, x j * x j) (Ideal.ofBits .f32 0x45000000#32) + Ideal.ofBits .f32 0x358637BD#32) := rfl
  generalize scale x = r at hs ⊢
  rw [hE, width_f32, half_f32, div_real (by norm_num)] at *
  have hS : 0 ≤ ∑ j, x j * x j := Finset.sum_nonneg fun j _ => square_nonneg _
  have hi : x i * x i ≤ ∑ j, x j * x j := Finset.single_le_sum (f := fun j => x j * x j) (fun j _ => square_nonneg _) (Finset.mem_univ i)
  generalize ∑ j, x j * x j = S at *
  simp only [div_real (show (2048 : ℝ) ≠ 0 by norm_num)]
  induction S with
  | bot => simp at hS
  | top =>
    rw [EReal.top_mul_of_pos (by norm_num), EReal.top_add_coe] at *
    obtain rfl : r = 0 := hs
    simp [Ideal.div]
  | coe s =>
    have hs0 : 0 ≤ s := by exact_mod_cast hS
    have hm : 0 < s * 2048⁻¹ + e := by positivity
    rw [← EReal.coe_mul, ← EReal.coe_add] at *
    obtain rfl : r = (((Real.sqrt (s * 2048⁻¹ + e))⁻¹ : ℝ) : EReal) := by
      rw [hs]; show (if _ < 0 then _ else if _ = 0 then _ else _ : EReal) = _
      rw [if_neg hm.le.not_gt, if_neg hm.ne']
    have hq : (Real.sqrt (s * 2048⁻¹ + e))⁻¹ * (s * 2048⁻¹ + e)⁻¹ = (Real.sqrt (s * 2048⁻¹ + e))⁻¹ ^ 3 := by
      have h2 := Real.sq_sqrt hm.le
      have h3 := (Real.sqrt_pos.2 hm).ne'
      generalize Real.sqrt (s * 2048⁻¹ + e) = q at h2 h3 ⊢
      rw [← h2]
      field_simp
    have hr : 0 ≤ (Real.sqrt (s * 2048⁻¹ + e))⁻¹ := by positivity
    generalize (Real.sqrt (s * 2048⁻¹ + e))⁻¹ = r at *
    obtain ⟨a, ha⟩ : ∃ a : ℝ, x i = (a : EReal) := by
      refine ⟨(x i).toReal, (EReal.coe_toReal (fun h => ?_) fun h => ?_).symm⟩ <;> rw [h] at hi <;> simp at hi
    rw [div_real hm.ne', ha]
    have hT : ∑ j, D j * (x j * (r : EReal)) = (∑ j, x j * D j) * (r : EReal) := by
      rw [← sum_mul_real _ hr]
      exact Finset.sum_congr rfl fun j _ => by rw [← mul_assoc, mul_comm (D j)]
    rw [hT]
    generalize ∑ j, x j * D j = T
    rw [sub_eq_add_neg, EReal.left_distrib_of_nonneg_of_ne_top (by exact_mod_cast hr) (EReal.coe_ne_top r), mul_comm (r : EReal) (D i)]
    congr 1
    have hl : (r : EReal) * -((a : EReal) * (r : EReal) * (T * (r : EReal) * ((2048⁻¹ : ℝ) : EReal)))
        = T * ((-(r * (a * r * (r * 2048⁻¹))) : ℝ) : EReal) := by
      rw [mul_assoc T, ← EReal.coe_mul, ← EReal.coe_mul, mul_left_comm, ← EReal.coe_mul, ← mul_neg,
        ← EReal.coe_neg, mul_left_comm, ← EReal.coe_mul]
      congr 2; ring
    have hr' : ∀ b d : ℝ, (a : EReal) * (T * ((b : EReal) * (d : EReal)) * ((2048⁻¹ : ℝ) : EReal))
        = T * ((a * (b * d * 2048⁻¹) : ℝ) : EReal) := fun b d => by
      rw [← EReal.coe_mul, mul_assoc, ← EReal.coe_mul, mul_left_comm, ← EReal.coe_mul]
    rw [hl, mul_comm (_ * _) (a : EReal), ← EReal.coe_mul r, hr', twice, hq]
    congr 2; ring

end Cert.Norm
end
-- ==== Proof.RmsPost.lean ====
/-
  The gradient of the norm after a layer: each block of rows of the first result in the kernel's closed form, and the second result a
  sum over the rows, sixteen blocks one after the other.
-/
module
public import proofs.«01_k».proof.Proof.Gen.RmsPost.Frame
public import proofs.«01_k».proof.Proof.Gen.RmsPostIdeal.Frame
public import proofs.«01_k».proof.Proof.Gen.RmsPostIdeal.Value
public import proofs.«01_k».proof.Proof.Gen.RmsPostRefIdeal.Read
public import proofs.«01_k».proof.Proof.Product
public import proofs.«01_k».proof.Proof.Norm

@[expose] public section
set_option maxRecDepth 16384
noncomputable section
namespace Cert.RmsPostIdeal.Value
open Cert.RmsPostIdeal Cert.RmsPostIdeal.Gen Idealize.ShloMosaic Idealize.ShloMosaic.TcCoe Idealize.SL.Sem Cert.Norm
open Cert.Product (entry entry_eq)

section cases
variable (c : Dev nD) (i : grid0.Coords) (a1 : Memref sig .tc .vmem S256x2048 .f32) (h1 : a1.IsWhole)
  (a2 : Memref sig .tc .vmem S256x2048 .f32) (h2 : a2.IsWhole) (a3 : Memref sig .tc .vmem S1x2048 .f32) (h3 : a3.IsWhole)
  (a4 : Memref sig .tc .vmem S256x2048 .bf16) (h4 : a4.IsWhole) (a5 : Memref sig .tc .vmem S1x2048 .f32) (h5 : a5.IsWhole)
  (x : FVec Ideal S256x2048 .f32) (y : FVec Ideal S256x2048 .f32) (g : FVec Ideal S1x2048 .f32) (d : FVec Ideal S1x2048 .f32)

theorem closed (a : Fin 256) (b : Fin 2048) : ((k0_pay4 (F := Ideal) x y g) (ix2 a b) : EReal)
      = scale (fun j => x (ix2 a j)) * (y (ix2 a b) * g (ix2 (0 : Fin 1) b) - x (ix2 a b) * scale (fun j => x (ix2 a j))
        * Ideal.div (∑ j, y (ix2 a j) * g (ix2 (0 : Fin 1) j) * (x (ix2 a j) * scale fun j => x (ix2 a j))) (Ideal.ofBits .f32 0x45000000#32)) := by
  unfold scale
  pointwise [k0_pay2, k0_pay3, k0_pay4]

theorem column (b : Fin 2048) : ((k0_pay5 (F := Ideal) x y d) (ix2 (0 : Fin 1) b) : EReal)
      = d (ix2 (0 : Fin 1) b) + ∑ a : Fin 256, y (ix2 a b) * (x (ix2 a b) * scale fun j => x (ix2 a j)) := by
  unfold scale
  pointwise [k0_pay2, k0_pay3, k0_pay5]

theorem first_x (hc : cond0_0 i) : out0_A_3 (F := Ideal) c i a1 h1 a2 h2 a3 h3 a4 h4 a5 h5 hc x y g = k0_pay4 (F := Ideal) x y g := by
  frame_out

theorem next_x (hc : ¬cond0_0 i) : out0_B_3 (F := Ideal) c i a1 h1 a2 h2 a3 h3 a4 h4 a5 h5 hc x y g d = k0_pay4 (F := Ideal) x y g := by
  frame_out

theorem first_g (hc : cond0_0 i) (b : Fin 2048) :
    ((out0_A_4 (F := Ideal) c i a1 h1 a2 h2 a3 h3 a4 h4 a5 h5 hc x y g) (ix2 (0 : Fin 1) b) : EReal)
      = ∑ a : Fin 256, y (ix2 a b) * (x (ix2 a b) * scale fun j => x (ix2 a j)) := by
  rw [← zero_add (∑ a : Fin 256, _), ← zero_f32]
  refine Eq.trans ?_ (column x y (k0_pay1 (F := Ideal)) b)
  frame_out

theorem next_g (hc : ¬cond0_0 i) (b : Fin 2048) :
    ((out0_B_4 (F := Ideal) c i a1 h1 a2 h2 a3 h3 a4 h4 a5 h5 hc x y g d) (ix2 (0 : Fin 1) b) : EReal)
      = d (ix2 (0 : Fin 1) b) + ∑ a : Fin 256, y (ix2 a b) * (x (ix2 a b) * scale fun j => x (ix2 a j)) := by
  rw [← column x y]
  frame_out
end cases

/-- Where each window's block lies. -/
theorem idx : ∀ t : Fin cfg0.N, t.val < 16 ∧ win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

variable (m : (ℓ : Loc nD τ sig) → Buf (Elt Ideal) ℓ) (c : Dev nD)

/-- The rows, their cotangents and the gain. -/
abbrev X : FVec Ideal S4096x2048 .f32 := m ((c : Thread nD τ).loc main_arg0)
abbrev Y : FVec Ideal S4096x2048 .f32 := m ((c : Thread nD τ).loc main_arg1)
abbrev G : FVec Ideal S1x2048 .f32 := m ((c : Thread nD τ).loc main_arg2)

section blocks
variable (t : Fin cfg0.N) (a : Fin 256) (b : Fin 2048)

theorem block_x : ((iblk m c 0 t : FVec Ideal S256x2048 .f32) (ix2 a b) : EReal) = entry (X m c) (t.val * 256 + a) b := by
  have ht := (idx t).1
  refine Eq.trans ?_ (entry_eq (X m c) ⟨t.val * 256 + a, by omega⟩ b)
  blk_ext [iblk, V, idx t]

theorem block_y : ((iblk m c 1 t : FVec Ideal S256x2048 .f32) (ix2 a b) : EReal) = entry (Y m c) (t.val * 256 + a) b := by
  have ht := (idx t).1
  refine Eq.trans ?_ (entry_eq (Y m c) ⟨t.val * 256 + a, by omega⟩ b)
  blk_ext [iblk, V, idx t]

theorem block_g : ((iblk m c 2 t : FVec Ideal S1x2048 .f32) (ix2 (0 : Fin 1) b) : EReal) = G m c (ix2 (0 : Fin 1) b) := by
  blk_ext [iblk, V, idx t]

/-- One entry of the first result, in the chain rule's form. -/
theorem left_x : (((outsAt0 m c t.val t.isLt).1 : FVec Ideal S256x2048 .bf16) (ix2 a b) : EReal)
      = chain (fun j : Fin 2048 => entry (X m c) (t.val * 256 + a) j)
          (fun j : Fin 2048 => entry (Y m c) (t.val * 256 + a) j * G m c (ix2 (0 : Fin 1) j))  b := by
  rw [← grad]
  simp only [← block_x, ← block_y, ← block_g m c t]
  by_cases h : t.val % 16 = 0
  · rw [outsAt0_A m c t h]; dsimp only; rw [first_x, closed]
  · rw [outsAt0_B m c t h]; dsimp only; rw [next_x, closed]

/-- The second result, a sum over all the rows. -/
theorem left_g (ht : t.val % 16 + 1 = 16) : (((outsAt0 m c t.val t.isLt).2 : FVec Ideal S1x2048 .f32) (ix2 (0 : Fin 1) b) : EReal)
      = ∑ k : Fin 4096, entry (Y m c) k b * (entry (X m c) k b * scale fun j : Fin 2048 => entry (X m c) k j) := by
  refine Product.running (p := 16) (T := 256) rfl (fun n h => (((outsAt0 m c n h).2 : FVec Ideal S1x2048 .f32) (ix2 (0 : Fin 1) b) : EReal))
    (fun _ k => entry (Y m c) k b * (entry (X m c) k b * scale fun j : Fin 2048 => entry (X m c) k j)) (fun t h => ?_) (fun t h => ?_) t ht
  · have e := (idx t).1
    rw [outsAt0_A m c t h]; dsimp only; rw [first_g, Nat.mod_eq_of_lt e]; simp only [block_x, block_y]
  · have e := (idx t).1
    rw [outsAt0_B m c t h]; dsimp only; rw [next_g, Nat.mod_eq_of_lt e]; simp only [block_x, block_y]
end blocks

section reference
open Cert.RmsPostRefIdeal.Read
variable (x y : FVec Ideal S4096x2048 .f32) (g : FVec Ideal S1x2048 .f32)

theorem ref_mean (j : Cert.RmsPostRefIdeal.S4096x1.Idx) : (val_main_v6 (F := Ideal) x j : EReal)
      = Ideal.div (∑ k : Fin 2048, x (ix2 (j 0) k) * x (ix2 (j 0) k)) (Ideal.ofBits .f32 0x45000000#32) + Ideal.ofBits .f32 0x358637BD#32 := by
  rw [val_main_v6_apply, val_main_v4_apply, val_main_v2_apply, val_main_v1_apply]
  refine congrArg₂ (· + ·) (congrArg₂ Ideal.div ?_ rfl) rfl
  rw [show val_main_cst (F := Ideal) _ = (0 : EReal) from zero_f32, zero_add]
  exact Finset.sum_congr rfl fun k _ => congrArg (fun i => (x i : EReal) * x i) (eq_ix2 _)

theorem ref_scale (j : Cert.RmsPostRefIdeal.S4096x1.Idx) : (val_main_v7 (F := Ideal) x j : EReal) = scale fun k => x (ix2 (j 0) k) := by
  rw [val_main_v7_apply, ref_mean]; rfl

theorem ref_through (j : Cert.RmsPostRefIdeal.S4096.Idx) : (val_main_v28 (F := Ideal) x y g j : EReal)
      = through (fun k : Fin 2048 => x (ix2 (j 0) k)) (fun k : Fin 2048 => y (ix2 (j 0) k) * g (ix2 (0 : Fin 1) k)) := by
  rw [val_main_v28_apply, Fin.sum_univ_one, show val_main_cst_6 (F := Ideal) _ = (0 : EReal) from zero_f32, zero_add,
    val_main_v27_apply, val_main_v25_apply, val_main_v22_apply, val_main_v21_apply, val_main_v10_apply, val_main_v8_apply, ref_mean, ref_scale]
  refine congrArg₂ Ideal.div (congrArg₂ (· * ·) ?_ rfl) rfl
  rw [show val_main_cst_4 (F := Ideal) _ = (0 : EReal) from zero_f32, zero_add]
  refine Finset.sum_congr rfl fun k _ => ?_
  rw [val_main_v20_apply, val_main_v19_apply, val_main_v18_apply]
  have e : idx_main_v21 (idx_main_v22 (idx_main_v28 j 0)) k = ix2 (j 0) k :=
    funext fun a => Fin.ext (by match a with | ⟨0, _⟩ => show (j 0).val * 1 + 0 = (j 0).val; omega | ⟨1, _⟩ => rfl)
  rw [e]
  exact congrArg₂ (· * ·) rfl (congrArg₂ (· * ·) rfl (congrArg g (eq_ix2 _)))

theorem ref_x (a : Fin 4096) (b : Fin 2048) : (val_main_v34 (F := Ideal) x y g (ix2 a b) : EReal)
      = chain (fun j : Fin 2048 => x (ix2 a j)) (fun j : Fin 2048 => y (ix2 a j) * g (ix2 (0 : Fin 1) j)) b := by
  rw [val_main_v34_apply, val_main_v33_apply, val_main_v32_apply, val_main_v31_apply, val_main_v30_apply, val_main_v24_apply,
    val_main_v23_apply, val_main_v29_apply, ref_through, ref_scale, val_main_v19_apply, val_main_v18_apply]
  unfold chain
  rw [← add_assoc]
  exact congrArg₂ (· + ·) (congrArg₂ (· + ·) (congrArg₂ (· * ·) (congrArg₂ (· * ·) rfl (congrArg g (eq_ix2 _))) rfl) rfl) rfl

theorem ref_g (b : Fin 2048) : (val_main_v17 (F := Ideal) x y (ix2 (0 : Fin 1) b) : EReal)
      = ∑ k : Fin 4096, y (ix2 k b) * (x (ix2 k b) * scale fun j => x (ix2 k j)) := by
  rw [val_main_v17_apply, val_main_v16_apply, show val_main_cst_3 (F := Ideal) _ = (0 : EReal) from zero_f32, zero_add]
  refine Finset.sum_congr rfl fun k _ => ?_
  rw [val_main_v15_apply, val_main_v12_apply, val_main_v11_apply, ref_scale]
  have e : idx_main_v16 (idx_main_v17 (ix2 (0 : Fin 1) b)) k = ix2 k b :=
    funext fun a => Fin.ext (by match a with | ⟨0, _⟩ => rfl | ⟨1, _⟩ => show 0 * 2048 + b.val = b.val; omega)
  rw [e]
  exact mul_comm (_ : EReal) _
end reference

theorem place_x (t : Fin cfg0.N) (a : Fin 256) (b : Fin 2048) : (win0_3.blk t).view.emb (ix2 a b)
    = ix2 (⟨t.val * 256 + a, by have := (idx t).1; omega⟩ : Fin 4096) b := by
  have ht := (idx t).1
  blk_ext [idx t]

theorem place_g (t : Fin cfg0.N) (b : Fin 2048) : (win0_4.blk t).view.emb (ix2 (0 : Fin 1) b) = ix2 (0 : Fin 1) b := by
  blk_ext [idx t]

theorem result_x : (dats m 0 c).arrAt 3 cfg0.N = Cert.RmsPostRefIdeal.Read.val_main_v34 (F := Ideal) (X m c) (Y m c) (G m c) := by
  refine (dats m 0 c).arrAt_eq_of_covers 3 _ (by decide +kernel) fun t hf i => ?_
  blk_simp
  rw [after0_3]
  obtain ⟨a, b, rfl⟩ : ∃ (a : Fin 256) (b : Fin 2048), i = ix2 a b := ⟨_, _, eq_ix2 i⟩
  rw [place_x, ref_x]
  simp only [entry_eq (X m c), entry_eq (Y m c)]
  exact left_x m c t a b

theorem result_g : (dats m 0 c).arrAt 4 cfg0.N = Cert.RmsPostRefIdeal.Read.val_main_v17 (F := Ideal) (X m c) (Y m c) := by
  refine (dats m 0 c).arrAt_eq_of_covers 4 _ (by decide +kernel) fun t hf i => ?_
  blk_simp
  rw [after0_4]
  obtain ⟨b, rfl⟩ : ∃ (b : Fin 2048), i = ix2 (0 : Fin 1) b := ⟨i 1, (eq_ix2 i).trans (congrArg (ix2 · _) (Subsingleton.elim _ _))⟩
  rw [place_g, ref_g]
  simp only [entry_eq]
  exact left_g m c t b (by have := (flush0_4 t).mp hf; omega)

end Cert.RmsPostIdeal.Value
end
-- ==== Proof.RmsPre.lean ====
/-
  The gradient of the norm before a layer: each block of rows of the first result in the kernel's closed form, and the second result a
  sum over the rows, sixteen blocks one after the other.
-/
module
public import proofs.«01_k».proof.Proof.Gen.RmsPre.Frame
public import proofs.«01_k».proof.Proof.Gen.RmsPreIdeal.Frame
public import proofs.«01_k».proof.Proof.Gen.RmsPreIdeal.Value
public import proofs.«01_k».proof.Proof.Gen.RmsPreRefIdeal.Read
public import proofs.«01_k».proof.Proof.Product
public import proofs.«01_k».proof.Proof.Norm

@[expose] public section
set_option maxRecDepth 16384
noncomputable section
namespace Cert.RmsPreIdeal.Value
open Cert.RmsPreIdeal Cert.RmsPreIdeal.Gen Idealize.ShloMosaic Idealize.ShloMosaic.TcCoe Idealize.SL.Sem Cert.Norm
open Cert.Product (entry entry_eq)

section cases
variable (c : Dev nD) (i : grid0.Coords) (a1 : Memref sig .tc .vmem S256x2048 .f32) (h1 : a1.IsWhole)
  (a2 : Memref sig .tc .vmem S256x2048 .bf16) (h2 : a2.IsWhole) (a3 : Memref sig .tc .vmem S1x2048 .f32) (h3 : a3.IsWhole)
  (a4 : Memref sig .tc .vmem S256x2048 .f32) (h4 : a4.IsWhole) (a5 : Memref sig .tc .vmem S256x2048 .f32) (h5 : a5.IsWhole)
  (a6 : Memref sig .tc .vmem S1x2048 .f32) (h6 : a6.IsWhole)
  (x : FVec Ideal S256x2048 .f32) (y : FVec Ideal S256x2048 .bf16) (g : FVec Ideal S1x2048 .f32) (s : FVec Ideal S256x2048 .f32)
  (d : FVec Ideal S1x2048 .f32)

theorem scaled (a : Fin 256) : ((k0_pay4 (F := Ideal) x) (ix2 a (0 : Fin 1)) : EReal) = scale fun j => x (ix2 a j) := by
  unfold scale
  pointwise [k0_pay4]

theorem closed (a : Fin 256) (b : Fin 2048) : ((k0_pay6 (F := Ideal) x y g s) (ix2 a b) : EReal)
      = scale (fun j => x (ix2 a j)) * (y (ix2 a b) * g (ix2 (0 : Fin 1) b) - x (ix2 a b) * scale (fun j => x (ix2 a j))
        * Ideal.div (∑ j, y (ix2 a j) * g (ix2 (0 : Fin 1) j) * (x (ix2 a j) * scale fun j => x (ix2 a j))) (Ideal.ofBits .f32 0x45000000#32))
        + s (ix2 a b) := by
  unfold scale
  pointwise [k0_pay3, k0_pay4, k0_pay5, k0_pay6]

theorem column (b : Fin 2048) : ((k0_pay8 (F := Ideal) x y) (ix2 (0 : Fin 1) b) : EReal)
      = ∑ a : Fin 256, y (ix2 a b) * (x (ix2 a b) * scale fun j => x (ix2 a j)) := by
  unfold scale
  pointwise [k0_pay3, k0_pay4, k0_pay5, k0_pay8]

theorem first_x (hc : cond0_0 i) : out0_A_4 (F := Ideal) c i a1 h1 a2 h2 a3 h3 a4 h4 a5 h5 a6 h6 hc x y g s = k0_pay6 (F := Ideal) x y g s := by
  frame_out

theorem next_x (hc : ¬cond0_0 i) : out0_B_4 (F := Ideal) c i a1 h1 a2 h2 a3 h3 a4 h4 a5 h5 a6 h6 hc x y g s d = k0_pay6 (F := Ideal) x y g s := by
  frame_out

theorem first_g (hc : cond0_0 i) (b : Fin 2048) :
    ((out0_A_5 (F := Ideal) c i a1 h1 a2 h2 a3 h3 a4 h4 a5 h5 a6 h6 hc x y g s) (ix2 (0 : Fin 1) b) : EReal)
      = ∑ a : Fin 256, y (ix2 a b) * (x (ix2 a b) * scale fun j => x (ix2 a j)) := by
  rw [← column x y]
  frame_out
  generalize k0_pay8 (F := Ideal) x y = w
  pointwise [k0_pay1, k0_pay2, k0_pay7]

theorem next_g (hc : ¬cond0_0 i) (b : Fin 2048) :
    ((out0_B_5 (F := Ideal) c i a1 h1 a2 h2 a3 h3 a4 h4 a5 h5 a6 h6 hc x y g s d) (ix2 (0 : Fin 1) b) : EReal)
      = d (ix2 (0 : Fin 1) b) + ∑ a : Fin 256, y (ix2 a b) * (x (ix2 a b) * scale fun j => x (ix2 a j)) := by
  rw [← column x y]
  frame_out
  generalize k0_pay8 (F := Ideal) x y = w
  pointwise [k0_pay1, k0_pay7]
end cases

/-- Where each window's block lies. -/
theorem idx : ∀ t : Fin cfg0.N, t.val < 16 ∧ win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

variable (m : (ℓ : Loc nD τ sig) → Buf (Elt Ideal) ℓ) (c : Dev nD)

/-- The rows, their cotangents, the gain and what is added. -/
abbrev X : FVec Ideal S4096x2048 .f32 := m ((c : Thread nD τ).loc main_arg0)
abbrev Y : FVec Ideal S4096x2048 .bf16 := m ((c : Thread nD τ).loc main_arg1)
abbrev G : FVec Ideal S1x2048 .f32 := m ((c : Thread nD τ).loc main_arg2)
abbrev R : FVec Ideal S4096x2048 .f32 := m ((c : Thread nD τ).loc main_arg3)

section blocks
variable (t : Fin cfg0.N) (a : Fin 256) (b : Fin 2048)

theorem block_x : ((iblk m c 0 t : FVec Ideal S256x2048 .f32) (ix2 a b) : EReal) = entry (X m c) (t.val * 256 + a) b := by
  have ht := (idx t).1
  refine Eq.trans ?_ (entry_eq (X m c) ⟨t.val * 256 + a, by omega⟩ b)
  blk_ext [iblk, V, idx t]

theorem block_y : ((iblk m c 1 t : FVec Ideal S256x2048 .bf16) (ix2 a b) : EReal) = entry (Y m c) (t.val * 256 + a) b := by
  have ht := (idx t).1
  refine Eq.trans ?_ (entry_eq (Y m c) ⟨t.val * 256 + a, by omega⟩ b)
  blk_ext [iblk, V, idx t]

theorem block_g : ((iblk m c 2 t : FVec Ideal S1x2048 .f32) (ix2 (0 : Fin 1) b) : EReal) = G m c (ix2 (0 : Fin 1) b) := by
  blk_ext [iblk, V, idx t]

theorem block_r : ((iblk m c 3 t : FVec Ideal S256x2048 .f32) (ix2 a b) : EReal) = entry (R m c) (t.val * 256 + a) b := by
  have ht := (idx t).1
  refine Eq.trans ?_ (entry_eq (R m c) ⟨t.val * 256 + a, by omega⟩ b)
  blk_ext [iblk, V, idx t]

/-- One entry of the first result, in the chain rule's form. -/
theorem left_x : (((outsAt0 m c t.val t.isLt).1 : FVec Ideal S256x2048 .f32) (ix2 a b) : EReal)
      = chain (fun j : Fin 2048 => entry (X m c) (t.val * 256 + a) j)
          (fun j : Fin 2048 => entry (Y m c) (t.val * 256 + a) j * G m c (ix2 (0 : Fin 1) j)) b + entry (R m c) (t.val * 256 + a) b := by
  rw [← grad]
  simp only [← block_x, ← block_y, ← block_g m c t, ← block_r]
  by_cases h : t.val % 16 = 0
  · rw [outsAt0_A m c t h]; dsimp only; rw [first_x, closed]
  · rw [outsAt0_B m c t h]; dsimp only; rw [next_x, closed]

/-- The second result, a sum over all the rows. -/
theorem left_g (ht : t.val % 16 + 1 = 16) : (((outsAt0 m c t.val t.isLt).2 : FVec Ideal S1x2048 .f32) (ix2 (0 : Fin 1) b) : EReal)
      = ∑ k : Fin 4096, entry (Y m c) k b * (entry (X m c) k b * scale fun j : Fin 2048 => entry (X m c) k j) := by
  refine Product.running (p := 16) (T := 256) rfl (fun n h => (((outsAt0 m c n h).2 : FVec Ideal S1x2048 .f32) (ix2 (0 : Fin 1) b) : EReal))
    (fun _ k => entry (Y m c) k b * (entry (X m c) k b * scale fun j : Fin 2048 => entry (X m c) k j)) (fun t h => ?_) (fun t h => ?_) t ht
  · have e := (idx t).1
    rw [outsAt0_A m c t h]; dsimp only; rw [first_g, Nat.mod_eq_of_lt e]; simp only [block_x, block_y]
  · have e := (idx t).1
    rw [outsAt0_B m c t h]; dsimp only; rw [next_g, Nat.mod_eq_of_lt e]; simp only [block_x, block_y]
end blocks

section reference
open Cert.RmsPreRefIdeal.Read
variable (x r : FVec Ideal S4096x2048 .f32) (y : FVec Ideal S4096x2048 .bf16) (g : FVec Ideal S1x2048 .f32)

theorem ref_mean (j : Cert.RmsPreRefIdeal.S4096x1.Idx) : (val_main_v6 (F := Ideal) x j : EReal)
      = Ideal.div (∑ k : Fin 2048, x (ix2 (j 0) k) * x (ix2 (j 0) k)) (Ideal.ofBits .f32 0x45000000#32) + Ideal.ofBits .f32 0x358637BD#32 := by
  rw [val_main_v6_apply, val_main_v4_apply, val_main_v2_apply, val_main_v1_apply]
  refine congrArg₂ (· + ·) (congrArg₂ Ideal.div ?_ rfl) rfl
  rw [show val_main_cst (F := Ideal) _ = (0 : EReal) from zero_f32, zero_add]
  exact Finset.sum_congr rfl fun k _ => congrArg (fun i => (x i : EReal) * x i) (eq_ix2 _)

theorem ref_scale (j : Cert.RmsPreRefIdeal.S4096x1.Idx) : (val_main_v7 (F := Ideal) x j : EReal) = scale fun k => x (ix2 (j 0) k) := by
  rw [val_main_v7_apply, ref_mean]; rfl

theorem ref_through (j : Cert.RmsPreRefIdeal.S4096.Idx) : (val_main_v30 (F := Ideal) x y g j : EReal)
      = through (fun k : Fin 2048 => x (ix2 (j 0) k)) (fun k : Fin 2048 => y (ix2 (j 0) k) * g (ix2 (0 : Fin 1) k)) := by
  rw [val_main_v30_apply, Fin.sum_univ_one, show val_main_cst_6 (F := Ideal) _ = (0 : EReal) from zero_f32, zero_add,
    val_main_v29_apply, val_main_v27_apply, val_main_v23_apply, val_main_v22_apply, val_main_v10_apply, val_main_v8_apply, ref_mean, ref_scale]
  refine congrArg₂ Ideal.div (congrArg₂ (· * ·) ?_ rfl) rfl
  rw [show val_main_cst_4 (F := Ideal) _ = (0 : EReal) from zero_f32, zero_add]
  refine Finset.sum_congr rfl fun k _ => ?_
  rw [val_main_v21_apply, val_main_v20_apply, val_main_v19_apply, val_main_v15_apply]
  have e : idx_main_v22 (idx_main_v23 (idx_main_v30 j 0)) k = ix2 (j 0) k :=
    funext fun a => Fin.ext (by match a with | ⟨0, _⟩ => show (j 0).val * 1 + 0 = (j 0).val; omega | ⟨1, _⟩ => rfl)
  rw [e]
  exact congrArg₂ (· * ·) rfl (congrArg₂ (· * ·) rfl (congrArg g (eq_ix2 _)))

theorem ref_x (a : Fin 4096) (b : Fin 2048) : (val_main_v35 (F := Ideal) x y g r (ix2 a b) : EReal)
      = chain (fun j : Fin 2048 => x (ix2 a j)) (fun j : Fin 2048 => y (ix2 a j) * g (ix2 (0 : Fin 1) j)) b + r (ix2 a b) := by
  rw [val_main_v35_apply, val_main_v34_apply, val_main_v33_apply, val_main_v32_apply, val_main_v26_apply, val_main_v25_apply,
    val_main_v24_apply, val_main_v31_apply, ref_through, ref_scale, val_main_v20_apply, val_main_v19_apply, val_main_v15_apply]
  unfold chain
  rw [add_comm _ (r (ix2 a b) : EReal), ← add_assoc, ← add_assoc]
  exact congrArg₂ (· + ·) (congrArg₂ (· + ·) (congrArg₂ (· + ·) rfl (congrArg₂ (· * ·) (congrArg₂ (· * ·) rfl (congrArg g (eq_ix2 _))) rfl)) rfl) rfl

theorem ref_g (b : Fin 2048) : (val_main_v18 (F := Ideal) x y (ix2 (0 : Fin 1) b) : EReal)
      = ∑ k : Fin 4096, y (ix2 k b) * (x (ix2 k b) * scale fun j => x (ix2 k j)) := by
  rw [val_main_v18_apply, val_main_v17_apply, show val_main_cst_3 (F := Ideal) _ = (0 : EReal) from zero_f32, zero_add]
  refine Finset.sum_congr rfl fun k _ => ?_
  rw [val_main_v16_apply, val_main_v12_apply, val_main_v11_apply, ref_scale, val_main_v15_apply]
  have e : idx_main_v17 (idx_main_v18 (ix2 (0 : Fin 1) b)) k = ix2 k b :=
    funext fun a => Fin.ext (by match a with | ⟨0, _⟩ => rfl | ⟨1, _⟩ => show 0 * 2048 + b.val = b.val; omega)
  rw [e]
  exact mul_comm (_ : EReal) _
end reference

theorem place_x (t : Fin cfg0.N) (a : Fin 256) (b : Fin 2048) : (win0_4.blk t).view.emb (ix2 a b)
    = ix2 (⟨t.val * 256 + a, by have := (idx t).1; omega⟩ : Fin 4096) b := by
  have ht := (idx t).1
  blk_ext [idx t]

theorem place_g (t : Fin cfg0.N) (b : Fin 2048) : (win0_5.blk t).view.emb (ix2 (0 : Fin 1) b) = ix2 (0 : Fin 1) b := by
  blk_ext [idx t]

theorem result_x : (dats m 0 c).arrAt 4 cfg0.N = Cert.RmsPreRefIdeal.Read.val_main_v35 (F := Ideal) (X m c) (Y m c) (G m c) (R m c) := by
  refine (dats m 0 c).arrAt_eq_of_covers 4 _ (by decide +kernel) fun t hf i => ?_
  blk_simp
  rw [after0_4]
  obtain ⟨a, b, rfl⟩ : ∃ (a : Fin 256) (b : Fin 2048), i = ix2 a b := ⟨_, _, eq_ix2 i⟩
  rw [place_x, ref_x]
  simp only [entry_eq (X m c), entry_eq (Y m c), entry_eq (R m c)]
  exact left_x m c t a b

theorem result_g : (dats m 0 c).arrAt 5 cfg0.N = Cert.RmsPreRefIdeal.Read.val_main_v18 (F := Ideal) (X m c) (Y m c) := by
  refine (dats m 0 c).arrAt_eq_of_covers 5 _ (by decide +kernel) fun t hf i => ?_
  blk_simp
  rw [after0_5]
  obtain ⟨b, rfl⟩ : ∃ (b : Fin 2048), i = ix2 (0 : Fin 1) b := ⟨i 1, (eq_ix2 i).trans (congrArg (ix2 · _) (Subsingleton.elim _ _))⟩
  rw [place_g, ref_g]
  simp only [entry_eq]
  exact left_g m c t b (by have := (flush0_5 t).mp hf; omega)

end Cert.RmsPreIdeal.Value
end
-- ==== Proof.Scan.lean ====
/-
  The logarithm of a gate and its sum over the time, going backwards: sums from a row on, in blocks of rows, and the slope of
  the logarithm of a logistic curve. In the extended reals, so nothing has to be finite.
-/
module
public import proofs.«01_k».proof.Proof.Product
public import proofs.«01_k».proof.Proof.Norm

@[expose] public section
noncomputable section
namespace Cert.Scan
open Idealize.ShloMosaic Cert.Product

/-- The sum of a quantity over the rows from `q` on, of `n`. -/
def tail (E : ℕ → EReal) (q n : ℕ) : EReal := ∑ k ∈ Finset.Ico q n, E k

theorem sum_block (E : ℕ → EReal) (r T : ℕ) : ∑ a : Fin T, E (r + a) = ∑ k ∈ Finset.Ico r (r + T), E k := by
  rw [Fin.sum_univ_eq_sum_range fun a => E (r + a), Finset.sum_Ico_eq_sum_range, Nat.add_sub_cancel_left]

/-- One block of rows more. -/
theorem tail_block (E : ℕ → EReal) {r T n : ℕ} (h : r + T ≤ n) : tail E (r + T) n + ∑ a : Fin T, E (r + a) = tail E r n := by
  rw [sum_block, add_comm]
  exact Finset.sum_Ico_consecutive _ (Nat.le_add_right _ _) h

/-- The part of a block of rows from the row `a` on, and all that comes after. -/
theorem tail_row (E : ℕ → EReal) {r T n : ℕ} (h : r + T ≤ n) (a : Fin T) :
    ∑ l : Fin T, (if a ≤ l then (1 : EReal) else 0) * E (r + l) + tail E (r + T) n = tail E (r + a) n := by
  have h1 : ∑ l : Fin T, (if a ≤ l then (1 : EReal) else 0) * E (r + l) = ∑ k ∈ Finset.Ico (r + a) (r + T), E k := by
    have h2 := sum_block (fun k => if r + (a : ℕ) ≤ k then E k else 0) r T
    have ha := a.isLt
    have h4 : ∑ k ∈ Finset.Ico r (r + T), (if r + (a : ℕ) ≤ k then E k else 0) = ∑ k ∈ Finset.Ico (r + a) (r + T), E k := by
      rw [← Finset.sum_filter]
      refine Finset.sum_congr ?_ fun _ _ => rfl
      ext k; simp only [Finset.mem_filter, Finset.mem_Ico]; omega
    rw [h4] at h2
    rw [← h2]
    refine Finset.sum_congr rfl fun l _ => ?_
    by_cases hl : a ≤ l
    · have h3 : r + (a : ℕ) ≤ r + l := Nat.add_le_add_left hl r
      rw [if_pos hl, if_pos h3, one_mul]
    · have h3 : ¬r + (a : ℕ) ≤ r + l := fun h => hl (Nat.le_of_add_le_add_left h)
      rw [if_neg hl, if_neg h3, zero_mul]
  rw [h1]
  have ha := a.isLt
  exact Finset.sum_Ico_consecutive _ (by omega) h

/-- A sum over a window of `n` rows that begins at `q`, zero past the end. -/
theorem tail_window (E : ℕ → EReal) (q n : ℕ) : ∑ k : Fin n, (if q + k < n then E (q + k) else 0) = tail E q n := by
  rw [Fin.sum_univ_eq_sum_range fun k => if q + k < n then E (q + k) else 0, tail, Finset.sum_Ico_eq_sum_range, ← Finset.sum_filter]
  refine Finset.sum_congr ?_ fun _ _ => rfl
  ext k
  simp only [Finset.mem_filter, Finset.mem_range]
  omega

/-- The slope of the logarithm of the logistic curve at `z`. -/
def slope (z : EReal) : EReal := Ideal.div 1 (1 + Ideal.exp z)

/-- The softplus of `u`: the logarithm of one and the exponential, kept from overflowing. -/
def softplus (u : EReal) : EReal := max u 0 + Ideal.log1p (Ideal.exp (-(max u (-u))))

theorem foldl_add {α : Type} (g : α → EReal) : ∀ (l : List α) (v : EReal), l.foldl (fun r n => r + g n) v = v + (l.map g).sum
  | [], v => (add_zero v).symm
  | a :: l, v => by rw [List.foldl_cons, foldl_add g l, List.map_cons, List.sum_cons, add_assoc]

/-- The entry of a batch of sequences at a time, zero past the end. -/
def at_time {B n C : ℕ} (x : FVec Ideal ⟨3, ![B, n, C]⟩ .f32) (p : Fin B) (b : Fin C) (k : ℕ) : EReal :=
  if h : k < n then x (ix3 p ⟨k, h⟩ b) else 0

/-- A window over the times from each one on adds up the tail. -/
theorem window {B n C hi : ℕ} (x : FVec Ideal ⟨3, ![B, n, C]⟩ .f32)
    (h : (⟨3, ![B, n, C]⟩ : Shape).ReduceWindows ![1, n, 1] ![1, 1, 1] ![0, 0, 0] ![0, hi, 0] ⟨3, ![B, n, C]⟩) (p : Fin B) (q : Fin n) (b : Fin C) :
    (Ideal.hostReduceWindowAdd (s := ⟨3, ![B, n, C]⟩) ![1, n, 1] ![1, 1, 1] ![0, 0, 0] ![0, hi, 0] (t := ⟨3, ![B, n, C]⟩) h x 0 (ix3 p q b) : EReal)
      = tail (at_time x p b) q n := by
  unfold Ideal.hostReduceWindowAdd Host.reduceWindow
  refine (foldl_add _ _ _).trans ?_
  rw [← Fin.sum_univ_def, zero_add]
  rw [← tail_window]
  refine ((Equiv.sum_comp (⟨3, ![1, n, 1]⟩ : Shape).rowMajor _).symm).trans ?_
  refine Fintype.sum_equiv (⟨fun w => w 1, fun k => ix3 (0 : Fin 1) k (0 : Fin 1), fun w => ?_, fun k => rfl⟩ : (⟨3, ![1, n, 1]⟩ : Shape).Idx ≃ Fin n) _ _ fun w => ?_
  · funext a
    match a with
    | ⟨0, _⟩ => exact Subsingleton.elim (α := Fin 1) _ _
    | ⟨1, _⟩ => rfl
    | ⟨2, _⟩ => exact Subsingleton.elim (α := Fin 1) _ _
  · obtain ⟨v, hv⟩ : ∃ v, v = (⟨3, ![1, n, 1]⟩ : Shape).rowMajor.symm ((⟨3, ![1, n, 1]⟩ : Shape).rowMajor w) := ⟨_, rfl⟩
    have h0 : (v 0).val < 1 := (v 0).isLt
    have h2 : (v 2).val < 1 := (v 2).isLt
    have hw : (w 1).val = (v 1).val := by rw [hv, Equiv.symm_apply_apply]
    have hp := p.isLt
    have hb := b.isLt
    show _ = if (q : ℕ) + (w 1).val < n then at_time x p b (q + (w 1).val) else 0
    rw [hw]
    by_cases hq : (q : ℕ) + (v 1).val < n
    · rw [if_pos hq, at_time, dif_pos hq, dif_pos (fun a => by
        match a with
        | ⟨0, _⟩ => show 0 ≤ (p : ℕ) * 1 + _ ∧ (p : ℕ) * 1 + _ - 0 < B; rw [← hv]; show 0 ≤ (p : ℕ) * 1 + (v 0).val ∧ (p : ℕ) * 1 + (v 0).val - 0 < B; omega
        | ⟨1, _⟩ => show 0 ≤ (q : ℕ) * 1 + _ ∧ (q : ℕ) * 1 + _ - 0 < n; rw [← hv]; show 0 ≤ (q : ℕ) * 1 + (v 1).val ∧ (q : ℕ) * 1 + (v 1).val - 0 < n; omega
        | ⟨2, _⟩ => show 0 ≤ (b : ℕ) * 1 + _ ∧ (b : ℕ) * 1 + _ - 0 < C; rw [← hv]; show 0 ≤ (b : ℕ) * 1 + (v 2).val ∧ (b : ℕ) * 1 + (v 2).val - 0 < C; omega)]
      refine congrArg x (funext fun a => Fin.ext ?_)
      match a with
      | ⟨0, _⟩ => show (p : ℕ) * 1 + _ - 0 = p; rw [← hv]; show (p : ℕ) * 1 + (v 0).val - 0 = p; omega
      | ⟨1, _⟩ => show (q : ℕ) * 1 + _ - 0 = q + (v 1).val; rw [← hv]; show (q : ℕ) * 1 + (v 1).val - 0 = q + (v 1).val; omega
      | ⟨2, _⟩ => show (b : ℕ) * 1 + _ - 0 = b; rw [← hv]; show (b : ℕ) * 1 + (v 2).val - 0 = b; omega
    · rw [if_neg hq, dif_neg]
      intro hin
      have h1 := (hin (1 : Fin 3)).2
      refine hq ?_
      change (q : ℕ) * 1 + _ - 0 < n at h1
      rw [← hv] at h1
      change (q : ℕ) * 1 + (v 1).val - 0 < n at h1
      omega

/-- The same of the host's operation, whose sum starts at a constant. -/
theorem window_host {B n C hi : ℕ} {u : Shape} (x : FVec Ideal ⟨3, ![B, n, C]⟩ .f32) (init : u.Idx → Ideal .f32)
    (h : (⟨3, ![B, n, C]⟩ : Shape).ReduceWindows ![1, n, 1] ![1, 1, 1] ![0, 0, 0] ![0, hi, 0] ⟨3, ![B, n, C]⟩) (hu : 0 < u.numel)
    (h0 : ∀ i, (init i : EReal) = 0) (p : Fin B) (q : Fin n) (b : Fin C) :
    (Host.reduceWindowAdd (F := Ideal) (s := ⟨3, ![B, n, C]⟩) (t := ⟨3, ![B, n, C]⟩) ![1, n, 1] ![1, 1, 1] ![0, 0, 0] ![0, hi, 0] x init h hu (ix3 p q b) : EReal)
      = tail (at_time x p b) q n := by
  refine Eq.trans ?_ (window x h p q b)
  show Ideal.hostReduceWindowAdd _ _ _ _ h x (init (Shape.Idx.first hu)) (ix3 p q b) = _
  rw [show init (Shape.Idx.first hu) = (0 : EReal) from h0 _]

theorem exp_real (r : ℝ) : Ideal.exp (r : EReal) = ((Real.exp r : ℝ) : EReal) := rfl
theorem exp_bot : Ideal.exp ⊥ = 0 := rfl
theorem exp_top : Ideal.exp ⊤ = ⊤ := rfl

theorem log1p_zero : Ideal.log1p 0 = 0 := by
  show Ideal.log (1 + 0) = 0
  rw [add_zero]
  show (if (1 : ℝ) ≤ 0 then ⊥ else ((Real.log 1 : ℝ) : EReal)) = 0
  rw [if_neg (by norm_num), Real.log_one]; rfl

theorem log1p_exp (x : ℝ) : Ideal.log1p ((Real.exp x : ℝ) : EReal) = ((Real.log (1 + Real.exp x) : ℝ) : EReal) := by
  show (if (1 + Real.exp x : ℝ) ≤ 0 then ⊥ else ((Real.log (1 + Real.exp x) : ℝ) : EReal)) = _
  rw [if_neg (not_le.2 (by positivity))]

theorem max_real (a b : ℝ) : max (a : EReal) (b : EReal) = ((max a b : ℝ) : EReal) := (EReal.coe_strictMono.monotone.map_max).symm

/-- The slope of the logarithm of the logistic curve, by way of the softplus. -/
theorem slope_eq (u : EReal) :
    Ideal.exp ((if u = ⊤ then 0 else u) - (if softplus u = ⊤ then 0 else softplus u)) = slope (-u) := by
  unfold slope
  induction u with
  | bot =>
    rw [if_neg (by simp), EReal.bot_sub, exp_bot, EReal.neg_bot, exp_top,
      EReal.add_top_of_ne_bot (x := 1) (EReal.coe_ne_bot 1)]
    simp [Ideal.div]
  | top =>
    have hs : softplus ⊤ = ⊤ := by
      unfold softplus
      rw [EReal.neg_top, max_eq_left bot_le, max_eq_left le_top, EReal.neg_top, exp_bot, log1p_zero, add_zero]
    rw [hs, if_pos rfl, sub_zero, EReal.neg_top, exp_bot, ← EReal.coe_zero, exp_real, Real.exp_zero]
    simp [Ideal.div]
  | coe r =>
    have hs : softplus (r : EReal) = ((max r 0 + Real.log (1 + Real.exp (-max r (-r))) : ℝ) : EReal) := by
      unfold softplus
      rw [← EReal.coe_neg, max_real, ← EReal.coe_neg, exp_real, log1p_exp, ← EReal.coe_zero, max_real, ← EReal.coe_add]
    rw [hs, if_neg (EReal.coe_ne_top _), if_neg (EReal.coe_ne_top _), ← EReal.coe_sub, ← EReal.coe_neg, exp_real, exp_real,
      ← EReal.coe_one, ← EReal.coe_add, Cert.Norm.div_real (by positivity), ← EReal.coe_mul]
    congr 1
    rw [one_mul, Real.exp_sub, Real.exp_add, Real.exp_log (by positivity), eq_comm, inv_eq_one_div, div_eq_div_iff (by positivity) (by positivity), one_mul]
    rcases le_total 0 r with h | h
    · rw [max_eq_left h, max_eq_left (by linarith)]
    · rw [max_eq_right h, max_eq_right (by linarith), neg_neg, Real.exp_zero, Real.exp_neg, mul_add (Real.exp r),
        mul_inv_cancel₀ (Real.exp_ne_zero r)]; ring

end Cert.Scan
end
-- ==== Proof.Gate.lean ====
/-
  The gradient of the log forget gates' sum over the time: what one grid point writes, eight blocks of rows from the last to the first.
-/
module
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Read
public import proofs.«01_k».proof.Proof.Boxes
public import proofs.«01_k».proof.Proof.Scan

@[expose] public section
set_option maxRecDepth 16384
noncomputable section
namespace Cert.GateIdeal.Value
open Cert.GateIdeal Cert.GateIdeal.Gen Cert.Fox Idealize.ShloMosaic Idealize.ShloMosaic.TcCoe Idealize.SL.Sem Cert.Product Cert.Scan

/-- The matrix that adds up the rows of a block from each row on. -/
theorem tri_apply (a b : Fin 256) : ((k0_pay2 (F := Ideal)) (ix2 a b) : EReal) = if a ≤ b then 1 else 0 := by
  pointwise [k0_pay2]
  have h := WordCmp.cmpi_sle_ofNat_eq_one_iff (w := 32) (a := (a : ℕ)) (b := (b : ℕ)) (by norm_num; omega) (by norm_num; omega)
  by_cases hab : a ≤ b
  · rw [if_pos hab, h.2 hab]; show (((1 : ℤ) : ℝ) : EReal) = 1; norm_num
  · rw [if_neg hab, (WordCmp.cmpi_sle_ofNat_eq_zero_iff (w := 32) (by norm_num; omega) (by norm_num; omega)).2 hab]; show (((0 : ℤ) : ℝ) : EReal) = 0; norm_num

theorem next_apply (x : FVec Ideal S1x128 .f32) (v : FVec Ideal S256x128 .f32) (b : Fin 128) :
    ((k0_pay8 (F := Ideal) x v) (ix2 (0 : Fin 1) b) : EReal) = x (ix2 (0 : Fin 1) b) + ∑ a : Fin 256, v (ix2 a b) := by
  pointwise [k0_pay8]

theorem rows_apply (x : FVec Ideal S1x128 .f32) (v u : FVec Ideal S256x128 .f32) (g : FVec Ideal S1x128 .f32) (a : Fin 256) (b : Fin 128) :
    ((k0_pay9 (F := Ideal) (k0_pay2 (F := Ideal)) x v u g) (ix2 a b) : EReal)
      = (∑ l : Fin 256, (if a ≤ l then 1 else 0) * v (ix2 l b) + x (ix2 (0 : Fin 1) b)) * slope (u (ix2 a b) + g (ix2 (0 : Fin 1) b)) := by
  pointwise [k0_pay9]
  simp only [tri_apply, sub_eq_add_neg, zero_add, neg_neg]
  rfl

section Same
variable (w : FVec Ideal S256x256 .f32) (p q x : FVec Ideal S1x128 .f32) (u v h z : FVec Ideal S256x128 .f32) (g : FVec Ideal S1x128 .f32)

theorem pay4 : k0_pay4 (F := Ideal) v = k0_pay8 (k0_pay3 (F := Ideal)) v := rfl
theorem pay5 : k0_pay5 (F := Ideal) v u g = k0_pay9 (k0_pay2 (F := Ideal)) (k0_pay3 (F := Ideal)) v u g := rfl
theorem pay7 : k0_pay7 (F := Ideal) v u g = k0_pay8 (k0_pay3 (F := Ideal)) (k0_pay5 (F := Ideal) v u g) := rfl
theorem pay11 : k0_pay11 (F := Ideal) w p q v u g = k0_pay8 q (k0_pay9 (F := Ideal) w p v u g) := rfl
theorem pay13 : k0_pay13 (F := Ideal) p v u = k0_pay8 (k0_pay8 (F := Ideal) p v) u := rfl
theorem pay15 : k0_pay15 (F := Ideal) (k0_pay12 (F := Ideal) w p v u) (k0_pay14 (F := Ideal) h g) (FloatOps.ofBits .f32 0#32)
    = k0_pay9 w (k0_pay8 (F := Ideal) p v) u h g := rfl
theorem pay17 (t : Ideal .f32) : k0_pay17 (F := Ideal) p v u t = k0_pay8 p (k0_pay15 (F := Ideal) v u t) := rfl
theorem pay18 : k0_pay18 (F := Ideal) p v = k0_pay8 (F := Ideal) p v := rfl
theorem pay19 : k0_pay19 (F := Ideal) w p v u g = k0_pay9 (F := Ideal) w p v u g := rfl
theorem pay21 : k0_pay21 (F := Ideal) p v = k0_pay8 (F := Ideal) p v := rfl
theorem pay22 : k0_pay22 (F := Ideal) w p v u g = k0_pay9 (F := Ideal) w p v u g := rfl
theorem pay24 : k0_pay24 (F := Ideal) w p q z v u g = k0_pay8 (k0_pay8 (F := Ideal) p z) (k0_pay22 (F := Ideal) w q v u g) := rfl
theorem pay26 : k0_pay26 (F := Ideal) p v u = k0_pay8 (k0_pay8 (F := Ideal) p v) u := rfl
theorem pay27 : k0_pay27 (F := Ideal) (k0_pay25 (F := Ideal) w p v u) h g = k0_pay9 w (k0_pay8 (F := Ideal) p v) u h g := rfl
theorem pay29 : k0_pay29 (F := Ideal) p z h g = k0_pay8 p (k0_pay27 (F := Ideal) z h g) := rfl
theorem pay31 : k0_pay31 (F := Ideal) p v = k0_pay8 (F := Ideal) p v := rfl
theorem pay33 : k0_pay33 (F := Ideal) (k0_pay30 (F := Ideal) w p v) (k0_pay32 (F := Ideal) u g) = k0_pay9 (F := Ideal) w p v u g := rfl
theorem pay35 : k0_pay35 (F := Ideal) w p v u g = k0_pay9 (F := Ideal) w p v u g := rfl
theorem pay37 (j : S1x128.Idx) : (k0_pay37 (F := Ideal) w p h q z v u g x j : EReal)
    = x j + k0_pay8 (k0_pay8 (F := Ideal) p (k0_pay33 (F := Ideal) h z)) (k0_pay35 (F := Ideal) w q v u g) j := by
  pointwise [k0_pay37, k0_pay8]
theorem pay6 (j : S256x128.Idx) : (k0_pay6 (F := Ideal) v u g j : EReal) = k0_pay9 (k0_pay2 (F := Ideal)) (k0_pay3 (F := Ideal)) v u g j := rfl
theorem pay10 (j : S256x128.Idx) : (k0_pay10 (F := Ideal) w p v u g j : EReal) = k0_pay9 (F := Ideal) w p v u g j := rfl
theorem pay16 (j : S256x128.Idx) : (k0_pay16 (F := Ideal) (k0_pay12 (F := Ideal) w p v u) (k0_pay14 (F := Ideal) h g) (FloatOps.ofBits .f32 0#32) j : EReal)
    = k0_pay9 w (k0_pay8 (F := Ideal) p v) u h g j := rfl
theorem pay20 (j : S256x128.Idx) : (k0_pay20 (F := Ideal) w p v u g j : EReal) = k0_pay9 (F := Ideal) w p v u g j := rfl
theorem pay23 (j : S256x128.Idx) : (k0_pay23 (F := Ideal) w p v u g j : EReal) = k0_pay9 (F := Ideal) w p v u g j := rfl
theorem pay28 (j : S256x128.Idx) : (k0_pay28 (F := Ideal) (k0_pay25 (F := Ideal) w p v u) h g j : EReal) = k0_pay9 w (k0_pay8 (F := Ideal) p v) u h g j := rfl
theorem pay34 (j : S256x128.Idx) : (k0_pay34 (F := Ideal) (k0_pay30 (F := Ideal) w p v) (k0_pay32 (F := Ideal) u g) j : EReal)
    = k0_pay9 (F := Ideal) w p v u g j := rfl
theorem pay36 (j : S256x128.Idx) : (k0_pay36 (F := Ideal) w p v u g j : EReal) = k0_pay9 (F := Ideal) w p v u g j := rfl
end Same

section Block
variable (f y : FVec Ideal S2048x128 .f32) (g : FVec Ideal S1x128 .f32)

theorem inside (n : ℕ) (a : Fin 2) : (![1792 - 256 * n, 0] : Fin 2 → ℕ) a + (![256, 128] : Fin 2 → ℕ) a ≤ S2048x128.size a :=
  match a with
  | ⟨0, _⟩ => by show 1792 - 256 * n + 256 ≤ 2048; omega
  | ⟨1, _⟩ => by show 0 + 128 ≤ 128; omega

/-- The `n`-th block of rows from the end. -/
def part (x : FVec Ideal S2048x128 .f32) (n : ℕ) : FVec Ideal S256x128 .f32 :=
  View.ld (Val := Elt Ideal) (e' := .f32) x (Rect.unit (s := S2048x128) ![1792 - 256 * n, 0] ![256, 128] (inside n))

theorem part_apply (x : FVec Ideal S2048x128 .f32) (n : ℕ) (a : Fin 256) (b : Fin 128) :
    (part x n (ix2 a b) : EReal) = entry x (1792 - 256 * n + a) b := by
  have ha := a.isLt
  refine Eq.trans (View.ld_unit_apply_of (Val := Elt Ideal) (e := .f32) x _ _ (inside n) (ix2 a b) (ix2 (⟨1792 - 256 * n + a, by omega⟩ : Fin 2048) b)
    fun k => ?_) (entry_eq x _ b)
  match k with
  | ⟨0, _⟩ => rfl
  | ⟨1, _⟩ => exact (Nat.zero_add _).symm

/-- The sum of the rows of the last `n` blocks. -/
def carry : ℕ → FVec Ideal S1x128 .f32
  | 0 => k0_pay3 (F := Ideal)
  | n + 1 => k0_pay8 (F := Ideal) (carry n) (part y n)

/-- The gradient on the `n`-th block from the end. -/
def rows (n : ℕ) : FVec Ideal S256x128 .f32 := k0_pay9 (F := Ideal) (k0_pay2 (F := Ideal)) (carry y n) (part y n) (part f n) g

/-- The sum of the gradient's rows over the last `n` blocks. -/
def total : ℕ → FVec Ideal S1x128 .f32
  | 0 => k0_pay3 (F := Ideal)
  | n + 1 => k0_pay8 (F := Ideal) (total n) (rows f y g n)

/-- The gradient at a row and a column. -/
def grad (k b : ℕ) : EReal := tail (fun k => entry y k b) k 2048 * slope (entry f k b + entry g 0 b)

theorem carry_apply (b : Fin 128) : ∀ n, n ≤ 8 → (carry y n (ix2 (0 : Fin 1) b) : EReal) = tail (fun k => entry y k b) (2048 - 256 * n) 2048
  | 0, _ => by
    rw [carry, tail, Finset.Ico_self, Finset.sum_empty]
    exact Cert.Norm.zero_f32
  | n + 1, h => by
    rw [carry, next_apply, carry_apply b n (by omega), ← tail_block (r := 2048 - 256 * (n + 1)) (T := 256) _ (by omega)]
    simp only [part_apply]
    rw [show 2048 - 256 * (n + 1) + 256 = 2048 - 256 * n by omega, show 2048 - 256 * (n + 1) = 1792 - 256 * n by omega]

theorem rows_eq (n : ℕ) (hn : n < 8) (a : Fin 256) (b : Fin 128) : (rows f y g n (ix2 a b) : EReal) = grad f y g (1792 - 256 * n + a) (0 + b) := by
  rw [rows, rows_apply, carry_apply y b n (by omega), Nat.zero_add]
  simp only [part_apply]
  rw [entry_eq g, show 2048 - 256 * n = 1792 - 256 * n + 256 by omega, tail_row (fun k => entry y k b) (by omega)]
  rfl

theorem total_apply (b : Fin 128) : ∀ n, n ≤ 8 → (total f y g n (ix2 (0 : Fin 1) b) : EReal) = tail (fun k => grad f y g k b) (2048 - 256 * n) 2048
  | 0, _ => by
    rw [total, tail, Finset.Ico_self, Finset.sum_empty]
    exact Cert.Norm.zero_f32
  | n + 1, h => by
    rw [total, next_apply, total_apply b n (by omega), ← tail_block (r := 2048 - 256 * (n + 1)) (T := 256) _ (by omega),
      Finset.sum_congr rfl fun a _ => (rows_eq f y g n (by omega) a b).trans (by rw [Nat.zero_add])]
    rw [show 2048 - 256 * (n + 1) + 256 = 2048 - 256 * n by omega, show 2048 - 256 * (n + 1) = 1792 - 256 * n by omega]

theorem total_eq (b : Fin 128) : (total f y g 8 (ix2 (0 : Fin 1) b) : EReal) = ∑ k : Fin 2048, grad f y g k b := by
  rw [total_apply f y g b 8 le_rfl, tail, Nat.sub_self, Finset.sum_Ico_eq_sum_range, Fin.sum_univ_eq_sum_range fun k => grad f y g k b]
  simp only [Nat.zero_add, Nat.sub_zero]

theorem whole (inb : ∀ a, (![0, 0] : Fin 2 → ℕ) a + (![1, 128] : Fin 2 → ℕ) a ≤ S1x128.size a) :
    View.ld (Val := Elt Ideal) (e' := .f32) g (Rect.unit (s := S1x128) ![0, 0] ![1, 128] inb) = g :=
  View.ld_unit_lit (Val := Elt Ideal) (e := .f32) (S := S1x128) (off := ![0, 0]) inb g (by decide)

variable (c : Dev nD) (i : grid0.Coords) (a1 : Memref sig .tc .vmem S2048x128 .f32) (h1 : a1.IsWhole)
  (a2 : Memref sig .tc .vmem S1x128 .f32) (h2 : a2.IsWhole) (a3 : Memref sig .tc .vmem S2048x128 .f32) (h3 : a3.IsWhole)
  (a4 : Memref sig .tc .vmem S2048x128 .bf16) (h4 : a4.IsWhole) (a5 : Memref sig .tc .vmem S1x128 .f32) (h5 : a5.IsWhole)
  (d : FVec Ideal S1x128 .f32)

theorem first_b (hc : cond0_0 i) (b : Fin 128) :
    (out0_A_4 (F := Ideal) c i a1 h1 a2 h2 a3 h3 a4 h4 a5 h5 hc f g y) (ix2 (0 : Fin 1) b) = ∑ k : Fin 2048, grad f y g k b := by
  frame_out
  rw [pay37, show (k0_pay1 (F := Ideal) (ix2 (0 : Fin 1) b) : EReal) = 0 from Cert.Norm.zero_f32, zero_add]
  simp only [pay4, pay5, pay7, pay11, pay13, pay17, pay15, pay18, pay19, pay21, pay22, pay24, pay26, pay29, pay27, pay31, pay33, pay35]
  exact total_eq f y g b

theorem next_b (hc : ¬cond0_0 i) (b : Fin 128) :
    (out0_B_4 (F := Ideal) c i a1 h1 a2 h2 a3 h3 a4 h4 a5 h5 hc f g y d) (ix2 (0 : Fin 1) b)
      = (d (ix2 (0 : Fin 1) b) : EReal) + ∑ k : Fin 2048, grad f y g k b := by
  frame_out
  rw [pay37]
  simp only [pay4, pay5, pay7, pay11, pay13, pay17, pay15, pay18, pay19, pay21, pay22, pay24, pay26, pay29, pay27, pay31, pay33, pay35]
  exact congrArg (_ + ·) (total_eq f y g b)

set_option maxHeartbeats 2000000 in
theorem first_f (hc : cond0_0 i) (a : Fin 2048) (b : Fin 128) :
    (out0_A_3 (F := Ideal) c i a1 h1 a2 h2 a3 h3 a4 h4 a5 h5 hc f g y) (ix2 a b) = grad f y g a b := by
  unfold out0_A_3
  rw [View.read_writes_junk_eq_canon]
  refine box_step_at (e := .bf16) (T := grad f y g) (fun a b => Eq.trans ?_ (rows_eq f y g 7 (by omega) a b)) fun _ => ?_
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, View.readAt_eq_ld, Memref.IsWhole.read_unread, whole]
    simp only [pay6, pay10, pay16, pay20, pay23, pay28, pay34, pay36, pay4, pay13, pay18, pay21, pay26, pay31]
    rfl
  refine box_step_at (e := .bf16) (T := grad f y g) (fun a b => Eq.trans ?_ (rows_eq f y g 6 (by omega) a b)) fun _ => ?_
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, View.readAt_eq_ld, Memref.IsWhole.read_unread, whole]
    simp only [pay6, pay10, pay16, pay20, pay23, pay28, pay34, pay36, pay4, pay13, pay18, pay21, pay26, pay31]
    rfl
  refine box_step_at (e := .bf16) (T := grad f y g) (fun a b => Eq.trans ?_ (rows_eq f y g 5 (by omega) a b)) fun _ => ?_
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, View.readAt_eq_ld, Memref.IsWhole.read_unread, whole]
    simp only [pay6, pay10, pay16, pay20, pay23, pay28, pay34, pay36, pay4, pay13, pay18, pay21, pay26, pay31]
    rfl
  refine box_step_at (e := .bf16) (T := grad f y g) (fun a b => Eq.trans ?_ (rows_eq f y g 4 (by omega) a b)) fun _ => ?_
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, View.readAt_eq_ld, Memref.IsWhole.read_unread, whole]
    simp only [pay6, pay10, pay16, pay20, pay23, pay28, pay34, pay36, pay4, pay13, pay18, pay21, pay26, pay31]
    rfl
  refine box_step_at (e := .bf16) (T := grad f y g) (fun a b => Eq.trans ?_ (rows_eq f y g 3 (by omega) a b)) fun _ => ?_
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, View.readAt_eq_ld, Memref.IsWhole.read_unread, whole]
    simp only [pay6, pay10, pay16, pay20, pay23, pay28, pay34, pay36, pay4, pay13, pay18, pay21, pay26, pay31]
    rfl
  refine box_step_at (e := .bf16) (T := grad f y g) (fun a b => Eq.trans ?_ (rows_eq f y g 2 (by omega) a b)) fun _ => ?_
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, View.readAt_eq_ld, Memref.IsWhole.read_unread, whole]
    simp only [pay6, pay10, pay16, pay20, pay23, pay28, pay34, pay36, pay4, pay13, pay18, pay21, pay26, pay31]
    rfl
  refine box_step_at (e := .bf16) (T := grad f y g) (fun a b => Eq.trans ?_ (rows_eq f y g 1 (by omega) a b)) fun _ => ?_
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, View.readAt_eq_ld, Memref.IsWhole.read_unread, whole]
    simp only [pay6, pay10, pay16, pay20, pay23, pay28, pay34, pay36, pay4, pay13, pay18, pay21, pay26, pay31]
    rfl
  refine box_step_at (e := .bf16) (T := grad f y g) (fun a b => Eq.trans ?_ (rows_eq f y g 0 (by omega) a b)) fun _ => ?_
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, View.readAt_eq_ld, Memref.IsWhole.read_unread, whole]
    simp only [pay6, pay10, pay16, pay20, pay23, pay28, pay34, pay36, pay4, pay13, pay18, pay21, pay26, pay31]
    rfl
  omega

set_option maxHeartbeats 2000000 in
theorem next_f (hc : ¬cond0_0 i) (a : Fin 2048) (b : Fin 128) :
    (out0_B_3 (F := Ideal) c i a1 h1 a2 h2 a3 h3 a4 h4 a5 h5 hc f g y d) (ix2 a b) = grad f y g a b := by
  unfold out0_B_3
  rw [View.read_writes_junk_eq_canon]
  refine box_step_at (e := .bf16) (T := grad f y g) (fun a b => Eq.trans ?_ (rows_eq f y g 7 (by omega) a b)) fun _ => ?_
  · simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, View.readAt_eq_ld, Memref.IsWhole.read_unread, whole]
    simp only [pay6, pay10, pay16, pay20, pay23, pay28, pay34, pay36, pay4, pay13, pay18, pay21, pay26, pay31]
    rfl
  refine box_step_at (e := .bf16) (T := grad f y g) (fun a b => Eq.trans ?_ (rows_eq f y g 6 (by omega) a b)) fun _ => ?_
  · simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, View.readAt_eq_ld, Memref.IsWhole.read_unread, whole]
    simp only [pay6, pay10, pay16, pay20, pay23, pay28, pay34, pay36, pay4, pay13, pay18, pay21, pay26, pay31]
    rfl
  refine box_step_at (e := .bf16) (T := grad f y g) (fun a b => Eq.trans ?_ (rows_eq f y g 5 (by omega) a b)) fun _ => ?_
  · simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, View.readAt_eq_ld, Memref.IsWhole.read_unread, whole]
    simp only [pay6, pay10, pay16, pay20, pay23, pay28, pay34, pay36, pay4, pay13, pay18, pay21, pay26, pay31]
    rfl
  refine box_step_at (e := .bf16) (T := grad f y g) (fun a b => Eq.trans ?_ (rows_eq f y g 4 (by omega) a b)) fun _ => ?_
  · simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, View.readAt_eq_ld, Memref.IsWhole.read_unread, whole]
    simp only [pay6, pay10, pay16, pay20, pay23, pay28, pay34, pay36, pay4, pay13, pay18, pay21, pay26, pay31]
    rfl
  refine box_step_at (e := .bf16) (T := grad f y g) (fun a b => Eq.trans ?_ (rows_eq f y g 3 (by omega) a b)) fun _ => ?_
  · simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, View.readAt_eq_ld, Memref.IsWhole.read_unread, whole]
    simp only [pay6, pay10, pay16, pay20, pay23, pay28, pay34, pay36, pay4, pay13, pay18, pay21, pay26, pay31]
    rfl
  refine box_step_at (e := .bf16) (T := grad f y g) (fun a b => Eq.trans ?_ (rows_eq f y g 2 (by omega) a b)) fun _ => ?_
  · simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, View.readAt_eq_ld, Memref.IsWhole.read_unread, whole]
    simp only [pay6, pay10, pay16, pay20, pay23, pay28, pay34, pay36, pay4, pay13, pay18, pay21, pay26, pay31]
    rfl
  refine box_step_at (e := .bf16) (T := grad f y g) (fun a b => Eq.trans ?_ (rows_eq f y g 1 (by omega) a b)) fun _ => ?_
  · simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, View.readAt_eq_ld, Memref.IsWhole.read_unread, whole]
    simp only [pay6, pay10, pay16, pay20, pay23, pay28, pay34, pay36, pay4, pay13, pay18, pay21, pay26, pay31]
    rfl
  refine box_step_at (e := .bf16) (T := grad f y g) (fun a b => Eq.trans ?_ (rows_eq f y g 0 (by omega) a b)) fun _ => ?_
  · simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, View.readAt_eq_ld, Memref.IsWhole.read_unread, whole]
    simp only [pay6, pay10, pay16, pay20, pay23, pay28, pay34, pay36, pay4, pay13, pay18, pay21, pay26, pay31]
    rfl
  omega

end Block

/-- Where each window's block lies: the gate's argument in the projection's last columns, one sequence a point. -/
theorem idx : ∀ t : Fin cfg0.N, t.val < 2 ∧ win0_0.index t = ![t.val, 65] ∧ win0_1.index t = ![0, 0] ∧ win0_2.index t = ![t.val, 0]
    ∧ win0_3.index t = ![t.val, 0] ∧ win0_4.index t = ![0, 0] :=
  (by decide +kernel : ∀ t : Fin grid0.N, _)

variable (m : (ℓ : Loc nD τ sig) → Buf (Elt Ideal) ℓ) (c : Dev nD)

/-- The projection, the bias and the cotangents. -/
abbrev X : FVec Ideal S4096x8448 .f32 := m ((c : Thread nD τ).loc main_arg0)
abbrev G : FVec Ideal S1x128 .f32 := m ((c : Thread nD τ).loc main_arg1)
abbrev Y : FVec Ideal S4096x128 .f32 := m ((c : Thread nD τ).loc main_arg2)

/-- The gradient at a row of the batch and a column: the sum runs to the end of the row's own sequence. -/
def whole_grad (x : FVec Ideal S4096x8448 .f32) (g : FVec Ideal S1x128 .f32) (y : FVec Ideal S4096x128 .f32) (s k b : ℕ) : EReal :=
  tail (fun j => entry y (s * 2048 + j) b) k 2048 * slope (entry x (s * 2048 + k) (8320 + b) + entry g 0 b)

section blocks
variable (t : Fin cfg0.N) (a : Fin 2048) (b : Fin 128)

theorem block_x : ((iblk m c 0 t : FVec Ideal S2048x128 .f32) (ix2 a b) : EReal) = entry (X m c) (t.val * 2048 + a) (8320 + b) := by
  have ht := (idx t).1
  refine Eq.trans ?_ (entry_eq (X m c) ⟨t.val * 2048 + a, by omega⟩ ⟨8320 + b, by omega⟩)
  blk_ext [iblk, V, idx t]

theorem block_y : ((iblk m c 2 t : FVec Ideal S2048x128 .f32) (ix2 a b) : EReal) = entry (Y m c) (t.val * 2048 + a) b := by
  have ht := (idx t).1
  refine Eq.trans ?_ (entry_eq (Y m c) ⟨t.val * 2048 + a, by omega⟩ b)
  blk_ext [iblk, V, idx t]

theorem block_g : ((iblk m c 1 t : FVec Ideal S1x128 .f32) (ix2 (0 : Fin 1) b) : EReal) = entry (G m c) 0 b := by
  refine Eq.trans ?_ (entry_eq (G m c) (0 : Fin 1) b)
  blk_ext [iblk, V, idx t]

theorem block_grad : Cert.GateIdeal.Value.grad (iblk m c 0 t : FVec Ideal S2048x128 .f32) (iblk m c 2 t : FVec Ideal S2048x128 .f32)
      (iblk m c 1 t : FVec Ideal S1x128 .f32) a b = whole_grad (X m c) (G m c) (Y m c) t.val a b := by
  unfold Cert.GateIdeal.Value.grad whole_grad
  rw [← entry_eq (iblk m c 0 t : FVec Ideal S2048x128 .f32) a b, ← block_x m c t, ← block_g m c t,
    show entry (iblk m c 1 t : FVec Ideal S1x128 .f32) 0 b = _ from (entry_eq (iblk m c 1 t : FVec Ideal S1x128 .f32) (0 : Fin 1) b).symm]
  refine congrArg (· * _) (Finset.sum_congr rfl fun k hk => ?_)
  have hk := (Finset.mem_Ico.1 hk).2
  exact (entry_eq (iblk m c 2 t : FVec Ideal S2048x128 .f32) ⟨k, hk⟩ b).symm.trans (block_y m c t ⟨k, hk⟩ b)

/-- One entry of the first result. -/
theorem left_f : (((outsAt0 m c t.val t.isLt).1 : FVec Ideal S2048x128 .bf16) (ix2 a b) : EReal)
      = whole_grad (X m c) (G m c) (Y m c) t.val a b := by
  rw [← block_grad]
  by_cases h : t.val % 2 = 0
  · rw [outsAt0_A m c t h]; dsimp only; rw [first_f]
  · rw [outsAt0_B m c t h]; dsimp only; rw [next_f]

/-- The second result, a sum over all the rows. -/
theorem left_b (ht : t.val % 2 + 1 = 2) : (((outsAt0 m c t.val t.isLt).2 : FVec Ideal S1x128 .f32) (ix2 (0 : Fin 1) b) : EReal)
      = ∑ k : Fin 4096, whole_grad (X m c) (G m c) (Y m c) (k / 2048) (k % 2048) b := by
  refine Product.running (p := 2) (T := 2048) rfl (fun n h => (((outsAt0 m c n h).2 : FVec Ideal S1x128 .f32) (ix2 (0 : Fin 1) b) : EReal))
    (fun _ k => whole_grad (X m c) (G m c) (Y m c) (k / 2048) (k % 2048) b) (fun t h => ?_) (fun t h => ?_) t ht
  all_goals
    have e := (idx t).1
    have e' : ∀ l : Fin 2048, whole_grad (X m c) (G m c) (Y m c) ((t.val * 2048 + l) / 2048) ((t.val * 2048 + l) % 2048) b
        = whole_grad (X m c) (G m c) (Y m c) t.val l b := fun l => by
      rw [show (t.val * 2048 + (l : ℕ)) / 2048 = t.val by omega, show (t.val * 2048 + (l : ℕ)) % 2048 = l by omega]
  · rw [outsAt0_A m c t h]; dsimp only; rw [first_b, Nat.mod_eq_of_lt e]; simp only [block_grad, e']
  · rw [outsAt0_B m c t h]; dsimp only; rw [next_b, Nat.mod_eq_of_lt e]; simp only [block_grad, e']
end blocks

section reference
open Cert.GateRefIdeal.Read
variable (x : FVec Ideal S4096x8448 .f32) (g : FVec Ideal S1x128 .f32) (y : FVec Ideal S4096x128 .f32)

theorem ref_arg (a : Fin 4096) (b : Fin 128) : (val_main_v2 (F := Ideal) x g (ix2 a b) : EReal) = entry x a (8320 + b) + entry g 0 b := by
  rw [val_main_v2_apply, val_main_v1_apply, val_main_v0_apply]
  refine congrArg₂ (· + ·) ((congrArg x (eq_ix2 _)).trans (entry_eq x a ⟨8320 + b, by omega⟩)) ((congrArg g (eq_ix2 _)).trans (entry_eq g (0 : Fin 1) b))

theorem infinity : Ideal.ofBits .f32 0x7F800000#32 = ⊤ := by
  simp [Ideal.ofBits, Ideal.ieee]

theorem select_eq (u v p q : EReal) : Scalar.select (Ideal.cmp .oeq u v) p q = if u = v then p else q := by
  by_cases h : u = v <;> simp [Scalar.select, Ideal.cmp, h]

theorem select_ne (u p q : EReal) : Scalar.select (Ideal.cmp .une u u) p q = q := by
  simp [Scalar.select, Ideal.cmp]

theorem ref_softplus (i : S4096x128.Idx) : (val_main_call0_v1_0 (F := Ideal) x g i : EReal) = softplus (val_main_call0_v0 (F := Ideal) x g i) := by
  rw [val_main_call0_v1_0_apply]
  refine (select_ne _ _ _).trans ?_
  show max (val_main_call0_v0 (F := Ideal) x g i : EReal) (Ideal.ofBits .f32 0x00000000#32)
    + Ideal.log1p (Ideal.exp (-(max (val_main_call0_v0 (F := Ideal) x g i - Ideal.ofBits .f32 0x00000000#32)
      (-(val_main_call0_v0 (F := Ideal) x g i - Ideal.ofBits .f32 0x00000000#32))))) = _
  rw [Cert.Norm.zero_f32, sub_zero]
  rfl

/-- The chain rule's factor of the softplus is the slope of the logarithm. -/
theorem ref_slope (i : S4096x128.Idx) : (val_main_v3_1 (F := Ideal) x g i : EReal) = slope (val_main_v2 (F := Ideal) x g i) := by
  rw [val_main_v3_1_apply, val_main_call0_call0_v21_apply, val_main_call0_call0_v16_apply, val_main_call0_call0_v20_apply,
    val_main_call0_call0_v14_apply, val_main_call0_call0_v18_apply, ref_softplus]
  show Ideal.exp (Scalar.select (Ideal.cmp .oeq (val_main_call0_v0 (F := Ideal) x g i) (Ideal.ofBits .f32 0x7F800000#32))
      (Ideal.ofBits .f32 0x00000000#32) (val_main_call0_v0 (F := Ideal) x g i)
    - Scalar.select (Ideal.cmp .oeq (softplus (val_main_call0_v0 (F := Ideal) x g i)) (Ideal.ofBits .f32 0x7F800000#32))
      (Ideal.ofBits .f32 0x00000000#32) (softplus (val_main_call0_v0 (F := Ideal) x g i))) = _
  rw [select_eq, select_eq, infinity, Cert.Norm.zero_f32, slope_eq, show (val_main_call0_v0 (F := Ideal) x g i : EReal) = -val_main_v2 (F := Ideal) x g i from rfl, neg_neg]

theorem ref_window (p : Fin 2) (q : Fin 2048) (b : Fin 128) : (val_main_v7 (F := Ideal) y (ix3 p q b) : EReal)
      = tail (at_time (val_main_v6 (F := Ideal) y) p b) q 2048 := by
  unfold val_main_v7
  generalize val_main_v6 (F := Ideal) y = z
  exact window_host z _ _ _ (fun _ => Cert.Norm.zero_f32) p q b

theorem ref_time (p : Fin 2) (b : Fin 128) (k : ℕ) (hk : k < 2048) : at_time (val_main_v6 (F := Ideal) y) p b k
      = entry y ((p : ℕ) * 2048 + k) b := by
  have hp := p.isLt
  have hb := b.isLt
  rw [at_time, dif_pos hk, val_main_v6_apply]
  refine (congrArg y ?_).trans (entry_eq y (⟨(p : ℕ) * 2048 + k, by omega⟩ : Fin 4096) b)
  refine funext fun l => Fin.ext ?_
  match l with
  | ⟨0, _⟩ => show (((p : ℕ) * 2048 + k) * 128 + b) / 128 = (p : ℕ) * 2048 + k; omega
  | ⟨1, _⟩ => show (((p : ℕ) * 2048 + k) * 128 + b) % 128 = b; omega

theorem tail_place (a : Fin 4096) (b : Fin 128) (p : Fin 2) (q : Fin 2048) (hp : (p : ℕ) = (a : ℕ) / 2048) (hq : (q : ℕ) = (a : ℕ) % 2048) :
    idx_main_v8 (ix2 a b) = ix3 p q b := by
  have ha := a.isLt
  have hb := b.isLt
  refine funext fun k => Fin.ext ?_
  match k with
  | ⟨0, _⟩ => show ((a : ℕ) * 128 + b) / 262144 = (p : ℕ); omega
  | ⟨1, _⟩ => show ((a : ℕ) * 128 + b) / 128 % 2048 = (q : ℕ); omega
  | ⟨2, _⟩ => show ((a : ℕ) * 128 + b) % 128 = b; omega

theorem ref_tail (a : Fin 4096) (b : Fin 128) : (val_main_v8 (F := Ideal) y (ix2 a b) : EReal)
      = tail (fun j => entry y ((a : ℕ) / 2048 * 2048 + j) b) ((a : ℕ) % 2048) 2048 := by
  have ha := a.isLt
  obtain ⟨p, hp⟩ : ∃ p : Fin 2, (p : ℕ) = (a : ℕ) / 2048 := ⟨⟨(a : ℕ) / 2048, by omega⟩, rfl⟩
  obtain ⟨q, hq⟩ : ∃ q : Fin 2048, (q : ℕ) = (a : ℕ) % 2048 := ⟨⟨(a : ℕ) % 2048, by omega⟩, rfl⟩
  rw [val_main_v8_apply, tail_place a b p q hp hq, ref_window, ← hp, ← hq]
  exact Finset.sum_congr rfl fun k hk => ref_time y p b k (Finset.mem_Ico.1 hk).2

theorem ref_f (a : Fin 4096) (b : Fin 128) : (val_main_v9 (F := Ideal) x g y (ix2 a b) : EReal)
      = whole_grad x g y ((a : ℕ) / 2048) ((a : ℕ) % 2048) b := by
  rw [val_main_v9_apply, val_main_call3_v1_apply, val_main_call3_v0_apply]
  refine Eq.trans (b := -(-(val_main_v8 (F := Ideal) y (ix2 a b) : EReal) * val_main_v3_1 (F := Ideal) x g (ix2 a b))) rfl ?_
  rw [EReal.neg_mul, neg_neg, ref_tail, ref_slope, ref_arg]
  unfold whole_grad
  rw [show (a : ℕ) / 2048 * 2048 + (a : ℕ) % 2048 = a by omega]

theorem ref_b (b : Fin 128) : (val_main_v11 (F := Ideal) x g y (ix2 (0 : Fin 1) b) : EReal)
      = ∑ k : Fin 4096, whole_grad x g y ((k : ℕ) / 2048) ((k : ℕ) % 2048) b := by
  rw [val_main_v11_apply, val_main_v10_apply, show val_main_cst (F := Ideal) _ = (0 : EReal) from Cert.Norm.zero_f32, zero_add]
  refine Finset.sum_congr rfl fun k _ => ?_
  have e : idx_main_v10 (idx_main_v11 (ix2 (0 : Fin 1) b)) k = ix2 k b :=
    funext fun a => Fin.ext (by match a with | ⟨0, _⟩ => rfl | ⟨1, _⟩ => show 0 * 128 + b.val = b.val; omega)
  rw [e, ref_f]
end reference

theorem place_f (t : Fin cfg0.N) (a : Fin 2048) (b : Fin 128) : (win0_3.blk t).view.emb (ix2 a b)
    = ix2 (⟨t.val * 2048 + a, by have := (idx t).1; omega⟩ : Fin 4096) b := by
  have ht := (idx t).1
  blk_ext [idx t]

theorem place_b (t : Fin cfg0.N) (b : Fin 128) : (win0_4.blk t).view.emb (ix2 (0 : Fin 1) b) = ix2 (0 : Fin 1) b := by
  blk_ext [idx t]

theorem result_f : (dats m 0 c).arrAt 3 cfg0.N = Cert.GateRefIdeal.Read.val_main_v12 (F := Ideal) (X m c) (G m c) (Y m c) := by
  refine (dats m 0 c).arrAt_eq_of_covers 3 _ (by decide +kernel) fun t hf i => ?_
  blk_simp
  rw [after0_3]
  obtain ⟨a, b, rfl⟩ : ∃ (a : Fin 2048) (b : Fin 128), i = ix2 a b := ⟨_, _, eq_ix2 i⟩
  rw [place_f]
  refine (left_f m c t a b).trans (Eq.trans ?_ (ref_f (X m c) (G m c) (Y m c) _ b).symm)
  show _ = whole_grad _ _ _ ((t.val * 2048 + (a : ℕ)) / 2048) ((t.val * 2048 + (a : ℕ)) % 2048) b
  rw [show (t.val * 2048 + (a : ℕ)) / 2048 = t.val by omega, show (t.val * 2048 + (a : ℕ)) % 2048 = a by omega]

theorem result_b : (dats m 0 c).arrAt 4 cfg0.N = Cert.GateRefIdeal.Read.val_main_v11 (F := Ideal) (X m c) (G m c) (Y m c) := by
  refine (dats m 0 c).arrAt_eq_of_covers 4 _ (by decide +kernel) fun t hf i => ?_
  blk_simp
  rw [after0_4]
  obtain ⟨b, rfl⟩ : ∃ (b : Fin 128), i = ix2 (0 : Fin 1) b := ⟨i 1, (eq_ix2 i).trans (congrArg (ix2 · _) (Subsingleton.elim _ _))⟩
  rw [place_b, ref_b]
  exact left_b m c t b (by have := (flush0_4 t).mp hf; omega)

end Cert.GateIdeal.Value
end
-- ==== Proof.Calls.lean ====
/-
  The claims about the gradients of the gated embedding, the norms and the forget gates, from what each call's results are.
-/
module
public import proofs.«01_k».proof.Defs
public import proofs.«01_k».proof.Proof.Gen.PleRefIdeal.Run
public import proofs.«01_k».proof.Proof.Ple
public import proofs.«01_k».proof.Proof.Gen.RmsPostRefIdeal.Run
public import proofs.«01_k».proof.Proof.RmsPost
public import proofs.«01_k».proof.Proof.Gen.RmsPreRefIdeal.Run
public import proofs.«01_k».proof.Proof.RmsPre
public import proofs.«01_k».proof.Proof.Gen.GateRefIdeal.Run
public import proofs.«01_k».proof.Proof.Gate
public import Idealize.ShloMosaic.Adequacy
public import Idealize.ShloMosaic.Init
public import Idealize.ShloMosaic.Lib.Claim

@[expose] public section
noncomputable section
open Idealize.ShloMosaic Idealize.SL.Sem

namespace Cert.PleIdeal.Value

theorem frame_reference : Cert.quiescent_PleRefIdeal := fun m g _ =>
  (θ_run Cert.PleRefIdeal.defs _ _).mono (fun r h => ⟨fun c => (h c).2.2, sem_eq_zero_of_no_sems (by decide) r.2⟩)
    (Cert.PleRefIdeal.Value.run (F := Ideal) m g)

theorem algebraic : Cert.algebraic_PleIdeal_PleRefIdeal := fun m g m' g' _ agree =>
  ⟨_, _, run m g, θ_run_mono (Cert.PleRefIdeal.Value.run (F := Ideal) m' g') fun r h c =>
    ⟨(h c).1.trans (by
      refine (Cert.PleRefIdeal.Read.val_main_v13_eq _ _).trans ?_
      rw [(agree c).1, (agree c).2.2]
      exact result_a _ _), (h c).2.1.trans (by
      refine (Cert.PleRefIdeal.Read.val_main_v14_eq _ _ _).trans ?_
      rw [(agree c).1, (agree c).2.1, (agree c).2.2]
      exact result_z _ _ _), (h c).2.2⟩⟩

end Cert.PleIdeal.Value

namespace Cert.RmsPostIdeal.Value

theorem frame_reference : Cert.quiescent_RmsPostRefIdeal := fun m g _ =>
  (θ_run Cert.RmsPostRefIdeal.defs _ _).mono (fun r h => ⟨fun c => (h c).2.2, sem_eq_zero_of_no_sems (by decide) r.2⟩)
    (Cert.RmsPostRefIdeal.Value.run (F := Ideal) m g)

theorem algebraic : Cert.algebraic_RmsPostIdeal_RmsPostRefIdeal := fun m g m' g' _ agree =>
  ⟨fun c => (Cert.RmsPostIdeal.Gen.dats m 0 c).arrAt 3 Cert.RmsPostIdeal.cfg0.N, fun c => (Cert.RmsPostIdeal.Gen.dats m 0 c).arrAt 4 Cert.RmsPostIdeal.cfg0.N, run_blocks m g,
    θ_run_mono (Cert.RmsPostRefIdeal.Value.run (F := Ideal) m' g') fun r h c => ⟨(h c).1.trans (by
      refine (Cert.RmsPostRefIdeal.Read.val_main_v34_eq _ _ _).trans ?_
      rw [(agree c).1, (agree c).2.1, (agree c).2.2]
      exact (result_x m c).symm), (h c).2.1.trans (by
      refine (Cert.RmsPostRefIdeal.Read.val_main_v17_eq _ _).trans ?_
      rw [(agree c).1, (agree c).2.1]
      exact (result_g m c).symm), (h c).2.2⟩⟩

end Cert.RmsPostIdeal.Value

namespace Cert.RmsPreIdeal.Value

theorem frame_reference : Cert.quiescent_RmsPreRefIdeal := fun m g _ =>
  (θ_run Cert.RmsPreRefIdeal.defs _ _).mono (fun r h => ⟨fun c => (h c).2.2, sem_eq_zero_of_no_sems (by decide) r.2⟩)
    (Cert.RmsPreRefIdeal.Value.run (F := Ideal) m g)

theorem algebraic : Cert.algebraic_RmsPreIdeal_RmsPreRefIdeal := fun m g m' g' _ agree =>
  ⟨fun c => (Cert.RmsPreIdeal.Gen.dats m 0 c).arrAt 4 Cert.RmsPreIdeal.cfg0.N, fun c => (Cert.RmsPreIdeal.Gen.dats m 0 c).arrAt 5 Cert.RmsPreIdeal.cfg0.N, run_blocks m g,
    θ_run_mono (Cert.RmsPreRefIdeal.Value.run (F := Ideal) m' g') fun r h c => ⟨(h c).1.trans (by
      refine (Cert.RmsPreRefIdeal.Read.val_main_v35_eq _ _ _ _).trans ?_
      rw [(agree c).1, (agree c).2.1, (agree c).2.2.1, (agree c).2.2.2]
      exact (result_x m c).symm), (h c).2.1.trans (by
      refine (Cert.RmsPreRefIdeal.Read.val_main_v18_eq _ _).trans ?_
      rw [(agree c).1, (agree c).2.1]
      exact (result_g m c).symm), (h c).2.2⟩⟩

end Cert.RmsPreIdeal.Value

namespace Cert.GateIdeal.Value

theorem frame_reference : Cert.quiescent_GateRefIdeal := fun m g _ =>
  (θ_run Cert.GateRefIdeal.defs _ _).mono (fun r h => ⟨fun c => (h c).2.2, sem_eq_zero_of_no_sems (by decide) r.2⟩)
    (Cert.GateRefIdeal.Value.run (F := Ideal) m g)

theorem algebraic : Cert.algebraic_GateIdeal_GateRefIdeal := fun m g m' g' _ agree =>
  ⟨fun c => (Cert.GateIdeal.Gen.dats m 0 c).arrAt 3 Cert.GateIdeal.cfg0.N, fun c => (Cert.GateIdeal.Gen.dats m 0 c).arrAt 4 Cert.GateIdeal.cfg0.N, run_blocks m g,
    θ_run_mono (Cert.GateRefIdeal.Value.run (F := Ideal) m' g') fun r h c => ⟨(h c).1.trans (by
      refine (Cert.GateRefIdeal.Read.val_main_v12_eq _ _).trans ?_
      rw [(agree c).1, (agree c).2.1, (agree c).2.2]
      exact (result_f m c).symm), (h c).2.1.trans (by
      refine (Cert.GateRefIdeal.Read.val_main_v11_eq _ _).trans ?_
      rw [(agree c).1, (agree c).2.1, (agree c).2.2]
      exact (result_b m c).symm), (h c).2.2⟩⟩

end Cert.GateIdeal.Value

end
-- ==== Proof.RmsFwd.lean ====
/-
  The norm before a layer: each block of rows is the rows' entries times the scale of their row and the gain.
-/
module
public import proofs.«01_k».proof.Defs
public import proofs.«01_k».proof.Proof.Gen.RmsFwd.Frame
public import proofs.«01_k».proof.Proof.Gen.RmsFwdIdeal.Frame
public import proofs.«01_k».proof.Proof.Gen.RmsFwdIdeal.Value
public import proofs.«01_k».proof.Proof.Gen.RmsFwdRefIdeal.Read
public import proofs.«01_k».proof.Proof.Gen.RmsFwdRefIdeal.Run
public import proofs.«01_k».proof.Proof.Product
public import proofs.«01_k».proof.Proof.Norm
public import Idealize.ShloMosaic.Adequacy
public import Idealize.ShloMosaic.Init
public import Idealize.ShloMosaic.Lib.Claim

@[expose] public section
set_option maxRecDepth 16384
noncomputable section
namespace Cert.RmsFwdIdeal.Value
open Cert.RmsFwdIdeal Cert.RmsFwdIdeal.Gen Idealize.ShloMosaic Idealize.ShloMosaic.TcCoe Idealize.SL.Sem

section payload
variable (x : FVec Ideal S256x2048 .f32) (g : FVec Ideal S1x2048 .f32)

theorem closed (a : Fin 256) (b : Fin 2048) : ((k0_pay1 (F := Ideal) x g) (ix2 a b) : EReal)
      = x (ix2 a b) * Norm.scale (fun j => x (ix2 a j)) * g (ix2 (0 : Fin 1) b) := by
  unfold Norm.scale
  pointwise [k0_pay1]

theorem out_eq : out0_2 (F := Ideal) x g = k0_pay1 (F := Ideal) x g := by
  frame_out
end payload

theorem idx : ∀ t : Fin cfg0.N, t.val < 16 ∧ win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

abbrev X : FVec Ideal S4096x2048 .f32 := m ((c : Thread nD τ).loc main_arg0)
abbrev G : FVec Ideal S1x2048 .f32 := m ((c : Thread nD τ).loc main_arg1)

section blocks
variable (t : Fin cfg0.N) (a : Fin 256) (r : Fin 4096) (hr : (r : ℕ) = t.val * 256 + a) (b : Fin 2048)
include hr

theorem block_x : ((iblk m c 0 t : FVec Ideal S256x2048 .f32) (ix2 a b) : EReal) = X m c (ix2 r b) := by
  blk_ext [iblk, V, idx t, hr]

omit hr in
theorem block_g : ((iblk m c 1 t : FVec Ideal S1x2048 .f32) (ix2 (0 : Fin 1) b) : EReal) = G m c (ix2 (0 : Fin 1) b) := by
  blk_ext [iblk, V, idx t]

theorem left : ((out0_2 (F := Ideal) (iblk m c 0 t) (iblk m c 1 t)) (ix2 a b) : EReal)
      = X m c (ix2 r b) * Norm.scale (fun j : Fin 2048 => X m c (ix2 r j)) * G m c (ix2 (0 : Fin 1) b) := by
  rw [out_eq, closed]
  simp only [block_x m c t a r hr, block_g m c t]

theorem place : (win0_2.blk t).view.emb (ix2 a b) = ix2 r b := by
  blk_ext [idx t, hr]
end blocks

section reference
open Cert.RmsFwdRefIdeal.Read
variable (x : FVec Ideal S4096x2048 .f32)

theorem ref_scale (j : Cert.RmsFwdRefIdeal.S4096x1.Idx) : (val_main_v7 (F := Ideal) x j : EReal) = Norm.scale fun k : Fin 2048 => x (ix2 (j 0) k) := by
  rw [val_main_v7_apply, val_main_v6_apply, val_main_v4_apply, val_main_v2_apply, val_main_v1_apply]
  refine congrArg Ideal.rsqrt (congrArg₂ (· + ·) (congrArg₂ Ideal.div ?_ rfl) rfl)
  rw [show val_main_cst (F := Ideal) _ = (0 : EReal) from Norm.zero_f32, zero_add]
  exact Finset.sum_congr rfl fun k _ => congrArg (fun i => (x i : EReal) * x i) (eq_ix2 _)

theorem ref_norm (g : FVec Ideal S1x2048 .f32) (a : Fin 4096) (b : Fin 2048) : (val_main_v12 (F := Ideal) x g (ix2 a b) : EReal)
      = x (ix2 a b) * Norm.scale (fun j => x (ix2 a j)) * g (ix2 (0 : Fin 1) b) := by
  rw [val_main_v12_apply, val_main_v11_apply, val_main_v9_apply, val_main_v8_apply, ref_scale, val_main_v10_apply]
  exact congrArg₂ (· * ·) rfl (congrArg g (eq_ix2 _))
end reference

theorem result : (dats m 0 c).arrAt 2 cfg0.N = Cert.RmsFwdRefIdeal.Read.val_main_v12 (F := Ideal) (X m c) (G m c) := by
  refine (dats m 0 c).arrAt_eq_of_covers 2 _ (by decide +kernel) fun t hf i => ?_
  blk_simp
  rw [after0_2]
  obtain ⟨a, b, rfl⟩ : ∃ (a : Fin 256) (b : Fin 2048), i = ix2 a b := ⟨_, _, eq_ix2 i⟩
  obtain ⟨r, hr⟩ : ∃ r : Fin 4096, (r : ℕ) = t.val * 256 + a := ⟨⟨t.val * 256 + a, by have := (idx t).1; omega⟩, rfl⟩
  rw [place t a r hr, ref_norm]
  exact left m c t a r hr b

theorem frame_reference : Cert.quiescent_RmsFwdRefIdeal := fun m g _ =>
  (θ_run Cert.RmsFwdRefIdeal.defs _ _).mono (fun r h => ⟨fun c => (h c).2, sem_eq_zero_of_no_sems (by decide) r.2⟩)
    (Cert.RmsFwdRefIdeal.Value.run (F := Ideal) m g)

theorem algebraic : Cert.algebraic_RmsFwdIdeal_RmsFwdRefIdeal := fun m g m' g' _ agree =>
  ⟨fun c => (Cert.RmsFwdIdeal.Gen.dats m 0 c).arrAt 2 Cert.RmsFwdIdeal.cfg0.N, run_blocks m g,
    θ_run_mono (Cert.RmsFwdRefIdeal.Value.run (F := Ideal) m' g') fun r h c => ⟨(h c).1.trans (by
      refine (Cert.RmsFwdRefIdeal.Read.val_main_v12_eq _ _).trans ?_
      rw [(agree c).1, (agree c).2]
      exact (result m c).symm), (h c).2⟩⟩

end Cert.RmsFwdIdeal.Value
end
-- ==== Proof.RmsResFwd.lean ====
/-
  The norm after a layer, added to the layer's input: the sum and its cast.
-/
module
public import proofs.«01_k».proof.Defs
public import proofs.«01_k».proof.Proof.Gen.RmsResFwd.Frame
public import proofs.«01_k».proof.Proof.Gen.RmsResFwdIdeal.Frame
public import proofs.«01_k».proof.Proof.Gen.RmsResFwdIdeal.Value
public import proofs.«01_k».proof.Proof.Gen.RmsResFwdRefIdeal.Read
public import proofs.«01_k».proof.Proof.Gen.RmsResFwdRefIdeal.Run
public import proofs.«01_k».proof.Proof.Product
public import proofs.«01_k».proof.Proof.Norm
public import Idealize.ShloMosaic.Adequacy
public import Idealize.ShloMosaic.Init
public import Idealize.ShloMosaic.Lib.Claim

@[expose] public section
set_option maxRecDepth 16384
noncomputable section
namespace Cert.RmsResFwdIdeal.Value
open Cert.RmsResFwdIdeal Cert.RmsResFwdIdeal.Gen Idealize.ShloMosaic Idealize.ShloMosaic.TcCoe Idealize.SL.Sem

section payload
variable (y : FVec Ideal S256x2048 .f32) (g : FVec Ideal S1x2048 .f32) (e : FVec Ideal S256x2048 .f32)

theorem out_eq (a : Fin 256) (b : Fin 2048) : ((out0_3 (F := Ideal) y e g) (ix2 a b) : EReal)
      = e (ix2 a b) + y (ix2 a b) * Norm.scale (fun j => y (ix2 a j)) * g (ix2 (0 : Fin 1) b) := by
  refine Eq.trans (b := (k0_pay1 (F := Ideal) y e g (ix2 a b) : EReal)) (by frame_out) ?_
  unfold Norm.scale
  pointwise [k0_pay1]

theorem cast_eq (a : Fin 256) (b : Fin 2048) : ((out0_4 (F := Ideal) y e g) (ix2 a b) : EReal)
      = e (ix2 a b) + y (ix2 a b) * Norm.scale (fun j => y (ix2 a j)) * g (ix2 (0 : Fin 1) b) := by
  refine Eq.trans (b := (k0_pay2 (F := Ideal) y e g (ix2 a b) : EReal)) (by frame_out) ?_
  unfold Norm.scale
  pointwise [k0_pay1, k0_pay2]
end payload

theorem idx : ∀ t : Fin cfg0.N, t.val < 16 ∧ win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

variable (m : (ℓ : Loc nD τ sig) → Buf (Elt Ideal) ℓ) (c : Dev nD)

abbrev Y : FVec Ideal S4096x2048 .f32 := m ((c : Thread nD τ).loc main_arg0)
abbrev E : FVec Ideal S4096x2048 .f32 := m ((c : Thread nD τ).loc main_arg1)
abbrev G : FVec Ideal S1x2048 .f32 := m ((c : Thread nD τ).loc main_arg2)

section blocks
variable (t : Fin cfg0.N) (a : Fin 256) (r : Fin 4096) (hr : (r : ℕ) = t.val * 256 + a) (b : Fin 2048)
include hr

theorem block_y : ((iblk m c 0 t : FVec Ideal S256x2048 .f32) (ix2 a b) : EReal) = Y m c (ix2 r b) := by
  blk_ext [iblk, V, idx t, hr]

theorem block_e : ((iblk m c 1 t : FVec Ideal S256x2048 .f32) (ix2 a b) : EReal) = E m c (ix2 r b) := by
  blk_ext [iblk, V, idx t, hr]

omit hr in
theorem block_g : ((iblk m c 2 t : FVec Ideal S1x2048 .f32) (ix2 (0 : Fin 1) b) : EReal) = G m c (ix2 (0 : Fin 1) b) := by
  blk_ext [iblk, V, idx t]

theorem place : (win0_3.blk t).view.emb (ix2 a b) = ix2 r b := by
  blk_ext [idx t, hr]

theorem place_cast : (win0_4.blk t).view.emb (ix2 a b) = ix2 r b := by
  blk_ext [idx t, hr]
end blocks

section reference
open Cert.RmsResFwdRefIdeal.Read
variable (x : FVec Ideal S4096x2048 .f32)

theorem ref_scale (j : Cert.RmsResFwdRefIdeal.S4096x1.Idx) : (val_main_v7 (F := Ideal) x j : EReal) = Norm.scale fun k : Fin 2048 => x (ix2 (j 0) k) := by
  rw [val_main_v7_apply, val_main_v6_apply, val_main_v4_apply, val_main_v2_apply, val_main_v1_apply]
  refine congrArg Ideal.rsqrt (congrArg₂ (· + ·) (congrArg₂ Ideal.div ?_ rfl) rfl)
  rw [show val_main_cst (F := Ideal) _ = (0 : EReal) from Norm.zero_f32, zero_add]
  exact Finset.sum_congr rfl fun k _ => congrArg (fun i => (x i : EReal) * x i) (eq_ix2 _)

theorem ref_sum (e : FVec Ideal S4096x2048 .f32) (g : FVec Ideal S1x2048 .f32) (a : Fin 4096) (b : Fin 2048) :
    (val_main_v12 (F := Ideal) x e g (ix2 a b) : EReal)
      = e (ix2 a b) + x (ix2 a b) * Norm.scale (fun j => x (ix2 a j)) * g (ix2 (0 : Fin 1) b) := by
  rw [val_main_v12_apply, val_main_v11_apply, val_main_v9_apply, val_main_v8_apply, ref_scale, val_main_v10_apply]
  exact congrArg₂ (· + ·) rfl (congrArg₂ (· * ·) rfl (congrArg g (eq_ix2 _)))
end reference

theorem result : (dats m 0 c).arrAt 3 cfg0.N = Cert.RmsResFwdRefIdeal.Read.val_main_v12 (F := Ideal) (Y m c) (E m c) (G m c) := by
  refine (dats m 0 c).arrAt_eq_of_covers 3 _ (by decide +kernel) fun t hf i => ?_
  blk_simp
  rw [after0_3]
  obtain ⟨a, b, rfl⟩ : ∃ (a : Fin 256) (b : Fin 2048), i = ix2 a b := ⟨_, _, eq_ix2 i⟩
  obtain ⟨r, hr⟩ : ∃ r : Fin 4096, (r : ℕ) = t.val * 256 + a := ⟨⟨t.val * 256 + a, by have := (idx t).1; omega⟩, rfl⟩
  rw [place t a r hr, ref_sum]
  refine (out_eq _ _ _ a b).trans ?_
  simp only [block_y m c t a r hr, block_e m c t a r hr, block_g m c t]

theorem result_cast : (dats m 0 c).arrAt 4 cfg0.N = Cert.RmsResFwdRefIdeal.Read.val_main_v13 (F := Ideal) (Y m c) (E m c) (G m c) := by
  refine (dats m 0 c).arrAt_eq_of_covers 4 _ (by decide +kernel) fun t hf i => ?_
  blk_simp
  rw [after0_4]
  obtain ⟨a, b, rfl⟩ : ∃ (a : Fin 256) (b : Fin 2048), i = ix2 a b := ⟨_, _, eq_ix2 i⟩
  obtain ⟨r, hr⟩ : ∃ r : Fin 4096, (r : ℕ) = t.val * 256 + a := ⟨⟨t.val * 256 + a, by have := (idx t).1; omega⟩, rfl⟩
  rw [place_cast t a r hr, Cert.RmsResFwdRefIdeal.Read.val_main_v13_apply]
  refine (cast_eq _ _ _ a b).trans (Eq.trans ?_ (ref_sum _ _ _ _ _).symm)
  simp only [block_y m c t a r hr, block_e m c t a r hr, block_g m c t]

theorem frame_reference : Cert.quiescent_RmsResFwdRefIdeal := fun m g _ =>
  (θ_run Cert.RmsResFwdRefIdeal.defs _ _).mono (fun r h => ⟨fun c => (h c).2.2, sem_eq_zero_of_no_sems (by decide) r.2⟩)
    (Cert.RmsResFwdRefIdeal.Value.run (F := Ideal) m g)

theorem algebraic : Cert.algebraic_RmsResFwdIdeal_RmsResFwdRefIdeal := fun m g m' g' _ agree =>
  ⟨fun c => (Cert.RmsResFwdIdeal.Gen.dats m 0 c).arrAt 3 Cert.RmsResFwdIdeal.cfg0.N,
    fun c => (Cert.RmsResFwdIdeal.Gen.dats m 0 c).arrAt 4 Cert.RmsResFwdIdeal.cfg0.N, run_blocks m g,
    θ_run_mono (Cert.RmsResFwdRefIdeal.Value.run (F := Ideal) m' g') fun r h c => ⟨(h c).1.trans (by
      refine (Cert.RmsResFwdRefIdeal.Read.val_main_v12_eq _ _ _).trans ?_
      rw [(agree c).1, (agree c).2.1, (agree c).2.2]
      exact (result m c).symm), (h c).2.1.trans (by
      refine (Cert.RmsResFwdRefIdeal.Read.val_main_v13_eq _ _ _).trans ?_
      rw [(agree c).1, (agree c).2.1, (agree c).2.2]
      exact (result_cast m c).symm), (h c).2.2⟩⟩

end Cert.RmsResFwdIdeal.Value
end
-- ==== Proof.PleFwd.lean ====
/-
  The gated embedding added to the hidden state, point by point.
-/
module
public import proofs.«01_k».proof.Defs
public import proofs.«01_k».proof.Proof.Gen.PleFwd.Frame
public import proofs.«01_k».proof.Proof.Gen.PleFwdIdeal.Frame
public import proofs.«01_k».proof.Proof.Gen.PleFwdIdeal.Value
public import proofs.«01_k».proof.Proof.Gen.PleFwdRefIdeal.Read
public import proofs.«01_k».proof.Proof.Gen.PleFwdRefIdeal.Run
public import proofs.«01_k».proof.Proof.Norm
public import Idealize.ShloMosaic.Adequacy
public import Idealize.ShloMosaic.Init
public import Idealize.ShloMosaic.Lib.Claim

@[expose] public section
set_option maxRecDepth 16384
noncomputable section
namespace Cert.PleFwdIdeal.Value
open Cert.PleFwdIdeal Cert.PleFwdIdeal.Gen Idealize.ShloMosaic Idealize.ShloMosaic.TcCoe Idealize.SL.Sem

theorem result (h a z : FVec Ideal S4096x2048 .f32) : Cert.PleFwdRefIdeal.Read.val_main_v7 (F := Ideal) h a z = G3 (F := Ideal) h a z := by
  funext i
  show (h i : EReal) + a i * Ideal.div _ (_ + Ideal.exp (-z i)) = h i + a i * Ideal.div _ (_ + Ideal.exp (Ideal.ofBits .f32 0x00000000#32 - z i))
  rw [Norm.zero_f32, zero_sub]; rfl

theorem frame_reference : Cert.quiescent_PleFwdRefIdeal := fun m g _ =>
  (θ_run Cert.PleFwdRefIdeal.defs _ _).mono (fun r h => ⟨fun c => (h c).2, sem_eq_zero_of_no_sems (by decide) r.2⟩)
    (Cert.PleFwdRefIdeal.Value.run (F := Ideal) m g)

theorem algebraic : Cert.algebraic_PleFwdIdeal_PleFwdRefIdeal := fun m g m' g' _ agree =>
  ⟨_, run m g, θ_run_mono (Cert.PleFwdRefIdeal.Value.run (F := Ideal) m' g') fun r h c =>
    ⟨(h c).1.trans (by
      refine (Cert.PleFwdRefIdeal.Read.val_main_v7_eq _ _ _).trans ?_
      rw [(agree c).1, (agree c).2.1, (agree c).2.2]
      exact result _ _ _), (h c).2⟩⟩

end Cert.PleFwdIdeal.Value
end
-- ==== Proof.HeadSums.lean ====
/-
  The gradient of the RWKV layer's head norm, bonus and gate as real numbers, and the blocks of it that hold finite entries.
-/
module
public import proofs.«01_k».proof.Proof.Gen.RwkvPost.Frame
public import proofs.«01_k».proof.Proof.Gen.RwkvPostIdeal.Frame
public import proofs.«01_k».proof.Proof.Gen.RwkvPostIdeal.Value
public import proofs.«01_k».proof.Proof.Gen.RwkvPostRefIdeal.Read
public import proofs.«01_k».proof.Proof.Boxes
public import proofs.«01_k».proof.Proof.Scan
public import proofs.«01_k».proof.Proof.Norm

@[expose] public section
set_option maxRecDepth 16384
noncomputable section
namespace Cert.Heads
open Cert.RwkvPostIdeal Cert.RwkvPostIdeal.Gen Cert.Fox Idealize.ShloMosaic Idealize.ShloMosaic.TcCoe Idealize.SL.Sem Cert.Product

/-- The sum over the 64 columns of a column's head. -/
def H (f : ℕ → ℕ → ℝ) (i q : ℕ) : ℝ := ∑ l : Fin 64, f i (q / 64 * 64 + l)

/-- A row of numbers, at every row. -/
def row (g : ℕ → ℝ) (_ q : ℕ) : ℝ := g q

/-- The number added to the variance. -/
theorem eps_gn : ∃ e : ℝ, 0 < e ∧ Ideal.ofBits .f32 0x3A27C5AC#32 = (e : EReal) := by
  refine ⟨(10995116 : ℝ) * (2 : ℝ) ^ (-34 : ℤ), by positivity, ?_⟩
  simp [Ideal.ofBits, Ideal.ieee, -EReal.coe_mul]

def eps : ℝ := eps_gn.choose
theorem eps_pos : 0 < eps := eps_gn.choose_spec.1
theorem eps_eq : Ideal.ofBits .f32 0x3A27C5AC#32 = ((eps : ℝ) : EReal) := eps_gn.choose_spec.2

section Model
variable (y r k v g D : ℕ → ℕ → ℝ) (lg lb rk : ℕ → ℝ)

def dev (i q : ℕ) : ℝ := y i q - H y i q * (1 / 64)
def rstd (i q : ℕ) : ℝ := (Real.sqrt (H (dev y * dev y) i q * (1 / 64) + eps))⁻¹
def yn : ℕ → ℕ → ℝ := dev y * rstd y
def bonus : ℕ → ℕ → ℝ := H (r * k * row rk)
def sig (i q : ℕ) : ℝ := (1 + Real.exp (-(g i q)))⁻¹
def gated : ℕ → ℕ → ℝ := D * (g * sig g)
def dgate : ℕ → ℕ → ℝ := D * (yn y * row lg + row lb + bonus r k rk * v) * (sig g * (1 + g * (1 - sig g)))
def dyn : ℕ → ℕ → ℝ := gated g D * row lg
def dy (i q : ℕ) : ℝ := rstd y i q * (dyn g D lg i q - H (dyn g D lg) i q * (1 / 64) - yn y i q * H (dyn g D lg * yn y) i q * (1 / 64))
def dv : ℕ → ℕ → ℝ := gated g D * bonus r k rk
def dsum : ℕ → ℕ → ℝ := H (gated g D * v)
def dr : ℕ → ℕ → ℝ := dsum v g D * k * row rk
def dk : ℕ → ℕ → ℝ := dsum v g D * r * row rk
def dlg : ℕ → ℕ → ℝ := gated g D * yn y
def drk : ℕ → ℕ → ℝ := dsum v g D * r * k
end Model

/-- Every entry is the real number at its place. -/
def At {s : Shape} (p : s.Idx → ℕ × ℕ) (x : s.Idx → EReal) (f : ℕ → ℕ → ℝ) : Prop :=
  ∀ i : s.Idx, x i = ((f (p i).1 (p i).2 : ℝ) : EReal)

section Arrays
variable {s : Shape} {p : s.Idx → ℕ × ℕ} {x z : FVec Ideal s .f32} {f h : ℕ → ℕ → ℝ}

theorem At.mul (hx : At p x f) (hz : At p z h) : At p (mulf x z) (f * h) := fun i =>
  (congrArg₂ (fun u w : EReal => u * w) (hx i) (hz i)).trans (EReal.coe_mul _ _).symm
theorem At.add (hx : At p x f) (hz : At p z h) : At p (addf x z) (f + h) := fun i =>
  (congrArg₂ (fun u w : EReal => u + w) (hx i) (hz i)).trans (EReal.coe_add _ _).symm
theorem At.sub (hx : At p x f) (hz : At p z h) : At p (subf x z) (f - h) := fun i =>
  (congrArg₂ (fun u w : EReal => u - w) (hx i) (hz i)).trans (EReal.coe_sub _ _).symm
theorem At.neg (hx : At p x f) : At p (Host.negf x) (-f) := fun i =>
  (congrArg (fun u : EReal => -u) (hx i)).trans (EReal.coe_neg _).symm
theorem At.quot (hx : At p x f) (hz : At p z h) (h0 : ∀ i q, h i q ≠ 0) : At p (Host.divf x z) (fun i q => f i q * (h i q)⁻¹) := fun i => by
  show Ideal.div (x i) (z i) = _
  rw [hx i, hz i, Cert.Norm.div_real (h0 _ _), ← EReal.coe_mul]
theorem At.const {w : Ideal .f32} {t : ℝ} (hw : (w : EReal) = (t : EReal)) : At p (broadcast s w) (fun _ _ => t) := fun i => hw
theorem At.congr (hx : At p x f) (e : ∀ i q, f i q = h i q) : At p x h := fun i => (hx i).trans (by rw [e])
theorem At.root (hx : At p x f) (hf : ∀ i q, 0 < f i q) : At p (rsqrt x) (fun i q => (Real.sqrt (f i q))⁻¹) := fun i => by
  show Ideal.rsqrt (x i) = _
  rw [hx i, Ideal.rsqrt_coe, if_neg (hf _ _).le.not_gt, if_neg (hf _ _).ne']
end Arrays

/-- The block's entries are the real numbers from the row `R` and the column `C` on. -/
abbrev Is (R C : ℕ) (x : S512x128.Idx → EReal) (f : ℕ → ℕ → ℝ) : Prop :=
  At (fun i : S512x128.Idx => (R + (i 0 : ℕ), C + (i 1 : ℕ))) x f

def IsRow {φ : FTy} (C : ℕ) (x : FVec Ideal S1x128 φ) (f : ℕ → ℝ) : Prop :=
  ∀ b : Fin 128, (x (ix2 (0 : Fin 1) b) : EReal) = ((f (C + b) : ℝ) : EReal)

section Blocks
variable {R C : ℕ} {x z : FVec Ideal S512x128 .f32} {f h : ℕ → ℕ → ℝ}

theorem IsRow.bc {x : FVec Ideal S1x128 .f32} {f : ℕ → ℝ} (hx : IsRow C x f) :
    Is R C (broadcastTo S512x128 x broadcasts_S1x128_S512x128) (row f) := fun i => by
  obtain ⟨a, b, rfl⟩ : ∃ (a : Fin 512) (b : Fin 128), i = ix2 a b := ⟨_, _, eq_ix2 i⟩
  pointwise
  exact hx b

theorem half (n : Fin 128) (F : ℕ → ℝ) :
    ∑ l : Fin 128, F l * (if (l : ℕ) / 64 = (n : ℕ) / 64 then 1 else 0) = ∑ l : Fin 64, F ((n : ℕ) / 64 * 64 + l) := by
  have hn : (n : ℕ) / 64 = 0 ∨ (n : ℕ) / 64 = 1 := by omega
  refine (Fin.sum_univ_add (a := 64) (b := 64) fun l : Fin 128 => F l * (if (l : ℕ) / 64 = (n : ℕ) / 64 then 1 else 0)).trans ?_
  have h1 : ∀ l : Fin 64, ((Fin.castAdd 64 l : Fin (64 + 64)) : ℕ) / 64 = 0 := fun l => by rw [Fin.val_castAdd]; omega
  have h2 : ∀ l : Fin 64, ((Fin.natAdd 64 l : Fin (64 + 64)) : ℕ) / 64 = 1 := fun l => by rw [Fin.val_natAdd]; omega
  simp only [h1, h2]
  rcases hn with e | e
  · simp [e]
  · simp [e]
    exact Finset.sum_congr rfl fun l _ => congrArg F (add_comm _ _)

/-- Two copies of the heads' matrix, one for a number's high part and one for the rest. -/
def hs (w : FVec Ideal S128x128 .f32) (x : FVec Ideal S512x128 .f32) : FVec Ideal S512x128 .f32 :=
  matmul dot_S512x256_S256x128_S512x128_1_0_0_1_n_n none
    (concatenate S512x256 1 [⟨S512x128, truncf .bf16 x bitsLt_bf16_f32⟩,
      ⟨S512x128, truncf .bf16 (subf x (extf .f32 (truncf .bf16 x bitsLt_bf16_f32) bitsLt_bf16_f32)) bitsLt_bf16_f32⟩]
      concatenates_S512x128_S512x128_S512x256_d1)
    (concatenate S256x128 0 [⟨S128x128, truncf .bf16 w bitsLt_bf16_f32⟩, ⟨S128x128, truncf .bf16 w bitsLt_bf16_f32⟩] concatenates_S128x128_S128x128_S256x128_d0)
    (constant S512x128 .f32 0x00000000#32)

/-- The matrix of the pairs of columns of one head. -/
def ones : FVec Ideal S128x128 .f32 := k0_pay7 (F := Ideal) k0_pay4 (iota .tc S128x128 32 [1] iota_S128x128_d1_w32) 64#32 k0_pay5 k0_pay6 0#32

/-- The head of a column among the two of a block, as the kernel's words find it. -/
def word (a : BitVec 32) : BitVec 32 :=
  Scalar.select (IntOp.andi (IntOp.cmpi CmpIPredicate.ne
      (IntOp.subi (BitVec.setWidth 32 (IntOp.cmpi CmpIPredicate.sgt a 0#32)) (BitVec.setWidth 32 (IntOp.cmpi CmpIPredicate.slt a 0#32)))
      (Scalar.subi (Scalar.extui (Scalar.cmpi CmpIPredicate.sgt 64#32 0#32)) (Scalar.extui (Scalar.cmpi CmpIPredicate.slt 64#32 0#32))))
    (IntOp.cmpi CmpIPredicate.ne (IntOp.remsi ArithUnit.vector a 64#32) 0#32))
    (IntOp.subi (IntOp.divsi ArithUnit.vector a 64#32) 1#32) (IntOp.divsi ArithUnit.vector a 64#32)

theorem word_eq : ∀ a : Fin 128, word (BitVec.ofNat 32 a) = BitVec.ofNat 32 ((a : ℕ) / 64) := by decide +kernel

theorem ones_apply (a b : Fin 128) : (ones (ix2 a b) : EReal) = (((if (a : ℕ) / 64 = (b : ℕ) / 64 then 1 else 0 : ℝ)) : EReal) := by
  have e : (ones (ix2 a b) : EReal) = ((((BitVec.setWidth 32 (IntOp.cmpi CmpIPredicate.eq (word (BitVec.ofNat 32 a)) (word (BitVec.ofNat 32 b)))).toInt : ℝ)) : EReal) := by
    unfold ones
    pointwise [k0_pay7, k0_pay4, k0_pay5, k0_pay6]
    rfl
  rw [e, word_eq, word_eq]
  have ha : (a : ℕ) / 64 = 0 ∨ (a : ℕ) / 64 = 1 := by omega
  have hb : (b : ℕ) / 64 = 0 ∨ (b : ℕ) / 64 = 1 := by omega
  rcases ha with ha | ha <;> rcases hb with hb | hb <;> rw [ha, hb] <;> simp [IntOp.cmpi]

theorem hs_apply (w : FVec Ideal S128x128 .f32) (x : FVec Ideal S512x128 .f32) (a : Fin 512) (b : Fin 128) :
    (hs w x (ix2 a b) : EReal) = ∑ l : Fin 128, x (ix2 a l) * w (ix2 l b) + ∑ l : Fin 128, (x (ix2 a l) - x (ix2 a l)) * w (ix2 l b) := by
  unfold hs
  pointwise

theorem At.hs (hC : 64 ∣ C) (hx : Is R C x f) : Is R C (hs ones x) (H f) := fun i => by
  obtain ⟨a, b, rfl⟩ : ∃ (a : Fin 512) (b : Fin 128), i = ix2 a b := ⟨_, _, eq_ix2 i⟩
  rw [hs_apply]
  have e : ∀ l : Fin 128, ((f (R + a) (C + l) : ℝ) : EReal) - ((f (R + a) (C + l) : ℝ) : EReal) = 0 := fun l => by
    rw [← EReal.coe_sub, sub_self]; rfl
  have hx : ∀ l : Fin 128, (x (ix2 a l) : EReal) = ((f (R + a) (C + l) : ℝ) : EReal) := fun l => hx (ix2 a l)
  simp only [hx, e, zero_mul, Finset.sum_const_zero, add_zero, ones_apply, ← EReal.coe_mul]
  rw [Cert.Fox.coe_sum]
  refine congrArg _ ((half b fun l => f (R + a) (C + l)).trans (Finset.sum_congr rfl fun l _ => congrArg _ ?_))
  show C + ((b : ℕ) / 64 * 64 + (l : ℕ)) = (C + (b : ℕ)) / 64 * 64 + (l : ℕ)
  omega
theorem sixtyfourth : Ideal.ofBits .f32 0x3C800000#32 = ((1 / 64 : ℝ) : EReal) := by
  simp [Ideal.ofBits, Ideal.ieee, -EReal.coe_mul]; norm_num

theorem one_f32 : Ideal.ofBits .f32 0x3F800000#32 = ((1 : ℝ) : EReal) := by
  simp [Ideal.ofBits, Ideal.ieee, -EReal.coe_mul]; norm_num

theorem At.scaled (hx : Is R C x f) : Is R C (mulf x (broadcast S512x128 (Scalar.ofBits (F := Ideal) .f32 0x3C800000#32))) (fun i q => f i q * (1 / 64)) :=
  hx.mul (At.const sixtyfourth)

theorem var_pos (y : ℕ → ℕ → ℝ) (i q : ℕ) : 0 < H (dev y * dev y) i q * (1 / 64) + eps := by
  have h : 0 ≤ H (dev y * dev y) i q := Finset.sum_nonneg fun l _ => mul_self_nonneg _
  have := eps_pos
  positivity

theorem At.sig (hx : Is R C x f) : Is R C (k0_pay15 (F := Ideal) x) (sig f) := fun i => by
  show Ideal.div (Ideal.ofBits .f32 0x3F800000#32) (Ideal.ofBits .f32 0x3F800000#32 + Ideal.exp (Ideal.ofBits .f32 0x00000000#32 - x i)) = _
  rw [hx i, one_f32, Cert.Norm.zero_f32, zero_sub, ← EReal.coe_neg, Ideal.exp_coe, ← EReal.coe_add, Cert.Norm.div_real (by positivity), ← EReal.coe_mul, one_mul]
  rfl
end Blocks

section Point
variable {R C : ℕ} {x0 x1 x2 x3 x4 : FVec Ideal S512x128 .f32} {x5 x6 x7 : FVec Ideal S1x128 .f32} {x8 : FVec Ideal S512x128 .bf16}
  {y r k v g D : ℕ → ℕ → ℝ} {lg lb rk : ℕ → ℝ}

/-- The input blocks of one point hold the numbers of its rows and columns. -/
structure Holds (R C : ℕ) (x0 x1 x2 x3 x4 : FVec Ideal S512x128 .f32) (x5 x6 x7 : FVec Ideal S1x128 .f32) (x8 : FVec Ideal S512x128 .bf16)
    (y r k v g D : ℕ → ℕ → ℝ) (lg lb rk : ℕ → ℝ) : Prop where
  hC : 64 ∣ C
  y : Is R C x0 y
  r : Is R C x1 r
  k : Is R C x2 k
  v : Is R C x3 v
  g : Is R C x4 g
  lg : IsRow C x5 lg
  lb : IsRow C x6 lb
  rk : IsRow C x7 rk
  D : Is R C x8 D

abbrev b77 (x : FVec Ideal S512x128 .f32) := k0_pay8 (F := Ideal) k0_pay4 (iota .tc S128x128 32 [1] iota_S128x128_d1_w32) 64#32 k0_pay5 k0_pay6 0#32 x
abbrev b79 (x : FVec Ideal S512x128 .f32) := k0_pay10 (F := Ideal) k0_pay4 (iota .tc S128x128 32 [1] iota_S128x128_d1_w32) 64#32 k0_pay5 k0_pay6 0#32 x
abbrev b82 (x : FVec Ideal S512x128 .f32) := k0_pay11 (F := Ideal) k0_pay4 (iota .tc S128x128 32 [1] iota_S128x128_d1_w32) 64#32 k0_pay5 k0_pay6 0#32 x

variable (h : Holds R C x0 x1 x2 x3 x4 x5 x6 x7 x8 y r k v g D lg lb rk)
include h

theorem Holds.dev : Is R C (b77 x0) (dev y) := h.y.sub (h.y.hs h.hC).scaled
theorem Holds.rstd : Is R C (k0_pay12 (F := Ideal) ones (b79 x0) (b82 x0)) (rstd y) :=
  At.root (((h.dev.mul h.dev).hs h.hC).scaled.add (At.const eps_eq)) (var_pos y)
theorem Holds.yn : Is R C (k0_pay13 (F := Ideal) ones (b77 x0) (b79 x0) (b82 x0)) (yn y) := h.dev.mul h.rstd
theorem Holds.bonus : Is R C (k0_pay14 (F := Ideal) ones x1 x2 x7) (bonus r k rk) := ((h.r.mul h.k).mul h.rk.bc).hs h.hC
theorem Holds.silu : Is R C (k0_pay16 (F := Ideal) x4) (g * sig g) := h.g.mul h.g.sig
theorem Holds.ct : Is R C (k0_pay17 (F := Ideal) x8) D := fun i => h.D i
theorem Holds.gated : Is R C (k0_pay19 (F := Ideal) (k0_pay16 x4) (k0_pay17 x8)) (gated g D) := h.ct.mul h.silu
theorem Holds.dgate : Is R C (k0_pay18 (F := Ideal) ones x1 x2 x3 x5 x6 x7 (b77 x0) (b79 x0) (b82 x0) x4 x8) (dgate y r k v g D lg lb rk) := fun i =>
  ((h.ct.mul (((h.yn.mul h.lg.bc).add h.lb.bc).add (h.bonus.mul h.v))).mul
    (h.g.sig.mul ((At.const one_f32).add (h.g.mul ((At.const one_f32).sub h.g.sig))))) i
theorem Holds.dyn : Is R C (k0_pay22 (F := Ideal) (k0_pay16 x4) (k0_pay17 x8) x5) (dyn g D lg) := h.gated.mul h.lg.bc
theorem Holds.dy : Is R C (k0_pay25 (F := Ideal) (k0_pay12 (F := Ideal) ones (b79 x0) (b82 x0)) (k0_pay23 (F := Ideal) ones (k0_pay16 x4) (k0_pay17 x8) x5)
    (k0_pay24 (F := Ideal) ones (k0_pay13 (F := Ideal) ones (b77 x0) (b79 x0) (b82 x0)) (k0_pay16 x4) (k0_pay17 x8) x5) (Scalar.ofBits .f32 0x3C800000#32)) (dy y g D lg) :=
  h.rstd.mul ((h.dyn.sub (h.dyn.hs h.hC).scaled).sub (h.yn.mul ((h.dyn.mul h.yn).hs h.hC)).scaled)
theorem Holds.dv : Is R C (k0_pay26 (F := Ideal) (k0_pay14 ones x1 x2 x7) (k0_pay19 (k0_pay16 x4) (k0_pay17 x8))) (dv r k g D rk) := h.gated.mul h.bonus
theorem Holds.dsum : Is R C (k0_pay27 (F := Ideal) ones x3 (k0_pay19 (k0_pay16 x4) (k0_pay17 x8))) (dsum v g D) := (h.gated.mul h.v).hs h.hC
theorem Holds.dr : Is R C (k0_pay28 (F := Ideal) ones x2 x3 (k0_pay19 (k0_pay16 x4) (k0_pay17 x8)) x7) (dr k v g D rk) := (h.dsum.mul h.k).mul h.rk.bc
theorem Holds.dk : Is R C (k0_pay29 (F := Ideal) ones x1 x3 (k0_pay19 (k0_pay16 x4) (k0_pay17 x8)) x7) (dk r v g D rk) := (h.dsum.mul h.r).mul h.rk.bc

theorem Holds.dlg (u : FVec Ideal S1x128 .f32) (b : Fin 128) : (k0_pay20 (F := Ideal) (k0_pay13 (F := Ideal) ones (b77 x0) (b79 x0) (b82 x0)) (k0_pay16 x4) (k0_pay17 x8) u (ix2 (0 : Fin 1) b) : EReal)
    = u (ix2 (0 : Fin 1) b) + ∑ a : Fin 512, ((dlg y g D (R + a) (C + b) : ℝ) : EReal) := by
  have e := h.gated.mul h.yn
  refine Eq.trans ?_ (congrArg (_ + ·) (Finset.sum_congr rfl fun a _ => e (ix2 a b)))
  generalize k0_pay13 (F := Ideal) ones (b77 x0) (b79 x0) (b82 x0) = w
  unfold k0_pay20
  generalize k0_pay19 (F := Ideal) (k0_pay16 x4) (k0_pay17 x8) = w'
  pointwise
theorem Holds.dlb (u : FVec Ideal S1x128 .f32) (b : Fin 128) : (k0_pay21 (F := Ideal) (k0_pay16 x4) (k0_pay17 x8) u (ix2 (0 : Fin 1) b) : EReal)
    = u (ix2 (0 : Fin 1) b) + ∑ a : Fin 512, ((Cert.Heads.gated g D (R + a) (C + b) : ℝ) : EReal) := by
  refine Eq.trans ?_ (congrArg (_ + ·) (Finset.sum_congr rfl fun a _ => h.gated (ix2 a b)))
  unfold k0_pay21
  generalize k0_pay19 (F := Ideal) (k0_pay16 x4) (k0_pay17 x8) = w'
  pointwise
theorem Holds.drk (u : FVec Ideal S1x128 .f32) (b : Fin 128) : (k0_pay30 (F := Ideal) ones x1 x2 x3 (k0_pay19 (k0_pay16 x4) (k0_pay17 x8)) u (ix2 (0 : Fin 1) b) : EReal)
    = u (ix2 (0 : Fin 1) b) + ∑ a : Fin 512, ((drk r k v g D (R + a) (C + b) : ℝ) : EReal) := by
  have e := (h.dsum.mul h.r).mul h.k
  refine Eq.trans ?_ (congrArg (_ + ·) (Finset.sum_congr rfl fun a _ => e (ix2 a b)))
  unfold k0_pay30
  generalize k0_pay27 (F := Ideal) ones x3 (k0_pay19 (k0_pay16 x4) (k0_pay17 x8)) = w'
  pointwise
end Point
end Cert.Heads
end
-- ==== Proof.HeadRef.lean ====
/-
  The reference's gradient of the RWKV layer's head norm, bonus and gate, stage by stage, as real numbers.
-/
module
public import proofs.«01_k».proof.Proof.HeadSums

@[expose] public section
set_option maxRecDepth 16384
noncomputable section
namespace Cert.Heads
open Cert.RwkvPostRefIdeal Cert.RwkvPostRefIdeal.Gen Cert.RwkvPostRefIdeal.Read Cert.Fox Idealize.ShloMosaic Idealize.ShloMosaic.TcCoe Idealize.ShloMosaic.StableHlo

/-- One number for each row and each head. -/
def Head (c : ℕ → ℕ → ℝ) : Prop := ∀ i q, c i (q / 64 * 64) = c i q

theorem H_head (f : ℕ → ℕ → ℝ) : Head (H f) := fun i q => by
  unfold H
  rw [Nat.mul_div_cancel _ (by norm_num : 0 < 64)]

theorem rstd_head (y : ℕ → ℕ → ℝ) : Head (rstd y) := fun i q => by
  unfold rstd
  rw [H_head (dev y * dev y) i q]

theorem H_mul {f c : ℕ → ℕ → ℝ} (hc : Head c) (i q : ℕ) : H (f * c) i q = H f i q * c i q := by
  unfold H
  rw [Finset.sum_mul]
  refine Finset.sum_congr rfl fun l _ => ?_
  show f i _ * c i _ = _
  have hl := l.isLt
  rw [← hc i (q / 64 * 64 + l), show (q / 64 * 64 + (l : ℕ)) / 64 * 64 = q / 64 * 64 by omega, hc i q]

theorem H_dev (y : ℕ → ℕ → ℝ) (i q : ℕ) : H (dev y) i q = 0 := by
  have e : ∀ l : Fin 64, dev y i (q / 64 * 64 + l) = y i (q / 64 * 64 + l) - H y i q * (1 / 64) := fun l => by
    have hl := l.isLt
    unfold dev
    rw [← H_head y i (q / 64 * 64 + l), show (q / 64 * 64 + (l : ℕ)) / 64 * 64 = q / 64 * 64 by omega, H_head y i q]
  unfold H
  rw [Finset.sum_congr rfl fun l _ => e l, Finset.sum_sub_distrib, Finset.sum_const, Finset.card_univ, Fintype.card_fin]
  show H y i q - 64 • (H y i q * (1 / 64)) = 0
  rw [nsmul_eq_mul]
  push_cast
  ring

theorem H_neg (f : ℕ → ℕ → ℝ) (i q : ℕ) : H (-f) i q = -H f i q := by
  unfold H
  exact Finset.sum_neg_distrib _

/-- The chain rule's gradient of a norm, the part through the variance and the part through the mean, in the closed form. -/
theorem centre (n y c : ℕ → ℕ → ℝ) (hc : Head c)
    (e : ∀ i q, c i q = H (dev y * n) i q * (-(1 / 2) * (rstd y i q * (rstd y i q * rstd y i q))) * 64⁻¹) (i q : ℕ) :
    (n * rstd y + c * ((fun _ _ => 2) * dev y)
      + fun i q => (H (-(n * rstd y)) + H (-(c * ((fun _ _ => 2) * dev y)))) i q * 64⁻¹ : ℕ → ℕ → ℝ) i q
      = rstd y i q * (n i q - H n i q * (1 / 64) - yn y i q * H (n * yn y) i q * (1 / 64)) := by
  have e1 : H (-(c * ((fun _ _ => 2) * dev y))) i q = 0 := by
    rw [H_neg, show c * ((fun _ _ => 2) * dev y) = dev y * (c * fun _ _ => 2) from funext fun i => funext fun q => by
      simp only [Pi.mul_apply]; ring, H_mul fun i q => by simp only [Pi.mul_apply]; rw [hc], H_dev, zero_mul, neg_zero]
  have e2 : H (n * yn y) i q = H (dev y * n) i q * rstd y i q := by
    rw [show n * yn y = dev y * n * rstd y from by unfold yn; rw [mul_comm n, mul_right_comm], H_mul (rstd_head y)]
  simp only [Pi.add_apply]
  rw [e1, e2, H_neg, H_mul (rstd_head y)]
  simp only [Pi.mul_apply]
  rw [e i q]
  unfold yn
  simp only [Pi.mul_apply]
  ring

section Places
abbrev pF (i : S4096x1024.Idx) : ℕ × ℕ := ((i 0 : ℕ), (i 1 : ℕ))
abbrev pH (i : S4096x16x64.Idx) : ℕ × ℕ := ((i 0 : ℕ), (i 1 : ℕ) * 64 + (i 2 : ℕ))
abbrev pP (i : S4096x16x1.Idx) : ℕ × ℕ := ((i 0 : ℕ), (i 1 : ℕ) * 64)
abbrev pQ (i : S4096x16.Idx) : ℕ × ℕ := ((i 0 : ℕ), (i 1 : ℕ) * 64)
abbrev pR (i : S1x1024.Idx) : ℕ × ℕ := (0, (i 1 : ℕ))
variable {f c : ℕ → ℕ → ℝ}

theorem At.heads {y : FVec Ideal S4096x1024 .f32} (hy : At pF y f) : At pH (shapeCast S4096x16x64 y shapeCasts_S4096x1024_S4096x16x64) f := fun i => by
  have e : At pF y f := hy
  refine Eq.trans (val_main_v1_apply (F := Ideal) y i) ((hy _).trans ?_)
  have h0 : (i 0).val < 4096 := (i 0).isLt
  have h1 : (i 1).val < 16 := (i 1).isLt
  have h2 : (i 2).val < 64 := (i 2).isLt
  refine congrArg _ (congrArg₂ f ?_ ?_)
  · show (((i 0).val * 16 + (i 1).val) * 64 + (i 2).val) / 1024 = (i 0).val; omega
  · show (((i 0).val * 16 + (i 1).val) * 64 + (i 2).val) % 1024 = (i 1).val * 64 + (i 2).val; omega

theorem At.flat {y : FVec Ideal S4096x16x64 .f32} (hy : At pH y f) : At pF (shapeCast S4096x1024 y shapeCasts_S4096x16x64_S4096x1024) f := fun i => by
  have h0 : (i 0).val < 4096 := (i 0).isLt
  have h1 : (i 1).val < 1024 := (i 1).isLt
  refine (shapeCast_apply y shapeCasts_S4096x16x64_S4096x1024 i (idx_main_v68 i)
    (by rewrite [Shape.rowMajor_val_three, Shape.rowMajor_val_two]; show (((i 0).val * 1024 + (i 1).val) / 1024 * 16 + ((i 0).val * 1024 + (i 1).val) / 64 % 16) * 64 + ((i 0).val * 1024 + (i 1).val) % 64 = (i 0).val * 1024 + (i 1).val; omega)).trans ((hy _).trans ?_)
  refine congrArg _ (congrArg₂ f ?_ ?_)
  · show ((i 0).val * 1024 + (i 1).val) / 1024 = (i 0).val; omega
  · show ((i 0).val * 1024 + (i 1).val) / 64 % 16 * 64 + ((i 0).val * 1024 + (i 1).val) % 64 = (i 1).val; omega

theorem At.sum {y : FVec Ideal S4096x16x64 .f32} (hy : At pH y f) :
    At pQ (Host.reduceAdd y (constant (F := Ideal) S_ .f32 0x00000000#32) reducesTo_S4096x16x64_S4096x16_d2 h_S_) (H f) := fun i => by
  simp only [Host.reduceAdd, Ideal.hostReduceAdd_def]
  rw [Ideal.hostReduceAdd_single reducesTo_S4096x16x64_S4096x16_d2 (by decide)]
  refine Eq.trans (b := (0 : EReal) + ∑ k : Fin 64, ((f (i 0).val ((i 1).val * 64 + k.val) : ℝ) : EReal))
    (congrArg₂ (fun u w : EReal => u + w) Cert.Norm.zero_f32 (Finset.sum_congr rfl fun k _ => (congrArg y (?_ : _ = idx_main_v2 i k)).trans (hy _))) ?_
  · exact funext fun a => Fin.ext (by match a with | ⟨0, _⟩ => rfl | ⟨1, _⟩ => rfl | ⟨2, _⟩ => rfl)
  · rw [zero_add, Cert.Fox.coe_sum]
    refine congrArg _ (Finset.sum_congr rfl fun k _ => ?_)
    show f (i 0).val ((i 1).val * 64 + k.val) = f (i 0).val ((i 1).val * 64 / 64 * 64 + k.val)
    rw [Nat.mul_div_cancel _ (by norm_num : 0 < 64)]

theorem At.sum_one {y : FVec Ideal S4096x16x1 .f32} (hy : At pP y f) :
    At pQ (Host.reduceAdd y (constant (F := Ideal) S_ .f32 0x00000000#32) reducesTo_S4096x16x1_S4096x16_d2 h_S_) f := fun i => by
  simp only [Host.reduceAdd, Ideal.hostReduceAdd_def]
  rw [Ideal.hostReduceAdd_single reducesTo_S4096x16x1_S4096x16_d2 (by decide)]
  refine (congrArg₂ (fun u w : EReal => u + w) Cert.Norm.zero_f32 (Finset.sum_congr rfl fun k _ => (congrArg y (?_ : _ = idx_main_v57 i k)).trans (hy _))).trans ?_
  · exact funext fun a => Fin.ext (by match a with | ⟨0, _⟩ => rfl | ⟨1, _⟩ => rfl | ⟨2, _⟩ => rfl)
  · rw [zero_add]
    exact Fin.sum_univ_one _

theorem At.keep {y : FVec Ideal S4096x16 .f32} (hy : At pQ y f) : At pP (broadcastInDim S4096x16x1 ![0, 1] bcast_S4096x16_S4096x16x1_0_1 y) f := fun i =>
  (broadcastInDim_apply _ bcast_S4096x16_S4096x16x1_0_1 y i (idx_main_v3 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])).trans (hy _)

theorem At.keep' {y : FVec Ideal S4096x16 .f32} (hy : At pQ y f) : At pP (shapeCast S4096x16x1 y shapeCasts_S4096x16_S4096x16x1) f := fun i => by
  have h0 : (i 0).val < 4096 := (i 0).isLt
  have h1 : (i 1).val < 16 := (i 1).isLt
  have h2 : (i 2).val < 1 := (i 2).isLt
  refine (shapeCast_apply y shapeCasts_S4096x16_S4096x16x1 i (idx_main_v3 i)
    (by rewrite [Shape.rowMajor_val_two, Shape.rowMajor_val_three]; show (i 0).val * 16 + (i 1).val = ((i 0).val * 16 + (i 1).val) * 1 + (i 2).val; omega)).trans (hy _)

theorem spread (hc : Head c) (i : S4096x16x64.Idx) : c (i 0).val ((i 1).val * 64) = c (pH i).1 (pH i).2 := by
  have h2 : (i 2).val < 64 := (i 2).isLt
  rw [← hc (pH i).1 (pH i).2]
  show c (i 0).val ((i 1).val * 64) = c (i 0).val (((i 1).val * 64 + (i 2).val) / 64 * 64)
  rw [show ((i 1).val * 64 + (i 2).val) / 64 = (i 1).val by omega]

theorem At.spread {y : FVec Ideal S4096x16x1 .f32} (hy : At pP y c) (hc : Head c) :
    At pH (broadcastInDim S4096x16x64 ![0, 1, 2] bcast_S4096x16x1_S4096x16x64_0_1_2 y) c := fun i =>
  ((broadcastInDim_apply _ bcast_S4096x16x1_S4096x16x64_0_1_2 y i (idx_main_v6 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl])).trans (hy _)).trans (congrArg _ (Cert.Heads.spread hc i))

theorem At.spread' {y : FVec Ideal S4096x16 .f32} (hy : At pQ y c) (hc : Head c) :
    At pH (broadcastInDim S4096x16x64 ![0, 1] bcast_S4096x16_S4096x16x64_0_1 y) c := fun i =>
  ((broadcastInDim_apply _ bcast_S4096x16_S4096x16x64_0_1 y i (idx_main_v58 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])).trans (hy _)).trans (congrArg _ (Cert.Heads.spread hc i))

theorem At.rows {x : FVec Ideal S1x1024 .f32} {g : ℕ → ℝ} (hx : At pR x (row g)) :
    At pF (broadcastInDim S4096x1024 ![0, 1] bcast_S1x1024_S4096x1024_0_1 x) (row g) := fun i =>
  (val_main_v26_apply (F := Ideal) x i).trans (hx _)

theorem At.rows' {x : FVec Ideal S1x1024 .f32} {g : ℕ → ℝ} (hx : At pR x (row g)) : At pH (val_main_v34 (F := Ideal) x) (row g) := fun i => by
  rw [val_main_v34_apply, val_main_v33_apply]
  refine (hx _).trans (congrArg _ ?_)
  have h1 : (i 1).val < 16 := (i 1).isLt
  have h2 : (i 2).val < 64 := (i 2).isLt
  refine congrArg g ?_
  show (((0 : ℕ) * 16 + (i 1).val) * 64 + (i 2).val) % 1024 = (i 1).val * 64 + (i 2).val
  omega
end Places

section Stages
variable {x0 x1 x2 x3 : FVec Ideal S4096x1024 .f32} {x4 : FVec Ideal S4096x8448 .f32} {x5 x6 x7 : FVec Ideal S1x1024 .f32} {x8 : FVec Ideal S4096x2048 .bf16}
  {y r k v g D : ℕ → ℕ → ℝ} {lg lb rk : ℕ → ℝ}

theorem sixtyfour : Ideal.ofBits .f32 0x42800000#32 = ((64 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num

/-- The arrays hold real numbers. -/
structure Given (x0 x1 x2 x3 : FVec Ideal S4096x1024 .f32) (x4 : FVec Ideal S4096x8448 .f32) (x5 x6 x7 : FVec Ideal S1x1024 .f32) (x8 : FVec Ideal S4096x2048 .bf16)
    (y r k v g D : ℕ → ℕ → ℝ) (lg lb rk : ℕ → ℝ) : Prop where
  y : At pF x0 y
  r : At pF x1 r
  k : At pF x2 k
  v : At pF x3 v
  g : At pF (val_main_v0 (F := Ideal) x4) g
  lg : At pR x5 (row lg)
  lb : At pR x6 (row lb)
  rk : At pR x7 (row rk)
  D : At pF (val_main_v46 (F := Ideal) x8) D

variable (h : Given x0 x1 x2 x3 x4 x5 x6 x7 x8 y r k v g D lg lb rk)
include h

theorem Given.mean : At pP (val_main_v5 (F := Ideal) x0) (fun i q => H y i q * (1 / 64)) :=
  (h.y.heads.sum.keep.quot (h := fun _ _ => 64) (fun i => sixtyfour) fun _ _ => by norm_num).congr fun i q => by norm_num
theorem Given.dev : At pH (val_main_v16 (F := Ideal) x0) (dev y) :=
  h.y.heads.sub (h.mean.spread fun i q => congrArg (· * (1 / 64 : ℝ)) (H_head y i q))
theorem Given.var : At pP (val_main_v18 (F := Ideal) x0) (fun i q => H (Heads.dev y * Heads.dev y) i q * (1 / 64) + eps) :=
  ((At.quot (At.keep (At.sum (h.dev.mul h.dev))) (h := fun _ _ => 64) (fun i => sixtyfour) fun _ _ => by norm_num).congr
    (h := fun i q => H (Heads.dev y * Heads.dev y) i q * (1 / 64)) fun i q => by norm_num).add (h := fun _ _ => eps) fun i => eps_eq
theorem Given.rstd : At pP (val_main_v19 (F := Ideal) x0) (rstd y) := At.root h.var (var_pos y)
theorem Given.cube : At pP (val_main_v22 (F := Ideal) x0) (fun i q => -(1 / 2) * (Heads.rstd y i q * (Heads.rstd y i q * Heads.rstd y i q))) :=
  (At.mul (f := fun _ _ => -(1 / 2)) (fun i => Cert.Norm.half_f32) (h.rstd.quot h.var fun i q => (var_pos y i q).ne')).congr fun i q => by
    show -(1 / 2) * (Heads.rstd y i q * _) = _
    congr 2
    unfold Heads.rstd
    rw [← mul_inv, Real.mul_self_sqrt (var_pos y i q).le]
theorem Given.yn : At pF (val_main_v25 (F := Ideal) x0) (yn y) := (h.dev.mul (h.rstd.spread (rstd_head y))).flat
theorem Given.bonus : At pP (val_main_v37 (F := Ideal) x1 x2 x7) (bonus r k rk) := ((h.r.heads.mul h.k.heads).mul h.rk.rows').sum.keep
theorem Given.out : At pF (val_main_v42 (F := Ideal) x0 x1 x2 x3 x5 x6 x7) (Heads.yn y * row lg + row lb + Heads.bonus r k rk * v) :=
  ((h.yn.mul h.lg.rows).add h.lb.rows).add ((h.bonus.spread (H_head _)).mul h.v.heads).flat
theorem Given.sig : At pF (val_main_v43_2 (F := Ideal) x4) (sig g) := fun i => by
  show Ideal.div (Ideal.ofBits .f32 0x3F800000#32) (Ideal.ofBits .f32 0x3F800000#32 + Ideal.exp (-(val_main_v0 (F := Ideal) x4 i))) = _
  rw [h.g i, one_f32, ← EReal.coe_neg, Ideal.exp_coe, ← EReal.coe_add, Cert.Norm.div_real (by positivity), ← EReal.coe_mul, one_mul]
  rfl
theorem Given.gated : At pF (val_main_v48 (F := Ideal) x4 x8) (gated g D) := h.D.mul (h.g.mul h.sig)
theorem Given.dgate : At pF (val_main_v102 (F := Ideal) x0 x1 x2 x3 x4 x5 x6 x7 x8) (dgate y r k v g D lg lb rk) := fun i =>
  ((((h.out.mul h.D).mul h.sig).add ((h.g.mul (h.out.mul h.D)).mul (h.sig.mul (At.sub (f := fun _ _ => 1) (fun i => one_f32) h.sig)))).congr
    (h := Heads.dgate y r k v g D lg lb rk) fun i q => by
      simp only [Heads.dgate, Pi.add_apply, Pi.mul_apply, Pi.sub_apply, Pi.one_apply]; ring) i
theorem Given.dv : At pF (val_main_v56 (F := Ideal) x1 x2 x4 x7 x8) (dv r k g D rk) :=
  (((h.bonus.spread (H_head _)).mul h.gated.heads).flat).congr fun i q => mul_comm _ _
theorem Given.dsum : At pH (val_main_v58 (F := Ideal) x3 x4 x8) (dsum v g D) := (h.gated.heads.mul h.v.heads).sum.keep'.sum_one.spread' (H_head _)
theorem Given.dr : At pF (val_main_v68 (F := Ideal) x2 x3 x4 x7 x8) (dr k v g D rk) :=
  ((h.dsum.mul h.rk.rows').mul h.k.heads).flat.congr fun i q => mul_right_comm _ _ _
theorem Given.dk : At pF (val_main_v67 (F := Ideal) x1 x3 x4 x7 x8) (dk r v g D rk) :=
  (h.r.heads.mul (h.dsum.mul h.rk.rows')).flat.congr fun i q => by
    simp only [Heads.dk, Pi.mul_apply]; ring

theorem Given.dlb (b : Fin 1024) : (val_main_v70 (F := Ideal) x4 x8 (ix2 (0 : Fin 1) b) : EReal) = ∑ a : Fin 4096, ((Heads.gated g D a b : ℝ) : EReal) := by
  rw [val_main_v70_apply, val_main_v69_apply, show val_main_cst_10 (F := Ideal) _ = (0 : EReal) from Cert.Norm.zero_f32, zero_add]
  refine Finset.sum_congr rfl fun a _ => (h.gated _).trans (congrArg _ (congrArg (Heads.gated g D a) ?_))
  show 0 * 1024 + b.val = b.val; omega
theorem Given.dlg (b : Fin 1024) : (val_main_v73 (F := Ideal) x0 x4 x8 (ix2 (0 : Fin 1) b) : EReal) = ∑ a : Fin 4096, ((Heads.dlg y g D a b : ℝ) : EReal) := by
  rw [val_main_v73_apply, val_main_v72_apply, show val_main_cst_11 (F := Ideal) _ = (0 : EReal) from Cert.Norm.zero_f32, zero_add]
  have e : At pF (val_main_v71 (F := Ideal) x0 x4 x8) (Heads.dlg y g D) := (h.yn.mul h.gated).congr fun i q => mul_comm _ _
  refine Finset.sum_congr rfl fun a _ => (e _).trans (congrArg _ (congrArg (Heads.dlg y g D a) ?_))
  show 0 * 1024 + b.val = b.val; omega
theorem Given.drk (b : Fin 1024) : (val_main_v64 (F := Ideal) x1 x2 x3 x4 x8 (ix2 (0 : Fin 1) b) : EReal) = ∑ a : Fin 4096, ((Heads.drk r k v g D a b : ℝ) : EReal) := by
  rw [val_main_v64_apply, val_main_v61_apply, val_main_v60_apply, show val_main_cst_9 (F := Ideal) _ = (0 : EReal) from Cert.Norm.zero_f32, zero_add]
  have e : At pH (val_main_v59 (F := Ideal) x1 x2 x3 x4 x8) (Heads.drk r k v g D) := ((h.r.heads.mul h.k.heads).mul h.dsum).congr fun i q => by
    simp only [Heads.drk, Pi.mul_apply]; ring
  have hb := b.isLt
  refine Finset.sum_congr rfl fun a _ => (e _).trans (congrArg _ (congrArg (Heads.drk r k v g D a) ?_))
  show ((0 * 16 + (0 * 1024 + b.val) / 64 % 16) * 64 + (0 * 1024 + b.val) % 64) / 64 * 64
    + ((0 * 16 + (0 * 1024 + b.val) / 64 % 16) * 64 + (0 * 1024 + b.val) % 64) % 64 = b.val
  omega

theorem Given.dyn : At pH (val_main_v76 (F := Ideal) x4 x5 x8) (dyn g D lg) := (h.gated.mul h.lg.rows).heads
theorem Given.dy : At pF (val_main_v101 (F := Ideal) x0 x4 x5 x8) (dy y g D lg) := by
  have hR := rstd_head y
  have hS := H_head (Heads.dev y * Heads.dyn g D lg)
  have a81 := h.dyn.mul (h.rstd.spread hR)
  have a88 := At.sum_one (At.quot (At.mul (At.keep' (At.sum (h.dev.mul h.dyn))) h.cube) (h := fun _ _ => 64) (fun i => sixtyfour) fun _ _ => by norm_num)
  have a90 := (a88.spread' fun i q => by simp only [Pi.mul_apply]; rw [hR i q, hS i q]).mul (At.mul (f := fun _ _ => 2) (fun i => two_f32) h.dev)
  have a97 := ((a81.neg.sum.keep'.add a90.neg.sum.keep').quot (h := fun _ _ => 64) (fun i => sixtyfour) fun _ _ => by norm_num).sum_one
  have a99 := a97.spread' fun i q => by simp only [Pi.add_apply]; rw [H_head _ i q, H_head _ i q]
  exact ((a81.add a90).add a99).flat.congr (centre _ y _ (fun i q => by simp only [Pi.mul_apply]; rw [hR i q, hS i q]) fun _ _ => rfl)
end Stages
end Cert.Heads
end
-- ==== Proof.HeadLines.lean ====
/-
  A store at one point's 128 columns of a row of 1024, over zeros and over what the points before left.
-/
module
public import proofs.«01_k».proof.Proof.HeadSums
public import Idealize.ShloMosaic.Lib.WritesUnit

@[expose] public section
set_option maxRecDepth 16384
noncomputable section
namespace Cert.RwkvPostIdeal.Value
open Cert.RwkvPostIdeal Cert.RwkvPostIdeal.Gen Idealize.ShloMosaic Idealize.ShloMosaic.TcCoe Idealize.SL.Sem

section lines
variable (i : grid0.Coords) {R C : ℕ} {F : ℕ → ℕ → ℝ} {w : FVec Ideal S1x128 .f32}

/-- What a store at the point's columns leaves over zeros. -/
theorem put_first {X : FVec Ideal S1x1024 .f32} (hX : ∀ q, (X q : EReal) = 0) (inb : ∀ a, k0_off1 i a + S1x128.size a ≤ S1x1024.size a)
    (inb0 : ∀ a, (![0, 0] : Fin 2 → ℕ) a + S1x1024.size a ≤ S1x1024.size a)
    (hw : ∀ b : Fin 128, (w (ix2 (0 : Fin 1) b) : EReal) = View.ld (Val := Elt Ideal) (e' := .f32) X (Rect.unit (s := S1x1024) (k0_off1 i) S1x128.size inb) (ix2 (0 : Fin 1) b)
      + ∑ a : Fin 512, ((F (R + a) (C + b) : ℝ) : EReal)) (hC : C = 128 * (i 1).val) (q : Fin 1024) :
    (View.canon (Val := Elt Ideal) (e := .f32) [⟨Rect.unit (s := S1x1024) (k0_off1 i) S1x128.size inb, w⟩, ⟨Rect.unit (s := S1x1024) ![0, 0] S1x1024.size inb0, X⟩] (ix2 (0 : Fin 1) q) : EReal)
      = if q.val / 128 = (i 1).val then ∑ a : Fin 512, ((F (R + a) q : ℝ) : EReal) else 0 := by
  have hq := q.isLt
  by_cases e : q.val / 128 = (i 1).val
  · rw [if_pos e]
    have p : (Rect.unit (s := S1x1024) (k0_off1 i) S1x128.size inb).emb (ix2 (0 : Fin 1) (⟨q.val % 128, by omega⟩ : Fin 128)) = ix2 (0 : Fin 1) q :=
      funext fun a => Fin.ext (by
        refine (congrArg (· + 1 * _) (congrFun (k0_off1_eq i) a)).trans ?_
        match a with
        | ⟨0, _⟩ => rfl
        | ⟨1, _⟩ => show 128 * (i 1).val + 1 * (q.val % 128) = q.val; omega)
    rw [← p]
    refine (View.canon_cons_emb (Val := Elt Ideal) (e := .f32) (Rect.unit (s := S1x1024) (k0_off1 i) S1x128.size inb) w _ _).trans ((hw _).trans ?_)
    rw [show View.ld (Val := Elt Ideal) (e' := .f32) X (Rect.unit (s := S1x1024) (k0_off1 i) S1x128.size inb) _ = (0 : EReal) from hX _, zero_add]
    refine Finset.sum_congr rfl fun a _ => congrArg _ (congrArg (F (R + a)) ?_)
    show C + q.val % 128 = _
    omega
  · rw [if_neg e]
    refine (View.canon_cons_of_not_mem (Val := Elt Ideal) (e := .f32) ⟨Rect.unit (s := S1x1024) (k0_off1 i) S1x128.size inb, w⟩ _ ?_).trans ?_
    · rw [Rect.mem_set_unit]
      intro h
      have h := h 1
      rw [k0_off1_eq] at h
      have h1 : 128 * (i 1).val ≤ q.val := h.1
      have h2 : q.val < 128 * (i 1).val + 128 := h.2
      omega
    · refine (congrFun (View.canon_unit_zero (Val := Elt Ideal) (e := .f32) (funext fun a => by match a with | ⟨0, _⟩ => rfl | ⟨1, _⟩ => rfl) inb0 X) _).trans (hX _)

/-- What a store at the point's columns leaves over what was there. -/
theorem put_next (m : Memref sig .tc .vmem S1x1024 .f32) (hm : m.IsWhole) (u : FVec Ideal S1x1024 .f32)
    (inb : ∀ a, k0_off1 i a + S1x128.size a ≤ S1x1024.size a)
    (hw : ∀ b : Fin 128, (w (ix2 (0 : Fin 1) b) : EReal) = View.ld (Val := Elt Ideal) (e' := .f32) u (Rect.unit (s := S1x1024) (k0_off1 i) S1x128.size inb) (ix2 (0 : Fin 1) b)
      + ∑ a : Fin 512, ((F (R + a) (C + b) : ℝ) : EReal)) (hC : C = 128 * (i 1).val) (q : Fin 1024) :
    (m.view.read (Elt Ideal) (m.view.writes (Elt Ideal) (hm.unread (Val := Elt Ideal) u) [⟨Rect.unit (s := S1x1024) (k0_off1 i) S1x128.size inb, w⟩]) (ix2 (0 : Fin 1) q) : EReal)
      = u (ix2 (0 : Fin 1) q) + if q.val / 128 = (i 1).val then ∑ a : Fin 512, ((F (R + a) q : ℝ) : EReal) else 0 := by
  have hq := q.isLt
  by_cases e : q.val / 128 = (i 1).val
  · rw [if_pos e]
    have p : ∀ a, ((ix2 (0 : Fin 1) q : S1x1024.Idx) a).val = (![0, 128 * (i 1).val] : Fin 2 → ℕ) a
        + ((ix2 (0 : Fin 1) (⟨q.val % 128, by omega⟩ : Fin 128) : S1x128.Idx) a).val := fun a => by
      match a with
      | ⟨0, _⟩ => rfl
      | ⟨1, _⟩ => show q.val = 128 * (i 1).val + q.val % 128; omega
    refine (View.read_writes_cons_unit_of_mem (Val := Elt Ideal) m.view _ inb w [] _ (ix2 (0 : Fin 1) (⟨q.val % 128, by omega⟩ : Fin 128)) (k0_off1_eq i) p).trans
      ((hw _).trans (congrArg₂ (fun s t : EReal => s + t) ?_ ?_))
    · exact View.ld_unit_apply_of (S := S1x1024) (Val := Elt Ideal) (e := .f32) u (k0_off1 i) S1x128.size inb _ _ fun a => (p a).trans (congrArg (· + _) (congrFun (k0_off1_eq i) a).symm)
    · refine Finset.sum_congr rfl fun a _ => congrArg _ (congrArg (F (R + a)) ?_)
      show C + q.val % 128 = _
      omega
  · rw [if_neg e, add_zero]
    refine (View.read_writes_cons_unit_of_not_mem (Val := Elt Ideal) m.view _ inb w [] _ (k0_off1_eq i) 1 ?_).trans (congrFun (hm.read_unread (Val := Elt Ideal) u) _)
    show q.val < 128 * (i 1).val ∨ 128 * (i 1).val + 128 ≤ q.val
    omega
end lines

end Cert.RwkvPostIdeal.Value
end
-- ==== Proof.RwkvPost.lean ====
/-
  The gradient of the RWKV layer's head norm, bonus and gate: each block of the five results that have a row for each token, and the three
  that are sums over the rows, one block of rows and columns after the other.
-/
module
public import proofs.«01_k».proof.Proof.Gen.RwkvPost.Frame
public import proofs.«01_k».proof.Proof.Gen.RwkvPostIdeal.Frame
public import proofs.«01_k».proof.Proof.Gen.RwkvPostIdeal.Value
public import proofs.«01_k».proof.Proof.Gen.RwkvPostRefIdeal.Read
public import proofs.«01_k».proof.Proof.Gen.RwkvPostRefIdeal.Run
public import proofs.«01_k».proof.Proof.Gen.Pre_finite_mix
public import proofs.«01_k».proof.Proof.HeadRef
public import proofs.«01_k».proof.Proof.HeadLines
public import proofs.«01_k».proof.Proof.Finite

@[expose] public section
set_option maxRecDepth 16384
noncomputable section
namespace Cert.RwkvPostIdeal.Value
open Cert.RwkvPostIdeal Cert.RwkvPostIdeal.Gen Idealize.ShloMosaic Idealize.ShloMosaic.TcCoe Idealize.SL.Sem
open Cert.Heads
open Cert.Product (entry entry_eq)

section cases
variable (c : Dev nD) (i : grid0.Coords)
  (a2 : Memref sig .tc .vmem S512x128 .f32) (h2 : a2.IsWhole)
  (a3 : Memref sig .tc .vmem S512x128 .f32) (h3 : a3.IsWhole)
  (a4 : Memref sig .tc .vmem S512x128 .f32) (h4 : a4.IsWhole)
  (a5 : Memref sig .tc .vmem S512x128 .f32) (h5 : a5.IsWhole)
  (a6 : Memref sig .tc .vmem S512x128 .f32) (h6 : a6.IsWhole)
  (a7 : Memref sig .tc .vmem S1x128 .f32) (h7 : a7.IsWhole)
  (a8 : Memref sig .tc .vmem S1x128 .f32) (h8 : a8.IsWhole)
  (a9 : Memref sig .tc .vmem S1x128 .f32) (h9 : a9.IsWhole)
  (a10 : Memref sig .tc .vmem S512x128 .bf16) (h10 : a10.IsWhole)
  (a11 : Memref sig .tc .vmem S512x128 .f32) (h11 : a11.IsWhole)
  (a12 : Memref sig .tc .vmem S512x128 .f32) (h12 : a12.IsWhole)
  (a13 : Memref sig .tc .vmem S512x128 .f32) (h13 : a13.IsWhole)
  (a14 : Memref sig .tc .vmem S512x128 .f32) (h14 : a14.IsWhole)
  (a15 : Memref sig .tc .vmem S512x128 .bf16) (h15 : a15.IsWhole)
  (a16 : Memref sig .tc .vmem S1x1024 .f32) (h16 : a16.IsWhole)
  (a17 : Memref sig .tc .vmem S1x1024 .f32) (h17 : a17.IsWhole)
  (a18 : Memref sig .tc .vmem S1x1024 .f32) (h18 : a18.IsWhole)
  (x0 x1 x2 x3 x4 : FVec Ideal S512x128 .f32) (x5 x6 x7 : FVec Ideal S1x128 .f32) (x8 : FVec Ideal S512x128 .bf16) (u14 u15 u16 : FVec Ideal S1x1024 .f32)
  {R C : ℕ} {y r k v g D : ℕ → ℕ → ℝ} {lg lb rk : ℕ → ℝ}

theorem first_dy (hc : cond0_0 i) (h : Holds R C x0 x1 x2 x3 x4 x5 x6 x7 x8 y r k v g D lg lb rk) :
    Is R C (out0_A_9 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8) (dy y g D lg) := fun j => by
  refine (congrFun ?_ j).trans (h.dy j)
  frame_out
  all_goals rfl

theorem next_dy (hc : ¬cond0_0 i) (h : Holds R C x0 x1 x2 x3 x4 x5 x6 x7 x8 y r k v g D lg lb rk) :
    Is R C (out0_B_9 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 u14 u15 u16) (dy y g D lg) := fun j => by
  refine (congrFun ?_ j).trans (h.dy j)
  frame_out
  all_goals rfl

theorem first_dr (hc : cond0_0 i) (h : Holds R C x0 x1 x2 x3 x4 x5 x6 x7 x8 y r k v g D lg lb rk) :
    Is R C (out0_A_10 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8) (dr k v g D rk) := fun j => by
  refine (congrFun ?_ j).trans (h.dr j)
  frame_out
  all_goals rfl

theorem next_dr (hc : ¬cond0_0 i) (h : Holds R C x0 x1 x2 x3 x4 x5 x6 x7 x8 y r k v g D lg lb rk) :
    Is R C (out0_B_10 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 u14 u15 u16) (dr k v g D rk) := fun j => by
  refine (congrFun ?_ j).trans (h.dr j)
  frame_out
  all_goals rfl

theorem first_dk (hc : cond0_0 i) (h : Holds R C x0 x1 x2 x3 x4 x5 x6 x7 x8 y r k v g D lg lb rk) :
    Is R C (out0_A_11 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8) (dk r v g D rk) := fun j => by
  refine (congrFun ?_ j).trans (h.dk j)
  frame_out
  all_goals rfl

theorem next_dk (hc : ¬cond0_0 i) (h : Holds R C x0 x1 x2 x3 x4 x5 x6 x7 x8 y r k v g D lg lb rk) :
    Is R C (out0_B_11 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 u14 u15 u16) (dk r v g D rk) := fun j => by
  refine (congrFun ?_ j).trans (h.dk j)
  frame_out
  all_goals rfl

theorem first_dv (hc : cond0_0 i) (h : Holds R C x0 x1 x2 x3 x4 x5 x6 x7 x8 y r k v g D lg lb rk) :
    Is R C (out0_A_12 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8) (dv r k g D rk) := fun j => by
  refine (congrFun ?_ j).trans (h.dv j)
  frame_out
  all_goals rfl

theorem next_dv (hc : ¬cond0_0 i) (h : Holds R C x0 x1 x2 x3 x4 x5 x6 x7 x8 y r k v g D lg lb rk) :
    Is R C (out0_B_12 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 u14 u15 u16) (dv r k g D rk) := fun j => by
  refine (congrFun ?_ j).trans (h.dv j)
  frame_out
  all_goals rfl

theorem first_dgate (hc : cond0_0 i) (h : Holds R C x0 x1 x2 x3 x4 x5 x6 x7 x8 y r k v g D lg lb rk) :
    Is R C (out0_A_13 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8) (dgate y r k v g D lg lb rk) := fun j => by
  refine (congrFun ?_ j).trans (h.dgate j)
  frame_out
  all_goals rfl

theorem next_dgate (hc : ¬cond0_0 i) (h : Holds R C x0 x1 x2 x3 x4 x5 x6 x7 x8 y r k v g D lg lb rk) :
    Is R C (out0_B_13 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 u14 u15 u16) (dgate y r k v g D lg lb rk) := fun j => by
  refine (congrFun ?_ j).trans (h.dgate j)
  frame_out
  all_goals rfl

theorem first_dlg (hc : cond0_0 i) (h : Holds R C x0 x1 x2 x3 x4 x5 x6 x7 x8 y r k v g D lg lb rk) (hC : C = 128 * (i 1).val) (q : Fin 1024) :
    ((out0_A_14 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8) (ix2 (0 : Fin 1) q) : EReal)
      = if q.val / 128 = (i 1).val then ∑ a : Fin 512, ((dlg y g D (R + a) q : ℝ) : EReal) else 0 := by
  frame_out
  exact put_first i (fun _ => Cert.Norm.zero_f32) _ _ (fun b => h.dlg _ b) hC q

theorem next_dlg (hc : ¬cond0_0 i) (h : Holds R C x0 x1 x2 x3 x4 x5 x6 x7 x8 y r k v g D lg lb rk) (hC : C = 128 * (i 1).val) (q : Fin 1024) :
    ((out0_B_14 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 u14 u15 u16) (ix2 (0 : Fin 1) q) : EReal)
      = u14 (ix2 (0 : Fin 1) q) + if q.val / 128 = (i 1).val then ∑ a : Fin 512, ((dlg y g D (R + a) q : ℝ) : EReal) else 0 := by
  frame_out
  exact put_next i a16 h16 u14 _ (fun b => h.dlg _ b) hC q

theorem first_dlb (hc : cond0_0 i) (h : Holds R C x0 x1 x2 x3 x4 x5 x6 x7 x8 y r k v g D lg lb rk) (hC : C = 128 * (i 1).val) (q : Fin 1024) :
    ((out0_A_15 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8) (ix2 (0 : Fin 1) q) : EReal)
      = if q.val / 128 = (i 1).val then ∑ a : Fin 512, ((gated g D (R + a) q : ℝ) : EReal) else 0 := by
  frame_out
  exact put_first i (fun _ => Cert.Norm.zero_f32) _ _ (fun b => h.dlb _ b) hC q

theorem next_dlb (hc : ¬cond0_0 i) (h : Holds R C x0 x1 x2 x3 x4 x5 x6 x7 x8 y r k v g D lg lb rk) (hC : C = 128 * (i 1).val) (q : Fin 1024) :
    ((out0_B_15 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 u14 u15 u16) (ix2 (0 : Fin 1) q) : EReal)
      = u15 (ix2 (0 : Fin 1) q) + if q.val / 128 = (i 1).val then ∑ a : Fin 512, ((gated g D (R + a) q : ℝ) : EReal) else 0 := by
  frame_out
  exact put_next i a17 h17 u15 _ (fun b => h.dlb _ b) hC q

theorem first_drk (hc : cond0_0 i) (h : Holds R C x0 x1 x2 x3 x4 x5 x6 x7 x8 y r k v g D lg lb rk) (hC : C = 128 * (i 1).val) (q : Fin 1024) :
    ((out0_A_16 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8) (ix2 (0 : Fin 1) q) : EReal)
      = if q.val / 128 = (i 1).val then ∑ a : Fin 512, ((drk r k v g D (R + a) q : ℝ) : EReal) else 0 := by
  frame_out
  exact put_first i (fun _ => Cert.Norm.zero_f32) _ _ (fun b => h.drk _ b) hC q

theorem next_drk (hc : ¬cond0_0 i) (h : Holds R C x0 x1 x2 x3 x4 x5 x6 x7 x8 y r k v g D lg lb rk) (hC : C = 128 * (i 1).val) (q : Fin 1024) :
    ((out0_B_16 (F := Ideal) c i a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 u14 u15 u16) (ix2 (0 : Fin 1) q) : EReal)
      = u16 (ix2 (0 : Fin 1) q) + if q.val / 128 = (i 1).val then ∑ a : Fin 512, ((drk r k v g D (R + a) q : ℝ) : EReal) else 0 := by
  frame_out
  exact put_next i a18 h18 u16 _ (fun b => h.drk _ b) hC q

end cases

/-- Where each window's block lies. -/
theorem idx : ∀ t : Fin cfg0.N, t.val < 64 ∧ ((grid0.coords t) 1).val = t.val % 8 ∧ win0_0.index t = ![t.val / 8, t.val % 8]
    ∧ win0_1.index t = ![t.val / 8, t.val % 8] ∧ win0_2.index t = ![t.val / 8, t.val % 8] ∧ win0_3.index t = ![t.val / 8, t.val % 8]
    ∧ win0_4.index t = ![t.val / 8, 56 + t.val % 8] ∧ win0_5.index t = ![0, t.val % 8] ∧ win0_6.index t = ![0, t.val % 8]
    ∧ win0_7.index t = ![0, t.val % 8] ∧ win0_8.index t = ![t.val / 8, 8 + t.val % 8] :=
  (by decide +kernel : ∀ t : Fin grid0.N, _)

theorem idx_out : ∀ t : Fin cfg0.N, win0_9.index t = ![t.val / 8, t.val % 8] ∧ win0_10.index t = ![t.val / 8, t.val % 8]
    ∧ win0_11.index t = ![t.val / 8, t.val % 8] ∧ win0_12.index t = ![t.val / 8, t.val % 8] ∧ win0_13.index t = ![t.val / 8, t.val % 8]
    ∧ win0_14.index t = ![0, 0] ∧ win0_15.index t = ![0, 0] ∧ win0_16.index t = ![0, 0] :=
  (by decide +kernel : ∀ t : Fin grid0.N, _)

section sums
/-- A sum over the rows, the points of one block of columns taken from all the points. -/
theorem regroup (f : ℕ → EReal) (s : ℕ) (hs : s < 8) :
    ∑ k : Fin 32768, (if s = (k : ℕ) / 512 % 8 then f ((k : ℕ) / 512 / 8 * 512 + (k : ℕ) % 512) else 0) = ∑ a : Fin 4096, f a := by
  rw [Fin.sum_univ_eq_sum_range (fun k => if s = k / 512 % 8 then f (k / 512 / 8 * 512 + k % 512) else 0), Fin.sum_univ_eq_sum_range f,
    show 32768 = 64 * 512 from rfl, show 4096 = 8 * 512 from rfl, ← Cert.Product.sum_blocks _ 512 64, ← Cert.Product.sum_blocks f 512 8]
  have e : ∀ k : ℕ, (∑ l : Fin 512, if s = (k * 512 + l) / 512 % 8 then f ((k * 512 + l) / 512 / 8 * 512 + (k * 512 + l) % 512) else 0)
      = (fun k => if s = k % 8 then ∑ l : Fin 512, f (k / 8 * 512 + l) else 0) k := fun k => by
    have e1 : ∀ l : Fin 512, (k * 512 + (l : ℕ)) / 512 = k := fun l => by omega
    have e2 : ∀ l : Fin 512, (k * 512 + (l : ℕ)) % 512 = l := fun l => by omega
    simp only [e1, e2]
    split_ifs <;> simp
  rw [Finset.sum_congr rfl fun k _ => e k, show 64 = 8 * 8 from rfl, ← Cert.Product.sum_blocks _ 8 8]
  refine Finset.sum_congr rfl fun k _ => ?_
  have e3 : ∀ j : Fin 8, (k * 8 + (j : ℕ)) % 8 = j := fun j => by omega
  have e4 : ∀ j : Fin 8, (k * 8 + (j : ℕ)) / 8 = k := fun j => by omega
  simp only [e3, e4]
  rw [Finset.sum_eq_single (⟨s, hs⟩ : Fin 8) (fun j _ hj => if_neg fun h => hj (Fin.ext h.symm)) (fun h => absurd (Finset.mem_univ _) h), if_pos rfl]

/-- A row that every point adds its own columns to. -/
theorem column (S : (n : ℕ) → n < cfg0.N → EReal) (f : ℕ → ℕ → ℝ) (q : Fin 1024)
    (h0 : ∀ t : Fin cfg0.N, t.val % 64 = 0 → S t.val t.isLt = if q.val / 128 = t.val % 8 then ∑ a : Fin 512, ((f (t.val / 8 * 512 + a) q : ℝ) : EReal) else 0)
    (h1 : ∀ t : Fin cfg0.N, ¬t.val % 64 = 0 → S t.val t.isLt = S (t.val - 1) (Nat.lt_of_le_of_lt (Nat.sub_le _ _) t.isLt)
      + if q.val / 128 = t.val % 8 then ∑ a : Fin 512, ((f (t.val / 8 * 512 + a) q : ℝ) : EReal) else 0)
    (t : Fin cfg0.N) (ht : t.val % 64 + 1 = 64) : S t.val t.isLt = ∑ a : Fin 4096, ((f a q : ℝ) : EReal) := by
  have hq := q.isLt
  rw [← regroup (fun a => ((f a q : ℝ) : EReal)) (q.val / 128) (by omega)]
  have e : ∀ t : Fin cfg0.N, (∑ l : Fin 512, if q.val / 128 = (t.val % 64 * 512 + l) / 512 % 8
        then ((f ((t.val % 64 * 512 + l) / 512 / 8 * 512 + (t.val % 64 * 512 + l) % 512) q : ℝ) : EReal) else 0)
      = if q.val / 128 = t.val % 8 then ∑ a : Fin 512, ((f (t.val / 8 * 512 + a) q : ℝ) : EReal) else 0 := fun t => by
    have ht := (idx t).1
    have e1 : ∀ l : Fin 512, (t.val % 64 * 512 + (l : ℕ)) / 512 = t.val := fun l => by omega
    have e2 : ∀ l : Fin 512, (t.val % 64 * 512 + (l : ℕ)) % 512 = l := fun l => by omega
    simp only [e1, e2]
    split_ifs <;> simp
  exact Cert.Product.running (p := 64) (T := 512) rfl S
    (fun _ k => if q.val / 128 = k / 512 % 8 then ((f (k / 512 / 8 * 512 + k % 512) q : ℝ) : EReal) else 0)
    (fun t h => (h0 t h).trans (e t).symm) (fun t h => (h1 t h).trans (congrArg _ (e t).symm)) t ht
end sums

/-- A block and a whole array of one model agree where the block lies. -/
theorem meet {x : S512x128.Idx → EReal} {X : S4096x1024.Idx → EReal} {f : ℕ → ℕ → ℝ} {R C : ℕ} (hx : Is R C x f) (hX : At pF X f)
    (a : Fin 512) (b : Fin 128) (ha : R + a < 4096) (hb : C + b < 1024) : x (ix2 a b) = X (ix2 ⟨R + a, ha⟩ ⟨C + b, hb⟩) :=
  (hx (ix2 a b)).trans (hX (ix2 ⟨R + a, ha⟩ ⟨C + b, hb⟩)).symm

variable (m : (ℓ : Loc nD τ sig) → Buf (Elt Ideal) ℓ) (c : Dev nD)

/-- The arguments. -/
abbrev X0 : FVec Ideal S4096x1024 .f32 := m ((c : Thread nD τ).loc main_arg0)
abbrev X1 : FVec Ideal S4096x1024 .f32 := m ((c : Thread nD τ).loc main_arg1)
abbrev X2 : FVec Ideal S4096x1024 .f32 := m ((c : Thread nD τ).loc main_arg2)
abbrev X3 : FVec Ideal S4096x1024 .f32 := m ((c : Thread nD τ).loc main_arg3)
abbrev X4 : FVec Ideal S4096x8448 .f32 := m ((c : Thread nD τ).loc main_arg4)
abbrev X5 : FVec Ideal S1x1024 .f32 := m ((c : Thread nD τ).loc main_arg5)
abbrev X6 : FVec Ideal S1x1024 .f32 := m ((c : Thread nD τ).loc main_arg6)
abbrev X7 : FVec Ideal S1x1024 .f32 := m ((c : Thread nD τ).loc main_arg7)
abbrev X8 : FVec Ideal S4096x2048 .bf16 := m ((c : Thread nD τ).loc main_arg8)

/-- The arguments hold real numbers. -/
structure Nums (y r k v g D lg lb rk : ℕ → ℕ → ℝ) : Prop where
  y : ∀ (a : Fin 4096) (n : Fin 1024), (X0 m c (ix2 a n) : EReal) = ((y a n : ℝ) : EReal)
  r : ∀ (a : Fin 4096) (n : Fin 1024), (X1 m c (ix2 a n) : EReal) = ((r a n : ℝ) : EReal)
  k : ∀ (a : Fin 4096) (n : Fin 1024), (X2 m c (ix2 a n) : EReal) = ((k a n : ℝ) : EReal)
  v : ∀ (a : Fin 4096) (n : Fin 1024), (X3 m c (ix2 a n) : EReal) = ((v a n : ℝ) : EReal)
  g : ∀ (a : Fin 4096) (n : Fin 8448), (X4 m c (ix2 a n) : EReal) = ((g a n : ℝ) : EReal)
  lg : ∀ (a : Fin 1) (n : Fin 1024), (X5 m c (ix2 a n) : EReal) = ((lg a n : ℝ) : EReal)
  lb : ∀ (a : Fin 1) (n : Fin 1024), (X6 m c (ix2 a n) : EReal) = ((lb a n : ℝ) : EReal)
  rk : ∀ (a : Fin 1) (n : Fin 1024), (X7 m c (ix2 a n) : EReal) = ((rk a n : ℝ) : EReal)
  D : ∀ (a : Fin 4096) (n : Fin 2048), (X8 m c (ix2 a n) : EReal) = ((D a n : ℝ) : EReal)

section finite
open Cert.Fox (all_real numbers inf_f32 inf_bf16)

theorem nums (h : Cert.Pre_RwkvPostIdeal_finite_mix m) : ∃ y r k v g D lg lb rk, Nums m c y r k v g D lg lb rk := by
  obtain ⟨h0, h1, h2, h3, h4, h5, h6, h7, h8⟩ := h c
  dsimp only [Cert.Pre_finite_mix.fn, Cert.Pre_finite_mix.fn_part1, Cert.Pre_finite_mix.fn_part2] at h0 h1 h2 h3 h4 h5 h6 h7 h8
  obtain ⟨y, hy⟩ := numbers (A := 4096) (B := 1024) _ (all_real (X0 m c) _ _ _ _ h0 (fun _ => inf_f32))
  obtain ⟨r, hr⟩ := numbers (A := 4096) (B := 1024) _ (all_real (X1 m c) _ _ _ _ h1 (fun _ => inf_f32))
  obtain ⟨k, hk⟩ := numbers (A := 4096) (B := 1024) _ (all_real (X2 m c) _ _ _ _ h2 (fun _ => inf_f32))
  obtain ⟨v, hv⟩ := numbers (A := 4096) (B := 1024) _ (all_real (X3 m c) _ _ _ _ h3 (fun _ => inf_f32))
  obtain ⟨g, hg⟩ := numbers (A := 4096) (B := 8448) _ (all_real (X4 m c) _ _ _ _ h4 (fun _ => inf_f32))
  obtain ⟨lg, hlg⟩ := numbers (A := 1) (B := 1024) _ (all_real (X5 m c) _ _ _ _ h5 (fun _ => inf_f32))
  obtain ⟨lb, hlb⟩ := numbers (A := 1) (B := 1024) _ (all_real (X6 m c) _ _ _ _ h6 (fun _ => inf_f32))
  obtain ⟨rk, hrk⟩ := numbers (A := 1) (B := 1024) _ (all_real (X7 m c) _ _ _ _ h7 (fun _ => inf_f32))
  obtain ⟨D, hD⟩ := numbers (A := 4096) (B := 2048) _ (all_real (X8 m c) _ _ _ _ h8 (fun _ => inf_bf16))
  exact ⟨y, r, k, v, g, D, lg, lb, rk, hy, hr, hk, hv, hg, hlg, hlb, hrk, hD⟩
end finite

variable {m c} {y r k v g D lg lb rk : ℕ → ℕ → ℝ} (h : Nums m c y r k v g D lg lb rk)
include h

theorem given : Given (X0 m c) (X1 m c) (X2 m c) (X3 m c) (X4 m c) (X5 m c) (X6 m c) (X7 m c) (X8 m c) y r k v (fun i q => g i (7168 + q))
    (fun i q => D i (1024 + q)) (lg 0) (lb 0) (rk 0) where
  y := fun i => (congrArg (X0 m c) (eq_ix2 i)).trans (h.y _ _)
  r := fun i => (congrArg (X1 m c) (eq_ix2 i)).trans (h.r _ _)
  k := fun i => (congrArg (X2 m c) (eq_ix2 i)).trans (h.k _ _)
  v := fun i => (congrArg (X3 m c) (eq_ix2 i)).trans (h.v _ _)
  g := fun i => by
    rw [Cert.RwkvPostRefIdeal.Read.val_main_v0_apply]
    exact (congrArg (X4 m c) (eq_ix2 _)).trans ((h.g _ _).trans (congrArg _ (congrArg₂ g rfl rfl)))
  lg := fun i => (congrArg (X5 m c) (eq_ix2 i)).trans ((h.lg _ _).trans (congrArg _ (congrArg (lg · _) (Fin.val_eq_zero _))))
  lb := fun i => (congrArg (X6 m c) (eq_ix2 i)).trans ((h.lb _ _).trans (congrArg _ (congrArg (lb · _) (Fin.val_eq_zero _))))
  rk := fun i => (congrArg (X7 m c) (eq_ix2 i)).trans ((h.rk _ _).trans (congrArg _ (congrArg (rk · _) (Fin.val_eq_zero _))))
  D := fun i => by
    rw [Cert.RwkvPostRefIdeal.Read.val_main_v46_apply, Cert.RwkvPostRefIdeal.Read.val_main_v45_apply]
    exact (congrArg (X8 m c) (eq_ix2 _)).trans ((h.D _ _).trans (congrArg _ (congrArg₂ D rfl rfl)))

/-- The blocks of one point. -/
theorem holds (t : Fin cfg0.N) : Holds (t.val / 8 * 512) (t.val % 8 * 128) (iblk m c 0 t) (iblk m c 1 t) (iblk m c 2 t) (iblk m c 3 t) (iblk m c 4 t)
    (iblk m c 5 t) (iblk m c 6 t) (iblk m c 7 t) (iblk m c 8 t) y r k v (fun i q => g i (7168 + q)) (fun i q => D i (1024 + q)) (lg 0) (lb 0) (rk 0) where
  hC := Dvd.dvd.mul_left (by norm_num) _
  y := fun i => by
    obtain ⟨a, b, rfl⟩ : ∃ (a : Fin 512) (b : Fin 128), i = ix2 a b := ⟨_, _, eq_ix2 i⟩
    have ht := (idx t).1
    refine Eq.trans ?_ ((h.y ⟨t.val / 8 * 512 + a, by omega⟩ ⟨t.val % 8 * 128 + b, by omega⟩))
    blk_ext [iblk, V, idx t]
  r := fun i => by
    obtain ⟨a, b, rfl⟩ : ∃ (a : Fin 512) (b : Fin 128), i = ix2 a b := ⟨_, _, eq_ix2 i⟩
    have ht := (idx t).1
    refine Eq.trans ?_ ((h.r ⟨t.val / 8 * 512 + a, by omega⟩ ⟨t.val % 8 * 128 + b, by omega⟩))
    blk_ext [iblk, V, idx t]
  k := fun i => by
    obtain ⟨a, b, rfl⟩ : ∃ (a : Fin 512) (b : Fin 128), i = ix2 a b := ⟨_, _, eq_ix2 i⟩
    have ht := (idx t).1
    refine Eq.trans ?_ ((h.k ⟨t.val / 8 * 512 + a, by omega⟩ ⟨t.val % 8 * 128 + b, by omega⟩))
    blk_ext [iblk, V, idx t]
  v := fun i => by
    obtain ⟨a, b, rfl⟩ : ∃ (a : Fin 512) (b : Fin 128), i = ix2 a b := ⟨_, _, eq_ix2 i⟩
    have ht := (idx t).1
    refine Eq.trans ?_ ((h.v ⟨t.val / 8 * 512 + a, by omega⟩ ⟨t.val % 8 * 128 + b, by omega⟩))
    blk_ext [iblk, V, idx t]
  g := fun i => by
    obtain ⟨a, b, rfl⟩ : ∃ (a : Fin 512) (b : Fin 128), i = ix2 a b := ⟨_, _, eq_ix2 i⟩
    have ht := (idx t).1
    refine Eq.trans ?_ ((h.g ⟨t.val / 8 * 512 + a, by omega⟩ ⟨7168 + (t.val % 8 * 128 + b), by omega⟩))
    blk_ext [iblk, V, idx t]
  lg := fun b => by
    have ht := (idx t).1
    refine Eq.trans ?_ (h.lg 0 ⟨t.val % 8 * 128 + b, by omega⟩)
    blk_ext [iblk, V, idx t]
  lb := fun b => by
    have ht := (idx t).1
    refine Eq.trans ?_ (h.lb 0 ⟨t.val % 8 * 128 + b, by omega⟩)
    blk_ext [iblk, V, idx t]
  rk := fun b => by
    have ht := (idx t).1
    refine Eq.trans ?_ (h.rk 0 ⟨t.val % 8 * 128 + b, by omega⟩)
    blk_ext [iblk, V, idx t]
  D := fun i => by
    obtain ⟨a, b, rfl⟩ : ∃ (a : Fin 512) (b : Fin 128), i = ix2 a b := ⟨_, _, eq_ix2 i⟩
    have ht := (idx t).1
    refine Eq.trans ?_ ((h.D ⟨t.val / 8 * 512 + a, by omega⟩ ⟨1024 + (t.val % 8 * 128 + b), by omega⟩))
    blk_ext [iblk, V, idx t]

theorem left_dy (t : Fin cfg0.N) : Is (t.val / 8 * 512) (t.val % 8 * 128) (outsAt0 m c t.val t.isLt).1 (dy y (fun i q => g i (7168 + q)) (fun i q => D i (1024 + q)) (lg 0)) := by
  by_cases h0 : t.val % 64 = 0
  · rw [outsAt0_A m c t h0]; dsimp only; apply first_dy; exact holds h t
  · rw [outsAt0_B m c t h0]; dsimp only; apply next_dy; exact holds h t

theorem result_dy : (dats m 0 c).arrAt 9 cfg0.N = Cert.RwkvPostRefIdeal.Read.val_main_v101 (F := Ideal) (X0 m c) (X4 m c) (X5 m c) (X8 m c) := by
  refine (dats m 0 c).arrAt_eq_of_covers 9 _ (by decide +kernel) fun t hf i => ?_
  blk_simp
  rw [after0_9]
  obtain ⟨a, b, rfl⟩ : ∃ (a : Fin 512) (b : Fin 128), i = ix2 a b := ⟨_, _, eq_ix2 i⟩
  have ht := (idx t).1
  have e : (win0_9.blk t).view.emb (ix2 a b) = ix2 (⟨t.val / 8 * 512 + a, by omega⟩ : Fin 4096) (⟨t.val % 8 * 128 + b, by omega⟩ : Fin 1024) := by
    blk_ext [idx_out t]
  rw [e]
  exact meet (left_dy h t) (given h).dy a b _ _

theorem left_dr (t : Fin cfg0.N) : Is (t.val / 8 * 512) (t.val % 8 * 128) (outsAt0 m c t.val t.isLt).2.1 (dr k v (fun i q => g i (7168 + q)) (fun i q => D i (1024 + q)) (rk 0)) := by
  by_cases h0 : t.val % 64 = 0
  · rw [outsAt0_A m c t h0]; dsimp only; apply first_dr; exact holds h t
  · rw [outsAt0_B m c t h0]; dsimp only; apply next_dr; exact holds h t

theorem result_dr : (dats m 0 c).arrAt 10 cfg0.N = Cert.RwkvPostRefIdeal.Read.val_main_v68 (F := Ideal) (X2 m c) (X3 m c) (X4 m c) (X7 m c) (X8 m c) := by
  refine (dats m 0 c).arrAt_eq_of_covers 10 _ (by decide +kernel) fun t hf i => ?_
  blk_simp
  rw [after0_10]
  obtain ⟨a, b, rfl⟩ : ∃ (a : Fin 512) (b : Fin 128), i = ix2 a b := ⟨_, _, eq_ix2 i⟩
  have ht := (idx t).1
  have e : (win0_10.blk t).view.emb (ix2 a b) = ix2 (⟨t.val / 8 * 512 + a, by omega⟩ : Fin 4096) (⟨t.val % 8 * 128 + b, by omega⟩ : Fin 1024) := by
    blk_ext [idx_out t]
  rw [e]
  exact meet (left_dr h t) (given h).dr a b _ _

theorem left_dk (t : Fin cfg0.N) : Is (t.val / 8 * 512) (t.val % 8 * 128) (outsAt0 m c t.val t.isLt).2.2.1 (dk r v (fun i q => g i (7168 + q)) (fun i q => D i (1024 + q)) (rk 0)) := by
  by_cases h0 : t.val % 64 = 0
  · rw [outsAt0_A m c t h0]; dsimp only; apply first_dk; exact holds h t
  · rw [outsAt0_B m c t h0]; dsimp only; apply next_dk; exact holds h t

theorem result_dk : (dats m 0 c).arrAt 11 cfg0.N = Cert.RwkvPostRefIdeal.Read.val_main_v67 (F := Ideal) (X1 m c) (X3 m c) (X4 m c) (X7 m c) (X8 m c) := by
  refine (dats m 0 c).arrAt_eq_of_covers 11 _ (by decide +kernel) fun t hf i => ?_
  blk_simp
  rw [after0_11]
  obtain ⟨a, b, rfl⟩ : ∃ (a : Fin 512) (b : Fin 128), i = ix2 a b := ⟨_, _, eq_ix2 i⟩
  have ht := (idx t).1
  have e : (win0_11.blk t).view.emb (ix2 a b) = ix2 (⟨t.val / 8 * 512 + a, by omega⟩ : Fin 4096) (⟨t.val % 8 * 128 + b, by omega⟩ : Fin 1024) := by
    blk_ext [idx_out t]
  rw [e]
  exact meet (left_dk h t) (given h).dk a b _ _

theorem left_dv (t : Fin cfg0.N) : Is (t.val / 8 * 512) (t.val % 8 * 128) (outsAt0 m c t.val t.isLt).2.2.2.1 (dv r k (fun i q => g i (7168 + q)) (fun i q => D i (1024 + q)) (rk 0)) := by
  by_cases h0 : t.val % 64 = 0
  · rw [outsAt0_A m c t h0]; dsimp only; apply first_dv; exact holds h t
  · rw [outsAt0_B m c t h0]; dsimp only; apply next_dv; exact holds h t

theorem result_dv : (dats m 0 c).arrAt 12 cfg0.N = Cert.RwkvPostRefIdeal.Read.val_main_v56 (F := Ideal) (X1 m c) (X2 m c) (X4 m c) (X7 m c) (X8 m c) := by
  refine (dats m 0 c).arrAt_eq_of_covers 12 _ (by decide +kernel) fun t hf i => ?_
  blk_simp
  rw [after0_12]
  obtain ⟨a, b, rfl⟩ : ∃ (a : Fin 512) (b : Fin 128), i = ix2 a b := ⟨_, _, eq_ix2 i⟩
  have ht := (idx t).1
  have e : (win0_12.blk t).view.emb (ix2 a b) = ix2 (⟨t.val / 8 * 512 + a, by omega⟩ : Fin 4096) (⟨t.val % 8 * 128 + b, by omega⟩ : Fin 1024) := by
    blk_ext [idx_out t]
  rw [e]
  exact meet (left_dv h t) (given h).dv a b _ _

theorem left_dgate (t : Fin cfg0.N) : Is (t.val / 8 * 512) (t.val % 8 * 128) (outsAt0 m c t.val t.isLt).2.2.2.2.1 (dgate y r k v (fun i q => g i (7168 + q)) (fun i q => D i (1024 + q)) (lg 0) (lb 0) (rk 0)) := by
  by_cases h0 : t.val % 64 = 0
  · rw [outsAt0_A m c t h0]; dsimp only; apply first_dgate; exact holds h t
  · rw [outsAt0_B m c t h0]; dsimp only; apply next_dgate; exact holds h t

theorem result_dgate : (dats m 0 c).arrAt 13 cfg0.N = Cert.RwkvPostRefIdeal.Read.val_main_v102 (F := Ideal) (X0 m c) (X1 m c) (X2 m c) (X3 m c) (X4 m c) (X5 m c) (X6 m c) (X7 m c) (X8 m c) := by
  refine (dats m 0 c).arrAt_eq_of_covers 13 _ (by decide +kernel) fun t hf i => ?_
  blk_simp
  rw [after0_13]
  obtain ⟨a, b, rfl⟩ : ∃ (a : Fin 512) (b : Fin 128), i = ix2 a b := ⟨_, _, eq_ix2 i⟩
  have ht := (idx t).1
  have e : (win0_13.blk t).view.emb (ix2 a b) = ix2 (⟨t.val / 8 * 512 + a, by omega⟩ : Fin 4096) (⟨t.val % 8 * 128 + b, by omega⟩ : Fin 1024) := by
    blk_ext [idx_out t]
  rw [e]
  exact meet (left_dgate h t) (given h).dgate a b _ _

theorem left_dlg (t : Fin cfg0.N) (ht : t.val % 64 + 1 = 64) (q : Fin 1024) :
    (((outsAt0 m c t.val t.isLt).2.2.2.2.2.1 : FVec Ideal S1x1024 .f32) (ix2 (0 : Fin 1) q) : EReal) = ∑ a : Fin 4096, ((dlg y (fun i q => g i (7168 + q)) (fun i q => D i (1024 + q)) a q : ℝ) : EReal) := by
  refine column (fun n hn => (((outsAt0 m c n hn).2.2.2.2.2.1 : FVec Ideal S1x1024 .f32) (ix2 (0 : Fin 1) q) : EReal)) _ q (fun t h0 => ?_) (fun t h0 => ?_) t ht
  · have e := (idx t).2.1
    rw [outsAt0_A m c t h0]; dsimp only
    rw [first_dlg (h := holds h t) (hC := by rw [e, mul_comm]), e]
  · have e := (idx t).2.1
    rw [outsAt0_B m c t h0]; dsimp only
    rw [next_dlg (h := holds h t) (hC := by rw [e, mul_comm]), e]

theorem result_dlg : (dats m 0 c).arrAt 14 cfg0.N = Cert.RwkvPostRefIdeal.Read.val_main_v73 (F := Ideal) (X0 m c) (X4 m c) (X8 m c) := by
  refine (dats m 0 c).arrAt_eq_of_covers 14 _ (by decide +kernel) fun t hf i => ?_
  blk_simp
  rw [after0_14]
  obtain ⟨b, rfl⟩ : ∃ (b : Fin 1024), i = ix2 (0 : Fin 1) b := ⟨i 1, (eq_ix2 i).trans (congrArg (ix2 · _) (Subsingleton.elim _ _))⟩
  have e : (win0_14.blk t).view.emb (ix2 (0 : Fin 1) b) = ix2 (0 : Fin 1) b := by
    blk_ext [idx_out t]
  rw [e]
  exact (left_dlg h t (by have := (flush0_14 t).mp hf; omega) b).trans ((given h).dlg b).symm

theorem left_dlb (t : Fin cfg0.N) (ht : t.val % 64 + 1 = 64) (q : Fin 1024) :
    (((outsAt0 m c t.val t.isLt).2.2.2.2.2.2.1 : FVec Ideal S1x1024 .f32) (ix2 (0 : Fin 1) q) : EReal) = ∑ a : Fin 4096, ((gated (fun i q => g i (7168 + q)) (fun i q => D i (1024 + q)) a q : ℝ) : EReal) := by
  refine column (fun n hn => (((outsAt0 m c n hn).2.2.2.2.2.2.1 : FVec Ideal S1x1024 .f32) (ix2 (0 : Fin 1) q) : EReal)) _ q (fun t h0 => ?_) (fun t h0 => ?_) t ht
  · have e := (idx t).2.1
    rw [outsAt0_A m c t h0]; dsimp only
    rw [first_dlb (h := holds h t) (hC := by rw [e, mul_comm]), e]
  · have e := (idx t).2.1
    rw [outsAt0_B m c t h0]; dsimp only
    rw [next_dlb (h := holds h t) (hC := by rw [e, mul_comm]), e]

theorem result_dlb : (dats m 0 c).arrAt 15 cfg0.N = Cert.RwkvPostRefIdeal.Read.val_main_v70 (F := Ideal) (X4 m c) (X8 m c) := by
  refine (dats m 0 c).arrAt_eq_of_covers 15 _ (by decide +kernel) fun t hf i => ?_
  blk_simp
  rw [after0_15]
  obtain ⟨b, rfl⟩ : ∃ (b : Fin 1024), i = ix2 (0 : Fin 1) b := ⟨i 1, (eq_ix2 i).trans (congrArg (ix2 · _) (Subsingleton.elim _ _))⟩
  have e : (win0_15.blk t).view.emb (ix2 (0 : Fin 1) b) = ix2 (0 : Fin 1) b := by
    blk_ext [idx_out t]
  rw [e]
  exact (left_dlb h t (by have := (flush0_15 t).mp hf; omega) b).trans ((given h).dlb b).symm

theorem left_drk (t : Fin cfg0.N) (ht : t.val % 64 + 1 = 64) (q : Fin 1024) :
    (((outsAt0 m c t.val t.isLt).2.2.2.2.2.2.2 : FVec Ideal S1x1024 .f32) (ix2 (0 : Fin 1) q) : EReal) = ∑ a : Fin 4096, ((drk r k v (fun i q => g i (7168 + q)) (fun i q => D i (1024 + q)) a q : ℝ) : EReal) := by
  refine column (fun n hn => (((outsAt0 m c n hn).2.2.2.2.2.2.2 : FVec Ideal S1x1024 .f32) (ix2 (0 : Fin 1) q) : EReal)) _ q (fun t h0 => ?_) (fun t h0 => ?_) t ht
  · have e := (idx t).2.1
    rw [outsAt0_A m c t h0]; dsimp only
    rw [first_drk (h := holds h t) (hC := by rw [e, mul_comm]), e]
  · have e := (idx t).2.1
    rw [outsAt0_B m c t h0]; dsimp only
    rw [next_drk (h := holds h t) (hC := by rw [e, mul_comm]), e]

theorem result_drk : (dats m 0 c).arrAt 16 cfg0.N = Cert.RwkvPostRefIdeal.Read.val_main_v64 (F := Ideal) (X1 m c) (X2 m c) (X3 m c) (X4 m c) (X8 m c) := by
  refine (dats m 0 c).arrAt_eq_of_covers 16 _ (by decide +kernel) fun t hf i => ?_
  blk_simp
  rw [after0_16]
  obtain ⟨b, rfl⟩ : ∃ (b : Fin 1024), i = ix2 (0 : Fin 1) b := ⟨i 1, (eq_ix2 i).trans (congrArg (ix2 · _) (Subsingleton.elim _ _))⟩
  have e : (win0_16.blk t).view.emb (ix2 (0 : Fin 1) b) = ix2 (0 : Fin 1) b := by
    blk_ext [idx_out t]
  rw [e]
  exact (left_drk h t (by have := (flush0_16 t).mp hf; omega) b).trans ((given h).drk b).symm

omit h in
theorem frame_reference : Cert.quiescent_RwkvPostRefIdeal := fun m g _ =>
  (θ_run Cert.RwkvPostRefIdeal.defs _ _).mono (fun r h => ⟨fun c => (h c).2.2.2.2.2.2.2.2, sem_eq_zero_of_no_sems (by decide) r.2⟩)
    (Cert.RwkvPostRefIdeal.Value.run (F := Ideal) m g)

omit h in
theorem algebraic : Cert.algebraic_RwkvPostIdeal_RwkvPostRefIdeal_pre_finite_mix := fun m g m' g' hpre agree =>
  ⟨fun c => (Cert.RwkvPostIdeal.Gen.dats m 0 c).arrAt 9 Cert.RwkvPostIdeal.cfg0.N,
    fun c => (Cert.RwkvPostIdeal.Gen.dats m 0 c).arrAt 10 Cert.RwkvPostIdeal.cfg0.N,
    fun c => (Cert.RwkvPostIdeal.Gen.dats m 0 c).arrAt 11 Cert.RwkvPostIdeal.cfg0.N,
    fun c => (Cert.RwkvPostIdeal.Gen.dats m 0 c).arrAt 12 Cert.RwkvPostIdeal.cfg0.N,
    fun c => (Cert.RwkvPostIdeal.Gen.dats m 0 c).arrAt 13 Cert.RwkvPostIdeal.cfg0.N,
    fun c => (Cert.RwkvPostIdeal.Gen.dats m 0 c).arrAt 14 Cert.RwkvPostIdeal.cfg0.N,
    fun c => (Cert.RwkvPostIdeal.Gen.dats m 0 c).arrAt 15 Cert.RwkvPostIdeal.cfg0.N,
    fun c => (Cert.RwkvPostIdeal.Gen.dats m 0 c).arrAt 16 Cert.RwkvPostIdeal.cfg0.N,
    run_blocks m g, θ_run_mono (Cert.RwkvPostRefIdeal.Value.run (F := Ideal) m' g') fun r h c => by
      obtain ⟨y, r, k, v, g, D, lg, lb, rk, hn⟩ := nums m c hpre
      obtain ⟨e0, e1, e2, e3, e4, e5, e6, e7, e8⟩ := agree c
      refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩
      · refine (Cert.RwkvPostRefIdeal.Read.val_main_v101_eq m' c).trans ?_
        rw [e0, e4, e5, e8]
        exact (result_dy hn).symm
      · refine (Cert.RwkvPostRefIdeal.Read.val_main_v68_eq _ _ _ _ _).trans ?_
        rw [e2, e3, e4, e7, e8]
        exact (result_dr hn).symm
      · refine (Cert.RwkvPostRefIdeal.Read.val_main_v67_eq _ _ _ _ _).trans ?_
        rw [e1, e3, e4, e7, e8]
        exact (result_dk hn).symm
      · refine (Cert.RwkvPostRefIdeal.Read.val_main_v56_eq _ _ _ _ _).trans ?_
        rw [e1, e2, e4, e7, e8]
        exact (result_dv hn).symm
      · refine (Cert.RwkvPostRefIdeal.Read.val_main_v102_eq m' c).trans ?_
        rw [e0, e1, e2, e3, e4, e5, e6, e7, e8]
        exact (result_dgate hn).symm
      · refine (Cert.RwkvPostRefIdeal.Read.val_main_v73_eq _ _ _).trans ?_
        rw [e0, e4, e8]
        exact (result_dlg hn).symm
      · refine (Cert.RwkvPostRefIdeal.Read.val_main_v70_eq _ _).trans ?_
        rw [e4, e8]
        exact (result_dlb hn).symm
      · refine (Cert.RwkvPostRefIdeal.Read.val_main_v64_eq _ _ _ _ _).trans ?_
        rw [e1, e2, e3, e4, e8]
        exact (result_drk hn).symm⟩

end Cert.RwkvPostIdeal.Value
end
-- ==== Proof.DxCIn.lean ====
/-
  The call dx_c_in: each output block is the product of a row of blocks of the first matrix and a row of blocks of the
  second, three blocks of the contracted index one after the other.
-/
module
public import proofs.«01_k».proof.Proof.Gen.DxCInIdeal.Value
public import proofs.«01_k».proof.Proof.Gen.DxCInRefIdeal.Read
public import proofs.«01_k».proof.Proof.Product

@[expose] public section
set_option maxRecDepth 16384
noncomputable section
namespace Cert.DxCInIdeal.Value
open Cert.DxCInIdeal Cert.DxCInIdeal.Gen Idealize.ShloMosaic Idealize.ShloMosaic.TcCoe Idealize.SL.Sem Cert.Product

section cases
variable (c : Dev nD) (i : grid0.Coords) (a3 : Memref sig .tc .vmem S1024x2048 .bf16) (h3 : a3.IsWhole)
  (a4 : Memref sig .tc .vmem S1024x2048 .bf16) (h4 : a4.IsWhole) (a5 : Memref sig .tc .vmem S1024x1024 .bf16) (h5 : a5.IsWhole)
  (a6 : Memref sig .tc .vmem S1024x1024 .f32) (h6 : a6.IsWhole) (x y : FVec Ideal S1024x2048 .bf16) (s : FVec Ideal S1024x1024 .f32)

theorem first (hc : cond0_0 i) (hd : ¬cond0_1 i) (a b : Fin 1024) :
    ((sout0_A_0 (F := Ideal) c i a3 h3 a4 h4 a5 h5 a6 h6 hc hd x y) (ix2 a b) : EReal)
      = ∑ l : Fin 2048, (x (ix2 a l) : EReal) * y (ix2 b l) := by
  frame_out
  pointwise [k0_pay1, k0_pay2]

theorem next (hc : ¬cond0_0 i) (hd : ¬cond0_1 i) (a b : Fin 1024) :
    ((sout0_B_0 (F := Ideal) c i a3 h3 a4 h4 a5 h5 a6 h6 hc hd x y s) (ix2 a b) : EReal)
      = s (ix2 a b) + ∑ l : Fin 2048, (x (ix2 a l) : EReal) * y (ix2 b l) := by
  frame_out
  pointwise [k0_pay2]

theorem last (hc : ¬cond0_0 i) (hd : cond0_1 i) (a b : Fin 1024) :
    ((sout0_C_0 (F := Ideal) c i a3 h3 a4 h4 a5 h5 a6 h6 hc hd x y s) (ix2 a b) : EReal)
      = s (ix2 a b) + ∑ l : Fin 2048, (x (ix2 a l) : EReal) * y (ix2 b l) := by
  frame_out
  pointwise [k0_pay2]

theorem stored (hc : ¬cond0_0 i) (hd : cond0_1 i) (a b : Fin 1024) :
    ((out0_C_2 (F := Ideal) c i a3 h3 a4 h4 a5 h5 a6 h6 hc hd x y s) (ix2 a b) : EReal)
      = s (ix2 a b) + ∑ l : Fin 2048, (x (ix2 a l) : EReal) * y (ix2 b l) := by
  frame_out
  pointwise [k0_pay2, k0_pay3]
end cases

/-- Where each window's block lies. -/
theorem idx : ∀ t : Fin cfg0.N, t.val < 24 ∧ win0_0.index t = ![t.val / 3 / 2, t.val % 3] ∧ win0_1.index t = ![t.val / 3 % 2, t.val % 3]
    ∧ win0_2.index t = ![t.val / 3 / 2, t.val / 3 % 2] :=
  (by decide +kernel : ∀ t : Fin grid0.N, _)

variable (m : (ℓ : Loc nD τ sig) → Buf (Elt Ideal) ℓ) (c : Dev nD)

/-- The two matrices. -/
abbrev X : FVec Ideal S4096x6144 .bf16 := m ((c : Thread nD τ).loc main_arg0)
abbrev W : FVec Ideal S2048x6144 .bf16 := m ((c : Thread nD τ).loc main_arg1)

theorem block (t : Fin cfg0.N) (ht : t.val % 3 = 2) (a b : Fin 1024) :
    (((outsAt0 m c t.val t.isLt).1 : FVec Ideal S1024x1024 .bf16) (ix2 a b) : EReal)
      = ∑ k : Fin 6144, entry (X m c) (t.val / 3 / 2 * 1024 + a) k * entry (W m c) (t.val / 3 % 2 * 1024 + b) k := by
  refine Eq.trans ?_ (block_sum (p := 3) (T := 2048) rfl (fun n h => (outsAt0 m c n h).2)
    (fun t a l => (iblk m c 0 t : FVec Ideal S1024x2048 .bf16) (ix2 a l)) (fun t b l => (iblk m c 1 t : FVec Ideal S1024x2048 .bf16) (ix2 b l))
    (fun i a k => entry (X m c) (i / 2 * 1024 + a) k) (fun i b k => entry (W m c) (i % 2 * 1024 + b) k)
    (fun t a l => ?_) (fun t b l => ?_) (fun t h a b => ?_) (fun t h a b => ?_) t (by omega) a b)
  · rw [outsAt0_C m c t (by omega) ht]
    dsimp only
    rw [stored, last]
  · have ht := (idx t).1
    refine Eq.trans ?_ (entry_eq (X m c) ⟨t.val / 3 / 2 * 1024 + a, by omega⟩ ⟨t.val % 3 * 2048 + l, by omega⟩)
    blk_ext [iblk, V, idx t]
  · have ht := (idx t).1
    refine Eq.trans ?_ (entry_eq (W m c) ⟨t.val / 3 % 2 * 1024 + b, by omega⟩ ⟨t.val % 3 * 2048 + l, by omega⟩)
    blk_ext [iblk, V, idx t]
  · rw [outsAt0_A m c t h (by omega)]
    dsimp only
    rw [first]
  · by_cases h2 : t.val % 3 = 2
    · rw [outsAt0_C m c t h h2]
      dsimp only
      rw [last]
    · rw [outsAt0_B m c t h h2]
      dsimp only
      rw [next]

theorem place (t : Fin cfg0.N) (a b : Fin 1024) : (win0_2.blk t).view.emb (ix2 a b)
    = ix2 (⟨t.val / 3 / 2 * 1024 + a, by have := (idx t).1; omega⟩ : Fin 4096) (⟨t.val / 3 % 2 * 1024 + b, by omega⟩ : Fin 2048) := by
  have ht := (idx t).1
  blk_ext [idx t]

/-- The call's result is the product. -/
theorem result : (dats m 0 c).arrAt 2 cfg0.N = Cert.DxCInRefIdeal.Read.val_main_v5 (F := Ideal) (X m c) (W m c) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨_, _, eq_ix2 y⟩
  rw [place]
  have ht := (idx t).1
  refine (block m c t ((flush0_2 t).mp hf) a b).trans (Eq.symm ?_)
  rw [Cert.DxCInRefIdeal.Read.val_main_v5_apply]
  refine (Cert.DxCInRefIdeal.Read.val_main_v4_apply _ _ _).trans ?_
  refine Finset.sum_congr rfl fun k _ => ?_
  rw [← entry_eq (X m c) ⟨t.val / 3 / 2 * 1024 + a, by omega⟩ k, ← entry_eq (W m c) ⟨t.val / 3 % 2 * 1024 + b, by omega⟩ k]
  exact congrArg₂ (· * ·) (congrArg (X m c) (eq_ix2 _)) (congrArg (W m c) (eq_ix2 _))

end Cert.DxCInIdeal.Value
end
-- ==== Proof.DCIn.lean ====
/-
  The call d_c_in: each output block is the product of a column of blocks of the first matrix, transposed, and a column of
  blocks of the second, two blocks of rows one after the other; the output holds the product's columns in eight groups.
-/
module
public import proofs.«01_k».proof.Proof.Gen.DCInIdeal.Value
public import proofs.«01_k».proof.Proof.Gen.DCInRefIdeal.Read
public import proofs.«01_k».proof.Proof.Product

@[expose] public section
set_option maxRecDepth 16384
noncomputable section
namespace Cert.DCInIdeal.Value
open Cert.DCInIdeal Cert.DCInIdeal.Gen Idealize.ShloMosaic Idealize.ShloMosaic.TcCoe Idealize.SL.Sem Cert.Product

section cases
variable (c : Dev nD) (i : grid0.Coords) (a3 : Memref sig .tc .vmem S2048x1024 .bf16) (h3 : a3.IsWhole)
  (a4 : Memref sig .tc .vmem S2048x768 .bf16) (h4 : a4.IsWhole) (a5 : Memref sig .tc .vmem S1x1024x768 .bf16) (h5 : a5.IsWhole)
  (a6 : Memref sig .tc .vmem S1024x768 .f32) (h6 : a6.IsWhole) (x : FVec Ideal S2048x1024 .bf16)
  (y : FVec Ideal S2048x768 .bf16) (s : FVec Ideal S1024x768 .f32)

theorem first (hc : cond0_0 i) (hd : ¬cond0_1 i) (a : Fin 1024) (b : Fin 768) :
    ((sout0_A_0 (F := Ideal) c i a3 h3 a4 h4 a5 h5 a6 h6 hc hd x y) (ix2 a b) : EReal)
      = ∑ l : Fin 2048, (x (ix2 l a) : EReal) * y (ix2 l b) := by
  frame_out
  pointwise [k0_pay1, k0_pay2]

theorem last (hc : ¬cond0_0 i) (hd : cond0_1 i) (a : Fin 1024) (b : Fin 768) :
    ((sout0_B_0 (F := Ideal) c i a3 h3 a4 h4 a5 h5 a6 h6 hc hd x y s) (ix2 a b) : EReal)
      = s (ix2 a b) + ∑ l : Fin 2048, (x (ix2 l a) : EReal) * y (ix2 l b) := by
  frame_out
  pointwise [k0_pay2]

theorem stored (hc : ¬cond0_0 i) (hd : cond0_1 i) (a : Fin 1024) (b : Fin 768) :
    ((out0_B_2 (F := Ideal) c i a3 h3 a4 h4 a5 h5 a6 h6 hc hd x y s) (ix3 0 a b) : EReal)
      = s (ix2 a b) + ∑ l : Fin 2048, (x (ix2 l a) : EReal) * y (ix2 l b) := by
  frame_out
  pointwise [k0_pay2, k0_pay3]
end cases

/-- Where each window's block lies. -/
theorem idx : ∀ t : Fin cfg0.N, t.val < 32 ∧ win0_0.index t = ![t.val % 2, t.val / 2 / 8] ∧ win0_1.index t = ![t.val % 2, t.val / 2 % 8]
    ∧ win0_2.index t = ![t.val / 2 % 8, t.val / 2 / 8, 0] :=
  (by decide +kernel : ∀ t : Fin grid0.N, _)

variable (m : (ℓ : Loc nD τ sig) → Buf (Elt Ideal) ℓ) (c : Dev nD)

/-- The two matrices. -/
abbrev X : FVec Ideal S4096x2048 .bf16 := m ((c : Thread nD τ).loc main_arg0)
abbrev W : FVec Ideal S4096x6144 .bf16 := m ((c : Thread nD τ).loc main_arg1)

theorem block (t : Fin cfg0.N) (ht : t.val % 2 = 1) (a : Fin 1024) (b : Fin 768) :
    (((outsAt0 m c t.val t.isLt).1 : FVec Ideal S1x1024x768 .bf16) (ix3 0 a b) : EReal)
      = ∑ k : Fin 4096, entry (X m c) k (t.val / 2 / 8 * 1024 + a) * entry (W m c) k (t.val / 2 % 8 * 768 + b) := by
  refine Eq.trans ?_ (block_sum (p := 2) (T := 2048) rfl (fun n h => (outsAt0 m c n h).2)
    (fun t a l => (iblk m c 0 t : FVec Ideal S2048x1024 .bf16) (ix2 l a)) (fun t b l => (iblk m c 1 t : FVec Ideal S2048x768 .bf16) (ix2 l b))
    (fun i a k => entry (X m c) k (i / 8 * 1024 + a)) (fun i b k => entry (W m c) k (i % 8 * 768 + b))
    (fun t a l => ?_) (fun t b l => ?_) (fun t h a b => ?_) (fun t h a b => ?_) t (by omega) a b)
  · rw [outsAt0_B m c t (by omega) ht]
    dsimp only
    rw [stored, last]
  · have ht := (idx t).1
    refine Eq.trans ?_ (entry_eq (X m c) ⟨t.val % 2 * 2048 + l, by omega⟩ ⟨t.val / 2 / 8 * 1024 + a, by omega⟩)
    blk_ext [iblk, V, idx t]
  · have ht := (idx t).1
    refine Eq.trans ?_ (entry_eq (W m c) ⟨t.val % 2 * 2048 + l, by omega⟩ ⟨t.val / 2 % 8 * 768 + b, by omega⟩)
    blk_ext [iblk, V, idx t]
  · rw [outsAt0_A m c t h (by omega)]
    dsimp only
    rw [first]
  · rw [outsAt0_B m c t h (by omega)]
    dsimp only
    rw [last]

theorem place (t : Fin cfg0.N) (a : Fin 1024) (b : Fin 768) : (win0_2.blk t).view.emb (ix3 0 a b)
    = ix3 (⟨t.val / 2 % 8, by omega⟩ : Fin 8) (⟨t.val / 2 / 8 * 1024 + a, by have := (idx t).1; omega⟩ : Fin 2048) b := by
  have ht := (idx t).1
  blk_ext [idx t]

/-- The call's result is the product. -/
theorem result : (dats m 0 c).arrAt 2 cfg0.N = Cert.DCInRefIdeal.Read.val_main_v8 (F := Ideal) (X m c) (W m c) := by
  refine (dats m 0 c).arrAt_eq_of_covers 2 _ (by decide +kernel) fun t hf y => ?_
  blk_simp
  rw [after0_2]
  obtain ⟨z, a, b, rfl⟩ : ∃ (z : Fin 1) (a : Fin 1024) (b : Fin 768), y = ix3 z a b := ⟨_, _, _, eq_ix3 y⟩
  obtain rfl : z = 0 := Subsingleton.elim _ _
  rw [place]
  have ht := (idx t).1
  refine (block m c t ((flush0_2 t).mp hf) a b).trans (Eq.symm ?_)
  rw [Cert.DCInRefIdeal.Read.val_main_v8_apply, Cert.DCInRefIdeal.Read.val_main_v7_apply, Cert.DCInRefIdeal.Read.val_main_v6_apply,
    Cert.DCInRefIdeal.Read.val_main_v5_apply]
  refine (Cert.DCInRefIdeal.Read.val_main_v4_apply _ _ _).trans ?_
  refine Finset.sum_congr rfl fun k _ => ?_
  rw [mul_comm, ← entry_eq (X m c) k ⟨t.val / 2 / 8 * 1024 + a, by omega⟩, ← entry_eq (W m c) k ⟨t.val / 2 % 8 * 768 + b, by omega⟩]
  refine congrArg₂ (· * ·) (congrArg (X m c) ((eq_ix2 _).trans (congrArg (ix2 k) (Fin.ext ?_)))) (congrArg (W m c) ((eq_ix2 _).trans (congrArg (ix2 k) (Fin.ext ?_))))
  · show (((t.val / 2 / 8 * 1024 + a.val) * 8 + t.val / 2 % 8) * 768 + b.val) / 6144 = t.val / 2 / 8 * 1024 + a.val
    omega
  · show (((t.val / 2 / 8 * 1024 + a.val) * 8 + t.val / 2 % 8) * 768 + b.val) % 6144 = t.val / 2 % 8 * 768 + b.val
    omega

end Cert.DCInIdeal.Value
end
-- ==== Proof.DCOut.lean ====
/-
  The call d_c_out: each output block is the product of a column of blocks of the first matrix, transposed, and a column of
  blocks of the second, two blocks of rows one after the other.
-/
module
public import proofs.«01_k».proof.Proof.Gen.DCOutIdeal.Value
public import proofs.«01_k».proof.Proof.Gen.DCOutRefIdeal.Read
public import proofs.«01_k».proof.Proof.Product

@[expose] public section
set_option maxRecDepth 16384
noncomputable section
namespace Cert.DCOutIdeal.Value
open Cert.DCOutIdeal Cert.DCOutIdeal.Gen Idealize.ShloMosaic Idealize.ShloMosaic.TcCoe Idealize.SL.Sem Cert.Product

section cases
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x y : FVec Ideal S2048x1024 .bf16) (s : FVec Ideal S1024x1024 .f32)

theorem first (hc : cond0_0 i) (hd : ¬cond0_1 i) (a b : Fin 1024) :
    ((sout0_A_0 (F := Ideal) c i a3 h3 a4 h4 a5 h5 a6 h6 hc hd x y) (ix2 a b) : EReal)
      = ∑ l : Fin 2048, (x (ix2 l a) : EReal) * y (ix2 l b) := by
  frame_out
  pointwise [k0_pay1, k0_pay2]

theorem last (hc : ¬cond0_0 i) (hd : cond0_1 i) (a b : Fin 1024) :
    ((sout0_B_0 (F := Ideal) c i a3 h3 a4 h4 a5 h5 a6 h6 hc hd x y s) (ix2 a b) : EReal)
      = s (ix2 a b) + ∑ l : Fin 2048, (x (ix2 l a) : EReal) * y (ix2 l b) := by
  frame_out
  pointwise [k0_pay2]

theorem stored (hc : ¬cond0_0 i) (hd : cond0_1 i) (a b : Fin 1024) :
    ((out0_B_2 (F := Ideal) c i a3 h3 a4 h4 a5 h5 a6 h6 hc hd x y s) (ix2 a b) : EReal)
      = s (ix2 a b) + ∑ l : Fin 2048, (x (ix2 l a) : EReal) * y (ix2 l b) := by
  frame_out
  pointwise [k0_pay2, k0_pay3]
end cases

/-- Where each window's block lies. -/
theorem idx : ∀ t : Fin cfg0.N, t.val < 8 ∧ win0_0.index t = ![t.val % 2, t.val / 2 / 2] ∧ win0_1.index t = ![t.val % 2, t.val / 2 % 2]
    ∧ win0_2.index t = ![t.val / 2 / 2, t.val / 2 % 2] :=
  (by decide +kernel : ∀ t : Fin grid0.N, _)

variable (m : (ℓ : Loc nD τ sig) → Buf (Elt Ideal) ℓ) (c : Dev nD)

/-- The two matrices. -/
abbrev X : FVec Ideal S4096x2048 .bf16 := m ((c : Thread nD τ).loc main_arg0)
abbrev W : FVec Ideal S4096x2048 .bf16 := m ((c : Thread nD τ).loc main_arg1)

theorem block (t : Fin cfg0.N) (ht : t.val % 2 = 1) (a b : Fin 1024) :
    (((outsAt0 m c t.val t.isLt).1 : FVec Ideal S1024x1024 .bf16) (ix2 a b) : EReal)
      = ∑ k : Fin 4096, entry (X m c) k (t.val / 2 / 2 * 1024 + a) * entry (W m c) k (t.val / 2 % 2 * 1024 + b) := by
  refine Eq.trans ?_ (block_sum (p := 2) (T := 2048) rfl (fun n h => (outsAt0 m c n h).2)
    (fun t a l => (iblk m c 0 t : FVec Ideal S2048x1024 .bf16) (ix2 l a)) (fun t b l => (iblk m c 1 t : FVec Ideal S2048x1024 .bf16) (ix2 l b))
    (fun i a k => entry (X m c) k (i / 2 * 1024 + a)) (fun i b k => entry (W m c) k (i % 2 * 1024 + b))
    (fun t a l => ?_) (fun t b l => ?_) (fun t h a b => ?_) (fun t h a b => ?_) t (by omega) a b)
  · rw [outsAt0_B m c t (by omega) ht]
    dsimp only
    rw [stored, last]
  · have ht := (idx t).1
    refine Eq.trans ?_ (entry_eq (X m c) ⟨t.val % 2 * 2048 + l, by omega⟩ ⟨t.val / 2 / 2 * 1024 + a, by omega⟩)
    blk_ext [iblk, V, idx t]
  · have ht := (idx t).1
    refine Eq.trans ?_ (entry_eq (W m c) ⟨t.val % 2 * 2048 + l, by omega⟩ ⟨t.val / 2 % 2 * 1024 + b, by omega⟩)
    blk_ext [iblk, V, idx t]
  · rw [outsAt0_A m c t h (by omega)]
    dsimp only
    rw [first]
  · rw [outsAt0_B m c t h (by omega)]
    dsimp only
    rw [last]

theorem place (t : Fin cfg0.N) (a b : Fin 1024) : (win0_2.blk t).view.emb (ix2 a b)
    = ix2 (⟨t.val / 2 / 2 * 1024 + a, by have := (idx t).1; omega⟩ : Fin 2048) (⟨t.val / 2 % 2 * 1024 + b, by omega⟩ : Fin 2048) := by
  have ht := (idx t).1
  blk_ext [idx t]

/-- The call's result is the product. -/
theorem result : (dats m 0 c).arrAt 2 cfg0.N = Cert.DCOutRefIdeal.Read.val_main_v6 (F := Ideal) (X m c) (W m c) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨_, _, eq_ix2 y⟩
  rw [place]
  have ht := (idx t).1
  refine (block m c t ((flush0_2 t).mp hf) a b).trans (Eq.symm ?_)
  rw [Cert.DCOutRefIdeal.Read.val_main_v6_apply, Cert.DCOutRefIdeal.Read.val_main_v5_apply]
  refine (Cert.DCOutRefIdeal.Read.val_main_v4_apply _ _ _).trans ?_
  refine Finset.sum_congr rfl fun k _ => ?_
  rw [mul_comm, ← entry_eq (X m c) k ⟨t.val / 2 / 2 * 1024 + a, by omega⟩, ← entry_eq (W m c) k ⟨t.val / 2 % 2 * 1024 + b, by omega⟩]
  exact congrArg₂ (· * ·) (congrArg (X m c) (eq_ix2 _)) (congrArg (W m c) (eq_ix2 _))

end Cert.DCOutIdeal.Value
end
-- ==== Proof.DxCOut.lean ====
/-
  The call dx_c_out: each output block is the product of a block of rows of the first matrix and a block of rows of the
  second, transposed.
-/
module
public import proofs.«01_k».proof.Proof.Gen.DxCOutIdeal.Value
public import proofs.«01_k».proof.Proof.Gen.DxCOutRefIdeal.Read
public import Idealize.ShloMosaic.Lib.Pipeline.ValueKit

@[expose] public section
set_option maxRecDepth 16384
noncomputable section
namespace Cert.DxCOutIdeal.Value
open Cert.DxCOutIdeal Cert.DxCOutIdeal.Gen Idealize.ShloMosaic Idealize.ShloMosaic.TcCoe Idealize.SL.Sem

theorem stored (c : Dev nD) (i : grid0.Coords) (a3 : Memref sig .tc .vmem S1024x2048 .bf16) (h3 : a3.IsWhole)
    (a4 : Memref sig .tc .vmem S1024x2048 .bf16) (h4 : a4.IsWhole) (a5 : Memref sig .tc .vmem S1024x1024 .bf16) (h5 : a5.IsWhole)
    (a6 : Memref sig .tc .vmem S1024x1024 .f32) (h6 : a6.IsWhole) (hc : cond0_0 i) (hd : cond0_1 i) (x : FVec Ideal S1024x2048 .bf16)
    (y : FVec Ideal S1024x2048 .bf16) (a : Fin 1024) (b : Fin 1024) :
    ((out0_A_2 (F := Ideal) c i a3 h3 a4 h4 a5 h5 a6 h6 hc hd x y) (ix2 a b) : EReal)
      = ∑ l : Fin 2048, (x (ix2 a l) : EReal) * y (ix2 b l) := by
  frame_out
  pointwise [k0_pay1, k0_pay2, k0_pay3]

/-- Where each window's block lies. -/
theorem idx : ∀ t : Fin cfg0.N, t.val < 8 ∧ win0_0.index t = ![t.val / 2, 0] ∧ win0_1.index t = ![t.val % 2, 0]
    ∧ win0_2.index t = ![t.val / 2, t.val % 2] :=
  (by decide +kernel : ∀ t : Fin grid0.N, _)

variable (m : (ℓ : Loc nD τ sig) → Buf (Elt Ideal) ℓ) (c : Dev nD)

/-- The two matrices. -/
abbrev X : FVec Ideal S4096x2048 .bf16 := m ((c : Thread nD τ).loc main_arg0)
abbrev W : FVec Ideal S2048x2048 .bf16 := m ((c : Thread nD τ).loc main_arg1)

theorem row_lt (t : Fin cfg0.N) (a : Fin 1024) : t.val / 2 * 1024 + a < 4096 := by
  have := (idx t).1
  omega

theorem col_lt (t : Fin cfg0.N) (b : Fin 1024) : t.val % 2 * 1024 + b < 2048 := by
  omega

theorem block (t : Fin cfg0.N) (a : Fin 1024) (b : Fin 1024) :
    ((outsAt0 m c t : FVec Ideal S1024x1024 .bf16) (ix2 a b) : EReal)
      = ∑ k : Fin 2048, (X m c (ix2 ⟨_, row_lt t a⟩ k) : EReal) * W m c (ix2 ⟨_, col_lt t b⟩ k) := by
  unfold outsAt0
  rw [stored]
  refine Finset.sum_congr rfl fun k _ => congrArg₂ (· * ·) ?_ ?_
  · blk_ext [iblk, V, idx t]
  · blk_ext [iblk, V, idx t]

theorem place (t : Fin cfg0.N) (a : Fin 1024) (b : Fin 1024) :
    (win0_2.blk t).view.emb (ix2 a b) = ix2 (⟨_, row_lt t a⟩ : Fin 4096) (⟨_, col_lt t b⟩ : Fin 2048) := by
  blk_ext [idx t]

/-- The call's result is the product. -/
theorem result : (dats m 0 c).arrAt 2 cfg0.N = Cert.DxCOutRefIdeal.Read.val_main_v5 (F := Ideal) (X m c) (W m c) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨_, _, eq_ix2 y⟩
  rw [place]
  refine (block m c t a b).trans (Eq.symm ?_)
  rw [Cert.DxCOutRefIdeal.Read.val_main_v5_apply]
  refine (Cert.DxCOutRefIdeal.Read.val_main_v4_apply _ _ _).trans (Finset.sum_congr rfl fun k _ => ?_)
  exact congrArg₂ (· * ·) (congrArg (X m c) (eq_ix2 _)) (congrArg (W m c) (eq_ix2 _))

end Cert.DxCOutIdeal.Value
end
-- ==== Proof.DxPleGate.lean ====
/-
  The call dx_ple_gate: each output block is the product of a block of rows of the first matrix and a block of rows of the
  second, transposed, plus the block of the third array.
-/
module
public import proofs.«01_k».proof.Proof.Gen.DxPleGateIdeal.Value
public import proofs.«01_k».proof.Proof.Gen.DxPleGateRefIdeal.Read
public import Idealize.ShloMosaic.Lib.Pipeline.ValueKit

@[expose] public section
set_option maxRecDepth 16384
noncomputable section
namespace Cert.DxPleGateIdeal.Value
open Cert.DxPleGateIdeal Cert.DxPleGateIdeal.Gen Idealize.ShloMosaic Idealize.ShloMosaic.TcCoe Idealize.SL.Sem

theorem stored (c : Dev nD) (i : grid0.Coords) (a3 : Memref sig .tc .vmem S1024x2048 .bf16) (h3 : a3.IsWhole)
    (a4 : Memref sig .tc .vmem S1024x2048 .bf16) (h4 : a4.IsWhole) (a5 : Memref sig .tc .vmem S1024x1024 .f32) (h5 : a5.IsWhole)
    (a6 : Memref sig .tc .vmem S1024x1024 .f32) (h6 : a6.IsWhole)
    (a7 : Memref sig .tc .vmem S1024x1024 .f32) (h7 : a7.IsWhole) (hc : cond0_0 i) (hd : cond0_1 i) (x : FVec Ideal S1024x2048 .bf16)
    (y : FVec Ideal S1024x2048 .bf16) (z : FVec Ideal S1024x1024 .f32)
    (a : Fin 1024) (b : Fin 1024) :
    ((out0_A_3 (F := Ideal) c i a3 h3 a4 h4 a5 h5 a6 h6 a7 h7 hc hd x y z) (ix2 a b) : EReal)
      = (∑ l : Fin 2048, (x (ix2 a l) : EReal) * y (ix2 b l)) + z (ix2 a b) := by
  frame_out
  pointwise [k0_pay1, k0_pay2, k0_pay3]

/-- Where each window's block lies. -/
theorem idx : ∀ t : Fin cfg0.N, t.val < 8 ∧ win0_0.index t = ![t.val / 2, 0] ∧ win0_1.index t = ![t.val % 2, 0]
    ∧ win0_2.index t = ![t.val / 2, t.val % 2] ∧ win0_3.index t = ![t.val / 2, t.val % 2] :=
  (by decide +kernel : ∀ t : Fin grid0.N, _)

variable (m : (ℓ : Loc nD τ sig) → Buf (Elt Ideal) ℓ) (c : Dev nD)

/-- The two matrices and the array the product is added to. -/
abbrev X : FVec Ideal S4096x2048 .bf16 := m ((c : Thread nD τ).loc main_arg0)
abbrev W : FVec Ideal S2048x2048 .bf16 := m ((c : Thread nD τ).loc main_arg1)
abbrev R : FVec Ideal S4096x2048 .f32 := m ((c : Thread nD τ).loc main_arg2)

theorem row_lt (t : Fin cfg0.N) (a : Fin 1024) : t.val / 2 * 1024 + a < 4096 := by
  have := (idx t).1
  omega

theorem col_lt (t : Fin cfg0.N) (b : Fin 1024) : t.val % 2 * 1024 + b < 2048 := by
  omega

theorem block (t : Fin cfg0.N) (a : Fin 1024) (b : Fin 1024) :
    ((outsAt0 m c t : FVec Ideal S1024x1024 .f32) (ix2 a b) : EReal)
      = (∑ k : Fin 2048, (X m c (ix2 ⟨_, row_lt t a⟩ k) : EReal) * W m c (ix2 ⟨_, col_lt t b⟩ k))
        + R m c (ix2 ⟨_, row_lt t a⟩ ⟨_, col_lt t b⟩) := by
  unfold outsAt0
  rw [stored]
  refine congrArg₂ (· + ·) (Finset.sum_congr rfl fun k _ => congrArg₂ (· * ·) ?_ ?_) ?_
  · blk_ext [iblk, V, idx t]
  · blk_ext [iblk, V, idx t]
  · blk_ext [iblk, V, idx t]

theorem place (t : Fin cfg0.N) (a : Fin 1024) (b : Fin 1024) :
    (win0_3.blk t).view.emb (ix2 a b) = ix2 (⟨_, row_lt t a⟩ : Fin 4096) (⟨_, col_lt t b⟩ : Fin 2048) := by
  blk_ext [idx t]

/-- The call's result is the product. -/
theorem result : (dats m 0 c).arrAt 3 cfg0.N = Cert.DxPleGateRefIdeal.Read.val_main_v5 (F := Ideal) (X m c) (W m c) (R m c) := by
  refine (dats m 0 c).arrAt_eq_of_covers 3 _ (by decide +kernel) fun t hf y => ?_
  blk_simp
  rw [after0_3]
  obtain ⟨a, b, rfl⟩ : ∃ (a : Fin 1024) (b : Fin 1024), y = ix2 a b := ⟨_, _, eq_ix2 y⟩
  rw [place]
  refine (block m c t a b).trans (Eq.symm ?_)
  rw [Cert.DxPleGateRefIdeal.Read.val_main_v5_apply]
  refine (add_comm (R m c _) _).trans (congrArg (· + R m c _) ((Cert.DxPleGateRefIdeal.Read.val_main_v4_apply _ _ _).trans (Finset.sum_congr rfl fun k _ => ?_)))
  exact congrArg₂ (· * ·) (congrArg (X m c) (eq_ix2 _)) (congrArg (W m c) (eq_ix2 _))

end Cert.DxPleGateIdeal.Value
end
-- ==== Proof.DAbIn.lean ====
/-
  The call d_ab_in_lo: each output block is the product of the first 768 columns of the first matrix, transposed, and a
  column of blocks of the second, two blocks of rows one after the other.
-/
module
public import proofs.«01_k».proof.Proof.Gen.DAbInIdeal.Value
public import proofs.«01_k».proof.Proof.Gen.DAbInRefIdeal.Read
public import proofs.«01_k».proof.Proof.Product

@[expose] public section
set_option maxRecDepth 16384
noncomputable section
namespace Cert.DAbInIdeal.Value
open Cert.DAbInIdeal Cert.DAbInIdeal.Gen Idealize.ShloMosaic Idealize.ShloMosaic.TcCoe Idealize.SL.Sem Cert.Product

section cases
variable (c : Dev nD) (i : grid0.Coords) (a3 : Memref sig .tc .vmem S2048x768 .bf16) (h3 : a3.IsWhole)
  (a4 : Memref sig .tc .vmem S2048x768 .bf16) (h4 : a4.IsWhole) (a5 : Memref sig .tc .vmem S768x768 .bf16) (h5 : a5.IsWhole)
  (a6 : Memref sig .tc .vmem S768x768 .f32) (h6 : a6.IsWhole) (x y : FVec Ideal S2048x768 .bf16) (s : FVec Ideal S768x768 .f32)

theorem first (hc : cond0_0 i) (hd : ¬cond0_1 i) (a b : Fin 768) :
    ((sout0_A_0 (F := Ideal) c i a3 h3 a4 h4 a5 h5 a6 h6 hc hd x y) (ix2 a b) : EReal)
      = ∑ l : Fin 2048, (x (ix2 l a) : EReal) * y (ix2 l b) := by
  frame_out
  pointwise [k0_pay1, k0_pay2]

theorem last (hc : ¬cond0_0 i) (hd : cond0_1 i) (a b : Fin 768) :
    ((sout0_B_0 (F := Ideal) c i a3 h3 a4 h4 a5 h5 a6 h6 hc hd x y s) (ix2 a b) : EReal)
      = s (ix2 a b) + ∑ l : Fin 2048, (x (ix2 l a) : EReal) * y (ix2 l b) := by
  frame_out
  pointwise [k0_pay2]

theorem stored (hc : ¬cond0_0 i) (hd : cond0_1 i) (a b : Fin 768) :
    ((out0_B_2 (F := Ideal) c i a3 h3 a4 h4 a5 h5 a6 h6 hc hd x y s) (ix2 a b) : EReal)
      = s (ix2 a b) + ∑ l : Fin 2048, (x (ix2 l a) : EReal) * y (ix2 l b) := by
  frame_out
  pointwise [k0_pay2, k0_pay3]
end cases

/-- Where each window's block lies. -/
theorem idx : ∀ t : Fin cfg0.N, t.val < 22 ∧ win0_0.index t = ![t.val % 2, 0] ∧ win0_1.index t = ![t.val % 2, t.val / 2]
    ∧ win0_2.index t = ![0, t.val / 2] :=
  (by decide +kernel : ∀ t : Fin grid0.N, _)

variable (m : (ℓ : Loc nD τ sig) → Buf (Elt Ideal) ℓ) (c : Dev nD)

/-- The two matrices. -/
abbrev X : FVec Ideal S4096x2048 .bf16 := m ((c : Thread nD τ).loc main_arg0)
abbrev W : FVec Ideal S4096x8448 .bf16 := m ((c : Thread nD τ).loc main_arg1)

/-- The columns the call multiplies. -/
abbrev cut : FVec Ideal S4096x768 .bf16 := extractStridedSlice S4096x768 ![0, 0] (X m c) slices_S4096x2048_S4096x768_0_0

theorem V_cut : V m c main_v0 = cut m c := by
  show StableHlo.after hostOps0 (fun b => m (c, b)) (Proc.tc.devRef main_v0) = _
  simp only [hostOps0, StableHlo.TRef.unary, StableHlo.TRef.toBuf, StableHlo.TRef.ofBuf, cast_eq]
  after_results_simp

theorem cut_at (k : Fin 4096) (a : Fin 768) : cut m c (ix2 k a) = entry (X m c) k a := by
  refine Eq.trans ?_ (entry_eq (X m c) k ⟨a, by omega⟩)
  pointwise [cut]

theorem block (t : Fin cfg0.N) (ht : t.val % 2 = 1) (a b : Fin 768) :
    (((outsAt0 m c t.val t.isLt).1 : FVec Ideal S768x768 .bf16) (ix2 a b) : EReal)
      = ∑ k : Fin 4096, entry (X m c) k a * entry (W m c) k (t.val / 2 * 768 + b) := by
  refine Eq.trans ?_ (block_sum (p := 2) (T := 2048) rfl (fun n h => (outsAt0 m c n h).2)
    (fun t a l => (iblk m c 0 t : FVec Ideal S2048x768 .bf16) (ix2 l a)) (fun t b l => (iblk m c 1 t : FVec Ideal S2048x768 .bf16) (ix2 l b))
    (fun i a k => entry (X m c) k a) (fun i b k => entry (W m c) k (i * 768 + b))
    (fun t a l => ?_) (fun t b l => ?_) (fun t h a b => ?_) (fun t h a b => ?_) t (by omega) a b)
  · rw [outsAt0_B m c t (by omega) ht]
    dsimp only
    rw [stored, last]
  · have ht := (idx t).1
    refine Eq.trans ?_ (cut_at m c ⟨t.val % 2 * 2048 + l, by omega⟩ a)
    rw [← V_cut m c]
    blk_ext [iblk, idx t]
  · have ht := (idx t).1
    refine Eq.trans ?_ (entry_eq (W m c) ⟨t.val % 2 * 2048 + l, by omega⟩ ⟨t.val / 2 * 768 + b, by omega⟩)
    blk_ext [iblk, V, idx t]
  · rw [outsAt0_A m c t h (by omega)]
    dsimp only
    rw [first]
  · rw [outsAt0_B m c t h (by omega)]
    dsimp only
    rw [last]

theorem place (t : Fin cfg0.N) (a b : Fin 768) : (win0_2.blk t).view.emb (ix2 a b)
    = ix2 a (⟨t.val / 2 * 768 + b, by have := (idx t).1; omega⟩ : Fin 8448) := by
  have ht := (idx t).1
  blk_ext [idx t]

/-- The call's result is the product. -/
theorem result : (dats m 0 c).arrAt 2 cfg0.N = Cert.DAbInRefIdeal.Read.val_main_v7 (F := Ideal) (X m c) (W m c) := by
  refine (dats m 0 c).arrAt_eq_of_covers 2 _ (by decide +kernel) fun t hf y => ?_
  blk_simp
  rw [after0_2]
  obtain ⟨a, b, rfl⟩ : ∃ (a : Fin 768) (b : Fin 768), y = ix2 a b := ⟨_, _, eq_ix2 y⟩
  rw [place]
  have ht := (idx t).1
  refine (block m c t ((flush0_2 t).mp hf) a b).trans (Eq.symm ?_)
  rw [Cert.DAbInRefIdeal.Read.val_main_v7_apply, Cert.DAbInRefIdeal.Read.val_main_v6_apply, Cert.DAbInRefIdeal.Read.val_main_v5_apply]
  refine (Cert.DAbInRefIdeal.Read.val_main_v4_apply _ _ _).trans ?_
  refine Finset.sum_congr rfl fun k _ => ?_
  rw [mul_comm, ← entry_eq (X m c) k ⟨a, by omega⟩, ← entry_eq (W m c) k ⟨t.val / 2 * 768 + b, by omega⟩]
  exact congrArg₂ (· * ·) (congrArg (X m c) (eq_ix2 _)) (congrArg (W m c) (eq_ix2 _))

end Cert.DAbInIdeal.Value
end
-- ==== Proof.DPleProj.lean ====
/-
  The call d_ple_proj: each output block is the product of the first matrix, transposed, and a column of blocks of the
  second, two blocks of rows one after the other; the output holds the product's columns in eight groups.
-/
module
public import proofs.«01_k».proof.Proof.Gen.DPleProjIdeal.Value
public import proofs.«01_k».proof.Proof.Gen.DPleProjRefIdeal.Read
public import proofs.«01_k».proof.Proof.Product

@[expose] public section
set_option maxRecDepth 16384
noncomputable section
namespace Cert.DPleProjIdeal.Value
open Cert.DPleProjIdeal Cert.DPleProjIdeal.Gen Idealize.ShloMosaic Idealize.ShloMosaic.TcCoe Idealize.SL.Sem Cert.Product

section cases
variable (c : Dev nD) (i : grid0.Coords) (a3 : Memref sig .tc .vmem S2048x256 .f32) (h3 : a3.IsWhole)
  (a4 : Memref sig .tc .vmem S2048x256 .bf16) (h4 : a4.IsWhole) (a5 : Memref sig .tc .vmem S1x256x256 .bf16) (h5 : a5.IsWhole)
  (a6 : Memref sig .tc .vmem S256x256 .f32) (h6 : a6.IsWhole) (x : FVec Ideal S2048x256 .f32)
  (y : FVec Ideal S2048x256 .bf16) (s : FVec Ideal S256x256 .f32)

theorem first (hc : cond0_0 i) (hd : ¬cond0_1 i) (a b : Fin 256) :
    ((sout0_A_0 (F := Ideal) c i a3 h3 a4 h4 a5 h5 a6 h6 hc hd x y) (ix2 a b) : EReal)
      = ∑ l : Fin 2048, (x (ix2 l a) : EReal) * y (ix2 l b) := by
  frame_out
  pointwise [k0_pay1, k0_pay2]

theorem last (hc : ¬cond0_0 i) (hd : cond0_1 i) (a b : Fin 256) :
    ((sout0_B_0 (F := Ideal) c i a3 h3 a4 h4 a5 h5 a6 h6 hc hd x y s) (ix2 a b) : EReal)
      = s (ix2 a b) + ∑ l : Fin 2048, (x (ix2 l a) : EReal) * y (ix2 l b) := by
  frame_out
  pointwise [k0_pay2]

theorem stored (hc : ¬cond0_0 i) (hd : cond0_1 i) (a b : Fin 256) :
    ((out0_B_2 (F := Ideal) c i a3 h3 a4 h4 a5 h5 a6 h6 hc hd x y s) (ix3 0 a b) : EReal)
      = s (ix2 a b) + ∑ l : Fin 2048, (x (ix2 l a) : EReal) * y (ix2 l b) := by
  frame_out
  pointwise [k0_pay2, k0_pay3]
end cases

/-- Where each window's block lies. -/
theorem idx : ∀ t : Fin cfg0.N, t.val < 16 ∧ win0_0.index t = ![t.val % 2, 0] ∧ win0_1.index t = ![t.val % 2, t.val / 2]
    ∧ win0_2.index t = ![t.val / 2, 0, 0] :=
  (by decide +kernel : ∀ t : Fin grid0.N, _)

variable (m : (ℓ : Loc nD τ sig) → Buf (Elt Ideal) ℓ) (c : Dev nD)

/-- The two matrices. -/
abbrev X : FVec Ideal S4096x256 .f32 := m ((c : Thread nD τ).loc main_arg0)
abbrev W : FVec Ideal S4096x2048 .bf16 := m ((c : Thread nD τ).loc main_arg1)

theorem block (t : Fin cfg0.N) (ht : t.val % 2 = 1) (a b : Fin 256) :
    (((outsAt0 m c t.val t.isLt).1 : FVec Ideal S1x256x256 .bf16) (ix3 0 a b) : EReal)
      = ∑ k : Fin 4096, entry (X m c) k a * entry (W m c) k (t.val / 2 * 256 + b) := by
  refine Eq.trans ?_ (block_sum (p := 2) (T := 2048) rfl (fun n h => (outsAt0 m c n h).2)
    (fun t a l => (iblk m c 0 t : FVec Ideal S2048x256 .f32) (ix2 l a)) (fun t b l => (iblk m c 1 t : FVec Ideal S2048x256 .bf16) (ix2 l b))
    (fun i a k => entry (X m c) k a) (fun i b k => entry (W m c) k (i * 256 + b))
    (fun t a l => ?_) (fun t b l => ?_) (fun t h a b => ?_) (fun t h a b => ?_) t (by omega) a b)
  · rw [outsAt0_B m c t (by omega) ht]
    dsimp only
    rw [stored, last]
  · have ht := (idx t).1
    refine Eq.trans ?_ (entry_eq (X m c) ⟨t.val % 2 * 2048 + l, by omega⟩ a)
    blk_ext [iblk, V, idx t]
  · have ht := (idx t).1
    refine Eq.trans ?_ (entry_eq (W m c) ⟨t.val % 2 * 2048 + l, by omega⟩ ⟨t.val / 2 * 256 + b, by omega⟩)
    blk_ext [iblk, V, idx t]
  · rw [outsAt0_A m c t h (by omega)]
    dsimp only
    rw [first]
  · rw [outsAt0_B m c t h (by omega)]
    dsimp only
    rw [last]

theorem place (t : Fin cfg0.N) (a b : Fin 256) : (win0_2.blk t).view.emb (ix3 0 a b)
    = ix3 (⟨t.val / 2, by have := (idx t).1; omega⟩ : Fin 8) a b := by
  have ht := (idx t).1
  blk_ext [idx t]

/-- The call's result is the product. -/
theorem result : (dats m 0 c).arrAt 2 cfg0.N = Cert.DPleProjRefIdeal.Read.val_main_v7 (F := Ideal) (X m c) (W m c) := by
  refine (dats m 0 c).arrAt_eq_of_covers 2 _ (by decide +kernel) fun t hf y => ?_
  blk_simp
  rw [after0_2]
  obtain ⟨z, a, b, rfl⟩ : ∃ (z : Fin 1) (a : Fin 256) (b : Fin 256), y = ix3 z a b := ⟨_, _, _, eq_ix3 y⟩
  obtain rfl : z = 0 := Subsingleton.elim _ _
  rw [place]
  have ht := (idx t).1
  refine (block m c t ((flush0_2 t).mp hf) a b).trans (Eq.symm ?_)
  rw [Cert.DPleProjRefIdeal.Read.val_main_v7_apply, Cert.DPleProjRefIdeal.Read.val_main_v6_apply, Cert.DPleProjRefIdeal.Read.val_main_v5_apply,
    Cert.DPleProjRefIdeal.Read.val_main_v4_apply]
  refine (Cert.DPleProjRefIdeal.Read.val_main_v3_apply _ _ _).trans ?_
  refine Finset.sum_congr rfl fun k _ => ?_
  rw [mul_comm, ← entry_eq (X m c) k a, ← entry_eq (W m c) k ⟨t.val / 2 * 256 + b, by omega⟩]
  refine congrArg₂ (· * ·) (congrArg (X m c) ((eq_ix2 _).trans (congrArg (ix2 k) (Fin.ext ?_)))) (congrArg (W m c) ((eq_ix2 _).trans (congrArg (ix2 k) (Fin.ext ?_))))
  · show ((a.val * 8 + t.val / 2) * 256 + b.val) / 2048 = a.val
    omega
  · show ((a.val * 8 + t.val / 2) * 256 + b.val) % 2048 = t.val / 2 * 256 + b.val
    omega

end Cert.DPleProjIdeal.Value
end
-- ==== Proof.AbIn.lean ====
/-
  The call ab_in: each output block is the product of a block of rows of the first matrix and a block of columns of the
  second.
-/
module
public import proofs.«01_k».proof.Proof.Gen.AbInIdeal.Value
public import proofs.«01_k».proof.Proof.Gen.AbInRefIdeal.Read
public import Idealize.ShloMosaic.Lib.Pipeline.ValueKit

@[expose] public section
set_option maxRecDepth 16384
noncomputable section
namespace Cert.AbInIdeal.Value
open Cert.AbInIdeal Cert.AbInIdeal.Gen Idealize.ShloMosaic Idealize.ShloMosaic.TcCoe Idealize.SL.Sem

theorem stored (c : Dev nD) (i : grid0.Coords) (a3 : Memref sig .tc .vmem S1024x2048 .bf16) (h3 : a3.IsWhole)
    (a4 : Memref sig .tc .vmem S2048x768 .bf16) (h4 : a4.IsWhole) (a5 : Memref sig .tc .vmem S1024x768 .f32) (h5 : a5.IsWhole)
    (a6 : Memref sig .tc .vmem S1024x768 .f32) (h6 : a6.IsWhole) (hc : cond0_0 i) (hd : cond0_1 i) (x : FVec Ideal S1024x2048 .bf16)
    (y : FVec Ideal S2048x768 .bf16) (a : Fin 1024) (b : Fin 768) :
    ((out0_A_2 (F := Ideal) c i a3 h3 a4 h4 a5 h5 a6 h6 hc hd x y) (ix2 a b) : EReal)
      = ∑ l : Fin 2048, (x (ix2 a l) : EReal) * y (ix2 l b) := by
  frame_out
  pointwise [k0_pay1, k0_pay2]

/-- Where each window's block lies. -/
theorem idx : ∀ t : Fin cfg0.N, t.val < 44 ∧ win0_0.index t = ![t.val / 11, 0] ∧ win0_1.index t = ![0, t.val % 11]
    ∧ win0_2.index t = ![t.val / 11, t.val % 11] :=
  (by decide +kernel : ∀ t : Fin grid0.N, _)

variable (m : (ℓ : Loc nD τ sig) → Buf (Elt Ideal) ℓ) (c : Dev nD)

/-- The two matrices. -/
abbrev X : FVec Ideal S4096x2048 .bf16 := m ((c : Thread nD τ).loc main_arg0)
abbrev W : FVec Ideal S2048x8448 .bf16 := m ((c : Thread nD τ).loc main_arg1)

theorem row_lt (t : Fin cfg0.N) (a : Fin 1024) : t.val / 11 * 1024 + a < 4096 := by
  have := (idx t).1
  omega

theorem col_lt (t : Fin cfg0.N) (b : Fin 768) : t.val % 11 * 768 + b < 8448 := by
  omega

theorem block (t : Fin cfg0.N) (a : Fin 1024) (b : Fin 768) :
    ((outsAt0 m c t : FVec Ideal S1024x768 .f32) (ix2 a b) : EReal)
      = ∑ k : Fin 2048, (X m c (ix2 ⟨_, row_lt t a⟩ k) : EReal) * W m c (ix2 k ⟨_, col_lt t b⟩) := by
  unfold outsAt0
  rw [stored]
  refine Finset.sum_congr rfl fun k _ => congrArg₂ (· * ·) ?_ ?_
  · blk_ext [iblk, V, idx t]
  · blk_ext [iblk, V, idx t]

theorem place (t : Fin cfg0.N) (a : Fin 1024) (b : Fin 768) :
    (win0_2.blk t).view.emb (ix2 a b) = ix2 (⟨_, row_lt t a⟩ : Fin 4096) (⟨_, col_lt t b⟩ : Fin 8448) := by
  blk_ext [idx t]

/-- The call's result is the product. -/
theorem result : (dats m 0 c).arrAt 2 cfg0.N = Cert.AbInRefIdeal.Read.val_main_v2 (F := Ideal) (X m c) (W m c) := by
  refine (dats m 0 c).arrAt_eq_of_covers 2 _ (by decide +kernel) fun t hf y => ?_
  blk_simp
  rw [after0_2]
  obtain ⟨a, b, rfl⟩ : ∃ (a : Fin 1024) (b : Fin 768), y = ix2 a b := ⟨_, _, eq_ix2 y⟩
  rw [place]
  refine (block m c t a b).trans (Eq.symm ?_)
  refine (Cert.AbInRefIdeal.Read.val_main_v2_apply _ _ _).trans (Finset.sum_congr rfl fun k _ => ?_)
  exact congrArg₂ (· * ·) (congrArg (X m c) (eq_ix2 _)) (congrArg (W m c) (eq_ix2 _))

end Cert.AbInIdeal.Value
end
-- ==== Proof.CIn.lean ====
/-
  The call c_in: each output block is the product of a block of rows of the first matrix and a block of columns of the
  second.
-/
module
public import proofs.«01_k».proof.Proof.Gen.CInIdeal.Value
public import proofs.«01_k».proof.Proof.Gen.CInRefIdeal.Read
public import Idealize.ShloMosaic.Lib.Pipeline.ValueKit

@[expose] public section
set_option maxRecDepth 16384
noncomputable section
namespace Cert.CInIdeal.Value
open Cert.CInIdeal Cert.CInIdeal.Gen Idealize.ShloMosaic Idealize.ShloMosaic.TcCoe Idealize.SL.Sem

theorem stored (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole) (hc : cond0_0 i) (hd : cond0_1 i) (x : FVec Ideal S1024x2048 .bf16)
    (y : FVec Ideal S2048x1024 .bf16) (a : Fin 1024) (b : Fin 1024) :
    ((out0_A_2 (F := Ideal) c i a3 h3 a4 h4 a5 h5 a6 h6 hc hd x y) (ix2 a b) : EReal)
      = ∑ l : Fin 2048, (x (ix2 a l) : EReal) * y (ix2 l b) := by
  frame_out
  pointwise [k0_pay1, k0_pay2]

/-- Where each window's block lies. -/
theorem idx : ∀ t : Fin cfg0.N, t.val < 24 ∧ win0_0.index t = ![t.val / 6, 0] ∧ win0_1.index t = ![0, t.val % 6]
    ∧ win0_2.index t = ![t.val / 6, t.val % 6] :=
  (by decide +kernel : ∀ t : Fin grid0.N, _)

variable (m : (ℓ : Loc nD τ sig) → Buf (Elt Ideal) ℓ) (c : Dev nD)

/-- The two matrices. -/
abbrev X : FVec Ideal S4096x2048 .bf16 := m ((c : Thread nD τ).loc main_arg0)
abbrev W : FVec Ideal S2048x6144 .bf16 := m ((c : Thread nD τ).loc main_arg1)

theorem row_lt (t : Fin cfg0.N) (a : Fin 1024) : t.val / 6 * 1024 + a < 4096 := by
  have := (idx t).1
  omega

theorem col_lt (t : Fin cfg0.N) (b : Fin 1024) : t.val % 6 * 1024 + b < 6144 := by
  omega

theorem block (t : Fin cfg0.N) (a : Fin 1024) (b : Fin 1024) :
    ((outsAt0 m c t : FVec Ideal S1024x1024 .f32) (ix2 a b) : EReal)
      = ∑ k : Fin 2048, (X m c (ix2 ⟨_, row_lt t a⟩ k) : EReal) * W m c (ix2 k ⟨_, col_lt t b⟩) := by
  unfold outsAt0
  rw [stored]
  refine Finset.sum_congr rfl fun k _ => congrArg₂ (· * ·) ?_ ?_
  · blk_ext [iblk, V, idx t]
  · blk_ext [iblk, V, idx t]

theorem place (t : Fin cfg0.N) (a : Fin 1024) (b : Fin 1024) :
    (win0_2.blk t).view.emb (ix2 a b) = ix2 (⟨_, row_lt t a⟩ : Fin 4096) (⟨_, col_lt t b⟩ : Fin 6144) := by
  blk_ext [idx t]

/-- The call's result is the product. -/
theorem result : (dats m 0 c).arrAt 2 cfg0.N = Cert.CInRefIdeal.Read.val_main_v2 (F := Ideal) (X m c) (W m c) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨_, _, eq_ix2 y⟩
  rw [place]
  refine (block m c t a b).trans (Eq.symm ?_)
  refine (Cert.CInRefIdeal.Read.val_main_v2_apply _ _ _).trans (Finset.sum_congr rfl fun k _ => ?_)
  exact congrArg₂ (· * ·) (congrArg (X m c) (eq_ix2 _)) (congrArg (W m c) (eq_ix2 _))

end Cert.CInIdeal.Value
end
-- ==== Proof.COut.lean ====
/-
  The call c_out: each output block is the product of a block of rows of the first matrix and a block of columns of the
  second.
-/
module
public import proofs.«01_k».proof.Proof.Gen.COutIdeal.Value
public import proofs.«01_k».proof.Proof.Gen.COutRefIdeal.Read
public import Idealize.ShloMosaic.Lib.Pipeline.ValueKit

@[expose] public section
set_option maxRecDepth 16384
noncomputable section
namespace Cert.COutIdeal.Value
open Cert.COutIdeal Cert.COutIdeal.Gen Idealize.ShloMosaic Idealize.ShloMosaic.TcCoe Idealize.SL.Sem

theorem stored (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole) (hc : cond0_0 i) (hd : cond0_1 i) (x : FVec Ideal S1024x2048 .bf16)
    (y : FVec Ideal S2048x1024 .bf16) (a : Fin 1024) (b : Fin 1024) :
    ((out0_A_2 (F := Ideal) c i a3 h3 a4 h4 a5 h5 a6 h6 hc hd x y) (ix2 a b) : EReal)
      = ∑ l : Fin 2048, (x (ix2 a l) : EReal) * y (ix2 l b) := by
  frame_out
  pointwise [k0_pay1, k0_pay2]

/-- Where each window's block lies. -/
theorem idx : ∀ t : Fin cfg0.N, t.val < 8 ∧ win0_0.index t = ![t.val / 2, 0] ∧ win0_1.index t = ![0, t.val % 2]
    ∧ win0_2.index t = ![t.val / 2, t.val % 2] :=
  (by decide +kernel : ∀ t : Fin grid0.N, _)

variable (m : (ℓ : Loc nD τ sig) → Buf (Elt Ideal) ℓ) (c : Dev nD)

/-- The two matrices. -/
abbrev X : FVec Ideal S4096x2048 .bf16 := m ((c : Thread nD τ).loc main_arg0)
abbrev W : FVec Ideal S2048x2048 .bf16 := m ((c : Thread nD τ).loc main_arg1)

theorem row_lt (t : Fin cfg0.N) (a : Fin 1024) : t.val / 2 * 1024 + a < 4096 := by
  have := (idx t).1
  omega

theorem col_lt (t : Fin cfg0.N) (b : Fin 1024) : t.val % 2 * 1024 + b < 2048 := by
  omega

theorem block (t : Fin cfg0.N) (a : Fin 1024) (b : Fin 1024) :
    ((outsAt0 m c t : FVec Ideal S1024x1024 .f32) (ix2 a b) : EReal)
      = ∑ k : Fin 2048, (X m c (ix2 ⟨_, row_lt t a⟩ k) : EReal) * W m c (ix2 k ⟨_, col_lt t b⟩) := by
  unfold outsAt0
  rw [stored]
  refine Finset.sum_congr rfl fun k _ => congrArg₂ (· * ·) ?_ ?_
  · blk_ext [iblk, V, idx t]
  · blk_ext [iblk, V, idx t]

theorem place (t : Fin cfg0.N) (a : Fin 1024) (b : Fin 1024) :
    (win0_2.blk t).view.emb (ix2 a b) = ix2 (⟨_, row_lt t a⟩ : Fin 4096) (⟨_, col_lt t b⟩ : Fin 2048) := by
  blk_ext [idx t]

/-- The call's result is the product. -/
theorem result : (dats m 0 c).arrAt 2 cfg0.N = Cert.COutRefIdeal.Read.val_main_v2 (F := Ideal) (X m c) (W m c) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨_, _, eq_ix2 y⟩
  rw [place]
  refine (block m c t a b).trans (Eq.symm ?_)
  refine (Cert.COutRefIdeal.Read.val_main_v2_apply _ _ _).trans (Finset.sum_congr rfl fun k _ => ?_)
  exact congrArg₂ (· * ·) (congrArg (X m c) (eq_ix2 _)) (congrArg (W m c) (eq_ix2 _))

end Cert.COutIdeal.Value
end
-- ==== Proof.PleProj.lean ====
/-
  The call ple_proj: each output block is the product of a block of rows of the first matrix and a block of columns of the
  second.
-/
module
public import proofs.«01_k».proof.Proof.Gen.PleProjIdeal.Value
public import proofs.«01_k».proof.Proof.Gen.PleProjRefIdeal.Read
public import Idealize.ShloMosaic.Lib.Pipeline.ValueKit

@[expose] public section
set_option maxRecDepth 16384
noncomputable section
namespace Cert.PleProjIdeal.Value
open Cert.PleProjIdeal Cert.PleProjIdeal.Gen Idealize.ShloMosaic Idealize.ShloMosaic.TcCoe Idealize.SL.Sem

theorem stored (c : Dev nD) (i : grid0.Coords) (a3 : Memref sig .tc .vmem S1024x256 .f32) (h3 : a3.IsWhole)
    (a4 : Memref sig .tc .vmem S256x1024 .bf16) (h4 : a4.IsWhole) (a5 : Memref sig .tc .vmem S1024x1024 .f32) (h5 : a5.IsWhole)
    (a6 : Memref sig .tc .vmem S1024x1024 .f32) (h6 : a6.IsWhole) (hc : cond0_0 i) (hd : cond0_1 i) (x : FVec Ideal S1024x256 .f32)
    (y : FVec Ideal S256x1024 .bf16) (a : Fin 1024) (b : Fin 1024) :
    ((out0_A_2 (F := Ideal) c i a3 h3 a4 h4 a5 h5 a6 h6 hc hd x y) (ix2 a b) : EReal)
      = ∑ l : Fin 256, (x (ix2 a l) : EReal) * y (ix2 l b) := by
  frame_out
  pointwise [k0_pay1, k0_pay2]

/-- Where each window's block lies. -/
theorem idx : ∀ t : Fin cfg0.N, t.val < 8 ∧ win0_0.index t = ![t.val / 2, 0] ∧ win0_1.index t = ![0, t.val % 2]
    ∧ win0_2.index t = ![t.val / 2, t.val % 2] :=
  (by decide +kernel : ∀ t : Fin grid0.N, _)

variable (m : (ℓ : Loc nD τ sig) → Buf (Elt Ideal) ℓ) (c : Dev nD)

/-- The two matrices. -/
abbrev X : FVec Ideal S4096x256 .f32 := m ((c : Thread nD τ).loc main_arg0)
abbrev W : FVec Ideal S256x2048 .bf16 := m ((c : Thread nD τ).loc main_arg1)

theorem row_lt (t : Fin cfg0.N) (a : Fin 1024) : t.val / 2 * 1024 + a < 4096 := by
  have := (idx t).1
  omega

theorem col_lt (t : Fin cfg0.N) (b : Fin 1024) : t.val % 2 * 1024 + b < 2048 := by
  omega

theorem block (t : Fin cfg0.N) (a : Fin 1024) (b : Fin 1024) :
    ((outsAt0 m c t : FVec Ideal S1024x1024 .f32) (ix2 a b) : EReal)
      = ∑ k : Fin 256, (X m c (ix2 ⟨_, row_lt t a⟩ k) : EReal) * W m c (ix2 k ⟨_, col_lt t b⟩) := by
  unfold outsAt0
  rw [stored]
  refine Finset.sum_congr rfl fun k _ => congrArg₂ (· * ·) ?_ ?_
  · blk_ext [iblk, V, idx t]
  · blk_ext [iblk, V, idx t]

theorem place (t : Fin cfg0.N) (a : Fin 1024) (b : Fin 1024) :
    (win0_2.blk t).view.emb (ix2 a b) = ix2 (⟨_, row_lt t a⟩ : Fin 4096) (⟨_, col_lt t b⟩ : Fin 2048) := by
  blk_ext [idx t]

/-- The call's result is the product. -/
theorem result : (dats m 0 c).arrAt 2 cfg0.N = Cert.PleProjRefIdeal.Read.val_main_v1 (F := Ideal) (X m c) (W m c) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨_, _, eq_ix2 y⟩
  rw [place]
  refine (block m c t a b).trans (Eq.symm ?_)
  refine (Cert.PleProjRefIdeal.Read.val_main_v1_apply _ _ _).trans (Finset.sum_congr rfl fun k _ => ?_)
  exact congrArg₂ (· * ·) (congrArg (X m c) (eq_ix2 _)) (congrArg (W m c) (eq_ix2 _))

end Cert.PleProjIdeal.Value
end
-- ==== Proof.Products.lean ====
/-
  The claims about the calls that multiply matrices, from what each call's result is.
-/
module
public import proofs.«01_k».proof.Defs
public import proofs.«01_k».proof.Proof.Gen.DxCInRefIdeal.Run
public import proofs.«01_k».proof.Proof.DxCIn
public import proofs.«01_k».proof.Proof.Gen.DCInRefIdeal.Run
public import proofs.«01_k».proof.Proof.DCIn
public import proofs.«01_k».proof.Proof.Gen.DCOutRefIdeal.Run
public import proofs.«01_k».proof.Proof.DCOut
public import proofs.«01_k».proof.Proof.Gen.DxCOutRefIdeal.Run
public import proofs.«01_k».proof.Proof.DxCOut
public import proofs.«01_k».proof.Proof.Gen.DxPleGateRefIdeal.Run
public import proofs.«01_k».proof.Proof.DxPleGate
public import proofs.«01_k».proof.Proof.Gen.DAbInRefIdeal.Run
public import proofs.«01_k».proof.Proof.DAbIn
public import proofs.«01_k».proof.Proof.Gen.DPleProjRefIdeal.Run
public import proofs.«01_k».proof.Proof.DPleProj
public import proofs.«01_k».proof.Proof.Gen.AbInRefIdeal.Run
public import proofs.«01_k».proof.Proof.AbIn
public import proofs.«01_k».proof.Proof.Gen.CInRefIdeal.Run
public import proofs.«01_k».proof.Proof.CIn
public import proofs.«01_k».proof.Proof.Gen.COutRefIdeal.Run
public import proofs.«01_k».proof.Proof.COut
public import proofs.«01_k».proof.Proof.Gen.PleProjRefIdeal.Run
public import proofs.«01_k».proof.Proof.PleProj
public import Idealize.ShloMosaic.Adequacy
public import Idealize.ShloMosaic.Init
public import Idealize.ShloMosaic.Lib.Claim

@[expose] public section
noncomputable section
open Idealize.ShloMosaic Idealize.SL.Sem

namespace Cert.DxCInIdeal.Value

theorem frame_reference : Cert.quiescent_DxCInRefIdeal := fun m g _ =>
  (θ_run Cert.DxCInRefIdeal.defs _ _).mono (fun r h => ⟨fun c => (h c).2, sem_eq_zero_of_no_sems (by decide) r.2⟩)
    (Cert.DxCInRefIdeal.Value.run (F := Ideal) m g)

theorem algebraic : Cert.algebraic_DxCInIdeal_DxCInRefIdeal := fun m g m' g' _ agree =>
  ⟨fun c => (Cert.DxCInIdeal.Gen.dats m 0 c).arrAt 2 Cert.DxCInIdeal.cfg0.N, run_blocks m g,
    θ_run_mono (Cert.DxCInRefIdeal.Value.run (F := Ideal) m' g') fun r h c => ⟨(h c).1.trans (by
      refine (Cert.DxCInRefIdeal.Read.val_main_v5_eq _ _).trans ?_
      rw [(agree c).1, (agree c).2]
      exact (result m c).symm), (h c).2⟩⟩

end Cert.DxCInIdeal.Value

namespace Cert.DCInIdeal.Value

theorem frame_reference : Cert.quiescent_DCInRefIdeal := fun m g _ =>
  (θ_run Cert.DCInRefIdeal.defs _ _).mono (fun r h => ⟨fun c => (h c).2, sem_eq_zero_of_no_sems (by decide) r.2⟩)
    (Cert.DCInRefIdeal.Value.run (F := Ideal) m g)

theorem algebraic : Cert.algebraic_DCInIdeal_DCInRefIdeal := fun m g m' g' _ agree =>
  ⟨fun c => (Cert.DCInIdeal.Gen.dats m 0 c).arrAt 2 Cert.DCInIdeal.cfg0.N, run_blocks m g,
    θ_run_mono (Cert.DCInRefIdeal.Value.run (F := Ideal) m' g') fun r h c => ⟨(h c).1.trans (by
      refine (Cert.DCInRefIdeal.Read.val_main_v8_eq _ _).trans ?_
      rw [(agree c).1, (agree c).2]
      exact (result m c).symm), (h c).2⟩⟩

end Cert.DCInIdeal.Value

namespace Cert.DCOutIdeal.Value

theorem frame_reference : Cert.quiescent_DCOutRefIdeal := fun m g _ =>
  (θ_run Cert.DCOutRefIdeal.defs _ _).mono (fun r h => ⟨fun c => (h c).2, sem_eq_zero_of_no_sems (by decide) r.2⟩)
    (Cert.DCOutRefIdeal.Value.run (F := Ideal) m g)

theorem algebraic : Cert.algebraic_DCOutIdeal_DCOutRefIdeal := fun m g m' g' _ agree =>
  ⟨fun c => (Cert.DCOutIdeal.Gen.dats m 0 c).arrAt 2 Cert.DCOutIdeal.cfg0.N, run_blocks m g,
    θ_run_mono (Cert.DCOutRefIdeal.Value.run (F := Ideal) m' g') fun r h c => ⟨(h c).1.trans (by
      refine (Cert.DCOutRefIdeal.Read.val_main_v6_eq _ _).trans ?_
      rw [(agree c).1, (agree c).2]
      exact (result m c).symm), (h c).2⟩⟩

end Cert.DCOutIdeal.Value

namespace Cert.DxCOutIdeal.Value

theorem frame_reference : Cert.quiescent_DxCOutRefIdeal := fun m g _ =>
  (θ_run Cert.DxCOutRefIdeal.defs _ _).mono (fun r h => ⟨fun c => (h c).2, sem_eq_zero_of_no_sems (by decide) r.2⟩)
    (Cert.DxCOutRefIdeal.Value.run (F := Ideal) m g)

theorem algebraic : Cert.algebraic_DxCOutIdeal_DxCOutRefIdeal := fun m g m' g' _ agree =>
  ⟨fun c => (Cert.DxCOutIdeal.Gen.dats m 0 c).arrAt 2 Cert.DxCOutIdeal.cfg0.N, run_blocks m g,
    θ_run_mono (Cert.DxCOutRefIdeal.Value.run (F := Ideal) m' g') fun r h c => ⟨(h c).1.trans (by
      refine (Cert.DxCOutRefIdeal.Read.val_main_v5_eq _ _).trans ?_
      rw [(agree c).1, (agree c).2]
      exact (result m c).symm), (h c).2⟩⟩

end Cert.DxCOutIdeal.Value

namespace Cert.DxPleGateIdeal.Value

theorem frame_reference : Cert.quiescent_DxPleGateRefIdeal := fun m g _ =>
  (θ_run Cert.DxPleGateRefIdeal.defs _ _).mono (fun r h => ⟨fun c => (h c).2, sem_eq_zero_of_no_sems (by decide) r.2⟩)
    (Cert.DxPleGateRefIdeal.Value.run (F := Ideal) m g)

theorem algebraic : Cert.algebraic_DxPleGateIdeal_DxPleGateRefIdeal := fun m g m' g' _ agree =>
  ⟨fun c => (Cert.DxPleGateIdeal.Gen.dats m 0 c).arrAt 3 Cert.DxPleGateIdeal.cfg0.N, run_blocks m g,
    θ_run_mono (Cert.DxPleGateRefIdeal.Value.run (F := Ideal) m' g') fun r h c => ⟨(h c).1.trans (by
      refine (Cert.DxPleGateRefIdeal.Read.val_main_v5_eq _ _ _).trans ?_
      rw [(agree c).1, (agree c).2.1, (agree c).2.2]
      exact (result m c).symm), (h c).2⟩⟩

end Cert.DxPleGateIdeal.Value

namespace Cert.DAbInIdeal.Value

theorem frame_reference : Cert.quiescent_DAbInRefIdeal := fun m g _ =>
  (θ_run Cert.DAbInRefIdeal.defs _ _).mono (fun r h => ⟨fun c => (h c).2, sem_eq_zero_of_no_sems (by decide) r.2⟩)
    (Cert.DAbInRefIdeal.Value.run (F := Ideal) m g)

theorem algebraic : Cert.algebraic_DAbInIdeal_DAbInRefIdeal := fun m g m' g' _ agree =>
  ⟨fun c => (Cert.DAbInIdeal.Gen.dats m 0 c).arrAt 2 Cert.DAbInIdeal.cfg0.N, run_blocks m g,
    θ_run_mono (Cert.DAbInRefIdeal.Value.run (F := Ideal) m' g') fun r h c => ⟨(h c).1.trans (by
      refine (Cert.DAbInRefIdeal.Read.val_main_v7_eq _ _).trans ?_
      rw [(agree c).1, (agree c).2]
      exact (result m c).symm), (h c).2⟩⟩

end Cert.DAbInIdeal.Value

namespace Cert.DPleProjIdeal.Value

theorem frame_reference : Cert.quiescent_DPleProjRefIdeal := fun m g _ =>
  (θ_run Cert.DPleProjRefIdeal.defs _ _).mono (fun r h => ⟨fun c => (h c).2, sem_eq_zero_of_no_sems (by decide) r.2⟩)
    (Cert.DPleProjRefIdeal.Value.run (F := Ideal) m g)

theorem algebraic : Cert.algebraic_DPleProjIdeal_DPleProjRefIdeal := fun m g m' g' _ agree =>
  ⟨fun c => (Cert.DPleProjIdeal.Gen.dats m 0 c).arrAt 2 Cert.DPleProjIdeal.cfg0.N, run_blocks m g,
    θ_run_mono (Cert.DPleProjRefIdeal.Value.run (F := Ideal) m' g') fun r h c => ⟨(h c).1.trans (by
      refine (Cert.DPleProjRefIdeal.Read.val_main_v7_eq _ _).trans ?_
      rw [(agree c).1, (agree c).2]
      exact (result m c).symm), (h c).2⟩⟩

end Cert.DPleProjIdeal.Value

namespace Cert.AbInIdeal.Value

theorem frame_reference : Cert.quiescent_AbInRefIdeal := fun m g _ =>
  (θ_run Cert.AbInRefIdeal.defs _ _).mono (fun r h => ⟨fun c => (h c).2, sem_eq_zero_of_no_sems (by decide) r.2⟩)
    (Cert.AbInRefIdeal.Value.run (F := Ideal) m g)

theorem algebraic : Cert.algebraic_AbInIdeal_AbInRefIdeal := fun m g m' g' _ agree =>
  ⟨fun c => (Cert.AbInIdeal.Gen.dats m 0 c).arrAt 2 Cert.AbInIdeal.cfg0.N, run_blocks m g,
    θ_run_mono (Cert.AbInRefIdeal.Value.run (F := Ideal) m' g') fun r h c => ⟨(h c).1.trans (by
      refine (Cert.AbInRefIdeal.Read.val_main_v2_eq _ _).trans ?_
      rw [(agree c).1, (agree c).2]
      exact (result m c).symm), (h c).2⟩⟩

end Cert.AbInIdeal.Value

namespace Cert.CInIdeal.Value

theorem frame_reference : Cert.quiescent_CInRefIdeal := fun m g _ =>
  (θ_run Cert.CInRefIdeal.defs _ _).mono (fun r h => ⟨fun c => (h c).2, sem_eq_zero_of_no_sems (by decide) r.2⟩)
    (Cert.CInRefIdeal.Value.run (F := Ideal) m g)

theorem algebraic : Cert.algebraic_CInIdeal_CInRefIdeal := fun m g m' g' _ agree =>
  ⟨fun c => (Cert.CInIdeal.Gen.dats m 0 c).arrAt 2 Cert.CInIdeal.cfg0.N, run_blocks m g,
    θ_run_mono (Cert.CInRefIdeal.Value.run (F := Ideal) m' g') fun r h c => ⟨(h c).1.trans (by
      refine (Cert.CInRefIdeal.Read.val_main_v2_eq _ _).trans ?_
      rw [(agree c).1, (agree c).2]
      exact (result m c).symm), (h c).2⟩⟩

end Cert.CInIdeal.Value

namespace Cert.COutIdeal.Value

theorem frame_reference : Cert.quiescent_COutRefIdeal := fun m g _ =>
  (θ_run Cert.COutRefIdeal.defs _ _).mono (fun r h => ⟨fun c => (h c).2, sem_eq_zero_of_no_sems (by decide) r.2⟩)
    (Cert.COutRefIdeal.Value.run (F := Ideal) m g)

theorem algebraic : Cert.algebraic_COutIdeal_COutRefIdeal := fun m g m' g' _ agree =>
  ⟨fun c => (Cert.COutIdeal.Gen.dats m 0 c).arrAt 2 Cert.COutIdeal.cfg0.N, run_blocks m g,
    θ_run_mono (Cert.COutRefIdeal.Value.run (F := Ideal) m' g') fun r h c => ⟨(h c).1.trans (by
      refine (Cert.COutRefIdeal.Read.val_main_v2_eq _ _).trans ?_
      rw [(agree c).1, (agree c).2]
      exact (result m c).symm), (h c).2⟩⟩

end Cert.COutIdeal.Value

namespace Cert.PleProjIdeal.Value

theorem frame_reference : Cert.quiescent_PleProjRefIdeal := fun m g _ =>
  (θ_run Cert.PleProjRefIdeal.defs _ _).mono (fun r h => ⟨fun c => (h c).2, sem_eq_zero_of_no_sems (by decide) r.2⟩)
    (Cert.PleProjRefIdeal.Value.run (F := Ideal) m g)

theorem algebraic : Cert.algebraic_PleProjIdeal_PleProjRefIdeal := fun m g m' g' _ agree =>
  ⟨fun c => (Cert.PleProjIdeal.Gen.dats m 0 c).arrAt 2 Cert.PleProjIdeal.cfg0.N, run_blocks m g,
    θ_run_mono (Cert.PleProjRefIdeal.Value.run (F := Ideal) m' g') fun r h c => ⟨(h c).1.trans (by
      refine (Cert.PleProjRefIdeal.Read.val_main_v1_eq _ _).trans ?_
      rw [(agree c).1, (agree c).2]
      exact (result m c).symm), (h c).2⟩⟩

end Cert.PleProjIdeal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Claim
public import proofs.«01_k».proof.Proof.Final
public import proofs.«01_k».proof.Proof.Finite
public import proofs.«01_k».proof.Proof.Gen.DxCIn.Frame
public import proofs.«01_k».proof.Proof.Gen.DCIn.Frame
public import proofs.«01_k».proof.Proof.Gen.DCOut.Frame
public import proofs.«01_k».proof.Proof.Gen.DxCOut.Frame
public import proofs.«01_k».proof.Proof.Gen.DxPleGate.Frame
public import proofs.«01_k».proof.Proof.Gen.DAbIn.Frame
public import proofs.«01_k».proof.Proof.Gen.DPleProj.Frame
public import proofs.«01_k».proof.Proof.Gen.AbIn.Frame
public import proofs.«01_k».proof.Proof.Gen.CIn.Frame
public import proofs.«01_k».proof.Proof.Gen.COut.Frame
public import proofs.«01_k».proof.Proof.Gen.PleProj.Frame
public import proofs.«01_k».proof.Proof.Gen.Ple.Frame
public import proofs.«01_k».proof.Proof.Gen.RmsPost.Frame
public import proofs.«01_k».proof.Proof.Gen.RmsPre.Frame
public import proofs.«01_k».proof.Proof.Calls
public import proofs.«01_k».proof.Proof.Gate
public import proofs.«01_k».proof.Proof.RmsFwd
public import proofs.«01_k».proof.Proof.RmsResFwd
public import proofs.«01_k».proof.Proof.PleFwd
public import proofs.«01_k».proof.Proof.RwkvPost
public import proofs.«01_k».proof.Proof.Gen.Pre_finite_mix
public import proofs.«01_k».proof.Proof.Products

@[expose] public section

noncomputable section

namespace Cert.Proof

open Idealize.ShloMosaic Idealize.SL.Sem Cert.Kernel

theorem result8 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (hpre : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v102 m' c = (Cert.KernelIdeal.Gen.dats m 0 c).arrAt 8 Cert.KernelIdeal.cfg0.N := by
  obtain ⟨P, C, Y, H⟩ := Cert.Fox.finite_holds hpre c
  refine (Cert.ReferenceIdeal.Read.val_main_v102_eq m' c).trans ?_
  rw [h0, h1, h2]
  exact (Cert.Fox.final8 H).symm

theorem result9 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (hpre : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v104 m' c = (Cert.KernelIdeal.Gen.dats m 0 c).arrAt 9 Cert.KernelIdeal.cfg0.N := by
  obtain ⟨P, C, Y, H⟩ := Cert.Fox.finite_holds hpre c
  refine (Cert.ReferenceIdeal.Read.val_main_v104_eq m' c).trans ?_
  rw [h0, h1, h2]
  exact (Cert.Fox.final9 H).symm

theorem result10 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (hpre : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v106 m' c = (Cert.KernelIdeal.Gen.dats m 0 c).arrAt 10 Cert.KernelIdeal.cfg0.N := by
  obtain ⟨P, C, Y, H⟩ := Cert.Fox.finite_holds hpre c
  refine (Cert.ReferenceIdeal.Read.val_main_v106_eq m' c).trans ?_
  rw [h0, h1, h2]
  exact (Cert.Fox.final10 H).symm

theorem result11 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (hpre : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v108 m' c = (Cert.KernelIdeal.Gen.dats m 0 c).arrAt 11 Cert.KernelIdeal.cfg0.N := by
  obtain ⟨P, C, Y, H⟩ := Cert.Fox.finite_holds hpre c
  refine (Cert.ReferenceIdeal.Read.val_main_v108_eq m' c).trans ?_
  rw [h0, h1, h2]
  exact (Cert.Fox.final11 H).symm

theorem result12 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (hpre : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v100 m' c = (Cert.KernelIdeal.Gen.dats m 0 c).arrAt 12 Cert.KernelIdeal.cfg0.N := by
  obtain ⟨P, C, Y, H⟩ := Cert.Fox.finite_holds hpre c
  refine (Cert.ReferenceIdeal.Read.val_main_v100_eq m' c).trans ?_
  rw [h0, h1, h2]
  exact (Cert.Fox.final12 H).symm

theorem algebraic : Cert.algebraic_KernelIdeal_ReferenceIdeal_pre_finite := by
  intro m g m' g' hpre hagree
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, fun c => (Cert.KernelIdeal.Gen.dats m 0 c).arrAt 11 Cert.KernelIdeal.cfg0.N,
    fun c => (Cert.KernelIdeal.Gen.dats m 0 c).arrAt 12 Cert.KernelIdeal.cfg0.N, ?_, ?_⟩
  · exact θ_run_mono (θ_run_and (Cert.KernelIdeal.Gen.run_main m g) (Cert.KernelIdeal.Gen.unchanged m g))
      fun r h c => ⟨(h.1 c).1 8, (h.1 c).1 9, (h.1 c).1 10, (h.1 c).1 11, (h.1 c).1 12, h.2 c⟩
  · exact θ_run_mono (Cert.ReferenceIdeal.Value.run (F := Ideal) m' g') fun r h c => by
      obtain ⟨a0, a1, a2⟩ := hagree c
      obtain ⟨e0, e1, e2, e3, e4, e⟩ := h c
      exact ⟨e0.trans (result8 hpre c a0 a1 a2), e1.trans (result9 hpre c a0 a1 a2), e2.trans (result10 hpre c a0 a1 a2),
        e3.trans (result11 hpre c a0 a1 a2), e4.trans (result12 hpre c a0 a1 a2), e⟩

theorem frame_reference : Cert.quiescent_ReferenceIdeal :=
  fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts,
    Cert.DxCIn.Gen.facts, Cert.DxCInIdeal.Gen.facts, Cert.DxCInRefIdeal.Gen.facts,
    Cert.DCIn.Gen.facts, Cert.DCInIdeal.Gen.facts, Cert.DCInRefIdeal.Gen.facts,
    Cert.DCOut.Gen.facts, Cert.DCOutIdeal.Gen.facts, Cert.DCOutRefIdeal.Gen.facts,
    Cert.DxCOut.Gen.facts, Cert.DxCOutIdeal.Gen.facts, Cert.DxCOutRefIdeal.Gen.facts,
    Cert.DxPleGate.Gen.facts, Cert.DxPleGateIdeal.Gen.facts, Cert.DxPleGateRefIdeal.Gen.facts,
    Cert.DAbIn.Gen.facts, Cert.DAbInIdeal.Gen.facts, Cert.DAbInRefIdeal.Gen.facts,
    Cert.DPleProj.Gen.facts, Cert.DPleProjIdeal.Gen.facts, Cert.DPleProjRefIdeal.Gen.facts,
    Cert.AbIn.Gen.facts, Cert.AbInIdeal.Gen.facts, Cert.AbInRefIdeal.Gen.facts,
    Cert.CIn.Gen.facts, Cert.CInIdeal.Gen.facts, Cert.CInRefIdeal.Gen.facts,
    Cert.COut.Gen.facts, Cert.COutIdeal.Gen.facts, Cert.COutRefIdeal.Gen.facts,
    Cert.PleProj.Gen.facts, Cert.PleProjIdeal.Gen.facts, Cert.PleProjRefIdeal.Gen.facts,
    Cert.Ple.Gen.facts, Cert.PleIdeal.Gen.facts, Cert.PleRefIdeal.Gen.facts,
    Cert.RmsPost.Gen.facts, Cert.RmsPostIdeal.Gen.facts, Cert.RmsPostRefIdeal.Gen.facts,
    Cert.RmsPre.Gen.facts, Cert.RmsPreIdeal.Gen.facts, Cert.RmsPreRefIdeal.Gen.facts,
    Cert.Gate.Gen.facts, Cert.GateIdeal.Gen.facts, Cert.GateRefIdeal.Gen.facts,
    Cert.RmsFwd.Gen.facts, Cert.RmsFwdIdeal.Gen.facts, Cert.RmsFwdRefIdeal.Gen.facts,
    Cert.RmsResFwd.Gen.facts, Cert.RmsResFwdIdeal.Gen.facts, Cert.RmsResFwdRefIdeal.Gen.facts,
    Cert.PleFwd.Gen.facts, Cert.PleFwdIdeal.Gen.facts, Cert.PleFwdRefIdeal.Gen.facts,
    Cert.RwkvPost.Gen.facts, Cert.RwkvPostIdeal.Gen.facts, Cert.RwkvPostRefIdeal.Gen.facts,
    Cert.Pre_finite.Gen.facts, Cert.Pre_finite_mix.Gen.facts,
    fun m ρ _ => Cert.Kernel.Gen.frame m ρ, fun m ρ _ => Cert.KernelIdeal.Gen.frame m ρ, fun m ρ _ => Cert.KernelIdeal.Gen.frame m ρ,
    frame_reference, fun m g _ => frame_reference m g trivial,
    fun m ρ _ => Cert.DxCIn.Gen.frame m ρ, fun m ρ _ => Cert.DxCInIdeal.Gen.frame m ρ, Cert.DxCInIdeal.Value.frame_reference,
    fun m ρ _ => Cert.DCIn.Gen.frame m ρ, fun m ρ _ => Cert.DCInIdeal.Gen.frame m ρ, Cert.DCInIdeal.Value.frame_reference,
    fun m ρ _ => Cert.DCOut.Gen.frame m ρ, fun m ρ _ => Cert.DCOutIdeal.Gen.frame m ρ, Cert.DCOutIdeal.Value.frame_reference,
    fun m ρ _ => Cert.DxCOut.Gen.frame m ρ, fun m ρ _ => Cert.DxCOutIdeal.Gen.frame m ρ, Cert.DxCOutIdeal.Value.frame_reference,
    fun m ρ _ => Cert.DxPleGate.Gen.frame m ρ, fun m ρ _ => Cert.DxPleGateIdeal.Gen.frame m ρ, Cert.DxPleGateIdeal.Value.frame_reference,
    fun m ρ _ => Cert.DAbIn.Gen.frame m ρ, fun m ρ _ => Cert.DAbInIdeal.Gen.frame m ρ, Cert.DAbInIdeal.Value.frame_reference,
    fun m ρ _ => Cert.DPleProj.Gen.frame m ρ, fun m ρ _ => Cert.DPleProjIdeal.Gen.frame m ρ, Cert.DPleProjIdeal.Value.frame_reference,
    fun m ρ _ => Cert.AbIn.Gen.frame m ρ, fun m ρ _ => Cert.AbInIdeal.Gen.frame m ρ, Cert.AbInIdeal.Value.frame_reference,
    fun m ρ _ => Cert.CIn.Gen.frame m ρ, fun m ρ _ => Cert.CInIdeal.Gen.frame m ρ, Cert.CInIdeal.Value.frame_reference,
    fun m ρ _ => Cert.COut.Gen.frame m ρ, fun m ρ _ => Cert.COutIdeal.Gen.frame m ρ, Cert.COutIdeal.Value.frame_reference,
    fun m ρ _ => Cert.PleProj.Gen.frame m ρ, fun m ρ _ => Cert.PleProjIdeal.Gen.frame m ρ, Cert.PleProjIdeal.Value.frame_reference,
    fun m ρ _ => Cert.Ple.Gen.frame m ρ, fun m ρ _ => Cert.PleIdeal.Gen.frame m ρ, Cert.PleIdeal.Value.frame_reference,
    fun m ρ _ => Cert.RmsPost.Gen.frame m ρ, fun m ρ _ => Cert.RmsPostIdeal.Gen.frame m ρ, Cert.RmsPostIdeal.Value.frame_reference,
    fun m ρ _ => Cert.RmsPre.Gen.frame m ρ, fun m ρ _ => Cert.RmsPreIdeal.Gen.frame m ρ, Cert.RmsPreIdeal.Value.frame_reference,
    fun m ρ _ => Cert.Gate.Gen.frame m ρ, fun m ρ _ => Cert.GateIdeal.Gen.frame m ρ, Cert.GateIdeal.Value.frame_reference,
    fun m ρ _ => Cert.RmsFwd.Gen.frame m ρ, fun m ρ _ => Cert.RmsFwdIdeal.Gen.frame m ρ, Cert.RmsFwdIdeal.Value.frame_reference,
    fun m ρ _ => Cert.RmsResFwd.Gen.frame m ρ, fun m ρ _ => Cert.RmsResFwdIdeal.Gen.frame m ρ, Cert.RmsResFwdIdeal.Value.frame_reference,
    fun m ρ _ => Cert.PleFwd.Gen.frame m ρ, fun m ρ _ => Cert.PleFwdIdeal.Gen.frame m ρ, Cert.PleFwdIdeal.Value.frame_reference,
    fun m ρ _ => Cert.RwkvPost.Gen.frame m ρ, fun m ρ _ => Cert.RwkvPostIdeal.Gen.frame m ρ, fun m ρ _ => Cert.RwkvPostIdeal.Gen.frame m ρ,
    Cert.RwkvPostIdeal.Value.frame_reference, fun m g _ => Cert.RwkvPostIdeal.Value.frame_reference m g trivial,
    trivial, algebraic,
    trivial, Cert.DxCInIdeal.Value.algebraic,
    trivial, Cert.DCInIdeal.Value.algebraic,
    trivial, Cert.DCOutIdeal.Value.algebraic,
    trivial, Cert.DxCOutIdeal.Value.algebraic,
    trivial, Cert.DxPleGateIdeal.Value.algebraic,
    trivial, Cert.DAbInIdeal.Value.algebraic,
    trivial, Cert.DPleProjIdeal.Value.algebraic,
    trivial, Cert.AbInIdeal.Value.algebraic,
    trivial, Cert.CInIdeal.Value.algebraic,
    trivial, Cert.COutIdeal.Value.algebraic,
    trivial, Cert.PleProjIdeal.Value.algebraic,
    trivial, Cert.PleIdeal.Value.algebraic,
    trivial, Cert.RmsPostIdeal.Value.algebraic,
    trivial, Cert.RmsPreIdeal.Value.algebraic,
    trivial, Cert.GateIdeal.Value.algebraic,
    trivial, Cert.RmsFwdIdeal.Value.algebraic,
    trivial, Cert.RmsResFwdIdeal.Value.algebraic,
    trivial, Cert.PleFwdIdeal.Value.algebraic,
    trivial, Cert.RwkvPostIdeal.Value.algebraic⟩

end Cert.Proof

end
